-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_causal_tables : Cert.Pre_causal_tables.Facts] (m : (ℓ : Loc Cert.Kernel5.nD Cert.Kernel5.τ Cert.Kernel5.sig) → Buf (Elt Bits) ℓ) : Prop :=
  ∀ c : Dev Cert.Kernel5.nD,
    (Cert.Pre_causal_tables.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))) = (fun _ => 1#1)

def Pre_Kernel5Ideal [hPre_causal_tables : Cert.Pre_causal_tables.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_causal_tables.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Kernel5Ideal_finite_scores [hPre_finite_scores : Cert.Pre_finite_scores.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_scores.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_scores [hPre_finite_scores : Cert.Pre_finite_scores.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_scores.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] [hPre_causal_tables : Cert.Pre_causal_tables.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] [hPre_causal_tables : Cert.Pre_causal_tables.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_scores [hKernel5Ideal : Cert.Kernel5Ideal.Facts] [hPre_finite_scores : Cert.Pre_finite_scores.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_scores m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_scores [hReference5Ideal : Cert.Reference5Ideal.Facts] [hPre_finite_scores : Cert.Pre_finite_scores.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_scores m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_1)) (v1 : (c : Dev Cert.KernelIdeal.nD) → Buf (Elt Ideal) ((c.tc : Thread Cert.KernelIdeal.nD Cert.KernelIdeal.τ).loc Cert.KernelIdeal.main_v8_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_1) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_7) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  IdealRules.named_const.Statement Cert.Kernel5Ideal.κ "mask" .f32 0xF149F2CA#32 ⊥

def algebraic_Kernel5Ideal_Reference5Ideal_pre_finite_scores [hKernel5Ideal : Cert.Kernel5Ideal.Facts] [hReference5Ideal : Cert.Reference5Ideal.Facts] [hPre_finite_scores : Cert.Pre_finite_scores.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_scores m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v109)) (v1 : (c : Dev Cert.Kernel6Ideal.nD) → Buf (Elt Ideal) ((c.tc : Thread Cert.Kernel6Ideal.nD Cert.Kernel6Ideal.τ).loc Cert.Kernel6Ideal.main_v110)) (v2 : (c : Dev Cert.Kernel6Ideal.nD) → Buf (Elt Ideal) ((c.tc : Thread Cert.Kernel6Ideal.nD Cert.Kernel6Ideal.τ).loc Cert.Kernel6Ideal.main_v35)) (v3 : (c : Dev Cert.Kernel6Ideal.nD) → Buf (Elt Ideal) ((c.tc : Thread Cert.Kernel6Ideal.nD Cert.Kernel6Ideal.τ).loc Cert.Kernel6Ideal.main_v71)) (v4 : (c : Dev Cert.Kernel6Ideal.nD) → Buf (Elt Ideal) ((c.tc : Thread Cert.Kernel6Ideal.nD Cert.Kernel6Ideal.τ).loc Cert.Kernel6Ideal.main_v111)) (v5 : (c : Dev Cert.Kernel6Ideal.nD) → Buf (Elt Ideal) ((c.tc : Thread Cert.Kernel6Ideal.nD Cert.Kernel6Ideal.τ).loc Cert.Kernel6Ideal.main_v108)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v109) = v0 c
          ∧ r.2.mem ((c.tc : Thread Cert.Kernel6Ideal.nD Cert.Kernel6Ideal.τ).loc Cert.Kernel6Ideal.main_v110) = v1 c
          ∧ r.2.mem ((c.tc : Thread Cert.Kernel6Ideal.nD Cert.Kernel6Ideal.τ).loc Cert.Kernel6Ideal.main_v35) = v2 c
          ∧ r.2.mem ((c.tc : Thread Cert.Kernel6Ideal.nD Cert.Kernel6Ideal.τ).loc Cert.Kernel6Ideal.main_v71) = v3 c
          ∧ r.2.mem ((c.tc : Thread Cert.Kernel6Ideal.nD Cert.Kernel6Ideal.τ).loc Cert.Kernel6Ideal.main_v111) = v4 c
          ∧ r.2.mem ((c.tc : Thread Cert.Kernel6Ideal.nD Cert.Kernel6Ideal.τ).loc Cert.Kernel6Ideal.main_v108) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v104) = v0 c
          ∧ r.2.mem ((c.tc : Thread Cert.Reference6Ideal.nD Cert.Reference6Ideal.τ).loc Cert.Reference6Ideal.main_v105) = v1 c
          ∧ r.2.mem ((c.tc : Thread Cert.Reference6Ideal.nD Cert.Reference6Ideal.τ).loc Cert.Reference6Ideal.main_v30) = v2 c
          ∧ r.2.mem ((c.tc : Thread Cert.Reference6Ideal.nD Cert.Reference6Ideal.τ).loc Cert.Reference6Ideal.main_v66) = v3 c
          ∧ r.2.mem ((c.tc : Thread Cert.Reference6Ideal.nD Cert.Reference6Ideal.τ).loc Cert.Reference6Ideal.main_v106) = v4 c
          ∧ r.2.mem ((c.tc : Thread Cert.Reference6Ideal.nD Cert.Reference6Ideal.τ).loc Cert.Reference6Ideal.main_v103) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v111)) (v1 : (c : Dev Cert.Kernel7Ideal.nD) → Buf (Elt Ideal) ((c.tc : Thread Cert.Kernel7Ideal.nD Cert.Kernel7Ideal.τ).loc Cert.Kernel7Ideal.main_v112)) (v2 : (c : Dev Cert.Kernel7Ideal.nD) → Buf (Elt Ideal) ((c.tc : Thread Cert.Kernel7Ideal.nD Cert.Kernel7Ideal.τ).loc Cert.Kernel7Ideal.main_v37)) (v3 : (c : Dev Cert.Kernel7Ideal.nD) → Buf (Elt Ideal) ((c.tc : Thread Cert.Kernel7Ideal.nD Cert.Kernel7Ideal.τ).loc Cert.Kernel7Ideal.main_v73)) (v4 : (c : Dev Cert.Kernel7Ideal.nD) → Buf (Elt Ideal) ((c.tc : Thread Cert.Kernel7Ideal.nD Cert.Kernel7Ideal.τ).loc Cert.Kernel7Ideal.main_v113)) (v5 : (c : Dev Cert.Kernel7Ideal.nD) → Buf (Elt Ideal) ((c.tc : Thread Cert.Kernel7Ideal.nD Cert.Kernel7Ideal.τ).loc Cert.Kernel7Ideal.main_v110)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v111) = v0 c
          ∧ r.2.mem ((c.tc : Thread Cert.Kernel7Ideal.nD Cert.Kernel7Ideal.τ).loc Cert.Kernel7Ideal.main_v112) = v1 c
          ∧ r.2.mem ((c.tc : Thread Cert.Kernel7Ideal.nD Cert.Kernel7Ideal.τ).loc Cert.Kernel7Ideal.main_v37) = v2 c
          ∧ r.2.mem ((c.tc : Thread Cert.Kernel7Ideal.nD Cert.Kernel7Ideal.τ).loc Cert.Kernel7Ideal.main_v73) = v3 c
          ∧ r.2.mem ((c.tc : Thread Cert.Kernel7Ideal.nD Cert.Kernel7Ideal.τ).loc Cert.Kernel7Ideal.main_v113) = v4 c
          ∧ r.2.mem ((c.tc : Thread Cert.Kernel7Ideal.nD Cert.Kernel7Ideal.τ).loc Cert.Kernel7Ideal.main_v110) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v106) = v0 c
          ∧ r.2.mem ((c.tc : Thread Cert.Reference7Ideal.nD Cert.Reference7Ideal.τ).loc Cert.Reference7Ideal.main_v107) = v1 c
          ∧ r.2.mem ((c.tc : Thread Cert.Reference7Ideal.nD Cert.Reference7Ideal.τ).loc Cert.Reference7Ideal.main_v32) = v2 c
          ∧ r.2.mem ((c.tc : Thread Cert.Reference7Ideal.nD Cert.Reference7Ideal.τ).loc Cert.Reference7Ideal.main_v68) = v3 c
          ∧ r.2.mem ((c.tc : Thread Cert.Reference7Ideal.nD Cert.Reference7Ideal.τ).loc Cert.Reference7Ideal.main_v108) = v4 c
          ∧ r.2.mem ((c.tc : Thread Cert.Reference7Ideal.nD Cert.Reference7Ideal.τ).loc Cert.Reference7Ideal.main_v105) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v8_1)) (v1 : (c : Dev Cert.Kernel8Ideal.nD) → Buf (Elt Ideal) ((c.tc : Thread Cert.Kernel8Ideal.nD Cert.Kernel8Ideal.τ).loc Cert.Kernel8Ideal.main_v8_0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8_1) = v0 c
          ∧ r.2.mem ((c.tc : Thread Cert.Kernel8Ideal.nD Cert.Kernel8Ideal.τ).loc Cert.Kernel8Ideal.main_v8_0) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7_7) = v0 c
          ∧ r.2.mem ((c.tc : Thread Cert.Reference8Ideal.nD Cert.Reference8Ideal.τ).loc Cert.Reference8Ideal.main_v8) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v24)) (v1 : (c : Dev Cert.Kernel9Ideal.nD) → Buf (Elt Ideal) ((c.tc : Thread Cert.Kernel9Ideal.nD Cert.Kernel9Ideal.τ).loc Cert.Kernel9Ideal.main_v26)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v24) = v0 c
          ∧ r.2.mem ((c.tc : Thread Cert.Kernel9Ideal.nD Cert.Kernel9Ideal.τ).loc Cert.Kernel9Ideal.main_v26) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v24)) (v1 : (c : Dev Cert.Kernel10Ideal.nD) → Buf (Elt Ideal) ((c.tc : Thread Cert.Kernel10Ideal.nD Cert.Kernel10Ideal.τ).loc Cert.Kernel10Ideal.main_v26)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v24) = v0 c
          ∧ r.2.mem ((c.tc : Thread Cert.Kernel10Ideal.nD Cert.Kernel10Ideal.τ).loc Cert.Kernel10Ideal.main_v26) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v21) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_causal_tables : Cert.Pre_causal_tables.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_causal_tables := hPre_causal_tables)
    ∧ quiescent_Kernel5Ideal (hKernel5Ideal := hKernel5Ideal) (hPre_causal_tables := hPre_causal_tables)
    ∧ quiescent_Kernel5Ideal_pre_finite_scores (hKernel5Ideal := hKernel5Ideal) (hPre_finite_scores := hPre_finite_scores)
    ∧ quiescent_Reference5Ideal (hReference5Ideal := hReference5Ideal)
    ∧ quiescent_Reference5Ideal_pre_finite_scores (hReference5Ideal := hReference5Ideal) (hPre_finite_scores := hPre_finite_scores)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_scores (hKernel5Ideal := hKernel5Ideal) (hReference5Ideal := hReference5Ideal) (hPre_finite_scores := hPre_finite_scores)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_causal_tables.lean ====
abbrev S72 : Shape := ⟨1, ![72]⟩
abbrev S2x8x8192x64 : Shape := ⟨4, ![2, 8, 8192, 64]⟩
abbrev S2x8x8192x1 : Shape := ⟨4, ![2, 8, 8192, 1]⟩
abbrev S2x8x1x8192 : Shape := ⟨4, ![2, 8, 1, 8192]⟩
abbrev S_ : Shape := ⟨0, ![]⟩

class Facts : Prop where
  reducesTo_S72_S_d0 : S72.ReducesTo [0] S_
  h_S_ : 0 < S_.numel

variable [Facts]

noncomputable abbrev lit0 : Fin 72 → BitVec 32 := fun
  | 0 => 0#32 | 1 => 1#32 | 2 => 2#32 | 3 => 2#32 | 4 => 3#32 | 5 => 3#32 | 6 => 4#32 | 7 => 4#32
  | 8 => 4#32 | 9 => 5#32 | 10 => 5#32 | 11 => 5#32 | 12 => 6#32 | 13 => 6#32 | 14 => 6#32 | 15 => 6#32
  | 16 => 7#32 | 17 => 7#32 | 18 => 7#32 | 19 => 7#32 | 20 => 8#32 | 21 => 8#32 | 22 => 8#32 | 23 => 8#32
  | 24 => 8#32 | 25 => 9#32 | 26 => 9#32 | 27 => 9#32 | 28 => 9#32 | 29 => 9#32 | 30 => 10#32 | 31 => 10#32
  | 32 => 10#32 | 33 => 10#32 | 34 => 10#32 | 35 => 10#32 | 36 => 11#32 | 37 => 11#32 | 38 => 11#32 | 39 => 11#32
  | 40 => 11#32 | 41 => 11#32 | 42 => 12#32 | 43 => 12#32 | 44 => 12#32 | 45 => 12#32 | 46 => 12#32 | 47 => 12#32
  | 48 => 12#32 | 49 => 13#32 | 50 => 13#32 | 51 => 13#32 | 52 => 13#32 | 53 => 13#32 | 54 => 13#32 | 55 => 13#32
  | 56 => 14#32 | 57 => 14#32 | 58 => 14#32 | 59 => 14#32 | 60 => 14#32 | 61 => 14#32 | 62 => 14#32 | 63 => 14#32
  | 64 => 15#32 | 65 => 15#32 | 66 => 15#32 | 67 => 15#32 | 68 => 15#32 | 69 => 15#32 | 70 => 15#32 | 71 => 15#32
  | _ => 0#32

noncomputable abbrev lit1 : Fin 72 → BitVec 32 := fun
  | 0 => 0#32 | 1 => 0#32 | 2 => 0#32 | 3 => 1#32 | 4 => 0#32 | 5 => 1#32 | 6 => 0#32 | 7 => 1#32
  | 8 => 2#32 | 9 => 0#32 | 10 => 1#32 | 11 => 2#32 | 12 => 0#32 | 13 => 1#32 | 14 => 2#32 | 15 => 3#32
  | 16 => 0#32 | 17 => 1#32 | 18 => 2#32 | 19 => 3#32 | 20 => 0#32 | 21 => 1#32 | 22 => 2#32 | 23 => 3#32
  | 24 => 4#32 | 25 => 0#32 | 26 => 1#32 | 27 => 2#32 | 28 => 3#32 | 29 => 4#32 | 30 => 0#32 | 31 => 1#32
  | 32 => 2#32 | 33 => 3#32 | 34 => 4#32 | 35 => 5#32 | 36 => 0#32 | 37 => 1#32 | 38 => 2#32 | 39 => 3#32
  | 40 => 4#32 | 41 => 5#32 | 42 => 0#32 | 43 => 1#32 | 44 => 2#32 | 45 => 3#32 | 46 => 4#32 | 47 => 5#32
  | 48 => 6#32 | 49 => 0#32 | 50 => 1#32 | 51 => 2#32 | 52 => 3#32 | 53 => 4#32 | 54 => 5#32 | 55 => 6#32
  | 56 => 0#32 | 57 => 1#32 | 58 => 2#32 | 59 => 3#32 | 60 => 4#32 | 61 => 5#32 | 62 => 6#32 | 63 => 7#32
  | 64 => 0#32 | 65 => 1#32 | 66 => 2#32 | 67 => 3#32 | 68 => 4#32 | 69 => 5#32 | 70 => 6#32 | 71 => 7#32
  | _ => 0#32

def fn {F : FTy → Type} [FloatOps F] (main_arg0 : IVec S72 32) (main_arg1 : IVec S72 32) (main_arg2 : FVec F S2x8x8192x64 .bf16) (main_arg3 : FVec F S2x8x8192x64 .bf16) (main_arg4 : FVec F S2x8x8192x64 .bf16) (main_arg5 : FVec F S2x8x8192x1 .f32) (main_arg6 : FVec F S2x8x1x8192 .f32) : IVec S_ 1 :=
  let main_c : IVec S72 32 := fun i => lit0 (S72.rowMajor i)
  let main_c_0 : IVec S72 32 := fun i => lit1 (S72.rowMajor i)
  let main_v0 : IVec S72 1 := cmpi .eq main_arg0 main_c
  let main_c_1 : IVec S_ 1 := constantI S_ 1 1#1
  let main_v1 : IVec S_ 1 := (fun x v => Host.reduce IntOp.andi x v reducesTo_S72_S_d0 h_S_) main_v0 main_c_1
  let main_v2 : IVec S72 1 := cmpi .eq main_arg1 main_c_0
  let main_c_2 : IVec S_ 1 := constantI S_ 1 1#1
  let main_v3 : IVec S_ 1 := (fun x v => Host.reduce IntOp.andi x v reducesTo_S72_S_d0 h_S_) main_v2 main_c_2
  let main_v4 : IVec S_ 1 := andi main_v1 main_v3
  main_v4
-- ==== Pre_finite_scores.lean ====
abbrev S72 : Shape := ⟨1, ![72]⟩
abbrev S2x8x8192x64 : Shape := ⟨4, ![2, 8, 8192, 64]⟩
abbrev S2x8x8192x1 : Shape := ⟨4, ![2, 8, 8192, 1]⟩
abbrev S2x8x1x8192 : Shape := ⟨4, ![2, 8, 1, 8192]⟩
abbrev S_ : Shape := ⟨0, ![]⟩

class Facts : Prop where
  reducesTo_S72_S_d0 : S72.ReducesTo [0] S_
  h_S_ : 0 < S_.numel
  bcast_S_S2x8x8192x64 : S_.BroadcastsInDim S2x8x8192x64 (![] : Fin 0 → Fin S2x8x8192x64.rank)
  reducesTo_S2x8x8192x64_S_d0_1_2_3 : S2x8x8192x64.ReducesTo [0, 1, 2, 3] S_
  bcast_S_S2x8x8192x1 : S_.BroadcastsInDim S2x8x8192x1 (![] : Fin 0 → Fin S2x8x8192x1.rank)
  reducesTo_S2x8x8192x1_S_d0_1_2_3 : S2x8x8192x1.ReducesTo [0, 1, 2, 3] S_
  bcast_S_S2x8x1x8192 : S_.BroadcastsInDim S2x8x1x8192 (![] : Fin 0 → Fin S2x8x1x8192.rank)
  reducesTo_S2x8x1x8192_S_d0_1_2_3 : S2x8x1x8192.ReducesTo [0, 1, 2, 3] S_

variable [Facts]

noncomputable abbrev lit0 : Fin 72 → BitVec 32 := fun
  | 0 => 0#32 | 1 => 1#32 | 2 => 2#32 | 3 => 2#32 | 4 => 3#32 | 5 => 3#32 | 6 => 4#32 | 7 => 4#32
  | 8 => 4#32 | 9 => 5#32 | 10 => 5#32 | 11 => 5#32 | 12 => 6#32 | 13 => 6#32 | 14 => 6#32 | 15 => 6#32
  | 16 => 7#32 | 17 => 7#32 | 18 => 7#32 | 19 => 7#32 | 20 => 8#32 | 21 => 8#32 | 22 => 8#32 | 23 => 8#32
  | 24 => 8#32 | 25 => 9#32 | 26 => 9#32 | 27 => 9#32 | 28 => 9#32 | 29 => 9#32 | 30 => 10#32 | 31 => 10#32
  | 32 => 10#32 | 33 => 10#32 | 34 => 10#32 | 35 => 10#32 | 36 => 11#32 | 37 => 11#32 | 38 => 11#32 | 39 => 11#32
  | 40 => 11#32 | 41 => 11#32 | 42 => 12#32 | 43 => 12#32 | 44 => 12#32 | 45 => 12#32 | 46 => 12#32 | 47 => 12#32
  | 48 => 12#32 | 49 => 13#32 | 50 => 13#32 | 51 => 13#32 | 52 => 13#32 | 53 => 13#32 | 54 => 13#32 | 55 => 13#32
  | 56 => 14#32 | 57 => 14#32 | 58 => 14#32 | 59 => 14#32 | 60 => 14#32 | 61 => 14#32 | 62 => 14#32 | 63 => 14#32
  | 64 => 15#32 | 65 => 15#32 | 66 => 15#32 | 67 => 15#32 | 68 => 15#32 | 69 => 15#32 | 70 => 15#32 | 71 => 15#32
  | _ => 0#32

noncomputable abbrev lit1 : Fin 72 → BitVec 32 := fun
  | 0 => 0#32 | 1 => 0#32 | 2 => 0#32 | 3 => 1#32 | 4 => 0#32 | 5 => 1#32 | 6 => 0#32 | 7 => 1#32
  | 8 => 2#32 | 9 => 0#32 | 10 => 1#32 | 11 => 2#32 | 12 => 0#32 | 13 => 1#32 | 14 => 2#32 | 15 => 3#32
  | 16 => 0#32 | 17 => 1#32 | 18 => 2#32 | 19 => 3#32 | 20 => 0#32 | 21 => 1#32 | 22 => 2#32 | 23 => 3#32
  | 24 => 4#32 | 25 => 0#32 | 26 => 1#32 | 27 => 2#32 | 28 => 3#32 | 29 => 4#32 | 30 => 0#32 | 31 => 1#32
  | 32 => 2#32 | 33 => 3#32 | 34 => 4#32 | 35 => 5#32 | 36 => 0#32 | 37 => 1#32 | 38 => 2#32 | 39 => 3#32
  | 40 => 4#32 | 41 => 5#32 | 42 => 0#32 | 43 => 1#32 | 44 => 2#32 | 45 => 3#32 | 46 => 4#32 | 47 => 5#32
  | 48 => 6#32 | 49 => 0#32 | 50 => 1#32 | 51 => 2#32 | 52 => 3#32 | 53 => 4#32 | 54 => 5#32 | 55 => 6#32
  | 56 => 0#32 | 57 => 1#32 | 58 => 2#32 | 59 => 3#32 | 60 => 4#32 | 61 => 5#32 | 62 => 6#32 | 63 => 7#32
  | 64 => 0#32 | 65 => 1#32 | 66 => 2#32 | 67 => 3#32 | 68 => 4#32 | 69 => 5#32 | 70 => 6#32 | 71 => 7#32
  | _ => 0#32

def fn_part1 {F : FTy → Type} [FloatOps F] (main_arg6 : FVec F S2x8x1x8192 .f32) (main_v14 : IVec S_ 1) (main_v15 : FVec F S2x8x8192x1 .f32) : IVec S_ 1 :=
  let main_cst_6 : FVec F S_ .f32 := constant S_ .f32 0x7F800000#32
  let main_v16 : FVec F S2x8x8192x1 .f32 := broadcastInDim S2x8x8192x1 ![] bcast_S_S2x8x8192x1 main_cst_6
  let main_v17 : IVec S2x8x8192x1 1 := cmpf .olt main_v15 main_v16
  let main_c_7 : IVec S_ 1 := constantI S_ 1 1#1
  let main_v18 : IVec S_ 1 := (fun x v => Host.reduce IntOp.andi x v reducesTo_S2x8x8192x1_S_d0_1_2_3 h_S_) main_v17 main_c_7
  let main_v19 : IVec S_ 1 := andi main_v14 main_v18
  let main_v20 : FVec F S2x8x1x8192 .f32 := Host.absf main_arg6
  let main_cst_8 : FVec F S_ .f32 := constant S_ .f32 0x7F800000#32
  let main_v21 : FVec F S2x8x1x8192 .f32 := broadcastInDim S2x8x1x8192 ![] bcast_S_S2x8x1x8192 main_cst_8
  let main_v22 : IVec S2x8x1x8192 1 := cmpf .olt main_v20 main_v21
  let main_c_9 : IVec S_ 1 := constantI S_ 1 1#1
  let main_v23 : IVec S_ 1 := (fun x v => Host.reduce IntOp.andi x v reducesTo_S2x8x1x8192_S_d0_1_2_3 h_S_) main_v22 main_c_9
  let main_v24 : IVec S_ 1 := andi main_v19 main_v23
  main_v24

def fn {F : FTy → Type} [FloatOps F] (main_arg0 : IVec S72 32) (main_arg1 : IVec S72 32) (main_arg2 : FVec F S2x8x8192x64 .bf16) (main_arg3 : FVec F S2x8x8192x64 .bf16) (main_arg4 : FVec F S2x8x8192x64 .bf16) (main_arg5 : FVec F S2x8x8192x1 .f32) (main_arg6 : FVec F S2x8x1x8192 .f32) : IVec S_ 1 :=
  let main_c : IVec S72 32 := fun i => lit0 (S72.rowMajor i)
  let main_c_0 : IVec S72 32 := fun i => lit1 (S72.rowMajor i)
  let main_v0 : IVec S72 1 := cmpi .eq main_arg0 main_c
  let main_c_1 : IVec S_ 1 := constantI S_ 1 1#1
  let main_v1 : IVec S_ 1 := (fun x v => Host.reduce IntOp.andi x v reducesTo_S72_S_d0 h_S_) main_v0 main_c_1
  let main_v2 : IVec S72 1 := cmpi .eq main_arg1 main_c_0
  let main_c_2 : IVec S_ 1 := constantI S_ 1 1#1
  let main_v3 : IVec S_ 1 := (fun x v => Host.reduce IntOp.andi x v reducesTo_S72_S_d0 h_S_) main_v2 main_c_2
  let main_v4 : IVec S_ 1 := andi main_v1 main_v3
  let main_v5 : FVec F S2x8x8192x64 .bf16 := Host.absf main_arg2
  let main_cst : FVec F S_ .bf16 := constant S_ .bf16 0x7F80#16
  let main_v6 : FVec F S2x8x8192x64 .bf16 := broadcastInDim S2x8x8192x64 ![] bcast_S_S2x8x8192x64 main_cst
  let main_v7 : IVec S2x8x8192x64 1 := cmpf .olt main_v5 main_v6
  let main_c_3 : IVec S_ 1 := constantI S_ 1 1#1
  let main_v8 : IVec S_ 1 := (fun x v => Host.reduce IntOp.andi x v reducesTo_S2x8x8192x64_S_d0_1_2_3 h_S_) main_v7 main_c_3
  let main_v9 : IVec S_ 1 := andi main_v4 main_v8
  let main_v10 : FVec F S2x8x8192x64 .bf16 := Host.absf main_arg3
  let main_cst_4 : FVec F S_ .bf16 := constant S_ .bf16 0x7F80#16
  let main_v11 : FVec F S2x8x8192x64 .bf16 := broadcastInDim S2x8x8192x64 ![] bcast_S_S2x8x8192x64 main_cst_4
  let main_v12 : IVec S2x8x8192x64 1 := cmpf .olt main_v10 main_v11
  let main_c_5 : IVec S_ 1 := constantI S_ 1 1#1
  let main_v13 : IVec S_ 1 := (fun x v => Host.reduce IntOp.andi x v reducesTo_S2x8x8192x64_S_d0_1_2_3 h_S_) main_v12 main_c_5
  let main_v14 : IVec S_ 1 := andi main_v9 main_v13
  let main_v15 : FVec F S2x8x8192x1 .f32 := Host.absf main_arg5
  fn_part1 (F := F) main_arg6 main_v14 main_v15
-- ==== Kernel.lean ====
abbrev S2x16x64x64 : Shape := ⟨4, ![2, 16, 64, 64]⟩
abbrev S2x8192x16x64 : Shape := ⟨4, ![2, 8192, 16, 64]⟩
abbrev S2x16x8192x64 : Shape := ⟨4, ![2, 16, 8192, 64]⟩
abbrev S1x8x256x64 : Shape := ⟨4, ![1, 8, 256, 64]⟩
abbrev S1x8x64x64 : Shape := ⟨4, ![1, 8, 64, 64]⟩
abbrev S8x64x64 : Shape := ⟨3, ![8, 64, 64]⟩
abbrev S64x64 : Shape := ⟨2, ![64, 64]⟩
abbrev S1x64x64 : Shape := ⟨3, ![1, 64, 64]⟩
abbrev S1x1x1x64 : Shape := ⟨4, ![1, 1, 1, 64]⟩
abbrev S1x64 : Shape := ⟨2, ![1, 64]⟩
abbrev S64 : Shape := ⟨1, ![64]⟩
abbrev S64x1 : Shape := ⟨2, ![64, 1]⟩

abbrev nBuf : Space → Nat
  | .hbm => 17
  | .vmem => 19
  | .smem => 0
  | _ => 0

abbrev bufTy : (tb : Table) → Fin (tcTables nBuf tb) → BufTy
  | .hbm, ⟨0, _⟩ => ⟨S2x16x64x64, .f32⟩
  | .hbm, ⟨1, _⟩ => ⟨S2x8192x16x64, .f32⟩
  | .hbm, ⟨2, _⟩ => ⟨S2x8192x16x64, .f32⟩
  | .hbm, ⟨3, _⟩ => ⟨S2x8192x16x64, .f32⟩
  | .hbm, ⟨4, _⟩ => ⟨S2x8192x16x64, .f32⟩
  | .hbm, ⟨5, _⟩ => ⟨S2x8192x16x64, .f32⟩
  | .hbm, ⟨6, _⟩ => ⟨S2x8192x16x64, .f32⟩
  | .hbm, ⟨7, _⟩ => ⟨S2x16x8192x64, .f32⟩
  | .hbm, ⟨8, _⟩ => ⟨S2x16x8192x64, .f32⟩
  | .hbm, ⟨9, _⟩ => ⟨S2x16x8192x64, .f32⟩
  | .hbm, ⟨10, _⟩ => ⟨S2x16x8192x64, .f32⟩
  | .hbm, ⟨11, _⟩ => ⟨S2x8192x16x64, .f32⟩
  | .hbm, ⟨12, _⟩ => ⟨S2x16x8192x64, .f32⟩
  | .hbm, ⟨13, _⟩ => ⟨S2x8192x16x64, .f32⟩
  | .hbm, ⟨14, _⟩ => ⟨S2x16x8192x64, .f32⟩
  | .hbm, ⟨15, _⟩ => ⟨S2x16x8192x64, .f32⟩
  | .hbm, ⟨16, _⟩ => ⟨S2x16x64x64, .f32⟩
  | .local _ .vmem, ⟨0, _⟩ => ⟨S1x8x256x64, .f32⟩
  | .local _ .vmem, ⟨1, _⟩ => ⟨S1x8x256x64, .f32⟩
  | .local _ .vmem, ⟨2, _⟩ => ⟨S1x8x256x64, .f32⟩
  | .local _ .vmem, ⟨3, _⟩ => ⟨S1x8x256x64, .f32⟩
  | .local _ .vmem, ⟨4, _⟩ => ⟨S1x8x256x64, .f32⟩
  | .local _ .vmem, ⟨5, _⟩ => ⟨S1x8x256x64, .f32⟩
  | .local _ .vmem, ⟨6, _⟩ => ⟨S1x8x256x64, .f32⟩
  | .local _ .vmem, ⟨7, _⟩ => ⟨S1x8x256x64, .f32⟩
  | .local _ .vmem, ⟨8, _⟩ => ⟨S1x8x256x64, .f32⟩
  | .local _ .vmem, ⟨9, _⟩ => ⟨S1x8x256x64, .f32⟩
  | .local _ .vmem, ⟨10, _⟩ => ⟨S1x8x256x64, .f32⟩
  | .local _ .vmem, ⟨11, _⟩ => ⟨S1x8x256x64, .f32⟩
  | .local _ .vmem, ⟨12, _⟩ => ⟨S1x8x64x64, .f32⟩
  | .local _ .vmem, ⟨13, _⟩ => ⟨S1x8x64x64, .f32⟩
  | .local _ .vmem, ⟨14, _⟩ => ⟨S1x8x256x64, .f32⟩
  | .local _ .vmem, ⟨15, _⟩ => ⟨S1x8x256x64, .f32⟩
  | .local _ .vmem, ⟨16, _⟩ => ⟨S1x8x64x64, .f32⟩
  | .local _ .vmem, ⟨17, _⟩ => ⟨S1x8x64x64, .f32⟩
  | .local _ .vmem, ⟨18, _⟩ => ⟨S8x64x64, .f32⟩
  | _, _ => ⟨S2x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 32], ![false, false, false]⟩

@[reducible] def k0_t1_loop : Scf.Loop 32 :=
  let c0_i32_1 : BitVec 32 := 0#32
  let c256_i32 : BitVec 32 := 256#32
  let v8 : BitVec 32 := Scalar.addi c0_i32_1 c256_i32
  let c1_i32 : BitVec 32 := 1#32
  ⟨c0_i32_1, v8, c1_i32⟩
def k0_off1 (k0_t1 : Fin k0_t1_loop.trips) : Fin 4 → Nat :=
  let c0_6 : Index := 0#32
  let c0_7 : Index := 0#32
  let c0_i32_1 : BitVec 32 := 0#32
  let c1_i32 : BitVec 32 := 1#32
  let arg13 : BitVec 32 := Scf.iv c0_i32_1 c1_i32 k0_t1
  let v14 : Index := Scalar.indexCast arg13
  let c0_8 : Index := 0#32
  ![0, 0, v14.toNat, 0]
def k0_off2 (k0_t1 : Fin k0_t1_loop.trips) : Fin 4 → Nat :=
  let c0_35 : Index := 0#32
  let c1_36 : Index := 1#32
  let c0_i32_1 : BitVec 32 := 0#32
  let c1_i32 : BitVec 32 := 1#32
  let arg13 : BitVec 32 := Scf.iv c0_i32_1 c1_i32 k0_t1
  let v67 : Index := Scalar.indexCast arg13
  let c0_37 : Index := 0#32
  ![0, 1, v67.toNat, 0]
def k0_off3 (k0_t1 : Fin k0_t1_loop.trips) : Fin 4 → Nat :=
  let c0_65 : Index := 0#32
  let c2_66 : Index := 2#32
  let c0_i32_1 : BitVec 32 := 0#32
  let c1_i32 : BitVec 32 := 1#32
  let arg13 : BitVec 32 := Scf.iv c0_i32_1 c1_i32 k0_t1
  let v120 : Index := Scalar.indexCast arg13
  let c0_67 : Index := 0#32
  ![0, 2, v120.toNat, 0]
def k0_off4 (k0_t1 : Fin k0_t1_loop.trips) : Fin 4 → Nat :=
  let c0_95 : Index := 0#32
  let c3_96 : Index := 3#32
  let c0_i32_1 : BitVec 32 := 0#32
  let c1_i32 : BitVec 32 := 1#32
  let arg13 : BitVec 32 := Scf.iv c0_i32_1 c1_i32 k0_t1
  let v173 : Index := Scalar.indexCast arg13
  let c0_97 : Index := 0#32
  ![0, 3, v173.toNat, 0]
def k0_off5 (k0_t1 : Fin k0_t1_loop.trips) : Fin 4 → Nat :=
  let c0_125 : Index := 0#32
  let c4_126 : Index := 4#32
  let c0_i32_1 : BitVec 32 := 0#32
  let c1_i32 : BitVec 32 := 1#32
  let arg13 : BitVec 32 := Scf.iv c0_i32_1 c1_i32 k0_t1
  let v226 : Index := Scalar.indexCast arg13
  let c0_127 : Index := 0#32
  ![0, 4, v226.toNat, 0]
def k0_off6 (k0_t1 : Fin k0_t1_loop.trips) : Fin 4 → Nat :=
  let c0_155 : Index := 0#32
  let c5_156 : Index := 5#32
  let c0_i32_1 : BitVec 32 := 0#32
  let c1_i32 : BitVec 32 := 1#32
  let arg13 : BitVec 32 := Scf.iv c0_i32_1 c1_i32 k0_t1
  let v279 : Index := Scalar.indexCast arg13
  let c0_157 : Index := 0#32
  ![0, 5, v279.toNat, 0]
def k0_off7 (k0_t1 : Fin k0_t1_loop.trips) : Fin 4 → Nat :=
  let c0_185 : Index := 0#32
  let c6_186 : Index := 6#32
  let c0_i32_1 : BitVec 32 := 0#32
  let c1_i32 : BitVec 32 := 1#32
  let arg13 : BitVec 32 := Scf.iv c0_i32_1 c1_i32 k0_t1
  let v332 : Index := Scalar.indexCast arg13
  let c0_187 : Index := 0#32
  ![0, 6, v332.toNat, 0]
def k0_off8 (k0_t1 : Fin k0_t1_loop.trips) : Fin 4 → Nat :=
  let c0_215 : Index := 0#32
  let c7_216 : Index := 7#32
  let c0_i32_1 : BitVec 32 := 0#32
  let c1_i32 : BitVec 32 := 1#32
  let arg13 : BitVec 32 := Scf.iv c0_i32_1 c1_i32 k0_t1
  let v385 : Index := Scalar.indexCast arg13
  let c0_217 : Index := 0#32
  ![0, 7, v385.toNat, 0]
def k0_cond2 (i : grid0.Coords) : BitVec 1 :=
  let arg2 : BitVec 32 := BitVec.ofNat 32 (i 2).val
  let c31_i32 : BitVec 32 := 31#32
  let v9 : BitVec 1 := Scalar.cmpi .eq arg2 c31_i32
  let v10 : BitVec 32 := Scalar.extui v9
  let c0_i32_3 : BitVec 32 := 0#32
  let v11 : BitVec 1 := Scalar.cmpi .ne v10 c0_i32_3
  v11

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x8x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x8x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
abbrev S2x16x64x64 : Shape := ⟨4, ![2, 16, 64, 64]⟩
abbrev S2x8192x16x64 : Shape := ⟨4, ![2, 8192, 16, 64]⟩
abbrev S2x16x8192x64 : Shape := ⟨4, ![2, 16, 8192, 64]⟩
abbrev S1x8x256x64 : Shape := ⟨4, ![1, 8, 256, 64]⟩
abbrev S1x8x64x64 : Shape := ⟨4, ![1, 8, 64, 64]⟩
abbrev S8x64x64 : Shape := ⟨3, ![8, 64, 64]⟩
abbrev S64x64 : Shape := ⟨2, ![64, 64]⟩
abbrev S1x64x64 : Shape := ⟨3, ![1, 64, 64]⟩
abbrev S1x1x1x64 : Shape := ⟨4, ![1, 1, 1, 64]⟩
abbrev S1x64 : Shape := ⟨2, ![1, 64]⟩
abbrev S64 : Shape := ⟨1, ![64]⟩
abbrev S64x1 : Shape := ⟨2, ![64, 1]⟩

abbrev nBuf : Space → Nat
  | .hbm => 17
  | .vmem => 19
  | .smem => 0
  | _ => 0

abbrev bufTy : (tb : Table) → Fin (tcTables nBuf tb) → BufTy
  | .hbm, ⟨0, _⟩ => ⟨S2x16x64x64, .f32⟩
  | .hbm, ⟨1, _⟩ => ⟨S2x8192x16x64, .f32⟩
  | .hbm, ⟨2, _⟩ => ⟨S2x8192x16x64, .f32⟩
  | .hbm, ⟨3, _⟩ => ⟨S2x8192x16x64, .f32⟩
  | .hbm, ⟨4, _⟩ => ⟨S2x8192x16x64, .f32⟩
  | .hbm, ⟨5, _⟩ => ⟨S2x8192x16x64, .f32⟩
  | .hbm, ⟨6, _⟩ => ⟨S2x8192x16x64, .f32⟩
  | .hbm, ⟨7, _⟩ => ⟨S2x16x8192x64, .f32⟩
  | .hbm, ⟨8, _⟩ => ⟨S2x16x8192x64, .f32⟩
  | .hbm, ⟨9, _⟩ => ⟨S2x16x8192x64, .f32⟩
  | .hbm, ⟨10, _⟩ => ⟨S2x16x8192x64, .f32⟩
  | .hbm, ⟨11, _⟩ => ⟨S2x8192x16x64, .f32⟩
  | .hbm, ⟨12, _⟩ => ⟨S2x16x8192x64, .f32⟩
  | .hbm, ⟨13, _⟩ => ⟨S2x8192x16x64, .f32⟩
  | .hbm, ⟨14, _⟩ => ⟨S2x16x8192x64, .f32⟩
  | .hbm, ⟨15, _⟩ => ⟨S2x16x8192x64, .f32⟩
  | .hbm, ⟨16, _⟩ => ⟨S2x16x64x64, .f32⟩
  | .local _ .vmem, ⟨0, _⟩ => ⟨S1x8x256x64, .f32⟩
  | .local _ .vmem, ⟨1, _⟩ => ⟨S1x8x256x64, .f32⟩
  | .local _ .vmem, ⟨2, _⟩ => ⟨S1x8x256x64, .f32⟩
  | .local _ .vmem, ⟨3, _⟩ => ⟨S1x8x256x64, .f32⟩
  | .local _ .vmem, ⟨4, _⟩ => ⟨S1x8x256x64, .f32⟩
  | .local _ .vmem, ⟨5, _⟩ => ⟨S1x8x256x64, .f32⟩
  | .local _ .vmem, ⟨6, _⟩ => ⟨S1x8x256x64, .f32⟩
  | .local _ .vmem, ⟨7, _⟩ => ⟨S1x8x256x64, .f32⟩
  | .local _ .vmem, ⟨8, _⟩ => ⟨S1x8x256x64, .f32⟩
  | .local _ .vmem, ⟨9, _⟩ => ⟨S1x8x256x64, .f32⟩
  | .local _ .vmem, ⟨10, _⟩ => ⟨S1x8x256x64, .f32⟩
  | .local _ .vmem, ⟨11, _⟩ => ⟨S1x8x256x64, .f32⟩
  | .local _ .vmem, ⟨12, _⟩ => ⟨S1x8x64x64, .f32⟩
  | .local _ .vmem, ⟨13, _⟩ => ⟨S1x8x64x64, .f32⟩
  | .local _ .vmem, ⟨14, _⟩ => ⟨S1x8x256x64, .f32⟩
  | .local _ .vmem, ⟨15, _⟩ => ⟨S1x8x256x64, .f32⟩
  | .local _ .vmem, ⟨16, _⟩ => ⟨S1x8x64x64, .f32⟩
  | .local _ .vmem, ⟨17, _⟩ => ⟨S1x8x64x64, .f32⟩
  | .local _ .vmem, ⟨18, _⟩ => ⟨S8x64x64, .f32⟩
  | _, _ => ⟨S2x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 32], ![false, false, false]⟩

@[reducible] def k0_t1_loop : Scf.Loop 32 :=
  let c0_i32_1 : BitVec 32 := 0#32
  let c256_i32 : BitVec 32 := 256#32
  let v8 : BitVec 32 := Scalar.addi c0_i32_1 c256_i32
  let c1_i32 : BitVec 32 := 1#32
  ⟨c0_i32_1, v8, c1_i32⟩
def k0_off1 (k0_t1 : Fin k0_t1_loop.trips) : Fin 4 → Nat :=
  let c0_6 : Index := 0#32
  let c0_7 : Index := 0#32
  let c0_i32_1 : BitVec 32 := 0#32
  let c1_i32 : BitVec 32 := 1#32
  let arg13 : BitVec 32 := Scf.iv c0_i32_1 c1_i32 k0_t1
  let v14 : Index := Scalar.indexCast arg13
  let c0_8 : Index := 0#32
  ![0, 0, v14.toNat, 0]
def k0_off2 (k0_t1 : Fin k0_t1_loop.trips) : Fin 4 → Nat :=
  let c0_35 : Index := 0#32
  let c1_36 : Index := 1#32
  let c0_i32_1 : BitVec 32 := 0#32
  let c1_i32 : BitVec 32 := 1#32
  let arg13 : BitVec 32 := Scf.iv c0_i32_1 c1_i32 k0_t1
  let v67 : Index := Scalar.indexCast arg13
  let c0_37 : Index := 0#32
  ![0, 1, v67.toNat, 0]
def k0_off3 (k0_t1 : Fin k0_t1_loop.trips) : Fin 4 → Nat :=
  let c0_65 : Index := 0#32
  let c2_66 : Index := 2#32
  let c0_i32_1 : BitVec 32 := 0#32
  let c1_i32 : BitVec 32 := 1#32
  let arg13 : BitVec 32 := Scf.iv c0_i32_1 c1_i32 k0_t1
  let v120 : Index := Scalar.indexCast arg13
  let c0_67 : Index := 0#32
  ![0, 2, v120.toNat, 0]
def k0_off4 (k0_t1 : Fin k0_t1_loop.trips) : Fin 4 → Nat :=
  let c0_95 : Index := 0#32
  let c3_96 : Index := 3#32
  let c0_i32_1 : BitVec 32 := 0#32
  let c1_i32 : BitVec 32 := 1#32
  let arg13 : BitVec 32 := Scf.iv c0_i32_1 c1_i32 k0_t1
  let v173 : Index := Scalar.indexCast arg13
  let c0_97 : Index := 0#32
  ![0, 3, v173.toNat, 0]
def k0_off5 (k0_t1 : Fin k0_t1_loop.trips) : Fin 4 → Nat :=
  let c0_125 : Index := 0#32
  let c4_126 : Index := 4#32
  let c0_i32_1 : BitVec 32 := 0#32
  let c1_i32 : BitVec 32 := 1#32
  let arg13 : BitVec 32 := Scf.iv c0_i32_1 c1_i32 k0_t1
  let v226 : Index := Scalar.indexCast arg13
  let c0_127 : Index := 0#32
  ![0, 4, v226.toNat, 0]
def k0_off6 (k0_t1 : Fin k0_t1_loop.trips) : Fin 4 → Nat :=
  let c0_155 : Index := 0#32
  let c5_156 : Index := 5#32
  let c0_i32_1 : BitVec 32 := 0#32
  let c1_i32 : BitVec 32 := 1#32
  let arg13 : BitVec 32 := Scf.iv c0_i32_1 c1_i32 k0_t1
  let v279 : Index := Scalar.indexCast arg13
  let c0_157 : Index := 0#32
  ![0, 5, v279.toNat, 0]
def k0_off7 (k0_t1 : Fin k0_t1_loop.trips) : Fin 4 → Nat :=
  let c0_185 : Index := 0#32
  let c6_186 : Index := 6#32
  let c0_i32_1 : BitVec 32 := 0#32
  let c1_i32 : BitVec 32 := 1#32
  let arg13 : BitVec 32 := Scf.iv c0_i32_1 c1_i32 k0_t1
  let v332 : Index := Scalar.indexCast arg13
  let c0_187 : Index := 0#32
  ![0, 6, v332.toNat, 0]
def k0_off8 (k0_t1 : Fin k0_t1_loop.trips) : Fin 4 → Nat :=
  let c0_215 : Index := 0#32
  let c7_216 : Index := 7#32
  let c0_i32_1 : BitVec 32 := 0#32
  let c1_i32 : BitVec 32 := 1#32
  let arg13 : BitVec 32 := Scf.iv c0_i32_1 c1_i32 k0_t1
  let v385 : Index := Scalar.indexCast arg13
  let c0_217 : Index := 0#32
  ![0, 7, v385.toNat, 0]
def k0_cond2 (i : grid0.Coords) : BitVec 1 :=
  let arg2 : BitVec 32 := BitVec.ofNat 32 (i 2).val
  let c31_i32 : BitVec 32 := 31#32
  let v9 : BitVec 1 := Scalar.cmpi .eq arg2 c31_i32
  let v10 : BitVec 32 := Scalar.extui v9
  let c0_i32_3 : BitVec 32 := 0#32
  let v11 : BitVec 1 := Scalar.cmpi .ne v10 c0_i32_3
  v11

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x8x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x8x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S2x16x64x64 : Shape := ⟨4, ![2, 16, 64, 64]⟩
abbrev S2x8192x16x64 : Shape := ⟨4, ![2, 8192, 16, 64]⟩
abbrev S8192x2x16x64 : Shape := ⟨4, ![8192, 2, 16, 64]⟩
abbrev S_ : Shape := ⟨0, ![]⟩
abbrev S1x2x16x64 : Shape := ⟨4, ![1, 2, 16, 64]⟩
abbrev S2x16x64 : Shape := ⟨3, ![2, 16, 64]⟩
abbrev S2x16x1x64 : Shape := ⟨4, ![2, 16, 1, 64]⟩
abbrev S2x16x64x1 : Shape := ⟨4, ![2, 16, 64, 1]⟩
abbrev S2x16x8192x64 : Shape := ⟨4, ![2, 16, 8192, 64]⟩

abbrev nBuf : Space → Nat
  | .hbm => 84
  | .vmem => 0
  | .smem => 0
  | _ => 0

abbrev bufTy : (tb : Table) → Fin (tcTables nBuf tb) → BufTy
  | .hbm, ⟨0, _⟩ => ⟨S2x16x64x64, .f32⟩
  | .hbm, ⟨1, _⟩ => ⟨S2x8192x16x64, .f32⟩
  | .hbm, ⟨2, _⟩ => ⟨S2x8192x16x64, .f32⟩
  | .hbm, ⟨3, _⟩ => ⟨S2x8192x16x64, .f32⟩
  | .hbm, ⟨4, _⟩ => ⟨S2x8192x16x64, .f32⟩
  | .hbm, ⟨5, _⟩ => ⟨S2x8192x16x64, .f32⟩
  | .hbm, ⟨6, _⟩ => ⟨S2x8192x16x64, .f32⟩
  | .hbm, ⟨7, _⟩ => ⟨S8192x2x16x64, .f32⟩
  | .hbm, ⟨8, _⟩ => ⟨S8192x2x16x64, .f32⟩
  | .hbm, ⟨9, _⟩ => ⟨S8192x2x16x64, .f32⟩
  | .hbm, ⟨10, _⟩ => ⟨S8192x2x16x64, .f32⟩
  | .hbm, ⟨11, _⟩ => ⟨S8192x2x16x64, .f32⟩
  | .hbm, ⟨12, _⟩ => ⟨S8192x2x16x64, .f32⟩
  | .hbm, ⟨13, _⟩ => ⟨S_, .f32⟩
  | .hbm, ⟨14, _⟩ => ⟨S8192x2x16x64, .f32⟩
  | .hbm, ⟨15, _⟩ => ⟨S_, .i32⟩
  | .hbm, ⟨16, _⟩ => ⟨S8192x2x16x64, .f32⟩
  | .hbm, ⟨17, _⟩ => ⟨S8192x2x16x64, .f32⟩
  | .hbm, ⟨18, _⟩ => ⟨S8192x2x16x64, .f32⟩
  | .hbm, ⟨19, _⟩ => ⟨S8192x2x16x64, .f32⟩
  | .hbm, ⟨20, _⟩ => ⟨S8192x2x16x64, .f32⟩
  | .hbm, ⟨21, _⟩ => ⟨S8192x2x16x64, .f32⟩
  | .hbm, ⟨22, _⟩ => ⟨S_, .i32⟩
  | .hbm, ⟨23, _⟩ => ⟨S2x16x64x64, .f32⟩
  | .hbm, ⟨24, _⟩ => ⟨S8192x2x16x64, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x2x16x64, .f32⟩
  | .hbm, ⟨31, _⟩ => ⟨S2x16x64, .f32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1x2x16x64, .f32⟩
  | .hbm, ⟨36, _⟩ => ⟨S2x16x64, .f32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1x2x16x64, .f32⟩
  | .hbm, ⟨41, _⟩ => ⟨S2x16x64, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1x2x16x64, .f32⟩
  | .hbm, ⟨46, _⟩ => ⟨S2x16x64, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x2x16x64, .f32⟩
  | .hbm, ⟨51, _⟩ => ⟨S2x16x64, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x2x16x64, .f32⟩
  | .hbm, ⟨56, _⟩ => ⟨S2x16x64, .f32⟩
  | .hbm, ⟨57, _⟩ => ⟨S2x16x64, .f32⟩
  | .hbm, ⟨58, _⟩ => ⟨S2x16x64, .f32⟩
  | .hbm, ⟨59, _⟩ => ⟨S2x16x1x64, .f32⟩
  | .hbm, ⟨60, _⟩ => ⟨S2x16x64x64, .f32⟩
  | .hbm, ⟨61, _⟩ => ⟨S2x16x64x64, .f32⟩
  | .hbm, ⟨62, _⟩ => ⟨S2x16x64x1, .f32⟩
  | .hbm, ⟨63, _⟩ => ⟨S2x16x64, .f32⟩
  | .hbm, ⟨64, _⟩ => ⟨S2x16x1x64, .f32⟩
  | .hbm, ⟨65, _⟩ => ⟨S2x16x64x64, .f32⟩
  | .hbm, ⟨66, _⟩ => ⟨S2x16x64x64, .f32⟩
  | .hbm, ⟨67, _⟩ => ⟨S2x16x64x64, .f32⟩
  | .hbm, ⟨68, _⟩ => ⟨S2x16x64x64, .f32⟩
  | .hbm, ⟨69, _⟩ => ⟨S2x16x64x1, .f32⟩
  | .hbm, ⟨70, _⟩ => ⟨S2x16x1x64, .f32⟩
  | .hbm, ⟨71, _⟩ => ⟨S2x16x64x64, .f32⟩
  | .hbm, ⟨72, _⟩ => ⟨S2x16x64x64, .f32⟩
  | .hbm, ⟨73, _⟩ => ⟨S2x16x64x64, .f32⟩
  | .hbm, ⟨74, _⟩ => ⟨S2x16x64x64, .f32⟩
  | .hbm, ⟨75, _⟩ => ⟨S2x16x64, .f32⟩
  | .hbm, ⟨76, _⟩ => ⟨S1x2x16x64, .f32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S8192x2x16x64, .f32⟩
  | .hbm, ⟨81, _⟩ => ⟨S_, .i32⟩
  | .hbm, ⟨82, _⟩ => ⟨S_, .i32⟩
  | .hbm, ⟨83, _⟩ => ⟨S2x16x8192x64, .f32⟩
  | _, _ => ⟨S2x16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_c : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_v7_6 : Ref sig .tc := ⟨.hbm, 22, rfl⟩
abbrev main_v7_7 : Ref sig .tc := ⟨.hbm, 23, rfl⟩
abbrev main_v7_8 : Ref sig .tc := ⟨.hbm, 24, rfl⟩
abbrev main_while0c_c_8 : Ref sig .tc := ⟨.hbm, 25, rfl⟩
abbrev main_while0c_v9 : Ref sig .tc := ⟨.hbm, 26, rfl⟩
abbrev main_while0b_call0_c : Ref sig .tc := ⟨.hbm, 27, rfl⟩
abbrev main_while0b_call0_c_0 : Ref sig .tc := ⟨.hbm, 28, rfl⟩
abbrev main_while0b_call0_c_1 : Ref sig .tc := ⟨.hbm, 29, rfl⟩
abbrev main_while0b_call0_v0 : Ref sig .tc := ⟨.hbm, 30, rfl⟩
abbrev main_while0b_v9 : Ref sig .tc := ⟨.hbm, 31, rfl⟩
abbrev main_while0b_call1_c : Ref sig .tc := ⟨.hbm, 32, rfl⟩
abbrev main_while0b_call1_c_0 : Ref sig .tc := ⟨.hbm, 33, rfl⟩
abbrev main_while0b_call1_c_1 : Ref sig .tc := ⟨.hbm, 34, rfl⟩
abbrev main_while0b_call1_v0 : Ref sig .tc := ⟨.hbm, 35, rfl⟩
abbrev main_while0b_v10 : Ref sig .tc := ⟨.hbm, 36, rfl⟩
abbrev main_while0b_call2_c : Ref sig .tc := ⟨.hbm, 37, rfl⟩
abbrev main_while0b_call2_c_0 : Ref sig .tc := ⟨.hbm, 38, rfl⟩
abbrev main_while0b_call2_c_1 : Ref sig .tc := ⟨.hbm, 39, rfl⟩
abbrev main_while0b_call2_v0 : Ref sig .tc := ⟨.hbm, 40, rfl⟩
abbrev main_while0b_v11 : Ref sig .tc := ⟨.hbm, 41, rfl⟩
abbrev main_while0b_call3_c : Ref sig .tc := ⟨.hbm, 42, rfl⟩
abbrev main_while0b_call3_c_0 : Ref sig .tc := ⟨.hbm, 43, rfl⟩
abbrev main_while0b_call3_c_1 : Ref sig .tc := ⟨.hbm, 44, rfl⟩
abbrev main_while0b_call3_v0 : Ref sig .tc := ⟨.hbm, 45, rfl⟩
abbrev main_while0b_v12 : Ref sig .tc := ⟨.hbm, 46, rfl⟩
abbrev main_while0b_call4_c : Ref sig .tc := ⟨.hbm, 47, rfl⟩
abbrev main_while0b_call4_c_0 : Ref sig .tc := ⟨.hbm, 48, rfl⟩
abbrev main_while0b_call4_c_1 : Ref sig .tc := ⟨.hbm, 49, rfl⟩
abbrev main_while0b_call4_v0 : Ref sig .tc := ⟨.hbm, 50, rfl⟩
abbrev main_while0b_v13 : Ref sig .tc := ⟨.hbm, 51, rfl⟩
abbrev main_while0b_call5_c : Ref sig .tc := ⟨.hbm, 52, rfl⟩
abbrev main_while0b_call5_c_0 : Ref sig .tc := ⟨.hbm, 53, rfl⟩
abbrev main_while0b_call5_c_1 : Ref sig .tc := ⟨.hbm, 54, rfl⟩
abbrev main_while0b_call5_v0 : Ref sig .tc := ⟨.hbm, 55, rfl⟩
abbrev main_while0b_v14 : Ref sig .tc := ⟨.hbm, 56, rfl⟩
abbrev main_while0b_v15 : Ref sig .tc := ⟨.hbm, 57, rfl⟩
abbrev main_while0b_v16 : Ref sig .tc := ⟨.hbm, 58, rfl⟩
abbrev main_while0b_v17 : Ref sig .tc := ⟨.hbm, 59, rfl⟩
abbrev main_while0b_v18 : Ref sig .tc := ⟨.hbm, 60, rfl⟩
abbrev main_while0b_v19 : Ref sig .tc := ⟨.hbm, 61, rfl⟩
abbrev main_while0b_v20 : Ref sig .tc := ⟨.hbm, 62, rfl⟩
abbrev main_while0b_v21 : Ref sig .tc := ⟨.hbm, 63, rfl⟩
abbrev main_while0b_v22 : Ref sig .tc := ⟨.hbm, 64, rfl⟩
abbrev main_while0b_v23 : Ref sig .tc := ⟨.hbm, 65, rfl⟩
abbrev main_while0b_v24 : Ref sig .tc := ⟨.hbm, 66, rfl⟩
abbrev main_while0b_v25 : Ref sig .tc := ⟨.hbm, 67, rfl⟩
abbrev main_while0b_v26 : Ref sig .tc := ⟨.hbm, 68, rfl⟩
abbrev main_while0b_v27 : Ref sig .tc := ⟨.hbm, 69, rfl⟩
abbrev main_while0b_v28 : Ref sig .tc := ⟨.hbm, 70, rfl⟩
abbrev main_while0b_v29 : Ref sig .tc := ⟨.hbm, 71, rfl⟩
abbrev main_while0b_v30 : Ref sig .tc := ⟨.hbm, 72, rfl⟩
abbrev main_while0b_v31 : Ref sig .tc := ⟨.hbm, 73, rfl⟩
abbrev main_while0b_v32 : Ref sig .tc := ⟨.hbm, 74, rfl⟩
abbrev main_while0b_v33 : Ref sig .tc := ⟨.hbm, 75, rfl⟩
abbrev main_while0b_call6_v0 : Ref sig .tc := ⟨.hbm, 76, rfl⟩
abbrev main_while0b_call6_c : Ref sig .tc := ⟨.hbm, 77, rfl⟩
abbrev main_while0b_call6_c_0 : Ref sig .tc := ⟨.hbm, 78, rfl⟩
abbrev main_while0b_call6_c_1 : Ref sig .tc := ⟨.hbm, 79, rfl⟩
abbrev main_while0b_v34 : Ref sig .tc := ⟨.hbm, 80, rfl⟩
abbrev main_while0b_c_8 : Ref sig .tc := ⟨.hbm, 81, rfl⟩
abbrev main_while0b_v35 : Ref sig .tc := ⟨.hbm, 82, rfl⟩
abbrev main_v8 : Ref sig .tc := ⟨.hbm, 83, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .bf16⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel2Ideal.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .bf16⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x1024 : Shape := ⟨2, ![16384, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel3.lean ====
abbrev S16384x1024 : Shape := ⟨2, ![16384, 1024]⟩
abbrev S1024x4688 : Shape := ⟨2, ![1024, 4688]⟩
abbrev S_ : Shape := ⟨0, ![]⟩
abbrev S1024x4736 : Shape := ⟨2, ![1024, 4736]⟩
abbrev S16384x4736 : Shape := ⟨2, ![16384, 4736]⟩
abbrev S512x1024 : Shape := ⟨2, ![512, 1024]⟩
abbrev S1024x128 : Shape := ⟨2, ![1024, 128]⟩
abbrev S512x128 : Shape := ⟨2, ![512, 128]⟩
abbrev S16384x4688 : Shape := ⟨2, ![16384, 4688]⟩

abbrev nBuf : Space → Nat
  | .hbm => 8
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x4688, .f32⟩
  | .hbm, ⟨2, _⟩ => ⟨S1024x4688, .bf16⟩
  | .hbm, ⟨3, _⟩ => ⟨S_, .i32⟩
  | .hbm, ⟨4, _⟩ => ⟨S_, .bf16⟩
  | .hbm, ⟨5, _⟩ => ⟨S1024x4736, .bf16⟩
  | .hbm, ⟨6, _⟩ => ⟨S16384x4736, .f32⟩
  | .hbm, ⟨7, _⟩ => ⟨S16384x4688, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S1024x128, .bf16⟩
  | .local _ .vmem, ⟨4, _⟩ => ⟨S512x128, .f32⟩
  | .local _ .vmem, ⟨5, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 37], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel3Ideal.lean ====
abbrev S16384x1024 : Shape := ⟨2, ![16384, 1024]⟩
abbrev S1024x4688 : Shape := ⟨2, ![1024, 4688]⟩
abbrev S_ : Shape := ⟨0, ![]⟩
abbrev S1024x4736 : Shape := ⟨2, ![1024, 4736]⟩
abbrev S16384x4736 : Shape := ⟨2, ![16384, 4736]⟩
abbrev S512x1024 : Shape := ⟨2, ![512, 1024]⟩
abbrev S1024x128 : Shape := ⟨2, ![1024, 128]⟩
abbrev S512x128 : Shape := ⟨2, ![512, 128]⟩
abbrev S16384x4688 : Shape := ⟨2, ![16384, 4688]⟩

abbrev nBuf : Space → Nat
  | .hbm => 8
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x4688, .f32⟩
  | .hbm, ⟨2, _⟩ => ⟨S1024x4688, .bf16⟩
  | .hbm, ⟨3, _⟩ => ⟨S_, .i32⟩
  | .hbm, ⟨4, _⟩ => ⟨S_, .bf16⟩
  | .hbm, ⟨5, _⟩ => ⟨S1024x4736, .bf16⟩
  | .hbm, ⟨6, _⟩ => ⟨S16384x4736, .f32⟩
  | .hbm, ⟨7, _⟩ => ⟨S16384x4688, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S1024x128, .bf16⟩
  | .local _ .vmem, ⟨4, _⟩ => ⟨S512x128, .f32⟩
  | .local _ .vmem, ⟨5, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 37], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x1024 : Shape := ⟨2, ![16384, 1024]⟩
abbrev S1024x4688 : Shape := ⟨2, ![1024, 4688]⟩
abbrev S16384x4688 : Shape := ⟨2, ![16384, 4688]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4688, .f32⟩
  | .hbm, ⟨2, _⟩ => ⟨S16384x4688, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel4.lean ====
abbrev S16384x256 : Shape := ⟨2, ![16384, 256]⟩
abbrev S256x1024 : Shape := ⟨2, ![256, 1024]⟩
abbrev S16384x1024 : Shape := ⟨2, ![16384, 1024]⟩
abbrev S512x256 : Shape := ⟨2, ![512, 256]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S256x1024, .bf16⟩
  | .hbm, ⟨3, _⟩ => ⟨S16384x1024, .f32⟩
  | .local _ .vmem, ⟨0, _⟩ => ⟨S512x256, .f32⟩
  | .local _ .vmem, ⟨1, _⟩ => ⟨S512x256, .f32⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel4Ideal.lean ====
abbrev S16384x256 : Shape := ⟨2, ![16384, 256]⟩
abbrev S256x1024 : Shape := ⟨2, ![256, 1024]⟩
abbrev S16384x1024 : Shape := ⟨2, ![16384, 1024]⟩
abbrev S512x256 : Shape := ⟨2, ![512, 256]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S256x1024, .bf16⟩
  | .hbm, ⟨3, _⟩ => ⟨S16384x1024, .f32⟩
  | .local _ .vmem, ⟨0, _⟩ => ⟨S512x256, .f32⟩
  | .local _ .vmem, ⟨1, _⟩ => ⟨S512x256, .f32⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x256 : Shape := ⟨2, ![16384, 256]⟩
abbrev S256x1024 : Shape := ⟨2, ![256, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel5.lean ====
abbrev S72 : Shape := ⟨1, ![72]⟩
abbrev S2x8x8192x64 : Shape := ⟨4, ![2, 8, 8192, 64]⟩
abbrev S2x8x8192x1 : Shape := ⟨4, ![2, 8, 8192, 1]⟩
abbrev S2x8x1x8192 : Shape := ⟨4, ![2, 8, 1, 8192]⟩
abbrev S1x8x512x64 : Shape := ⟨4, ![1, 8, 512, 64]⟩
abbrev S1 : Shape := ⟨1, ![1]⟩
abbrev S1x8x1024x64 : Shape := ⟨4, ![1, 8, 1024, 64]⟩
abbrev S1x8x512x1 : Shape := ⟨4, ![1, 8, 512, 1]⟩
abbrev S1x8x1x1024 : Shape := ⟨4, ![1, 8, 1, 1024]⟩
abbrev S8x512x1 : Shape := ⟨3, ![8, 512, 1]⟩
abbrev S8x512x64 : Shape := ⟨3, ![8, 512, 64]⟩
abbrev S512x1024 : Shape := ⟨2, ![512, 1024]⟩
abbrev S1x1x512x64 : Shape := ⟨4, ![1, 1, 512, 64]⟩
abbrev S512x64 : Shape := ⟨2, ![512, 64]⟩
abbrev S1x1x1024x64 : Shape := ⟨4, ![1, 1, 1024, 64]⟩
abbrev S1024x64 : Shape := ⟨2, ![1024, 64]⟩
abbrev S1x1x512x1 : Shape := ⟨4, ![1, 1, 512, 1]⟩
abbrev S512x1 : Shape := ⟨2, ![512, 1]⟩
abbrev S1x1x1x1024 : Shape := ⟨4, ![1, 1, 1, 1024]⟩
abbrev S1x1024 : Shape := ⟨2, ![1, 1024]⟩
abbrev S1x512x1 : Shape := ⟨3, ![1, 512, 1]⟩
abbrev S512 : Shape := ⟨1, ![512]⟩
abbrev S1x512x64 : Shape := ⟨3, ![1, 512, 64]⟩

abbrev nBuf : Space → Nat
  | .hbm => 6
  | .vmem => 15
  | .smem => 2
  | _ => 0

abbrev bufTy : (tb : Table) → Fin (tcTables nBuf tb) → BufTy
  | .hbm, ⟨0, _⟩ => ⟨S2x8x8192x64, .bf16⟩
  | .hbm, ⟨1, _⟩ => ⟨S2x8x8192x64, .bf16⟩
  | .hbm, ⟨2, _⟩ => ⟨S2x8x8192x64, .bf16⟩
  | .hbm, ⟨3, _⟩ => ⟨S2x8x8192x1, .f32⟩
  | .hbm, ⟨4, _⟩ => ⟨S2x8x1x8192, .f32⟩
  | .hbm, ⟨5, _⟩ => ⟨S2x8x8192x64, .f32⟩
  | .local _ .vmem, ⟨0, _⟩ => ⟨S1x8x512x64, .bf16⟩
  | .local _ .vmem, ⟨1, _⟩ => ⟨S1x8x512x64, .bf16⟩
  | .local _ .vmem, ⟨2, _⟩ => ⟨S1x8x1024x64, .bf16⟩
  | .local _ .vmem, ⟨3, _⟩ => ⟨S1x8x1024x64, .bf16⟩
  | .local _ .vmem, ⟨4, _⟩ => ⟨S1x8x1024x64, .bf16⟩
  | .local _ .vmem, ⟨5, _⟩ => ⟨S1x8x1024x64, .bf16⟩
  | .local _ .vmem, ⟨6, _⟩ => ⟨S1x8x512x1, .f32⟩
  | .local _ .vmem, ⟨7, _⟩ => ⟨S1x8x512x1, .f32⟩
  | .local _ .vmem, ⟨8, _⟩ => ⟨S1x8x1x1024, .f32⟩
  | .local _ .vmem, ⟨9, _⟩ => ⟨S1x8x1x1024, .f32⟩
  | .local _ .vmem, ⟨10, _⟩ => ⟨S1x8x512x64, .f32⟩
  | .local _ .vmem, ⟨11, _⟩ => ⟨S1x8x512x64, .f32⟩
  | .local _ .vmem, ⟨12, _⟩ => ⟨S8x512x1, .f32⟩
  | .local _ .vmem, ⟨13, _⟩ => ⟨S8x512x1, .f32⟩
  | .local _ .vmem, ⟨14, _⟩ => ⟨S8x512x64, .f32⟩
  | .local _ .smem, ⟨0, _⟩ => ⟨S72, .i32⟩
  | .local _ .smem, ⟨1, _⟩ => ⟨S72, .i32⟩
  | _, _ => ⟨S2x8x8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 72], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond2 (v1 : BitVec 32) (v3 : BitVec 32) : BitVec 1 :=
  let c512_i32 : BitVec 32 := 512#32
  let v4 : BitVec 32 := Scalar.muli v1 c512_i32
  let c512_i32_0 : BitVec 32 := 512#32
  let v5 : BitVec 32 := Scalar.addi v4 c512_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let v428 : BitVec 1 := Scalar.cmpi .eq v3 v23
  let v429 : BitVec 32 := Scalar.extui v428
  let c0_i32_345 : BitVec 32 := 0#32
  let v430 : BitVec 1 := Scalar.cmpi .ne v429 c0_i32_345
  v430

def cc0_transform_0 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![arg0.toNat, c0_i32.toNat, v1.toNat, c0_i32_0.toNat]

def cc0_transform_1 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  let c0_i32_0 : BitVec 32 := 0#32
  let c0_i32_1 : BitVec 32 := 0#32
  ![arg0.toNat, c0_i32.toNat, v1.toNat, c0_i32_0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  let c0_i32_0 : BitVec 32 := 0#32
  let c0_i32_1 : BitVec 32 := 0#32
  ![arg0.toNat, c0_i32.toNat, v1.toNat, c0_i32_0.toNat]

def cc0_transform_3 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![arg0.toNat, c0_i32.toNat, v1.toNat, c0_i32_0.toNat]

def cc0_transform_4 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  let c0_i32_0 : BitVec 32 := 0#32
  let c0_i32_1 : BitVec 32 := 0#32
  ![arg0.toNat, c0_i32.toNat, c0_i32_0.toNat, v1.toNat]

def cc0_transform_5 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![arg0.toNat, c0_i32.toNat, v1.toNat, c0_i32_0.toNat]

abbrev stage0_0 : Fin 2 → Memref sig .tc .vmem S1x8x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel5Ideal.lean ====
variable {F : FTy → Type} [FloatOps F] [Named F]
def κ : String → Option EReal := fun
  | "mask" => some ⊥
  | _ => none
-- ==== Reference5Ideal.lean ====
abbrev S72 : Shape := ⟨1, ![72]⟩
abbrev S2x8x8192x64 : Shape := ⟨4, ![2, 8, 8192, 64]⟩
abbrev S2x8x8192x1 : Shape := ⟨4, ![2, 8, 8192, 1]⟩
abbrev S2x8x1x8192 : Shape := ⟨4, ![2, 8, 1, 8192]⟩
abbrev S8192 : Shape := ⟨1, ![8192]⟩
abbrev S2x8x8192x8192 : Shape := ⟨4, ![2, 8, 8192, 8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x8192 : Shape := ⟨3, ![2, 8, 8192]⟩

abbrev nBuf : Space → Nat
  | .hbm => 41
  | .vmem => 0
  | .smem => 0
  | _ => 0

abbrev bufTy : (tb : Table) → Fin (tcTables nBuf tb) → BufTy
  | .hbm, ⟨0, _⟩ => ⟨S72, .i32⟩
  | .hbm, ⟨1, _⟩ => ⟨S72, .i32⟩
  | .hbm, ⟨2, _⟩ => ⟨S2x8x8192x64, .bf16⟩
  | .hbm, ⟨3, _⟩ => ⟨S2x8x8192x64, .bf16⟩
  | .hbm, ⟨4, _⟩ => ⟨S2x8x8192x64, .bf16⟩
  | .hbm, ⟨5, _⟩ => ⟨S2x8x8192x1, .f32⟩
  | .hbm, ⟨6, _⟩ => ⟨S2x8x1x8192, .f32⟩
  | .hbm, ⟨7, _⟩ => ⟨S8192, .i32⟩
  | .hbm, ⟨8, _⟩ => ⟨S2x8x8192x64, .f32⟩
  | .hbm, ⟨9, _⟩ => ⟨S2x8x8192x64, .f32⟩
  | .hbm, ⟨10, _⟩ => ⟨S2x8x8192x64, .f32⟩
  | .hbm, ⟨11, _⟩ => ⟨S2x8x8192x8192, .f32⟩
  | .hbm, ⟨12, _⟩ => ⟨S2x8x8192x8192, .f32⟩
  | .hbm, ⟨13, _⟩ => ⟨S2x8x8192x8192, .f32⟩
  | .hbm, ⟨14, _⟩ => ⟨S2x8x8192x8192, .f32⟩
  | .hbm, ⟨15, _⟩ => ⟨S2x8x8192x8192, .f32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S2x8x8192x8192, .i1⟩
  | .hbm, ⟨24, _⟩ => ⟨S2x8x8192x8192, .f32⟩
  | .hbm, ⟨25, _⟩ => ⟨S2x8x8192x8192, .f32⟩
  | .hbm, ⟨26, _⟩ => ⟨S_, .f32⟩
  | .hbm, ⟨27, _⟩ => ⟨S2x8x8192, .f32⟩
  | .hbm, ⟨28, _⟩ => ⟨S_, .f32⟩
  | .hbm, ⟨29, _⟩ => ⟨S2x8x8192, .f32⟩
  | .hbm, ⟨30, _⟩ => ⟨S2x8x8192, .f32⟩
  | .hbm, ⟨31, _⟩ => ⟨S2x8x8192x1, .f32⟩
  | .hbm, ⟨32, _⟩ => ⟨S2x8x8192x8192, .f32⟩
  | .hbm, ⟨33, _⟩ => ⟨S2x8x8192x8192, .f32⟩
  | .hbm, ⟨34, _⟩ => ⟨S2x8x8192x8192, .f32⟩
  | .hbm, ⟨35, _⟩ => ⟨S_, .f32⟩
  | .hbm, ⟨36, _⟩ => ⟨S2x8x8192, .f32⟩
  | .hbm, ⟨37, _⟩ => ⟨S2x8x8192x1, .f32⟩
  | .hbm, ⟨38, _⟩ => ⟨S2x8x8192x8192, .f32⟩
  | .hbm, ⟨39, _⟩ => ⟨S2x8x8192x8192, .f32⟩
  | .hbm, ⟨40, _⟩ => ⟨S2x8x8192x64, .f32⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel6.lean ====
abbrev S2x8192x1024 : Shape := ⟨3, ![2, 8192, 1024]⟩
abbrev S1024 : Shape := ⟨1, ![1024]⟩
abbrev S1024x4688 : Shape := ⟨2, ![1024, 4688]⟩
abbrev S8 : Shape := ⟨1, ![8]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S8192 : Shape := ⟨1, ![8192]⟩
abbrev S16384x1024 : Shape := ⟨2, ![16384, 1024]⟩
abbrev S1024x4736 : Shape := ⟨2, ![1024, 4736]⟩
abbrev S16384x4736 : Shape := ⟨2, ![16384, 4736]⟩
abbrev S512x1024 : Shape := ⟨2, ![512, 1024]⟩
abbrev S1024x128 : Shape := ⟨2, ![1024, 128]⟩
abbrev S512x128 : Shape := ⟨2, ![512, 128]⟩
abbrev S16384x4688 : Shape := ⟨2, ![16384, 4688]⟩
abbrev S2x8192x4688 : Shape := ⟨3, ![2, 8192, 4688]⟩
abbrev S2x8192x512 : Shape := ⟨3, ![2, 8192, 512]⟩
abbrev S2x8192x8 : Shape := ⟨3, ![2, 8192, 8]⟩
abbrev S2x8192x64 : Shape := ⟨3, ![2, 8192, 64]⟩
abbrev S1x1x8 : Shape := ⟨3, ![1, 1, 8]⟩
abbrev S2x8192x8x64 : Shape := ⟨4, ![2, 8192, 8, 64]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S2x8192x8x8 : Shape := ⟨4, ![2, 8192, 8, 8]⟩
abbrev S1x8192x1x8 : Shape := ⟨4, ![1, 8192, 1, 8]⟩
abbrev S2x8192x8x48 : Shape := ⟨4, ![2, 8192, 8, 48]⟩
abbrev S2x8192x1x64 : Shape := ⟨4, ![2, 8192, 1, 64]⟩
abbrev S2x8192x1x8 : Shape := ⟨4, ![2, 8192, 1, 8]⟩
abbrev S2x8192x1x48 : Shape := ⟨4, ![2, 8192, 1, 48]⟩

abbrev nBuf : Space → Nat
  | .hbm => 142
  | .vmem => 6
  | .smem => 0
  | _ => 0

abbrev hbmTy0_0 (i : Nat) : BufTy := match i % 128 with
  | 0 => ⟨S2x8192x1024, .f32⟩
  | 1 => ⟨S1024, .f32⟩
  | 2 => ⟨S1024x4688, .f32⟩
  | 3 => ⟨S8, .f32⟩
  | 4 => ⟨S2x8192x1024, .f32⟩
  | 5 => ⟨S_, .f32⟩
  | 6 => ⟨S2x8192, .f32⟩
  | 7 => ⟨S2x8192x1, .f32⟩
  | 8 => ⟨S_, .f32⟩
  | 9 => ⟨S2x8192x1, .f32⟩
  | 10 => ⟨S2x8192x1, .f32⟩
  | 11 => ⟨S_, .f32⟩
  | 12 => ⟨S2x8192x1, .f32⟩
  | 13 => ⟨S2x8192x1, .f32⟩
  | 14 => ⟨S2x8192x1, .f32⟩
  | 15 => ⟨S2x8192x1024, .f32⟩
  | 16 => ⟨S2x8192x1024, .f32⟩
  | 17 => ⟨S1x1x1024, .f32⟩
  | 18 => ⟨S2x8192x1024, .f32⟩
  | 19 => ⟨S2x8192x1024, .f32⟩
  | 20 => ⟨S8192, .i32⟩
  | 21 => ⟨S16384x1024, .f32⟩
  | 22 => ⟨S1024x4688, .bf16⟩
  | 23 => ⟨S_, .i32⟩
  | 24 => ⟨S_, .bf16⟩
  | 25 => ⟨S1024x4736, .bf16⟩
  | 26 => ⟨S16384x4736, .f32⟩
  | 27 => ⟨S16384x4688, .f32⟩
  | 28 => ⟨S2x8192x4688, .f32⟩
  | 29 => ⟨S2x8192x512, .f32⟩
  | 30 => ⟨S2x8192x512, .f32⟩
  | 31 => ⟨S2x8192x512, .f32⟩
  | 32 => ⟨S2x8192x8, .f32⟩
  | 33 => ⟨S2x8192x512, .f32⟩
  | 34 => ⟨S2x8192x512, .f32⟩
  | 35 => ⟨S2x8192x512, .f32⟩
  | 36 => ⟨S2x8192x512, .f32⟩
  | 37 => ⟨S2x8192x512, .f32⟩
  | 38 => ⟨S2x8192x512, .f32⟩
  | 39 => ⟨S2x8192x64, .f32⟩
  | 40 => ⟨S2x8192x8, .f32⟩
  | 41 => ⟨S1x1x8, .f32⟩
  | 42 => ⟨S2x8192x8, .f32⟩
  | 43 => ⟨S2x8192x8, .f32⟩
  | 44 => ⟨S2x8192x8, .f32⟩
  | 45 => ⟨S_, .f32⟩
  | 46 => ⟨S2x8192x8, .f32⟩
  | 47 => ⟨S2x8192x8, .f32⟩
  | 48 => ⟨S2x8192x8, .f32⟩
  | 49 => ⟨S2x8192x8, .f32⟩
  | 50 => ⟨S2x8192x8, .i1⟩
  | 51 => ⟨S2x8192x8, .f32⟩
  | 52 => ⟨S2x8192x8, .f32⟩
  | 53 => ⟨S2x8192x8, .f32⟩
  | 54 => ⟨S2x8192x8, .f32⟩
  | 55 => ⟨S2x8192x8, .f32⟩
  | 56 => ⟨S2x8192x8, .f32⟩
  | 57 => ⟨S2x8192x8, .f32⟩
  | 58 => ⟨S2x8192x8, .f32⟩
  | 59 => ⟨S2x8192x8, .f32⟩
  | 60 => ⟨S2x8192x8x64, .f32⟩
  | 61 => ⟨S8, .f32⟩
  | 62 => ⟨S_, .f32⟩
  | 63 => ⟨S8, .f32⟩
  | 64 => ⟨S8, .f32⟩
  | 65 => ⟨S_, .f32⟩
  | 66 => ⟨S8, .f32⟩
  | 67 => ⟨S8, .f32⟩
  | 68 => ⟨S_, .f32⟩
  | 69 => ⟨S8, .f32⟩
  | 70 => ⟨S8, .f32⟩
  | 71 => ⟨S8192, .f32⟩
  | 72 => ⟨S8192x1, .f32⟩
  | 73 => ⟨S1x8, .f32⟩
  | 74 => ⟨S8192x8, .f32⟩
  | 75 => ⟨S8192x8, .f32⟩
  | 76 => ⟨S8192x8, .f32⟩
  | 77 => ⟨S8192x8, .f32⟩
  | 78 => ⟨S8192x1x8, .f32⟩
  | 79 => ⟨S8192x8, .f32⟩
  | 80 => ⟨S8192x1x8, .f32⟩
  | 81 => ⟨S2x8192x8x8, .f32⟩
  | 82 => ⟨S2x8192x8x8, .f32⟩
  | 83 => ⟨S1x8192x1x8, .f32⟩
  | 84 => ⟨S2x8192x8x8, .f32⟩
  | 85 => ⟨S2x8192x8x8, .f32⟩
  | 86 => ⟨S1x8192x1x8, .f32⟩
  | 87 => ⟨S2x8192x8x8, .f32⟩
  | 88 => ⟨S2x8192x8x8, .f32⟩
  | 89 => ⟨S2x8192x8x8, .f32⟩
  | 90 => ⟨S1x8192x1x8, .f32⟩
  | 91 => ⟨S2x8192x8x8, .f32⟩
  | 92 => ⟨S2x8192x8x8, .f32⟩
  | 93 => ⟨S1x8192x1x8, .f32⟩
  | 94 => ⟨S2x8192x8x8, .f32⟩
  | 95 => ⟨S2x8192x8x8, .f32⟩
  | 96 => ⟨S2x8192x8x8, .f32⟩
  | 97 => ⟨S2x8192x8x48, .f32⟩
  | 98 => ⟨S2x8192x8x64, .f32⟩
  | 99 => ⟨S2x8192x1x64, .f32⟩
  | 100 => ⟨S8, .f32⟩
  | 101 => ⟨S_, .f32⟩
  | 102 => ⟨S8, .f32⟩
  | 103 => ⟨S8, .f32⟩
  | 104 => ⟨S_, .f32⟩
  | 105 => ⟨S8, .f32⟩
  | 106 => ⟨S8, .f32⟩
  | 107 => ⟨S_, .f32⟩
  | 108 => ⟨S8, .f32⟩
  | 109 => ⟨S8, .f32⟩
  | 110 => ⟨S8192, .f32⟩
  | 111 => ⟨S8192x1, .f32⟩
  | 112 => ⟨S1x8, .f32⟩
  | 113 => ⟨S8192x8, .f32⟩
  | 114 => ⟨S8192x8, .f32⟩
  | 115 => ⟨S8192x8, .f32⟩
  | 116 => ⟨S8192x8, .f32⟩
  | 117 => ⟨S8192x1x8, .f32⟩
  | 118 => ⟨S8192x8, .f32⟩
  | 119 => ⟨S8192x1x8, .f32⟩
  | 120 => ⟨S2x8192x1x8, .f32⟩
  | 121 => ⟨S2x8192x1x8, .f32⟩
  | 122 => ⟨S1x8192x1x8, .f32⟩
  | 123 => ⟨S2x8192x1x8, .f32⟩
  | 124 => ⟨S2x8192x1x8, .f32⟩
  | 125 => ⟨S1x8192x1x8, .f32⟩
  | 126 => ⟨S2x8192x1x8, .f32⟩
  | 127 => ⟨S2x8192x1x8, .f32⟩
  | _ => ⟨S2x8192x1024, .f32⟩

abbrev hbmTy0_1 (i : Nat) : BufTy := match i % 128 with
  | 0 => ⟨S2x8192x1x8, .f32⟩
  | 1 => ⟨S1x8192x1x8, .f32⟩
  | 2 => ⟨S2x8192x1x8, .f32⟩
  | 3 => ⟨S2x8192x1x8, .f32⟩
  | 4 => ⟨S1x8192x1x8, .f32⟩
  | 5 => ⟨S2x8192x1x8, .f32⟩
  | 6 => ⟨S2x8192x1x8, .f32⟩
  | 7 => ⟨S2x8192x1x8, .f32⟩
  | 8 => ⟨S2x8192x1x48, .f32⟩
  | 9 => ⟨S2x8192x1x64, .f32⟩
  | 10 => ⟨S2x8192x64, .f32⟩
  | 11 => ⟨S2x8192x8x64, .f32⟩
  | 12 => ⟨S2x8192x8x64, .f32⟩
  | 13 => ⟨S2x8192x8x64, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S1024x128, .bf16⟩
  | .local _ .vmem, ⟨4, _⟩ => ⟨S512x128, .f32⟩
  | .local _ .vmem, ⟨5, _⟩ => ⟨S512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_call1_v0 : Ref sig .tc := ⟨.hbm, 44, rfl⟩
abbrev main_call1_call0_cst : Ref sig .tc := ⟨.hbm, 45, rfl⟩
abbrev main_call1_call0_v0 : Ref sig .tc := ⟨.hbm, 46, rfl⟩
abbrev main_call1_call0_v1 : Ref sig .tc := ⟨.hbm, 47, rfl⟩
abbrev main_call1_call0_v2 : Ref sig .tc := ⟨.hbm, 48, rfl⟩
abbrev main_call1_call0_v3 : Ref sig .tc := ⟨.hbm, 49, rfl⟩
abbrev main_call1_call0_v4 : Ref sig .tc := ⟨.hbm, 50, rfl⟩
abbrev main_call1_call0_v5 : Ref sig .tc := ⟨.hbm, 51, rfl⟩
abbrev main_call1_call0_v6 : Ref sig .tc := ⟨.hbm, 52, rfl⟩
abbrev main_call1_call0_v7 : Ref sig .tc := ⟨.hbm, 53, rfl⟩
abbrev main_call1_call0_v8 : Ref sig .tc := ⟨.hbm, 54, rfl⟩
abbrev main_call1_call0_v9 : Ref sig .tc := ⟨.hbm, 55, rfl⟩
abbrev main_call1_call0_v10 : Ref sig .tc := ⟨.hbm, 56, rfl⟩
abbrev main_call1_call0_v11 : Ref sig .tc := ⟨.hbm, 57, rfl⟩
abbrev main_call1_v1 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_2 : Ref sig .tc := ⟨.hbm, 62, rfl⟩
abbrev main_v38 : Ref sig .tc := ⟨.hbm, 63, rfl⟩
abbrev main_v39 : Ref sig .tc := ⟨.hbm, 64, rfl⟩
abbrev main_cst_3 : Ref sig .tc := ⟨.hbm, 65, rfl⟩
abbrev main_v40 : Ref sig .tc := ⟨.hbm, 66, rfl⟩
abbrev main_v41 : Ref sig .tc := ⟨.hbm, 67, rfl⟩
abbrev main_cst_4 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_5 : Ref sig .tc := ⟨.hbm, 101, rfl⟩
abbrev main_v74 : Ref sig .tc := ⟨.hbm, 102, rfl⟩
abbrev main_v75 : Ref sig .tc := ⟨.hbm, 103, rfl⟩
abbrev main_cst_6 : Ref sig .tc := ⟨.hbm, 104, rfl⟩
abbrev main_v76 : Ref sig .tc := ⟨.hbm, 105, rfl⟩
abbrev main_v77 : Ref sig .tc := ⟨.hbm, 106, rfl⟩
abbrev main_cst_7 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 37], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2x8192x1024 : Shape := ⟨3, ![2, 8192, 1024]⟩
abbrev S1024 : Shape := ⟨1, ![1024]⟩
abbrev S1024x4688 : Shape := ⟨2, ![1024, 4688]⟩
abbrev S8 : Shape := ⟨1, ![8]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S8192 : Shape := ⟨1, ![8192]⟩
abbrev S2x8192x4688 : Shape := ⟨3, ![2, 8192, 4688]⟩
abbrev S2x8192x512 : Shape := ⟨3, ![2, 8192, 512]⟩
abbrev S2x8192x8 : Shape := ⟨3, ![2, 8192, 8]⟩
abbrev S2x8192x64 : Shape := ⟨3, ![2, 8192, 64]⟩
abbrev S1x1x8 : Shape := ⟨3, ![1, 1, 8]⟩
abbrev S2x8192x8x64 : Shape := ⟨4, ![2, 8192, 8, 64]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S2x8192x8x8 : Shape := ⟨4, ![2, 8192, 8, 8]⟩
abbrev S1x8192x1x8 : Shape := ⟨4, ![1, 8192, 1, 8]⟩
abbrev S2x8192x8x48 : Shape := ⟨4, ![2, 8192, 8, 48]⟩
abbrev S2x8192x1x64 : Shape := ⟨4, ![2, 8192, 1, 64]⟩
abbrev S2x8192x1x8 : Shape := ⟨4, ![2, 8192, 1, 8]⟩
abbrev S2x8192x1x48 : Shape := ⟨4, ![2, 8192, 1, 48]⟩

abbrev nBuf : Space → Nat
  | .hbm => 135
  | .vmem => 0
  | .smem => 0
  | _ => 0

abbrev hbmTy0_0 (i : Nat) : BufTy := match i % 128 with
  | 0 => ⟨S2x8192x1024, .f32⟩
  | 1 => ⟨S1024, .f32⟩
  | 2 => ⟨S1024x4688, .f32⟩
  | 3 => ⟨S8, .f32⟩
  | 4 => ⟨S2x8192x1024, .f32⟩
  | 5 => ⟨S_, .f32⟩
  | 6 => ⟨S2x8192, .f32⟩
  | 7 => ⟨S2x8192x1, .f32⟩
  | 8 => ⟨S_, .f32⟩
  | 9 => ⟨S2x8192x1, .f32⟩
  | 10 => ⟨S2x8192x1, .f32⟩
  | 11 => ⟨S_, .f32⟩
  | 12 => ⟨S2x8192x1, .f32⟩
  | 13 => ⟨S2x8192x1, .f32⟩
  | 14 => ⟨S2x8192x1, .f32⟩
  | 15 => ⟨S2x8192x1024, .f32⟩
  | 16 => ⟨S2x8192x1024, .f32⟩
  | 17 => ⟨S1x1x1024, .f32⟩
  | 18 => ⟨S2x8192x1024, .f32⟩
  | 19 => ⟨S2x8192x1024, .f32⟩
  | 20 => ⟨S8192, .i32⟩
  | 21 => ⟨S2x8192x4688, .f32⟩
  | 22 => ⟨S2x8192x512, .f32⟩
  | 23 => ⟨S2x8192x512, .f32⟩
  | 24 => ⟨S2x8192x512, .f32⟩
  | 25 => ⟨S2x8192x8, .f32⟩
  | 26 => ⟨S2x8192x512, .f32⟩
  | 27 => ⟨S2x8192x512, .f32⟩
  | 28 => ⟨S2x8192x512, .f32⟩
  | 29 => ⟨S2x8192x512, .f32⟩
  | 30 => ⟨S2x8192x512, .f32⟩
  | 31 => ⟨S2x8192x512, .f32⟩
  | 32 => ⟨S2x8192x64, .f32⟩
  | 33 => ⟨S2x8192x8, .f32⟩
  | 34 => ⟨S1x1x8, .f32⟩
  | 35 => ⟨S2x8192x8, .f32⟩
  | 36 => ⟨S2x8192x8, .f32⟩
  | 37 => ⟨S2x8192x8, .f32⟩
  | 38 => ⟨S_, .f32⟩
  | 39 => ⟨S2x8192x8, .f32⟩
  | 40 => ⟨S2x8192x8, .f32⟩
  | 41 => ⟨S2x8192x8, .f32⟩
  | 42 => ⟨S2x8192x8, .f32⟩
  | 43 => ⟨S2x8192x8, .i1⟩
  | 44 => ⟨S2x8192x8, .f32⟩
  | 45 => ⟨S2x8192x8, .f32⟩
  | 46 => ⟨S2x8192x8, .f32⟩
  | 47 => ⟨S2x8192x8, .f32⟩
  | 48 => ⟨S2x8192x8, .f32⟩
  | 49 => ⟨S2x8192x8, .f32⟩
  | 50 => ⟨S2x8192x8, .f32⟩
  | 51 => ⟨S2x8192x8, .f32⟩
  | 52 => ⟨S2x8192x8, .f32⟩
  | 53 => ⟨S2x8192x8x64, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S_, .f32⟩
  | 62 => ⟨S8, .f32⟩
  | 63 => ⟨S8, .f32⟩
  | 64 => ⟨S8192, .f32⟩
  | 65 => ⟨S8192x1, .f32⟩
  | 66 => ⟨S1x8, .f32⟩
  | 67 => ⟨S8192x8, .f32⟩
  | 68 => ⟨S8192x8, .f32⟩
  | 69 => ⟨S8192x8, .f32⟩
  | 70 => ⟨S8192x8, .f32⟩
  | 71 => ⟨S8192x1x8, .f32⟩
  | 72 => ⟨S8192x8, .f32⟩
  | 73 => ⟨S8192x1x8, .f32⟩
  | 74 => ⟨S2x8192x8x8, .f32⟩
  | 75 => ⟨S2x8192x8x8, .f32⟩
  | 76 => ⟨S1x8192x1x8, .f32⟩
  | 77 => ⟨S2x8192x8x8, .f32⟩
  | 78 => ⟨S2x8192x8x8, .f32⟩
  | 79 => ⟨S1x8192x1x8, .f32⟩
  | 80 => ⟨S2x8192x8x8, .f32⟩
  | 81 => ⟨S2x8192x8x8, .f32⟩
  | 82 => ⟨S2x8192x8x8, .f32⟩
  | 83 => ⟨S1x8192x1x8, .f32⟩
  | 84 => ⟨S2x8192x8x8, .f32⟩
  | 85 => ⟨S2x8192x8x8, .f32⟩
  | 86 => ⟨S1x8192x1x8, .f32⟩
  | 87 => ⟨S2x8192x8x8, .f32⟩
  | 88 => ⟨S2x8192x8x8, .f32⟩
  | 89 => ⟨S2x8192x8x8, .f32⟩
  | 90 => ⟨S2x8192x8x48, .f32⟩
  | 91 => ⟨S2x8192x8x64, .f32⟩
  | 92 => ⟨S2x8192x1x64, .f32⟩
  | 93 => ⟨S8, .f32⟩
  | 94 => ⟨S_, .f32⟩
  | 95 => ⟨S8, .f32⟩
  | 96 => ⟨S8, .f32⟩
  | 97 => ⟨S_, .f32⟩
  | 98 => ⟨S8, .f32⟩
  | 99 => ⟨S8, .f32⟩
  | 100 => ⟨S_, .f32⟩
  | 101 => ⟨S8, .f32⟩
  | 102 => ⟨S8, .f32⟩
  | 103 => ⟨S8192, .f32⟩
  | 104 => ⟨S8192x1, .f32⟩
  | 105 => ⟨S1x8, .f32⟩
  | 106 => ⟨S8192x8, .f32⟩
  | 107 => ⟨S8192x8, .f32⟩
  | 108 => ⟨S8192x8, .f32⟩
  | 109 => ⟨S8192x8, .f32⟩
  | 110 => ⟨S8192x1x8, .f32⟩
  | 111 => ⟨S8192x8, .f32⟩
  | 112 => ⟨S8192x1x8, .f32⟩
  | 113 => ⟨S2x8192x1x8, .f32⟩
  | 114 => ⟨S2x8192x1x8, .f32⟩
  | 115 => ⟨S1x8192x1x8, .f32⟩
  | 116 => ⟨S2x8192x1x8, .f32⟩
  | 117 => ⟨S2x8192x1x8, .f32⟩
  | 118 => ⟨S1x8192x1x8, .f32⟩
  | 119 => ⟨S2x8192x1x8, .f32⟩
  | 120 => ⟨S2x8192x1x8, .f32⟩
  | 121 => ⟨S2x8192x1x8, .f32⟩
  | 122 => ⟨S1x8192x1x8, .f32⟩
  | 123 => ⟨S2x8192x1x8, .f32⟩
  | 124 => ⟨S2x8192x1x8, .f32⟩
  | 125 => ⟨S1x8192x1x8, .f32⟩
  | 126 => ⟨S2x8192x1x8, .f32⟩
  | 127 => ⟨S2x8192x1x8, .f32⟩
  | _ => ⟨S2x8192x1024, .f32⟩

abbrev hbmTy0_1 (i : Nat) : BufTy := match i % 128 with
  | 0 => ⟨S2x8192x1x8, .f32⟩
  | 1 => ⟨S2x8192x1x48, .f32⟩
  | 2 => ⟨S2x8192x1x64, .f32⟩
  | 3 => ⟨S2x8192x64, .f32⟩
  | 4 => ⟨S2x8192x8x64, .f32⟩
  | 5 => ⟨S2x8192x8x64, .f32⟩
  | 6 => ⟨S2x8192x8x64, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_call0_cst : Ref sig .tc := ⟨.hbm, 38, rfl⟩
abbrev main_call0_call0_v0 : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_v11 : Ref sig .tc := ⟨.hbm, 50, rfl⟩
abbrev main_call0_v1 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_2 : Ref sig .tc := ⟨.hbm, 55, rfl⟩
abbrev main_v33 : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_5 : Ref sig .tc := ⟨.hbm, 94, rfl⟩
abbrev main_v69 : Ref sig .tc := ⟨.hbm, 95, rfl⟩
abbrev main_v70 : Ref sig .tc := ⟨.hbm, 96, rfl⟩
abbrev main_cst_6 : Ref sig .tc := ⟨.hbm, 97, rfl⟩
abbrev main_v71 : Ref sig .tc := ⟨.hbm, 98, rfl⟩
abbrev main_v72 : Ref sig .tc := ⟨.hbm, 99, rfl⟩
abbrev main_cst_7 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩

abbrev nD : Nat := 1
abbrev τ : Topo := Topo.v7x

variable {F : FTy → Type} [FloatOps F]
-- ==== Kernel7.lean ====
abbrev S128x8x1024 : Shape := ⟨3, ![128, 8, 1024]⟩
abbrev S1024 : Shape := ⟨1, ![1024]⟩
abbrev S1024x4688 : Shape := ⟨2, ![1024, 4688]⟩
abbrev S8 : Shape := ⟨1, ![8]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1024x1024 : Shape := ⟨2, ![1024, 1024]⟩
abbrev S1024x4736 : Shape := ⟨2, ![1024, 4736]⟩
abbrev S512x1024 : Shape := ⟨2, ![512, 1024]⟩
abbrev S1024x128 : Shape := ⟨2, ![1024, 128]⟩
abbrev S512x128 : Shape := ⟨2, ![512, 128]⟩
abbrev S128x8x4688 : Shape := ⟨3, ![128, 8, 4688]⟩
abbrev S128x8x512 : Shape := ⟨3, ![128, 8, 512]⟩
abbrev S128x8x8 : Shape := ⟨3, ![128, 8, 8]⟩
abbrev S128x8x64 : Shape := ⟨3, ![128, 8, 64]⟩
abbrev S1x1x8 : Shape := ⟨3, ![1, 1, 8]⟩
abbrev S128x8x8x64 : Shape := ⟨4, ![128, 8, 8, 64]⟩
abbrev S8x1 : Shape := ⟨2, ![8, 1]⟩
abbrev S1x8 : Shape := ⟨2, ![1, 8]⟩
abbrev S8x8 : Shape := ⟨2, ![8, 8]⟩
abbrev S8x1x8 : Shape := ⟨3, ![8, 1, 8]⟩
abbrev S128x8x8x8 : Shape := ⟨4, ![128, 8, 8, 8]⟩
abbrev S1x8x1x8 : Shape := ⟨4, ![1, 8, 1, 8]⟩
abbrev S128x8x8x48 : Shape := ⟨4, ![128, 8, 8, 48]⟩
abbrev S128x8x1x64 : Shape := ⟨4, ![128, 8, 1, 64]⟩
abbrev S128x8x1x8 : Shape := ⟨4, ![128, 8, 1, 8]⟩
abbrev S128x8x1x48 : Shape := ⟨4, ![128, 8, 1, 48]⟩

abbrev nBuf : Space → Nat
  | .hbm => 145
  | .vmem => 6
  | .smem => 0
  | _ => 0

abbrev hbmTy0_0 (i : Nat) : BufTy := match i % 128 with
  | 0 => ⟨S128x8x1024, .f32⟩
  | 1 => ⟨S1024, .f32⟩
  | 2 => ⟨S1024x4688, .f32⟩
  | 3 => ⟨S8, .f32⟩
  | 4 => ⟨S128x8x1024, .f32⟩
  | 5 => ⟨S_, .f32⟩
  | 6 => ⟨S128x8, .f32⟩
  | 7 => ⟨S128x8x1, .f32⟩
  | 8 => ⟨S_, .f32⟩
  | 9 => ⟨S128x8x1, .f32⟩
  | 10 => ⟨S128x8x1, .f32⟩
  | 11 => ⟨S_, .f32⟩
  | 12 => ⟨S128x8x1, .f32⟩
  | 13 => ⟨S128x8x1, .f32⟩
  | 14 => ⟨S128x8x1, .f32⟩
  | 15 => ⟨S128x8x1024, .f32⟩
  | 16 => ⟨S128x8x1024, .f32⟩
  | 17 => ⟨S1x1x1024, .f32⟩
  | 18 => ⟨S128x8x1024, .f32⟩
  | 19 => ⟨S128x8x1024, .f32⟩
  | 20 => ⟨S8, .i32⟩
  | 21 => ⟨S_, .i32⟩
  | 22 => ⟨S8, .i32⟩
  | 23 => ⟨S8, .i32⟩
  | 24 => ⟨S1024x1024, .f32⟩
  | 25 => ⟨S1024x4688, .bf16⟩
  | 26 => ⟨S_, .i32⟩
  | 27 => ⟨S_, .bf16⟩
  | 28 => ⟨S1024x4736, .bf16⟩
  | 29 => ⟨S1024x4736, .f32⟩
  | 30 => ⟨S1024x4688, .f32⟩
  | 31 => ⟨S128x8x4688, .f32⟩
  | 32 => ⟨S128x8x512, .f32⟩
  | 33 => ⟨S128x8x512, .f32⟩
  | 34 => ⟨S128x8x512, .f32⟩
  | 35 => ⟨S128x8x8, .f32⟩
  | 36 => ⟨S128x8x512, .f32⟩
  | 37 => ⟨S128x8x512, .f32⟩
  | 38 => ⟨S128x8x512, .f32⟩
  | 39 => ⟨S128x8x512, .f32⟩
  | 40 => ⟨S128x8x512, .f32⟩
  | 41 => ⟨S128x8x512, .f32⟩
  | 42 => ⟨S128x8x64, .f32⟩
  | 43 => ⟨S128x8x8, .f32⟩
  | 44 => ⟨S1x1x8, .f32⟩
  | 45 => ⟨S128x8x8, .f32⟩
  | 46 => ⟨S128x8x8, .f32⟩
  | 47 => ⟨S128x8x8, .f32⟩
  | 48 => ⟨S_, .f32⟩
  | 49 => ⟨S128x8x8, .f32⟩
  | 50 => ⟨S128x8x8, .f32⟩
  | 51 => ⟨S128x8x8, .f32⟩
  | 52 => ⟨S128x8x8, .f32⟩
  | 53 => ⟨S128x8x8, .i1⟩
  | 54 => ⟨S128x8x8, .f32⟩
  | 55 => ⟨S128x8x8, .f32⟩
  | 56 => ⟨S128x8x8, .f32⟩
  | 57 => ⟨S128x8x8, .f32⟩
  | 58 => ⟨S128x8x8, .f32⟩
  | 59 => ⟨S128x8x8, .f32⟩
  | 60 => ⟨S128x8x8, .f32⟩
  | 61 => ⟨S128x8x8, .f32⟩
  | 62 => ⟨S128x8x8, .f32⟩
  | 63 => ⟨S128x8x8x64, .f32⟩
  | 64 => ⟨S8, .f32⟩
  | 65 => ⟨S_, .f32⟩
  | 66 => ⟨S8, .f32⟩
  | 67 => ⟨S8, .f32⟩
  | 68 => ⟨S_, .f32⟩
  | 69 => ⟨S8, .f32⟩
  | 70 => ⟨S8, .f32⟩
  | 71 => ⟨S_, .f32⟩
  | 72 => ⟨S8, .f32⟩
  | 73 => ⟨S8, .f32⟩
  | 74 => ⟨S8, .f32⟩
  | 75 => ⟨S8x1, .f32⟩
  | 76 => ⟨S1x8, .f32⟩
  | 77 => ⟨S8x8, .f32⟩
  | 78 => ⟨S8x8, .f32⟩
  | 79 => ⟨S8x8, .f32⟩
  | 80 => ⟨S8x8, .f32⟩
  | 81 => ⟨S8x1x8, .f32⟩
  | 82 => ⟨S8x8, .f32⟩
  | 83 => ⟨S8x1x8, .f32⟩
  | 84 => ⟨S128x8x8x8, .f32⟩
  | 85 => ⟨S128x8x8x8, .f32⟩
  | 86 => ⟨S1x8x1x8, .f32⟩
  | 87 => ⟨S128x8x8x8, .f32⟩
  | 88 => ⟨S128x8x8x8, .f32⟩
  | 89 => ⟨S1x8x1x8, .f32⟩
  | 90 => ⟨S128x8x8x8, .f32⟩
  | 91 => ⟨S128x8x8x8, .f32⟩
  | 92 => ⟨S128x8x8x8, .f32⟩
  | 93 => ⟨S1x8x1x8, .f32⟩
  | 94 => ⟨S128x8x8x8, .f32⟩
  | 95 => ⟨S128x8x8x8, .f32⟩
  | 96 => ⟨S1x8x1x8, .f32⟩
  | 97 => ⟨S128x8x8x8, .f32⟩
  | 98 => ⟨S128x8x8x8, .f32⟩
  | 99 => ⟨S128x8x8x8, .f32⟩
  | 100 => ⟨S128x8x8x48, .f32⟩
  | 101 => ⟨S128x8x8x64, .f32⟩
  | 102 => ⟨S128x8x1x64, .f32⟩
  | 103 => ⟨S8, .f32⟩
  | 104 => ⟨S_, .f32⟩
  | 105 => ⟨S8, .f32⟩
  | 106 => ⟨S8, .f32⟩
  | 107 => ⟨S_, .f32⟩
  | 108 => ⟨S8, .f32⟩
  | 109 => ⟨S8, .f32⟩
  | 110 => ⟨S_, .f32⟩
  | 111 => ⟨S8, .f32⟩
  | 112 => ⟨S8, .f32⟩
  | 113 => ⟨S8, .f32⟩
  | 114 => ⟨S8x1, .f32⟩
  | 115 => ⟨S1x8, .f32⟩
  | 116 => ⟨S8x8, .f32⟩
  | 117 => ⟨S8x8, .f32⟩
  | 118 => ⟨S8x8, .f32⟩
  | 119 => ⟨S8x8, .f32⟩
  | 120 => ⟨S8x1x8, .f32⟩
  | 121 => ⟨S8x8, .f32⟩
  | 122 => ⟨S8x1x8, .f32⟩
  | 123 => ⟨S128x8x1x8, .f32⟩
  | 124 => ⟨S128x8x1x8, .f32⟩
  | 125 => ⟨S1x8x1x8, .f32⟩
  | 126 => ⟨S128x8x1x8, .f32⟩
  | 127 => ⟨S128x8x1x8, .f32⟩
  | _ => ⟨S128x8x1024, .f32⟩

abbrev hbmTy0_1 (i : Nat) : BufTy := match i % 128 with
  | 0 => ⟨S1x8x1x8, .f32⟩
  | 1 => ⟨S128x8x1x8, .f32⟩
  | 2 => ⟨S128x8x1x8, .f32⟩
  | 3 => ⟨S128x8x1x8, .f32⟩
  | 4 => ⟨S1x8x1x8, .f32⟩
  | 5 => ⟨S128x8x1x8, .f32⟩
  | 6 => ⟨S128x8x1x8, .f32⟩
  | 7 => ⟨S1x8x1x8, .f32⟩
  | 8 => ⟨S128x8x1x8, .f32⟩
  | 9 => ⟨S128x8x1x8, .f32⟩
  | 10 => ⟨S128x8x1x8, .f32⟩
  | 11 => ⟨S128x8x1x48, .f32⟩
  | 12 => ⟨S128x8x1x64, .f32⟩
  | 13 => ⟨S128x8x64, .f32⟩
  | 14 => ⟨S128x8x8x64, .f32⟩
  | 15 => ⟨S128x8x8x64, .f32⟩
  | 16 => ⟨S128x8x8x64, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S1024x128, .bf16⟩
  | .local _ .vmem, ⟨4, _⟩ => ⟨S512x128, .f32⟩
  | .local _ .vmem, ⟨5, _⟩ => ⟨S512x128, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_call1_v0 : Ref sig .tc := ⟨.hbm, 47, rfl⟩
abbrev main_call1_call0_cst : Ref sig .tc := ⟨.hbm, 48, rfl⟩
abbrev main_call1_call0_v0 : Ref sig .tc := ⟨.hbm, 49, rfl⟩
abbrev main_call1_call0_v1 : Ref sig .tc := ⟨.hbm, 50, rfl⟩
abbrev main_call1_call0_v2 : Ref sig .tc := ⟨.hbm, 51, rfl⟩
abbrev main_call1_call0_v3 : Ref sig .tc := ⟨.hbm, 52, rfl⟩
abbrev main_call1_call0_v4 : Ref sig .tc := ⟨.hbm, 53, rfl⟩
abbrev main_call1_call0_v5 : Ref sig .tc := ⟨.hbm, 54, rfl⟩
abbrev main_call1_call0_v6 : Ref sig .tc := ⟨.hbm, 55, rfl⟩
abbrev main_call1_call0_v7 : Ref sig .tc := ⟨.hbm, 56, rfl⟩
abbrev main_call1_call0_v8 : Ref sig .tc := ⟨.hbm, 57, rfl⟩
abbrev main_call1_call0_v9 : Ref sig .tc := ⟨.hbm, 58, rfl⟩
abbrev main_call1_call0_v10 : Ref sig .tc := ⟨.hbm, 59, rfl⟩
abbrev main_call1_call0_v11 : Ref sig .tc := ⟨.hbm, 60, rfl⟩
abbrev main_call1_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_3 : Ref sig .tc := ⟨.hbm, 65, rfl⟩
abbrev main_v40 : Ref sig .tc := ⟨.hbm, 66, rfl⟩
abbrev main_v41 : Ref sig .tc := ⟨.hbm, 67, rfl⟩
abbrev main_cst_4 : Ref sig .tc := ⟨.hbm, 68, rfl⟩
abbrev main_v42 : Ref sig .tc := ⟨.hbm, 69, rfl⟩
abbrev main_v43 : Ref sig .tc := ⟨.hbm, 70, rfl⟩
abbrev main_cst_5 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_6 : Ref sig .tc := ⟨.hbm, 104, rfl⟩
abbrev main_v76 : Ref sig .tc := ⟨.hbm, 105, rfl⟩
abbrev main_v77 : Ref sig .tc := ⟨.hbm, 106, rfl⟩
abbrev main_cst_7 : Ref sig .tc := ⟨.hbm, 107, rfl⟩
abbrev main_v78 : Ref sig .tc := ⟨.hbm, 108, rfl⟩
abbrev main_v79 : Ref sig .tc := ⟨.hbm, 109, rfl⟩
abbrev main_cst_8 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 37], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S128x8x1024 : Shape := ⟨3, ![128, 8, 1024]⟩
abbrev S1024 : Shape := ⟨1, ![1024]⟩
abbrev S1024x4688 : Shape := ⟨2, ![1024, 4688]⟩
abbrev S8 : Shape := ⟨1, ![8]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x4688 : Shape := ⟨3, ![128, 8, 4688]⟩
abbrev S128x8x512 : Shape := ⟨3, ![128, 8, 512]⟩
abbrev S128x8x8 : Shape := ⟨3, ![128, 8, 8]⟩
abbrev S128x8x64 : Shape := ⟨3, ![128, 8, 64]⟩
abbrev S1x1x8 : Shape := ⟨3, ![1, 1, 8]⟩
abbrev S128x8x8x64 : Shape := ⟨4, ![128, 8, 8, 64]⟩
abbrev S8x1 : Shape := ⟨2, ![8, 1]⟩
abbrev S1x8 : Shape := ⟨2, ![1, 8]⟩
abbrev S8x8 : Shape := ⟨2, ![8, 8]⟩
abbrev S8x1x8 : Shape := ⟨3, ![8, 1, 8]⟩
abbrev S128x8x8x8 : Shape := ⟨4, ![128, 8, 8, 8]⟩
abbrev S1x8x1x8 : Shape := ⟨4, ![1, 8, 1, 8]⟩
abbrev S128x8x8x48 : Shape := ⟨4, ![128, 8, 8, 48]⟩
abbrev S128x8x1x64 : Shape := ⟨4, ![128, 8, 1, 64]⟩
abbrev S128x8x1x8 : Shape := ⟨4, ![128, 8, 1, 8]⟩
abbrev S128x8x1x48 : Shape := ⟨4, ![128, 8, 1, 48]⟩

abbrev nBuf : Space → Nat
  | .hbm => 138
  | .vmem => 0
  | .smem => 0
  | _ => 0

abbrev hbmTy0_0 (i : Nat) : BufTy := match i % 128 with
  | 0 => ⟨S128x8x1024, .f32⟩
  | 1 => ⟨S1024, .f32⟩
  | 2 => ⟨S1024x4688, .f32⟩
  | 3 => ⟨S8, .f32⟩
  | 4 => ⟨S128x8x1024, .f32⟩
  | 5 => ⟨S_, .f32⟩
  | 6 => ⟨S128x8, .f32⟩
  | 7 => ⟨S128x8x1, .f32⟩
  | 8 => ⟨S_, .f32⟩
  | 9 => ⟨S128x8x1, .f32⟩
  | 10 => ⟨S128x8x1, .f32⟩
  | 11 => ⟨S_, .f32⟩
  | 12 => ⟨S128x8x1, .f32⟩
  | 13 => ⟨S128x8x1, .f32⟩
  | 14 => ⟨S128x8x1, .f32⟩
  | 15 => ⟨S128x8x1024, .f32⟩
  | 16 => ⟨S128x8x1024, .f32⟩
  | 17 => ⟨S1x1x1024, .f32⟩
  | 18 => ⟨S128x8x1024, .f32⟩
  | 19 => ⟨S128x8x1024, .f32⟩
  | 20 => ⟨S8, .i32⟩
  | 21 => ⟨S_, .i32⟩
  | 22 => ⟨S8, .i32⟩
  | 23 => ⟨S8, .i32⟩
  | 24 => ⟨S128x8x4688, .f32⟩
  | 25 => ⟨S128x8x512, .f32⟩
  | 26 => ⟨S128x8x512, .f32⟩
  | 27 => ⟨S128x8x512, .f32⟩
  | 28 => ⟨S128x8x8, .f32⟩
  | 29 => ⟨S128x8x512, .f32⟩
  | 30 => ⟨S128x8x512, .f32⟩
  | 31 => ⟨S128x8x512, .f32⟩
  | 32 => ⟨S128x8x512, .f32⟩
  | 33 => ⟨S128x8x512, .f32⟩
  | 34 => ⟨S128x8x512, .f32⟩
  | 35 => ⟨S128x8x64, .f32⟩
  | 36 => ⟨S128x8x8, .f32⟩
  | 37 => ⟨S1x1x8, .f32⟩
  | 38 => ⟨S128x8x8, .f32⟩
  | 39 => ⟨S128x8x8, .f32⟩
  | 40 => ⟨S128x8x8, .f32⟩
  | 41 => ⟨S_, .f32⟩
  | 42 => ⟨S128x8x8, .f32⟩
  | 43 => ⟨S128x8x8, .f32⟩
  | 44 => ⟨S128x8x8, .f32⟩
  | 45 => ⟨S128x8x8, .f32⟩
  | 46 => ⟨S128x8x8, .i1⟩
  | 47 => ⟨S128x8x8, .f32⟩
  | 48 => ⟨S128x8x8, .f32⟩
  | 49 => ⟨S128x8x8, .f32⟩
  | 50 => ⟨S128x8x8, .f32⟩
  | 51 => ⟨S128x8x8, .f32⟩
  | 52 => ⟨S128x8x8, .f32⟩
  | 53 => ⟨S128x8x8, .f32⟩
  | 54 => ⟨S128x8x8, .f32⟩
  | 55 => ⟨S128x8x8, .f32⟩
  | 56 => ⟨S128x8x8x64, .f32⟩
  | 57 => ⟨S8, .f32⟩
  | 58 => ⟨S_, .f32⟩
  | 59 => ⟨S8, .f32⟩
  | 60 => ⟨S8, .f32⟩
  | 61 => ⟨S_, .f32⟩
  | 62 => ⟨S8, .f32⟩
  | 63 => ⟨S8, .f32⟩
  | 64 => ⟨S_, .f32⟩
  | 65 => ⟨S8, .f32⟩
  | 66 => ⟨S8, .f32⟩
  | 67 => ⟨S8, .f32⟩
  | 68 => ⟨S8x1, .f32⟩
  | 69 => ⟨S1x8, .f32⟩
  | 70 => ⟨S8x8, .f32⟩
  | 71 => ⟨S8x8, .f32⟩
  | 72 => ⟨S8x8, .f32⟩
  | 73 => ⟨S8x8, .f32⟩
  | 74 => ⟨S8x1x8, .f32⟩
  | 75 => ⟨S8x8, .f32⟩
  | 76 => ⟨S8x1x8, .f32⟩
  | 77 => ⟨S128x8x8x8, .f32⟩
  | 78 => ⟨S128x8x8x8, .f32⟩
  | 79 => ⟨S1x8x1x8, .f32⟩
  | 80 => ⟨S128x8x8x8, .f32⟩
  | 81 => ⟨S128x8x8x8, .f32⟩
  | 82 => ⟨S1x8x1x8, .f32⟩
  | 83 => ⟨S128x8x8x8, .f32⟩
  | 84 => ⟨S128x8x8x8, .f32⟩
  | 85 => ⟨S128x8x8x8, .f32⟩
  | 86 => ⟨S1x8x1x8, .f32⟩
  | 87 => ⟨S128x8x8x8, .f32⟩
  | 88 => ⟨S128x8x8x8, .f32⟩
  | 89 => ⟨S1x8x1x8, .f32⟩
  | 90 => ⟨S128x8x8x8, .f32⟩
  | 91 => ⟨S128x8x8x8, .f32⟩
  | 92 => ⟨S128x8x8x8, .f32⟩
  | 93 => ⟨S128x8x8x48, .f32⟩
  | 94 => ⟨S128x8x8x64, .f32⟩
  | 95 => ⟨S128x8x1x64, .f32⟩
  | 96 => ⟨S8, .f32⟩
  | 97 => ⟨S_, .f32⟩
  | 98 => ⟨S8, .f32⟩
  | 99 => ⟨S8, .f32⟩
  | 100 => ⟨S_, .f32⟩
  | 101 => ⟨S8, .f32⟩
  | 102 => ⟨S8, .f32⟩
  | 103 => ⟨S_, .f32⟩
  | 104 => ⟨S8, .f32⟩
  | 105 => ⟨S8, .f32⟩
  | 106 => ⟨S8, .f32⟩
  | 107 => ⟨S8x1, .f32⟩
  | 108 => ⟨S1x8, .f32⟩
  | 109 => ⟨S8x8, .f32⟩
  | 110 => ⟨S8x8, .f32⟩
  | 111 => ⟨S8x8, .f32⟩
  | 112 => ⟨S8x8, .f32⟩
  | 113 => ⟨S8x1x8, .f32⟩
  | 114 => ⟨S8x8, .f32⟩
  | 115 => ⟨S8x1x8, .f32⟩
  | 116 => ⟨S128x8x1x8, .f32⟩
  | 117 => ⟨S128x8x1x8, .f32⟩
  | 118 => ⟨S1x8x1x8, .f32⟩
  | 119 => ⟨S128x8x1x8, .f32⟩
  | 120 => ⟨S128x8x1x8, .f32⟩
  | 121 => ⟨S1x8x1x8, .f32⟩
  | 122 => ⟨S128x8x1x8, .f32⟩
  | 123 => ⟨S128x8x1x8, .f32⟩
  | 124 => ⟨S128x8x1x8, .f32⟩
  | 125 => ⟨S1x8x1x8, .f32⟩
  | 126 => ⟨S128x8x1x8, .f32⟩
  | 127 => ⟨S128x8x1x8, .f32⟩
  | _ => ⟨S128x8x1024, .f32⟩

abbrev hbmTy0_1 (i : Nat) : BufTy := match i % 128 with
  | 0 => ⟨S1x8x1x8, .f32⟩
  | 1 => ⟨S128x8x1x8, .f32⟩
  | 2 => ⟨S128x8x1x8, .f32⟩
  | 3 => ⟨S128x8x1x8, .f32⟩
  | 4 => ⟨S128x8x1x48, .f32⟩
  | 5 => ⟨S128x8x1x64, .f32⟩
  | 6 => ⟨S128x8x64, .f32⟩
  | 7 => ⟨S128x8x8x64, .f32⟩
  | 8 => ⟨S128x8x8x64, .f32⟩
  | 9 => ⟨S128x8x8x64, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call0_v0 : Ref sig .tc := ⟨.hbm, 40, rfl⟩
abbrev main_call0_call0_cst : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_v1 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_2 : Ref sig .tc := ⟨.hbm, 58, rfl⟩
abbrev main_v35 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_v38 : Ref sig .tc := ⟨.hbm, 63, rfl⟩
abbrev main_cst_4 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_5 : Ref sig .tc := ⟨.hbm, 97, rfl⟩
abbrev main_v71 : Ref sig .tc := ⟨.hbm, 98, rfl⟩
abbrev main_v72 : Ref sig .tc := ⟨.hbm, 99, rfl⟩
abbrev main_cst_6 : Ref sig .tc := ⟨.hbm, 100, rfl⟩
abbrev main_v73 : Ref sig .tc := ⟨.hbm, 101, rfl⟩
abbrev main_v74 : Ref sig .tc := ⟨.hbm, 102, rfl⟩
abbrev main_cst_7 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩

abbrev nD : Nat := 1
abbrev τ : Topo := Topo.v7x

variable {F : FTy → Type} [FloatOps F]
-- ==== Kernel8.lean ====
abbrev S128x16x64x64 : Shape := ⟨4, ![128, 16, 64, 64]⟩
abbrev S128x8x16x64 : Shape := ⟨4, ![128, 8, 16, 64]⟩
abbrev S128x16x8x64 : Shape := ⟨4, ![128, 16, 8, 64]⟩
abbrev S1x8x8x64 : Shape := ⟨4, ![1, 8, 8, 64]⟩
abbrev S1x8x64x64 : Shape := ⟨4, ![1, 8, 64, 64]⟩
abbrev S8x64x64 : Shape := ⟨3, ![8, 64, 64]⟩
abbrev S64x64 : Shape := ⟨2, ![64, 64]⟩
abbrev S1x64x64 : Shape := ⟨3, ![1, 64, 64]⟩
abbrev S1x1x1x64 : Shape := ⟨4, ![1, 1, 1, 64]⟩
abbrev S1x64 : Shape := ⟨2, ![1, 64]⟩
abbrev S64 : Shape := ⟨1, ![64]⟩
abbrev S64x1 : Shape := ⟨2, ![64, 1]⟩

abbrev nBuf : Space → Nat
  | .hbm => 17
  | .vmem => 19
  | .smem => 0
  | _ => 0

abbrev bufTy : (tb : Table) → Fin (tcTables nBuf tb) → BufTy
  | .hbm, ⟨0, _⟩ => ⟨S128x16x64x64, .f32⟩
  | .hbm, ⟨1, _⟩ => ⟨S128x8x16x64, .f32⟩
  | .hbm, ⟨2, _⟩ => ⟨S128x8x16x64, .f32⟩
  | .hbm, ⟨3, _⟩ => ⟨S128x8x16x64, .f32⟩
  | .hbm, ⟨4, _⟩ => ⟨S128x8x16x64, .f32⟩
  | .hbm, ⟨5, _⟩ => ⟨S128x8x16x64, .f32⟩
  | .hbm, ⟨6, _⟩ => ⟨S128x8x16x64, .f32⟩
  | .hbm, ⟨7, _⟩ => ⟨S128x16x8x64, .f32⟩
  | .hbm, ⟨8, _⟩ => ⟨S128x16x8x64, .f32⟩
  | .hbm, ⟨9, _⟩ => ⟨S128x16x8x64, .f32⟩
  | .hbm, ⟨10, _⟩ => ⟨S128x16x8x64, .f32⟩
  | .hbm, ⟨11, _⟩ => ⟨S128x8x16x64, .f32⟩
  | .hbm, ⟨12, _⟩ => ⟨S128x16x8x64, .f32⟩
  | .hbm, ⟨13, _⟩ => ⟨S128x8x16x64, .f32⟩
  | .hbm, ⟨14, _⟩ => ⟨S128x16x8x64, .f32⟩
  | .hbm, ⟨15, _⟩ => ⟨S128x16x8x64, .f32⟩
  | .hbm, ⟨16, _⟩ => ⟨S128x16x64x64, .f32⟩
  | .local _ .vmem, ⟨0, _⟩ => ⟨S1x8x8x64, .f32⟩
  | .local _ .vmem, ⟨1, _⟩ => ⟨S1x8x8x64, .f32⟩
  | .local _ .vmem, ⟨2, _⟩ => ⟨S1x8x8x64, .f32⟩
  | .local _ .vmem, ⟨3, _⟩ => ⟨S1x8x8x64, .f32⟩
  | .local _ .vmem, ⟨4, _⟩ => ⟨S1x8x8x64, .f32⟩
  | .local _ .vmem, ⟨5, _⟩ => ⟨S1x8x8x64, .f32⟩
  | .local _ .vmem, ⟨6, _⟩ => ⟨S1x8x8x64, .f32⟩
  | .local _ .vmem, ⟨7, _⟩ => ⟨S1x8x8x64, .f32⟩
  | .local _ .vmem, ⟨8, _⟩ => ⟨S1x8x8x64, .f32⟩
  | .local _ .vmem, ⟨9, _⟩ => ⟨S1x8x8x64, .f32⟩
  | .local _ .vmem, ⟨10, _⟩ => ⟨S1x8x8x64, .f32⟩
  | .local _ .vmem, ⟨11, _⟩ => ⟨S1x8x8x64, .f32⟩
  | .local _ .vmem, ⟨12, _⟩ => ⟨S1x8x64x64, .f32⟩
  | .local _ .vmem, ⟨13, _⟩ => ⟨S1x8x64x64, .f32⟩
  | .local _ .vmem, ⟨14, _⟩ => ⟨S1x8x8x64, .f32⟩
  | .local _ .vmem, ⟨15, _⟩ => ⟨S1x8x8x64, .f32⟩
  | .local _ .vmem, ⟨16, _⟩ => ⟨S1x8x64x64, .f32⟩
  | .local _ .vmem, ⟨17, _⟩ => ⟨S1x8x64x64, .f32⟩
  | .local _ .vmem, ⟨18, _⟩ => ⟨S8x64x64, .f32⟩
  | _, _ => ⟨S128x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![128, 2, 1], ![false, false, false]⟩

@[reducible] def k0_t1_loop : Scf.Loop 32 :=
  let c0_i32_1 : BitVec 32 := 0#32
  let c8_i32 : BitVec 32 := 8#32
  let v8 : BitVec 32 := Scalar.addi c0_i32_1 c8_i32
  let c1_i32 : BitVec 32 := 1#32
  ⟨c0_i32_1, v8, c1_i32⟩
def k0_off1 (k0_t1 : Fin k0_t1_loop.trips) : Fin 4 → Nat :=
  let c0_7 : Index := 0#32
  let c0_8 : Index := 0#32
  let c0_i32_1 : BitVec 32 := 0#32
  let c1_i32 : BitVec 32 := 1#32
  let arg13 : BitVec 32 := Scf.iv c0_i32_1 c1_i32 k0_t1
  let v14 : Index := Scalar.indexCast arg13
  let c0_9 : Index := 0#32
  ![0, 0, v14.toNat, 0]
def k0_off2 (k0_t1 : Fin k0_t1_loop.trips) : Fin 4 → Nat :=
  let c0_36 : Index := 0#32
  let c1_37 : Index := 1#32
  let c0_i32_1 : BitVec 32 := 0#32
  let c1_i32 : BitVec 32 := 1#32
  let arg13 : BitVec 32 := Scf.iv c0_i32_1 c1_i32 k0_t1
  let v67 : Index := Scalar.indexCast arg13
  let c0_38 : Index := 0#32
  ![0, 1, v67.toNat, 0]
def k0_off3 (k0_t1 : Fin k0_t1_loop.trips) : Fin 4 → Nat :=
  let c0_66 : Index := 0#32
  let c2_67 : Index := 2#32
  let c0_i32_1 : BitVec 32 := 0#32
  let c1_i32 : BitVec 32 := 1#32
  let arg13 : BitVec 32 := Scf.iv c0_i32_1 c1_i32 k0_t1
  let v120 : Index := Scalar.indexCast arg13
  let c0_68 : Index := 0#32
  ![0, 2, v120.toNat, 0]
def k0_off4 (k0_t1 : Fin k0_t1_loop.trips) : Fin 4 → Nat :=
  let c0_96 : Index := 0#32
  let c3_97 : Index := 3#32
  let c0_i32_1 : BitVec 32 := 0#32
  let c1_i32 : BitVec 32 := 1#32
  let arg13 : BitVec 32 := Scf.iv c0_i32_1 c1_i32 k0_t1
  let v173 : Index := Scalar.indexCast arg13
  let c0_98 : Index := 0#32
  ![0, 3, v173.toNat, 0]
def k0_off5 (k0_t1 : Fin k0_t1_loop.trips) : Fin 4 → Nat :=
  let c0_126 : Index := 0#32
  let c4_127 : Index := 4#32
  let c0_i32_1 : BitVec 32 := 0#32
  let c1_i32 : BitVec 32 := 1#32
  let arg13 : BitVec 32 := Scf.iv c0_i32_1 c1_i32 k0_t1
  let v226 : Index := Scalar.indexCast arg13
  let c0_128 : Index := 0#32
  ![0, 4, v226.toNat, 0]
def k0_off6 (k0_t1 : Fin k0_t1_loop.trips) : Fin 4 → Nat :=
  let c0_156 : Index := 0#32
  let c5_157 : Index := 5#32
  let c0_i32_1 : BitVec 32 := 0#32
  let c1_i32 : BitVec 32 := 1#32
  let arg13 : BitVec 32 := Scf.iv c0_i32_1 c1_i32 k0_t1
  let v279 : Index := Scalar.indexCast arg13
  let c0_158 : Index := 0#32
  ![0, 5, v279.toNat, 0]
def k0_off7 (k0_t1 : Fin k0_t1_loop.trips) : Fin 4 → Nat :=
  let c0_186 : Index := 0#32
  let c6_187 : Index := 6#32
  let c0_i32_1 : BitVec 32 := 0#32
  let c1_i32 : BitVec 32 := 1#32
  let arg13 : BitVec 32 := Scf.iv c0_i32_1 c1_i32 k0_t1
  let v332 : Index := Scalar.indexCast arg13
  let c0_188 : Index := 0#32
  ![0, 6, v332.toNat, 0]
def k0_off8 (k0_t1 : Fin k0_t1_loop.trips) : Fin 4 → Nat :=
  let c0_216 : Index := 0#32
  let c7_217 : Index := 7#32
  let c0_i32_1 : BitVec 32 := 0#32
  let c1_i32 : BitVec 32 := 1#32
  let arg13 : BitVec 32 := Scf.iv c0_i32_1 c1_i32 k0_t1
  let v385 : Index := Scalar.indexCast arg13
  let c0_218 : Index := 0#32
  ![0, 7, v385.toNat, 0]
def k0_cond2 (i : grid0.Coords) : BitVec 1 :=
  let arg2 : BitVec 32 := BitVec.ofNat 32 (i 2).val
  let c0_i32_3 : BitVec 32 := 0#32
  let v9 : BitVec 1 := Scalar.cmpi .eq arg2 c0_i32_3
  let v10 : BitVec 32 := Scalar.extui v9
  let c0_i32_4 : BitVec 32 := 0#32
  let v11 : BitVec 1 := Scalar.cmpi .ne v10 c0_i32_4
  v11

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x8x8x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x8x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference8Ideal.lean ====
abbrev S128x16x64x64 : Shape := ⟨4, ![128, 16, 64, 64]⟩
abbrev S128x8x16x64 : Shape := ⟨4, ![128, 8, 16, 64]⟩
abbrev S8x128x16x64 : Shape := ⟨4, ![8, 128, 16, 64]⟩
abbrev S_ : Shape := ⟨0, ![]⟩
abbrev S1x128x16x64 : Shape := ⟨4, ![1, 128, 16, 64]⟩
abbrev S128x16x64 : Shape := ⟨3, ![128, 16, 64]⟩
abbrev S128x16x1x64 : Shape := ⟨4, ![128, 16, 1, 64]⟩
abbrev S128x16x64x1 : Shape := ⟨4, ![128, 16, 64, 1]⟩
abbrev S128x16x8x64 : Shape := ⟨4, ![128, 16, 8, 64]⟩

abbrev nBuf : Space → Nat
  | .hbm => 84
  | .vmem => 0
  | .smem => 0
  | _ => 0

abbrev bufTy : (tb : Table) → Fin (tcTables nBuf tb) → BufTy
  | .hbm, ⟨0, _⟩ => ⟨S128x16x64x64, .f32⟩
  | .hbm, ⟨1, _⟩ => ⟨S128x8x16x64, .f32⟩
  | .hbm, ⟨2, _⟩ => ⟨S128x8x16x64, .f32⟩
  | .hbm, ⟨3, _⟩ => ⟨S128x8x16x64, .f32⟩
  | .hbm, ⟨4, _⟩ => ⟨S128x8x16x64, .f32⟩
  | .hbm, ⟨5, _⟩ => ⟨S128x8x16x64, .f32⟩
  | .hbm, ⟨6, _⟩ => ⟨S128x8x16x64, .f32⟩
  | .hbm, ⟨7, _⟩ => ⟨S8x128x16x64, .f32⟩
  | .hbm, ⟨8, _⟩ => ⟨S8x128x16x64, .f32⟩
  | .hbm, ⟨9, _⟩ => ⟨S8x128x16x64, .f32⟩
  | .hbm, ⟨10, _⟩ => ⟨S8x128x16x64, .f32⟩
  | .hbm, ⟨11, _⟩ => ⟨S8x128x16x64, .f32⟩
  | .hbm, ⟨12, _⟩ => ⟨S8x128x16x64, .f32⟩
  | .hbm, ⟨13, _⟩ => ⟨S_, .f32⟩
  | .hbm, ⟨14, _⟩ => ⟨S8x128x16x64, .f32⟩
  | .hbm, ⟨15, _⟩ => ⟨S_, .i32⟩
  | .hbm, ⟨16, _⟩ => ⟨S8x128x16x64, .f32⟩
  | .hbm, ⟨17, _⟩ => ⟨S8x128x16x64, .f32⟩
  | .hbm, ⟨18, _⟩ => ⟨S8x128x16x64, .f32⟩
  | .hbm, ⟨19, _⟩ => ⟨S8x128x16x64, .f32⟩
  | .hbm, ⟨20, _⟩ => ⟨S8x128x16x64, .f32⟩
  | .hbm, ⟨21, _⟩ => ⟨S8x128x16x64, .f32⟩
  | .hbm, ⟨22, _⟩ => ⟨S_, .i32⟩
  | .hbm, ⟨23, _⟩ => ⟨S128x16x64x64, .f32⟩
  | .hbm, ⟨24, _⟩ => ⟨S8x128x16x64, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x128x16x64, .f32⟩
  | .hbm, ⟨31, _⟩ => ⟨S128x16x64, .f32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1x128x16x64, .f32⟩
  | .hbm, ⟨36, _⟩ => ⟨S128x16x64, .f32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1x128x16x64, .f32⟩
  | .hbm, ⟨41, _⟩ => ⟨S128x16x64, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1x128x16x64, .f32⟩
  | .hbm, ⟨46, _⟩ => ⟨S128x16x64, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x128x16x64, .f32⟩
  | .hbm, ⟨51, _⟩ => ⟨S128x16x64, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x128x16x64, .f32⟩
  | .hbm, ⟨56, _⟩ => ⟨S128x16x64, .f32⟩
  | .hbm, ⟨57, _⟩ => ⟨S128x16x64, .f32⟩
  | .hbm, ⟨58, _⟩ => ⟨S128x16x64, .f32⟩
  | .hbm, ⟨59, _⟩ => ⟨S128x16x1x64, .f32⟩
  | .hbm, ⟨60, _⟩ => ⟨S128x16x64x64, .f32⟩
  | .hbm, ⟨61, _⟩ => ⟨S128x16x64x64, .f32⟩
  | .hbm, ⟨62, _⟩ => ⟨S128x16x64x1, .f32⟩
  | .hbm, ⟨63, _⟩ => ⟨S128x16x64, .f32⟩
  | .hbm, ⟨64, _⟩ => ⟨S128x16x1x64, .f32⟩
  | .hbm, ⟨65, _⟩ => ⟨S128x16x64x64, .f32⟩
  | .hbm, ⟨66, _⟩ => ⟨S128x16x64x64, .f32⟩
  | .hbm, ⟨67, _⟩ => ⟨S128x16x64x64, .f32⟩
  | .hbm, ⟨68, _⟩ => ⟨S128x16x64x64, .f32⟩
  | .hbm, ⟨69, _⟩ => ⟨S128x16x64x1, .f32⟩
  | .hbm, ⟨70, _⟩ => ⟨S128x16x1x64, .f32⟩
  | .hbm, ⟨71, _⟩ => ⟨S128x16x64x64, .f32⟩
  | .hbm, ⟨72, _⟩ => ⟨S128x16x64x64, .f32⟩
  | .hbm, ⟨73, _⟩ => ⟨S128x16x64x64, .f32⟩
  | .hbm, ⟨74, _⟩ => ⟨S128x16x64x64, .f32⟩
  | .hbm, ⟨75, _⟩ => ⟨S128x16x64, .f32⟩
  | .hbm, ⟨76, _⟩ => ⟨S1x128x16x64, .f32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S8x128x16x64, .f32⟩
  | .hbm, ⟨81, _⟩ => ⟨S_, .i32⟩
  | .hbm, ⟨82, _⟩ => ⟨S_, .i32⟩
  | .hbm, ⟨83, _⟩ => ⟨S128x16x8x64, .f32⟩
  | _, _ => ⟨S128x16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_c : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_v7_6 : Ref sig .tc := ⟨.hbm, 22, rfl⟩
abbrev main_v7_7 : Ref sig .tc := ⟨.hbm, 23, rfl⟩
abbrev main_v7_8 : Ref sig .tc := ⟨.hbm, 24, rfl⟩
abbrev main_while0c_c_8 : Ref sig .tc := ⟨.hbm, 25, rfl⟩
abbrev main_while0c_v9 : Ref sig .tc := ⟨.hbm, 26, rfl⟩
abbrev main_while0b_call0_c : Ref sig .tc := ⟨.hbm, 27, rfl⟩
abbrev main_while0b_call0_c_0 : Ref sig .tc := ⟨.hbm, 28, rfl⟩
abbrev main_while0b_call0_c_1 : Ref sig .tc := ⟨.hbm, 29, rfl⟩
abbrev main_while0b_call0_v0 : Ref sig .tc := ⟨.hbm, 30, rfl⟩
abbrev main_while0b_v9 : Ref sig .tc := ⟨.hbm, 31, rfl⟩
abbrev main_while0b_call1_c : Ref sig .tc := ⟨.hbm, 32, rfl⟩
abbrev main_while0b_call1_c_0 : Ref sig .tc := ⟨.hbm, 33, rfl⟩
abbrev main_while0b_call1_c_1 : Ref sig .tc := ⟨.hbm, 34, rfl⟩
abbrev main_while0b_call1_v0 : Ref sig .tc := ⟨.hbm, 35, rfl⟩
abbrev main_while0b_v10 : Ref sig .tc := ⟨.hbm, 36, rfl⟩
abbrev main_while0b_call2_c : Ref sig .tc := ⟨.hbm, 37, rfl⟩
abbrev main_while0b_call2_c_0 : Ref sig .tc := ⟨.hbm, 38, rfl⟩
abbrev main_while0b_call2_c_1 : Ref sig .tc := ⟨.hbm, 39, rfl⟩
abbrev main_while0b_call2_v0 : Ref sig .tc := ⟨.hbm, 40, rfl⟩
abbrev main_while0b_v11 : Ref sig .tc := ⟨.hbm, 41, rfl⟩
abbrev main_while0b_call3_c : Ref sig .tc := ⟨.hbm, 42, rfl⟩
abbrev main_while0b_call3_c_0 : Ref sig .tc := ⟨.hbm, 43, rfl⟩
abbrev main_while0b_call3_c_1 : Ref sig .tc := ⟨.hbm, 44, rfl⟩
abbrev main_while0b_call3_v0 : Ref sig .tc := ⟨.hbm, 45, rfl⟩
abbrev main_while0b_v12 : Ref sig .tc := ⟨.hbm, 46, rfl⟩
abbrev main_while0b_call4_c : Ref sig .tc := ⟨.hbm, 47, rfl⟩
abbrev main_while0b_call4_c_0 : Ref sig .tc := ⟨.hbm, 48, rfl⟩
abbrev main_while0b_call4_c_1 : Ref sig .tc := ⟨.hbm, 49, rfl⟩
abbrev main_while0b_call4_v0 : Ref sig .tc := ⟨.hbm, 50, rfl⟩
abbrev main_while0b_v13 : Ref sig .tc := ⟨.hbm, 51, rfl⟩
abbrev main_while0b_call5_c : Ref sig .tc := ⟨.hbm, 52, rfl⟩
abbrev main_while0b_call5_c_0 : Ref sig .tc := ⟨.hbm, 53, rfl⟩
abbrev main_while0b_call5_c_1 : Ref sig .tc := ⟨.hbm, 54, rfl⟩
abbrev main_while0b_call5_v0 : Ref sig .tc := ⟨.hbm, 55, rfl⟩
abbrev main_while0b_v14 : Ref sig .tc := ⟨.hbm, 56, rfl⟩
abbrev main_while0b_v15 : Ref sig .tc := ⟨.hbm, 57, rfl⟩
abbrev main_while0b_v16 : Ref sig .tc := ⟨.hbm, 58, rfl⟩
abbrev main_while0b_v17 : Ref sig .tc := ⟨.hbm, 59, rfl⟩
abbrev main_while0b_v18 : Ref sig .tc := ⟨.hbm, 60, rfl⟩
abbrev main_while0b_v19 : Ref sig .tc := ⟨.hbm, 61, rfl⟩
abbrev main_while0b_v20 : Ref sig .tc := ⟨.hbm, 62, rfl⟩
abbrev main_while0b_v21 : Ref sig .tc := ⟨.hbm, 63, rfl⟩
abbrev main_while0b_v22 : Ref sig .tc := ⟨.hbm, 64, rfl⟩
abbrev main_while0b_v23 : Ref sig .tc := ⟨.hbm, 65, rfl⟩
abbrev main_while0b_v24 : Ref sig .tc := ⟨.hbm, 66, rfl⟩
abbrev main_while0b_v25 : Ref sig .tc := ⟨.hbm, 67, rfl⟩
abbrev main_while0b_v26 : Ref sig .tc := ⟨.hbm, 68, rfl⟩
abbrev main_while0b_v27 : Ref sig .tc := ⟨.hbm, 69, rfl⟩
abbrev main_while0b_v28 : Ref sig .tc := ⟨.hbm, 70, rfl⟩
abbrev main_while0b_v29 : Ref sig .tc := ⟨.hbm, 71, rfl⟩
abbrev main_while0b_v30 : Ref sig .tc := ⟨.hbm, 72, rfl⟩
abbrev main_while0b_v31 : Ref sig .tc := ⟨.hbm, 73, rfl⟩
abbrev main_while0b_v32 : Ref sig .tc := ⟨.hbm, 74, rfl⟩
abbrev main_while0b_v33 : Ref sig .tc := ⟨.hbm, 75, rfl⟩
abbrev main_while0b_call6_v0 : Ref sig .tc := ⟨.hbm, 76, rfl⟩
abbrev main_while0b_call6_c : Ref sig .tc := ⟨.hbm, 77, rfl⟩
abbrev main_while0b_call6_c_0 : Ref sig .tc := ⟨.hbm, 78, rfl⟩
abbrev main_while0b_call6_c_1 : Ref sig .tc := ⟨.hbm, 79, rfl⟩
abbrev main_while0b_v34 : Ref sig .tc := ⟨.hbm, 80, rfl⟩
abbrev main_while0b_c_8 : Ref sig .tc := ⟨.hbm, 81, rfl⟩
abbrev main_while0b_v35 : Ref sig .tc := ⟨.hbm, 82, rfl⟩
abbrev main_v8 : Ref sig .tc := ⟨.hbm, 83, rfl⟩

abbrev nD : Nat := 1
abbrev τ : Topo := Topo.v7x

variable {F : FTy → Type} [FloatOps F]

abbrev main_while0_count : Scf.Loop 32 := ⟨0#32, 8#32, 1#32⟩
-- ==== Kernel9.lean ====
abbrev S2x8192x1024 : Shape := ⟨3, ![2, 8192, 1024]⟩
abbrev S2x1024 : Shape := ⟨2, ![2, 1024]⟩
abbrev S1024 : Shape := ⟨1, ![1024]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8191x1024 : Shape := ⟨3, ![2, 8191, 1024]⟩
abbrev S16384x1024 : Shape := ⟨2, ![16384, 1024]⟩
abbrev S512x1024 : Shape := ⟨2, ![512, 1024]⟩

abbrev nBuf : Space → Nat
  | .hbm => 35
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x1x1024, .f32⟩
  | .hbm, ⟨22, _⟩ => ⟨S2x8191x1024, .f32⟩
  | .hbm, ⟨23, _⟩ => ⟨S2x8192x1024, .f32⟩
  | .hbm, ⟨24, _⟩ => ⟨S2x8192x1024, .f32⟩
  | .hbm, ⟨25, _⟩ => ⟨S1x1x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S16384x1024, .f32⟩
  | .hbm, ⟨30, _⟩ => ⟨S1024x1024, .bf16⟩
  | .hbm, ⟨31, _⟩ => ⟨S16384x1024, .f32⟩
  | .hbm, ⟨32, _⟩ => ⟨S2x8192x1024, .f32⟩
  | .hbm, ⟨33, _⟩ => ⟨S2x1x1024, .f32⟩
  | .hbm, ⟨34, _⟩ => ⟨S2x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel9Ideal.lean ====
abbrev S2x8192x1024 : Shape := ⟨3, ![2, 8192, 1024]⟩
abbrev S2x1024 : Shape := ⟨2, ![2, 1024]⟩
abbrev S1024 : Shape := ⟨1, ![1024]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8191x1024 : Shape := ⟨3, ![2, 8191, 1024]⟩
abbrev S16384x1024 : Shape := ⟨2, ![16384, 1024]⟩
abbrev S512x1024 : Shape := ⟨2, ![512, 1024]⟩

abbrev nBuf : Space → Nat
  | .hbm => 35
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x1x1024, .f32⟩
  | .hbm, ⟨22, _⟩ => ⟨S2x8191x1024, .f32⟩
  | .hbm, ⟨23, _⟩ => ⟨S2x8192x1024, .f32⟩
  | .hbm, ⟨24, _⟩ => ⟨S2x8192x1024, .f32⟩
  | .hbm, ⟨25, _⟩ => ⟨S1x1x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S16384x1024, .f32⟩
  | .hbm, ⟨30, _⟩ => ⟨S1024x1024, .bf16⟩
  | .hbm, ⟨31, _⟩ => ⟨S16384x1024, .f32⟩
  | .hbm, ⟨32, _⟩ => ⟨S2x8192x1024, .f32⟩
  | .hbm, ⟨33, _⟩ => ⟨S2x1x1024, .f32⟩
  | .hbm, ⟨34, _⟩ => ⟨S2x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2x8192x1024 : Shape := ⟨3, ![2, 8192, 1024]⟩
abbrev S2x1024 : Shape := ⟨2, ![2, 1024]⟩
abbrev S1024 : Shape := ⟨1, ![1024]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8191x1024 : Shape := ⟨3, ![2, 8191, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x1x1024, .f32⟩
  | .hbm, ⟨22, _⟩ => ⟨S2x8191x1024, .f32⟩
  | .hbm, ⟨23, _⟩ => ⟨S2x8192x1024, .f32⟩
  | .hbm, ⟨24, _⟩ => ⟨S2x8192x1024, .f32⟩
  | .hbm, ⟨25, _⟩ => ⟨S1x1x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x1x1024, .f32⟩
  | .hbm, ⟨31, _⟩ => ⟨S2x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel10.lean ====
abbrev S128x8x1024 : Shape := ⟨3, ![128, 8, 1024]⟩
abbrev S128x1024 : Shape := ⟨2, ![128, 1024]⟩
abbrev S1024 : Shape := ⟨1, ![1024]⟩
abbrev S1024x1024 : Shape := ⟨2, ![1024, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x1x1024 : Shape := ⟨3, ![128, 1, 1024]⟩
abbrev S128x7x1024 : Shape := ⟨3, ![128, 7, 1024]⟩
abbrev S512x1024 : Shape := ⟨2, ![512, 1024]⟩

abbrev nBuf : Space → Nat
  | .hbm => 35
  | .vmem => 5
  | .smem => 0
  | _ => 0

abbrev bufTy : (tb : Table) → Fin (tcTables nBuf tb) → BufTy
  | .hbm, ⟨0, _⟩ => ⟨S128x8x1024, .f32⟩
  | .hbm, ⟨1, _⟩ => ⟨S128x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S128x8x1024, .f32⟩
  | .hbm, ⟨6, _⟩ => ⟨S_, .f32⟩
  | .hbm, ⟨7, _⟩ => ⟨S128x8, .f32⟩
  | .hbm, ⟨8, _⟩ => ⟨S128x8x1, .f32⟩
  | .hbm, ⟨9, _⟩ => ⟨S_, .f32⟩
  | .hbm, ⟨10, _⟩ => ⟨S128x8x1, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S128x8x1, .f32⟩
  | .hbm, ⟨16, _⟩ => ⟨S128x8x1024, .f32⟩
  | .hbm, ⟨17, _⟩ => ⟨S128x8x1024, .f32⟩
  | .hbm, ⟨18, _⟩ => ⟨S1x1x1024, .f32⟩
  | .hbm, ⟨19, _⟩ => ⟨S128x8x1024, .f32⟩
  | .hbm, ⟨20, _⟩ => ⟨S128x8x1024, .f32⟩
  | .hbm, ⟨21, _⟩ => ⟨S128x1x1024, .f32⟩
  | .hbm, ⟨22, _⟩ => ⟨S128x7x1024, .f32⟩
  | .hbm, ⟨23, _⟩ => ⟨S128x8x1024, .f32⟩
  | .hbm, ⟨24, _⟩ => ⟨S128x8x1024, .f32⟩
  | .hbm, ⟨25, _⟩ => ⟨S1x1x1024, .f32⟩
  | .hbm, ⟨26, _⟩ => ⟨S128x8x1024, .f32⟩
  | .hbm, ⟨27, _⟩ => ⟨S128x8x1024, .f32⟩
  | .hbm, ⟨28, _⟩ => ⟨S128x8x1024, .f32⟩
  | .hbm, ⟨29, _⟩ => ⟨S1024x1024, .f32⟩
  | .hbm, ⟨30, _⟩ => ⟨S1024x1024, .bf16⟩
  | .hbm, ⟨31, _⟩ => ⟨S1024x1024, .f32⟩
  | .hbm, ⟨32, _⟩ => ⟨S128x8x1024, .f32⟩
  | .hbm, ⟨33, _⟩ => ⟨S128x1x1024, .f32⟩
  | .hbm, ⟨34, _⟩ => ⟨S128x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S128x8x1024 : Shape := ⟨3, ![128, 8, 1024]⟩
abbrev S128x1024 : Shape := ⟨2, ![128, 1024]⟩
abbrev S1024 : Shape := ⟨1, ![1024]⟩
abbrev S1024x1024 : Shape := ⟨2, ![1024, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x1x1024 : Shape := ⟨3, ![128, 1, 1024]⟩
abbrev S128x7x1024 : Shape := ⟨3, ![128, 7, 1024]⟩

abbrev nBuf : Space → Nat
  | .hbm => 32
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S128x8x1024, .f32⟩
  | .hbm, ⟨6, _⟩ => ⟨S_, .f32⟩
  | .hbm, ⟨7, _⟩ => ⟨S128x8, .f32⟩
  | .hbm, ⟨8, _⟩ => ⟨S128x8x1, .f32⟩
  | .hbm, ⟨9, _⟩ => ⟨S_, .f32⟩
  | .hbm, ⟨10, _⟩ => ⟨S128x8x1, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S128x8x1, .f32⟩
  | .hbm, ⟨16, _⟩ => ⟨S128x8x1024, .f32⟩
  | .hbm, ⟨17, _⟩ => ⟨S128x8x1024, .f32⟩
  | .hbm, ⟨18, _⟩ => ⟨S1x1x1024, .f32⟩
  | .hbm, ⟨19, _⟩ => ⟨S128x8x1024, .f32⟩
  | .hbm, ⟨20, _⟩ => ⟨S128x8x1024, .f32⟩
  | .hbm, ⟨21, _⟩ => ⟨S128x1x1024, .f32⟩
  | .hbm, ⟨22, _⟩ => ⟨S128x7x1024, .f32⟩
  | .hbm, ⟨23, _⟩ => ⟨S128x8x1024, .f32⟩
  | .hbm, ⟨24, _⟩ => ⟨S128x8x1024, .f32⟩
  | .hbm, ⟨25, _⟩ => ⟨S1x1x1024, .f32⟩
  | .hbm, ⟨26, _⟩ => ⟨S128x8x1024, .f32⟩
  | .hbm, ⟨27, _⟩ => ⟨S128x8x1024, .f32⟩
  | .hbm, ⟨28, _⟩ => ⟨S128x8x1024, .f32⟩
  | .hbm, ⟨29, _⟩ => ⟨S128x8x1024, .f32⟩
  | .hbm, ⟨30, _⟩ => ⟨S128x1x1024, .f32⟩
  | .hbm, ⟨31, _⟩ => ⟨S128x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel11.lean ====
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .bf16⟩
  | .hbm, ⟨3, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel11Ideal.lean ====
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .bf16⟩
  | .hbm, ⟨3, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S1024x1024 : Shape := ⟨2, ![1024, 1024]⟩
abbrev S1024x4688 : Shape := ⟨2, ![1024, 4688]⟩
abbrev S_ : Shape := ⟨0, ![]⟩
abbrev S1024x4736 : Shape := ⟨2, ![1024, 4736]⟩
abbrev S512x1024 : Shape := ⟨2, ![512, 1024]⟩
abbrev S1024x128 : Shape := ⟨2, ![1024, 128]⟩
abbrev S512x128 : Shape := ⟨2, ![512, 128]⟩

abbrev nBuf : Space → Nat
  | .hbm => 8
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024x4688, .f32⟩
  | .hbm, ⟨2, _⟩ => ⟨S1024x4688, .bf16⟩
  | .hbm, ⟨3, _⟩ => ⟨S_, .i32⟩
  | .hbm, ⟨4, _⟩ => ⟨S_, .bf16⟩
  | .hbm, ⟨5, _⟩ => ⟨S1024x4736, .bf16⟩
  | .hbm, ⟨6, _⟩ => ⟨S1024x4736, .f32⟩
  | .hbm, ⟨7, _⟩ => ⟨S1024x4688, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S1024x128, .bf16⟩
  | .local _ .vmem, ⟨4, _⟩ => ⟨S512x128, .f32⟩
  | .local _ .vmem, ⟨5, _⟩ => ⟨S512x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 37], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel12Ideal.lean ====
abbrev S1024x1024 : Shape := ⟨2, ![1024, 1024]⟩
abbrev S1024x4688 : Shape := ⟨2, ![1024, 4688]⟩
abbrev S_ : Shape := ⟨0, ![]⟩
abbrev S1024x4736 : Shape := ⟨2, ![1024, 4736]⟩
abbrev S512x1024 : Shape := ⟨2, ![512, 1024]⟩
abbrev S1024x128 : Shape := ⟨2, ![1024, 128]⟩
abbrev S512x128 : Shape := ⟨2, ![512, 128]⟩

abbrev nBuf : Space → Nat
  | .hbm => 8
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024x4688, .f32⟩
  | .hbm, ⟨2, _⟩ => ⟨S1024x4688, .bf16⟩
  | .hbm, ⟨3, _⟩ => ⟨S_, .i32⟩
  | .hbm, ⟨4, _⟩ => ⟨S_, .bf16⟩
  | .hbm, ⟨5, _⟩ => ⟨S1024x4736, .bf16⟩
  | .hbm, ⟨6, _⟩ => ⟨S1024x4736, .f32⟩
  | .hbm, ⟨7, _⟩ => ⟨S1024x4688, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S1024x128, .bf16⟩
  | .local _ .vmem, ⟨4, _⟩ => ⟨S512x128, .f32⟩
  | .local _ .vmem, ⟨5, _⟩ => ⟨S512x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 37], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S1024x1024 : Shape := ⟨2, ![1024, 1024]⟩
abbrev S1024x4688 : Shape := ⟨2, ![1024, 4688]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x4688, .f32⟩
  | .hbm, ⟨2, _⟩ => ⟨S1024x4688, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S1024x256 : Shape := ⟨2, ![1024, 256]⟩
abbrev S256x1024 : Shape := ⟨2, ![256, 1024]⟩
abbrev S1024x1024 : Shape := ⟨2, ![1024, 1024]⟩
abbrev S512x256 : Shape := ⟨2, ![512, 256]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x256, .f32⟩
  | .hbm, ⟨1, _⟩ => ⟨S256x1024, .f32⟩
  | .hbm, ⟨2, _⟩ => ⟨S256x1024, .bf16⟩
  | .hbm, ⟨3, _⟩ => ⟨S1024x1024, .f32⟩
  | .local _ .vmem, ⟨0, _⟩ => ⟨S512x256, .f32⟩
  | .local _ .vmem, ⟨1, _⟩ => ⟨S512x256, .f32⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel13Ideal.lean ====
abbrev S1024x256 : Shape := ⟨2, ![1024, 256]⟩
abbrev S256x1024 : Shape := ⟨2, ![256, 1024]⟩
abbrev S1024x1024 : Shape := ⟨2, ![1024, 1024]⟩
abbrev S512x256 : Shape := ⟨2, ![512, 256]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x256, .f32⟩
  | .hbm, ⟨1, _⟩ => ⟨S256x1024, .f32⟩
  | .hbm, ⟨2, _⟩ => ⟨S256x1024, .bf16⟩
  | .hbm, ⟨3, _⟩ => ⟨S1024x1024, .f32⟩
  | .local _ .vmem, ⟨0, _⟩ => ⟨S512x256, .f32⟩
  | .local _ .vmem, ⟨1, _⟩ => ⟨S512x256, .f32⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x1024, .f32⟩
  | .hbm, ⟨2, _⟩ => ⟨S1024x1024, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S16384x1024 : Shape := ⟨2, ![16384, 1024]⟩
abbrev S1024x64 : Shape := ⟨2, ![1024, 64]⟩
abbrev S_ : Shape := ⟨0, ![]⟩
abbrev S1024x128 : Shape := ⟨2, ![1024, 128]⟩
abbrev S16384x128 : Shape := ⟨2, ![16384, 128]⟩
abbrev S512x1024 : Shape := ⟨2, ![512, 1024]⟩
abbrev S512x128 : Shape := ⟨2, ![512, 128]⟩
abbrev S16384x64 : Shape := ⟨2, ![16384, 64]⟩

abbrev nBuf : Space → Nat
  | .hbm => 8
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x64, .f32⟩
  | .hbm, ⟨2, _⟩ => ⟨S1024x64, .bf16⟩
  | .hbm, ⟨3, _⟩ => ⟨S_, .i32⟩
  | .hbm, ⟨4, _⟩ => ⟨S_, .bf16⟩
  | .hbm, ⟨5, _⟩ => ⟨S1024x128, .bf16⟩
  | .hbm, ⟨6, _⟩ => ⟨S16384x128, .f32⟩
  | .hbm, ⟨7, _⟩ => ⟨S16384x64, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel14Ideal.lean ====
abbrev S16384x1024 : Shape := ⟨2, ![16384, 1024]⟩
abbrev S1024x64 : Shape := ⟨2, ![1024, 64]⟩
abbrev S_ : Shape := ⟨0, ![]⟩
abbrev S1024x128 : Shape := ⟨2, ![1024, 128]⟩
abbrev S16384x128 : Shape := ⟨2, ![16384, 128]⟩
abbrev S512x1024 : Shape := ⟨2, ![512, 1024]⟩
abbrev S512x128 : Shape := ⟨2, ![512, 128]⟩
abbrev S16384x64 : Shape := ⟨2, ![16384, 64]⟩

abbrev nBuf : Space → Nat
  | .hbm => 8
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x64, .f32⟩
  | .hbm, ⟨2, _⟩ => ⟨S1024x64, .bf16⟩
  | .hbm, ⟨3, _⟩ => ⟨S_, .i32⟩
  | .hbm, ⟨4, _⟩ => ⟨S_, .bf16⟩
  | .hbm, ⟨5, _⟩ => ⟨S1024x128, .bf16⟩
  | .hbm, ⟨6, _⟩ => ⟨S16384x128, .f32⟩
  | .hbm, ⟨7, _⟩ => ⟨S16384x64, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S16384x1024 : Shape := ⟨2, ![16384, 1024]⟩
abbrev S1024x64 : Shape := ⟨2, ![1024, 64]⟩
abbrev S16384x64 : Shape := ⟨2, ![16384, 64]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x64, .f32⟩
  | .hbm, ⟨2, _⟩ => ⟨S16384x64, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S16384x64 : Shape := ⟨2, ![16384, 64]⟩
abbrev S64x1024 : Shape := ⟨2, ![64, 1024]⟩
abbrev S16384x1024 : Shape := ⟨2, ![16384, 1024]⟩
abbrev S512x64 : Shape := ⟨2, ![512, 64]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x64, .f32⟩
  | .hbm, ⟨1, _⟩ => ⟨S64x1024, .f32⟩
  | .hbm, ⟨2, _⟩ => ⟨S64x1024, .bf16⟩
  | .hbm, ⟨3, _⟩ => ⟨S16384x1024, .f32⟩
  | .local _ .vmem, ⟨0, _⟩ => ⟨S512x64, .f32⟩
  | .local _ .vmem, ⟨1, _⟩ => ⟨S512x64, .f32⟩
  | .local _ .vmem, ⟨2, _⟩ => ⟨S64x1024, .bf16⟩
  | .local _ .vmem, ⟨3, _⟩ => ⟨S512x1024, .f32⟩
  | .local _ .vmem, ⟨4, _⟩ => ⟨S512x1024, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel15Ideal.lean ====
abbrev S16384x64 : Shape := ⟨2, ![16384, 64]⟩
abbrev S64x1024 : Shape := ⟨2, ![64, 1024]⟩
abbrev S16384x1024 : Shape := ⟨2, ![16384, 1024]⟩
abbrev S512x64 : Shape := ⟨2, ![512, 64]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x64, .f32⟩
  | .hbm, ⟨1, _⟩ => ⟨S64x1024, .f32⟩
  | .hbm, ⟨2, _⟩ => ⟨S64x1024, .bf16⟩
  | .hbm, ⟨3, _⟩ => ⟨S16384x1024, .f32⟩
  | .local _ .vmem, ⟨0, _⟩ => ⟨S512x64, .f32⟩
  | .local _ .vmem, ⟨1, _⟩ => ⟨S512x64, .f32⟩
  | .local _ .vmem, ⟨2, _⟩ => ⟨S64x1024, .bf16⟩
  | .local _ .vmem, ⟨3, _⟩ => ⟨S512x1024, .f32⟩
  | .local _ .vmem, ⟨4, _⟩ => ⟨S512x1024, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S16384x64 : Shape := ⟨2, ![16384, 64]⟩
abbrev S64x1024 : Shape := ⟨2, ![64, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S64x1024, .f32⟩
  | .hbm, ⟨2, _⟩ => ⟨S16384x1024, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S16384x1024 : Shape := ⟨2, ![16384, 1024]⟩
abbrev S1024x32 : Shape := ⟨2, ![1024, 32]⟩
abbrev S_ : Shape := ⟨0, ![]⟩
abbrev S1024x128 : Shape := ⟨2, ![1024, 128]⟩
abbrev S16384x128 : Shape := ⟨2, ![16384, 128]⟩
abbrev S512x1024 : Shape := ⟨2, ![512, 1024]⟩
abbrev S512x128 : Shape := ⟨2, ![512, 128]⟩
abbrev S16384x32 : Shape := ⟨2, ![16384, 32]⟩

abbrev nBuf : Space → Nat
  | .hbm => 8
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x32, .f32⟩
  | .hbm, ⟨2, _⟩ => ⟨S1024x32, .bf16⟩
  | .hbm, ⟨3, _⟩ => ⟨S_, .i32⟩
  | .hbm, ⟨4, _⟩ => ⟨S_, .bf16⟩
  | .hbm, ⟨5, _⟩ => ⟨S1024x128, .bf16⟩
  | .hbm, ⟨6, _⟩ => ⟨S16384x128, .f32⟩
  | .hbm, ⟨7, _⟩ => ⟨S16384x32, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel16Ideal.lean ====
abbrev S16384x1024 : Shape := ⟨2, ![16384, 1024]⟩
abbrev S1024x32 : Shape := ⟨2, ![1024, 32]⟩
abbrev S_ : Shape := ⟨0, ![]⟩
abbrev S1024x128 : Shape := ⟨2, ![1024, 128]⟩
abbrev S16384x128 : Shape := ⟨2, ![16384, 128]⟩
abbrev S512x1024 : Shape := ⟨2, ![512, 1024]⟩
abbrev S512x128 : Shape := ⟨2, ![512, 128]⟩
abbrev S16384x32 : Shape := ⟨2, ![16384, 32]⟩

abbrev nBuf : Space → Nat
  | .hbm => 8
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x32, .f32⟩
  | .hbm, ⟨2, _⟩ => ⟨S1024x32, .bf16⟩
  | .hbm, ⟨3, _⟩ => ⟨S_, .i32⟩
  | .hbm, ⟨4, _⟩ => ⟨S_, .bf16⟩
  | .hbm, ⟨5, _⟩ => ⟨S1024x128, .bf16⟩
  | .hbm, ⟨6, _⟩ => ⟨S16384x128, .f32⟩
  | .hbm, ⟨7, _⟩ => ⟨S16384x32, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S16384x1024 : Shape := ⟨2, ![16384, 1024]⟩
abbrev S1024x32 : Shape := ⟨2, ![1024, 32]⟩
abbrev S16384x32 : Shape := ⟨2, ![16384, 32]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x32, .f32⟩
  | .hbm, ⟨2, _⟩ => ⟨S16384x32, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S16384x32 : Shape := ⟨2, ![16384, 32]⟩
abbrev S32x1024 : Shape := ⟨2, ![32, 1024]⟩
abbrev S16384x1024 : Shape := ⟨2, ![16384, 1024]⟩
abbrev S512x32 : Shape := ⟨2, ![512, 32]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x32, .f32⟩
  | .hbm, ⟨1, _⟩ => ⟨S32x1024, .f32⟩
  | .hbm, ⟨2, _⟩ => ⟨S32x1024, .bf16⟩
  | .hbm, ⟨3, _⟩ => ⟨S16384x1024, .f32⟩
  | .local _ .vmem, ⟨0, _⟩ => ⟨S512x32, .f32⟩
  | .local _ .vmem, ⟨1, _⟩ => ⟨S512x32, .f32⟩
  | .local _ .vmem, ⟨2, _⟩ => ⟨S32x1024, .bf16⟩
  | .local _ .vmem, ⟨3, _⟩ => ⟨S512x1024, .f32⟩
  | .local _ .vmem, ⟨4, _⟩ => ⟨S512x1024, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel17Ideal.lean ====
abbrev S16384x32 : Shape := ⟨2, ![16384, 32]⟩
abbrev S32x1024 : Shape := ⟨2, ![32, 1024]⟩
abbrev S16384x1024 : Shape := ⟨2, ![16384, 1024]⟩
abbrev S512x32 : Shape := ⟨2, ![512, 32]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x32, .f32⟩
  | .hbm, ⟨1, _⟩ => ⟨S32x1024, .f32⟩
  | .hbm, ⟨2, _⟩ => ⟨S32x1024, .bf16⟩
  | .hbm, ⟨3, _⟩ => ⟨S16384x1024, .f32⟩
  | .local _ .vmem, ⟨0, _⟩ => ⟨S512x32, .f32⟩
  | .local _ .vmem, ⟨1, _⟩ => ⟨S512x32, .f32⟩
  | .local _ .vmem, ⟨2, _⟩ => ⟨S32x1024, .bf16⟩
  | .local _ .vmem, ⟨3, _⟩ => ⟨S512x1024, .f32⟩
  | .local _ .vmem, ⟨4, _⟩ => ⟨S512x1024, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S16384x32 : Shape := ⟨2, ![16384, 32]⟩
abbrev S32x1024 : Shape := ⟨2, ![32, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S32x1024, .f32⟩
  | .hbm, ⟨2, _⟩ => ⟨S16384x1024, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S1024x1024 : Shape := ⟨2, ![1024, 1024]⟩
abbrev S1024x64 : Shape := ⟨2, ![1024, 64]⟩
abbrev S_ : Shape := ⟨0, ![]⟩
abbrev S1024x128 : Shape := ⟨2, ![1024, 128]⟩
abbrev S512x1024 : Shape := ⟨2, ![512, 1024]⟩
abbrev S512x128 : Shape := ⟨2, ![512, 128]⟩

abbrev nBuf : Space → Nat
  | .hbm => 8
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x64, .f32⟩
  | .hbm, ⟨2, _⟩ => ⟨S1024x64, .bf16⟩
  | .hbm, ⟨3, _⟩ => ⟨S_, .i32⟩
  | .hbm, ⟨4, _⟩ => ⟨S_, .bf16⟩
  | .hbm, ⟨5, _⟩ => ⟨S1024x128, .bf16⟩
  | .hbm, ⟨6, _⟩ => ⟨S1024x128, .f32⟩
  | .hbm, ⟨7, _⟩ => ⟨S1024x64, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel18Ideal.lean ====
abbrev S1024x1024 : Shape := ⟨2, ![1024, 1024]⟩
abbrev S1024x64 : Shape := ⟨2, ![1024, 64]⟩
abbrev S_ : Shape := ⟨0, ![]⟩
abbrev S1024x128 : Shape := ⟨2, ![1024, 128]⟩
abbrev S512x1024 : Shape := ⟨2, ![512, 1024]⟩
abbrev S512x128 : Shape := ⟨2, ![512, 128]⟩

abbrev nBuf : Space → Nat
  | .hbm => 8
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x64, .f32⟩
  | .hbm, ⟨2, _⟩ => ⟨S1024x64, .bf16⟩
  | .hbm, ⟨3, _⟩ => ⟨S_, .i32⟩
  | .hbm, ⟨4, _⟩ => ⟨S_, .bf16⟩
  | .hbm, ⟨5, _⟩ => ⟨S1024x128, .bf16⟩
  | .hbm, ⟨6, _⟩ => ⟨S1024x128, .f32⟩
  | .hbm, ⟨7, _⟩ => ⟨S1024x64, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S1024x1024 : Shape := ⟨2, ![1024, 1024]⟩
abbrev S1024x64 : Shape := ⟨2, ![1024, 64]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x64, .f32⟩
  | .hbm, ⟨2, _⟩ => ⟨S1024x64, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S1024x64 : Shape := ⟨2, ![1024, 64]⟩
abbrev S64x1024 : Shape := ⟨2, ![64, 1024]⟩
abbrev S1024x1024 : Shape := ⟨2, ![1024, 1024]⟩
abbrev S512x64 : Shape := ⟨2, ![512, 64]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x64, .f32⟩
  | .hbm, ⟨1, _⟩ => ⟨S64x1024, .f32⟩
  | .hbm, ⟨2, _⟩ => ⟨S64x1024, .bf16⟩
  | .hbm, ⟨3, _⟩ => ⟨S1024x1024, .f32⟩
  | .local _ .vmem, ⟨0, _⟩ => ⟨S512x64, .f32⟩
  | .local _ .vmem, ⟨1, _⟩ => ⟨S512x64, .f32⟩
  | .local _ .vmem, ⟨2, _⟩ => ⟨S64x1024, .bf16⟩
  | .local _ .vmem, ⟨3, _⟩ => ⟨S512x1024, .f32⟩
  | .local _ .vmem, ⟨4, _⟩ => ⟨S512x1024, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel19Ideal.lean ====
abbrev S1024x64 : Shape := ⟨2, ![1024, 64]⟩
abbrev S64x1024 : Shape := ⟨2, ![64, 1024]⟩
abbrev S1024x1024 : Shape := ⟨2, ![1024, 1024]⟩
abbrev S512x64 : Shape := ⟨2, ![512, 64]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x64, .f32⟩
  | .hbm, ⟨1, _⟩ => ⟨S64x1024, .f32⟩
  | .hbm, ⟨2, _⟩ => ⟨S64x1024, .bf16⟩
  | .hbm, ⟨3, _⟩ => ⟨S1024x1024, .f32⟩
  | .local _ .vmem, ⟨0, _⟩ => ⟨S512x64, .f32⟩
  | .local _ .vmem, ⟨1, _⟩ => ⟨S512x64, .f32⟩
  | .local _ .vmem, ⟨2, _⟩ => ⟨S64x1024, .bf16⟩
  | .local _ .vmem, ⟨3, _⟩ => ⟨S512x1024, .f32⟩
  | .local _ .vmem, ⟨4, _⟩ => ⟨S512x1024, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S1024x64 : Shape := ⟨2, ![1024, 64]⟩
abbrev S64x1024 : Shape := ⟨2, ![64, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S64x1024, .f32⟩
  | .hbm, ⟨2, _⟩ => ⟨S1024x1024, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel20.lean ====
abbrev S1024x1024 : Shape := ⟨2, ![1024, 1024]⟩
abbrev S1024x32 : Shape := ⟨2, ![1024, 32]⟩
abbrev S_ : Shape := ⟨0, ![]⟩
abbrev S1024x128 : Shape := ⟨2, ![1024, 128]⟩
abbrev S512x1024 : Shape := ⟨2, ![512, 1024]⟩
abbrev S512x128 : Shape := ⟨2, ![512, 128]⟩

abbrev nBuf : Space → Nat
  | .hbm => 8
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x32, .f32⟩
  | .hbm, ⟨2, _⟩ => ⟨S1024x32, .bf16⟩
  | .hbm, ⟨3, _⟩ => ⟨S_, .i32⟩
  | .hbm, ⟨4, _⟩ => ⟨S_, .bf16⟩
  | .hbm, ⟨5, _⟩ => ⟨S1024x128, .bf16⟩
  | .hbm, ⟨6, _⟩ => ⟨S1024x128, .f32⟩
  | .hbm, ⟨7, _⟩ => ⟨S1024x32, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel20Ideal.lean ====
abbrev S1024x1024 : Shape := ⟨2, ![1024, 1024]⟩
abbrev S1024x32 : Shape := ⟨2, ![1024, 32]⟩
abbrev S_ : Shape := ⟨0, ![]⟩
abbrev S1024x128 : Shape := ⟨2, ![1024, 128]⟩
abbrev S512x1024 : Shape := ⟨2, ![512, 1024]⟩
abbrev S512x128 : Shape := ⟨2, ![512, 128]⟩

abbrev nBuf : Space → Nat
  | .hbm => 8
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x32, .f32⟩
  | .hbm, ⟨2, _⟩ => ⟨S1024x32, .bf16⟩
  | .hbm, ⟨3, _⟩ => ⟨S_, .i32⟩
  | .hbm, ⟨4, _⟩ => ⟨S_, .bf16⟩
  | .hbm, ⟨5, _⟩ => ⟨S1024x128, .bf16⟩
  | .hbm, ⟨6, _⟩ => ⟨S1024x128, .f32⟩
  | .hbm, ⟨7, _⟩ => ⟨S1024x32, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S1024x1024 : Shape := ⟨2, ![1024, 1024]⟩
abbrev S1024x32 : Shape := ⟨2, ![1024, 32]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x32, .f32⟩
  | .hbm, ⟨2, _⟩ => ⟨S1024x32, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel21.lean ====
abbrev S1024x32 : Shape := ⟨2, ![1024, 32]⟩
abbrev S32x1024 : Shape := ⟨2, ![32, 1024]⟩
abbrev S1024x1024 : Shape := ⟨2, ![1024, 1024]⟩
abbrev S512x32 : Shape := ⟨2, ![512, 32]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x32, .f32⟩
  | .hbm, ⟨1, _⟩ => ⟨S32x1024, .f32⟩
  | .hbm, ⟨2, _⟩ => ⟨S32x1024, .bf16⟩
  | .hbm, ⟨3, _⟩ => ⟨S1024x1024, .f32⟩
  | .local _ .vmem, ⟨0, _⟩ => ⟨S512x32, .f32⟩
  | .local _ .vmem, ⟨1, _⟩ => ⟨S512x32, .f32⟩
  | .local _ .vmem, ⟨2, _⟩ => ⟨S32x1024, .bf16⟩
  | .local _ .vmem, ⟨3, _⟩ => ⟨S512x1024, .f32⟩
  | .local _ .vmem, ⟨4, _⟩ => ⟨S512x1024, .f32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S1024x32 : Shape := ⟨2, ![1024, 32]⟩
abbrev S32x1024 : Shape := ⟨2, ![32, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x32, .f32⟩
  | .hbm, ⟨1, _⟩ => ⟨S32x1024, .f32⟩
  | .hbm, ⟨2, _⟩ => ⟨S1024x1024, .f32⟩
  | _, _ => ⟨S1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.WkvSpec.lean ====
/-
  The recurrence of one head as a function of the token's number, over the extended reals.
-/
module

public import Idealize.ShloMosaic.PureOps.Ideal
public import Mathlib.Data.EReal.Basic

@[expose] public section

noncomputable section

namespace Cert.Wkv

/-- What one token gives one head: the rows `r`, decay `w`, `k`, `v`, minus `kk`, and `kk` times `a`. -/
structure Tok where
  r : Fin 64 → EReal
  w : Fin 64 → EReal
  k : Fin 64 → EReal
  v : Fin 64 → EReal
  nk : Fin 64 → EReal
  ka : Fin 64 → EReal

/-- The tokens one head's rows give, by number. -/
def argTok (r w k v kk a : Fin 8192 → Fin 64 → EReal) (t : ℕ) : Tok :=
  let n : Fin 8192 := ⟨t % 8192, Nat.mod_lt _ (by decide)⟩
  ⟨r n, w n, k n, v n, fun j => - kk n j, fun j => kk n j * a n j⟩

theorem argTok_of_lt (r w k v kk a : Fin 8192 → Fin 64 → EReal) (t : Fin 8192) :
    argTok r w k v kk a t.val = ⟨r t, w t, k t, v t, fun j => - kk t j, fun j => kk t j * a t j⟩ := by
  have e : (⟨t.val % 8192, Nat.mod_lt _ (by decide)⟩ : Fin 8192) = t := Fin.ext (Nat.mod_eq_of_lt t.isLt)
  unfold argTok
  rw [e]

/-- A head's state: value index, then key index. -/
abbrev St := Fin 64 → Fin 64 → EReal

/-- One token's update of a head's state. -/
def next (s : St) (x : Tok) : St := fun i j =>
  s i j * x.w j + (∑ l, s i l * x.nk l) * x.ka j + x.v i * x.k j

/-- The state after the first `t` tokens. -/
def state (s : St) (x : ℕ → Tok) : ℕ → St
  | 0 => s
  | t + 1 => next (state s x t) (x t)

/-- The output row of token `t`: the state after that token, read by `r`. -/
def row (s : St) (x : ℕ → Tok) (t : ℕ) (i : Fin 64) : EReal := ∑ j, state s x (t + 1) i j * (x t).r j

theorem state_add (s : St) (x : ℕ → Tok) (a : ℕ) : ∀ n, state s x (a + n) = state (state s x a) (fun t => x (a + t)) n
  | 0 => rfl
  | n + 1 => by
    show next (state s x (a + n)) (x (a + n)) = next (state (state s x a) _ n) (x (a + n))
    rw [state_add s x a n]

theorem row_add (s : St) (x : ℕ → Tok) (a n : ℕ) : row s x (a + n) = row (state s x a) (fun t => x (a + t)) n := by
  funext i
  show ∑ j, state s x (a + (n + 1)) i j * _ = ∑ j, state (state s x a) _ (n + 1) i j * _
  rw [state_add]

/-- Two sequences that agree on the first `n` tokens give one state after `n` tokens. -/
theorem state_congr (s : St) {x y : ℕ → Tok} : ∀ n, (∀ t, t < n → x t = y t) → state s x n = state s y n
  | 0, _ => rfl
  | n + 1, h => by
    show next (state s x n) (x n) = next (state s y n) (y n)
    rw [state_congr s n fun t ht => h t (Nat.lt_succ_of_lt ht), h n (Nat.lt_succ_self n)]

theorem row_congr (s : St) {x y : ℕ → Tok} (t : ℕ) (h : ∀ u, u < t + 1 → x u = y u) : row s x t = row s y t := by
  funext i
  show ∑ j, state s x (t + 1) i j * (x t).r j = ∑ j, state s y (t + 1) i j * (y t).r j
  rw [state_congr s (t + 1) h, h t (Nat.lt_succ_self t)]

/-- A sum against the row of an identity matrix takes one term. -/
theorem sum_eye (f : Fin 64 → EReal) (i : Fin 64) : ∑ j, (if i = j then (1 : EReal) else 0) * f j = f i := by
  simp [ite_mul]

end Cert.Wkv
-- ==== Proof.WkvPay.lean ====
/-
  What one head of one trip of the token loop computes, as one function of the values it loads, and that function at
  an index.
-/
module

public import proofs.«01_k».proof.Proof.WkvSpec
public import proofs.«01_k».proof.Proof.Gen.KernelIdeal.Skeleton
public import Idealize.ShloMosaic.Lib.Pointwise

@[expose] public section

set_option maxRecDepth 16384

noncomputable section

namespace Cert.KernelIdeal.Wkv

open Idealize.ShloMosaic Idealize.ShloMosaic.TcCoe
open Cert.KernelIdeal Cert.KernelIdeal.Gen Cert.Wkv

variable {F : FTy → Type} [FloatOps F]

/-- The state a head's trip stores, from the state it loads and the token's rows. -/
abbrev slabOut (s : Vec F S1x64x64 .f32) (nk ka w k v : Vec F S1x1x1x64 .f32) : FVec F S1x64x64 .f32 :=
  k0_pay12 (k0_pay8 s nk ka w) (k0_pay9 k0_pay2 v) (k0_pay10 k)

/-- The output row a head's trip stores, from the same values and the row `r`. -/
abbrev rowOut (s : Vec F S1x64x64 .f32) (nk ka w k v r : Vec F S1x1x1x64 .f32) : FVec F S1x1x1x64 .f32 :=
  k0_pay13 k0_pay2 (k0_pay7 r) (k0_pay8 s nk ka w) (k0_pay9 k0_pay2 v) (k0_pay10 k)

/-- The token the rows loaded for one head name. -/
abbrev tokOf (r w k v nk ka : Vec Ideal S1x1x1x64 .f32) : Tok :=
  ⟨fun j => r (ix4 0 0 0 j), fun j => w (ix4 0 0 0 j), fun j => k (ix4 0 0 0 j), fun j => v (ix4 0 0 0 j),
    fun j => nk (ix4 0 0 0 j), fun j => ka (ix4 0 0 0 j)⟩

/-- The identity matrix of the kernel at an index. -/
theorem eye_apply (i j : Fin 64) : k0_pay2 (F := Ideal) (ix2 i j) = if i = j then (1 : EReal) else 0 := by
  pointwise [k0_pay2]
  rcases eq_or_ne i j with rfl | h
  · simp [IntOp.cmpi, FloatOps.sitofp]
  · have h' : ¬ BitVec.ofNat 32 i.val = BitVec.ofNat 32 j.val := fun e => h (Fin.ext (by
      have e' := congrArg BitVec.toNat e
      simp only [BitVec.toNat_ofNat] at e'
      omega))
    have hb : (BitVec.ofNat 32 i.val == BitVec.ofNat 32 j.val) = false := beq_eq_false_iff_ne.mpr h'
    simp [IntOp.cmpi, FloatOps.sitofp, h, hb]

theorem slabOut_apply (s : Vec Ideal S1x64x64 .f32) (nk ka w k v r : Vec Ideal S1x1x1x64 .f32) (i j : Fin 64) :
    slabOut s nk ka w k v (ix3 0 i j) = next (fun i j => s (ix3 0 i j)) (tokOf r w k v nk ka) i j := by
  pointwise [k0_pay12, k0_pay11, k0_pay8, k0_pay9, k0_pay10]
  simp only [eye_apply, sum_eye]
  rfl

theorem rowOut_apply (s : Vec Ideal S1x64x64 .f32) (nk ka w k v r : Vec Ideal S1x1x1x64 .f32) (i : Fin 64) :
    rowOut s nk ka w k v r (ix4 0 0 0 i)
      = ∑ j, next (fun i j => s (ix3 0 i j)) (tokOf r w k v nk ka) i j * (tokOf r w k v nk ka).r j := by
  pointwise [k0_pay13, k0_pay7, k0_pay12, k0_pay11, k0_pay8, k0_pay9, k0_pay10]
  simp only [eye_apply, sum_eye, eq_comm (b := i)]
  rfl

end Cert.KernelIdeal.Wkv
-- ==== Proof.WkvTrip.lean ====
/-
  The token loop of the recurrence's kernel: what one trip stores, the state and the output rows after any number of
  trips as functions of the blocks and of the state the loop starts from, and the loop's invariant.
-/
module

public import proofs.«01_k».proof.Proof.WkvPay
public import proofs.«01_k».proof.Proof.Gen.KernelIdeal.Loops
public import Idealize.ShloMosaic.Lib.Pipeline.ValueKit.Tiles

@[expose] public section

set_option maxRecDepth 16384

noncomputable section

namespace Cert.KernelIdeal.Wkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-! ## One trip as a function -/

/-- The six blocks of tokens a grid point reads. -/
structure Blk (F : FTy → Type) [FloatOps F] where
  r : Vec F S1x8x256x64 .f32
  w : Vec F S1x8x256x64 .f32
  k : Vec F S1x8x256x64 .f32
  v : Vec F S1x8x256x64 .f32
  nk : Vec F S1x8x256x64 .f32
  ka : Vec F S1x8x256x64 .f32

/-- The loop makes 256 trips, one per token of a block. -/
theorem trips_eq : k0_t1_loop.trips = 256 := by decide

/-- Head `h`'s row of a block at token `t`. -/
def tokRow (x : Vec F S1x8x256x64 .f32) (h : Fin 8) (t : Fin 256) : Vec F S1x1x1x64 .f32 := fun y => x (ix4 0 h t (y 3))

/-- Head `h`'s slab of the state. -/
def slab (S : Vec F S8x64x64 .f32) (h : Fin 8) : Vec F S1x64x64 .f32 := fun y => S (ix3 h (y 1) (y 2))

/-- The state after token `t`. -/
def stepS (B : Blk F) (S : Vec F S8x64x64 .f32) (t : Fin 256) : Vec F S8x64x64 .f32 := fun y =>
  slabOut (slab S (y 0)) (tokRow B.nk (y 0) t) (tokRow B.ka (y 0) t) (tokRow B.w (y 0) t) (tokRow B.k (y 0) t)
    (tokRow B.v (y 0) t) (ix3 0 (y 1) (y 2))

/-- The output at an index, from the state before its token. -/
def rowS (B : Blk F) (S : Vec F S8x64x64 .f32) (y : S1x8x256x64.Idx) : Elt F .f32 :=
  rowOut (slab S (y 1)) (tokRow B.nk (y 1) (y 2)) (tokRow B.ka (y 1) (y 2)) (tokRow B.w (y 1) (y 2))
    (tokRow B.k (y 1) (y 2)) (tokRow B.v (y 1) (y 2)) (tokRow B.r (y 1) (y 2)) (ix4 0 0 0 (y 3))

/-- The state after the first `n` tokens of the block. -/
def stateS (B : Blk F) (S : Vec F S8x64x64 .f32) : ℕ → Vec F S8x64x64 .f32
  | 0 => S
  | n + 1 => if h : n < 256 then stepS B (stateS B S n) ⟨n, h⟩ else stateS B S n

theorem stateS_succ (B : Blk F) (S : Vec F S8x64x64 .f32) (n : ℕ) (h : n < 256) :
    stateS B S (n + 1) = stepS B (stateS B S n) ⟨n, h⟩ := dif_pos h

/-- The block of outputs. -/
def outS (B : Blk F) (S : Vec F S8x64x64 .f32) : Vec F S1x8x256x64 .f32 := fun y => rowS B (stateS B S (y 2).val) y

/-! ## The pieces a trip stores -/

/-- A piece of the state: the slab at the offsets `o`, from the rows at the offsets `o'`. -/
def stPiece (B : Blk F) (S : Vec F S8x64x64 .f32) (o : Fin 3 → ℕ) (ho : ∀ a, o a + S1x64x64.size a ≤ S8x64x64.size a)
    (o' : Fin 4 → ℕ) (ho' : ∀ a, o' a + S1x1x1x64.size a ≤ S1x8x256x64.size a) : View.Piece (Elt F) S8x64x64 .f32 :=
  ⟨Rect.unit (s := S8x64x64) o S1x64x64.size ho,
    slabOut (View.ld S (Rect.unit (s := S8x64x64) o S1x64x64.size ho))
      (View.ld B.nk (Rect.unit (s := S1x8x256x64) o' S1x1x1x64.size ho'))
      (View.ld B.ka (Rect.unit (s := S1x8x256x64) o' S1x1x1x64.size ho'))
      (View.ld B.w (Rect.unit (s := S1x8x256x64) o' S1x1x1x64.size ho'))
      (View.ld B.k (Rect.unit (s := S1x8x256x64) o' S1x1x1x64.size ho'))
      (View.ld B.v (Rect.unit (s := S1x8x256x64) o' S1x1x1x64.size ho'))⟩

/-- A piece of the output: the row at the offsets `o'`, from the state's slab at the offsets `o`. -/
def rowPiece (B : Blk F) (S : Vec F S8x64x64 .f32) (o : Fin 3 → ℕ) (ho : ∀ a, o a + S1x64x64.size a ≤ S8x64x64.size a)
    (o' : Fin 4 → ℕ) (ho' : ∀ a, o' a + S1x1x1x64.size a ≤ S1x8x256x64.size a) :
    View.Piece (Elt F) S1x8x256x64 .f32 :=
  ⟨Rect.unit (s := S1x8x256x64) o' S1x1x1x64.size ho',
    rowOut (View.ld S (Rect.unit (s := S8x64x64) o S1x64x64.size ho))
      (View.ld B.nk (Rect.unit (s := S1x8x256x64) o' S1x1x1x64.size ho'))
      (View.ld B.ka (Rect.unit (s := S1x8x256x64) o' S1x1x1x64.size ho'))
      (View.ld B.w (Rect.unit (s := S1x8x256x64) o' S1x1x1x64.size ho'))
      (View.ld B.k (Rect.unit (s := S1x8x256x64) o' S1x1x1x64.size ho'))
      (View.ld B.v (Rect.unit (s := S1x8x256x64) o' S1x1x1x64.size ho'))
      (View.ld B.r (Rect.unit (s := S1x8x256x64) o' S1x1x1x64.size ho'))⟩

/-- The state's pieces of one trip, the last head first. -/
def stPieces (B : Blk F) (S : Vec F S8x64x64 .f32) (k : Fin k0_t1_loop.trips) : List (View.Piece (Elt F) S8x64x64 .f32) :=
  [ stPiece B S ![7, 0, 0] inb_S8x64x64_S1x64x64_7_0_0 (k0_off8 k) (k0_off8_inb k),
    stPiece B S ![6, 0, 0] inb_S8x64x64_S1x64x64_6_0_0 (k0_off7 k) (k0_off7_inb k),
    stPiece B S ![5, 0, 0] inb_S8x64x64_S1x64x64_5_0_0 (k0_off6 k) (k0_off6_inb k),
    stPiece B S ![4, 0, 0] inb_S8x64x64_S1x64x64_4_0_0 (k0_off5 k) (k0_off5_inb k),
    stPiece B S ![3, 0, 0] inb_S8x64x64_S1x64x64_3_0_0 (k0_off4 k) (k0_off4_inb k),
    stPiece B S ![2, 0, 0] inb_S8x64x64_S1x64x64_2_0_0 (k0_off3 k) (k0_off3_inb k),
    stPiece B S ![1, 0, 0] inb_S8x64x64_S1x64x64_1_0_0 (k0_off2 k) (k0_off2_inb k),
    stPiece B S ![0, 0, 0] inb_S8x64x64_S1x64x64_0_0_0 (k0_off1 k) (k0_off1_inb k) ]

/-- The output's pieces of one trip, the last head first. -/
def rowPieces (B : Blk F) (S : Vec F S8x64x64 .f32) (k : Fin k0_t1_loop.trips) : List (View.Piece (Elt F) S1x8x256x64 .f32) :=
  [ rowPiece B S ![7, 0, 0] inb_S8x64x64_S1x64x64_7_0_0 (k0_off8 k) (k0_off8_inb k),
    rowPiece B S ![6, 0, 0] inb_S8x64x64_S1x64x64_6_0_0 (k0_off7 k) (k0_off7_inb k),
    rowPiece B S ![5, 0, 0] inb_S8x64x64_S1x64x64_5_0_0 (k0_off6 k) (k0_off6_inb k),
    rowPiece B S ![4, 0, 0] inb_S8x64x64_S1x64x64_4_0_0 (k0_off5 k) (k0_off5_inb k),
    rowPiece B S ![3, 0, 0] inb_S8x64x64_S1x64x64_3_0_0 (k0_off4 k) (k0_off4_inb k),
    rowPiece B S ![2, 0, 0] inb_S8x64x64_S1x64x64_2_0_0 (k0_off3 k) (k0_off3_inb k),
    rowPiece B S ![1, 0, 0] inb_S8x64x64_S1x64x64_1_0_0 (k0_off2 k) (k0_off2_inb k),
    rowPiece B S ![0, 0, 0] inb_S8x64x64_S1x64x64_0_0_0 (k0_off1 k) (k0_off1_inb k) ]

/-- The output's pieces of the first `n` trips. -/
def rowsL (B : Blk F) (S : Vec F S8x64x64 .f32) : ℕ → List (View.Piece (Elt F) S1x8x256x64 .f32)
  | 0 => []
  | n + 1 => if h : n < k0_t1_loop.trips then rowPieces B (stateS B S n) ⟨n, h⟩ ++ rowsL B S n else rowsL B S n

theorem rowsL_succ (B : Blk F) (S : Vec F S8x64x64 .f32) (k : Fin k0_t1_loop.trips) :
    rowsL B S (k.val + 1) = rowPieces B (stateS B S k.val) k ++ rowsL B S k.val := dif_pos k.isLt

theorem ld_slab (S : Vec F S8x64x64 .f32) (h : Fin 8) (ho) :
    View.ld S (Rect.unit (s := S8x64x64) ![h.val, 0, 0] S1x64x64.size ho) = slab S h := by
  funext y
  refine View.ld_unit_apply_of S _ _ _ y (ix3 h (y 1) (y 2)) fun a => ?_
  have h0 : (y 0).val = 0 := Nat.lt_one_iff.mp (y 0).isLt
  fin_cases a <;> simp [h0] <;> omega

theorem ld_row (x : Vec F S1x8x256x64 .f32) (h : Fin 8) (t : Fin 256) (ho) :
    View.ld x (Rect.unit (s := S1x8x256x64) ![0, h.val, t.val, 0] S1x1x1x64.size ho) = tokRow x h t := by
  funext y
  refine View.ld_unit_apply_of x _ _ _ y (ix4 0 h t (y 3)) fun a => ?_
  have h0 : (y 0).val = 0 := Nat.lt_one_iff.mp (y 0).isLt
  have h1 : (y 1).val = 0 := Nat.lt_one_iff.mp (y 1).isLt
  have h2 : (y 2).val = 0 := Nat.lt_one_iff.mp (y 2).isLt
  fin_cases a <;> simp [h0, h1, h2] <;> omega

theorem stPiece_apply (B : Blk F) (S : Vec F S8x64x64 .f32) (h : Fin 8) (t : Fin 256) {o : Fin 3 → ℕ} {ho} {o' : Fin 4 → ℕ} {ho'}
    (e : o = ![h.val, 0, 0]) (e' : o' = ![0, h.val, t.val, 0]) (z : (stPiece B S o ho o' ho').1.shape.Idx) :
    (stPiece B S o ho o' ho').2 z = stepS B S t ((stPiece B S o ho o' ho').1.emb z) := by
  subst e e'
  have h0 : (z 0).val = 0 := Nat.lt_one_iff.mp (z 0).isLt
  have hy : (stPiece B S ![h.val, 0, 0] ho ![0, h.val, t.val, 0] ho').1.emb z = ix3 h (z 1) (z 2) := by
    funext a; refine Fin.ext ((Rect.idx_unit_val (s := S8x64x64) ![h.val, 0, 0] S1x64x64.size ho z a).trans ?_)
    fin_cases a <;> simp [h0]
  have hz : z = ix3 0 (z 1) (z 2) := by
    funext a; fin_cases a <;> first | rfl | exact Fin.ext h0
  rw [hy]
  show slabOut _ _ _ _ _ _ z = slabOut _ _ _ _ _ _ _
  rw [ld_slab, ld_row, ld_row, ld_row, ld_row, ld_row, hz]
  rfl

theorem rowPiece_apply (B : Blk F) (S : Vec F S8x64x64 .f32) (h : Fin 8) (t : Fin 256) {o : Fin 3 → ℕ} {ho} {o' : Fin 4 → ℕ} {ho'}
    (e : o = ![h.val, 0, 0]) (e' : o' = ![0, h.val, t.val, 0]) (z : (rowPiece B S o ho o' ho').1.shape.Idx) :
    (rowPiece B S o ho o' ho').1.emb z = ix4 0 h t (z 3)
      ∧ (rowPiece B S o ho o' ho').2 z = rowS B S ((rowPiece B S o ho o' ho').1.emb z) := by
  subst e e'
  have h0 : (z 0).val = 0 := Nat.lt_one_iff.mp (z 0).isLt
  have h1 : (z 1).val = 0 := Nat.lt_one_iff.mp (z 1).isLt
  have h2 : (z 2).val = 0 := Nat.lt_one_iff.mp (z 2).isLt
  have hy : (rowPiece B S ![h.val, 0, 0] ho ![0, h.val, t.val, 0] ho').1.emb z = ix4 0 h t (z 3) := by
    funext a; refine Fin.ext ((Rect.idx_unit_val (s := S1x8x256x64) ![0, h.val, t.val, 0] S1x1x1x64.size ho' z a).trans ?_)
    fin_cases a <;> simp [h0, h1, h2]
  have hz : z = ix4 0 0 0 (z 3) := by
    funext a; fin_cases a <;> first | rfl | exact Fin.ext h0 | exact Fin.ext h1 | exact Fin.ext h2
  refine ⟨hy, ?_⟩
  rw [hy]
  show rowOut _ _ _ _ _ _ _ z = rowOut _ _ _ _ _ _ _ _
  rw [ld_slab, ld_row, ld_row, ld_row, ld_row, ld_row, ld_row, hz]
  rfl

end Cert.KernelIdeal.Wkv

end
-- ==== Proof.WkvLoop.lean ====
/-
  The token loop's invariant: before trip `k` the scratch state reads the state after `k` tokens, and the output block
  holds the rows of the tokens before `k` written over what it held. The rows do not depend on what the block held.
-/
module

public import proofs.«01_k».proof.Proof.WkvTrip

@[expose] public section

set_option maxRecDepth 16384

noncomputable section

namespace Cert.KernelIdeal.Wkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-! ## What a trip's pieces are -/

theorem mem_stPieces (B : Blk F) (S : Vec F S8x64x64 .f32) (k : Fin k0_t1_loop.trips) (p) (hp : p ∈ stPieces B S k) :
    ∃ (h : Fin 8) (o : _) (ho : _) (o' : _) (ho' : _), p = stPiece B S o ho o' ho' ∧ o = ![h.val, 0, 0] ∧ o' = ![0, h.val, k.val, 0] := by
  simp only [stPieces, List.mem_cons, List.not_mem_nil, or_false] at hp
  rcases hp with rfl | rfl | rfl | rfl | rfl | rfl | rfl | rfl
  · exact ⟨7, _, _, _, _, rfl, rfl, k0_off8_eq k⟩
  · exact ⟨6, _, _, _, _, rfl, rfl, k0_off7_eq k⟩
  · exact ⟨5, _, _, _, _, rfl, rfl, k0_off6_eq k⟩
  · exact ⟨4, _, _, _, _, rfl, rfl, k0_off5_eq k⟩
  · exact ⟨3, _, _, _, _, rfl, rfl, k0_off4_eq k⟩
  · exact ⟨2, _, _, _, _, rfl, rfl, k0_off3_eq k⟩
  · exact ⟨1, _, _, _, _, rfl, rfl, k0_off2_eq k⟩
  · exact ⟨0, _, _, _, _, rfl, rfl, k0_off1_eq k⟩

theorem mem_rowPieces (B : Blk F) (S : Vec F S8x64x64 .f32) (k : Fin k0_t1_loop.trips) (p) (hp : p ∈ rowPieces B S k) :
    ∃ (h : Fin 8) (o : _) (ho : _) (o' : _) (ho' : _), p = rowPiece B S o ho o' ho' ∧ o = ![h.val, 0, 0] ∧ o' = ![0, h.val, k.val, 0] := by
  simp only [rowPieces, List.mem_cons, List.not_mem_nil, or_false] at hp
  rcases hp with rfl | rfl | rfl | rfl | rfl | rfl | rfl | rfl
  · exact ⟨7, _, _, _, _, rfl, rfl, k0_off8_eq k⟩
  · exact ⟨6, _, _, _, _, rfl, rfl, k0_off7_eq k⟩
  · exact ⟨5, _, _, _, _, rfl, rfl, k0_off6_eq k⟩
  · exact ⟨4, _, _, _, _, rfl, rfl, k0_off5_eq k⟩
  · exact ⟨3, _, _, _, _, rfl, rfl, k0_off4_eq k⟩
  · exact ⟨2, _, _, _, _, rfl, rfl, k0_off3_eq k⟩
  · exact ⟨1, _, _, _, _, rfl, rfl, k0_off2_eq k⟩
  · exact ⟨0, _, _, _, _, rfl, rfl, k0_off1_eq k⟩

theorem stPieces_at (B : Blk F) (S : Vec F S8x64x64 .f32) (k : Fin k0_t1_loop.trips) (h : Fin 8) :
    ∃ (o : _) (ho : _) (o' : _) (ho' : _), stPiece B S o ho o' ho' ∈ stPieces B S k ∧ o = ![h.val, 0, 0] := by
  fin_cases h
  · exact ⟨_, inb_S8x64x64_S1x64x64_0_0_0, _, k0_off1_inb k, by simp [stPieces], rfl⟩
  · exact ⟨_, inb_S8x64x64_S1x64x64_1_0_0, _, k0_off2_inb k, by simp [stPieces], rfl⟩
  · exact ⟨_, inb_S8x64x64_S1x64x64_2_0_0, _, k0_off3_inb k, by simp [stPieces], rfl⟩
  · exact ⟨_, inb_S8x64x64_S1x64x64_3_0_0, _, k0_off4_inb k, by simp [stPieces], rfl⟩
  · exact ⟨_, inb_S8x64x64_S1x64x64_4_0_0, _, k0_off5_inb k, by simp [stPieces], rfl⟩
  · exact ⟨_, inb_S8x64x64_S1x64x64_5_0_0, _, k0_off6_inb k, by simp [stPieces], rfl⟩
  · exact ⟨_, inb_S8x64x64_S1x64x64_6_0_0, _, k0_off7_inb k, by simp [stPieces], rfl⟩
  · exact ⟨_, inb_S8x64x64_S1x64x64_7_0_0, _, k0_off8_inb k, by simp [stPieces], rfl⟩

theorem rowPieces_at (B : Blk F) (S : Vec F S8x64x64 .f32) (k : Fin k0_t1_loop.trips) (h : Fin 8) :
    ∃ (o : _) (ho : _) (o' : _) (ho' : _), rowPiece B S o ho o' ho' ∈ rowPieces B S k ∧ o' = ![0, h.val, k.val, 0] := by
  fin_cases h
  · exact ⟨_, inb_S8x64x64_S1x64x64_0_0_0, _, k0_off1_inb k, by simp [rowPieces], k0_off1_eq k⟩
  · exact ⟨_, inb_S8x64x64_S1x64x64_1_0_0, _, k0_off2_inb k, by simp [rowPieces], k0_off2_eq k⟩
  · exact ⟨_, inb_S8x64x64_S1x64x64_2_0_0, _, k0_off3_inb k, by simp [rowPieces], k0_off3_eq k⟩
  · exact ⟨_, inb_S8x64x64_S1x64x64_3_0_0, _, k0_off4_inb k, by simp [rowPieces], k0_off4_eq k⟩
  · exact ⟨_, inb_S8x64x64_S1x64x64_4_0_0, _, k0_off5_inb k, by simp [rowPieces], k0_off5_eq k⟩
  · exact ⟨_, inb_S8x64x64_S1x64x64_5_0_0, _, k0_off6_inb k, by simp [rowPieces], k0_off6_eq k⟩
  · exact ⟨_, inb_S8x64x64_S1x64x64_6_0_0, _, k0_off7_inb k, by simp [rowPieces], k0_off7_eq k⟩
  · exact ⟨_, inb_S8x64x64_S1x64x64_7_0_0, _, k0_off8_inb k, by simp [rowPieces], k0_off8_eq k⟩

/-- After a trip's stores the scratch reads the next state. -/
theorem read_stPieces (v : View sig .tc .vmem S8x64x64 .f32) (f : BufTy.Contents (Elt F) v.ty) (B : Blk F) (S : Vec F S8x64x64 .f32)
    (k : Fin k0_t1_loop.trips) (hk : k.val < 256) :
    v.read (Elt F) (v.writes (Elt F) f (stPieces B S k)) = stepS B S ⟨k.val, hk⟩ := by
  funext y
  refine View.read_writes_apply_of_pieces (Val := Elt F) (v := v) (f := f) (stepS B S ⟨k.val, hk⟩) _ ?_ y ?_
  · intro p hp z
    obtain ⟨h, o, ho, o', ho', rfl, e, e'⟩ := mem_stPieces B S k p hp
    exact stPiece_apply B S h ⟨k.val, hk⟩ e e' z
  · obtain ⟨o, ho, o', ho', hm, rfl⟩ := stPieces_at B S k (y 0)
    refine ⟨_, hm, ?_⟩
    show y ∈ (Rect.unit (s := S8x64x64) ![(y 0).val, 0, 0] S1x64x64.size ho).set
    refine Rect.mem_set_unit.mpr fun a => ?_
    fin_cases a
    · exact ⟨le_refl _, Nat.lt_succ_self _⟩
    · exact ⟨Nat.zero_le _, by simpa using (y 1).isLt⟩
    · exact ⟨Nat.zero_le _, by simpa using (y 2).isLt⟩

/-- After all trips' stores the output block reads the block of outputs. -/
theorem read_rowsL (v : View sig .tc .vmem S1x8x256x64 .f32) (f : BufTy.Contents (Elt F) v.ty) (B : Blk F) (S : Vec F S8x64x64 .f32) :
    v.read (Elt F) (v.writes (Elt F) f (rowsL B S k0_t1_loop.trips)) = outS B S := by
  have hG : ∀ n ≤ k0_t1_loop.trips, ∀ p ∈ rowsL B S n, ∀ z, p.2 z = outS B S (p.1.emb z) := by
    intro n
    induction n with
    | zero => intro _ p hp; exact absurd hp List.not_mem_nil
    | succ n ih =>
      intro hn p hp z
      rw [rowsL_succ B S ⟨n, hn⟩, List.mem_append] at hp
      rcases hp with hp | hp
      · obtain ⟨h, o, ho, o', ho', rfl, e, e'⟩ := mem_rowPieces B _ _ p hp
        have hn' : n < 256 := by rw [trips_eq] at hn; exact hn
        obtain ⟨h1, h2⟩ := rowPiece_apply B (stateS B S n) h ⟨n, hn'⟩ (ho := ho) (ho' := ho') e e' z
        rw [h2]
        show rowS B (stateS B S n) _ = rowS B (stateS B S (((rowPiece B (stateS B S n) o ho o' ho').1.emb z) 2).val) _
        rw [h1]
        rfl
      · exact ih (by omega) p hp z
  have hc : ∀ n ≤ k0_t1_loop.trips, ∀ y : S1x8x256x64.Idx, (y 2).val < n → ∃ p ∈ rowsL B S n, y ∈ p.1.set := by
    intro n
    induction n with
    | zero => intro _ y hy; exact absurd hy (Nat.not_lt_zero _)
    | succ n ih =>
      intro hn y hy
      rw [rowsL_succ B S ⟨n, hn⟩]
      rcases Nat.lt_or_ge (y 2).val n with hl | hl
      · obtain ⟨p, hp, hy⟩ := ih (by omega) y hl
        exact ⟨p, List.mem_append_right _ hp, hy⟩
      · obtain ⟨o, ho, o', ho', hm, rfl⟩ := rowPieces_at B (stateS B S n) ⟨n, hn⟩ (y 1)
        have e : (y 2).val = n := by omega
        refine ⟨_, List.mem_append_left _ hm, ?_⟩
        show y ∈ (Rect.unit (s := S1x8x256x64) ![0, (y 1).val, n, 0] S1x1x1x64.size ho').set
        refine Rect.mem_set_unit.mpr fun a => ?_
        fin_cases a
        · exact ⟨Nat.zero_le _, by simpa using (y 0).isLt⟩
        · exact ⟨le_refl _, Nat.lt_succ_self _⟩
        · exact ⟨e.ge, Nat.lt_succ_of_le e.le⟩
        · exact ⟨Nat.zero_le _, by simpa using (y 3).isLt⟩
  funext y
  exact View.read_writes_apply_of_pieces (Val := Elt F) (v := v) (f := f) (outS B S) _ (hG _ le_rfl) y
    (hc _ le_rfl y (by rw [trips_eq]; exact (y 2).isLt))

/-! ## The invariant -/

variable (𝒱 : Variants) (c : Dev nD) (bd : Option 𝒱.V) (i : grid0.Coords)
  (arg3 : Memref sig .tc .vmem S1x8x256x64 .f32) (harg3 : arg3.IsWhole)
  (arg4 : Memref sig .tc .vmem S1x8x256x64 .f32) (harg4 : arg4.IsWhole)
  (arg5 : Memref sig .tc .vmem S1x8x256x64 .f32) (harg5 : arg5.IsWhole)
  (arg6 : Memref sig .tc .vmem S1x8x256x64 .f32) (harg6 : arg6.IsWhole)
  (arg7 : Memref sig .tc .vmem S1x8x256x64 .f32) (harg7 : arg7.IsWhole)
  (arg8 : Memref sig .tc .vmem S1x8x256x64 .f32) (harg8 : arg8.IsWhole)
  (arg9 : Memref sig .tc .vmem S1x8x64x64 .f32) (harg9 : arg9.IsWhole)
  (arg10 : Memref sig .tc .vmem S1x8x256x64 .f32) (harg10 : arg10.IsWhole)
  (arg11 : Memref sig .tc .vmem S1x8x64x64 .f32) (harg11 : arg11.IsWhole)
  (arg12 : Memref sig .tc .vmem S8x64x64 .f32) (harg12 : arg12.IsWhole)
  (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)

/-- The blocks the six buffers hold. -/
abbrev blkOf : Blk F :=
  ⟨arg3.view.read (Elt F) X3, arg4.view.read (Elt F) X4, arg5.view.read (Elt F) X5, arg6.view.read (Elt F) X6,
    arg7.view.read (Elt F) X7, arg8.view.read (Elt F) X8⟩

/-- What a trip touches: the six blocks, the output block and the state. -/
abbrev Res (f10 : BufTy.Contents (Elt F) arg10.view.ty) (f12 : BufTy.Contents (Elt F) arg12.view.ty) : sProp 𝕄G :=
  iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} X7) ∗ (arg8.view.loc (c : Thread nD τ) ↦[arg8.view.set]{fullShare} X8)
    ∗ (arg10.view.loc (c : Thread nD τ) ↦[arg10.view.set]{fullShare} f10) ∗ (arg12.view.loc (c : Thread nD τ) ↦[arg12.view.set]{fullShare} f12))

/-- One trip, the pieces it stores found by the run. -/
@[irreducible] def tripRun (k : Fin k0_t1_loop.trips) (f10 : BufTy.Contents (Elt F) arg10.view.ty) (f12 : BufTy.Contents (Elt F) arg12.view.ty) :
    Σ' (L10 : List (View.Piece (Elt F) S1x8x256x64 .f32)), { L12 : List (View.Piece (Elt F) S8x64x64 .f32) // ∀ (E : Set ℕ),
      Res (F := F) c arg3 arg4 arg5 arg6 arg7 arg8 arg10 arg12 X3 X4 X5 X6 X7 X8 f10 f12
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 k PUnit.unit)
          (fun _ => Res (F := F) c arg3 arg4 arg5 arg6 arg7 arg8 arg10 arg12 X3 X4 X5 X6 X7 X8
            (arg10.view.writes (Elt F) f10 L10) (arg12.view.writes (Elt F) f12 L12)) } := by
  have hk : k.val < 256 := Nat.lt_of_lt_of_le k.isLt k0_t1_abs.2.1
  refine ⟨?_, ?_, fun E => ?run⟩
  case run =>
    unfold k0_t1_body
    iintro ⟨HR_arg3, HR_arg4, HR_arg5, HR_arg6, HR_arg7, HR_arg8, HW_arg10, HW_arg12⟩
    sl_exec
    sl_step
    sl_close

/-- The pieces the run finds are `rowPieces` and `stPieces`. -/
theorem tripRun_pieces (k : Fin k0_t1_loop.trips) (f10 : BufTy.Contents (Elt F) arg10.view.ty) (f12 : BufTy.Contents (Elt F) arg12.view.ty) :
    (tripRun (F := F) 𝒱 c bd i arg3 harg3 arg4 harg4 arg5 harg5 arg6 harg6 arg7 harg7 arg8 harg8 arg9 harg9 arg10 harg10 arg11 harg11 arg12 harg12 X3 X4 X5 X6 X7 X8 k f10 f12).1
        = rowPieces (blkOf arg3 arg4 arg5 arg6 arg7 arg8 X3 X4 X5 X6 X7 X8) (arg12.view.read (Elt F) f12) k
      ∧ (tripRun (F := F) 𝒱 c bd i arg3 harg3 arg4 harg4 arg5 harg5 arg6 harg6 arg7 harg7 arg8 harg8 arg9 harg9 arg10 harg10 arg11 harg11 arg12 harg12 X3 X4 X5 X6 X7 X8 k f10 f12).2.1
        = stPieces (blkOf arg3 arg4 arg5 arg6 arg7 arg8 X3 X4 X5 X6 X7 X8) (arg12.view.read (Elt F) f12) k := by
  unfold tripRun
  exact ⟨rfl, rfl⟩

/-- The loop's invariant before trip `k`, from an output block holding `G10` and a state `S`. -/
abbrev inv (G10 : BufTy.Contents (Elt F) arg10.view.ty) (S : Vec F S8x64x64 .f32) (k : ℕ) (_u : PUnit) : sProp 𝕄G :=
  iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} X7) ∗ (arg8.view.loc (c : Thread nD τ) ↦[arg8.view.set]{fullShare} X8)
    ∗ (∃ f, (arg10.view.loc (c : Thread nD τ) ↦[arg10.view.set]{fullShare} f)
        ∗ ⌜f = arg10.view.writes (Elt F) G10 (rowsL (blkOf arg3 arg4 arg5 arg6 arg7 arg8 X3 X4 X5 X6 X7 X8) S k)⌝)
    ∗ (∃ f, (arg12.view.loc (c : Thread nD τ) ↦[arg12.view.set]{fullShare} f)
        ∗ ⌜arg12.view.read (Elt F) f = stateS (blkOf arg3 arg4 arg5 arg6 arg7 arg8 X3 X4 X5 X6 X7 X8) S k⌝))

set_option warn.classDefReducibility false in
/-- The loop by its invariant. -/
@[sl_loop] def loopInv (E : Set ℕ) (G10 : BufTy.Contents (Elt F) arg10.view.ty) (S : Vec F S8x64x64 .f32) :
    Gen.LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 where
  inv := inv (F := F) c arg3 arg4 arg5 arg6 arg7 arg8 arg10 arg12 X3 X4 X5 X6 X7 X8 G10 S
  step k acc := by
    iintro ⟨H3, H4, H5, H6, H7, H8, ⟨%f10, H10, %h10⟩, ⟨%f12, H12, %h12⟩⟩
    iapply (wp_wand_r Idealize.ShloMosaic.frame (wpE (defs₀ (F := F)) 𝒱 (c : Thread nD τ) bd) E)
    isplitl [H3 H4 H5 H6 H7 H8 H10 H12]
    · iapply ((tripRun (F := F) 𝒱 c bd i arg3 harg3 arg4 harg4 arg5 harg5 arg6 harg6 arg7 harg7 arg8 harg8 arg9 harg9 arg10 harg10 arg11 harg11 arg12 harg12 X3 X4 X5 X6 X7 X8 k f10 f12).2.2 E)
      isplitl [H3]; · iexact H3
      isplitl [H4]; · iexact H4
      isplitl [H5]; · iexact H5
      isplitl [H6]; · iexact H6
      isplitl [H7]; · iexact H7
      isplitl [H8]; · iexact H8
      isplitl [H10]; · iexact H10
      iexact H12
    · iintro %_ ⟨H3, H4, H5, H6, H7, H8, H10, H12⟩
      isplitl [H3]; · iexact H3
      isplitl [H4]; · iexact H4
      isplitl [H5]; · iexact H5
      isplitl [H6]; · iexact H6
      isplitl [H7]; · iexact H7
      isplitl [H8]; · iexact H8
      isplitl [H10]
      · iexists _; isplitl [H10]; · iexact H10
        ipureintro
        rw [(tripRun_pieces (F := F) 𝒱 c bd i arg3 harg3 arg4 harg4 arg5 harg5 arg6 harg6 arg7 harg7 arg8 harg8 arg9 harg9 arg10 harg10 arg11 harg11 arg12 harg12 X3 X4 X5 X6 X7 X8 k f10 f12).1, h10, h12, rowsL_succ, ← View.writes_append]
      iexists _; isplitl [H12]; · iexact H12
      ipureintro
      have hk : k.val < 256 := Nat.lt_of_lt_of_le k.isLt k0_t1_abs.2.1
      rw [(tripRun_pieces (F := F) 𝒱 c bd i arg3 harg3 arg4 harg4 arg5 harg5 arg6 harg6 arg7 harg7 arg8 harg8 arg9 harg9 arg10 harg10 arg11 harg11 arg12 harg12 X3 X4 X5 X6 X7 X8 k f10 f12).2, read_stPieces _ _ _ _ k hk, h12, stateS_succ _ _ _ hk]

end Cert.KernelIdeal.Wkv

end
-- ==== Proof.WkvRun.lean ====
/-
  The kernel's body at a grid point: at the first point of a row of blocks it loads the initial state, at the last it
  stores the final one; in between it carries the state in scratch memory. At every point it leaves the block of outputs
  and the state after the block's tokens.
-/
module

public import proofs.«01_k».proof.Proof.WkvLoop
public import proofs.«01_k».proof.Proof.Gen.KernelIdeal.Frame.Runs
public import Idealize.ShloMosaic.Lib.VecWindow

@[expose] public section

set_option maxRecDepth 16384

noncomputable section

namespace Cert.KernelIdeal.Wkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords)
  (arg3 : Memref sig .tc .vmem S1x8x256x64 .f32) (harg3 : arg3.IsWhole)
  (arg4 : Memref sig .tc .vmem S1x8x256x64 .f32) (harg4 : arg4.IsWhole)
  (arg5 : Memref sig .tc .vmem S1x8x256x64 .f32) (harg5 : arg5.IsWhole)
  (arg6 : Memref sig .tc .vmem S1x8x256x64 .f32) (harg6 : arg6.IsWhole)
  (arg7 : Memref sig .tc .vmem S1x8x256x64 .f32) (harg7 : arg7.IsWhole)
  (arg8 : Memref sig .tc .vmem S1x8x256x64 .f32) (harg8 : arg8.IsWhole)
  (arg9 : Memref sig .tc .vmem S1x8x64x64 .f32) (harg9 : arg9.IsWhole)
  (arg10 : Memref sig .tc .vmem S1x8x256x64 .f32) (harg10 : arg10.IsWhole)
  (arg11 : Memref sig .tc .vmem S1x8x64x64 .f32) (harg11 : arg11.IsWhole)
  (arg12 : Memref sig .tc .vmem S8x64x64 .f32) (harg12 : arg12.IsWhole)
  (x0 x1 x2 x3 x4 x5 : Vec F S1x8x256x64 .f32) (x6 : Vec F S1x8x64x64 .f32)

/-- A state stored whole from the initial state's whole block, and read back. -/
theorem read_init {sp sp' : Space} (v : View sig .tc sp S8x64x64 .f32) (v' : View sig .tc sp' S1x8x64x64 .f32) (f : v.ty.Contents (Elt F))
    (f' : v'.ty.Contents (Elt F)) (inb inb' L) :
    v.read (Elt F) (v.writes (Elt F) f (⟨Rect.unit ![0, 0, 0] S8x64x64.size inb, k0_pay1 (v'.readAt (Elt F) (Rect.unit ![0, 0, 0, 0] S1x8x64x64.size inb').toLoadRect f')⟩ :: L))
      = k0_pay1 (v'.read (Elt F) f') := by
  rw [View.read_writes_full, View.readAt_full]

/-- A state read whole, stored whole in the block of the final state, and read back. -/
theorem read_final {sp sp' : Space} (v : View sig .tc sp S1x8x64x64 .f32) (v' : View sig .tc sp' S8x64x64 .f32) (f : v.ty.Contents (Elt F))
    (f' : v'.ty.Contents (Elt F)) (inb inb' L) :
    v.read (Elt F) (v.writes (Elt F) f (⟨Rect.unit ![0, 0, 0, 0] S1x8x64x64.size inb, k0_pay6 (v'.readAt (Elt F) (Rect.unit ![0, 0, 0] S8x64x64.size inb').toLoadRect f')⟩ :: L))
      = k0_pay6 (v'.read (Elt F) f') := by
  rw [View.read_writes_full, View.readAt_full]

/-- The first point of a row of blocks. -/
theorem runA (hc0 : cond0_0 i) (hc1 : ¬cond0_1 i) (xi8 : Vec F S1x8x64x64 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ owns (c : Thread nD τ) arg11 fullShare xi8 ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (outS ⟨x0, x1, x2, x3, x4, x5⟩ (k0_pay1 x6)) ∗ owns (c : Thread nD τ) arg11 fullShare xi8 ∗ owns (c : Thread nD τ) arg12 fullShare (stateS ⟨x0, x1, x2, x3, x4, x5⟩ (k0_pay1 x6) 256)) -∗ K ⟨⟩))
      ⊢ wp frame (wpE (defs₀ (F := F)) Variants.none c none) E (cc0_wkv7_scan i arg3 harg3 arg4 harg4 arg5 harg5 arg6 harg6 arg7 harg7 arg8 harg8 arg9 harg9 arg10 harg10 arg11 harg11 arg12 harg12) K := by
  simp only [cc0_wkv7_scan_eq_skeleton]; unfold cc0_wkv7_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, Hk⟩
  subst hf0 hf1 hf2 hf3 hf4 hf5 hf6
  sl_exec (disch := first | sl_exact hc0 | sl_exact hc1)
  sl_step
  iapply Hk
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr [H7]; rotate_left; · iexact H7
    ipureintro; exact (read_rowsL _ _ _ _).trans (congrArg (outS _) (read_init _ _ _ _ _ _ _))
  isplitl [H8]
  · iexists _; isplitr; · ipureintro; exact hf8
    iexact H8
  iexists _; isplitr [HS0]; rotate_left; · iexact HS0
  ipureintro; exact hL9.trans (congrArg (fun S => stateS _ S 256) (read_init _ _ _ _ _ _ _))

/-- A point in between. -/
theorem runB (hc0 : ¬cond0_0 i) (hc1 : ¬cond0_1 i) (xi8 : Vec F S1x8x64x64 .f32) (xs : Vec F S8x64x64 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ owns (c : Thread nD τ) arg11 fullShare xi8 ∗ owns (c : Thread nD τ) arg12 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (outS ⟨x0, x1, x2, x3, x4, x5⟩ (xs)) ∗ owns (c : Thread nD τ) arg11 fullShare xi8 ∗ owns (c : Thread nD τ) arg12 fullShare (stateS ⟨x0, x1, x2, x3, x4, x5⟩ (xs) 256)) -∗ K ⟨⟩))
      ⊢ wp frame (wpE (defs₀ (F := F)) Variants.none c none) E (cc0_wkv7_scan i arg3 harg3 arg4 harg4 arg5 harg5 arg6 harg6 arg7 harg7 arg8 harg8 arg9 harg9 arg10 harg10 arg11 harg11 arg12 harg12) K := by
  simp only [cc0_wkv7_scan_eq_skeleton]; unfold cc0_wkv7_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs, HS0⟩, Hk⟩
  subst hf0 hf1 hf2 hf3 hf4 hf5 hf6 hfs
  sl_exec (disch := first | sl_exact hc0 | sl_exact hc1)
  sl_step
  iapply Hk
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr [H7]; rotate_left; · iexact H7
    ipureintro; exact read_rowsL _ _ _ _
  isplitl [H8]
  · iexists _; isplitr; · ipureintro; exact hf8
    iexact H8
  iexists _; isplitr [HS0]; rotate_left; · iexact HS0
  ipureintro; exact hL9

/-- The last point of a row of blocks. -/
theorem runC (hc0 : ¬cond0_0 i) (hc1 : cond0_1 i) (xs : Vec F S8x64x64 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ (∃ d, owns (c : Thread nD τ) arg11 fullShare d) ∗ owns (c : Thread nD τ) arg12 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (outS ⟨x0, x1, x2, x3, x4, x5⟩ (xs)) ∗ owns (c : Thread nD τ) arg11 fullShare (k0_pay6 (stateS ⟨x0, x1, x2, x3, x4, x5⟩ xs 256)) ∗ owns (c : Thread nD τ) arg12 fullShare (stateS ⟨x0, x1, x2, x3, x4, x5⟩ (xs) 256)) -∗ K ⟨⟩))
      ⊢ wp frame (wpE (defs₀ (F := F)) Variants.none c none) E (cc0_wkv7_scan i arg3 harg3 arg4 harg4 arg5 harg5 arg6 harg6 arg7 harg7 arg8 harg8 arg9 harg9 arg10 harg10 arg11 harg11 arg12 harg12) K := by
  simp only [cc0_wkv7_scan_eq_skeleton]; unfold cc0_wkv7_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs, HS0⟩, Hk⟩
  subst hf0 hf1 hf2 hf3 hf4 hf5 hf6 hfs
  sl_exec (disch := first | sl_exact hc0 | sl_exact hc1)
  sl_step
  iapply Hk
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr [H7]; rotate_left; · iexact H7
    ipureintro; exact read_rowsL _ _ _ _
  isplitl [H8]
  · iexists _; isplitr [H8]; rotate_left; · iexact H8
    ipureintro; exact (read_final _ _ _ _ _ _ _).trans (congrArg k0_pay6 hL9)
  iexists _; isplitr [HS0]; rotate_left; · iexact HS0
  ipureintro; exact hL9

end Cert.KernelIdeal.Wkv

end
-- ==== Proof.WkvFrame.lean ====
/-
  The launch: the memory every grid point finds and leaves (its block of outputs, the state carried in scratch memory,
  the final state at the last point of a row of blocks), the run of the whole pipeline, and the frame: the argument
  arrays end as they began and every semaphore ends at zero. All of it at any reading of the floats.
-/
module

public import proofs.«01_k».proof.Proof.WkvRun
public import Idealize.ShloMosaic.Lib.Claim

@[expose] public section

set_option maxRecDepth 16384

noncomputable section

namespace Cert.KernelIdeal.Wkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six blocks of tokens the body sees at point `t`. -/
def blkAt (c : Dev nD) (t : Fin cfg0.N) : Blk F :=
  ⟨iblk m c 0 t, iblk m c 1 t, iblk m c 2 t, iblk m c 3 t, iblk m c 4 t, iblk m c 5 t⟩

/-- The state the body loads at point `t`, when it loads one. -/
def initAt (c : Dev nD) (t : Fin cfg0.N) : Vec F S8x64x64 .f32 := k0_pay1 (iblk m c 6 t)

/-- The state in scratch memory after point `n`. -/
def exitS (c : Dev nD) : (n : ℕ) → n < cfg0.N → Vec F S8x64x64 .f32
  | 0, h => stateS (blkAt m c ⟨0, h⟩) (initAt m c ⟨0, h⟩) 256
  | n + 1, h => stateS (blkAt m c ⟨n + 1, h⟩)
      (if (n + 1) % 32 = 0 then initAt m c ⟨n + 1, h⟩ else exitS c n (Nat.lt_of_succ_lt h)) 256

/-- The state the tokens of point `t` start from. -/
def entryS (c : Dev nD) (t : Fin cfg0.N) : Vec F S8x64x64 .f32 :=
  if t.val % 32 = 0 then initAt m c t else exitS m c (t.val - 1) (Nat.lt_of_le_of_lt (Nat.sub_le _ _) t.isLt)

theorem exitS_eq (c : Dev nD) (t : Fin cfg0.N) : exitS m c t.val t.isLt = stateS (blkAt m c t) (entryS m c t) 256 := by
  obtain ⟨n, hn⟩ := t
  cases n with
  | zero => rfl
  | succ n => rfl

theorem entryS_first (c : Dev nD) (t : Fin cfg0.N) (h : t.val % 32 = 0) : entryS m c t = initAt m c t := if_pos h

theorem entryS_next (c : Dev nD) (t : Fin cfg0.N) (h : ¬t.val % 32 = 0) :
    entryS m c t = exitS m c (t.val - 1) (Nat.lt_of_le_of_lt (Nat.sub_le _ _) t.isLt) := if_neg h

/-- What holds between points: at first the scratch memory at anything, later at the state the point before left. -/
def PhiS (c : Dev nD) : (n : ℕ) → n ≤ cfg0.N → sProp 𝕄
  | 0, _ => Pipeline.ΦA spec0 c
  | n + 1, hn => iprop(iprop(owns (c : Thread nD τ) scM0_0 fullShare (exitS m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (exitS m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (exitS m c (n - 1) (by omega))) ∗ (∃ r, prngReg c r)) := by
  cases n with
  | zero => exact absurd rfl hz
  | succ n => rfl

/-- At any time the scratch memory holds something. -/
theorem PhiS_any (c : Dev nD) (n : ℕ) (h : n ≤ cfg0.N) : PhiS m c n h ⊢ (Pipeline.ΦA spec0 c : sProp 𝕄) := by
  by_cases hz : n = 0
  · rw [PhiS_zero m c n h hz]
    try exact Idealize.SL.BI.Entails.refl _
  · rw [PhiS_pos m c n h hz, PhiA0_eq]
    iintro ⟨HS0, Hg⟩
    isplitl [HS0]
    · iexists _; iexact HS0
    iexact Hg

/-- What the pipeline finds and what every point leaves: inputs their blocks, window 7 the block of outputs, window 8 the
    state of the row so far (written back at the row's last point only). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outS (blkAt m c t) (entryS m c t)
    | ⟨8, _⟩ => k0_pay6 (exitS m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outS (blkAt m c t) (entryS m c t) := by dsimp only [dats]
theorem after0_8 (c : Dev nD) (t : Fin cfg0.N) : (dats m 0 c).after 8 t = k0_pay6 (exitS m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body starts from at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What the body leaves at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at any point, by the three kinds of points. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ, PhiS_castSucc m c t, exitS_eq]
  have e0 : (dats m 0 c).leavesExact 0 t = owns (c : Thread nD τ) (ms0_0 t) fullShare (iblk m c 0 t) := by
    unfold Dat.leavesExact; rw [liveAt0_0 t, after0_0]
  have e1 : (dats m 0 c).leavesExact 1 t = owns (c : Thread nD τ) (ms0_1 t) fullShare (iblk m c 1 t) := by
    unfold Dat.leavesExact; rw [liveAt0_1 t, after0_1]
  have e2 : (dats m 0 c).leavesExact 2 t = owns (c : Thread nD τ) (ms0_2 t) fullShare (iblk m c 2 t) := by
    unfold Dat.leavesExact; rw [liveAt0_2 t, after0_2]
  have e3 : (dats m 0 c).leavesExact 3 t = owns (c : Thread nD τ) (ms0_3 t) fullShare (iblk m c 3 t) := by
    unfold Dat.leavesExact; rw [liveAt0_3 t, after0_3]
  have e4 : (dats m 0 c).leavesExact 4 t = owns (c : Thread nD τ) (ms0_4 t) fullShare (iblk m c 4 t) := by
    unfold Dat.leavesExact; rw [liveAt0_4 t, after0_4]
  have e5 : (dats m 0 c).leavesExact 5 t = owns (c : Thread nD τ) (ms0_5 t) fullShare (iblk m c 5 t) := by
    unfold Dat.leavesExact; rw [liveAt0_5 t, after0_5]
  have e6 : (dats m 0 c).leavesExact 6 t = owns (c : Thread nD τ) (ms0_6 t) fullShare (iblk m c 6 t) := by
    unfold Dat.leavesExact; rw [liveAt0_6 t, after0_6]
  have e7 : (dats m 0 c).leavesExact 7 t = owns (c : Thread nD τ) (ms0_7 t) fullShare (outS (blkAt m c t) (entryS m c t)) := by
    unfold Dat.leavesExact; rw [liveAt0_7 t, after0_7]
  rw [e0, e1, e2, e3, e4, e5, e6, e7]
  by_cases h0 : t.val % 32 = 0
  · have h1 : ¬t.val % 32 = 31 := by omega
    have c0 := (hcond0_0 t).mpr h0
    have c1 := fun h => h1 ((hcond0_1 t).mp h)
    rw [Dat.leavesExact_idle (dats m 0 c) 8 t (idleAt0_8_A t c0 c1) (noFlush0_8_A t c0 c1), entryS_first m c t h0]
    unfold blkAt initAt
    refine (sep_mono (PhiS_any m c _ _) .rfl).trans ?_
    rw [PhiA0_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply runA c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) c0 c1 _ Set.univ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have c0 := fun h => h0 ((hcond0_0 t).mp h)
    have hz : t.val ≠ 0 := fun h => h0 (by rw [h])
    rw [PhiS_pos m c _ _ hz, entryS_next m c t h0]
    by_cases h1 : t.val % 32 = 31
    · have c1 := (hcond0_1 t).mpr h1
      have e8 : (dats m 0 c).leavesExact 8 t = owns (c : Thread nD τ) (ms0_8 t) fullShare (k0_pay6 (exitS m c t.val t.isLt)) := by
        unfold Dat.leavesExact; rw [liveAt0_8_C t c0 c1, after0_8]
      rw [e8, exitS_eq, entryS_next m c t h0]
      unfold blkAt
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply runC c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) c0 c1 _ Set.univ _
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have c1 := fun h => h1 ((hcond0_1 t).mp h)
      rw [Dat.leavesExact_idle (dats m 0 c) 8 t (idleAt0_8_B t c0 c1) (noFlush0_8_B t c0 c1)]
      unfold blkAt
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply runB c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) c0 c1 _ _ Set.univ _
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The body as the launch calls it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

set_option backward.isDefEq.respectTransparency.types false in
/-- The launch of the whole pipeline; every semaphore ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Wkv

end
-- ==== Proof.WkvArrays.lean ====
/-
  The arrays the recurrence's kernel ends with, as functions of its arguments: the final state, and the row of outputs of
  every token, are those of the recurrence of each head over all the tokens.
-/
module

public import proofs.«01_k».proof.Proof.WkvFrame
public import Idealize.ShloMosaic.Lib.Pipeline.Value
public import Idealize.ShloMosaic.Lib.StableHlo.RunRead

@[expose] public section

set_option maxRecDepth 16384

noncomputable section

namespace Cert.KernelIdeal.Wkv

open Cert.KernelIdeal Cert.KernelIdeal.Gen Cert.Wkv Idealize.ShloMosaic Idealize.ShloMosaic.TcCoe Idealize.SL.Sem
open Idealize.ShloMosaic.Pipeline (Dat)

section Arrays

variable {F : FTy → Type} [FloatOps F]
variable (m : (ℓ : Loc nD τ sig) → Buf (Elt F) ℓ) (ρ : Dev nD → PrngReg)

/-! ## The arrays after the run, block by block -/

/-- The point that writes an index of the outputs back, and the index's place in its block. -/
def pt7 (i : S2x16x8192x64.Idx) : Fin cfg0.N :=
  ⟨64 * (i 0).val + 32 * ((i 1).val / 8) + (i 2).val / 256, by
    have h0 : (i 0).val < 2 := (i 0).isLt
    have h1 : (i 1).val < 16 := (i 1).isLt
    have h2 : (i 2).val < 8192 := (i 2).isLt
    exact lt_of_lt_of_eq (by omega) N_0.symm⟩

def loc7 (i : S2x16x8192x64.Idx) : S1x8x256x64.Idx :=
  ix4 0 ⟨(i 1).val % 8, Nat.mod_lt _ (by decide)⟩ ⟨(i 2).val % 256, Nat.mod_lt _ (by decide)⟩ (i 3)

/-- The point that writes an index of the final state back, and the index's place in its block. -/
def pt8 (i : S2x16x64x64.Idx) : Fin cfg0.N :=
  ⟨64 * (i 0).val + 32 * ((i 1).val / 8) + 31, by
    have h0 : (i 0).val < 2 := (i 0).isLt
    have h1 : (i 1).val < 16 := (i 1).isLt
    exact lt_of_lt_of_eq (by omega) N_0.symm⟩

def loc8 (i : S2x16x64x64.Idx) : S1x8x64x64.Idx :=
  ix4 0 ⟨(i 1).val % 8, Nat.mod_lt _ (by decide)⟩ (i 2) (i 3)

/-- The state after point `t`. -/
def lastS (c : Dev nD) (t : Fin cfg0.N) : Vec F S8x64x64 .f32 := exitS m c t.val t.isLt

/-- The outputs' array. -/
def G7 (c : Dev nD) : Buf (Elt F) ((c : Thread nD τ).loc main_v8_0) := fun i =>
  outS (blkAt m c (pt7 i)) (entryS m c (pt7 i)) (loc7 i)

/-- The final states' array. -/
def G8 (c : Dev nD) : Buf (Elt F) ((c : Thread nD τ).loc main_v8_1) := fun i =>
  k0_pay6 (lastS m c (pt8 i)) (loc8 i)

/-- The windows' block numbers at a point. -/
theorem idx_tok : ∀ t : Fin cfg0.N, win0_7.index t = ![t.val / 64, t.val / 32 % 2, t.val % 32, 0] :=
  (by decide +kernel : ∀ t : Fin grid0.N, win0_7.index t = ![t.val / 64, t.val / 32 % 2, t.val % 32, 0])

theorem idx_st : ∀ t : Fin cfg0.N, win0_8.index t = ![t.val / 64, t.val / 32 % 2, 0, 0] :=
  (by decide +kernel : ∀ t : Fin grid0.N, win0_8.index t = ![t.val / 64, t.val / 32 % 2, 0, 0])

theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7]
  have ht : t.val < 128 := lt_of_lt_of_eq t.isLt N_0
  funext y
  have hy0 : (y 0).val < 1 := (y 0).isLt
  have hy1 : (y 1).val < 8 := (y 1).isLt
  have hy2 : (y 2).val < 256 := (y 2).isLt
  have hy3 : (y 3).val < 64 := (y 3).isLt
  have hb0 : (((cfg0.win 7).blk t).view.emb y 0).val = win0_7.index t (0 : Fin 4) * 1 + 1 * (y 0).val := rfl
  have hb1 : (((cfg0.win 7).blk t).view.emb y 1).val = win0_7.index t (1 : Fin 4) * 8 + 1 * (y 1).val := rfl
  have hb2 : (((cfg0.win 7).blk t).view.emb y 2).val = win0_7.index t (2 : Fin 4) * 256 + 1 * (y 2).val := rfl
  have hb3 : (((cfg0.win 7).blk t).view.emb y 3).val = win0_7.index t (3 : Fin 4) * 64 + 1 * (y 3).val := rfl
  have e0 : win0_7.index t (0 : Fin 4) = t.val / 64 := congrFun (idx_tok t) 0
  have e1 : win0_7.index t (1 : Fin 4) = t.val / 32 % 2 := congrFun (idx_tok t) 1
  have e2 : win0_7.index t (2 : Fin 4) = t.val % 32 := congrFun (idx_tok t) 2
  have e3 : win0_7.index t (3 : Fin 4) = 0 := congrFun (idx_tok t) 3
  have hp : pt7 (((cfg0.win 7).blk t).view.emb y) = t := Fin.ext (by
    show 64 * (((cfg0.win 7).blk t).view.emb y 0).val + 32 * ((((cfg0.win 7).blk t).view.emb y 1).val / 8)
      + (((cfg0.win 7).blk t).view.emb y 2).val / 256 = t.val
    rw [hb0, hb1, hb2, e0, e1, e2]; omega)
  have hl : loc7 (((cfg0.win 7).blk t).view.emb y) = (cfg0.win 7).xinj (grid0.coords t) y := by
    funext a; apply Fin.ext
    match a with
    | ⟨0, _⟩ => show 0 = (y 0).val; omega
    | ⟨1, _⟩ => show (((cfg0.win 7).blk t).view.emb y 1).val % 8 = (y 1).val; rw [hb1]; omega
    | ⟨2, _⟩ => show (((cfg0.win 7).blk t).view.emb y 2).val % 256 = (y 2).val; rw [hb2]; omega
    | ⟨3, _⟩ => show (((cfg0.win 7).blk t).view.emb y 3).val = (y 3).val; rw [hb3, e3]; omega
  show outS (blkAt m c t) (entryS m c t) ((cfg0.win 7).xinj (grid0.coords t) y) = G7 m c (((cfg0.win 7).blk t).view.emb y)
  unfold G7
  rw [hl, hp]

theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8]
  have ht : t.val < 128 := lt_of_lt_of_eq t.isLt N_0
  have hm : t.val % 32 = 31 := (flush0_8 t).mp hf
  funext y
  have hy0 : (y 0).val < 1 := (y 0).isLt
  have hy1 : (y 1).val < 8 := (y 1).isLt
  have hy2 : (y 2).val < 64 := (y 2).isLt
  have hy3 : (y 3).val < 64 := (y 3).isLt
  have hb0 : (((cfg0.win 8).blk t).view.emb y 0).val = win0_8.index t (0 : Fin 4) * 1 + 1 * (y 0).val := rfl
  have hb1 : (((cfg0.win 8).blk t).view.emb y 1).val = win0_8.index t (1 : Fin 4) * 8 + 1 * (y 1).val := rfl
  have hb2 : (((cfg0.win 8).blk t).view.emb y 2).val = win0_8.index t (2 : Fin 4) * 64 + 1 * (y 2).val := rfl
  have hb3 : (((cfg0.win 8).blk t).view.emb y 3).val = win0_8.index t (3 : Fin 4) * 64 + 1 * (y 3).val := rfl
  have e0 : win0_8.index t (0 : Fin 4) = t.val / 64 := congrFun (idx_st t) 0
  have e1 : win0_8.index t (1 : Fin 4) = t.val / 32 % 2 := congrFun (idx_st t) 1
  have e2 : win0_8.index t (2 : Fin 4) = 0 := congrFun (idx_st t) 2
  have e3 : win0_8.index t (3 : Fin 4) = 0 := congrFun (idx_st t) 3
  have hp : pt8 (((cfg0.win 8).blk t).view.emb y) = t := Fin.ext (by
    show 64 * (((cfg0.win 8).blk t).view.emb y 0).val + 32 * ((((cfg0.win 8).blk t).view.emb y 1).val / 8) + 31 = t.val
    rw [hb0, hb1, e0, e1]; omega)
  have hl : loc8 (((cfg0.win 8).blk t).view.emb y) = (cfg0.win 8).xinj (grid0.coords t) y := by
    funext a; apply Fin.ext
    match a with
    | ⟨0, _⟩ => show 0 = (y 0).val; omega
    | ⟨1, _⟩ => show (((cfg0.win 8).blk t).view.emb y 1).val % 8 = (y 1).val; rw [hb1]; omega
    | ⟨2, _⟩ => show (((cfg0.win 8).blk t).view.emb y 2).val = (y 2).val; rw [hb2, e2]; omega
    | ⟨3, _⟩ => show (((cfg0.win 8).blk t).view.emb y 3).val = (y 3).val; rw [hb3, e3]; omega
  show k0_pay6 (exitS m c t.val t.isLt) ((cfg0.win 8).xinj (grid0.coords t) y) = G8 m c (((cfg0.win 8).blk t).view.emb y)
  unfold G8
  rw [hl, hp]; rfl

theorem mem_blk7 (t : Fin cfg0.N) (i : S2x16x8192x64.Idx) :
    i ∈ ((cfg0.win 7).blk t).view.set ↔ ∀ a : Fin 4, win0_7.index t a * S1x8x256x64.size a ≤ (i a).val ∧ (i a).val < win0_7.index t a * S1x8x256x64.size a + S1x8x256x64.size a := by
  show i ∈ ((View.whole main_v8_0).slice (win0_7.rect t)).set ↔ _
  rw [View.set_slice_whole, Rect.mem_set_unit]
  exact Iff.rfl

theorem mem_blk8 (t : Fin cfg0.N) (i : S2x16x64x64.Idx) :
    i ∈ ((cfg0.win 8).blk t).view.set ↔ ∀ a : Fin 4, win0_8.index t a * S1x8x64x64.size a ≤ (i a).val ∧ (i a).val < win0_8.index t a * S1x8x64x64.size a + S1x8x64x64.size a := by
  show i ∈ ((View.whole main_v8_1).slice (win0_8.rect t)).set ↔ _
  rw [View.set_slice_whole, Rect.mem_set_unit]
  exact Iff.rfl

/-- Every index of the outputs is written back by its point. -/
theorem final7 (c : Dev nD) : (dats m 0 c).arrAt 7 cfg0.N = G7 m c :=
  (dats m 0 c).arrAt_eq_of_cover 7 _ (fun t hf => flushed7_eq m c t hf) (fun i => by
    have h0 : (i 0).val < 2 := (i 0).isLt
    have h1 : (i 1).val < 16 := (i 1).isLt
    have h2 : (i 2).val < 8192 := (i 2).isLt
    have h3 : (i 3).val < 64 := (i 3).isLt
    refine ⟨pt7 i, flush0_7 _, (mem_blk7 _ i).mpr ?_⟩
    have hv : (pt7 i).val = 64 * (i 0).val + 32 * ((i 1).val / 8) + (i 2).val / 256 := rfl
    rw [idx_tok]
    intro a
    match a with
    | ⟨0, _⟩ => show (pt7 i).val / 64 * 1 ≤ (i 0).val ∧ (i 0).val < (pt7 i).val / 64 * 1 + 1; omega
    | ⟨1, _⟩ => show (pt7 i).val / 32 % 2 * 8 ≤ (i 1).val ∧ (i 1).val < (pt7 i).val / 32 % 2 * 8 + 8; omega
    | ⟨2, _⟩ => show (pt7 i).val % 32 * 256 ≤ (i 2).val ∧ (i 2).val < (pt7 i).val % 32 * 256 + 256; omega
    | ⟨3, _⟩ => show 0 * 64 ≤ (i 3).val ∧ (i 3).val < 0 * 64 + 64; omega)

/-- Every index of the final state is written back by the last point of its row of blocks. -/
theorem final8 (c : Dev nD) : (dats m 0 c).arrAt 8 cfg0.N = G8 m c :=
  (dats m 0 c).arrAt_eq_of_cover 8 _ (fun t hf => flushed8_eq m c t hf) (fun i => by
    have h0 : (i 0).val < 2 := (i 0).isLt
    have h1 : (i 1).val < 16 := (i 1).isLt
    have h2 : (i 2).val < 64 := (i 2).isLt
    have h3 : (i 3).val < 64 := (i 3).isLt
    have hv : (pt8 i).val = 64 * (i 0).val + 32 * ((i 1).val / 8) + 31 := rfl
    refine ⟨pt8 i, (flush0_8 _).mpr (by omega), (mem_blk8 _ i).mpr ?_⟩
    rw [idx_st]
    intro a
    match a with
    | ⟨0, _⟩ => show (pt8 i).val / 64 * 1 ≤ (i 0).val ∧ (i 0).val < (pt8 i).val / 64 * 1 + 1; omega
    | ⟨1, _⟩ => show (pt8 i).val / 32 % 2 * 8 ≤ (i 1).val ∧ (i 1).val < (pt8 i).val / 32 % 2 * 8 + 8; omega
    | ⟨2, _⟩ => show 0 * 64 ≤ (i 2).val ∧ (i 2).val < 0 * 64 + 64; omega
    | ⟨3, _⟩ => show 0 * 64 ≤ (i 3).val ∧ (i 3).val < 0 * 64 + 64; omega)

/-- The run, with the arrays it ends with. -/
theorem run_arrays : θ_run defs (onTc (τ := τ) (main (F := F))) ⟨m, fun _ => 0, ρ⟩ fun r => ∀ c : Dev nD,
      r.2.mem ((c : Thread nD τ).loc main_v8_1) = G8 m c ∧ r.2.mem ((c : Thread nD τ).loc main_v8_0) = G7 m c :=
  (θ_run defs _ _).mono (fun r h c => ⟨((h c).1 8).trans (final8 m c), ((h c).1 7).trans (final7 m c)⟩) (run_main m ρ)

/-! ## The blocks the body sees, from the arrays -/

/-- An index of a block of tokens in its array. -/
theorem emb_tok (t : Fin cfg0.N) (h : Fin 8) (u : Fin 256) (j : Fin 64) (b : Fin 2) (H : Fin 16) (T : Fin 8192)
    (hb : b.val = t.val / 64) (hH : H.val = t.val / 32 % 2 * 8 + h.val) (hT : T.val = t.val % 32 * 256 + u.val) :
    (((cfg0.win 7).blk t).view.emb (ix4 0 h u j : S1x8x256x64.Idx) : S2x16x8192x64.Idx) = ix4 b H T j := by
  have e0 : win0_7.index t (0 : Fin 4) = t.val / 64 := congrFun (idx_tok t) 0
  have e1 : win0_7.index t (1 : Fin 4) = t.val / 32 % 2 := congrFun (idx_tok t) 1
  have e2 : win0_7.index t (2 : Fin 4) = t.val % 32 := congrFun (idx_tok t) 2
  have e3 : win0_7.index t (3 : Fin 4) = 0 := congrFun (idx_tok t) 3
  funext a; apply Fin.ext
  match a with
  | ⟨0, _⟩ => show win0_7.index t (0 : Fin 4) * 1 + 1 * 0 = b.val; omega
  | ⟨1, _⟩ => show win0_7.index t (1 : Fin 4) * 8 + 1 * h.val = H.val; omega
  | ⟨2, _⟩ => show win0_7.index t (2 : Fin 4) * 256 + 1 * u.val = T.val; omega
  | ⟨3, _⟩ => show win0_7.index t (3 : Fin 4) * 64 + 1 * j.val = j.val; omega

theorem iblk0_apply (c : Dev nD) (t : Fin cfg0.N) (h : Fin 8) (u : Fin 256) (j : Fin 64) (b : Fin 2) (H : Fin 16) (T : Fin 8192)
    (hb : b.val = t.val / 64) (hH : H.val = t.val / 32 % 2 * 8 + h.val) (hT : T.val = t.val % 32 * 256 + u.val) :
    (iblk m c 0 t : Vec F S1x8x256x64 .f32) (ix4 0 h u j) = (V m c main_v0 : Vec F S2x16x8192x64 .f32) (ix4 b H T j) :=
  congrArg (V m c main_v0 : Vec F S2x16x8192x64 .f32) (emb_tok t h u j b H T hb hH hT)

theorem iblk1_apply (c : Dev nD) (t : Fin cfg0.N) (h : Fin 8) (u : Fin 256) (j : Fin 64) (b : Fin 2) (H : Fin 16) (T : Fin 8192)
    (hb : b.val = t.val / 64) (hH : H.val = t.val / 32 % 2 * 8 + h.val) (hT : T.val = t.val % 32 * 256 + u.val) :
    (iblk m c 1 t : Vec F S1x8x256x64 .f32) (ix4 0 h u j) = (V m c main_v1 : Vec F S2x16x8192x64 .f32) (ix4 b H T j) :=
  congrArg (V m c main_v1 : Vec F S2x16x8192x64 .f32) (emb_tok t h u j b H T hb hH hT)

theorem iblk2_apply (c : Dev nD) (t : Fin cfg0.N) (h : Fin 8) (u : Fin 256) (j : Fin 64) (b : Fin 2) (H : Fin 16) (T : Fin 8192)
    (hb : b.val = t.val / 64) (hH : H.val = t.val / 32 % 2 * 8 + h.val) (hT : T.val = t.val % 32 * 256 + u.val) :
    (iblk m c 2 t : Vec F S1x8x256x64 .f32) (ix4 0 h u j) = (V m c main_v2 : Vec F S2x16x8192x64 .f32) (ix4 b H T j) :=
  congrArg (V m c main_v2 : Vec F S2x16x8192x64 .f32) (emb_tok t h u j b H T hb hH hT)

theorem iblk3_apply (c : Dev nD) (t : Fin cfg0.N) (h : Fin 8) (u : Fin 256) (j : Fin 64) (b : Fin 2) (H : Fin 16) (T : Fin 8192)
    (hb : b.val = t.val / 64) (hH : H.val = t.val / 32 % 2 * 8 + h.val) (hT : T.val = t.val % 32 * 256 + u.val) :
    (iblk m c 3 t : Vec F S1x8x256x64 .f32) (ix4 0 h u j) = (V m c main_v3 : Vec F S2x16x8192x64 .f32) (ix4 b H T j) :=
  congrArg (V m c main_v3 : Vec F S2x16x8192x64 .f32) (emb_tok t h u j b H T hb hH hT)

theorem iblk4_apply (c : Dev nD) (t : Fin cfg0.N) (h : Fin 8) (u : Fin 256) (j : Fin 64) (b : Fin 2) (H : Fin 16) (T : Fin 8192)
    (hb : b.val = t.val / 64) (hH : H.val = t.val / 32 % 2 * 8 + h.val) (hT : T.val = t.val % 32 * 256 + u.val) :
    (iblk m c 4 t : Vec F S1x8x256x64 .f32) (ix4 0 h u j) = (V m c main_v5 : Vec F S2x16x8192x64 .f32) (ix4 b H T j) :=
  congrArg (V m c main_v5 : Vec F S2x16x8192x64 .f32) (emb_tok t h u j b H T hb hH hT)

theorem iblk5_apply (c : Dev nD) (t : Fin cfg0.N) (h : Fin 8) (u : Fin 256) (j : Fin 64) (b : Fin 2) (H : Fin 16) (T : Fin 8192)
    (hb : b.val = t.val / 64) (hH : H.val = t.val / 32 % 2 * 8 + h.val) (hT : T.val = t.val % 32 * 256 + u.val) :
    (iblk m c 5 t : Vec F S1x8x256x64 .f32) (ix4 0 h u j) = (V m c main_v7 : Vec F S2x16x8192x64 .f32) (ix4 b H T j) :=
  congrArg (V m c main_v7 : Vec F S2x16x8192x64 .f32) (emb_tok t h u j b H T hb hH hT)

end Arrays

end Cert.KernelIdeal.Wkv

end
-- ==== Proof.WkvValue.lean ====
/-
  The recurrence's kernel over the extended reals: its two arrays at an index are the state and the row of outputs of one
  head's recurrence over all the tokens of the arguments.
-/
module

public import proofs.«01_k».proof.Proof.WkvArrays

@[expose] public section

set_option maxRecDepth 16384

noncomputable section

namespace Cert.KernelIdeal.Wkv

open Cert.KernelIdeal Cert.KernelIdeal.Gen Cert.Wkv Idealize.ShloMosaic Idealize.ShloMosaic.TcCoe Idealize.SL.Sem
open Idealize.ShloMosaic.Pipeline (Dat)
open Idealize.ShloMosaic.StableHlo

/-! ## One block -/

/-- Head `h`'s tokens of a block, by number. -/
def blkTok (B : Blk Ideal) (h : Fin 8) (u : ℕ) : Tok :=
  let n : Fin 256 := ⟨u % 256, Nat.mod_lt _ (by decide)⟩
  ⟨fun j => B.r (ix4 0 h n j), fun j => B.w (ix4 0 h n j), fun j => B.k (ix4 0 h n j), fun j => B.v (ix4 0 h n j),
    fun j => B.nk (ix4 0 h n j), fun j => B.ka (ix4 0 h n j)⟩

theorem blkTok_of_lt (B : Blk Ideal) (h : Fin 8) (u : Fin 256) :
    blkTok B h u.val = ⟨fun j => B.r (ix4 0 h u j), fun j => B.w (ix4 0 h u j), fun j => B.k (ix4 0 h u j),
      fun j => B.v (ix4 0 h u j), fun j => B.nk (ix4 0 h u j), fun j => B.ka (ix4 0 h u j)⟩ := by
  have e : (⟨u.val % 256, Nat.mod_lt _ (by decide)⟩ : Fin 256) = u := Fin.ext (Nat.mod_eq_of_lt u.isLt)
  unfold blkTok
  rw [e]

/-- The state after `n` tokens of a block is, head by head, the recurrence's. -/
theorem stateS_apply (B : Blk Ideal) (S : Vec Ideal S8x64x64 .f32) (h : Fin 8) : ∀ (n : ℕ), n ≤ 256 → ∀ i j : Fin 64,
    stateS B S n (ix3 h i j) = state (fun i j => S (ix3 h i j)) (blkTok B h) n i j
  | 0, _, _, _ => rfl
  | n + 1, hn, i, j => by
    have hl : n < 256 := hn
    rw [stateS_succ B S n hl]
    have e : stepS B (stateS B S n) ⟨n, hl⟩ (ix3 h i j)
        = next (fun i j => stateS B S n (ix3 h i j)) (blkTok B h n) i j := by
      rw [blkTok_of_lt B h ⟨n, hl⟩]
      exact slabOut_apply (slab (stateS B S n) h) (tokRow B.nk h ⟨n, hl⟩) (tokRow B.ka h ⟨n, hl⟩) (tokRow B.w h ⟨n, hl⟩)
        (tokRow B.k h ⟨n, hl⟩) (tokRow B.v h ⟨n, hl⟩) (tokRow B.r h ⟨n, hl⟩) i j
    rw [e]
    show next _ _ i j = next (state _ _ n) _ i j
    congr 1
    funext i' j'
    exact stateS_apply B S h n (Nat.le_of_lt hl) i' j'

/-- The block of outputs is, head by head, the recurrence's rows. -/
theorem outS_apply (B : Blk Ideal) (S : Vec Ideal S8x64x64 .f32) (h : Fin 8) (u : Fin 256) (i : Fin 64) :
    outS B S (ix4 0 h u i) = row (fun i j => S (ix3 h i j)) (blkTok B h) u.val i := by
  have e : outS B S (ix4 0 h u i) = ∑ j, next (fun i j => stateS B S u.val (ix3 h i j)) (blkTok B h u.val) i j * (blkTok B h u.val).r j := by
    rw [blkTok_of_lt B h u]
    exact rowOut_apply (slab (stateS B S u.val) h) (tokRow B.nk h u) (tokRow B.ka h u) (tokRow B.w h u)
      (tokRow B.k h u) (tokRow B.v h u) (tokRow B.r h u) i
  rw [e]
  have hs : (fun i j => stateS B S u.val (ix3 h i j)) = state (fun i j => S (ix3 h i j)) (blkTok B h) u.val := by
    funext i' j'
    exact stateS_apply B S h u.val (Nat.le_of_lt u.isLt) i' j'
  rw [hs]
  rfl

/-! ## The arguments -/

variable (m : (ℓ : Loc nD τ sig) → Buf (Elt Ideal) ℓ)

/-- The arguments' arrays. -/
abbrev argS (c : Dev nD) : Vec Ideal S2x16x64x64 .f32 := m ((c : Thread nD τ).loc main_arg0)
abbrev argR (c : Dev nD) : Vec Ideal S2x8192x16x64 .f32 := m ((c : Thread nD τ).loc main_arg1)
abbrev argW (c : Dev nD) : Vec Ideal S2x8192x16x64 .f32 := m ((c : Thread nD τ).loc main_arg2)
abbrev argK (c : Dev nD) : Vec Ideal S2x8192x16x64 .f32 := m ((c : Thread nD τ).loc main_arg3)
abbrev argV (c : Dev nD) : Vec Ideal S2x8192x16x64 .f32 := m ((c : Thread nD τ).loc main_arg4)
abbrev argKK (c : Dev nD) : Vec Ideal S2x8192x16x64 .f32 := m ((c : Thread nD τ).loc main_arg5)
abbrev argA (c : Dev nD) : Vec Ideal S2x8192x16x64 .f32 := m ((c : Thread nD τ).loc main_arg6)

/-- A transposed array at an index. -/
theorem heads_apply (x : Vec Ideal S2x8192x16x64 .f32) (b : Fin 2) (H : Fin 16) (T : Fin 8192) (j : Fin 64) :
    transpose S2x16x8192x64 [0, 2, 1, 3] x transposes_S2x8192x16x64_S2x16x8192x64_0_2_1_3 (ix4 b H T j) = x (ix4 b T H j) := by
  pointwise []

/-- Row `b`'s head `H`: its tokens and its first state. -/
def tokens (c : Dev nD) (b : Fin 2) (H : Fin 16) : ℕ → Tok := argTok
  (fun T j => argR m c (ix4 b T H j)) (fun T j => argW m c (ix4 b T H j)) (fun T j => argK m c (ix4 b T H j))
  (fun T j => argV m c (ix4 b T H j)) (fun T j => argKK m c (ix4 b T H j)) (fun T j => argA m c (ix4 b T H j))

def start (c : Dev nD) (b : Fin 2) (H : Fin 16) : St := fun i j => argS m c (ix4 b H i j)

theorem V0_apply (c : Dev nD) (b : Fin 2) (H : Fin 16) (T : Fin 8192) (j : Fin 64) :
    (V m c main_v0 : Vec Ideal S2x16x8192x64 .f32) (ix4 b H T j) = argR m c (ix4 b T H j) := by
  have e : V m c main_v0 = transpose S2x16x8192x64 [0, 2, 1, 3] (argR m c) transposes_S2x8192x16x64_S2x16x8192x64_0_2_1_3 := by
    unfold V hostOps0
    after_results
  rw [e, heads_apply]

theorem V1_apply (c : Dev nD) (b : Fin 2) (H : Fin 16) (T : Fin 8192) (j : Fin 64) :
    (V m c main_v1 : Vec Ideal S2x16x8192x64 .f32) (ix4 b H T j) = argW m c (ix4 b T H j) := by
  have e : V m c main_v1 = transpose S2x16x8192x64 [0, 2, 1, 3] (argW m c) transposes_S2x8192x16x64_S2x16x8192x64_0_2_1_3 := by
    unfold V hostOps0
    after_results
  rw [e, heads_apply]

theorem V2_apply (c : Dev nD) (b : Fin 2) (H : Fin 16) (T : Fin 8192) (j : Fin 64) :
    (V m c main_v2 : Vec Ideal S2x16x8192x64 .f32) (ix4 b H T j) = argK m c (ix4 b T H j) := by
  have e : V m c main_v2 = transpose S2x16x8192x64 [0, 2, 1, 3] (argK m c) transposes_S2x8192x16x64_S2x16x8192x64_0_2_1_3 := by
    unfold V hostOps0
    after_results
  rw [e, heads_apply]

theorem V3_apply (c : Dev nD) (b : Fin 2) (H : Fin 16) (T : Fin 8192) (j : Fin 64) :
    (V m c main_v3 : Vec Ideal S2x16x8192x64 .f32) (ix4 b H T j) = argV m c (ix4 b T H j) := by
  have e : V m c main_v3 = transpose S2x16x8192x64 [0, 2, 1, 3] (argV m c) transposes_S2x8192x16x64_S2x16x8192x64_0_2_1_3 := by
    unfold V hostOps0
    after_results
  rw [e, heads_apply]

theorem V5_apply (c : Dev nD) (b : Fin 2) (H : Fin 16) (T : Fin 8192) (j : Fin 64) :
    (V m c main_v5 : Vec Ideal S2x16x8192x64 .f32) (ix4 b H T j) = - argKK m c (ix4 b T H j) := by
  have e : V m c main_v5 = transpose S2x16x8192x64 [0, 2, 1, 3] (Host.negf (F := Ideal) (s := S2x8192x16x64) (φ := .f32) (argKK m c)) transposes_S2x8192x16x64_S2x16x8192x64_0_2_1_3 := by
    unfold V hostOps0
    after_results
  rw [e, heads_apply]
  rfl
theorem V7_apply (c : Dev nD) (b : Fin 2) (H : Fin 16) (T : Fin 8192) (j : Fin 64) :
    (V m c main_v7 : Vec Ideal S2x16x8192x64 .f32) (ix4 b H T j) = argKK m c (ix4 b T H j) * argA m c (ix4 b T H j) := by
  have e : V m c main_v7 = transpose S2x16x8192x64 [0, 2, 1, 3] (mulf (F := Ideal) (s := S2x8192x16x64) (φ := .f32) (argKK m c) (argA m c)) transposes_S2x8192x16x64_S2x16x8192x64_0_2_1_3 := by
    unfold V hostOps0
    after_results
  rw [e, heads_apply]
  rfl

/-! ## The blocks, from the arguments -/

/-- Where a block of states starts from, at an index. -/
theorem initAt_apply (c : Dev nD) (t : Fin cfg0.N) (h : Fin 8) (i j : Fin 64) (b : Fin 2) (H : Fin 16)
    (hb : b.val = t.val / 64) (hH : H.val = t.val / 32 % 2 * 8 + h.val) :
    initAt m c t (ix3 h i j) = start m c b H i j := by
  have e0 : win0_8.index t (0 : Fin 4) = t.val / 64 := congrFun (idx_st t) 0
  have e1 : win0_8.index t (1 : Fin 4) = t.val / 32 % 2 := congrFun (idx_st t) 1
  have e2 : win0_8.index t (2 : Fin 4) = 0 := congrFun (idx_st t) 2
  have e3 : win0_8.index t (3 : Fin 4) = 0 := congrFun (idx_st t) 3
  have he : (((cfg0.win 8).blk t).view.emb (ix4 0 h i j : S1x8x64x64.Idx) : S2x16x64x64.Idx) = ix4 b H i j := by
    funext a; apply Fin.ext
    match a with
    | ⟨0, _⟩ => show win0_8.index t (0 : Fin 4) * 1 + 1 * 0 = b.val; omega
    | ⟨1, _⟩ => show win0_8.index t (1 : Fin 4) * 8 + 1 * h.val = H.val; omega
    | ⟨2, _⟩ => show win0_8.index t (2 : Fin 4) * 64 + 1 * i.val = i.val; omega
    | ⟨3, _⟩ => show win0_8.index t (3 : Fin 4) * 64 + 1 * j.val = j.val; omega
  have e : initAt m c t (ix3 h i j) = (iblk m c 6 t : Vec Ideal S1x8x64x64 .f32) (ix4 0 h i j) := by
    unfold initAt
    pointwise [k0_pay1]
  rw [e]
  have e' : (iblk m c 6 t : Vec Ideal S1x8x64x64 .f32) (ix4 0 h i j) = (V m c main_arg0 : Vec Ideal S2x16x64x64 .f32) (ix4 b H i j) :=
    congrArg (V m c main_arg0 : Vec Ideal S2x16x64x64 .f32) he
  rw [e', V_main_arg0]
  rfl

/-- A block's tokens are the tokens of its heads from the block's first one on. -/
theorem blkTok_eq (c : Dev nD) (t : Fin cfg0.N) (h : Fin 8) (b : Fin 2) (H : Fin 16)
    (hb : b.val = t.val / 64) (hH : H.val = t.val / 32 % 2 * 8 + h.val) (u : ℕ) (hu : u < 256) :
    blkTok (blkAt m c t) h u = tokens m c b H (256 * (t.val % 32) + u) := by
  have hT : 256 * (t.val % 32) + u < 8192 := by omega
  have hT' : (⟨256 * (t.val % 32) + u, hT⟩ : Fin 8192).val = t.val % 32 * 256 + (⟨u, hu⟩ : Fin 256).val := by
    show 256 * (t.val % 32) + u = t.val % 32 * 256 + u; omega
  rw [show u = (⟨u, hu⟩ : Fin 256).val from rfl, blkTok_of_lt]
  unfold tokens
  rw [show 256 * (t.val % 32) + (⟨u, hu⟩ : Fin 256).val = (⟨256 * (t.val % 32) + u, hT⟩ : Fin 8192).val from rfl, argTok_of_lt]
  congr 1 <;> funext j
  · exact (iblk0_apply m c t h ⟨u, hu⟩ j b H _ hb hH hT').trans (V0_apply m c b H _ j)
  · exact (iblk1_apply m c t h ⟨u, hu⟩ j b H _ hb hH hT').trans (V1_apply m c b H _ j)
  · exact (iblk2_apply m c t h ⟨u, hu⟩ j b H _ hb hH hT').trans (V2_apply m c b H _ j)
  · exact (iblk3_apply m c t h ⟨u, hu⟩ j b H _ hb hH hT').trans (V3_apply m c b H _ j)
  · exact (iblk4_apply m c t h ⟨u, hu⟩ j b H _ hb hH hT').trans (V5_apply m c b H _ j)
  · exact (iblk5_apply m c t h ⟨u, hu⟩ j b H _ hb hH hT').trans (V7_apply m c b H _ j)

/-! ## Point after point -/

/-- One point carries the state over its block of tokens. -/
theorem exitS_of_entry (c : Dev nD) (t : Fin cfg0.N) (h : Fin 8) (b : Fin 2) (H : Fin 16)
    (hb : b.val = t.val / 64) (hH : H.val = t.val / 32 % 2 * 8 + h.val)
    (he : ∀ i j, entryS m c t (ix3 h i j) = state (start m c b H) (tokens m c b H) (256 * (t.val % 32)) i j) (i j : Fin 64) :
    exitS m c t.val t.isLt (ix3 h i j) = state (start m c b H) (tokens m c b H) (256 * (t.val % 32) + 256) i j := by
  rw [exitS_eq, stateS_apply _ _ _ 256 (le_refl _), state_add,
    show (fun i j => entryS m c t (ix3 h i j)) = state (start m c b H) (tokens m c b H) (256 * (t.val % 32)) from by
      funext i j; exact he i j,
    state_congr _ 256 fun u hu => blkTok_eq m c t h b H hb hH u hu]

/-- The state every point starts from is the recurrence's after the tokens of the points before. -/
theorem entryS_apply (c : Dev nD) : ∀ (n : ℕ) (hn : n < cfg0.N) (h : Fin 8) (b : Fin 2) (H : Fin 16),
    b.val = n / 64 → H.val = n / 32 % 2 * 8 + h.val → ∀ i j,
      entryS m c ⟨n, hn⟩ (ix3 h i j) = state (start m c b H) (tokens m c b H) (256 * (n % 32)) i j
  | 0, hn, h, b, H, hb, hH, i, j => by
    rw [entryS_first m c ⟨0, hn⟩ rfl]
    exact initAt_apply m c ⟨0, hn⟩ h i j b H hb hH
  | n + 1, hn, h, b, H, hb, hH, i, j => by
    by_cases hz : (n + 1) % 32 = 0
    · rw [entryS_first m c ⟨n + 1, hn⟩ hz, hz]
      exact initAt_apply m c ⟨n + 1, hn⟩ h i j b H hb hH
    · rw [entryS_next m c ⟨n + 1, hn⟩ hz]
      have hb' : b.val = n / 64 := by omega
      have hH' : H.val = n / 32 % 2 * 8 + h.val := by omega
      have hl : n < cfg0.N := Nat.lt_of_succ_lt hn
      rw [show 256 * ((n + 1) % 32) = 256 * (n % 32) + 256 from by omega]
      exact exitS_of_entry m c ⟨n, hl⟩ h b H hb' hH' (entryS_apply c n hl h b H hb' hH') i j

/-- The array of outputs is, head by head, the recurrence's rows. -/
theorem G7_apply (c : Dev nD) (b : Fin 2) (H : Fin 16) (T : Fin 8192) (i : Fin 64) :
    (G7 m c : Vec Ideal S2x16x8192x64 .f32) (ix4 b H T i) = row (start m c b H) (tokens m c b H) T.val i := by
  have hb := b.isLt
  have hH := H.isLt
  have hT := T.isLt
  let q : S2x16x8192x64.Idx := ix4 b H T i
  have hv : (pt7 q).val = 64 * b.val + 32 * (H.val / 8) + T.val / 256 := rfl
  have e1 : b.val = (pt7 q).val / 64 := by omega
  have e2 : H.val = (pt7 q).val / 32 % 2 * 8 + (⟨H.val % 8, Nat.mod_lt _ (by decide)⟩ : Fin 8).val := by
    show H.val = (pt7 q).val / 32 % 2 * 8 + H.val % 8; omega
  show outS (blkAt m c (pt7 q)) (entryS m c (pt7 q))
    (ix4 0 ⟨H.val % 8, Nat.mod_lt _ (by decide)⟩ ⟨T.val % 256, Nat.mod_lt _ (by decide)⟩ i) = _
  rw [outS_apply]
  rw [show (fun i j => entryS m c (pt7 q) (ix3 (⟨H.val % 8, Nat.mod_lt _ (by decide)⟩ : Fin 8) i j))
      = state (start m c b H) (tokens m c b H) (256 * ((pt7 q).val % 32)) from by
    funext i j
    exact entryS_apply m c (pt7 q).val (pt7 q).isLt _ b H e1 e2 i j]
  rw [row_congr _ (T.val % 256) fun u hu => blkTok_eq m c (pt7 q) _ b H e1 e2 u (by omega)]
  rw [← row_add, show 256 * ((pt7 q).val % 32) + T.val % 256 = T.val from by omega]

/-- The array of final states is, head by head, the recurrence's state after all the tokens. -/
theorem G8_apply (c : Dev nD) (b : Fin 2) (H : Fin 16) (i j : Fin 64) :
    (G8 m c : Vec Ideal S2x16x64x64 .f32) (ix4 b H i j) = state (start m c b H) (tokens m c b H) 8192 i j := by
  have hb := b.isLt
  have hH := H.isLt
  let q : S2x16x64x64.Idx := ix4 b H i j
  have hv : (pt8 q).val = 64 * b.val + 32 * (H.val / 8) + 31 := rfl
  have e1 : b.val = (pt8 q).val / 64 := by omega
  have e2 : H.val = (pt8 q).val / 32 % 2 * 8 + (⟨H.val % 8, Nat.mod_lt _ (by decide)⟩ : Fin 8).val := by
    show H.val = (pt8 q).val / 32 % 2 * 8 + H.val % 8; omega
  have e3 : (pt8 q).val % 32 = 31 := by omega
  show k0_pay6 (exitS m c (pt8 q).val (pt8 q).isLt) (ix4 0 ⟨H.val % 8, Nat.mod_lt _ (by decide)⟩ i j) = _
  have e : ∀ S : Vec Ideal S8x64x64 .f32, ∀ h : Fin 8, k0_pay6 S (ix4 0 h i j) = S (ix3 h i j) := by
    intro S h
    pointwise [k0_pay6]
  rw [e, exitS_of_entry m c (pt8 q) _ b H e1 e2 (entryS_apply m c (pt8 q).val (pt8 q).isLt _ b H e1 e2), e3]

end Cert.KernelIdeal.Wkv

end
-- ==== Proof.WkvRef.lean ====
/-
  The recurrence's reference over the extended reals: the two arrays its loop over the tokens ends with are, head by head,
  the state and the rows of outputs of the recurrence.
-/
module

public import proofs.«01_k».proof.Proof.WkvSpec
public import proofs.«01_k».proof.Proof.Gen.ReferenceIdeal.Run
public import Idealize.ShloMosaic.Lib.Pointwise
public import Idealize.ShloMosaic.Lib.DynamicIndex
public import Idealize.ShloMosaic.Lib.WordCmp

@[expose] public section

set_option maxRecDepth 16384

noncomputable section

namespace Cert.ReferenceIdeal.Wkv

open Cert.ReferenceIdeal Cert.ReferenceIdeal.Gen Cert.ReferenceIdeal.Value Cert.Wkv Idealize.ShloMosaic Idealize.ShloMosaic.TcCoe Idealize.SL.Sem
open Idealize.ShloMosaic.StableHlo Idealize.ShloMosaic.WordCmp

/-! ## One trip -/

/-- Where a trip reads and writes: at the counter, on the axis of tokens. -/
abbrev at0 (ctr : IVec S_ 32) : Fin 4 → Int := fun k =>
  ((![ctr, constantI S_ 32 0#32, constantI S_ 32 0#32, constantI S_ 32 0#32] : Fin 4 → (⟨S_, .i32⟩ : BufTy).Contents (Elt Ideal)) k
    (Shape.Idx.first h_S_)).toInt

theorem at0_eq (n : ℕ) (hn : n < 8192) : ∀ a : Fin 4, at0 (fun _ => BitVec.ofNat 32 n) a = ((![n, 0, 0, 0] : Fin 4 → ℕ) a : Int) := by
  intro a
  match a with
  | ⟨0, _⟩ => exact Idealize.ShloMosaic.toInt_ofNat_of_lt (by omega)
  | ⟨1, _⟩ => rfl
  | ⟨2, _⟩ => rfl
  | ⟨3, _⟩ => rfl

/-- One token's rows of an array. -/
def tokAt (x : Vec Ideal S8192x2x16x64 .f32) (ctr : IVec S_ 32) : Vec Ideal S2x16x64 .f32 :=
  shapeCast S2x16x64 (Host.dynamicSlice S1x2x16x64 x (at0 ctr) sliceFits_S8192x2x16x64_S1x2x16x64) shapeCasts_S1x2x16x64_S2x16x64

theorem fits (n : Fin 8192) : S8192x2x16x64.Slices (![n.val, 0, 0, 0] : Fin 4 → ℕ) S1x2x16x64 :=
  ⟨rfl, fun a => by
    have := n.isLt
    match a with
    | ⟨0, _⟩ => show n.val + 1 ≤ 8192; omega
    | ⟨1, _⟩ => show 0 + 2 ≤ 2; omega
    | ⟨2, _⟩ => show 0 + 16 ≤ 16; omega
    | ⟨3, _⟩ => show 0 + 64 ≤ 64; omega⟩

theorem tokAt_apply (x : Vec Ideal S8192x2x16x64 .f32) (n : Fin 8192) (b : Fin 2) (H : Fin 16) (j : Fin 64) :
    tokAt x (fun _ => BitVec.ofNat 32 n.val) (ix3 b H j) = x (ix4 n b H j) := by
  unfold tokAt
  rw [dynamicSlice_eq_extract S1x2x16x64 x _ _ _ (fits n) (at0_eq n.val n.isLt)]
  pointwise []

/-- The states after a token, from the states before it and the token's rows. -/
def stepR (s : FVec Ideal S2x16x64x64 .f32) (w k v kk a : FVec Ideal S2x16x64 .f32) : FVec Ideal S2x16x64x64 .f32 :=
  addf (addf (mulf s (broadcastInDim S2x16x64x64 ![0, 1, 2, 3] bcast_S2x16x1x64_S2x16x64x64_0_1_2_3 (broadcastInDim S2x16x1x64 ![0, 1, 3] bcast_S2x16x64_S2x16x1x64_0_1_3 w)))
    (mulf (broadcastInDim S2x16x64x64 ![0, 1, 2, 3] bcast_S2x16x64x1_S2x16x64x64_0_1_2_3 (broadcastInDim S2x16x64x1 ![0, 1, 2] bcast_S2x16x64_S2x16x64x1_0_1_2 (Host.dotGeneral dot_S2x16x64x64_S2x16x64_S2x16x64_3_2_2_n_01_01 none s (Host.negf kk))))
      (broadcastInDim S2x16x64x64 ![0, 1, 2, 3] bcast_S2x16x1x64_S2x16x64x64_0_1_2_3 (broadcastInDim S2x16x1x64 ![0, 1, 3] bcast_S2x16x64_S2x16x1x64_0_1_3 (mulf kk a)))))
    (mulf (broadcastInDim S2x16x64x64 ![0, 1, 2, 3] bcast_S2x16x64x1_S2x16x64x64_0_1_2_3 (broadcastInDim S2x16x64x1 ![0, 1, 2] bcast_S2x16x64_S2x16x64x1_0_1_2 v))
      (broadcastInDim S2x16x64x64 ![0, 1, 2, 3] bcast_S2x16x1x64_S2x16x64x64_0_1_2_3 (broadcastInDim S2x16x1x64 ![0, 1, 3] bcast_S2x16x64_S2x16x1x64_0_1_3 k)))

theorem stepR_apply (s : FVec Ideal S2x16x64x64 .f32) (r w k v kk a : FVec Ideal S2x16x64 .f32) (b : Fin 2) (H : Fin 16) (i j : Fin 64) :
    stepR s w k v kk a (ix4 b H i j) = next (fun i j => s (ix4 b H i j))
      ⟨fun j => r (ix3 b H j), fun j => w (ix3 b H j), fun j => k (ix3 b H j), fun j => v (ix3 b H j),
        fun j => - kk (ix3 b H j), fun j => kk (ix3 b H j) * a (ix3 b H j)⟩ i j := by
  pointwise [stepR]
  rfl

/-- A token's rows of outputs, from the states after it. -/
def outR (s : FVec Ideal S2x16x64x64 .f32) (r : FVec Ideal S2x16x64 .f32) : FVec Ideal S1x2x16x64 .f32 :=
  broadcastInDim S1x2x16x64 ![1, 2, 3] bcast_S2x16x64_S1x2x16x64_1_2_3 (Host.dotGeneral dot_S2x16x64x64_S2x16x64_S2x16x64_3_2_2_n_01_01 none s r)

theorem outR_apply (s : FVec Ideal S2x16x64x64 .f32) (r : FVec Ideal S2x16x64 .f32) (b : Fin 2) (H : Fin 16) (i : Fin 64) :
    outR s r (ix4 0 b H i) = ∑ j, s (ix4 b H i j) * r (ix3 b H j) := by
  pointwise [outR]

/-- An array with one token's rows replaced, at an index. -/
theorem put_apply (x : Vec Ideal S8192x2x16x64 .f32) (y : Vec Ideal S1x2x16x64 .f32) (n T : Fin 8192) (b : Fin 2) (H : Fin 16) (i : Fin 64) :
    Host.dynamicUpdateSlice x y (at0 fun _ => BitVec.ofNat 32 n.val) updateFits_S8192x2x16x64_S1x2x16x64 (ix4 T b H i)
      = if T = n then y (ix4 0 b H i) else x (ix4 T b H i) := by
  rw [dynamicUpdateSlice_eq_update x y _ _ _ (fits n) (at0_eq n.val n.isLt)]
  pointwise []
  by_cases h : T = n
  · subst h
    rw [dif_pos ⟨le_refl _, Nat.lt_succ_self _⟩, if_pos rfl]
    congr 2
    exact Fin.ext (Nat.sub_self T.val)
  · rw [dif_neg (fun e => h (Fin.ext (by omega))), if_neg h]

/-! ## All the trips -/

variable (m : (ℓ : Loc nD τ sig) → Buf (Elt Ideal) ℓ)

/-- The arguments' arrays. -/
abbrev argS (c : Dev nD) : Vec Ideal S2x16x64x64 .f32 := m ((c : Thread nD τ).loc main_arg0)
abbrev argR (c : Dev nD) : Vec Ideal S2x8192x16x64 .f32 := m ((c : Thread nD τ).loc main_arg1)
abbrev argW (c : Dev nD) : Vec Ideal S2x8192x16x64 .f32 := m ((c : Thread nD τ).loc main_arg2)
abbrev argK (c : Dev nD) : Vec Ideal S2x8192x16x64 .f32 := m ((c : Thread nD τ).loc main_arg3)
abbrev argV (c : Dev nD) : Vec Ideal S2x8192x16x64 .f32 := m ((c : Thread nD τ).loc main_arg4)
abbrev argKK (c : Dev nD) : Vec Ideal S2x8192x16x64 .f32 := m ((c : Thread nD τ).loc main_arg5)
abbrev argA (c : Dev nD) : Vec Ideal S2x8192x16x64 .f32 := m ((c : Thread nD τ).loc main_arg6)

/-- Row `b`'s head `H`: its tokens and its first state. -/
def tokens (c : Dev nD) (b : Fin 2) (H : Fin 16) : ℕ → Tok := argTok
  (fun T j => argR m c (ix4 b T H j)) (fun T j => argW m c (ix4 b T H j)) (fun T j => argK m c (ix4 b T H j))
  (fun T j => argV m c (ix4 b T H j)) (fun T j => argKK m c (ix4 b T H j)) (fun T j => argA m c (ix4 b T H j))

def start (c : Dev nD) (b : Fin 2) (H : Fin 16) : St := fun i j => argS m c (ix4 b H i j)

/-- What the buffers hold before trip `n`. -/
abbrev cur (c : Dev nD) (n : ℕ) : Valuation τ sig (Elt Ideal) := STEP^[n] (entryContents preI m c)

theorem cur_succ (c : Dev nD) (n : ℕ) : cur m c (n + 1) = STEP (cur m c n) := Function.iterate_succ_apply' _ _ _

theorem ctr_cur (c : Dev nD) : ∀ n, cur m c n (Proc.devRef .tc main_v7_6) = fun _ => BitVec.ofNat 32 n
  | 0 => ctr_entry m c
  | n + 1 => by
    rw [cur_succ, STEP_main_v7_6]
    unfold step_main_v7_6
    rw [ctr_cur c n]
    funext x
    show BitVec.ofNat 32 n + 1#32 = BitVec.ofNat 32 (n + 1)
    exact (BitVec.ofNat_add n 1).symm

/-- A transposed array at an index. -/
theorem time_apply (x : Vec Ideal S2x8192x16x64 .f32) (T : Fin 8192) (b : Fin 2) (H : Fin 16) (j : Fin 64) :
    transpose S8192x2x16x64 [1, 0, 2, 3] x transposes_S2x8192x16x64_S8192x2x16x64_1_0_2_3 (ix4 T b H j) = x (ix4 b T H j) := by
  pointwise []

theorem tokAt_time (x : Vec Ideal S2x8192x16x64 .f32) (T : Fin 8192) (b : Fin 2) (H : Fin 16) (j : Fin 64) :
    tokAt (transpose S8192x2x16x64 [1, 0, 2, 3] x transposes_S2x8192x16x64_S8192x2x16x64_1_0_2_3) (fun _ => BitVec.ofNat 32 T.val) (ix3 b H j)
      = x (ix4 b T H j) :=
  (tokAt_apply _ T b H j).trans (time_apply x T b H j)

theorem keep0 (c : Dev nD) : ∀ n, cur m c n (Proc.devRef .tc main_v7_0)
    = transpose S8192x2x16x64 [1, 0, 2, 3] (argR m c) transposes_S2x8192x16x64_S8192x2x16x64_1_0_2_3
  | 0 => by
    show entryContents preI m c _ = _
    simp only [entryContents, afterL_cons, afterL_nil]
    after_reads_simp
    rfl
  | n + 1 => by rw [cur_succ, STEP_main_v7_0, keep0 c n]

theorem keep1 (c : Dev nD) : ∀ n, cur m c n (Proc.devRef .tc main_v7_1)
    = transpose S8192x2x16x64 [1, 0, 2, 3] (argW m c) transposes_S2x8192x16x64_S8192x2x16x64_1_0_2_3
  | 0 => by
    show entryContents preI m c _ = _
    simp only [entryContents, afterL_cons, afterL_nil]
    after_reads_simp
    rfl
  | n + 1 => by rw [cur_succ, STEP_main_v7_1, keep1 c n]

theorem keep2 (c : Dev nD) : ∀ n, cur m c n (Proc.devRef .tc main_v7_2)
    = transpose S8192x2x16x64 [1, 0, 2, 3] (argK m c) transposes_S2x8192x16x64_S8192x2x16x64_1_0_2_3
  | 0 => by
    show entryContents preI m c _ = _
    simp only [entryContents, afterL_cons, afterL_nil]
    after_reads_simp
    rfl
  | n + 1 => by rw [cur_succ, STEP_main_v7_2, keep2 c n]

theorem keep3 (c : Dev nD) : ∀ n, cur m c n (Proc.devRef .tc main_v7_3)
    = transpose S8192x2x16x64 [1, 0, 2, 3] (argV m c) transposes_S2x8192x16x64_S8192x2x16x64_1_0_2_3
  | 0 => by
    show entryContents preI m c _ = _
    simp only [entryContents, afterL_cons, afterL_nil]
    after_reads_simp
    rfl
  | n + 1 => by rw [cur_succ, STEP_main_v7_3, keep3 c n]

theorem keep4 (c : Dev nD) : ∀ n, cur m c n (Proc.devRef .tc main_v7_4)
    = transpose S8192x2x16x64 [1, 0, 2, 3] (argKK m c) transposes_S2x8192x16x64_S8192x2x16x64_1_0_2_3
  | 0 => by
    show entryContents preI m c _ = _
    simp only [entryContents, afterL_cons, afterL_nil]
    after_reads_simp
    rfl
  | n + 1 => by rw [cur_succ, STEP_main_v7_4, keep4 c n]

theorem keep5 (c : Dev nD) : ∀ n, cur m c n (Proc.devRef .tc main_v7_5)
    = transpose S8192x2x16x64 [1, 0, 2, 3] (argA m c) transposes_S2x8192x16x64_S8192x2x16x64_1_0_2_3
  | 0 => by
    show entryContents preI m c _ = _
    simp only [entryContents, afterL_cons, afterL_nil]
    after_reads_simp
    rfl
  | n + 1 => by rw [cur_succ, STEP_main_v7_5, keep5 c n]

/-- Before the first trip the states are the argument's. -/
theorem entry7 (c : Dev nD) : cur m c 0 (Proc.devRef .tc main_v7_7) = argS m c := by
  show entryContents preI m c _ = _
  simp only [entryContents, afterL_cons, afterL_nil]
  after_reads_simp
  rfl

/-- One trip's states. -/
theorem step7 (V0 : Valuation τ sig (Elt Ideal)) : res_main_while0b_v32 V0
    = stepR (V0 (Proc.devRef .tc main_v7_7)) (tokAt (V0 (Proc.devRef .tc main_v7_1)) (V0 (Proc.devRef .tc main_v7_6)))
        (tokAt (V0 (Proc.devRef .tc main_v7_2)) (V0 (Proc.devRef .tc main_v7_6))) (tokAt (V0 (Proc.devRef .tc main_v7_3)) (V0 (Proc.devRef .tc main_v7_6)))
        (tokAt (V0 (Proc.devRef .tc main_v7_4)) (V0 (Proc.devRef .tc main_v7_6))) (tokAt (V0 (Proc.devRef .tc main_v7_5)) (V0 (Proc.devRef .tc main_v7_6))) := rfl

/-- The states after trip `n`, at an index. -/
theorem trip7 (c : Dev nD) (n : Fin 8192) (b : Fin 2) (H : Fin 16) (i j : Fin 64) :
    (res_main_while0b_v32 (cur m c n.val) : Vec Ideal S2x16x64x64 .f32) (ix4 b H i j)
      = next (fun i j => (cur m c n.val (Proc.devRef .tc main_v7_7) : Vec Ideal S2x16x64x64 .f32) (ix4 b H i j)) (tokens m c b H n.val) i j := by
  rw [step7, ctr_cur, keep1, keep2, keep3, keep4, keep5]
  refine (stepR_apply _ (tokAt (transpose S8192x2x16x64 [1, 0, 2, 3] (argR m c) transposes_S2x8192x16x64_S8192x2x16x64_1_0_2_3)
    fun _ => BitVec.ofNat 32 n.val) _ _ _ _ _ b H i j).trans ?_
  unfold tokens
  rw [argTok_of_lt]
  congr 2 <;> funext j
  · exact tokAt_time _ n b H j
  · exact tokAt_time _ n b H j
  · exact tokAt_time _ n b H j
  · exact tokAt_time _ n b H j
  · exact congrArg (fun x : EReal => - x) (tokAt_time _ n b H j)
  · exact congrArg₂ (fun x y : EReal => x * y) (tokAt_time _ n b H j) (tokAt_time _ n b H j)

/-- The states before trip `n` are the recurrence's after `n` tokens. -/
theorem state_cur (c : Dev nD) (b : Fin 2) (H : Fin 16) : ∀ n, n ≤ 8192 → ∀ i j,
    (cur m c n (Proc.devRef .tc main_v7_7) : Vec Ideal S2x16x64x64 .f32) (ix4 b H i j) = state (start m c b H) (tokens m c b H) n i j
  | 0, _, i, j => by rw [entry7]; rfl
  | n + 1, hn, i, j => by
    rw [cur_succ, STEP_main_v7_7]
    refine (trip7 m c ⟨n, hn⟩ b H i j).trans ?_
    show next _ _ i j = next (state _ _ n) _ i j
    congr 1
    funext i' j'
    exact state_cur c b H n (Nat.le_of_lt hn) i' j'

/-- One trip's outputs. -/
theorem step8 (V0 : Valuation τ sig (Elt Ideal)) : step_main_v7_8 V0
    = Host.dynamicUpdateSlice (V0 (Proc.devRef .tc main_v7_8) : Vec Ideal S8192x2x16x64 .f32)
        (outR (res_main_while0b_v32 V0) (tokAt (V0 (Proc.devRef .tc main_v7_0)) (V0 (Proc.devRef .tc main_v7_6))))
        (at0 (V0 (Proc.devRef .tc main_v7_6))) updateFits_S8192x2x16x64_S1x2x16x64 := by
  unfold step_main_v7_8 outR tokAt
  rfl

/-- The rows written before trip `n` are the recurrence's. -/
theorem row_cur (c : Dev nD) (b : Fin 2) (H : Fin 16) : ∀ n, n ≤ 8192 → ∀ T : Fin 8192, T.val < n → ∀ i,
    (cur m c n (Proc.devRef .tc main_v7_8) : Vec Ideal S8192x2x16x64 .f32) (ix4 T b H i) = row (start m c b H) (tokens m c b H) T.val i
  | 0, _, T, hT, i => absurd hT (Nat.not_lt_zero _)
  | n + 1, hn, T, hT, i => by
    rw [cur_succ, STEP_main_v7_8, step8, ctr_cur]
    refine (put_apply _ _ ⟨n, hn⟩ T b H i).trans ?_
    by_cases h : T = ⟨n, hn⟩
    · rw [if_pos h, outR_apply]
      subst h
      unfold row
      refine Finset.sum_congr rfl fun j _ => ?_
      have hs : (res_main_while0b_v32 (cur m c n) : Vec Ideal S2x16x64x64 .f32) (ix4 b H i j)
          = state (start m c b H) (tokens m c b H) (n + 1) i j := by
        have e := state_cur m c b H (n + 1) hn i j
        rw [cur_succ, STEP_main_v7_7] at e
        exact e
      have hr : tokAt (cur m c n (Proc.devRef .tc main_v7_0)) (fun _ => BitVec.ofNat 32 n) (ix3 b H j) = (tokens m c b H n).r j := by
        rw [keep0]
        refine (tokAt_time _ ⟨n, hn⟩ b H j).trans ?_
        exact (congrArg (fun x => Tok.r x j) (argTok_of_lt (fun T j => argR m c (ix4 b T H j)) (fun T j => argW m c (ix4 b T H j))
          (fun T j => argK m c (ix4 b T H j)) (fun T j => argV m c (ix4 b T H j)) (fun T j => argKK m c (ix4 b T H j))
          (fun T j => argA m c (ix4 b T H j)) ⟨n, hn⟩)).symm
      exact congrArg₂ (fun x y : EReal => x * y) hs hr
    · rw [if_neg h]
      exact row_cur c b H n (Nat.le_of_lt hn) T (lt_of_le_of_ne (Nat.le_of_lt_succ hT) fun e => h (Fin.ext e)) i

/-- The first result at an index: the state after all the tokens. -/
theorem out7 (c : Dev nD) (b : Fin 2) (H : Fin 16) (i j : Fin 64) :
    (cur m c 8192 (Proc.devRef .tc main_v7_7) : Vec Ideal S2x16x64x64 .f32) (ix4 b H i j) = state (start m c b H) (tokens m c b H) 8192 i j :=
  state_cur m c b H 8192 (le_refl _) i j

/-- The second result at an index: the rows of outputs. -/
theorem out8 (c : Dev nD) (b : Fin 2) (H : Fin 16) (T : Fin 8192) (i : Fin 64) :
    (out_main_v8 (cur m c 8192) : Vec Ideal S2x16x8192x64 .f32) (ix4 b H T i) = row (start m c b H) (tokens m c b H) T.val i := by
  have e : (out_main_v8 (cur m c 8192) : Vec Ideal S2x16x8192x64 .f32) (ix4 b H T i)
      = (cur m c 8192 (Proc.devRef .tc main_v7_8) : Vec Ideal S8192x2x16x64 .f32) (ix4 T b H i) := by
    pointwise [out_main_v8]
  rw [e]
  exact row_cur m c b H 8192 (le_refl _) T T.isLt i

end Cert.ReferenceIdeal.Wkv

end
-- ==== Proof.WkvClaims.lean ====
/-
  The claims about the recurrence: the kernel's frame as printed and idealized, the reference's frame, and that the two
  idealized programs return the same arrays.
-/
module

public import proofs.«01_k».proof.Defs
public import proofs.«01_k».proof.Proof.Gen.Kernel
public import proofs.«01_k».proof.Proof.WkvValue
public import proofs.«01_k».proof.Proof.WkvRef
public import Idealize.ShloMosaic.Lib.Quiescent

@[expose] public section

set_option maxRecDepth 16384

noncomputable section

namespace Cert.WkvClaims

open Idealize.ShloMosaic Idealize.ShloMosaic.TcCoe Idealize.SL.Sem Cert.Wkv
open Cert.KernelIdeal.Gen Cert.ReferenceIdeal.Gen Cert.Kernel.Gen

/-- The kernel as printed is the idealized kernel's text, read at the machine's floats. -/
theorem main_same : Cert.Kernel.main (F := Bits) = Cert.KernelIdeal.main (F := Bits) := rfl

theorem defs_same₀ : Cert.Kernel.defs₀ (F := Bits) = Cert.KernelIdeal.defs₀ (F := Bits) := by
  unfold Cert.Kernel.defs₀ Cert.KernelIdeal.defs₀
  refine congrArg Defs.onTc ?_
  funext l x
  obtain ⟨n, hn⟩ := l
  cases n with
  | zero => rfl
  | succ n => exact absurd hn (Nat.not_lt.2 (Nat.le_add_left _ _))

theorem defs_same : Cert.Kernel.defs (F := Bits) = Cert.KernelIdeal.defs (F := Bits) :=
  congrArg (Pipeline.defs Cert.KernelIdeal.pcfgs) defs_same₀

theorem kernel : Cert.quiescent_Kernel (hKernel := Cert.Kernel.Gen.facts) := by
  intro m g _
  have h := Cert.KernelIdeal.Wkv.frame (F := Bits) m g
  rw [← main_same, ← defs_same] at h
  exact h

theorem kernelIdeal : Cert.quiescent_KernelIdeal (hKernelIdeal := Cert.KernelIdeal.Gen.facts) :=
  fun m g _ => Cert.KernelIdeal.Wkv.frame (F := Ideal) m g

theorem referenceIdeal : Cert.quiescent_ReferenceIdeal (hReferenceIdeal := Cert.ReferenceIdeal.Gen.facts) :=
  fun m g _ => (θ_run Cert.ReferenceIdeal.defs _ _).mono
    (fun r h => ⟨fun c => (h c).2.2, sem_eq_zero_of_no_sems (by decide) r.2⟩) (Cert.ReferenceIdeal.Value.run (F := Ideal) m g)

section Values

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The reference's memory starts with the kernel's arguments. -/
abbrev SameArgs (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

theorem start_eq (c : Dev Cert.KernelIdeal.nD) (h : SameArgs m m' c) (b : Fin 2) (H : Fin 16) :
    Cert.ReferenceIdeal.Wkv.start m' c b H = Cert.KernelIdeal.Wkv.start m c b H :=
  congrArg (fun x : Vec Ideal Cert.KernelIdeal.S2x16x64x64 .f32 => fun i j => x (ix4 b H i j)) h.1

theorem tokens_eq (c : Dev Cert.KernelIdeal.nD) (h : SameArgs m m' c) (b : Fin 2) (H : Fin 16) :
    Cert.ReferenceIdeal.Wkv.tokens m' c b H = Cert.KernelIdeal.Wkv.tokens m c b H := by
  have e (x y : Vec Ideal Cert.KernelIdeal.S2x8192x16x64 .f32) (hxy : x = y) :
      (fun (T : Fin 8192) (j : Fin 64) => x (ix4 b T H j)) = fun T j => y (ix4 b T H j) := by rw [hxy]
  unfold Cert.ReferenceIdeal.Wkv.tokens Cert.KernelIdeal.Wkv.tokens
  obtain ⟨_, h1, h2, h3, h4, h5, h6⟩ := h
  congr 1
  · exact e _ _ h1
  · exact e _ _ h2
  · exact e _ _ h3
  · exact e _ _ h4
  · exact e _ _ h5
  · exact e _ _ h6

/-- The final states agree. -/
theorem states_eq (c : Dev Cert.KernelIdeal.nD) (h : SameArgs m m' c) :
    (Cert.ReferenceIdeal.Wkv.cur m' c 8192 (Proc.devRef .tc Cert.ReferenceIdeal.main_v7_7) : Vec Ideal Cert.KernelIdeal.S2x16x64x64 .f32)
      = Cert.KernelIdeal.Wkv.G8 m c := by
  funext q
  obtain ⟨b, H, i, j, rfl⟩ : ∃ (b : Fin 2) (H : Fin 16) (i j : Fin 64), q = ix4 b H i j := ⟨q 0, q 1, q 2, q 3, eq_ix4 q⟩
  rw [Cert.KernelIdeal.Wkv.G8_apply, ← start_eq m m' c h, ← tokens_eq m m' c h]
  exact Cert.ReferenceIdeal.Wkv.out7 m' c b H i j

/-- The rows of outputs agree. -/
theorem rows_eq (c : Dev Cert.KernelIdeal.nD) (h : SameArgs m m' c) :
    (Cert.ReferenceIdeal.Value.out_main_v8 (Cert.ReferenceIdeal.Wkv.cur m' c 8192) : Vec Ideal Cert.KernelIdeal.S2x16x8192x64 .f32)
      = Cert.KernelIdeal.Wkv.G7 m c := by
  funext q
  obtain ⟨b, H, T, i, rfl⟩ : ∃ (b : Fin 2) (H : Fin 16) (T : Fin 8192) (i : Fin 64), q = ix4 b H T i := ⟨q 0, q 1, q 2, q 3, eq_ix4 q⟩
  rw [Cert.KernelIdeal.Wkv.G7_apply, ← start_eq m m' c h, ← tokens_eq m m' c h]
  exact Cert.ReferenceIdeal.Wkv.out8 m' c b H T i

end Values

theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Wkv.G8 m c, fun c => Cert.KernelIdeal.Wkv.G7 m c, ?_, ?_⟩
  · exact (θ_run Cert.KernelIdeal.defs _ _).mono (fun r h c => ⟨(h.1 c).1, (h.1 c).2, h.2.1 c⟩)
      (θ_run_and (Cert.KernelIdeal.Wkv.run_arrays m g) (Cert.KernelIdeal.Wkv.frame m g))
  · exact (θ_run Cert.ReferenceIdeal.defs _ _).mono
      (fun r h c => ⟨(h c).1.trans (states_eq m m' c (hargs c)), (h c).2.1.trans (rows_eq m m' c (hargs c)), (h c).2.2⟩)
      (Cert.ReferenceIdeal.Value.run (F := Ideal) m' g')

end Cert.WkvClaims

end
-- ==== Proof.MmSpec.lean ====
/-
  The product of two matrices over the extended reals, entry by entry, and what the projection's calls share about it: the
  product of two blocks is the block of the product.
-/
module

public import Idealize.ShloMosaic.PureOps.Ideal.Laws
public import Idealize.ShloMosaic.Lib.Pointwise

@[expose] public section

noncomputable section

namespace Cert.Mm

open Idealize.ShloMosaic
open scoped BigOperators

/-- The entry in row `r` and column `c` of the product of `x` and `w`. -/
def entry {M K N : ℕ} (x : (⟨2, ![M, K]⟩ : Shape).Idx → EReal) (w : (⟨2, ![K, N]⟩ : Shape).Idx → EReal)
    (r : Fin M) (c : Fin N) : EReal :=
  ∑ k : Fin K, x (ix2 r k) * w (ix2 k c)

/-- The product of `x` and `w`. -/
def prod {M K N : ℕ} (x : (⟨2, ![M, K]⟩ : Shape).Idx → EReal) (w : (⟨2, ![K, N]⟩ : Shape).Idx → EReal) :
    (⟨2, ![M, N]⟩ : Shape).Idx → EReal :=
  fun q => entry x w (q 0) (q 1)

/-- An entry depends on one row of `x` and one column of `w` only: the rows and columns may be those of blocks. -/
theorem entry_congr {M K N M' N' : ℕ} {x : (⟨2, ![M, K]⟩ : Shape).Idx → EReal} {w : (⟨2, ![K, N]⟩ : Shape).Idx → EReal}
    {x' : (⟨2, ![M', K]⟩ : Shape).Idx → EReal} {w' : (⟨2, ![K, N']⟩ : Shape).Idx → EReal}
    {r : Fin M} {c : Fin N} {r' : Fin M'} {c' : Fin N'}
    (hx : ∀ k : Fin K, x (ix2 r k) = x' (ix2 r' k)) (hw : ∀ k : Fin K, w (ix2 k c) = w' (ix2 k c')) :
    entry x w r c = entry x' w' r' c' :=
  Finset.sum_congr rfl fun k _ => by rw [hx k, hw k]

end Cert.Mm

end
-- ==== Proof.Mm2.lean ====
/-
  The projection of all the prompts' tokens by a square weight: the array the call ends with is the product of its arguments,
  and so is the reference's.
-/
module

public import proofs.«01_k».proof.Defs
public import proofs.«01_k».proof.Proof.Gen.Kernel2Ideal.Value
public import proofs.«01_k».proof.Proof.Gen.Reference2Ideal.Run
public import proofs.«01_k».proof.Proof.MmSpec
public import Idealize.ShloMosaic.Lib.StableHlo.RunRead
public import Idealize.ShloMosaic.Lib.Quiescent
public import Idealize.ShloMosaic.Lib.Pointwise

@[expose] public section

set_option maxRecDepth 16384

noncomputable section

namespace Cert.Kernel2Ideal.Mm

open Cert.Kernel2Ideal Cert.Kernel2Ideal.Gen Cert.Mm Idealize.ShloMosaic Idealize.ShloMosaic.TcCoe Idealize.SL.Sem
open Idealize.ShloMosaic.StableHlo

variable (m : (ℓ : Loc nD τ sig) → Buf (Elt Ideal) ℓ) (ρ : Dev nD → PrngReg)

/-- The call's two arguments. -/
def argX (c : Dev nD) : Vec Ideal S16384x1024 .f32 := m ((c : Thread nD τ).loc main_arg0)
def argW (c : Dev nD) : Vec Ideal S1024x1024 .f32 := m ((c : Thread nD τ).loc main_arg1)

/-- What the body computes is the product of the blocks it reads. -/
theorem pay_apply (x : Vec Ideal S512x1024 .f32) (w : Vec Ideal S1024x1024 .bf16) (r : Fin 512) (k : Fin 1024) :
    k0_pay1 x w (ix2 r k) = entry x w r k := by
  unfold entry
  pointwise [k0_pay1]

/-- The weight as the region finds it: rounding changes no real number. -/
theorem V_weight (c : Dev nD) : (V m c main_v0 : Vec Ideal S1024x1024 .bf16) = argW m c := by
  show StableHlo.after hostOps0 _ _ = _
  after_results
  rfl

/-- The windows' block numbers at a point. -/
theorem idx_x : ∀ t : Fin cfg0.N, win0_0.index t = ![t.val, 0] :=
  (by decide +kernel : ∀ t : Fin grid0.N, win0_0.index t = ![t.val, 0])
theorem idx_w : ∀ t : Fin cfg0.N, win0_1.index t = ![0, 0] :=
  (by decide +kernel : ∀ t : Fin grid0.N, win0_1.index t = ![0, 0])
theorem idx_out : ∀ t : Fin cfg0.N, win0_2.index t = ![t.val, 0] :=
  (by decide +kernel : ∀ t : Fin grid0.N, win0_2.index t = ![t.val, 0])

/-- A point's block of `x`, from the array. -/
theorem blk_x (c : Dev nD) (t : Fin cfg0.N) (r : Fin 512) (k : Fin 1024) (R : Fin 16384) (hR : R.val = t.val * 512 + r.val) :
    (iblk m c 0 t : Vec Ideal S512x1024 .f32) (ix2 r k) = argX m c (ix2 R k) := by
  have e0 : win0_0.index t (0 : Fin 2) = t.val := congrFun (idx_x t) 0
  have e1 : win0_0.index t (1 : Fin 2) = 0 := congrFun (idx_x t) 1
  have he : (((cfg0.win 0).blk t).view.emb (ix2 r k : S512x1024.Idx) : S16384x1024.Idx) = ix2 R k := by
    funext a; apply Fin.ext
    match a with
    | ⟨0, _⟩ => show win0_0.index t (0 : Fin 2) * 512 + 1 * r.val = R.val; omega
    | ⟨1, _⟩ => show win0_0.index t (1 : Fin 2) * 1024 + 1 * k.val = k.val; omega
  exact (congrArg (V m c main_arg0 : Vec Ideal S16384x1024 .f32) he).trans (congrFun (V_main_arg0 m c) _)

/-- A point's block of `w` is all of it. -/
theorem blk_w (c : Dev nD) (t : Fin cfg0.N) (k : Fin 1024) (j : Fin 1024) :
    (iblk m c 1 t : Vec Ideal S1024x1024 .bf16) (ix2 k j) = argW m c (ix2 k j) := by
  have e0 : win0_1.index t (0 : Fin 2) = 0 := congrFun (idx_w t) 0
  have e1 : win0_1.index t (1 : Fin 2) = 0 := congrFun (idx_w t) 1
  have he : (((cfg0.win 1).blk t).view.emb (ix2 k j : S1024x1024.Idx) : S1024x1024.Idx) = ix2 k j := by
    funext a; apply Fin.ext
    match a with
    | ⟨0, _⟩ => show win0_1.index t (0 : Fin 2) * 1024 + 1 * k.val = k.val; omega
    | ⟨1, _⟩ => show win0_1.index t (1 : Fin 2) * 1024 + 1 * j.val = j.val; omega
  exact (congrArg (V m c main_v0 : Vec Ideal S1024x1024 .bf16) he).trans (congrFun (V_weight m c) _)

/-- What a point writes back is its block of the product. -/
theorem flushed_eq (c : Dev nD) (t : Fin cfg0.N) :
    (dats m 0 c).flushed 2 t = ((cfg0.win 2).blk t).view.read (Elt Ideal) (prod (argX m c) (argW m c)) := by
  rw [Value.flushed2]
  unfold out0_2
  rw [View.canon_unit_zero (by decide), View.ld_unit_zero (by decide), View.ld_unit_zero (by decide)]
  have ht : t.val < 32 := lt_of_lt_of_eq t.isLt N_0
  have e0 : win0_2.index t (0 : Fin 2) = t.val := congrFun (idx_out t) 0
  have e1 : win0_2.index t (1 : Fin 2) = 0 := congrFun (idx_out t) 1
  funext y
  obtain ⟨r, j, rfl⟩ : ∃ (r : Fin 512) (j : Fin 1024), y = (ix2 r j : S512x1024.Idx) := ⟨y 0, y 1, eq_ix2 (y : S512x1024.Idx)⟩
  have hr := r.isLt
  have he : (((cfg0.win 2).blk t).view.emb (ix2 r j : S512x1024.Idx) : S16384x1024.Idx) = ix2 ⟨t.val * 512 + r.val, by omega⟩ j := by
    funext a; apply Fin.ext
    match a with
    | ⟨0, _⟩ => show win0_2.index t (0 : Fin 2) * 512 + 1 * r.val = t.val * 512 + r.val; omega
    | ⟨1, _⟩ => show win0_2.index t (1 : Fin 2) * 1024 + 1 * j.val = j.val; omega
  refine Eq.trans ?_ (congrArg (prod (argX m c) (argW m c)) he).symm
  show k0_pay1 (iblk m c 0 t) (iblk m c 1 t) (ix2 r j) = _
  rw [pay_apply]
  exact entry_congr (fun k => blk_x m c t r k _ rfl) (fun k => blk_w m c t k j)

/-- The array of results is the product. -/
theorem final_eq (c : Dev nD) : (dats m 0 c).arrAt 2 cfg0.N = prod (argX m c) (argW m c) :=
  (dats m 0 c).arrAt_eq_of_cover 2 _ (fun t _ => flushed_eq m c t) (fun i => by
    have h0 : (i 0).val < 16384 := (i 0).isLt
    have h1 : (i 1).val < 1024 := (i 1).isLt
    let t : Fin cfg0.N := ⟨(i 0).val / 512, lt_of_lt_of_eq (by omega) N_0.symm⟩
    have hv : t.val = (i 0).val / 512 := rfl
    refine ⟨t, flush0_2 _, ?_⟩
    show i ∈ ((View.whole main_v1).slice (win0_2.rect t)).set
    rw [View.set_slice_whole, Rect.mem_set_unit]
    show ∀ a : Fin 2, win0_2.index t a * S512x1024.size a ≤ (i a).val ∧ (i a).val < win0_2.index t a * S512x1024.size a + S512x1024.size a
    rw [idx_out]
    intro a
    match a with
    | ⟨0, _⟩ => show t.val * 512 ≤ (i 0).val ∧ (i 0).val < t.val * 512 + 512; omega
    | ⟨1, _⟩ => show 0 * 1024 ≤ (i 1).val ∧ (i 1).val < 0 * 1024 + 1024; omega)

/-- The reference's product. -/
theorem ref_eq (x : Vec Ideal S16384x1024 .f32) (w : Vec Ideal S1024x1024 .f32) :
    (Host.dotGeneral (F := Ideal) (φ₁ := .f32) (φ₂ := .f32) Cert.Reference2Ideal.dot_S16384x1024_S1024x1024_S16384x1024_1_0_0_1_n_n none x w : Vec Ideal S16384x1024 .f32)
      = prod x w := by
  funext q
  obtain ⟨r, j, rfl⟩ : ∃ (r : Fin 16384) (j : Fin 1024), q = (ix2 r j : S16384x1024.Idx) := ⟨q 0, q 1, eq_ix2 q⟩
  show _ = entry x w r j
  unfold entry
  pointwise

theorem algebraic : Cert.algebraic_Kernel2Ideal_Reference2Ideal (hKernel2Ideal := facts) (hReference2Ideal := Cert.Reference2Ideal.Gen.facts) := by
  intro m g m' g' _ hargs
  refine ⟨fun c => prod (argX m c) (argW m c), ?_, ?_⟩
  · exact (θ_run defs _ _).mono (fun r h c => ⟨(h c).1.trans (final_eq m c), (h c).2⟩) (Value.run_blocks m g)
  · refine (θ_run Cert.Reference2Ideal.defs _ _).mono (fun r h c => ⟨(h c).1.trans ?_, (h c).2⟩)
      (Cert.Reference2Ideal.Value.run (F := Ideal) m' g')
    rw [(hargs c).1, (hargs c).2]
    exact ref_eq (argX m c) (argW m c)

theorem reference : Cert.quiescent_Reference2Ideal (hReference2Ideal := Cert.Reference2Ideal.Gen.facts) :=
  fun m g _ => (θ_run Cert.Reference2Ideal.defs _ _).mono
    (fun r h => ⟨fun c => (h c).2, sem_eq_zero_of_no_sems (by decide) r.2⟩) (Cert.Reference2Ideal.Value.run (F := Ideal) m g)

end Cert.Kernel2Ideal.Mm

end
-- ==== Proof.Mm3.lean ====
/-
  The input projection of an attention layer: the call's blocks cover a weight widened by columns of zeros, and the columns
  of its result that belong to the weight itself are the product of the call's arguments; so is the reference's result.
-/
module

public import proofs.«01_k».proof.Defs
public import proofs.«01_k».proof.Proof.Gen.Kernel3Ideal.Frame
public import proofs.«01_k».proof.Proof.Gen.Reference3Ideal.Run
public import proofs.«01_k».proof.Proof.MmSpec
public import Idealize.ShloMosaic.Lib.StableHlo.RunRead
public import Idealize.ShloMosaic.Lib.Quiescent
public import Idealize.ShloMosaic.Lib.KernelVsHost
public import Idealize.ShloMosaic.Lib.Pointwise

@[expose] public section

set_option maxRecDepth 16384

noncomputable section

namespace Cert.Kernel3Ideal.Mm

open Cert.Kernel3Ideal Cert.Kernel3Ideal.Gen Cert.Mm Idealize.ShloMosaic Idealize.ShloMosaic.TcCoe Idealize.SL.Sem
open Idealize.ShloMosaic.StableHlo

variable (m : (ℓ : Loc nD τ sig) → Buf (Elt Ideal) ℓ) (ρ : Dev nD → PrngReg)

/-- The call's two arguments. -/
def argX (c : Dev nD) : Vec Ideal S16384x1024 .f32 := m ((c : Thread nD τ).loc main_arg0)
def argW (c : Dev nD) : Vec Ideal S1024x4688 .f32 := m ((c : Thread nD τ).loc main_arg1)

/-- What the body computes is the product of the blocks it reads. -/
theorem pay_apply (x : Vec Ideal S512x1024 .f32) (w : Vec Ideal S1024x128 .bf16) (r : Fin 512) (k : Fin 128) :
    k0_pay1 x w (ix2 r k) = entry x w r k := by
  unfold entry
  pointwise [k0_pay1]

/-- The widened weight as the region finds it: rounding changes no real number. -/
def wide (c : Dev nD) : Vec Ideal S1024x4736 .bf16 := V m c main_v1

theorem wide_apply (c : Dev nD) (k : Fin 1024) (j : Fin 4688) (J : Fin 4736) (hJ : J.val = j.val) :
    wide m c (ix2 k J) = argW m c (ix2 k j) := by
  have hj := j.isLt
  have e : wide m c = pad S1024x4736 ![0, 0] ![0, 48] ![0, 0] (argW m c : FVec Ideal S1024x4688 .bf16) (sitofp .bf16 (constantI S_ 32 0#32) : FVec Ideal S_ .bf16)
      pads_S1024x4688_S1024x4736_000_0480 h_S_ := by
    show StableHlo.after (hostOps0 ++ hostOps0_1) _ _ = _
    simp only [hostOps0, hostOps0_1, List.cons_append, List.nil_append]
    after_results
    rfl
  rw [e]
  exact pad_apply_of_inside _ _ _ _ _ _ _ _ (ix2 k j : S1024x4688.Idx) (by
    intro a
    match a with
    | ⟨0, _⟩ => show k.val = 0 + k.val * (0 + 1); omega
    | ⟨1, _⟩ => show J.val = 0 + j.val * (0 + 1); omega)

/-- The windows' block numbers at a point. -/
theorem idx_x : ∀ t : Fin cfg0.N, win0_0.index t = ![t.val / 37, 0] :=
  (by decide +kernel : ∀ t : Fin grid0.N, win0_0.index t = ![t.val / 37, 0])
theorem idx_w : ∀ t : Fin cfg0.N, win0_1.index t = ![0, t.val % 37] :=
  (by decide +kernel : ∀ t : Fin grid0.N, win0_1.index t = ![0, t.val % 37])
theorem idx_out : ∀ t : Fin cfg0.N, win0_2.index t = ![t.val / 37, t.val % 37] :=
  (by decide +kernel : ∀ t : Fin grid0.N, win0_2.index t = ![t.val / 37, t.val % 37])

/-- A point's block of `x`, from the array. -/
theorem blk_x (c : Dev nD) (t : Fin cfg0.N) (r : Fin 512) (k : Fin 1024) (R : Fin 16384) (hR : R.val = t.val / 37 * 512 + r.val) :
    (iblk m c 0 t : Vec Ideal S512x1024 .f32) (ix2 r k) = argX m c (ix2 R k) := by
  have e0 : win0_0.index t (0 : Fin 2) = t.val / 37 := congrFun (idx_x t) 0
  have e1 : win0_0.index t (1 : Fin 2) = 0 := congrFun (idx_x t) 1
  have he : (((cfg0.win 0).blk t).view.emb (ix2 r k : S512x1024.Idx) : S16384x1024.Idx) = ix2 R k := by
    funext a; apply Fin.ext
    match a with
    | ⟨0, _⟩ => show win0_0.index t (0 : Fin 2) * 512 + 1 * r.val = R.val; omega
    | ⟨1, _⟩ => show win0_0.index t (1 : Fin 2) * 1024 + 1 * k.val = k.val; omega
  exact (congrArg (V m c main_arg0 : Vec Ideal S16384x1024 .f32) he).trans (congrFun (V_main_arg0 m c) _)

/-- A point's block of the widened weight, from the array. -/
theorem blk_w (c : Dev nD) (t : Fin cfg0.N) (k : Fin 1024) (j : Fin 128) (J : Fin 4736) (hJ : J.val = t.val % 37 * 128 + j.val) :
    (iblk m c 1 t : Vec Ideal S1024x128 .bf16) (ix2 k j) = wide m c (ix2 k J) := by
  have e0 : win0_1.index t (0 : Fin 2) = 0 := congrFun (idx_w t) 0
  have e1 : win0_1.index t (1 : Fin 2) = t.val % 37 := congrFun (idx_w t) 1
  have he : (((cfg0.win 1).blk t).view.emb (ix2 k j : S1024x128.Idx) : S1024x4736.Idx) = ix2 k J := by
    funext a; apply Fin.ext
    match a with
    | ⟨0, _⟩ => show win0_1.index t (0 : Fin 2) * 1024 + 1 * k.val = k.val; omega
    | ⟨1, _⟩ => show win0_1.index t (1 : Fin 2) * 128 + 1 * j.val = J.val; omega
  exact congrArg (V m c main_v1 : Vec Ideal S1024x4736 .bf16) he

/-- What a point writes back is its block of the product with the widened weight. -/
theorem flushed_eq (c : Dev nD) (t : Fin cfg0.N) :
    (dats m 0 c).flushed 2 t = ((cfg0.win 2).blk t).view.read (Elt Ideal) (prod (argX m c) (wide m c)) := by
  show (cfg0.win 2).cut (grid0.coords t) ((dats m 0 c).after 2 t) = _
  rw [after0_2]
  unfold out0_2
  rw [View.canon_unit_zero (by decide), View.ld_unit_zero (by decide), View.ld_unit_zero (by decide)]
  have ht : t.val < 1184 := lt_of_lt_of_eq t.isLt N_0
  have e0 : win0_2.index t (0 : Fin 2) = t.val / 37 := congrFun (idx_out t) 0
  have e1 : win0_2.index t (1 : Fin 2) = t.val % 37 := congrFun (idx_out t) 1
  funext y
  obtain ⟨r, j, rfl⟩ : ∃ (r : Fin 512) (j : Fin 128), y = (ix2 r j : S512x128.Idx) := ⟨y 0, y 1, eq_ix2 (y : S512x128.Idx)⟩
  have hr := r.isLt
  have hj := j.isLt
  have he : (((cfg0.win 2).blk t).view.emb (ix2 r j : S512x128.Idx) : S16384x4736.Idx)
      = ix2 ⟨t.val / 37 * 512 + r.val, by omega⟩ ⟨t.val % 37 * 128 + j.val, by omega⟩ := by
    funext a; apply Fin.ext
    match a with
    | ⟨0, _⟩ => show win0_2.index t (0 : Fin 2) * 512 + 1 * r.val = t.val / 37 * 512 + r.val; omega
    | ⟨1, _⟩ => show win0_2.index t (1 : Fin 2) * 128 + 1 * j.val = t.val % 37 * 128 + j.val; omega
  refine Eq.trans ?_ (congrArg (prod (argX m c) (wide m c)) he).symm
  show k0_pay1 (iblk m c 0 t) (iblk m c 1 t) (ix2 r j) = _
  rw [pay_apply]
  exact entry_congr (fun k => blk_x m c t r k _ rfl) (fun k => blk_w m c t k j _ rfl)

/-- The array of results is the product with the widened weight. -/
theorem final_eq (c : Dev nD) : (dats m 0 c).arrAt 2 cfg0.N = prod (argX m c) (wide m c) :=
  (dats m 0 c).arrAt_eq_of_cover 2 _ (fun t _ => flushed_eq m c t) (fun i => by
    have h0 : (i 0).val < 16384 := (i 0).isLt
    have h1 : (i 1).val < 4736 := (i 1).isLt
    let t : Fin cfg0.N := ⟨37 * ((i 0).val / 512) + (i 1).val / 128, lt_of_lt_of_eq (by omega) N_0.symm⟩
    have hv : t.val = 37 * ((i 0).val / 512) + (i 1).val / 128 := rfl
    refine ⟨t, flush0_2 _, ?_⟩
    show i ∈ ((View.whole main_v2).slice (win0_2.rect t)).set
    rw [View.set_slice_whole, Rect.mem_set_unit]
    show ∀ a : Fin 2, win0_2.index t a * S512x128.size a ≤ (i a).val ∧ (i a).val < win0_2.index t a * S512x128.size a + S512x128.size a
    rw [idx_out]
    intro a
    match a with
    | ⟨0, _⟩ => show t.val / 37 * 512 ≤ (i 0).val ∧ (i 0).val < t.val / 37 * 512 + 512; omega
    | ⟨1, _⟩ => show t.val % 37 * 128 ≤ (i 1).val ∧ (i 1).val < t.val % 37 * 128 + 128; omega)

/-- The columns kept of the product with the widened weight are the product with the weight. -/
theorem kept_eq (c : Dev nD) :
    (extractStridedSlice S16384x4688 ![0, 0] (prod (argX m c) (wide m c) : Vec Ideal S16384x4736 .f32) slices_S16384x4736_S16384x4688_0_0 : Vec Ideal S16384x4688 .f32)
      = prod (argX m c) (argW m c) := by
  funext q
  obtain ⟨r, j, rfl⟩ : ∃ (r : Fin 16384) (j : Fin 4688), q = (ix2 r j : S16384x4688.Idx) := ⟨q 0, q 1, eq_ix2 q⟩
  have hj := j.isLt
  rw [extractStridedSlice_apply _ _ _ _ (ix2 r ⟨j.val, by omega⟩ : S16384x4736.Idx) (by
    intro a
    match a with
    | ⟨0, _⟩ => show r.val = 0 + r.val; omega
    | ⟨1, _⟩ => show j.val = 0 + j.val; omega)]
  exact entry_congr (fun _ => rfl) (fun k => wide_apply m c k j _ rfl)

/-- The run, with the array it returns. -/
theorem run_result : θ_run defs (onTc (τ := τ) (main (F := Ideal))) ⟨m, fun _ => 0, ρ⟩ fun r => ∀ c : Dev nD,
      r.2.mem ((c : Thread nD τ).loc main_v3) = prod (argX m c) (argW m c) :=
  (θ_run defs _ _).mono (fun r h c => by
    refine ((h c).2 main_v3 (Pipeline.mem_restRefs_of main_v3 (by decide) (by decide))).trans ?_
    refine Eq.trans ?_ (kept_eq m c)
    unfold Pipeline.afterTail₀
    show StableHlo.after hostOps1 _ _ = _
    after_results
    refine congrArg (fun X : Vec Ideal S16384x4736 .f32 => (extractStridedSlice S16384x4688 ![0, 0] X slices_S16384x4736_S16384x4688_0_0 : Vec Ideal S16384x4688 .f32)) ?_
    exact (Pipeline.withArrays_arr spec0 launch0.win.arr_inj c _ _ 2).trans (final_eq m c)) (run_main m ρ)

/-- The reference's product. -/
theorem ref_eq (x : Vec Ideal S16384x1024 .f32) (w : Vec Ideal S1024x4688 .f32) :
    (Host.dotGeneral (F := Ideal) (φ₁ := .f32) (φ₂ := .f32) Cert.Reference3Ideal.dot_S16384x1024_S1024x4688_S16384x4688_1_0_0_1_n_n none x w : Vec Ideal S16384x4688 .f32)
      = prod x w := by
  funext q
  obtain ⟨r, j, rfl⟩ : ∃ (r : Fin 16384) (j : Fin 4688), q = (ix2 r j : S16384x4688.Idx) := ⟨q 0, q 1, eq_ix2 q⟩
  show _ = entry x w r j
  unfold entry
  pointwise

theorem algebraic : Cert.algebraic_Kernel3Ideal_Reference3Ideal (hKernel3Ideal := facts) (hReference3Ideal := Cert.Reference3Ideal.Gen.facts) := by
  intro m g m' g' _ hargs
  refine ⟨fun c => prod (argX m c) (argW m c), ?_, ?_⟩
  · exact (θ_run defs _ _).mono (fun r h c => ⟨h.1 c, h.2.1 c⟩) (θ_run_and (run_result m g) (frame m g))
  · refine (θ_run Cert.Reference3Ideal.defs _ _).mono (fun r h c => ⟨(h c).1.trans ?_, (h c).2⟩)
      (Cert.Reference3Ideal.Value.run (F := Ideal) m' g')
    rw [(hargs c).1, (hargs c).2]
    exact ref_eq (argX m c) (argW m c)

theorem reference : Cert.quiescent_Reference3Ideal (hReference3Ideal := Cert.Reference3Ideal.Gen.facts) :=
  fun m g _ => (θ_run Cert.Reference3Ideal.defs _ _).mono
    (fun r h => ⟨fun c => (h c).2, sem_eq_zero_of_no_sems (by decide) r.2⟩) (Cert.Reference3Ideal.Value.run (F := Ideal) m g)

end Cert.Kernel3Ideal.Mm

end
-- ==== Proof.Mm4.lean ====
/-
  The projection of all the prompts' per-layer embeddings: the array the call ends with is the product of its arguments, and
  so is the reference's.
-/
module

public import proofs.«01_k».proof.Defs
public import proofs.«01_k».proof.Proof.Gen.Kernel4Ideal.Value
public import proofs.«01_k».proof.Proof.Gen.Reference4Ideal.Run
public import proofs.«01_k».proof.Proof.MmSpec
public import Idealize.ShloMosaic.Lib.StableHlo.RunRead
public import Idealize.ShloMosaic.Lib.Quiescent
public import Idealize.ShloMosaic.Lib.Pointwise

@[expose] public section

set_option maxRecDepth 16384

noncomputable section

namespace Cert.Kernel4Ideal.Mm

open Cert.Kernel4Ideal Cert.Kernel4Ideal.Gen Cert.Mm Idealize.ShloMosaic Idealize.ShloMosaic.TcCoe Idealize.SL.Sem
open Idealize.ShloMosaic.StableHlo

variable (m : (ℓ : Loc nD τ sig) → Buf (Elt Ideal) ℓ) (ρ : Dev nD → PrngReg)

/-- The call's two arguments. -/
def argX (c : Dev nD) : Vec Ideal S16384x256 .f32 := m ((c : Thread nD τ).loc main_arg0)
def argW (c : Dev nD) : Vec Ideal S256x1024 .f32 := m ((c : Thread nD τ).loc main_arg1)

/-- What the body computes is the product of the blocks it reads. -/
theorem pay_apply (x : Vec Ideal S512x256 .f32) (w : Vec Ideal S256x1024 .bf16) (r : Fin 512) (k : Fin 1024) :
    k0_pay1 x w (ix2 r k) = entry x w r k := by
  unfold entry
  pointwise [k0_pay1]

/-- The weight as the region finds it: rounding changes no real number. -/
theorem V_weight (c : Dev nD) : (V m c main_v0 : Vec Ideal S256x1024 .bf16) = argW m c := by
  show StableHlo.after hostOps0 _ _ = _
  after_results
  rfl

/-- The windows' block numbers at a point. -/
theorem idx_x : ∀ t : Fin cfg0.N, win0_0.index t = ![t.val, 0] :=
  (by decide +kernel : ∀ t : Fin grid0.N, win0_0.index t = ![t.val, 0])
theorem idx_w : ∀ t : Fin cfg0.N, win0_1.index t = ![0, 0] :=
  (by decide +kernel : ∀ t : Fin grid0.N, win0_1.index t = ![0, 0])
theorem idx_out : ∀ t : Fin cfg0.N, win0_2.index t = ![t.val, 0] :=
  (by decide +kernel : ∀ t : Fin grid0.N, win0_2.index t = ![t.val, 0])

/-- A point's block of `x`, from the array. -/
theorem blk_x (c : Dev nD) (t : Fin cfg0.N) (r : Fin 512) (k : Fin 256) (R : Fin 16384) (hR : R.val = t.val * 512 + r.val) :
    (iblk m c 0 t : Vec Ideal S512x256 .f32) (ix2 r k) = argX m c (ix2 R k) := by
  have e0 : win0_0.index t (0 : Fin 2) = t.val := congrFun (idx_x t) 0
  have e1 : win0_0.index t (1 : Fin 2) = 0 := congrFun (idx_x t) 1
  have he : (((cfg0.win 0).blk t).view.emb (ix2 r k : S512x256.Idx) : S16384x256.Idx) = ix2 R k := by
    funext a; apply Fin.ext
    match a with
    | ⟨0, _⟩ => show win0_0.index t (0 : Fin 2) * 512 + 1 * r.val = R.val; omega
    | ⟨1, _⟩ => show win0_0.index t (1 : Fin 2) * 256 + 1 * k.val = k.val; omega
  exact (congrArg (V m c main_arg0 : Vec Ideal S16384x256 .f32) he).trans (congrFun (V_main_arg0 m c) _)

/-- A point's block of `w` is all of it. -/
theorem blk_w (c : Dev nD) (t : Fin cfg0.N) (k : Fin 256) (j : Fin 1024) :
    (iblk m c 1 t : Vec Ideal S256x1024 .bf16) (ix2 k j) = argW m c (ix2 k j) := by
  have e0 : win0_1.index t (0 : Fin 2) = 0 := congrFun (idx_w t) 0
  have e1 : win0_1.index t (1 : Fin 2) = 0 := congrFun (idx_w t) 1
  have he : (((cfg0.win 1).blk t).view.emb (ix2 k j : S256x1024.Idx) : S256x1024.Idx) = ix2 k j := by
    funext a; apply Fin.ext
    match a with
    | ⟨0, _⟩ => show win0_1.index t (0 : Fin 2) * 256 + 1 * k.val = k.val; omega
    | ⟨1, _⟩ => show win0_1.index t (1 : Fin 2) * 1024 + 1 * j.val = j.val; omega
  exact (congrArg (V m c main_v0 : Vec Ideal S256x1024 .bf16) he).trans (congrFun (V_weight m c) _)

/-- What a point writes back is its block of the product. -/
theorem flushed_eq (c : Dev nD) (t : Fin cfg0.N) :
    (dats m 0 c).flushed 2 t = ((cfg0.win 2).blk t).view.read (Elt Ideal) (prod (argX m c) (argW m c)) := by
  rw [Value.flushed2]
  unfold out0_2
  rw [View.canon_unit_zero (by decide), View.ld_unit_zero (by decide), View.ld_unit_zero (by decide)]
  have ht : t.val < 32 := lt_of_lt_of_eq t.isLt N_0
  have e0 : win0_2.index t (0 : Fin 2) = t.val := congrFun (idx_out t) 0
  have e1 : win0_2.index t (1 : Fin 2) = 0 := congrFun (idx_out t) 1
  funext y
  obtain ⟨r, j, rfl⟩ : ∃ (r : Fin 512) (j : Fin 1024), y = (ix2 r j : S512x1024.Idx) := ⟨y 0, y 1, eq_ix2 (y : S512x1024.Idx)⟩
  have hr := r.isLt
  have he : (((cfg0.win 2).blk t).view.emb (ix2 r j : S512x1024.Idx) : S16384x1024.Idx) = ix2 ⟨t.val * 512 + r.val, by omega⟩ j := by
    funext a; apply Fin.ext
    match a with
    | ⟨0, _⟩ => show win0_2.index t (0 : Fin 2) * 512 + 1 * r.val = t.val * 512 + r.val; omega
    | ⟨1, _⟩ => show win0_2.index t (1 : Fin 2) * 1024 + 1 * j.val = j.val; omega
  refine Eq.trans ?_ (congrArg (prod (argX m c) (argW m c)) he).symm
  show k0_pay1 (iblk m c 0 t) (iblk m c 1 t) (ix2 r j) = _
  rw [pay_apply]
  exact entry_congr (fun k => blk_x m c t r k _ rfl) (fun k => blk_w m c t k j)

/-- The array of results is the product. -/
theorem final_eq (c : Dev nD) : (dats m 0 c).arrAt 2 cfg0.N = prod (argX m c) (argW m c) :=
  (dats m 0 c).arrAt_eq_of_cover 2 _ (fun t _ => flushed_eq m c t) (fun i => by
    have h0 : (i 0).val < 16384 := (i 0).isLt
    have h1 : (i 1).val < 1024 := (i 1).isLt
    let t : Fin cfg0.N := ⟨(i 0).val / 512, lt_of_lt_of_eq (by omega) N_0.symm⟩
    have hv : t.val = (i 0).val / 512 := rfl
    refine ⟨t, flush0_2 _, ?_⟩
    show i ∈ ((View.whole main_v1).slice (win0_2.rect t)).set
    rw [View.set_slice_whole, Rect.mem_set_unit]
    show ∀ a : Fin 2, win0_2.index t a * S512x1024.size a ≤ (i a).val ∧ (i a).val < win0_2.index t a * S512x1024.size a + S512x1024.size a
    rw [idx_out]
    intro a
    match a with
    | ⟨0, _⟩ => show t.val * 512 ≤ (i 0).val ∧ (i 0).val < t.val * 512 + 512; omega
    | ⟨1, _⟩ => show 0 * 1024 ≤ (i 1).val ∧ (i 1).val < 0 * 1024 + 1024; omega)

/-- The reference's product. -/
theorem ref_eq (x : Vec Ideal S16384x256 .f32) (w : Vec Ideal S256x1024 .f32) :
    (Host.dotGeneral (F := Ideal) (φ₁ := .f32) (φ₂ := .f32) Cert.Reference4Ideal.dot_S16384x256_S256x1024_S16384x1024_1_0_0_1_n_n none x w : Vec Ideal S16384x1024 .f32)
      = prod x w := by
  funext q
  obtain ⟨r, j, rfl⟩ : ∃ (r : Fin 16384) (j : Fin 1024), q = (ix2 r j : S16384x1024.Idx) := ⟨q 0, q 1, eq_ix2 q⟩
  show _ = entry x w r j
  unfold entry
  pointwise

theorem algebraic : Cert.algebraic_Kernel4Ideal_Reference4Ideal (hKernel4Ideal := facts) (hReference4Ideal := Cert.Reference4Ideal.Gen.facts) := by
  intro m g m' g' _ hargs
  refine ⟨fun c => prod (argX m c) (argW m c), ?_, ?_⟩
  · exact (θ_run defs _ _).mono (fun r h c => ⟨(h c).1.trans (final_eq m c), (h c).2⟩) (Value.run_blocks m g)
  · refine (θ_run Cert.Reference4Ideal.defs _ _).mono (fun r h c => ⟨(h c).1.trans ?_, (h c).2⟩)
      (Cert.Reference4Ideal.Value.run (F := Ideal) m' g')
    rw [(hargs c).1, (hargs c).2]
    exact ref_eq (argX m c) (argW m c)

theorem reference : Cert.quiescent_Reference4Ideal (hReference4Ideal := Cert.Reference4Ideal.Gen.facts) :=
  fun m g _ => (θ_run Cert.Reference4Ideal.defs _ _).mono
    (fun r h => ⟨fun c => (h c).2, sem_eq_zero_of_no_sems (by decide) r.2⟩) (Cert.Reference4Ideal.Value.run (F := Ideal) m g)

end Cert.Kernel4Ideal.Mm

end
-- ==== Proof.FoxPre.lean ====
/-
  What the attention's two preconditions say: the tables hold the pairs of blocks on and below the diagonal, and the queries,
  the keys and the logits are real numbers.
-/
module

public import proofs.«01_k».proof.Defs
public import Idealize.ShloMosaic.Lib.ReduceAll
public import Idealize.ShloMosaic.Lib.Affine
public import Idealize.ShloMosaic.Lib.Pointwise

@[expose] public section

set_option maxRecDepth 16384

noncomputable section

namespace Cert.Fox

open Idealize.ShloMosaic Idealize.ShloMosaic.TcCoe

theorem tablesFacts : Cert.Pre_causal_tables.Facts := ⟨by decide, by decide⟩

theorem finiteFacts : Cert.Pre_finite_scores.Facts :=
  ⟨by decide, by decide, by decide, by decide, by decide, by decide, by decide, by decide⟩

theorem one_index : ∀ x y : (⟨0, ![]⟩ : Shape).Idx, x = y := fun _ _ => funext fun a => a.elim0

section Tables

open Cert.Pre_causal_tables

/-- The blocks of queries, and of keys, of the pairs. -/
def qTable : S72.Idx → BitVec 32 := fun y => lit0 (S72.rowMajor y)
@[inherit_doc qTable] def kTable : S72.Idx → BitVec 32 := fun y => lit1 (S72.rowMajor y)

/-- A whole array's comparison, read at an index. -/
theorem all_eq (hF : S72.ReducesTo [0] S_) (hu : 0 < S_.numel) (x y : IVec S72 32) (init : IVec S_ 1) (i : S_.Idx)
    (e : Host.reduce IntOp.andi (cmpi .eq x y) init hF hu i = 1#1) : x = y := by
  haveI : Subsingleton S_.Idx := ⟨one_index⟩
  funext j
  exact IntOp.cmpi_eq.mp (Host.reduce_andi_all _ _ _ _ _ e j)

theorem tables_of [Cert.Pre_causal_tables.Facts] {F : FTy → Type} [FloatOps F] (T0 T1 : IVec S72 32) (q k v : FVec F S2x8x8192x64 .bf16) (cq : FVec F S2x8x8192x1 .f32)
    (ck : FVec F S2x8x1x8192 .f32) (e : fn T0 T1 q k v cq ck = fun _ => 1#1) : T0 = qTable ∧ T1 = kTable := by
  have e := congrFun e fun a => a.elim0
  dsimp only [fn] at e
  obtain ⟨h0, h1⟩ := IntOp.andi_eq_one.mp e
  exact ⟨all_eq _ _ _ _ _ _ h0, all_eq _ _ _ _ _ _ h1⟩

end Tables

section Finite

open Cert.Pre_finite_scores

/-- A magnitude below infinity is a real number's. -/
theorem real_of_lt {x : EReal} (h : max x (-x) < ⊤) : ∃ r : ℝ, x = r := by
  induction x with
  | bot => simp at h
  | top => simp at h
  | coe r => exact ⟨r, rfl⟩

/-- A whole array's magnitudes below infinity, read at an index. -/
theorem all_real {s : Shape} {φ : FTy} {axes : List (Fin s.rank)} (hF : s.ReducesTo axes S_) (hu : 0 < S_.numel) (x y : FVec Ideal s φ) (init : IVec S_ 1)
    (i : S_.Idx) (e : Host.reduce IntOp.andi (cmpf .olt (Host.absf x) y) init hF hu i = 1#1) (j : s.Idx) (hy : y j = (⊤ : EReal)) :
    ∃ r : ℝ, (x j : EReal) = r := by
  haveI : Subsingleton S_.Idx := ⟨one_index⟩
  have h := Host.reduce_andi_all _ _ _ _ _ e j
  have h : BitVec.ofBool (decide (max (x j : EReal) (-(x j : EReal)) < y j)) = 1#1 := h
  have key : ∀ b : Bool, BitVec.ofBool b = 1#1 → b = true := by decide
  have h := of_decide_eq_true (key _ h)
  rw [hy] at h
  exact real_of_lt h

theorem inf_bf16 : Ideal.ofBits .bf16 0x7F80#16 = ⊤ := by simp [Ideal.ofBits, Ideal.ieee]
theorem inf_f32 : Ideal.ofBits .f32 0x7F800000#32 = ⊤ := by simp [Ideal.ofBits, Ideal.ieee]

theorem finite_of [Cert.Pre_finite_scores.Facts] (T0 T1 : IVec S72 32) (q k v : FVec Ideal S2x8x8192x64 .bf16) (cq : FVec Ideal S2x8x8192x1 .f32)
    (ck : FVec Ideal S2x8x1x8192 .f32) (e : fn T0 T1 q k v cq ck = fun _ => 1#1) :
    (T0 = qTable ∧ T1 = kTable) ∧ (∀ i, ∃ r : ℝ, (q i : EReal) = r) ∧ (∀ i, ∃ r : ℝ, (k i : EReal) = r)
      ∧ (∀ i, ∃ r : ℝ, (cq i : EReal) = r) ∧ ∀ i, ∃ r : ℝ, (ck i : EReal) = r := by
  have e := congrFun e fun a => a.elim0
  dsimp only [fn, fn_part1] at e
  obtain ⟨e, h5⟩ := IntOp.andi_eq_one.mp e
  obtain ⟨e, h4⟩ := IntOp.andi_eq_one.mp e
  obtain ⟨e, h3⟩ := IntOp.andi_eq_one.mp e
  obtain ⟨e, h2⟩ := IntOp.andi_eq_one.mp e
  obtain ⟨h0, h1⟩ := IntOp.andi_eq_one.mp e
  exact ⟨⟨all_eq _ _ _ _ _ _ h0, all_eq _ _ _ _ _ _ h1⟩, fun j => all_real _ _ _ _ _ _ h2 j inf_bf16,
    fun j => all_real _ _ _ _ _ _ h3 j inf_bf16, fun j => all_real _ _ _ _ _ _ h4 j inf_f32, fun j => all_real _ _ _ _ _ _ h5 j inf_f32⟩

end Finite

end Cert.Fox

end
-- ==== Proof.FoxMath.lean ====
/-
  A softmax over the extended reals taken block by block: the running maximum, the running sum of exponentials and the
  running weighted sum, all rescaled when the maximum grows, are those of the columns seen so far; and their quotient is
  the softmax's weighted sum.
-/
module

public import Idealize.ShloMosaic.PureOps.Ideal
public import Idealize.ShloMosaic.PureOps.Ideal.Laws

@[expose] public section

noncomputable section

namespace Cert.Fox

open Idealize.ShloMosaic

/-- The exponential of a score less a maximum. -/
def ex (s m : EReal) : EReal := Ideal.exp (s - m)

theorem ex_bot (m : EReal) : ex ⊥ m = 0 := by simp [ex]

theorem ex_coe (a b : ℝ) : ex a b = (Real.exp (a - b) : EReal) := by
  rw [ex, ← EReal.coe_sub, Ideal.exp_coe]

/-- Below a maximum that is not `⊤` the exponential is a real number, and not negative. -/
theorem ex_real {s m : EReal} (h : s ≤ m) (hm : m ≠ ⊤) : ∃ r : ℝ, 0 ≤ r ∧ ex s m = r := by
  induction s with
  | bot => exact ⟨0, le_rfl, by rw [ex_bot]; rfl⟩
  | top => exact absurd (top_le_iff.mp h) hm
  | coe a =>
      induction m with
      | bot => exact absurd (le_bot_iff.mp h) (EReal.coe_ne_bot a)
      | top => exact absurd rfl hm
      | coe b => exact ⟨_, (Real.exp_pos _).le, ex_coe a b⟩

/-- Two rescalings in a row are one. -/
theorem ex_mul {s a b : EReal} (h : s ≤ a) (h' : a ≤ b) (hb : b ≠ ⊤) : ex a b * ex s a = ex s b := by
  induction s with
  | bot => rw [ex_bot, ex_bot, mul_zero]
  | top => exact absurd (top_le_iff.mp (h.trans h')) hb
  | coe s =>
      induction a with
      | bot => exact absurd (le_bot_iff.mp h) (EReal.coe_ne_bot s)
      | top => exact absurd (top_le_iff.mp h') hb
      | coe a =>
          induction b with
          | bot => exact absurd (le_bot_iff.mp h') (EReal.coe_ne_bot a)
          | top => exact absurd rfl hb
          | coe b =>
              rw [ex_coe, ex_coe, ex_coe, ← EReal.coe_mul, ← Real.exp_add]
              congr 2
              ring

/-- A factor that is real and not negative goes inside a sum. -/
theorem mul_sum_coe {ι : Type*} (t : Finset ι) (f : ι → EReal) {r : ℝ} (hr : 0 ≤ r) :
    (r : EReal) * ∑ j ∈ t, f j = ∑ j ∈ t, (r : EReal) * f j := by
  classical
  induction t using Finset.induction_on with
  | empty => simp
  | insert a t ha ih =>
      rw [Finset.sum_insert ha, Finset.sum_insert ha,
        EReal.left_distrib_of_nonneg_of_ne_top (EReal.coe_nonneg.mpr hr) (EReal.coe_ne_top r), ih]

/-- A query's scores: its product with the keys and the two logits up to the query's own place, and `⊥` after it. -/
def score (q : Fin 64 → EReal) (k : Fin 8192 → Fin 64 → EReal) (cq : EReal) (ck : Fin 8192 → EReal) (g : Fin 8192)
    (j : Fin 8192) : EReal :=
  if j.val ≤ g.val then ∑ d, q d * k j d + cq - ck j else ⊥

variable (s v : Fin 8192 → EReal)

/-- The columns of the first `n` blocks. -/
def cols (n : ℕ) : Finset (Fin 8192) := Finset.univ.filter fun j => j.val < 1024 * n

/-- Column `c` of block `n`. -/
def blk (n : ℕ) (hn : n < 8) (c : Fin 1024) : Fin 8192 := ⟨1024 * n + c.val, by omega⟩

theorem blk_inj (n : ℕ) (hn : n < 8) : Function.Injective (blk n hn) := fun a b h => by
  have := congrArg Fin.val h
  simp only [blk] at this
  exact Fin.ext (by omega)

/-- One block more. -/
theorem cols_succ (n : ℕ) (hn : n < 8) : cols (n + 1) = cols n ∪ Finset.univ.map ⟨blk n hn, blk_inj n hn⟩ := by
  ext j
  simp only [cols, Finset.mem_union, Finset.mem_filter, Finset.mem_univ, true_and, Finset.mem_map, Function.Embedding.coeFn_mk]
  constructor
  · intro h
    by_cases h' : j.val < 1024 * n
    · exact Or.inl h'
    · exact Or.inr ⟨⟨j.val - 1024 * n, by omega⟩, Fin.ext (by simp only [blk]; omega)⟩
  · rintro (h | ⟨c, rfl⟩)
    · omega
    · simp only [blk]; omega

theorem cols_disj (n : ℕ) (hn : n < 8) : Disjoint (cols n) (Finset.univ.map ⟨blk n hn, blk_inj n hn⟩) := by
  rw [Finset.disjoint_left]
  intro j h h'
  simp only [cols, Finset.mem_filter, Finset.mem_univ, true_and, Finset.mem_map, Function.Embedding.coeFn_mk] at h h'
  obtain ⟨c, rfl⟩ := h'
  simp only [blk] at h
  omega

theorem sum_cols_succ (f : Fin 8192 → EReal) (n : ℕ) (hn : n < 8) :
    ∑ j ∈ cols (n + 1), f j = ∑ j ∈ cols n, f j + ∑ c, f (blk n hn c) := by
  rw [cols_succ n hn, Finset.sum_union (cols_disj n hn), Finset.sum_map]
  rfl

/-- The greatest score of the first `n` blocks. -/
def preM (n : ℕ) : EReal := (cols n).sup s

/-- The sum of their exponentials. -/
def preL (n : ℕ) : EReal := ∑ j ∈ cols n, ex (s j) (preM s n)

/-- The sum of the values weighted by them. -/
def preA (n : ℕ) : EReal := ∑ j ∈ cols n, ex (s j) (preM s n) * v j

theorem cols_zero : cols 0 = ∅ := by
  ext j
  simp [cols]

theorem preM_zero : preM s 0 = ⊥ := by rw [preM, cols_zero]; rfl
theorem preL_zero : preL s 0 = 0 := by rw [preL, cols_zero]; rfl
theorem preA_zero : preA s v 0 = 0 := by rw [preA, cols_zero]; rfl

variable (hs : ∀ j, s j ≠ ⊤)

include hs in
theorem preM_ne_top (n : ℕ) : preM s n ≠ ⊤ := by
  rw [preM, ← lt_top_iff_ne_top, Finset.sup_lt_iff bot_lt_top]
  exact fun j _ => lt_top_iff_ne_top.mpr (hs j)

theorem preM_succ (n : ℕ) (hn : n < 8) :
    max (preM s n) (Finset.univ.sup fun c => s (blk n hn c)) = preM s (n + 1) := by
  rw [preM, preM, cols_succ n hn, Finset.sup_union, Finset.sup_map]
  rfl

theorem le_preM (n : ℕ) (j : Fin 8192) (hj : j ∈ cols n) : s j ≤ preM s n := Finset.le_sup (f := s) hj

theorem preM_mono (n : ℕ) (hn : n < 8) : preM s n ≤ preM s (n + 1) := by
  rw [← preM_succ s n hn]; exact le_max_left _ _

include hs in
/-- A sum weighted by the exponentials, rescaled to the next maximum. -/
theorem rescale (n : ℕ) (hn : n < 8) (f : Fin 8192 → EReal) :
    ex (preM s n) (preM s (n + 1)) * ∑ j ∈ cols n, ex (s j) (preM s n) * f j
      = ∑ j ∈ cols n, ex (s j) (preM s (n + 1)) * f j := by
  obtain ⟨r, hr, he⟩ := ex_real (preM_mono s n hn) (preM_ne_top s hs (n + 1))
  rw [he, mul_sum_coe _ _ hr, ← he]
  exact Finset.sum_congr rfl fun j hj => by
    rw [← mul_assoc, ex_mul (le_preM s n j hj) (preM_mono s n hn) (preM_ne_top s hs _)]

include hs in
theorem preL_succ (n : ℕ) (hn : n < 8) :
    ex (preM s n) (preM s (n + 1)) * preL s n + ∑ c, ex (s (blk n hn c)) (preM s (n + 1)) = preL s (n + 1) := by
  have h := rescale s hs n hn fun _ => 1
  simp only [mul_one] at h
  rw [preL, preL, sum_cols_succ _ n hn, h]

include hs in
theorem preA_succ (n : ℕ) (hn : n < 8) :
    ex (preM s n) (preM s (n + 1)) * preA s v n + ∑ c, ex (s (blk n hn c)) (preM s (n + 1)) * v (blk n hn c)
      = preA s v (n + 1) := by
  rw [preA, preA, sum_cols_succ _ n hn, rescale s hs n hn]

/-- The softmax's weighted sum of the values. -/
def soft : EReal := ∑ j, Ideal.div (ex (s j) (Finset.univ.sup s)) (∑ i, ex (s i) (Finset.univ.sup s)) * v j

theorem sup_eq (n : ℕ) (hb : ∀ j : Fin 8192, 1024 * n ≤ j.val → s j = ⊥) : Finset.univ.sup s = preM s n := by
  refine le_antisymm (Finset.sup_le fun j _ => ?_) (Finset.sup_mono (Finset.subset_univ _))
  by_cases hj : j.val < 1024 * n
  · exact le_preM s n j (by simp [cols, hj])
  · rw [hb j (not_lt.mp hj)]; exact bot_le

theorem sum_eq (n : ℕ) (hb : ∀ j : Fin 8192, 1024 * n ≤ j.val → s j = ⊥) (f : Fin 8192 → EReal) (m : EReal) :
    ∑ j, ex (s j) m * f j = ∑ j ∈ cols n, ex (s j) m * f j := by
  symm
  refine Finset.sum_subset (Finset.subset_univ _) fun j _ hj => ?_
  rw [hb j (not_lt.mp fun h => hj (by simp [cols, h])), ex_bot, zero_mul]

/-- The sum of real numbers is one. -/
theorem sum_real {ι : Type*} (t : Finset ι) (f : ι → EReal) (h : ∀ j ∈ t, ∃ r : ℝ, 0 ≤ r ∧ f j = r) :
    ∃ r : ℝ, 0 ≤ r ∧ ∑ j ∈ t, f j = r := by
  classical
  induction t using Finset.induction_on with
  | empty => exact ⟨0, le_rfl, by simp⟩
  | insert a t ha ih =>
      obtain ⟨x, hx, ex⟩ := h a (Finset.mem_insert_self a t)
      obtain ⟨y, hy, ey⟩ := ih fun j hj => h j (Finset.mem_insert_of_mem hj)
      exact ⟨x + y, add_nonneg hx hy, by rw [Finset.sum_insert ha, ex, ey, EReal.coe_add]⟩

include hs in
/-- The sum of the exponentials is real and positive as soon as one of the scores is a real number. -/
theorem preL_pos (n : ℕ) (j : Fin 8192) (hj : j ∈ cols n) (hj' : s j ≠ ⊥) : ∃ r : ℝ, 0 < r ∧ preL s n = r := by
  have hall : ∀ i ∈ cols n, ∃ r : ℝ, 0 ≤ r ∧ ex (s i) (preM s n) = r := fun i hi =>
    ex_real (le_preM s n i hi) (preM_ne_top s hs n)
  obtain ⟨y, hy, ey⟩ := sum_real ((cols n).erase j) (fun i => ex (s i) (preM s n))
    fun i hi => hall i (Finset.mem_of_mem_erase hi)
  have hle := le_preM s n j hj
  have hmt := preM_ne_top s hs n
  have hmb : preM s n ≠ ⊥ := fun h => hj' (le_bot_iff.mp (h ▸ hle))
  have hx : ex (s j) (preM s n) = (Real.exp ((s j).toReal - (preM s n).toReal) : EReal) := by
    rw [← ex_coe, EReal.coe_toReal (hs j) hj', EReal.coe_toReal hmt hmb]
  refine ⟨Real.exp ((s j).toReal - (preM s n).toReal) + y, add_pos_of_pos_of_nonneg (Real.exp_pos _) hy, ?_⟩
  rw [preL, ← Finset.add_sum_erase _ _ hj, hx, ey, EReal.coe_add]

include hs in
/-- The weighted sum over the sum is the softmax's weighted sum, once every later score is `⊥`. -/
theorem pre_soft (n : ℕ) (hb : ∀ j : Fin 8192, 1024 * n ≤ j.val → s j = ⊥) (j : Fin 8192) (hj : j ∈ cols n)
    (hj' : s j ≠ ⊥) : Ideal.div (preA s v n) (preL s n) = soft s v := by
  obtain ⟨r, hr, hL⟩ := preL_pos s hs n j hj hj'
  have h1 : ∑ i, ex (s i) (preM s n) = r := by
    have h := sum_eq s n hb (fun _ => 1) (preM s n)
    simp only [mul_one] at h
    rw [h, ← hL, preL]
  rw [soft, sup_eq s n hb, h1, hL, Ideal.div_coe hr.ne', preA, ← sum_eq s n hb, mul_comm,
    mul_sum_coe _ _ (by positivity)]
  refine Finset.sum_congr rfl fun i _ => ?_
  rw [Ideal.div_coe hr.ne', ← mul_assoc, mul_comm ((1 / r : ℝ) : EReal)]

/-- The attention of a query: its softmax's weighted sum of the values. -/
def att (Q K V : Fin 2 → Fin 8 → Fin 8192 → Fin 64 → EReal) (CQ CK : Fin 2 → Fin 8 → Fin 8192 → EReal)
    (b : Fin 2) (h : Fin 8) (g : Fin 8192) (d : Fin 64) : EReal :=
  soft (score (Q b h g) (K b h) (CQ b h g) (CK b h) g) fun j => V b h j d

end Cert.Fox

end
-- ==== Proof.FoxStep.lean ====
/- What the body of the attention's kernel leaves in its three carried buffers and in its output block at one point of the
   grid, as one expression per head: the eight heads that the kernel writes out one after the other all compute the same
   functions of their own rows (`newM`, `newL`, `newA`, `outRow`), on each of the four paths through its two conditionals. -/
module

public import proofs.«01_k».proof.Proof.Gen.Kernel5Ideal.Flash
public import Idealize.ShloMosaic.Lib.Pipeline.ReadBack

@[expose] public section

set_option maxRecDepth 65536

noncomputable section

namespace Cert.Fox

open Cert.Kernel5Ideal Cert.Kernel5Ideal.Gen
open Idealize.ShloMosaic Idealize.ShloMosaic.TcCoe Idealize.ShloMosaic.Tactic

/-! ## One head's functions -/

section Head

variable (mask : IVec S512x1024 1) (q : Vec Ideal S1x1x512x64 .bf16) (k v : Vec Ideal S1x1x1024x64 .bf16)
  (cq : Vec Ideal S1x1x512x1 .f32) (ck : Vec Ideal S1x1x1x1024 .f32)
  (m l : Vec Ideal S1x512x1 .f32) (a : Vec Ideal S1x512x64 .f32)

/-- The running maximum after the block. -/
def newM : Vec Ideal S1x512x1 .f32 := k0_pay26 (k0_pay20 mask (k0_pay16 q) k cq ck m)

/-- The running sum of the exponentials after the block. -/
def newL : Vec Ideal S1x512x1 .f32 := k0_pay24 (k0_pay23 mask (k0_pay16 q) k cq ck m l)

/-- The running weighted sum of the values after the block. -/
def newA : Vec Ideal S1x512x64 .f32 :=
  k0_pay25 (k0_pay18 v) (k0_pay21 mask (k0_pay16 q) k cq ck m) (k0_pay22 mask (k0_pay16 q) k cq ck m) a

/-- What is written out: the weighted sum over the sum. -/
def outRow : Vec Ideal S1x1x512x64 .f32 := k0_pay6 a l

end Head

/-! ## A head's row of a buffer -/

/-- Head `h`'s row of the maxima or of the sums. -/
abbrev row1 (h : Fin 8) : Rect S8x512x1 := Rect.unit ![h.val, 0, 0] S1x512x1.size (by revert h; decide)

/-- Head `h`'s row of the weighted sums. -/
abbrev row64 (h : Fin 8) : Rect S8x512x64 := Rect.unit ![h.val, 0, 0] S1x512x64.size (by revert h; decide)

/-- Head `h`'s row of the output block, and of the queries' block. -/
abbrev rowO (h : Fin 8) : Rect S1x8x512x64 := Rect.unit ![0, h.val, 0, 0] S1x1x512x64.size (by revert h; decide)

/-- Head `h`'s row of a block of keys or values. -/
abbrev rowK (h : Fin 8) : Rect S1x8x1024x64 := Rect.unit ![0, h.val, 0, 0] S1x1x1024x64.size (by revert h; decide)

/-- Head `h`'s row of the logits by query. -/
abbrev rowCq (h : Fin 8) : Rect S1x8x512x1 := Rect.unit ![0, h.val, 0, 0] S1x1x512x1.size (by revert h; decide)

/-- Head `h`'s row of the logits by key. -/
abbrev rowCk (h : Fin 8) : Rect S1x8x1x1024 := Rect.unit ![0, h.val, 0, 0] S1x1x1x1024.size (by revert h; decide)

/-- The first `n` rows stored one after the other, the last first. -/
def rows1 (w : (h : Fin 8) → (row1 h).shape.Idx → Elt Ideal .f32) : (n : ℕ) → n ≤ 8 → List (View.Piece (Elt Ideal) S8x512x1 .f32)
  | 0, _ => []
  | n + 1, hn => ⟨row1 ⟨n, hn⟩, w ⟨n, hn⟩⟩ :: rows1 w n (Nat.le_of_succ_le hn)

/-- The same of the weighted sums. -/
def rows64 (w : (h : Fin 8) → (row64 h).shape.Idx → Elt Ideal .f32) : (n : ℕ) → n ≤ 8 → List (View.Piece (Elt Ideal) S8x512x64 .f32)
  | 0, _ => []
  | n + 1, hn => ⟨row64 ⟨n, hn⟩, w ⟨n, hn⟩⟩ :: rows64 w n (Nat.le_of_succ_le hn)

/-- The same of the output block. -/
def rowsO (w : (h : Fin 8) → (rowO h).shape.Idx → Elt Ideal .f32) : (n : ℕ) → n ≤ 8 → List (View.Piece (Elt Ideal) S1x8x512x64 .f32)
  | 0, _ => []
  | n + 1, hn => ⟨rowO ⟨n, hn⟩, w ⟨n, hn⟩⟩ :: rowsO w n (Nat.le_of_succ_le hn)

/-! ## Reading rows back -/

/-- A stored row is read back. -/
theorem readCov_rows1 (b : Memref sig .tc .vmem S8x512x1 .f32) (w : (h : Fin 8) → (row1 h).shape.Idx → Elt Ideal .f32)
    (L : List (View.Piece (Elt Ideal) S8x512x1 .f32)) : (n : ℕ) → (hn : n ≤ 8) → (h : Fin 8) → h.val < n →
    b.view.readCov (rows1 w n hn ++ L) (row1 h).toLoadRect = w h
  | n + 1, hn, h, hh => by
      rw [rows1, List.cons_append]
      rcases Nat.lt_succ_iff_lt_or_eq.mp hh with hl | he
      · rw [View.readCov_skip, readCov_rows1 b w L n _ h hl]
        have key : ∀ a h : Fin 8, h.val < a.val → LoadRect.disj (row1 a) (row1 h).toLoadRect = true := by decide
        exact key ⟨n, hn⟩ h hl
      · subst he
        exact View.readCov_cons_toLoadRect _ _ _ _

@[inherit_doc readCov_rows1]
theorem readCov_rows64 (b : Memref sig .tc .vmem S8x512x64 .f32) (w : (h : Fin 8) → (row64 h).shape.Idx → Elt Ideal .f32)
    (L : List (View.Piece (Elt Ideal) S8x512x64 .f32)) : (n : ℕ) → (hn : n ≤ 8) → (h : Fin 8) → h.val < n →
    b.view.readCov (rows64 w n hn ++ L) (row64 h).toLoadRect = w h
  | n + 1, hn, h, hh => by
      rw [rows64, List.cons_append]
      rcases Nat.lt_succ_iff_lt_or_eq.mp hh with hl | he
      · rw [View.readCov_skip, readCov_rows64 b w L n _ h hl]
        have key : ∀ a h : Fin 8, h.val < a.val → LoadRect.disj (row64 a) (row64 h).toLoadRect = true := by decide
        exact key ⟨n, hn⟩ h hl
      · subst he
        exact View.readCov_cons_toLoadRect _ _ _ _

@[inherit_doc readCov_rows1]
theorem readCov_rowsO (b : View sig .tc .vmem S1x8x512x64 .f32) (w : (h : Fin 8) → (rowO h).shape.Idx → Elt Ideal .f32)
    (L : List (View.Piece (Elt Ideal) S1x8x512x64 .f32)) : (n : ℕ) → (hn : n ≤ 8) → (h : Fin 8) → h.val < n →
    b.readCov (rowsO w n hn ++ L) (rowO h).toLoadRect = w h
  | n + 1, hn, h, hh => by
      rw [rowsO, List.cons_append]
      rcases Nat.lt_succ_iff_lt_or_eq.mp hh with hl | he
      · rw [View.readCov_skip, readCov_rowsO b w L n _ h hl]
        have key : ∀ a h : Fin 8, h.val < a.val → LoadRect.disj (rowO a) (rowO h).toLoadRect = true := by decide
        exact key ⟨n, hn⟩ h hl
      · subst he
        exact View.readCov_cons_toLoadRect _ _ _ _

/-- A fill of the whole buffer and then the first `n` heads' rows, each of a value that depends on what its row held. -/
def chain1 (b : Memref sig .tc .vmem S8x512x1 .f32) (z : S8x512x1.Idx → Elt Ideal .f32)
    (w : (h : Fin 8) → Vec Ideal S1x512x1 .f32 → Vec Ideal S1x512x1 .f32) :
    (n : ℕ) → n ≤ 8 → List (View.Piece (Elt Ideal) S8x512x1 .f32)
  | 0, _ => [⟨Rect.unit ![0, 0, 0] S8x512x1.size inb_S8x512x1_S8x512x1_0_0_0, z⟩]
  | n + 1, hn => ⟨row1 ⟨n, hn⟩, w ⟨n, hn⟩ (b.view.readCov (chain1 b z w n (Nat.le_of_succ_le hn)) (row1 ⟨n, hn⟩).toLoadRect)⟩
      :: chain1 b z w n (Nat.le_of_succ_le hn)

/-- The same of the weighted sums. -/
def chain64 (b : Memref sig .tc .vmem S8x512x64 .f32) (z : S8x512x64.Idx → Elt Ideal .f32)
    (w : (h : Fin 8) → Vec Ideal S1x512x64 .f32 → Vec Ideal S1x512x64 .f32) :
    (n : ℕ) → n ≤ 8 → List (View.Piece (Elt Ideal) S8x512x64 .f32)
  | 0, _ => [⟨Rect.unit ![0, 0, 0] S8x512x64.size inb_S8x512x64_S8x512x64_0_0_0, z⟩]
  | n + 1, hn => ⟨row64 ⟨n, hn⟩, w ⟨n, hn⟩ (b.view.readCov (chain64 b z w n (Nat.le_of_succ_le hn)) (row64 ⟨n, hn⟩).toLoadRect)⟩
      :: chain64 b z w n (Nat.le_of_succ_le hn)

theorem chain1_succ (b : Memref sig .tc .vmem S8x512x1 .f32) (z) (w) (n : ℕ) (hn : n + 1 ≤ 8) :
    chain1 b z w (n + 1) hn
      = ⟨row1 ⟨n, hn⟩, w ⟨n, hn⟩ (b.view.readCov (chain1 b z w n (Nat.le_of_succ_le hn)) (row1 ⟨n, hn⟩).toLoadRect)⟩
        :: chain1 b z w n (Nat.le_of_succ_le hn) := rfl

theorem disj1 : ∀ a h : Fin 8, a.val < h.val → LoadRect.disj (row1 a) (row1 h).toLoadRect = true := by decide

/-- A row that has not been stored yet holds the fill. -/
theorem readCov_chain1 (b : Memref sig .tc .vmem S8x512x1 .f32) (z) (w) (n : ℕ) (hn : n ≤ 8) (h : Fin 8) (hh : n ≤ h.val) :
    b.view.readCov (chain1 b z w n hn) (row1 h).toLoadRect = View.ld z (row1 h) := by
  induction n with
  | zero => exact View.readCov_fill (off := ![0, 0, 0]) b.view inb_S8x512x1_S8x512x1_0_0_0 z [] (row1 h) (by decide)
  | succ n ih =>
      rw [chain1_succ, View.readCov_skip _ _ _ _ _ (disj1 ⟨n, hn⟩ h hh)]
      exact ih _ (Nat.le_of_succ_le hh)

/-- So the stored rows are the functions of the fill. -/
theorem chain1_eq (b : Memref sig .tc .vmem S8x512x1 .f32) (z) (w) (n : ℕ) (hn : n ≤ 8) :
    chain1 b z w n hn = rows1 (fun h => w h (View.ld z (row1 h))) n hn ++ chain1 b z w 0 (Nat.zero_le _) := by
  induction n with
  | zero => rfl
  | succ n ih =>
      rw [chain1_succ, rows1, List.cons_append, readCov_chain1 b z w n (Nat.le_of_succ_le hn) ⟨n, hn⟩ le_rfl, ih]

theorem chain64_succ (b : Memref sig .tc .vmem S8x512x64 .f32) (z) (w) (n : ℕ) (hn : n + 1 ≤ 8) :
    chain64 b z w (n + 1) hn
      = ⟨row64 ⟨n, hn⟩, w ⟨n, hn⟩ (b.view.readCov (chain64 b z w n (Nat.le_of_succ_le hn)) (row64 ⟨n, hn⟩).toLoadRect)⟩
        :: chain64 b z w n (Nat.le_of_succ_le hn) := rfl

theorem disj64 : ∀ a h : Fin 8, a.val < h.val → LoadRect.disj (row64 a) (row64 h).toLoadRect = true := by decide

@[inherit_doc readCov_chain1]
theorem readCov_chain64 (b : Memref sig .tc .vmem S8x512x64 .f32) (z) (w) (n : ℕ) (hn : n ≤ 8) (h : Fin 8) (hh : n ≤ h.val) :
    b.view.readCov (chain64 b z w n hn) (row64 h).toLoadRect = View.ld z (row64 h) := by
  induction n with
  | zero => exact View.readCov_fill (off := ![0, 0, 0]) b.view inb_S8x512x64_S8x512x64_0_0_0 z [] (row64 h) (by decide)
  | succ n ih =>
      rw [chain64_succ, View.readCov_skip _ _ _ _ _ (disj64 ⟨n, hn⟩ h hh)]
      exact ih _ (Nat.le_of_succ_le hh)

@[inherit_doc chain1_eq]
theorem chain64_eq (b : Memref sig .tc .vmem S8x512x64 .f32) (z) (w) (n : ℕ) (hn : n ≤ 8) :
    chain64 b z w n hn = rows64 (fun h => w h (View.ld z (row64 h))) n hn ++ chain64 b z w 0 (Nat.zero_le _) := by
  induction n with
  | zero => rfl
  | succ n ih =>
      rw [chain64_succ, rows64, List.cons_append, readCov_chain64 b z w n (Nat.le_of_succ_le hn) ⟨n, hn⟩ le_rfl, ih]

section Loads

variable (i : grid0.Coords) (arg4 : Memref sig .tc .vmem S1x8x512x64 .bf16) (arg5 arg6 : Memref sig .tc .vmem S1x8x1024x64 .bf16)
  (arg7 : Memref sig .tc .vmem S1x8x512x1 .f32) (arg8 : Memref sig .tc .vmem S1x8x1x1024 .f32)
  (T0 T1 : S72.Idx → Elt Ideal .i32) (x0 : S1x8x512x64.Idx → Elt Ideal .bf16) (x1 x2 : S1x8x1024x64.Idx → Elt Ideal .bf16)
  (x3 : S1x8x512x1.Idx → Elt Ideal .f32) (x4 : S1x8x1x1024.Idx → Elt Ideal .f32)

/-- A head's loads of the five blocks. -/
abbrev lq (h : Fin 8) := View.readAt (Elt Ideal) arg4.view (rowO h).toLoadRect (arg4.view.rep x0)
@[inherit_doc lq] abbrev lk (h : Fin 8) := View.readAt (Elt Ideal) arg5.view (rowK h).toLoadRect (arg5.view.rep x1)
@[inherit_doc lq] abbrev lv (h : Fin 8) := View.readAt (Elt Ideal) arg6.view (rowK h).toLoadRect (arg6.view.rep x2)
@[inherit_doc lq] abbrev lcq (h : Fin 8) := View.readAt (Elt Ideal) arg7.view (rowCq h).toLoadRect (arg7.view.rep x3)
@[inherit_doc lq] abbrev lck (h : Fin 8) := View.readAt (Elt Ideal) arg8.view (rowCk h).toLoadRect (arg8.view.rep x4)

/-- The word that a table holds at the point. -/
abbrev word (tb : Memref sig .tc .smem S72 .i32) (T : tb.view.ty.Contents (Elt Ideal)) : Elt Ideal .i32 :=
  View.readAt (Elt Ideal) tb.view (Rect.unit (s := S72) (k0_off1 i) S1.size (k0_off1_inb i)).toLoadRect T (Shape.Idx.first (numel1_S1.symm ▸ Nat.one_pos))

/-- Which keys of the block a query of the block may look at. -/
abbrev causal : IVec S512x1024 1 := k0_pay15 (F := Ideal) (word i tbM0_0 T0) (word i tbM0_1 T1)

/-- Head `h`'s new rows from the blocks and its old rows. -/
abbrev stepM (m : (h : Fin 8) → Vec Ideal S1x512x1 .f32) (h : Fin 8) : Vec Ideal S1x512x1 .f32 :=
  newM (causal i T0 T1) (lq arg4 x0 h) (lk arg5 x1 h) (lcq arg7 x3 h) (lck arg8 x4 h) (m h)
@[inherit_doc stepM] abbrev stepL (m l : (h : Fin 8) → Vec Ideal S1x512x1 .f32) (h : Fin 8) : Vec Ideal S1x512x1 .f32 :=
  newL (causal i T0 T1) (lq arg4 x0 h) (lk arg5 x1 h) (lcq arg7 x3 h) (lck arg8 x4 h) (m h) (l h)
@[inherit_doc stepM] abbrev stepA (m : (h : Fin 8) → Vec Ideal S1x512x1 .f32) (a : (h : Fin 8) → Vec Ideal S1x512x64 .f32) (h : Fin 8) :
    Vec Ideal S1x512x64 .f32 :=
  newA (causal i T0 T1) (lq arg4 x0 h) (lk arg5 x1 h) (lv arg6 x2 h) (lcq arg7 x3 h) (lck arg8 x4 h) (m h) (a h)

/-- A head's rows of the carried buffers. -/
abbrev ld1 {b : Memref sig .tc .vmem S8x512x1 .f32} (f : b.view.ty.Contents (Elt Ideal)) (h : Fin 8) : Vec Ideal S1x512x1 .f32 :=
  View.readAt (Elt Ideal) b.view (row1 h).toLoadRect f
@[inherit_doc ld1] abbrev ld64 {b : Memref sig .tc .vmem S8x512x64 .f32} (f : b.view.ty.Contents (Elt Ideal)) (h : Fin 8) :
    Vec Ideal S1x512x64 .f32 :=
  View.readAt (Elt Ideal) b.view (row64 h).toLoadRect f

variable (c : Dev nD) (xa0 : Buf (Elt Ideal) ((c : Thread nD τ).loc cc0_scratch0)) (xa1 : Buf (Elt Ideal) ((c : Thread nD τ).loc cc0_scratch1))
  (xa2 : Buf (Elt Ideal) ((c : Thread nD τ).loc cc0_scratch2))

/-! ## The two paths that carry on with what the buffers hold -/

theorem D_M : kernelRun0_D.sl.HS0_8 c i arg4 arg5 arg7 arg8 T0 T1 x0 x1 x3 x4 xa0
    = rows1 (stepM i arg4 arg5 arg7 arg8 T0 T1 x0 x1 x3 x4 (ld1 (b := scM0_0) xa0)) 8 le_rfl := by
  sl_kernel_rfl

theorem D_L : kernelRun0_D.sl.HS1_8 c i arg4 arg5 arg7 arg8 T0 T1 x0 x1 x3 x4 xa0 xa1
    = rows1 (stepL i arg4 arg5 arg7 arg8 T0 T1 x0 x1 x3 x4 (ld1 (b := scM0_0) xa0) (ld1 (b := scM0_1) xa1)) 8 le_rfl := by
  sl_kernel_rfl

theorem D_A : kernelRun0_D.sl.HS2_8 c i arg4 arg5 arg6 arg7 arg8 T0 T1 x0 x1 x2 x3 x4 xa0 xa2
    = rows64 (stepA i arg4 arg5 arg6 arg7 arg8 T0 T1 x0 x1 x2 x3 x4 (ld1 (b := scM0_0) xa0) (ld64 (b := scM0_2) xa2)) 8 le_rfl := by
  sl_kernel_rfl

theorem C_M : kernelRun0_C.sl.HS0_8 c i arg4 arg5 arg7 arg8 T0 T1 x0 x1 x3 x4 xa0
    = rows1 (stepM i arg4 arg5 arg7 arg8 T0 T1 x0 x1 x3 x4 (ld1 (b := scM0_0) xa0)) 8 le_rfl := by
  sl_kernel_rfl

theorem C_L : kernelRun0_C.sl.HS1_8 c i arg4 arg5 arg7 arg8 T0 T1 x0 x1 x3 x4 xa0 xa1
    = rows1 (stepL i arg4 arg5 arg7 arg8 T0 T1 x0 x1 x3 x4 (ld1 (b := scM0_0) xa0) (ld1 (b := scM0_1) xa1)) 8 le_rfl := by
  sl_kernel_rfl

theorem C_A : kernelRun0_C.sl.HS2_8 c i arg4 arg5 arg6 arg7 arg8 T0 T1 x0 x1 x2 x3 x4 xa0 xa2
    = rows64 (stepA i arg4 arg5 arg6 arg7 arg8 T0 T1 x0 x1 x2 x3 x4 (ld1 (b := scM0_0) xa0) (ld64 (b := scM0_2) xa2)) 8 le_rfl := by
  sl_kernel_rfl

theorem C_O : kernelRun0_C.sl.HO5_8 c i arg4 arg5 arg6 arg7 arg8 T0 T1 x0 x1 x2 x3 x4 xa0 xa1 xa2
    = rowsO (fun h => outRow
        (scM0_1.view.readCov (kernelRun0_C.sl.HS1_8 c i arg4 arg5 arg7 arg8 T0 T1 x0 x1 x3 x4 xa0 xa1) (row1 h).toLoadRect)
        (scM0_2.view.readCov (kernelRun0_C.sl.HS2_8 c i arg4 arg5 arg6 arg7 arg8 T0 T1 x0 x1 x2 x3 x4 xa0 xa2) (row64 h).toLoadRect)) 8 le_rfl := by
  sl_kernel_rfl

/-! ## The two paths that clear the buffers first -/

theorem A_M : kernelRun0_A.sl.HS0_9 i arg4 arg5 arg7 arg8 T0 T1 x0 x1 x3 x4
    = chain1 scM0_0 (k0_pay12 (F := Ideal)) (fun h m => stepM i arg4 arg5 arg7 arg8 T0 T1 x0 x1 x3 x4 (fun _ => m) h) 8 le_rfl := by
  sl_kernel_rfl

theorem A_L : kernelRun0_A.sl.HS1_9 i arg4 arg5 arg7 arg8 T0 T1 x0 x1 x3 x4
    = chain1 scM0_1 (k0_pay13 (F := Ideal)) (fun h l => stepL i arg4 arg5 arg7 arg8 T0 T1 x0 x1 x3 x4
        (fun h => scM0_0.view.readCov (chain1 scM0_0 (k0_pay12 (F := Ideal)) (fun h m => stepM i arg4 arg5 arg7 arg8 T0 T1 x0 x1 x3 x4 (fun _ => m) h) h.val h.isLt.le)
          (row1 h).toLoadRect) (fun _ => l) h) 8 le_rfl := by
  sl_kernel_rfl

theorem A_A : kernelRun0_A.sl.HS2_9 i arg4 arg5 arg6 arg7 arg8 T0 T1 x0 x1 x2 x3 x4
    = chain64 scM0_2 (k0_pay14 (F := Ideal)) (fun h a => stepA i arg4 arg5 arg6 arg7 arg8 T0 T1 x0 x1 x2 x3 x4
        (fun h => scM0_0.view.readCov (chain1 scM0_0 (k0_pay12 (F := Ideal)) (fun h m => stepM i arg4 arg5 arg7 arg8 T0 T1 x0 x1 x3 x4 (fun _ => m) h) h.val h.isLt.le)
          (row1 h).toLoadRect) (fun _ => a) h) 8 le_rfl := by
  sl_kernel_rfl

theorem B_M : kernelRun0_B.sl.HS0_9 i arg4 arg5 arg7 arg8 T0 T1 x0 x1 x3 x4
    = chain1 scM0_0 (k0_pay12 (F := Ideal)) (fun h m => stepM i arg4 arg5 arg7 arg8 T0 T1 x0 x1 x3 x4 (fun _ => m) h) 8 le_rfl := by
  sl_kernel_rfl

theorem B_L : kernelRun0_B.sl.HS1_9 i arg4 arg5 arg7 arg8 T0 T1 x0 x1 x3 x4
    = chain1 scM0_1 (k0_pay13 (F := Ideal)) (fun h l => stepL i arg4 arg5 arg7 arg8 T0 T1 x0 x1 x3 x4
        (fun h => scM0_0.view.readCov (chain1 scM0_0 (k0_pay12 (F := Ideal)) (fun h m => stepM i arg4 arg5 arg7 arg8 T0 T1 x0 x1 x3 x4 (fun _ => m) h) h.val h.isLt.le)
          (row1 h).toLoadRect) (fun _ => l) h) 8 le_rfl := by
  sl_kernel_rfl

theorem B_A : kernelRun0_B.sl.HS2_9 i arg4 arg5 arg6 arg7 arg8 T0 T1 x0 x1 x2 x3 x4
    = chain64 scM0_2 (k0_pay14 (F := Ideal)) (fun h a => stepA i arg4 arg5 arg6 arg7 arg8 T0 T1 x0 x1 x2 x3 x4
        (fun h => scM0_0.view.readCov (chain1 scM0_0 (k0_pay12 (F := Ideal)) (fun h m => stepM i arg4 arg5 arg7 arg8 T0 T1 x0 x1 x3 x4 (fun _ => m) h) h.val h.isLt.le)
          (row1 h).toLoadRect) (fun _ => a) h) 8 le_rfl := by
  sl_kernel_rfl

theorem A_O : kernelRun0_A.sl.HO5_8 i arg4 arg5 arg6 arg7 arg8 T0 T1 x0 x1 x2 x3 x4
    = rowsO (fun h => outRow
        (scM0_1.view.readCov (kernelRun0_A.sl.HS1_9 i arg4 arg5 arg7 arg8 T0 T1 x0 x1 x3 x4) (row1 h).toLoadRect)
        (scM0_2.view.readCov (kernelRun0_A.sl.HS2_9 i arg4 arg5 arg6 arg7 arg8 T0 T1 x0 x1 x2 x3 x4) (row64 h).toLoadRect)) 8 le_rfl := by
  sl_kernel_rfl

/-! ## A head's rows after the run -/

/-- The cleared rows. -/
abbrev clearM (h : Fin 8) : Vec Ideal S1x512x1 .f32 := View.ld (k0_pay12 (F := Ideal)) (row1 h)
@[inherit_doc clearM] abbrev clearL (h : Fin 8) : Vec Ideal S1x512x1 .f32 := View.ld (k0_pay13 (F := Ideal)) (row1 h)
@[inherit_doc clearM] abbrev clearA (h : Fin 8) : Vec Ideal S1x512x64 .f32 := View.ld (k0_pay14 (F := Ideal)) (row64 h)

variable (h : Fin 8)

theorem A_rowM : scM0_0.view.readCov (kernelRun0_A.sl.HS0_9 i arg4 arg5 arg7 arg8 T0 T1 x0 x1 x3 x4) (row1 h).toLoadRect
    = stepM i arg4 arg5 arg7 arg8 T0 T1 x0 x1 x3 x4 clearM h := by
  rw [A_M, chain1_eq, readCov_rows1 _ _ _ _ _ _ h.isLt]

theorem A_rowL : scM0_1.view.readCov (kernelRun0_A.sl.HS1_9 i arg4 arg5 arg7 arg8 T0 T1 x0 x1 x3 x4) (row1 h).toLoadRect
    = stepL i arg4 arg5 arg7 arg8 T0 T1 x0 x1 x3 x4 clearM clearL h := by
  rw [A_L, chain1_eq, readCov_rows1 _ _ _ _ _ _ h.isLt]
  exact congrArg (fun m => newL (causal i T0 T1) (lq arg4 x0 h) (lk arg5 x1 h) (lcq arg7 x3 h) (lck arg8 x4 h) m (clearL h))
    (readCov_chain1 _ _ _ _ _ h le_rfl)

theorem A_rowA : scM0_2.view.readCov (kernelRun0_A.sl.HS2_9 i arg4 arg5 arg6 arg7 arg8 T0 T1 x0 x1 x2 x3 x4) (row64 h).toLoadRect
    = stepA i arg4 arg5 arg6 arg7 arg8 T0 T1 x0 x1 x2 x3 x4 clearM clearA h := by
  rw [A_A, chain64_eq, readCov_rows64 _ _ _ _ _ _ h.isLt]
  exact congrArg (fun m => newA (causal i T0 T1) (lq arg4 x0 h) (lk arg5 x1 h) (lv arg6 x2 h) (lcq arg7 x3 h) (lck arg8 x4 h) m (clearA h))
    (readCov_chain1 _ _ _ _ _ h le_rfl)

theorem B_rowM : scM0_0.view.readCov (kernelRun0_B.sl.HS0_9 i arg4 arg5 arg7 arg8 T0 T1 x0 x1 x3 x4) (row1 h).toLoadRect
    = stepM i arg4 arg5 arg7 arg8 T0 T1 x0 x1 x3 x4 clearM h := by
  rw [B_M, chain1_eq, readCov_rows1 _ _ _ _ _ _ h.isLt]

theorem B_rowL : scM0_1.view.readCov (kernelRun0_B.sl.HS1_9 i arg4 arg5 arg7 arg8 T0 T1 x0 x1 x3 x4) (row1 h).toLoadRect
    = stepL i arg4 arg5 arg7 arg8 T0 T1 x0 x1 x3 x4 clearM clearL h := by
  rw [B_L, chain1_eq, readCov_rows1 _ _ _ _ _ _ h.isLt]
  exact congrArg (fun m => newL (causal i T0 T1) (lq arg4 x0 h) (lk arg5 x1 h) (lcq arg7 x3 h) (lck arg8 x4 h) m (clearL h))
    (readCov_chain1 _ _ _ _ _ h le_rfl)

theorem B_rowA : scM0_2.view.readCov (kernelRun0_B.sl.HS2_9 i arg4 arg5 arg6 arg7 arg8 T0 T1 x0 x1 x2 x3 x4) (row64 h).toLoadRect
    = stepA i arg4 arg5 arg6 arg7 arg8 T0 T1 x0 x1 x2 x3 x4 clearM clearA h := by
  rw [B_A, chain64_eq, readCov_rows64 _ _ _ _ _ _ h.isLt]
  exact congrArg (fun m => newA (causal i T0 T1) (lq arg4 x0 h) (lk arg5 x1 h) (lv arg6 x2 h) (lcq arg7 x3 h) (lck arg8 x4 h) m (clearA h))
    (readCov_chain1 _ _ _ _ _ h le_rfl)

theorem C_rowM : scM0_0.view.readCov (kernelRun0_C.sl.HS0_8 c i arg4 arg5 arg7 arg8 T0 T1 x0 x1 x3 x4 xa0) (row1 h).toLoadRect
    = stepM i arg4 arg5 arg7 arg8 T0 T1 x0 x1 x3 x4 (ld1 (b := scM0_0) xa0) h := by
  rw [C_M, ← List.append_nil (rows1 _ 8 le_rfl), readCov_rows1 _ _ _ _ _ _ h.isLt]

theorem C_rowL : scM0_1.view.readCov (kernelRun0_C.sl.HS1_8 c i arg4 arg5 arg7 arg8 T0 T1 x0 x1 x3 x4 xa0 xa1) (row1 h).toLoadRect
    = stepL i arg4 arg5 arg7 arg8 T0 T1 x0 x1 x3 x4 (ld1 (b := scM0_0) xa0) (ld1 (b := scM0_1) xa1) h := by
  rw [C_L, ← List.append_nil (rows1 _ 8 le_rfl), readCov_rows1 _ _ _ _ _ _ h.isLt]

theorem C_rowA : scM0_2.view.readCov (kernelRun0_C.sl.HS2_8 c i arg4 arg5 arg6 arg7 arg8 T0 T1 x0 x1 x2 x3 x4 xa0 xa2) (row64 h).toLoadRect
    = stepA i arg4 arg5 arg6 arg7 arg8 T0 T1 x0 x1 x2 x3 x4 (ld1 (b := scM0_0) xa0) (ld64 (b := scM0_2) xa2) h := by
  rw [C_A, ← List.append_nil (rows64 _ 8 le_rfl), readCov_rows64 _ _ _ _ _ _ h.isLt]

theorem D_rowM : scM0_0.view.readCov (kernelRun0_D.sl.HS0_8 c i arg4 arg5 arg7 arg8 T0 T1 x0 x1 x3 x4 xa0) (row1 h).toLoadRect
    = stepM i arg4 arg5 arg7 arg8 T0 T1 x0 x1 x3 x4 (ld1 (b := scM0_0) xa0) h := by
  rw [D_M, ← List.append_nil (rows1 _ 8 le_rfl), readCov_rows1 _ _ _ _ _ _ h.isLt]

theorem D_rowL : scM0_1.view.readCov (kernelRun0_D.sl.HS1_8 c i arg4 arg5 arg7 arg8 T0 T1 x0 x1 x3 x4 xa0 xa1) (row1 h).toLoadRect
    = stepL i arg4 arg5 arg7 arg8 T0 T1 x0 x1 x3 x4 (ld1 (b := scM0_0) xa0) (ld1 (b := scM0_1) xa1) h := by
  rw [D_L, ← List.append_nil (rows1 _ 8 le_rfl), readCov_rows1 _ _ _ _ _ _ h.isLt]

theorem D_rowA : scM0_2.view.readCov (kernelRun0_D.sl.HS2_8 c i arg4 arg5 arg6 arg7 arg8 T0 T1 x0 x1 x2 x3 x4 xa0 xa2) (row64 h).toLoadRect
    = stepA i arg4 arg5 arg6 arg7 arg8 T0 T1 x0 x1 x2 x3 x4 (ld1 (b := scM0_0) xa0) (ld64 (b := scM0_2) xa2) h := by
  rw [D_A, ← List.append_nil (rows64 _ 8 le_rfl), readCov_rows64 _ _ _ _ _ _ h.isLt]

theorem A_rowO : VO0_5.readCov (kernelRun0_A.sl.HO5_8 i arg4 arg5 arg6 arg7 arg8 T0 T1 x0 x1 x2 x3 x4) (rowO h).toLoadRect
    = outRow (stepL i arg4 arg5 arg7 arg8 T0 T1 x0 x1 x3 x4 clearM clearL h) (stepA i arg4 arg5 arg6 arg7 arg8 T0 T1 x0 x1 x2 x3 x4 clearM clearA h) := by
  rw [A_O, ← List.append_nil (rowsO _ 8 le_rfl), readCov_rowsO _ _ _ _ _ _ h.isLt, A_rowL, A_rowA]

theorem C_rowO : VO0_5.readCov (kernelRun0_C.sl.HO5_8 c i arg4 arg5 arg6 arg7 arg8 T0 T1 x0 x1 x2 x3 x4 xa0 xa1 xa2) (rowO h).toLoadRect
    = outRow (stepL i arg4 arg5 arg7 arg8 T0 T1 x0 x1 x3 x4 (ld1 (b := scM0_0) xa0) (ld1 (b := scM0_1) xa1) h)
      (stepA i arg4 arg5 arg6 arg7 arg8 T0 T1 x0 x1 x2 x3 x4 (ld1 (b := scM0_0) xa0) (ld64 (b := scM0_2) xa2) h) := by
  rw [C_O, ← List.append_nil (rowsO _ 8 le_rfl), readCov_rowsO _ _ _ _ _ _ h.isLt, C_rowL, C_rowA]

end Loads

end Cert.Fox

end
-- ==== Proof.FoxCtl.lean ====
/-
  What the tables say at the points of the grid: which block of queries and which block of keys a point reads, when the
  carried buffers are cleared, when the result is written, and that every block of the result is written.
-/
module

public import proofs.«01_k».proof.Proof.FoxStep

@[expose] public section

set_option maxRecDepth 65536

noncomputable section

namespace Cert.Fox

open Cert.Kernel5Ideal Cert.Kernel5Ideal.Gen
open Idealize.ShloMosaic Idealize.ShloMosaic.TcCoe Idealize.ShloMosaic.Tactic

/-- The points of the grid. -/
abbrev Pt : Type := Fin (cfgA 0).N

/-- The block of queries, and the block of keys, of a point. -/
def qI (t : Pt) : ℕ := (word (crd 0 t) tbM0_0 (pinT_0 0) : BitVec 32).toNat
@[inherit_doc qI] def kI (t : Pt) : ℕ := (word (crd 0 t) tbM0_1 (pinT_1 0) : BitVec 32).toNat

theorem qI_lt : ∀ t : Pt, qI t < 16 := by decide +kernel
theorem kI_lt : ∀ t : Pt, kI t < 8 := by decide +kernel
theorem bI_lt : ∀ t : Pt, t.val / 72 < 2 := by decide +kernel
theorem clear_iff : ∀ t : Pt, P0_0 0 t ↔ kI t = 0 := by decide +kernel
theorem last_iff : ∀ t : Pt, P0_1 0 t ↔ kI t = qI t / 2 := by decide +kernel
theorem kI_le : ∀ t : Pt, kI t ≤ qI t / 2 := by decide +kernel

/-- A point that doesn't clear the buffers comes after the point of the block of keys before. -/
theorem before : ∀ t : Pt, ¬ P0_0 0 t → ∃ s : Pt, s.val + 1 = t.val ∧ kI s + 1 = kI t ∧ qI s = qI t ∧ s.val / 72 = t.val / 72 := by
  have h : ∀ t : Pt, ¬ P0_0 0 t → 0 < t.val ∧ ∀ s : Pt, s.val = t.val - 1 → kI s + 1 = kI t ∧ qI s = qI t ∧ s.val / 72 = t.val / 72 := by
    decide +kernel
  intro t ht
  obtain ⟨h0, h1⟩ := h t ht
  exact ⟨⟨t.val - 1, by have := t.isLt; omega⟩, by show t.val - 1 + 1 = t.val; omega, h1 _ rfl⟩

/-- Every block of the result has the point that writes it. -/
theorem writer : ∀ b : Fin 2, ∀ g : Fin 16, ∃ t : Pt, t.val / 72 = b.val ∧ qI t = g.val ∧ P0_1 0 t := by decide +kernel

/-- The windows' block numbers at a point. -/
theorem idx_q : ∀ t : Pt, ((cfgA 0).win 0).index t = ![t.val / 72, 0, qI t, 0] := by decide +kernel
theorem idx_k : ∀ t : Pt, ((cfgA 0).win 1).index t = ![t.val / 72, 0, kI t, 0] := by decide +kernel
theorem idx_v : ∀ t : Pt, ((cfgA 0).win 2).index t = ![t.val / 72, 0, kI t, 0] := by decide +kernel
theorem idx_cq : ∀ t : Pt, ((cfgA 0).win 3).index t = ![t.val / 72, 0, qI t, 0] := by decide +kernel
theorem idx_ck : ∀ t : Pt, ((cfgA 0).win 4).index t = ![t.val / 72, 0, 0, kI t] := by decide +kernel
theorem idx_out : ∀ t : Pt, ((cfgA 0).win 5).index t = ![t.val / 72, 0, qI t, 0] := by decide +kernel

/-- The result's block is written back exactly at the points that write it. -/
theorem flush_iff : ∀ t : Pt, ((cfgA 0).win 5).flush t = true ↔ P0_1 0 t := by decide +kernel

end Cert.Fox

end
-- ==== Proof.FoxPoint.lean ====
/-
  One point of the grid: a head's functions at a row turn the softmax's numbers of the blocks before into those of one block
  more, and the run of the body leaves these functions of the point's blocks and of the rows held before.
-/
module

public import proofs.«01_k».proof.Proof.FoxMath
public import proofs.«01_k».proof.Proof.FoxCtl
public import Idealize.ShloMosaic.Lib.Pointwise

@[expose] public section

set_option maxRecDepth 65536

noncomputable section

namespace Cert.Fox

open Cert.Kernel5Ideal Cert.Kernel5Ideal.Gen
open Idealize.ShloMosaic Idealize.ShloMosaic.TcCoe Idealize.ShloMosaic.Tactic

/-! ## A head's functions at a row -/

section Head

variable (mask : IVec S512x1024 1) (q : Vec Ideal S1x1x512x64 .bf16) (k v : Vec Ideal S1x1x1024x64 .bf16)
  (cq : Vec Ideal S1x1x512x1 .f32) (ck : Vec Ideal S1x1x1x1024 .f32)
  (m l : Vec Ideal S1x512x1 .f32) (a : Vec Ideal S1x512x64 .f32)

theorem neg_inf : Ideal.ofBits .f32 4286578688#32 = ⊥ := by simp [Ideal.ofBits, Ideal.ieee]

theorem mask_bot : (Named.named κ "mask" 4048155338#32 : Ideal .f32) = ⊥ := rfl

/-- The block's scores at a row. -/
theorem score_apply (r : Fin 512) (x : Fin 1024) :
    k0_pay17 (F := Ideal) mask (k0_pay16 q) k cq ck (ix2 r x)
      = if mask (ix2 r x) = 1#1 then ∑ d, q (ix4 0 0 r d) * k (ix4 0 0 x d) + cq (ix4 0 0 r 0) - ck (ix4 0 0 0 x) else ⊥ := by
  pointwise [k0_pay17, k0_pay16]
  rw [mask_bot]
  rfl

theorem max_apply (r : Fin 512) :
    k0_pay20 (F := Ideal) mask (k0_pay16 q) k cq ck m (ix2 r 0)
      = max (m (ix3 0 r 0)) (Finset.univ.sup fun x => k0_pay17 (F := Ideal) mask (k0_pay16 q) k cq ck (ix2 r x)) := by
  pointwise [k0_pay20, k0_pay19]
  rw [neg_inf]
  rfl

variable (s w : Fin 8192 → EReal) (hs : ∀ j, s j ≠ ⊤) (n : ℕ) (hn : n < 8) (r : Fin 512)
  (hsc : ∀ x, k0_pay17 (F := Ideal) mask (k0_pay16 q) k cq ck (ix2 r x) = s (blk n hn x)) (hm : m (ix3 0 r 0) = preM s n)

include hsc hm in
theorem max_eq : k0_pay20 (F := Ideal) mask (k0_pay16 q) k cq ck m (ix2 r 0) = preM s (n + 1) := by
  rw [max_apply, hm, ← preM_succ s n hn]
  simp only [hsc]

include hsc hm in
theorem newM_eq : newM mask q k cq ck m (ix3 0 r 0) = preM s (n + 1) := by
  have h : newM mask q k cq ck m (ix3 0 r 0) = k0_pay20 (F := Ideal) mask (k0_pay16 q) k cq ck m (ix2 r 0) := by
    pointwise [newM, k0_pay26]
  rw [h, max_eq mask q k cq ck m s n hn r hsc hm]

include hs hsc hm in
theorem newL_eq (hl : l (ix3 0 r 0) = preL s n) : newL mask q k cq ck m l (ix3 0 r 0) = preL s (n + 1) := by
  have h : newL mask q k cq ck m l (ix3 0 r 0)
      = ex (m (ix3 0 r 0)) (k0_pay20 (F := Ideal) mask (k0_pay16 q) k cq ck m (ix2 r 0)) * l (ix3 0 r 0)
        + ∑ x, ex (k0_pay17 (F := Ideal) mask (k0_pay16 q) k cq ck (ix2 r x)) (k0_pay20 (F := Ideal) mask (k0_pay16 q) k cq ck m (ix2 r 0)) := by
    pointwise [newL, k0_pay24, k0_pay23, k0_pay21, k0_pay22, k0_pay19]
    rfl
  rw [h, max_eq mask q k cq ck m s n hn r hsc hm, hm, hl, ← preL_succ s hs n hn]
  simp only [hsc]

include hs hsc hm in
theorem newA_eq (d : Fin 64) (hv : ∀ x, v (ix4 0 0 x d) = w (blk n hn x)) (ha : a (ix3 0 r d) = preA s w n) :
    newA mask q k v cq ck m a (ix3 0 r d) = preA s w (n + 1) := by
  have h : newA mask q k v cq ck m a (ix3 0 r d)
      = ex (m (ix3 0 r 0)) (k0_pay20 (F := Ideal) mask (k0_pay16 q) k cq ck m (ix2 r 0)) * a (ix3 0 r d)
        + ∑ x, ex (k0_pay17 (F := Ideal) mask (k0_pay16 q) k cq ck (ix2 r x)) (k0_pay20 (F := Ideal) mask (k0_pay16 q) k cq ck m (ix2 r 0))
          * v (ix4 0 0 x d) := by
    pointwise [newA, k0_pay25, k0_pay18, k0_pay21, k0_pay22, k0_pay19]
    rfl
  rw [h, max_eq mask q k cq ck m s n hn r hsc hm, hm, ha, ← preA_succ s w hs n hn]
  simp only [hsc, hv]

theorem outRow_apply (d : Fin 64) : outRow l a (ix4 0 0 r d) = Ideal.div (a (ix3 0 r d)) (l (ix3 0 r 0)) := by
  pointwise [outRow, k0_pay6]

/-- The mask of a block of queries and a block of keys. -/
theorem mask_apply (x : Fin 1024) (qi ki : ℕ) (hq : qi < 16) (hk : ki < 8) :
    k0_pay15 (F := Ideal) (BitVec.ofNat 32 qi) (BitVec.ofNat 32 ki) (ix2 r x) = 1#1 ↔ 1024 * ki + x.val ≤ 512 * qi + r.val := by
  have h : k0_pay15 (F := Ideal) (BitVec.ofNat 32 qi) (BitVec.ofNat 32 ki) (ix2 r x)
      = BitVec.ofBool ((BitVec.ofNat 32 ki * 1024#32 + BitVec.ofNat 32 x.val).sle (BitVec.ofNat 32 qi * 512#32 + BitVec.ofNat 32 r.val)) := by
    pointwise [k0_pay15]
    rfl
  have hx := x.isLt
  have hr := r.isLt
  have e1 : (BitVec.ofNat 32 ki * 1024#32 + BitVec.ofNat 32 x.val).toNat = 1024 * ki + x.val := by
    simp only [BitVec.toNat_add, BitVec.toNat_mul, BitVec.toNat_ofNat]; omega
  have e2 : (BitVec.ofNat 32 qi * 512#32 + BitVec.ofNat 32 r.val).toNat = 512 * qi + r.val := by
    simp only [BitVec.toNat_add, BitVec.toNat_mul, BitVec.toNat_ofNat]; omega
  rw [h, BitVec.sle_eq_decide, BitVec.toInt_eq_toNat_of_lt (by omega), BitVec.toInt_eq_toNat_of_lt (by omega), e1, e2]
  have key : ∀ b : Bool, BitVec.ofBool b = 1#1 ↔ b = true := by decide
  rw [key, decide_eq_true_iff]
  omega

end Head

/-! ## The cleared buffers -/

theorem fillM_apply (y) : k0_pay12 (F := Ideal) y = ⊥ := rfl
theorem fillL_apply (y) : k0_pay13 (F := Ideal) y = 0 := by
  show Ideal.ofBits .f32 0x00000000#32 = 0
  simp [Ideal.ofBits, Ideal.ieee]
theorem fillA_apply (y) : k0_pay14 (F := Ideal) y = 0 := by
  show Ideal.ofBits .f32 0x00000000#32 = 0
  simp [Ideal.ofBits, Ideal.ieee]

/-! ## The run of the body at a point -/

variable (m : (ℓ : Loc nD τ sig) → Buf (Elt Ideal) ℓ) (ρ : Dev nD → PrngReg) (c : Dev nD) (t : Pt)

/-- What the output block and the carried buffers hold. -/
abbrev St : Type := (S1x8x512x64.Idx → Elt Ideal .f32) × Buf (Elt Ideal) ((c : Thread nD τ).loc cc0_scratch0)
  × Buf (Elt Ideal) ((c : Thread nD τ).loc cc0_scratch1) × Buf (Elt Ideal) ((c : Thread nD τ).loc cc0_scratch2)

/-- The rows that the point starts from: cleared ones at the first block of keys. -/
def oldM (p : St c) : (h : Fin 8) → Vec Ideal S1x512x1 .f32 := if P0_0 0 t then clearM else ld1 (b := scM0_0) p.2.1
@[inherit_doc oldM] def oldL (p : St c) : (h : Fin 8) → Vec Ideal S1x512x1 .f32 := if P0_0 0 t then clearL else ld1 (b := scM0_1) p.2.2.1
@[inherit_doc oldM] def oldA (p : St c) : (h : Fin 8) → Vec Ideal S1x512x64 .f32 := if P0_0 0 t then clearA else ld64 (b := scM0_2) p.2.2.2

/-- The rows that it leaves. -/
abbrev ptM := stepM (crd 0 t) (ms0_0 0 t) (ms0_1 0 t) (ms0_3 0 t) (ms0_4 0 t) (pinT_0 0) (pinT_1 0)
  (iblk 0 m ρ c 0 t) (iblk 0 m ρ c 1 t) (iblk 0 m ρ c 3 t) (iblk 0 m ρ c 4 t)
@[inherit_doc ptM] abbrev ptL := stepL (crd 0 t) (ms0_0 0 t) (ms0_1 0 t) (ms0_3 0 t) (ms0_4 0 t) (pinT_0 0) (pinT_1 0)
  (iblk 0 m ρ c 0 t) (iblk 0 m ρ c 1 t) (iblk 0 m ρ c 3 t) (iblk 0 m ρ c 4 t)
@[inherit_doc ptM] abbrev ptA := stepA (crd 0 t) (ms0_0 0 t) (ms0_1 0 t) (ms0_2 0 t) (ms0_3 0 t) (ms0_4 0 t) (pinT_0 0) (pinT_1 0)
  (iblk 0 m ρ c 0 t) (iblk 0 m ρ c 1 t) (iblk 0 m ρ c 2 t) (iblk 0 m ρ c 3 t) (iblk 0 m ρ c 4 t)

/-- What a point leaves in a head's rows. -/
theorem step_M (p : St c) (h : Fin 8) : ld1 (b := scM0_0) (step0 0 m ρ c t p).2.1 h = ptM m ρ c t (oldM c t p) h := by
  by_cases q0 : P0_0 0 t <;> by_cases q1 : P0_1 0 t
  · rw [step0_A _ _ _ _ _ _ q0 q1]
    refine Eq.trans (b := scM0_0.view.readCov (kernelRun0_A.sl.HS0_9 (crd 0 t) (ms0_0 0 t) (ms0_1 0 t) (ms0_3 0 t) (ms0_4 0 t) (pinT_0 0) (pinT_1 0)
        (iblk 0 m ρ c 0 t) (iblk 0 m ρ c 1 t) (iblk 0 m ρ c 3 t) (iblk 0 m ρ c 4 t)) (row1 h).toLoadRect) (by sl_kernel_rfl) ?_
    rw [A_rowM]
    simp only [oldM, if_pos q0]
  · rw [step0_B _ _ _ _ _ _ q0 q1]
    refine Eq.trans (b := scM0_0.view.readCov (kernelRun0_B.sl.HS0_9 (crd 0 t) (ms0_0 0 t) (ms0_1 0 t) (ms0_3 0 t) (ms0_4 0 t) (pinT_0 0) (pinT_1 0)
        (iblk 0 m ρ c 0 t) (iblk 0 m ρ c 1 t) (iblk 0 m ρ c 3 t) (iblk 0 m ρ c 4 t)) (row1 h).toLoadRect) (by sl_kernel_rfl) ?_
    rw [B_rowM]
    simp only [oldM, if_pos q0]
  · rw [step0_C _ _ _ _ _ _ q0 q1]
    refine Eq.trans (b := scM0_0.view.readCov (kernelRun0_C.sl.HS0_8 c (crd 0 t) (ms0_0 0 t) (ms0_1 0 t) (ms0_3 0 t) (ms0_4 0 t) (pinT_0 0) (pinT_1 0)
        (iblk 0 m ρ c 0 t) (iblk 0 m ρ c 1 t) (iblk 0 m ρ c 3 t) (iblk 0 m ρ c 4 t) p.2.1) (row1 h).toLoadRect) (by sl_kernel_rfl) ?_
    rw [C_rowM]
    simp only [oldM, if_neg q0]
  · rw [step0_D _ _ _ _ _ _ q0 q1]
    refine Eq.trans (b := scM0_0.view.readCov (kernelRun0_D.sl.HS0_8 c (crd 0 t) (ms0_0 0 t) (ms0_1 0 t) (ms0_3 0 t) (ms0_4 0 t) (pinT_0 0) (pinT_1 0)
        (iblk 0 m ρ c 0 t) (iblk 0 m ρ c 1 t) (iblk 0 m ρ c 3 t) (iblk 0 m ρ c 4 t) p.2.1) (row1 h).toLoadRect) (by sl_kernel_rfl) ?_
    rw [D_rowM]
    simp only [oldM, if_neg q0]

@[inherit_doc step_M]
theorem step_L (p : St c) (h : Fin 8) : ld1 (b := scM0_1) (step0 0 m ρ c t p).2.2.1 h = ptL m ρ c t (oldM c t p) (oldL c t p) h := by
  by_cases q0 : P0_0 0 t <;> by_cases q1 : P0_1 0 t
  · rw [step0_A _ _ _ _ _ _ q0 q1]
    refine Eq.trans (b := scM0_1.view.readCov (kernelRun0_A.sl.HS1_9 (crd 0 t) (ms0_0 0 t) (ms0_1 0 t) (ms0_3 0 t) (ms0_4 0 t) (pinT_0 0) (pinT_1 0)
        (iblk 0 m ρ c 0 t) (iblk 0 m ρ c 1 t) (iblk 0 m ρ c 3 t) (iblk 0 m ρ c 4 t)) (row1 h).toLoadRect) (by sl_kernel_rfl) ?_
    rw [A_rowL]
    simp only [oldM, oldL, if_pos q0]
  · rw [step0_B _ _ _ _ _ _ q0 q1]
    refine Eq.trans (b := scM0_1.view.readCov (kernelRun0_B.sl.HS1_9 (crd 0 t) (ms0_0 0 t) (ms0_1 0 t) (ms0_3 0 t) (ms0_4 0 t) (pinT_0 0) (pinT_1 0)
        (iblk 0 m ρ c 0 t) (iblk 0 m ρ c 1 t) (iblk 0 m ρ c 3 t) (iblk 0 m ρ c 4 t)) (row1 h).toLoadRect) (by sl_kernel_rfl) ?_
    rw [B_rowL]
    simp only [oldM, oldL, if_pos q0]
  · rw [step0_C _ _ _ _ _ _ q0 q1]
    refine Eq.trans (b := scM0_1.view.readCov (kernelRun0_C.sl.HS1_8 c (crd 0 t) (ms0_0 0 t) (ms0_1 0 t) (ms0_3 0 t) (ms0_4 0 t) (pinT_0 0) (pinT_1 0)
        (iblk 0 m ρ c 0 t) (iblk 0 m ρ c 1 t) (iblk 0 m ρ c 3 t) (iblk 0 m ρ c 4 t) p.2.1 p.2.2.1) (row1 h).toLoadRect) (by sl_kernel_rfl) ?_
    rw [C_rowL]
    simp only [oldM, oldL, if_neg q0]
  · rw [step0_D _ _ _ _ _ _ q0 q1]
    refine Eq.trans (b := scM0_1.view.readCov (kernelRun0_D.sl.HS1_8 c (crd 0 t) (ms0_0 0 t) (ms0_1 0 t) (ms0_3 0 t) (ms0_4 0 t) (pinT_0 0) (pinT_1 0)
        (iblk 0 m ρ c 0 t) (iblk 0 m ρ c 1 t) (iblk 0 m ρ c 3 t) (iblk 0 m ρ c 4 t) p.2.1 p.2.2.1) (row1 h).toLoadRect) (by sl_kernel_rfl) ?_
    rw [D_rowL]
    simp only [oldM, oldL, if_neg q0]

@[inherit_doc step_M]
theorem step_A (p : St c) (h : Fin 8) : ld64 (b := scM0_2) (step0 0 m ρ c t p).2.2.2 h = ptA m ρ c t (oldM c t p) (oldA c t p) h := by
  by_cases q0 : P0_0 0 t <;> by_cases q1 : P0_1 0 t
  · rw [step0_A _ _ _ _ _ _ q0 q1]
    refine Eq.trans (b := scM0_2.view.readCov (kernelRun0_A.sl.HS2_9 (crd 0 t) (ms0_0 0 t) (ms0_1 0 t) (ms0_2 0 t) (ms0_3 0 t) (ms0_4 0 t) (pinT_0 0) (pinT_1 0)
        (iblk 0 m ρ c 0 t) (iblk 0 m ρ c 1 t) (iblk 0 m ρ c 2 t) (iblk 0 m ρ c 3 t) (iblk 0 m ρ c 4 t)) (row64 h).toLoadRect) (by sl_kernel_rfl) ?_
    rw [A_rowA]
    simp only [oldM, oldA, if_pos q0]
  · rw [step0_B _ _ _ _ _ _ q0 q1]
    refine Eq.trans (b := scM0_2.view.readCov (kernelRun0_B.sl.HS2_9 (crd 0 t) (ms0_0 0 t) (ms0_1 0 t) (ms0_2 0 t) (ms0_3 0 t) (ms0_4 0 t) (pinT_0 0) (pinT_1 0)
        (iblk 0 m ρ c 0 t) (iblk 0 m ρ c 1 t) (iblk 0 m ρ c 2 t) (iblk 0 m ρ c 3 t) (iblk 0 m ρ c 4 t)) (row64 h).toLoadRect) (by sl_kernel_rfl) ?_
    rw [B_rowA]
    simp only [oldM, oldA, if_pos q0]
  · rw [step0_C _ _ _ _ _ _ q0 q1]
    refine Eq.trans (b := scM0_2.view.readCov (kernelRun0_C.sl.HS2_8 c (crd 0 t) (ms0_0 0 t) (ms0_1 0 t) (ms0_2 0 t) (ms0_3 0 t) (ms0_4 0 t) (pinT_0 0) (pinT_1 0)
        (iblk 0 m ρ c 0 t) (iblk 0 m ρ c 1 t) (iblk 0 m ρ c 2 t) (iblk 0 m ρ c 3 t) (iblk 0 m ρ c 4 t) p.2.1 p.2.2.2) (row64 h).toLoadRect) (by sl_kernel_rfl) ?_
    rw [C_rowA]
    simp only [oldM, oldA, if_neg q0]
  · rw [step0_D _ _ _ _ _ _ q0 q1]
    refine Eq.trans (b := scM0_2.view.readCov (kernelRun0_D.sl.HS2_8 c (crd 0 t) (ms0_0 0 t) (ms0_1 0 t) (ms0_2 0 t) (ms0_3 0 t) (ms0_4 0 t) (pinT_0 0) (pinT_1 0)
        (iblk 0 m ρ c 0 t) (iblk 0 m ρ c 1 t) (iblk 0 m ρ c 2 t) (iblk 0 m ρ c 3 t) (iblk 0 m ρ c 4 t) p.2.1 p.2.2.2) (row64 h).toLoadRect) (by sl_kernel_rfl) ?_
    rw [D_rowA]
    simp only [oldM, oldA, if_neg q0]

/-- What the last point of a block of queries leaves in a head's row of the result. -/
theorem step_O (p : St c) (h : Fin 8) (q1 : P0_1 0 t) :
    View.ld (step0 0 m ρ c t p).1 (rowO h)
      = outRow (ptL m ρ c t (oldM c t p) (oldL c t p) h) (ptA m ρ c t (oldM c t p) (oldA c t p) h) := by
  by_cases q0 : P0_0 0 t
  · rw [step0_A _ _ _ _ _ _ q0 q1]
    refine Eq.trans (b := VO0_5.readCov (kernelRun0_A.sl.HO5_8 (crd 0 t) (ms0_0 0 t) (ms0_1 0 t) (ms0_2 0 t) (ms0_3 0 t) (ms0_4 0 t) (pinT_0 0) (pinT_1 0)
        (iblk 0 m ρ c 0 t) (iblk 0 m ρ c 1 t) (iblk 0 m ρ c 2 t) (iblk 0 m ρ c 3 t) (iblk 0 m ρ c 4 t)) (rowO h).toLoadRect) (by sl_kernel_rfl) ?_
    rw [A_rowO]
    simp only [oldM, oldL, oldA, if_pos q0]
  · rw [step0_C _ _ _ _ _ _ q0 q1]
    refine Eq.trans (b := VO0_5.readCov (kernelRun0_C.sl.HO5_8 c (crd 0 t) (ms0_0 0 t) (ms0_1 0 t) (ms0_2 0 t) (ms0_3 0 t) (ms0_4 0 t) (pinT_0 0) (pinT_1 0)
        (iblk 0 m ρ c 0 t) (iblk 0 m ρ c 1 t) (iblk 0 m ρ c 2 t) (iblk 0 m ρ c 3 t) (iblk 0 m ρ c 4 t) p.2.1 p.2.2.1 p.2.2.2) (rowO h).toLoadRect) (by sl_kernel_rfl) ?_
    rw [C_rowO]
    simp only [oldM, oldL, oldA, if_neg q0]

end Cert.Fox

end
-- ==== Proof.FoxTraj.lean ====
/-
  The carried buffers of the attention's kernel after a point of the grid: each head's rows hold the running maximum, sum and
  weighted sum of the keys seen so far, and at the last block of keys the result's row is the attention of its query.
-/
module

public import proofs.«01_k».proof.Proof.FoxPoint

@[expose] public section

set_option maxRecDepth 65536

noncomputable section

namespace Cert.Fox

open Cert.Kernel5Ideal Cert.Kernel5Ideal.Gen
open Idealize.ShloMosaic Idealize.ShloMosaic.TcCoe Idealize.ShloMosaic.Tactic

variable (m : (ℓ : Loc nD τ sig) → Buf (Elt Ideal) ℓ) (ρ : Dev nD → PrngReg) (c : Dev nD)

/-- The queries, the keys, the values and the two logits at the launch. -/
def argQ (b : Fin 2) (h : Fin 8) (g : Fin 8192) (d : Fin 64) : EReal :=
  (m ((c.tc : Thread nD τ).loc main_arg2) : Vec Ideal S2x8x8192x64 .bf16) (ix4 b h g d)
@[inherit_doc argQ] def argK (b : Fin 2) (h : Fin 8) (j : Fin 8192) (d : Fin 64) : EReal :=
  (m ((c.tc : Thread nD τ).loc main_arg3) : Vec Ideal S2x8x8192x64 .bf16) (ix4 b h j d)
@[inherit_doc argQ] def argV (b : Fin 2) (h : Fin 8) (j : Fin 8192) (d : Fin 64) : EReal :=
  (m ((c.tc : Thread nD τ).loc main_arg4) : Vec Ideal S2x8x8192x64 .bf16) (ix4 b h j d)
@[inherit_doc argQ] def argCq (b : Fin 2) (h : Fin 8) (g : Fin 8192) : EReal :=
  (m ((c.tc : Thread nD τ).loc main_arg5) : Vec Ideal S2x8x8192x1 .f32) (ix4 b h g 0)
@[inherit_doc argQ] def argCk (b : Fin 2) (h : Fin 8) (j : Fin 8192) : EReal :=
  (m ((c.tc : Thread nD τ).loc main_arg6) : Vec Ideal S2x8x1x8192 .f32) (ix4 b h 0 j)

/-- A query's scores. -/
def sc (b : Fin 2) (h : Fin 8) (g : Fin 8192) : Fin 8192 → EReal :=
  score (argQ m c b h g) (argK m c b h) (argCq m c b h g) (argCk m c b h) g

/-- Up to the query's own place the scores are real numbers. -/
def Good : Prop := ∀ b h g j, j.val ≤ g.val → ∃ r : ℝ, sc m c b h g j = r

/-- The batch entry of a point, and the place of a row of its block of queries. -/
def bI (t : Pt) : Fin 2 := ⟨t.val / 72, bI_lt t⟩
@[inherit_doc bI] def gI (t : Pt) (r : Fin 512) : Fin 8192 := ⟨512 * qI t + r.val, by have := qI_lt t; omega⟩

/-! ## The loads -/

/-- A head's row of a block, by places. -/
theorem row_idx {n e : ℕ} (h : Fin 8) (inb : ∀ a : Fin 4, ![0, h.val, 0, 0] a + ![1, 1, n, e] a ≤ (⟨4, ![1, 8, n, e]⟩ : Shape).size a)
    (r : Fin n) (d : Fin e) :
    ((Rect.unit (s := (⟨4, ![1, 8, n, e]⟩ : Shape)) ![0, h.val, 0, 0] ![1, 1, n, e] inb).toLoadRect.idx (ix4 0 0 r d) : (⟨4, ![1, 8, n, e]⟩ : Shape).Idx)
      = ix4 0 h r d := by
  funext a; apply Fin.ext
  match a with
  | ⟨0, _⟩ => rfl
  | ⟨1, _⟩ => show h.val + 1 * 0 = h.val; omega
  | ⟨2, _⟩ => show 0 + 1 * r.val = r.val; omega
  | ⟨3, _⟩ => show 0 + 1 * d.val = d.val; omega

section Loads

variable (t : Pt) (h : Fin 8)

theorem lq_apply (r : Fin 512) (d : Fin 64) : lq (ms0_0 0 t) (iblk 0 m ρ c 0 t) h (ix4 0 0 r d) = argQ m c (bI t) h (gI t r) d := by
  have hi := idx_q t
  have e0 : ((cfgA 0).win 0).index t (0 : Fin 4) = t.val / 72 := congrFun hi 0
  have e1 : ((cfgA 0).win 0).index t (1 : Fin 4) = 0 := congrFun hi 1
  have e2 : ((cfgA 0).win 0).index t (2 : Fin 4) = qI t := congrFun hi 2
  have e3 : ((cfgA 0).win 0).index t (3 : Fin 4) = 0 := congrFun hi 3
  have he : ((((cfgA 0).win 0).blk t).view.emb (ix4 0 h r d : S1x8x512x64.Idx) : S2x8x8192x64.Idx) = ix4 (bI t) h (gI t r) d := by
    funext a; apply Fin.ext
    match a with
    | ⟨0, _⟩ => show ((cfgA 0).win 0).index t (0 : Fin 4) * 1 + 1 * 0 = t.val / 72; omega
    | ⟨1, _⟩ => show ((cfgA 0).win 0).index t (1 : Fin 4) * 8 + 1 * h.val = h.val; omega
    | ⟨2, _⟩ => show ((cfgA 0).win 0).index t (2 : Fin 4) * 512 + 1 * r.val = 512 * qI t + r.val; omega
    | ⟨3, _⟩ => show ((cfgA 0).win 0).index t (3 : Fin 4) * 64 + 1 * d.val = d.val; omega
  exact (congrFun (View.readAt_rep (ms0_0 0 t).view (rowO h).toLoadRect (iblk 0 m ρ c 0 t)) (ix4 0 0 r d)).trans
    ((congrArg (iblk 0 m ρ c 0 t : Vec Ideal S1x8x512x64 .bf16) (row_idx h _ r d)).trans
      (congrArg (m ((c.tc : Thread nD τ).loc main_arg2) : Vec Ideal S2x8x8192x64 .bf16) he))

theorem lk_apply (x : Fin 1024) (d : Fin 64) : lk (ms0_1 0 t) (iblk 0 m ρ c 1 t) h (ix4 0 0 x d) = argK m c (bI t) h (blk (kI t) (kI_lt t) x) d := by
  have hi := idx_k t
  have e0 : ((cfgA 0).win 1).index t (0 : Fin 4) = t.val / 72 := congrFun hi 0
  have e1 : ((cfgA 0).win 1).index t (1 : Fin 4) = 0 := congrFun hi 1
  have e2 : ((cfgA 0).win 1).index t (2 : Fin 4) = kI t := congrFun hi 2
  have e3 : ((cfgA 0).win 1).index t (3 : Fin 4) = 0 := congrFun hi 3
  have he : ((((cfgA 0).win 1).blk t).view.emb (ix4 0 h x d : S1x8x1024x64.Idx) : S2x8x8192x64.Idx) = ix4 (bI t) h (blk (kI t) (kI_lt t) x) d := by
    funext a; apply Fin.ext
    match a with
    | ⟨0, _⟩ => show ((cfgA 0).win 1).index t (0 : Fin 4) * 1 + 1 * 0 = t.val / 72; omega
    | ⟨1, _⟩ => show ((cfgA 0).win 1).index t (1 : Fin 4) * 8 + 1 * h.val = h.val; omega
    | ⟨2, _⟩ => show ((cfgA 0).win 1).index t (2 : Fin 4) * 1024 + 1 * x.val = 1024 * kI t + x.val; omega
    | ⟨3, _⟩ => show ((cfgA 0).win 1).index t (3 : Fin 4) * 64 + 1 * d.val = d.val; omega
  exact (congrFun (View.readAt_rep (ms0_1 0 t).view (rowK h).toLoadRect (iblk 0 m ρ c 1 t)) (ix4 0 0 x d)).trans
    ((congrArg (iblk 0 m ρ c 1 t : Vec Ideal S1x8x1024x64 .bf16) (row_idx h _ x d)).trans
      (congrArg (m ((c.tc : Thread nD τ).loc main_arg3) : Vec Ideal S2x8x8192x64 .bf16) he))

theorem lv_apply (x : Fin 1024) (d : Fin 64) : lv (ms0_2 0 t) (iblk 0 m ρ c 2 t) h (ix4 0 0 x d) = argV m c (bI t) h (blk (kI t) (kI_lt t) x) d := by
  have hi := idx_v t
  have e0 : ((cfgA 0).win 2).index t (0 : Fin 4) = t.val / 72 := congrFun hi 0
  have e1 : ((cfgA 0).win 2).index t (1 : Fin 4) = 0 := congrFun hi 1
  have e2 : ((cfgA 0).win 2).index t (2 : Fin 4) = kI t := congrFun hi 2
  have e3 : ((cfgA 0).win 2).index t (3 : Fin 4) = 0 := congrFun hi 3
  have he : ((((cfgA 0).win 2).blk t).view.emb (ix4 0 h x d : S1x8x1024x64.Idx) : S2x8x8192x64.Idx) = ix4 (bI t) h (blk (kI t) (kI_lt t) x) d := by
    funext a; apply Fin.ext
    match a with
    | ⟨0, _⟩ => show ((cfgA 0).win 2).index t (0 : Fin 4) * 1 + 1 * 0 = t.val / 72; omega
    | ⟨1, _⟩ => show ((cfgA 0).win 2).index t (1 : Fin 4) * 8 + 1 * h.val = h.val; omega
    | ⟨2, _⟩ => show ((cfgA 0).win 2).index t (2 : Fin 4) * 1024 + 1 * x.val = 1024 * kI t + x.val; omega
    | ⟨3, _⟩ => show ((cfgA 0).win 2).index t (3 : Fin 4) * 64 + 1 * d.val = d.val; omega
  exact (congrFun (View.readAt_rep (ms0_2 0 t).view (rowK h).toLoadRect (iblk 0 m ρ c 2 t)) (ix4 0 0 x d)).trans
    ((congrArg (iblk 0 m ρ c 2 t : Vec Ideal S1x8x1024x64 .bf16) (row_idx h _ x d)).trans
      (congrArg (m ((c.tc : Thread nD τ).loc main_arg4) : Vec Ideal S2x8x8192x64 .bf16) he))

theorem lcq_apply (r : Fin 512) : lcq (ms0_3 0 t) (iblk 0 m ρ c 3 t) h (ix4 0 0 r 0) = argCq m c (bI t) h (gI t r) := by
  have hi := idx_cq t
  have e0 : ((cfgA 0).win 3).index t (0 : Fin 4) = t.val / 72 := congrFun hi 0
  have e1 : ((cfgA 0).win 3).index t (1 : Fin 4) = 0 := congrFun hi 1
  have e2 : ((cfgA 0).win 3).index t (2 : Fin 4) = qI t := congrFun hi 2
  have e3 : ((cfgA 0).win 3).index t (3 : Fin 4) = 0 := congrFun hi 3
  have he : ((((cfgA 0).win 3).blk t).view.emb (ix4 0 h r (0 : Fin 1) : S1x8x512x1.Idx) : S2x8x8192x1.Idx) = ix4 (bI t) h (gI t r) 0 := by
    funext a; apply Fin.ext
    match a with
    | ⟨0, _⟩ => show ((cfgA 0).win 3).index t (0 : Fin 4) * 1 + 1 * 0 = t.val / 72; omega
    | ⟨1, _⟩ => show ((cfgA 0).win 3).index t (1 : Fin 4) * 8 + 1 * h.val = h.val; omega
    | ⟨2, _⟩ => show ((cfgA 0).win 3).index t (2 : Fin 4) * 512 + 1 * r.val = 512 * qI t + r.val; omega
    | ⟨3, _⟩ => show ((cfgA 0).win 3).index t (3 : Fin 4) * 1 + 1 * 0 = 0; omega
  exact (congrFun (View.readAt_rep (ms0_3 0 t).view (rowCq h).toLoadRect (iblk 0 m ρ c 3 t)) (ix4 0 0 r 0)).trans
    ((congrArg (iblk 0 m ρ c 3 t : Vec Ideal S1x8x512x1 .f32) (row_idx h _ r (0 : Fin 1))).trans
      (congrArg (m ((c.tc : Thread nD τ).loc main_arg5) : Vec Ideal S2x8x8192x1 .f32) he))

theorem lck_apply (x : Fin 1024) : lck (ms0_4 0 t) (iblk 0 m ρ c 4 t) h (ix4 0 0 0 x) = argCk m c (bI t) h (blk (kI t) (kI_lt t) x) := by
  have hi := idx_ck t
  have e0 : ((cfgA 0).win 4).index t (0 : Fin 4) = t.val / 72 := congrFun hi 0
  have e1 : ((cfgA 0).win 4).index t (1 : Fin 4) = 0 := congrFun hi 1
  have e2 : ((cfgA 0).win 4).index t (2 : Fin 4) = 0 := congrFun hi 2
  have e3 : ((cfgA 0).win 4).index t (3 : Fin 4) = kI t := congrFun hi 3
  have he : ((((cfgA 0).win 4).blk t).view.emb (ix4 0 h (0 : Fin 1) x : S1x8x1x1024.Idx) : S2x8x1x8192.Idx) = ix4 (bI t) h 0 (blk (kI t) (kI_lt t) x) := by
    funext a; apply Fin.ext
    match a with
    | ⟨0, _⟩ => show ((cfgA 0).win 4).index t (0 : Fin 4) * 1 + 1 * 0 = t.val / 72; omega
    | ⟨1, _⟩ => show ((cfgA 0).win 4).index t (1 : Fin 4) * 8 + 1 * h.val = h.val; omega
    | ⟨2, _⟩ => show ((cfgA 0).win 4).index t (2 : Fin 4) * 1 + 1 * 0 = 0; omega
    | ⟨3, _⟩ => show ((cfgA 0).win 4).index t (3 : Fin 4) * 1024 + 1 * x.val = 1024 * kI t + x.val; omega
  exact (congrFun (View.readAt_rep (ms0_4 0 t).view (rowCk h).toLoadRect (iblk 0 m ρ c 4 t)) (ix4 0 0 0 x)).trans
    ((congrArg (iblk 0 m ρ c 4 t : Vec Ideal S1x8x1x1024 .f32) (row_idx h _ (0 : Fin 1) x)).trans
      (congrArg (m ((c.tc : Thread nD τ).loc main_arg6) : Vec Ideal S2x8x1x8192 .f32) he))

theorem word_eq (w : BitVec 32) : w = BitVec.ofNat 32 w.toNat := by simp

/-- A block's scores are the query's scores at the block's columns. -/
theorem blk_score (r : Fin 512) (x : Fin 1024) :
    k0_pay17 (F := Ideal) (causal (crd 0 t) (pinT_0 0) (pinT_1 0)) (k0_pay16 (lq (ms0_0 0 t) (iblk 0 m ρ c 0 t) h))
        (lk (ms0_1 0 t) (iblk 0 m ρ c 1 t) h) (lcq (ms0_3 0 t) (iblk 0 m ρ c 3 t) h) (lck (ms0_4 0 t) (iblk 0 m ρ c 4 t) h) (ix2 r x)
      = sc m c (bI t) h (gI t r) (blk (kI t) (kI_lt t) x) := by
  have hw0 : (word (crd 0 t) tbM0_0 (pinT_0 0) : BitVec 32) = BitVec.ofNat 32 (qI t) := word_eq _
  have hw1 : (word (crd 0 t) tbM0_1 (pinT_1 0) : BitVec 32) = BitVec.ofNat 32 (kI t) := word_eq _
  have hmask : (causal (crd 0 t) (pinT_0 0) (pinT_1 0)) (ix2 r x) = 1#1 ↔ 1024 * kI t + x.val ≤ 512 * qI t + r.val := by
    rw [← mask_apply r x (qI t) (kI t) (qI_lt t) (kI_lt t), ← hw0, ← hw1]
  rw [score_apply, lcq_apply, lck_apply]
  exact if_congr hmask (congrArg (fun z => z + argCq m c (bI t) h (gI t r) - argCk m c (bI t) h (blk (kI t) (kI_lt t) x))
    (Finset.sum_congr rfl fun d _ => congrArg₂ (· * ·) (lq_apply m ρ c t h r d) (lk_apply m ρ c t h x d))) rfl

end Loads

/-! ## The carried rows -/

/-- After the blocks of keys up to the `n`-th, the rows of a block of queries hold the running maximum, sum and weighted sum. -/
def Holds (b : Fin 2) (g : Fin 512 → Fin 8192) (n : ℕ) (M L : (h : Fin 8) → Vec Ideal S1x512x1 .f32)
    (A : (h : Fin 8) → Vec Ideal S1x512x64 .f32) : Prop :=
  ∀ h r, M h (ix3 0 r 0) = preM (sc m c b h (g r)) n ∧ L h (ix3 0 r 0) = preL (sc m c b h (g r)) n
    ∧ ∀ d, A h (ix3 0 r d) = preA (sc m c b h (g r)) (fun j => argV m c b h j d) n

variable (t : Pt)

/-- A score is never `⊤`. -/
theorem Good.ne_top {m} {c} (hg : Good m c) (b h g j) : sc m c b h g j ≠ ⊤ := by
  by_cases hj : j.val ≤ g.val
  · obtain ⟨r, hr⟩ := hg b h g j hj
    rw [hr]
    exact EReal.coe_ne_top r
  · rw [sc, score, if_neg hj]
    exact bot_ne_top

/-- A point takes the rows one block of keys further. -/
theorem holds_step (hg : Good m c) (M L A) (H : Holds m c (bI t) (gI t) (kI t) M L A) :
    Holds m c (bI t) (gI t) (kI t + 1) (ptM m ρ c t M) (ptL m ρ c t M L) (ptA m ρ c t M A) := by
  intro h r
  obtain ⟨h1, h2, h3⟩ := H h r
  have hsc := blk_score m ρ c t h r
  have hs := hg.ne_top (bI t) h (gI t r)
  exact ⟨newM_eq _ _ _ _ _ _ _ (kI t) (kI_lt t) r hsc h1, newL_eq _ _ _ _ _ _ _ _ hs (kI t) (kI_lt t) r hsc h1 h2,
    fun d => newA_eq _ _ _ _ _ _ _ _ _ _ hs (kI t) (kI_lt t) r hsc h1 d (fun x => lv_apply m ρ c t h x d) (h3 d)⟩

/-- The cleared rows are those of no columns. -/
theorem holds_clear (b g) : Holds m c b g 0 clearM clearL clearA := fun h r =>
  ⟨(fillM_apply _).trans (preM_zero _).symm, (fillL_apply _).trans (preL_zero _).symm, fun d => (fillA_apply _).trans (preA_zero _ _).symm⟩

/-- The carried buffers' rows in a state. -/
abbrev HoldsSt (b : Fin 2) (g : Fin 512 → Fin 8192) (n : ℕ) (p : St c) : Prop :=
  Holds m c b g n (ld1 (b := scM0_0) p.2.1) (ld1 (b := scM0_1) p.2.2.1) (ld64 (b := scM0_2) p.2.2.2)

/-- What a point starts from. -/
theorem holds_old (p : St c) (hp : ¬ P0_0 0 t → HoldsSt m c (bI t) (gI t) (kI t) p) :
    Holds m c (bI t) (gI t) (kI t) (oldM c t p) (oldL c t p) (oldA c t p) := by
  by_cases q0 : P0_0 0 t
  · have h := holds_clear m c (bI t) (gI t)
    rw [← (clear_iff t).mp q0] at h
    simpa only [oldM, oldL, oldA, if_pos q0] using h
  · simpa only [oldM, oldL, oldA, if_neg q0] using hp q0

/-- The state after a point, whatever the number of points. -/
theorem holds_next (hg : Good m c) (p : St c) (hp : ¬ P0_0 0 t → HoldsSt m c (bI t) (gI t) (kI t) p) :
    HoldsSt m c (bI t) (gI t) (kI t + 1) (step0 0 m ρ c t p) := by
  have h := holds_step m ρ c t hg _ _ _ (holds_old m c t p hp)
  intro i r
  rw [step_M, step_L, step_A]
  exact h i r

/-- The point before. -/
theorem holds_prev (ih : ∀ s : Pt, s.val + 1 = t.val → HoldsSt m c (bI s) (gI s) (kI s + 1) (traj0 0 m ρ c s.val s.isLt)) :
    ¬ P0_0 0 t → HoldsSt m c (bI t) (gI t) (kI t) (prev0 0 m ρ c t) := by
  intro q0
  obtain ⟨s, h1, h2, h3, h4⟩ := before t q0
  have h := ih s h1
  have hb : bI s = bI t := Fin.ext h4
  have hgI : gI s = gI t := funext fun r => Fin.ext (by show 512 * qI s + r.val = 512 * qI t + r.val; rw [h3])
  rw [hb, hgI, h2] at h
  have ht : s.val = t.val - 1 := by omega
  have h0 : t.val ≠ 0 := by omega
  unfold prev0
  rw [dif_neg h0]
  simp only [← ht]
  exact h

/-- The carried rows after every point. -/
theorem holds_traj (hg : Good m c) : ∀ (n : ℕ) (hn : n < (cfgA 0).N),
    HoldsSt m c (bI ⟨n, hn⟩) (gI ⟨n, hn⟩) (kI ⟨n, hn⟩ + 1) (traj0 0 m ρ c n hn) := by
  intro n
  induction n with
  | zero =>
      intro hn
      have e := traj0_eq 0 m ρ c ⟨0, hn⟩
      rw [show traj0 0 m ρ c 0 hn = _ from e]
      exact holds_next m ρ c ⟨0, hn⟩ hg _ (holds_prev m ρ c ⟨0, hn⟩ (fun s hs => absurd hs (Nat.succ_ne_zero _)))
  | succ n ih =>
      intro hn
      have e := traj0_eq 0 m ρ c ⟨n + 1, hn⟩
      rw [show traj0 0 m ρ c (n + 1) hn = _ from e]
      refine holds_next m ρ c ⟨n + 1, hn⟩ hg _ (holds_prev m ρ c ⟨n + 1, hn⟩ fun s hs => ?_)
      have hs' : s = ⟨n, Nat.lt_of_succ_lt hn⟩ := Fin.ext (Nat.succ.inj hs)
      subst hs'
      exact ih _

/-- At the last block of keys the result's rows are the attention. -/
theorem out_row (hg : Good m c) (q1 : P0_1 0 t) (h : Fin 8) (r : Fin 512) (d : Fin 64) :
    View.ld (traj0 0 m ρ c t.val t.isLt).1 (rowO h) (ix4 0 0 r d)
      = att (argQ m c) (argK m c) (argV m c) (argCq m c) (argCk m c) (bI t) h (gI t r) d := by
  have hprev := holds_prev m ρ c t (fun s hs => holds_traj m ρ c hg s.val s.isLt)
  have H := holds_step m ρ c t hg _ _ _ (holds_old m c t _ hprev) h r
  obtain ⟨-, h2, h3⟩ := H
  rw [traj0_eq, step_O m ρ c t _ h q1, outRow_apply, h2, h3 d]
  have hk := (last_iff t).mp q1
  obtain ⟨x, hx⟩ := hg (bI t) h (gI t r) (gI t r) le_rfl
  have hr := r.isLt
  refine pre_soft _ _ (hg.ne_top _ _ _) (kI t + 1) (fun j hj => ?_) (gI t r) ?_ (by rw [hx]; exact EReal.coe_ne_bot x)
  · exact if_neg (by show ¬ j.val ≤ 512 * qI t + r.val; omega)
  · exact Finset.mem_filter.mpr ⟨Finset.mem_univ _, by show 512 * qI t + r.val < 1024 * (kI t + 1); omega⟩

end Cert.Fox

end
-- ==== Proof.FoxValue.lean ====
/-
  The array of results that the attention's kernel leaves: every query's attention.
-/
module

public import proofs.«01_k».proof.Proof.FoxTraj

@[expose] public section

set_option maxRecDepth 65536

noncomputable section

namespace Cert.Fox

open Cert.Kernel5Ideal Cert.Kernel5Ideal.Gen
open Idealize.ShloMosaic Idealize.ShloMosaic.TcCoe Idealize.ShloMosaic.Tactic

variable (m : (ℓ : Loc nD τ sig) → Buf (Elt Ideal) ℓ) (ρ : Dev nD → PrngReg) (c : Dev nD)

/-- The attention as an array. -/
def attArr : S2x8x8192x64.Idx → EReal := fun i =>
  att (argQ m c) (argK m c) (argV m c) (argCq m c) (argCk m c) (i 0) (i 1) (i 2) (i 3)

/-- What a point that writes a block back writes is its block of the attention. -/
theorem flushed_eq (hg : Good m c) (t : Pt) (q1 : P0_1 0 t) :
    (dats 0 m ρ 0 c).flushed 5 t = (((cfgA 0).win 5).blk t).view.read (Elt Ideal) (attArr m c) := by
  show ((cfgA 0).win 5).cut (grid0.coords t) ((dats 0 m ρ 0 c).after 5 t) = _
  rw [after0_5]
  have hi := idx_out t
  have e0 : ((cfgA 0).win 5).index t (0 : Fin 4) = t.val / 72 := congrFun hi 0
  have e1 : ((cfgA 0).win 5).index t (1 : Fin 4) = 0 := congrFun hi 1
  have e2 : ((cfgA 0).win 5).index t (2 : Fin 4) = qI t := congrFun hi 2
  have e3 : ((cfgA 0).win 5).index t (3 : Fin 4) = 0 := congrFun hi 3
  funext y
  obtain ⟨z, h, r, d, rfl⟩ : ∃ (z : Fin 1) (h : Fin 8) (r : Fin 512) (d : Fin 64), y = (ix4 z h r d : S1x8x512x64.Idx) :=
    ⟨y 0, y 1, y 2, y 3, eq_ix4 (y : S1x8x512x64.Idx)⟩
  obtain rfl : z = 0 := Subsingleton.elim z 0
  have he : ((((cfgA 0).win 5).blk t).view.emb (ix4 0 h r d : S1x8x512x64.Idx) : S2x8x8192x64.Idx) = ix4 (bI t) h (gI t r) d := by
    funext a; apply Fin.ext
    match a with
    | ⟨0, _⟩ => show ((cfgA 0).win 5).index t (0 : Fin 4) * 1 + 1 * 0 = t.val / 72; omega
    | ⟨1, _⟩ => show ((cfgA 0).win 5).index t (1 : Fin 4) * 8 + 1 * h.val = h.val; omega
    | ⟨2, _⟩ => show ((cfgA 0).win 5).index t (2 : Fin 4) * 512 + 1 * r.val = 512 * qI t + r.val; omega
    | ⟨3, _⟩ => show ((cfgA 0).win 5).index t (3 : Fin 4) * 64 + 1 * d.val = d.val; omega
  refine Eq.trans ?_ (congrArg (attArr m c) he).symm
  refine Eq.trans ?_ (out_row m ρ c t hg q1 h r d)
  exact (congrArg (traj0 0 m ρ c t.val t.isLt).1 (row_idx h _ r d)).symm

/-- The array of results is the attention. -/
theorem final_eq (hg : Good m c) : (dats 0 m ρ 0 c).arrAt 5 (cfgA 0).N = attArr m c :=
  (dats 0 m ρ 0 c).arrAt_eq_of_cover 5 _ (fun t ht => flushed_eq m ρ c hg t ((flush_iff t).mp ht)) (fun i => by
    have h0 : (i 0).val < 2 := (i 0).isLt
    have h1 : (i 1).val < 8 := (i 1).isLt
    have h2 : (i 2).val < 8192 := (i 2).isLt
    have h3 : (i 3).val < 64 := (i 3).isLt
    obtain ⟨t, hb, hq, q1⟩ := writer ⟨(i 0).val, h0⟩ ⟨(i 2).val / 512, by omega⟩
    have hb : t.val / 72 = (i 0).val := hb
    have hq : qI t = (i 2).val / 512 := hq
    refine ⟨t, (flush_iff t).mpr q1, ?_⟩
    show i ∈ ((View.whole main_v0).slice (((cfgA 0).win 5).rect t)).set
    rw [View.set_slice_whole, Rect.mem_set_unit]
    show ∀ a : Fin 4, ((cfgA 0).win 5).index t a * S1x8x512x64.size a ≤ (i a).val
      ∧ (i a).val < ((cfgA 0).win 5).index t a * S1x8x512x64.size a + S1x8x512x64.size a
    rw [idx_out]
    intro a
    match a with
    | ⟨0, _⟩ => show t.val / 72 * 1 ≤ (i 0).val ∧ (i 0).val < t.val / 72 * 1 + 1; omega
    | ⟨1, _⟩ => show 0 * 8 ≤ (i 1).val ∧ (i 1).val < 0 * 8 + 8; omega
    | ⟨2, _⟩ => show qI t * 512 ≤ (i 2).val ∧ (i 2).val < qI t * 512 + 512; omega
    | ⟨3, _⟩ => show 0 * 64 ≤ (i 3).val ∧ (i 3).val < 0 * 64 + 64; omega)

end Cert.Fox

end
-- ==== Proof.FoxRef.lean ====
/-
  The attention's reference: its result, entry by entry, is the softmax's weighted sum of the values.
-/
module

public import proofs.«01_k».proof.Proof.FoxMath
public import proofs.«01_k».proof.Proof.Gen.Reference5Ideal.Run
public import Idealize.ShloMosaic.Lib.Pointwise

@[expose] public section

set_option maxRecDepth 65536

noncomputable section

namespace Cert.Fox.Reference

open Cert.Reference5Ideal Cert.Reference5Ideal.Gen Cert.Reference5Ideal.Value
open Idealize.ShloMosaic Idealize.ShloMosaic.TcCoe

variable (m : (ℓ : Loc nD τ sig) → Buf (Elt Ideal) ℓ) (c : Dev nD)

/-- The queries, the keys, the values and the two logits at the launch. -/
def argQ (b : Fin 2) (h : Fin 8) (g : Fin 8192) (d : Fin 64) : EReal :=
  (m ((c.tc : Thread nD τ).loc main_arg2) : Vec Ideal S2x8x8192x64 .bf16) (ix4 b h g d)
@[inherit_doc argQ] def argK (b : Fin 2) (h : Fin 8) (j : Fin 8192) (d : Fin 64) : EReal :=
  (m ((c.tc : Thread nD τ).loc main_arg3) : Vec Ideal S2x8x8192x64 .bf16) (ix4 b h j d)
@[inherit_doc argQ] def argV (b : Fin 2) (h : Fin 8) (j : Fin 8192) (d : Fin 64) : EReal :=
  (m ((c.tc : Thread nD τ).loc main_arg4) : Vec Ideal S2x8x8192x64 .bf16) (ix4 b h j d)
@[inherit_doc argQ] def argCq (b : Fin 2) (h : Fin 8) (g : Fin 8192) : EReal :=
  (m ((c.tc : Thread nD τ).loc main_arg5) : Vec Ideal S2x8x8192x1 .f32) (ix4 b h g 0)
@[inherit_doc argQ] def argCk (b : Fin 2) (h : Fin 8) (j : Fin 8192) : EReal :=
  (m ((c.tc : Thread nD τ).loc main_arg6) : Vec Ideal S2x8x1x8192 .f32) (ix4 b h 0 j)

/-- The reference's array of scores. -/
def scores : FVec Ideal S2x8x8192x8192 .f32 :=
  select (broadcastInDim S2x8x8192x8192 ![2, 3] bcast_S8192x8192_S2x8x8192x8192_2_3
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
    (subf (addf (Host.dotGeneral dot_S2x8x8192x64_S2x8x8192x64_S2x8x8192x8192_3_3_2_2_01_01 none
          (extf .f32 (m ((c.tc : Thread nD τ).loc main_arg2) : FVec Ideal S2x8x8192x64 .bf16) bitsLt_bf16_f32)
          (extf .f32 (m ((c.tc : Thread nD τ).loc main_arg3) : FVec Ideal S2x8x8192x64 .bf16) bitsLt_bf16_f32))
        (broadcastInDim S2x8x8192x8192 ![0, 1, 2, 3] bcast_S2x8x8192x1_S2x8x8192x8192_0_1_2_3 (m ((c.tc : Thread nD τ).loc main_arg5) : FVec Ideal S2x8x8192x1 .f32)))
      (broadcastInDim S2x8x8192x8192 ![0, 1, 2, 3] bcast_S2x8x1x8192_S2x8x8192x8192_0_1_2_3 (m ((c.tc : Thread nD τ).loc main_arg6) : FVec Ideal S2x8x1x8192 .f32)))
    (broadcastInDim S2x8x8192x8192 ![] bcast_S_S2x8x8192x8192 (id (constant S_ .f32 0xFF800000#32)))

variable (s : FVec Ideal S2x8x8192x8192 .f32)

/-- Its rows' maxima. -/
def tops : FVec Ideal S2x8x8192 .f32 :=
  maximumf (broadcastInDim S2x8x8192 ![] bcast_S_S2x8x8192 (constant S_ .f32 0xFF800000#32))
    (Host.reduce FloatOps.maximumf s (constant S_ .f32 0xFF800000#32) reducesTo_S2x8x8192x8192_S2x8x8192_d3 h_S_)

/-- The exponentials. -/
def exps (t : FVec Ideal S2x8x8192 .f32) : FVec Ideal S2x8x8192x8192 .f32 :=
  Host.exp (subf s (broadcastInDim S2x8x8192x8192 ![0, 1, 2, 3] bcast_S2x8x8192x1_S2x8x8192x8192_0_1_2_3
    (broadcastInDim S2x8x8192x1 ![0, 1, 2] bcast_S2x8x8192_S2x8x8192x1_0_1_2 t)))

/-- Their rows' sums. -/
def sums : FVec Ideal S2x8x8192 .f32 :=
  Host.reduceAdd s (constant S_ .f32 0x00000000#32) reducesTo_S2x8x8192x8192_S2x8x8192_d3 h_S_

/-- The weighted sums of the values. -/
def weighted (t : FVec Ideal S2x8x8192 .f32) (v : FVec Ideal S2x8x8192x64 .bf16) : FVec Ideal S2x8x8192x64 .f32 :=
  Host.dotGeneral dot_S2x8x8192x8192_S2x8x8192x64_S2x8x8192x64_3_2_2_3_01_01 none
    (Host.divf s (broadcastInDim S2x8x8192x8192 ![0, 1, 2, 3] bcast_S2x8x8192x1_S2x8x8192x8192_0_1_2_3
      (broadcastInDim S2x8x8192x1 ![0, 1, 2] bcast_S2x8x8192_S2x8x8192x1_0_1_2 t)))
    (extf .f32 v bitsLt_bf16_f32)

theorem res_eq : res_main_v26 m c = weighted (exps (scores m c) (tops (scores m c))) (sums (exps (scores m c) (tops (scores m c))))
    (m ((c.tc : Thread nD τ).loc main_arg4) : FVec Ideal S2x8x8192x64 .bf16) := rfl

variable (b : Fin 2) (h : Fin 8) (g j : Fin 8192) (d : Fin 64) (t : FVec Ideal S2x8x8192 .f32) (v : FVec Ideal S2x8x8192x64 .bf16)

theorem neg_inf : Ideal.ofBits .f32 4286578688#32 = ⊥ := by simp [Ideal.ofBits, Ideal.ieee]

theorem fold_sup {n : ℕ} (f : Fin n → EReal) : Finset.univ.fold max ⊥ f = Finset.univ.sup f := rfl

theorem reduce_apply {n : ℕ} (x : (⟨4, ![2, 8, n, n]⟩ : Shape).Idx → EReal) (init : S_.Idx → EReal)
    (h' : (⟨4, ![2, 8, n, n]⟩ : Shape).ReducesTo [3] ⟨3, ![2, 8, n]⟩) (hr : (⟨4, ![2, 8, n, n]⟩ : Shape).Reduces [3] ⟨3, ![2, 8, n]⟩)
    (hu : 0 < S_.numel) (b : Fin 2) (h : Fin 8) (g : Fin n) (hi : init (Shape.Idx.first hu) = ⊥) :
    Host.reduce (FloatOps.maximumf (F := Ideal) (φ := .f32)) x init h' hu (ix3 b h g) = Finset.univ.sup fun j => x (ix4 b h g j) := by
  refine (Host.reduce_eq_fold_single _ x init h' hr hu _).trans ?_
  rw [hi]
  refine Eq.trans ?_ (fold_sup fun j => x (ix4 b h g j))
  refine congrArg (fun f : Fin n → EReal => Finset.univ.fold max ⊥ f) (funext fun j => congrArg x ?_)
  funext a
  match a with
  | ⟨0, _⟩ => rfl
  | ⟨1, _⟩ => rfl
  | ⟨2, _⟩ => rfl
  | ⟨3, _⟩ => rfl

theorem reduces : S2x8x8192x8192.Reduces [3] S2x8x8192 := by decide

theorem max_apply {t : Shape} (x y : FVec Ideal t .f32) (i : t.Idx) (hx : x i = ⊥) : maximumf x y i = y i := by
  show max (x i) (y i) = y i
  rw [hx, max_eq_right bot_le]

theorem tops_apply : tops s (ix3 b h g) = Finset.univ.sup fun j => s (ix4 b h g j) := by
  rw [tops, max_apply _ _ _ neg_inf]
  exact reduce_apply s (constant (F := Ideal) S_ .f32 0xFF800000#32) reducesTo_S2x8x8192x8192_S2x8x8192_d3 reduces h_S_ b h g neg_inf

theorem exps_apply : exps s t (ix4 b h g j) = ex (s (ix4 b h g j)) (t (ix3 b h g)) := by
  pointwise [exps]
  rfl

theorem sums_apply : sums s (ix3 b h g) = ∑ j, s (ix4 b h g j) := by
  pointwise [sums]

theorem weighted_apply : weighted s t v (ix4 b h g d) = ∑ j, Ideal.div (s (ix4 b h g j)) (t (ix3 b h g)) * v (ix4 b h j d) := by
  pointwise [weighted]

theorem le_iff : IntOp.cmpi CmpIPredicate.sle (BitVec.ofNat 32 j.val) (BitVec.ofNat 32 g.val) = 1#1 ↔ j.val ≤ g.val := by
  have key : ∀ b : Bool, BitVec.ofBool b = 1#1 ↔ b = true := by decide
  have e1 : (BitVec.ofNat 32 j.val).toNat = j.val := by rw [BitVec.toNat_ofNat]; omega
  have e2 : (BitVec.ofNat 32 g.val).toNat = g.val := by rw [BitVec.toNat_ofNat]; omega
  show BitVec.ofBool ((BitVec.ofNat 32 j.val).sle (BitVec.ofNat 32 g.val)) = 1#1 ↔ _
  rw [BitVec.sle_eq_decide, BitVec.toInt_eq_toNat_of_lt (by omega), BitVec.toInt_eq_toNat_of_lt (by omega), e1, e2, key, decide_eq_true_iff]
  omega

theorem scores_apply : scores m c (ix4 b h g j) = score (argQ m c b h g) (argK m c b h) (argCq m c b h g) (argCk m c b h) g j := by
  pointwise [scores]
  rw [score]
  show (if IntOp.cmpi CmpIPredicate.sle (BitVec.ofNat 32 j.val) (BitVec.ofNat 32 g.val) = 1#1 then _ else Ideal.ofBits .f32 4286578688#32) = _
  rw [neg_inf]
  exact if_congr (le_iff g j) rfl rfl

/-- The reference's result. -/
theorem res_apply : (res_main_v26 m c : FVec Ideal S2x8x8192x64 .f32) (ix4 b h g d)
    = att (argQ m c) (argK m c) (argV m c) (argCq m c) (argCk m c) b h g d := by
  rw [res_eq, weighted_apply, sums_apply]
  simp only [exps_apply, tops_apply, scores_apply]
  rfl

end Cert.Fox.Reference

end
-- ==== Proof.FoxClaims.lean ====
/-
  The claims about the attention: the kernel's frame as printed and idealized, the reference's frame, the named constant, and
  that the two idealized programs return the same array.
-/
module

public import proofs.«01_k».proof.Proof.FoxPre
public import proofs.«01_k».proof.Proof.FoxValue
public import proofs.«01_k».proof.Proof.FoxRef
public import proofs.«01_k».proof.Proof.Gen.Kernel5.Flash
public import Idealize.ShloMosaic.Lib.Quiescent

@[expose] public section

set_option maxRecDepth 16384

noncomputable section

namespace Cert.FoxClaims

open Idealize.ShloMosaic Idealize.ShloMosaic.TcCoe Idealize.SL.Sem Cert.Fox

/-! ## The tables -/

theorem qTable_eq : (fun y => Cert.Kernel5Ideal.Gen.pinT_0 0 y) = qTable := by
  have h : ∀ n : Fin 72, Cert.Kernel5Ideal.Gen.pinT_0 0 (ix1 n) = qTable (ix1 n) := by decide +kernel
  funext y
  rw [eq_ix1 y]
  exact h _

theorem kTable_eq : (fun y => Cert.Kernel5Ideal.Gen.pinT_1 0 y) = kTable := by
  have h : ∀ n : Fin 72, Cert.Kernel5Ideal.Gen.pinT_1 0 (ix1 n) = kTable (ix1 n) := by decide +kernel
  funext y
  rw [eq_ix1 y]
  exact h _

theorem qTable_eq' : (fun y => Cert.Kernel5.Gen.pinT_0 0 y) = qTable := qTable_eq
theorem kTable_eq' : (fun y => Cert.Kernel5.Gen.pinT_1 0 y) = kTable := kTable_eq

/-! ## The frames -/

theorem kernel : Cert.quiescent_Kernel5 (hKernel5 := Cert.Kernel5.Gen.facts) (hPre_causal_tables := tablesFacts) := by
  intro m g h
  haveI := tablesFacts
  exact Cert.Kernel5.Gen.frame 0 m g
    ⟨fun c => (tables_of _ _ _ _ _ _ _ (h c)).1.trans qTable_eq'.symm, fun c => (tables_of _ _ _ _ _ _ _ (h c)).2.trans kTable_eq'.symm⟩

theorem kernelIdeal : Cert.quiescent_Kernel5Ideal (hKernel5Ideal := Cert.Kernel5Ideal.Gen.facts) (hPre_causal_tables := tablesFacts) := by
  intro m g h
  haveI := tablesFacts
  exact Cert.Kernel5Ideal.Gen.frame 0 m g
    ⟨fun c => (tables_of _ _ _ _ _ _ _ (h c)).1.trans qTable_eq.symm, fun c => (tables_of _ _ _ _ _ _ _ (h c)).2.trans kTable_eq.symm⟩

section Finite

variable (m : (ℓ : Loc Cert.Kernel5Ideal.nD Cert.Kernel5Ideal.τ Cert.Kernel5Ideal.sig) → Buf (Elt Ideal) ℓ)
  (h : Cert.Pre_Kernel5Ideal_finite_scores (hPre_finite_scores := finiteFacts) m)

include h in
theorem pinned : Cert.Kernel5Ideal.Gen.Pinned 0 m := by
  haveI := finiteFacts
  exact ⟨fun c => (finite_of _ _ _ _ _ _ _ (h c)).1.1.trans qTable_eq.symm, fun c => (finite_of _ _ _ _ _ _ _ (h c)).1.2.trans kTable_eq.symm⟩

/-- A sum of products of real numbers is a real number. -/
theorem dot_real (x y : Fin 64 → EReal) (hx : ∀ d, ∃ r : ℝ, x d = r) (hy : ∀ d, ∃ r : ℝ, y d = r) : ∃ r : ℝ, ∑ d, x d * y d = r := by
  choose a ha using hx
  choose b hb using hy
  refine ⟨∑ d, a d * b d, ?_⟩
  simp only [ha, hb, ← EReal.coe_mul]
  exact (map_sum (⟨⟨Real.toEReal, EReal.coe_zero⟩, EReal.coe_add⟩ : ℝ →+ EReal) _ _).symm

include h in
theorem good (c : Dev Cert.Kernel5Ideal.nD) : Good m c := by
  haveI := finiteFacts
  obtain ⟨-, hq, hk, hcq, hck⟩ := finite_of _ _ _ _ _ _ _ (h c)
  intro b H g j hj
  obtain ⟨r, hr⟩ := dot_real (argQ m c b H g) (argK m c b H j) (fun d => hq _) (fun d => hk _)
  obtain ⟨r1, h1⟩ : ∃ r : ℝ, argCq m c b H g = r := hcq _
  obtain ⟨r2, h2⟩ : ∃ r : ℝ, argCk m c b H j = r := hck _
  refine ⟨r + r1 - r2, ?_⟩
  rw [sc, score, if_pos hj, hr, h1, h2, EReal.coe_sub, EReal.coe_add]

end Finite

theorem kernelIdealFinite : Cert.quiescent_Kernel5Ideal_pre_finite_scores (hKernel5Ideal := Cert.Kernel5Ideal.Gen.facts)
    (hPre_finite_scores := finiteFacts) :=
  fun m g h => Cert.Kernel5Ideal.Gen.frame 0 m g (pinned m h)

theorem reference : Cert.quiescent_Reference5Ideal (hReference5Ideal := Cert.Reference5Ideal.Gen.facts) :=
  fun m g _ => (θ_run Cert.Reference5Ideal.defs _ _).mono
    (fun r h => ⟨fun c => (h c).2, sem_eq_zero_of_no_sems (by decide) r.2⟩) (Cert.Reference5Ideal.Value.run (F := Ideal) m g)

theorem referenceFinite : Cert.quiescent_Reference5Ideal_pre_finite_scores (hReference5Ideal := Cert.Reference5Ideal.Gen.facts)
    (hPre_finite_scores := finiteFacts) :=
  fun m g _ => (θ_run Cert.Reference5Ideal.defs _ _).mono
    (fun r h => ⟨fun c => (h c).2, sem_eq_zero_of_no_sems (by decide) r.2⟩) (Cert.Reference5Ideal.Value.run (F := Ideal) m g)

/-! ## The values -/

theorem named : Cert.preserves_Kernel5_Kernel5Ideal :=
  IdealRules.named_const.statement Cert.Kernel5Ideal.κ "mask" .f32 0xF149F2CA#32 ⊥ rfl

theorem algebraic : Cert.algebraic_Kernel5Ideal_Reference5Ideal_pre_finite_scores (hKernel5Ideal := Cert.Kernel5Ideal.Gen.facts)
    (hReference5Ideal := Cert.Reference5Ideal.Gen.facts) (hPre_finite_scores := finiteFacts) := by
  intro m g m' g' hpre hargs
  refine ⟨fun c => attArr m c, ?_, ?_⟩
  · exact (θ_run Cert.Kernel5Ideal.defs _ _).mono
      (fun r h c => ⟨((h.1 c).1 (5 : Fin 6)).trans (final_eq m g c (good m hpre c)), h.2.1 c⟩)
      (θ_run_and (Cert.Kernel5Ideal.Gen.run_main 0 m g (pinned m hpre)) (Cert.Kernel5Ideal.Gen.frame 0 m g (pinned m hpre)))
  · refine (θ_run Cert.Reference5Ideal.defs _ _).mono (fun r h c => ⟨(h c).1.trans ?_, (h c).2⟩)
      (Cert.Reference5Ideal.Value.run (F := Ideal) m' g')
    obtain ⟨-, -, e2, e3, e4, e5, e6⟩ := hargs c
    have hq : Fox.Reference.argQ m' c = argQ m c := by
      funext b H i d
      exact congrArg (fun x : Vec Ideal Cert.Kernel5Ideal.S2x8x8192x64 .bf16 => x (ix4 b H i d)) e2
    have hk : Fox.Reference.argK m' c = argK m c := by
      funext b H i d
      exact congrArg (fun x : Vec Ideal Cert.Kernel5Ideal.S2x8x8192x64 .bf16 => x (ix4 b H i d)) e3
    have hv : Fox.Reference.argV m' c = argV m c := by
      funext b H i d
      exact congrArg (fun x : Vec Ideal Cert.Kernel5Ideal.S2x8x8192x64 .bf16 => x (ix4 b H i d)) e4
    have hcq : Fox.Reference.argCq m' c = argCq m c := by
      funext b H i
      exact congrArg (fun x : Vec Ideal Cert.Kernel5Ideal.S2x8x8192x1 .f32 => x (ix4 b H i 0)) e5
    have hck : Fox.Reference.argCk m' c = argCk m c := by
      funext b H i
      exact congrArg (fun x : Vec Ideal Cert.Kernel5Ideal.S2x8x1x8192 .f32 => x (ix4 b H 0 i)) e6
    funext y
    obtain ⟨b, H, i, d, rfl⟩ : ∃ (b : Fin 2) (H : Fin 8) (i : Fin 8192) (d : Fin 64), y = (ix4 b H i d : Cert.Kernel5Ideal.S2x8x8192x64.Idx) :=
      ⟨y 0, y 1, y 2, y 3, eq_ix4 (y : Cert.Kernel5Ideal.S2x8x8192x64.Idx)⟩
    refine (Fox.Reference.res_apply m' c b H i d).trans ?_
    rw [hq, hk, hv, hcq, hck]
    rfl

end Cert.FoxClaims

end
-- ==== Proof.Even6.lean ====
/-
  An even layer of the prompt from its hidden state to the rows that it caches: the call multiplies the normalised hidden state,
  its rows in one column of rows, by the weight widened by columns of zeros; what the operations around the call leave is
  what the reference's leave.
-/
module

public import proofs.«01_k».proof.Defs
public import proofs.«01_k».proof.Proof.Gen.Kernel6Ideal.Frame
public import proofs.«01_k».proof.Proof.Gen.Reference6Ideal.Run
public import proofs.«01_k».proof.Proof.MmSpec
public import Idealize.ShloMosaic.Lib.StableHlo.RunRead
public import Idealize.ShloMosaic.Lib.Quiescent
public import Idealize.ShloMosaic.Lib.KernelVsHost
public import Idealize.ShloMosaic.Lib.Pointwise

@[expose] public section

set_option maxRecDepth 16384

noncomputable section

namespace Cert.Kernel6Ideal.Even

open Cert.Kernel6Ideal Cert.Kernel6Ideal.Gen Cert.Mm Idealize.ShloMosaic Idealize.ShloMosaic.TcCoe Idealize.SL.Sem
open Idealize.ShloMosaic.StableHlo

/-- The normalised hidden state. -/
def normed (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf
    (broadcastInDim S2x8192x1 ![0, 1] bcast_S2x8192_S2x8192x1_0_1 (Host.reduceAdd (mulf x x) (constant S_ .f32 0x00000000#32) reducesTo_S2x8192x1024_S2x8192_d2 h_S_))
    (broadcastInDim S2x8192x1 ![] bcast_S_S2x8192x1 (constant S_ .f32 0x44800000#32)))
    (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- Its product with the weight, as the reference takes it. -/
def projected (x : Vec Ideal S2x8192x1024 .f32) (g : Vec Ideal S1024 .f32) (w : Vec Ideal S1024x4688 .f32) : Vec Ideal S2x8192x4688 .f32 :=
  Host.dotGeneral (F := Ideal) (φ₁ := .f32) (φ₂ := .f32) Cert.Reference6Ideal.dot_S2x8192x1024_S1024x4688_S2x8192x4688_2_0_01_1_n_n none (normed x g) w

variable (m : (ℓ : Loc nD τ sig) → Buf (Elt Ideal) ℓ) (ρ : Dev nD → PrngReg)

def argX (c : Dev nD) : Vec Ideal S2x8192x1024 .f32 := m ((c : Thread nD τ).loc main_arg0)
def argG (c : Dev nD) : Vec Ideal S1024 .f32 := m ((c : Thread nD τ).loc main_arg1)
def argW (c : Dev nD) : Vec Ideal S1024x4688 .f32 := m ((c : Thread nD τ).loc main_arg2)

/-- The normalised hidden state with its rows in one column of rows, as the region finds it. -/
def flat (c : Dev nD) : Vec Ideal S16384x1024 .f32 := V m c main_v14

theorem flat_eq (c : Dev nD) : flat m c = shapeCast S16384x1024 (normed (argX m c) (argG m c)) shapeCasts_S2x8192x1024_S16384x1024 := by
  show StableHlo.after (hostOps0 ++ hostOps0_1) _ _ = _
  simp only [hostOps0, hostOps0_1, List.cons_append, List.nil_append]
  after_results
  rfl

theorem flat_apply (c : Dev nD) (b : Fin 2) (t : Fin 8192) (k : Fin 1024) (R : Fin 16384) (hR : R.val = b.val * 8192 + t.val) :
    flat m c (ix2 R k) = normed (argX m c) (argG m c) (ix3 b t k) := by
  rw [flat_eq]
  refine shapeCast_apply _ _ _ _ ?_
  rw [Shape.rowMajor_val_two, Shape.rowMajor_val_three]
  show (b.val * 8192 + t.val) * 1024 + k.val = R.val * 1024 + k.val
  rw [hR]

/-- What the body computes is the product of the blocks it reads. -/
theorem pay_apply (x : Vec Ideal S512x1024 .f32) (w : Vec Ideal S1024x128 .bf16) (r : Fin 512) (k : Fin 128) :
    k0_pay1 x w (ix2 r k) = entry x w r k := by
  unfold entry
  pointwise [k0_pay1]

/-- The widened weight as the region finds it: rounding changes no real number. -/
def wide (c : Dev nD) : Vec Ideal S1024x4736 .bf16 := V m c main_v16

theorem wide_apply (c : Dev nD) (k : Fin 1024) (j : Fin 4688) (J : Fin 4736) (hJ : J.val = j.val) :
    wide m c (ix2 k J) = argW m c (ix2 k j) := by
  have hj := j.isLt
  have e : wide m c = pad S1024x4736 ![0, 0] ![0, 48] ![0, 0] (argW m c : FVec Ideal S1024x4688 .bf16) (sitofp .bf16 (constantI S_ 32 0#32) : FVec Ideal S_ .bf16)
      pads_S1024x4688_S1024x4736_000_0480 h_S_ := by
    show StableHlo.after (hostOps0 ++ hostOps0_1) _ _ = _
    simp only [hostOps0, hostOps0_1, List.cons_append, List.nil_append]
    after_results
    rfl
  rw [e]
  exact pad_apply_of_inside _ _ _ _ _ _ _ _ (ix2 k j : S1024x4688.Idx) (by
    intro a
    match a with
    | ⟨0, _⟩ => show k.val = 0 + k.val * (0 + 1); omega
    | ⟨1, _⟩ => show J.val = 0 + j.val * (0 + 1); omega)

/-- The windows' block numbers at a point. -/
theorem idx_x : ∀ t : Fin cfg0.N, win0_0.index t = ![t.val / 37, 0] :=
  (by decide +kernel : ∀ t : Fin grid0.N, win0_0.index t = ![t.val / 37, 0])
theorem idx_w : ∀ t : Fin cfg0.N, win0_1.index t = ![0, t.val % 37] :=
  (by decide +kernel : ∀ t : Fin grid0.N, win0_1.index t = ![0, t.val % 37])
theorem idx_out : ∀ t : Fin cfg0.N, win0_2.index t = ![t.val / 37, t.val % 37] :=
  (by decide +kernel : ∀ t : Fin grid0.N, win0_2.index t = ![t.val / 37, t.val % 37])

/-- A point's block of `x`, from the array. -/
theorem blk_x (c : Dev nD) (t : Fin cfg0.N) (r : Fin 512) (k : Fin 1024) (R : Fin 16384) (hR : R.val = t.val / 37 * 512 + r.val) :
    (iblk m c 0 t : Vec Ideal S512x1024 .f32) (ix2 r k) = flat m c (ix2 R k) := by
  have e0 : win0_0.index t (0 : Fin 2) = t.val / 37 := congrFun (idx_x t) 0
  have e1 : win0_0.index t (1 : Fin 2) = 0 := congrFun (idx_x t) 1
  have he : (((cfg0.win 0).blk t).view.emb (ix2 r k : S512x1024.Idx) : S16384x1024.Idx) = ix2 R k := by
    funext a; apply Fin.ext
    match a with
    | ⟨0, _⟩ => show win0_0.index t (0 : Fin 2) * 512 + 1 * r.val = R.val; omega
    | ⟨1, _⟩ => show win0_0.index t (1 : Fin 2) * 1024 + 1 * k.val = k.val; omega
  exact congrArg (V m c main_v14 : Vec Ideal S16384x1024 .f32) he

/-- A point's block of the widened weight, from the array. -/
theorem blk_w (c : Dev nD) (t : Fin cfg0.N) (k : Fin 1024) (j : Fin 128) (J : Fin 4736) (hJ : J.val = t.val % 37 * 128 + j.val) :
    (iblk m c 1 t : Vec Ideal S1024x128 .bf16) (ix2 k j) = wide m c (ix2 k J) := by
  have e0 : win0_1.index t (0 : Fin 2) = 0 := congrFun (idx_w t) 0
  have e1 : win0_1.index t (1 : Fin 2) = t.val % 37 := congrFun (idx_w t) 1
  have he : (((cfg0.win 1).blk t).view.emb (ix2 k j : S1024x128.Idx) : S1024x4736.Idx) = ix2 k J := by
    funext a; apply Fin.ext
    match a with
    | ⟨0, _⟩ => show win0_1.index t (0 : Fin 2) * 1024 + 1 * k.val = k.val; omega
    | ⟨1, _⟩ => show win0_1.index t (1 : Fin 2) * 128 + 1 * j.val = J.val; omega
  exact congrArg (V m c main_v16 : Vec Ideal S1024x4736 .bf16) he

/-- What a point writes back is its block of the product with the widened weight. -/
theorem flushed_eq (c : Dev nD) (t : Fin cfg0.N) :
    (dats m 0 c).flushed 2 t = ((cfg0.win 2).blk t).view.read (Elt Ideal) (prod (flat m c) (wide m c)) := by
  show (cfg0.win 2).cut (grid0.coords t) ((dats m 0 c).after 2 t) = _
  rw [after0_2]
  unfold out0_2
  rw [View.canon_unit_zero (by decide), View.ld_unit_zero (by decide), View.ld_unit_zero (by decide)]
  have ht : t.val < 1184 := lt_of_lt_of_eq t.isLt N_0
  have e0 : win0_2.index t (0 : Fin 2) = t.val / 37 := congrFun (idx_out t) 0
  have e1 : win0_2.index t (1 : Fin 2) = t.val % 37 := congrFun (idx_out t) 1
  funext y
  obtain ⟨r, j, rfl⟩ : ∃ (r : Fin 512) (j : Fin 128), y = (ix2 r j : S512x128.Idx) := ⟨y 0, y 1, eq_ix2 (y : S512x128.Idx)⟩
  have hr := r.isLt
  have hj := j.isLt
  have he : (((cfg0.win 2).blk t).view.emb (ix2 r j : S512x128.Idx) : S16384x4736.Idx)
      = ix2 ⟨t.val / 37 * 512 + r.val, by omega⟩ ⟨t.val % 37 * 128 + j.val, by omega⟩ := by
    funext a; apply Fin.ext
    match a with
    | ⟨0, _⟩ => show win0_2.index t (0 : Fin 2) * 512 + 1 * r.val = t.val / 37 * 512 + r.val; omega
    | ⟨1, _⟩ => show win0_2.index t (1 : Fin 2) * 128 + 1 * j.val = t.val % 37 * 128 + j.val; omega
  refine Eq.trans ?_ (congrArg (prod (flat m c) (wide m c)) he).symm
  show k0_pay1 (iblk m c 0 t) (iblk m c 1 t) (ix2 r j) = _
  rw [pay_apply]
  exact entry_congr (fun k => blk_x m c t r k _ rfl) (fun k => blk_w m c t k j _ rfl)

/-- The array of results is the product with the widened weight. -/
theorem final_eq (c : Dev nD) : (dats m 0 c).arrAt 2 cfg0.N = prod (flat m c) (wide m c) :=
  (dats m 0 c).arrAt_eq_of_cover 2 _ (fun t _ => flushed_eq m c t) (fun i => by
    have h0 : (i 0).val < 16384 := (i 0).isLt
    have h1 : (i 1).val < 4736 := (i 1).isLt
    let t : Fin cfg0.N := ⟨37 * ((i 0).val / 512) + (i 1).val / 128, lt_of_lt_of_eq (by omega) N_0.symm⟩
    have hv : t.val = 37 * ((i 0).val / 512) + (i 1).val / 128 := rfl
    refine ⟨t, flush0_2 _, ?_⟩
    show i ∈ ((View.whole main_v17).slice (win0_2.rect t)).set
    rw [View.set_slice_whole, Rect.mem_set_unit]
    show ∀ a : Fin 2, win0_2.index t a * S512x128.size a ≤ (i a).val ∧ (i a).val < win0_2.index t a * S512x128.size a + S512x128.size a
    rw [idx_out]
    intro a
    match a with
    | ⟨0, _⟩ => show t.val / 37 * 512 ≤ (i 0).val ∧ (i 0).val < t.val / 37 * 512 + 512; omega
    | ⟨1, _⟩ => show t.val % 37 * 128 ≤ (i 1).val ∧ (i 1).val < t.val % 37 * 128 + 128; omega)

/-- The columns kept of the product with the widened weight are the product with the weight. -/
theorem kept_eq (c : Dev nD) :
    (extractStridedSlice S16384x4688 ![0, 0] (prod (flat m c) (wide m c) : Vec Ideal S16384x4736 .f32) slices_S16384x4736_S16384x4688_0_0 : Vec Ideal S16384x4688 .f32)
      = prod (flat m c) (argW m c) := by
  funext q
  obtain ⟨r, j, rfl⟩ : ∃ (r : Fin 16384) (j : Fin 4688), q = (ix2 r j : S16384x4688.Idx) := ⟨q 0, q 1, eq_ix2 q⟩
  have hj := j.isLt
  rw [extractStridedSlice_apply _ _ _ _ (ix2 r ⟨j.val, by omega⟩ : S16384x4736.Idx) (by
    intro a
    match a with
    | ⟨0, _⟩ => show r.val = 0 + r.val; omega
    | ⟨1, _⟩ => show j.val = 0 + j.val; omega)]
  exact entry_congr (fun _ => rfl) (fun k => wide_apply m c k j _ rfl)

/-- The product after the call, in the reference's layout, is the reference's product. -/
theorem projected_eq (c : Dev nD) :
    (shapeCast S2x8192x4688 (extractStridedSlice S16384x4688 ![0, 0] (prod (flat m c) (wide m c) : Vec Ideal S16384x4736 .f32) slices_S16384x4736_S16384x4688_0_0 : Vec Ideal S16384x4688 .f32)
      shapeCasts_S16384x4688_S2x8192x4688 : Vec Ideal S2x8192x4688 .f32) = projected (argX m c) (argG m c) (argW m c) := by
  rw [kept_eq]
  funext q
  obtain ⟨b, t, j, rfl⟩ : ∃ (b : Fin 2) (t : Fin 8192) (j : Fin 4688), q = (ix3 b t j : S2x8192x4688.Idx) := ⟨q 0, q 1, q 2, eq_ix3 q⟩
  have hb := b.isLt
  have ht := t.isLt
  refine (shapeCast_apply _ _ _ (ix2 ⟨b.val * 8192 + t.val, by omega⟩ j : S16384x4688.Idx) (by
    rw [Shape.rowMajor_val_two, Shape.rowMajor_val_three]; rfl)).trans ?_
  show ∑ k : Fin 1024, flat m c (ix2 ⟨b.val * 8192 + t.val, _⟩ k) * argW m c (ix2 k j) = _
  simp only [fun k => flat_apply m c b t k ⟨b.val * 8192 + t.val, by omega⟩ rfl]
  unfold projected
  generalize normed (argX m c) (argG m c) = x
  generalize argW m c = w
  symm
  pointwise

/-! ## The operations after the call, as functions of the product, the bias and the positions -/

section Functions

/-- Eight heads of 64 from the product, from column `o` on. -/
def heads (o : ℕ) (h : Shape.Slices S2x8192x4688 ![0, 0, o] S2x8192x512) (p : FVec Ideal S2x8192x4688 .f32) : FVec Ideal S2x8192x8x64 .f32 :=
  shapeCast S2x8192x8x64 (extractStridedSlice S2x8192x512 ![0, 0, o] p h : FVec Ideal S2x8192x512 .f32) shapeCasts_S2x8192x512_S2x8192x8x64

/-- The forget gates with their bias, negated. -/
def negated (p : FVec Ideal S2x8192x4688 .f32) (b : FVec Ideal S8 .f32) : FVec Ideal S2x8192x8 .f32 :=
  Host.negf (addf (extractStridedSlice S2x8192x8 ![0, 0, 1536] p slices_S2x8192x4688_S2x8192x8_0_0_1536)
    (broadcastInDim S2x8192x8 ![0, 1, 2] bcast_S1x1x8_S2x8192x8_0_1_2 (broadcastInDim S1x1x8 ![2] bcast_S8_S1x1x8_2 b)))

def zeros : FVec Ideal S2x8192x8 .f32 := broadcastInDim S2x8192x8 ![] bcast_S_S2x8192x8 (constant S_ .f32 0x00000000#32)

/-- The logarithms of the forget gates. -/
def logs (p : FVec Ideal S2x8192x4688 .f32) (b : FVec Ideal S8 .f32) : FVec Ideal S2x8192x8 .f32 :=
  Host.negf (select (cmpf .une (subf (negated p b) zeros) (subf (negated p b) zeros)) (addf (negated p b) zeros)
    (addf (maximumf (negated p b) zeros) (Host.log1p (Host.exp (Host.negf (Host.absf (subf (negated p b) zeros)))))))

/-- The angles by which the positions turn. -/
def angles (p : IVec S8192 32) : FVec Ideal S8192x8 .f32 :=
  mulf (broadcastInDim S8192x8 ![0, 1] bcast_S8192x1_S8192x8_0_1 (broadcastInDim S8192x1 ![0] bcast_S8192_S8192x1_0 (sitofp .f32 p)))
    (broadcastInDim S8192x8 ![0, 1] bcast_S1x8_S8192x8_0_1 (broadcastInDim S1x8 ![1] bcast_S8_S1x8_1
      (Host.powf (broadcastInDim S8 ![] bcast_S_S8 (constant S_ .f32 0x48F42400#32))
        (Host.divf (mulf (broadcastInDim S8 ![] bcast_S_S8 (constant S_ .f32 0xC0000000#32)) (sitofp .f32 (iotaInDim S8 32 0)))
          (broadcastInDim S8 ![] bcast_S_S8 (constant S_ .f32 0x41800000#32))))))

/-- A number for each position and each of the eight pairs, for every row of every head. -/
def spread8 (a : FVec Ideal S8192x8 .f32) : FVec Ideal S2x8192x8x8 .f32 :=
  broadcastInDim S2x8192x8x8 ![0, 1, 2, 3] bcast_S1x8192x1x8_S2x8192x8x8_0_1_2_3
    (broadcastInDim S1x8192x1x8 ![1, 2, 3] bcast_S8192x1x8_S1x8192x1x8_1_2_3 (broadcastInDim S8192x1x8 ![0, 2] bcast_S8192x8_S8192x1x8_0_2 a))

/-- A number for each position and each of the eight pairs, for every row of one head. -/
def spread1 (a : FVec Ideal S8192x8 .f32) : FVec Ideal S2x8192x1x8 .f32 :=
  broadcastInDim S2x8192x1x8 ![0, 1, 2, 3] bcast_S1x8192x1x8_S2x8192x1x8_0_1_2_3
    (broadcastInDim S1x8192x1x8 ![1, 2, 3] bcast_S8192x1x8_S1x8192x1x8_1_2_3 (broadcastInDim S8192x1x8 ![0, 2] bcast_S8192x8_S8192x1x8_0_2 a))

/-- The turn of the heads by the angles: of each row of 64 the first eight entries with the second eight, the rest as they are. -/
def turned8 (u : FVec Ideal S2x8192x8x64 .f32) (p : IVec S8192 32) : FVec Ideal S2x8192x8x64 .f32 :=
  concatenate S2x8192x8x64 3
    [⟨S2x8192x8x8, (subf (mulf (extractStridedSlice S2x8192x8x8 ![0, 0, 0, 0] u slices_S2x8192x8x64_S2x8192x8x8_0_0_0_0) (spread8 (Host.cos (angles p))))
        (mulf (extractStridedSlice S2x8192x8x8 ![0, 0, 0, 8] u slices_S2x8192x8x64_S2x8192x8x8_0_0_0_8) (spread8 (Host.sin (angles p)))) : FVec Ideal S2x8192x8x8 .f32)⟩,
      ⟨S2x8192x8x8, (addf (mulf (extractStridedSlice S2x8192x8x8 ![0, 0, 0, 8] u slices_S2x8192x8x64_S2x8192x8x8_0_0_0_8) (spread8 (Host.cos (angles p))))
        (mulf (extractStridedSlice S2x8192x8x8 ![0, 0, 0, 0] u slices_S2x8192x8x64_S2x8192x8x8_0_0_0_0) (spread8 (Host.sin (angles p)))) : FVec Ideal S2x8192x8x8 .f32)⟩,
      ⟨S2x8192x8x48, (extractStridedSlice S2x8192x8x48 ![0, 0, 0, 16] u slices_S2x8192x8x64_S2x8192x8x48_0_0_0_16 : FVec Ideal S2x8192x8x48 .f32)⟩]
    concatenates_S2x8192x8x8_S2x8192x8x8_S2x8192x8x48_S2x8192x8x64_d3

/-- The turn of one head by the angles: of each row of 64 the first eight entries with the second eight, the rest as they are. -/
def turned1 (u : FVec Ideal S2x8192x1x64 .f32) (p : IVec S8192 32) : FVec Ideal S2x8192x1x64 .f32 :=
  concatenate S2x8192x1x64 3
    [⟨S2x8192x1x8, (subf (mulf (extractStridedSlice S2x8192x1x8 ![0, 0, 0, 0] u slices_S2x8192x1x64_S2x8192x1x8_0_0_0_0) (spread1 (Host.cos (angles p))))
        (mulf (extractStridedSlice S2x8192x1x8 ![0, 0, 0, 8] u slices_S2x8192x1x64_S2x8192x1x8_0_0_0_8) (spread1 (Host.sin (angles p)))) : FVec Ideal S2x8192x1x8 .f32)⟩,
      ⟨S2x8192x1x8, (addf (mulf (extractStridedSlice S2x8192x1x8 ![0, 0, 0, 8] u slices_S2x8192x1x64_S2x8192x1x8_0_0_0_8) (spread1 (Host.cos (angles p))))
        (mulf (extractStridedSlice S2x8192x1x8 ![0, 0, 0, 0] u slices_S2x8192x1x64_S2x8192x1x8_0_0_0_0) (spread1 (Host.sin (angles p)))) : FVec Ideal S2x8192x1x8 .f32)⟩,
      ⟨S2x8192x1x48, (extractStridedSlice S2x8192x1x48 ![0, 0, 0, 16] u slices_S2x8192x1x64_S2x8192x1x48_0_0_0_16 : FVec Ideal S2x8192x1x48 .f32)⟩]
    concatenates_S2x8192x1x8_S2x8192x1x8_S2x8192x1x48_S2x8192x1x64_d3

/-- The sparse attention's keys. -/
def keys (p : FVec Ideal S2x8192x4688 .f32) (q : IVec S8192 32) : FVec Ideal S2x8192x8x64 .f32 :=
  turned8 (heads 2568 slices_S2x8192x4688_S2x8192x512_0_0_2568 p) q

/-- The indexer's keys. -/
def idxKeys (p : FVec Ideal S2x8192x4688 .f32) (q : IVec S8192 32) : FVec Ideal S2x8192x64 .f32 :=
  shapeCast S2x8192x64 (turned1 (broadcastInDim S2x8192x1x64 ![0, 1, 3] bcast_S2x8192x64_S2x8192x1x64_0_1_3
    (extractStridedSlice S2x8192x64 ![0, 0, 4616] p slices_S2x8192x4688_S2x8192x64_0_0_4616)) q) shapeCasts_S2x8192x1x64_S2x8192x64

end Functions

/-! ## What the kernel's operations leave -/

section Tail

variable (W : Valuation τ sig (Elt Ideal))

/-- The product that the call leaves, less its last columns, in the layout of the hidden state. -/
def kept : FVec Ideal S2x8192x4688 .f32 :=
  shapeCast S2x8192x4688 (extractStridedSlice S16384x4688 ![0, 0] (W (Proc.devRef .tc main_v17) : FVec Ideal S16384x4736 .f32)
    slices_S16384x4736_S16384x4688_0_0 : FVec Ideal S16384x4688 .f32) shapeCasts_S16384x4688_S2x8192x4688

/-- The forgetting attention's keys. -/
theorem row0 : StableHlo.after (List.flatten [hostOps1, hostOps1_1, hostOps1_2]) W (Proc.devRef .tc main_v109)
    = heads 512 slices_S2x8192x4688_S2x8192x512_0_0_512 (kept W) := by
  show StableHlo.after (hostOps1 ++ (hostOps1_1 ++ hostOps1_2)) _ _ = _
  simp only [hostOps1, hostOps1_1, hostOps1_2, List.cons_append, List.nil_append, TRef.binary, TRef.nullary, TRef.ternary, TRef.unary, TRef.toBuf, TRef.ofBuf, cast_eq]
  after_results_simp
  rfl

/-- Its values. -/
theorem row1 : StableHlo.after (List.flatten [hostOps1, hostOps1_1, hostOps1_2]) W (Proc.devRef .tc main_v110)
    = heads 1024 slices_S2x8192x4688_S2x8192x512_0_0_1024 (kept W) := by
  show StableHlo.after (hostOps1 ++ (hostOps1_1 ++ hostOps1_2)) _ _ = _
  simp only [hostOps1, hostOps1_1, hostOps1_2, List.cons_append, List.nil_append, TRef.binary, TRef.nullary, TRef.ternary, TRef.unary, TRef.toBuf, TRef.ofBuf, cast_eq]
  after_results_simp
  rfl

/-- The logarithms of the forget gates. -/
theorem row2 : StableHlo.after (List.flatten [hostOps1, hostOps1_1, hostOps1_2]) W (Proc.devRef .tc main_v35)
    = logs (kept W) (W (Proc.devRef .tc main_arg3)) := by
  show StableHlo.after (hostOps1 ++ (hostOps1_1 ++ hostOps1_2)) _ _ = _
  simp only [hostOps1, hostOps1_1, hostOps1_2, List.cons_append, List.nil_append, TRef.binary, TRef.nullary, TRef.ternary, TRef.unary, TRef.toBuf, TRef.ofBuf, cast_eq]
  after_results_simp
  rfl

/-- The sparse attention's keys, turned by their positions. -/
theorem row3 : StableHlo.after (List.flatten [hostOps1, hostOps1_1, hostOps1_2]) W (Proc.devRef .tc main_v71)
    = keys (kept W) (W (Proc.devRef .tc main_v13)) := by
  show StableHlo.after (hostOps1 ++ (hostOps1_1 ++ hostOps1_2)) _ _ = _
  simp only [hostOps1, hostOps1_1, hostOps1_2, List.cons_append, List.nil_append, TRef.binary, TRef.nullary, TRef.ternary, TRef.unary, TRef.toBuf, TRef.ofBuf, cast_eq]
  after_results_simp
  dsimp only [Matrix.cons_val]
  rfl

/-- Its values. -/
theorem row4 : StableHlo.after (List.flatten [hostOps1, hostOps1_1, hostOps1_2]) W (Proc.devRef .tc main_v111)
    = heads 3080 slices_S2x8192x4688_S2x8192x512_0_0_3080 (kept W) := by
  show StableHlo.after (hostOps1 ++ (hostOps1_1 ++ hostOps1_2)) _ _ = _
  simp only [hostOps1, hostOps1_1, hostOps1_2, List.cons_append, List.nil_append, TRef.binary, TRef.nullary, TRef.ternary, TRef.unary, TRef.toBuf, TRef.ofBuf, cast_eq]
  after_results_simp
  rfl

/-- The indexer's keys, turned by their positions. -/
theorem row5 : StableHlo.after (List.flatten [hostOps1, hostOps1_1, hostOps1_2]) W (Proc.devRef .tc main_v108)
    = idxKeys (kept W) (W (Proc.devRef .tc main_v13)) := by
  show StableHlo.after (hostOps1 ++ (hostOps1_1 ++ hostOps1_2)) _ _ = _
  simp only [hostOps1, hostOps1_1, hostOps1_2, List.cons_append, List.nil_append, TRef.binary, TRef.nullary, TRef.ternary, TRef.unary, TRef.toBuf, TRef.ofBuf, cast_eq]
  after_results_simp
  dsimp only [Matrix.cons_val]
  rfl

end Tail

/-! ## What the reference's leave -/

section Reference

variable (m' : (ℓ : Loc Cert.Reference6Ideal.nD Cert.Reference6Ideal.τ Cert.Reference6Ideal.sig) → Buf (Elt Ideal) ℓ) (c : Dev nD)

def refX : FVec Ideal S2x8192x1024 .f32 := m' ((c.tc : Thread Cert.Reference6Ideal.nD Cert.Reference6Ideal.τ).loc Cert.Reference6Ideal.main_arg0)
def refG : FVec Ideal S1024 .f32 := m' ((c.tc : Thread Cert.Reference6Ideal.nD Cert.Reference6Ideal.τ).loc Cert.Reference6Ideal.main_arg1)
def refW : FVec Ideal S1024x4688 .f32 := m' ((c.tc : Thread Cert.Reference6Ideal.nD Cert.Reference6Ideal.τ).loc Cert.Reference6Ideal.main_arg2)
def refB : FVec Ideal S8 .f32 := m' ((c.tc : Thread Cert.Reference6Ideal.nD Cert.Reference6Ideal.τ).loc Cert.Reference6Ideal.main_arg3)

/-- The reference's product. -/
def refP : FVec Ideal S2x8192x4688 .f32 := projected (refX m' c) (refG m' c) (refW m' c)

/-- The positions. -/
def positions : IVec S8192 32 := (iotaInDim S8192 32 0 : IVec S8192 32)

theorem ref_logs : Cert.Reference6Ideal.Value.res_main_v30 m' c = logs (refP m' c) (refB m' c) := by
  unfold Cert.Reference6Ideal.Value.res_main_v30
  rfl

theorem ref_keys : Cert.Reference6Ideal.Value.res_main_v66 m' c = keys (refP m' c) positions := by
  unfold Cert.Reference6Ideal.Value.res_main_v66
  rfl

theorem ref_idxKeys : Cert.Reference6Ideal.Value.res_main_v103 m' c = idxKeys (refP m' c) positions := by
  unfold Cert.Reference6Ideal.Value.res_main_v103
  rfl

end Reference

/-! ## The two runs -/

section Runs

variable (m : (ℓ : Loc nD τ sig) → Buf (Elt Ideal) ℓ) (c : Dev nD)

/-- The buffers after the call. -/
def after1 : Valuation τ sig (Elt Ideal) :=
  Pipeline.withArrays spec0 c (V0 m c) fun w => (dats m 0 c).arrAt w cfg0.N

theorem kept_after1 : kept (after1 m c) = projected (argX m c) (argG m c) (argW m c) := by
  unfold kept after1
  have e : (Pipeline.withArrays spec0 c (V0 m c) (fun w => (dats m 0 c).arrAt w cfg0.N) (Proc.devRef .tc main_v17) : FVec Ideal S16384x4736 .f32)
      = prod (flat m c) (wide m c) :=
    (Pipeline.withArrays_arr spec0 launch0.win.arr_inj c _ _ 2).trans (final_eq m c)
  rw [e]
  exact projected_eq m c

theorem bias_after1 : after1 m c (Proc.devRef .tc main_arg3) = m ((c.tc : Thread nD τ).loc main_arg3) :=
  (Pipeline.withArrays_of_ne spec0 c (V0 m c) _ main_arg3 (by exact (by decide : ∀ w, Pipeline.arrRef spec0 w ≠ main_arg3))).trans (V_main_arg3 m c)

theorem pos_after1 : (after1 m c (Proc.devRef .tc main_v13) : IVec S8192 32) = positions := by
  refine (Pipeline.withArrays_of_ne spec0 c (V0 m c) _ main_v13 (by exact (by decide : ∀ w, Pipeline.arrRef spec0 w ≠ main_v13))).trans ?_
  show StableHlo.after (hostOps0 ++ hostOps0_1) _ _ = _
  simp only [hostOps0, hostOps0_1, List.cons_append, List.nil_append, TRef.binary, TRef.nullary, TRef.ternary, TRef.unary, TRef.toBuf, TRef.ofBuf, cast_eq]
  after_results_simp
  rfl

def argB : FVec Ideal S8 .f32 := m ((c.tc : Thread nD τ).loc main_arg3)

def proj : FVec Ideal S2x8192x4688 .f32 := projected (argX m c) (argG m c) (argW m c)

/-- What the kernel leaves in a buffer that an operation after the call writes. -/
theorem left_eq (b : Ref sig .tc) :
    Pipeline.afterTail₀ cfgs (dats m) 0 (V0 m) [hostOps1, hostOps1_1, hostOps1_2] c b
      = StableHlo.after (List.flatten [hostOps1, hostOps1_1, hostOps1_2]) (after1 m c) (Proc.devRef .tc b) := rfl

theorem left0 : Pipeline.afterTail₀ cfgs (dats m) 0 (V0 m) [hostOps1, hostOps1_1, hostOps1_2] c main_v109 = heads 512 slices_S2x8192x4688_S2x8192x512_0_0_512 (proj m c) := by
  rw [left_eq, row0, kept_after1]
  rfl

theorem left1 : Pipeline.afterTail₀ cfgs (dats m) 0 (V0 m) [hostOps1, hostOps1_1, hostOps1_2] c main_v110 = heads 1024 slices_S2x8192x4688_S2x8192x512_0_0_1024 (proj m c) := by
  rw [left_eq, row1, kept_after1]
  rfl

theorem left2 : Pipeline.afterTail₀ cfgs (dats m) 0 (V0 m) [hostOps1, hostOps1_1, hostOps1_2] c main_v35 = logs (proj m c) (argB m c) := by
  rw [left_eq, row2, kept_after1, bias_after1]
  rfl

theorem left3 : Pipeline.afterTail₀ cfgs (dats m) 0 (V0 m) [hostOps1, hostOps1_1, hostOps1_2] c main_v71 = keys (proj m c) positions := by
  rw [left_eq, row3, kept_after1, pos_after1]
  rfl

theorem left4 : Pipeline.afterTail₀ cfgs (dats m) 0 (V0 m) [hostOps1, hostOps1_1, hostOps1_2] c main_v111 = heads 3080 slices_S2x8192x4688_S2x8192x512_0_0_3080 (proj m c) := by
  rw [left_eq, row4, kept_after1]
  rfl

theorem left5 : Pipeline.afterTail₀ cfgs (dats m) 0 (V0 m) [hostOps1, hostOps1_1, hostOps1_2] c main_v108 = idxKeys (proj m c) positions := by
  rw [left_eq, row5, kept_after1, pos_after1]
  rfl

end Runs

/-- The kernel's run and the reference's leave the same rows. -/
theorem algebraic : Cert.algebraic_Kernel6Ideal_Reference6Ideal (hKernel6Ideal := facts) (hReference6Ideal := Cert.Reference6Ideal.Gen.facts) := by
  intro m g m' g' _ hargs
  refine ⟨fun c => heads 512 slices_S2x8192x4688_S2x8192x512_0_0_512 (proj m c),
    fun c => heads 1024 slices_S2x8192x4688_S2x8192x512_0_0_1024 (proj m c),
    fun c => logs (proj m c) (argB m c),
    fun c => keys (proj m c) positions,
    fun c => heads 3080 slices_S2x8192x4688_S2x8192x512_0_0_3080 (proj m c),
    fun c => idxKeys (proj m c) positions, ?_, ?_⟩
  · exact (θ_run defs _ _).mono (fun r h c => ⟨((h.1 c).2 main_v109 (Pipeline.mem_restRefs_of main_v109 (by decide) (by decide))).trans (left0 m c),
      ((h.1 c).2 main_v110 (Pipeline.mem_restRefs_of main_v110 (by decide) (by decide))).trans (left1 m c),
      ((h.1 c).2 main_v35 (Pipeline.mem_restRefs_of main_v35 (by decide) (by decide))).trans (left2 m c),
      ((h.1 c).2 main_v71 (Pipeline.mem_restRefs_of main_v71 (by decide) (by decide))).trans (left3 m c),
      ((h.1 c).2 main_v111 (Pipeline.mem_restRefs_of main_v111 (by decide) (by decide))).trans (left4 m c),
      ((h.1 c).2 main_v108 (Pipeline.mem_restRefs_of main_v108 (by decide) (by decide))).trans (left5 m c),
      h.2.1 c⟩) (θ_run_and (run_main m g) (frame m g))
  · refine (θ_run Cert.Reference6Ideal.defs _ _).mono (fun r h c => ?_) (Cert.Reference6Ideal.Value.run (F := Ideal) m' g')
    have hp : refP m' c = proj m c := by
      show projected (refX m' c) (refG m' c) (refW m' c) = projected (argX m c) (argG m c) (argW m c)
      rw [show refX m' c = argX m c from (hargs c).1, show refG m' c = argG m c from (hargs c).2.1,
        show refW m' c = argW m c from (hargs c).2.2.1]
    have hb : refB m' c = argB m c := (hargs c).2.2.2
    obtain ⟨h0, h1, h2, h3, h4, h5, kept⟩ := h c
    refine ⟨h0.trans ?_, h1.trans ?_, h2.trans ?_, h3.trans ?_, h4.trans ?_, h5.trans ?_, kept⟩
    · exact congrArg (heads 512 slices_S2x8192x4688_S2x8192x512_0_0_512) hp
    · exact congrArg (heads 1024 slices_S2x8192x4688_S2x8192x512_0_0_1024) hp
    · rw [ref_logs, hp, hb]
    · rw [ref_keys, hp]
    · exact congrArg (heads 3080 slices_S2x8192x4688_S2x8192x512_0_0_3080) hp
    · rw [ref_idxKeys, hp]

theorem reference : Cert.quiescent_Reference6Ideal (hReference6Ideal := Cert.Reference6Ideal.Gen.facts) :=
  fun m g _ => (θ_run Cert.Reference6Ideal.defs _ _).mono
    (fun r h => ⟨fun c => (h c).2.2.2.2.2.2, sem_eq_zero_of_no_sems (by decide) r.2⟩) (Cert.Reference6Ideal.Value.run (F := Ideal) m g)

end Cert.Kernel6Ideal.Even

end
-- ==== Proof.Even7.lean ====
/-
  An even layer of the sample group from its hidden state to the rows that it caches: the call multiplies the normalised hidden state,
  its rows in one column of rows, by the weight widened by columns of zeros; what the operations around the call leave is
  what the reference's leave.
-/
module

public import proofs.«01_k».proof.Defs
public import proofs.«01_k».proof.Proof.Gen.Kernel7Ideal.Frame
public import proofs.«01_k».proof.Proof.Gen.Reference7Ideal.Run
public import proofs.«01_k».proof.Proof.MmSpec
public import Idealize.ShloMosaic.Lib.StableHlo.RunRead
public import Idealize.ShloMosaic.Lib.Quiescent
public import Idealize.ShloMosaic.Lib.KernelVsHost
public import Idealize.ShloMosaic.Lib.Pointwise

@[expose] public section

set_option maxRecDepth 16384

noncomputable section

namespace Cert.Kernel7Ideal.Even

open Cert.Kernel7Ideal Cert.Kernel7Ideal.Gen Cert.Mm Idealize.ShloMosaic Idealize.ShloMosaic.TcCoe Idealize.SL.Sem
open Idealize.ShloMosaic.StableHlo

/-- The normalised hidden state. -/
def normed (x : FVec Ideal S128x8x1024 .f32) (g : FVec Ideal S1024 .f32) : FVec Ideal S128x8x1024 .f32 :=
  mulf (mulf x (broadcastInDim S128x8x1024 ![0, 1, 2] bcast_S128x8x1_S128x8x1024_0_1_2 (Host.rsqrt (addf (Host.divf
    (broadcastInDim S128x8x1 ![0, 1] bcast_S128x8_S128x8x1_0_1 (Host.reduceAdd (mulf x x) (constant S_ .f32 0x00000000#32) reducesTo_S128x8x1024_S128x8_d2 h_S_))
    (broadcastInDim S128x8x1 ![] bcast_S_S128x8x1 (constant S_ .f32 0x44800000#32)))
    (broadcastInDim S128x8x1 ![] bcast_S_S128x8x1 (constant S_ .f32 0x358637BD#32))))))
    (broadcastInDim S128x8x1024 ![0, 1, 2] bcast_S1x1x1024_S128x8x1024_0_1_2 (broadcastInDim S1x1x1024 ![2] bcast_S1024_S1x1x1024_2 g))

/-- Its product with the weight, as the reference takes it. -/
def projected (x : Vec Ideal S128x8x1024 .f32) (g : Vec Ideal S1024 .f32) (w : Vec Ideal S1024x4688 .f32) : Vec Ideal S128x8x4688 .f32 :=
  Host.dotGeneral (F := Ideal) (φ₁ := .f32) (φ₂ := .f32) Cert.Reference7Ideal.dot_S128x8x1024_S1024x4688_S128x8x4688_2_0_01_1_n_n none (normed x g) w

variable (m : (ℓ : Loc nD τ sig) → Buf (Elt Ideal) ℓ) (ρ : Dev nD → PrngReg)

def argX (c : Dev nD) : Vec Ideal S128x8x1024 .f32 := m ((c : Thread nD τ).loc main_arg0)
def argG (c : Dev nD) : Vec Ideal S1024 .f32 := m ((c : Thread nD τ).loc main_arg1)
def argW (c : Dev nD) : Vec Ideal S1024x4688 .f32 := m ((c : Thread nD τ).loc main_arg2)

/-- The normalised hidden state with its rows in one column of rows, as the region finds it. -/
def flat (c : Dev nD) : Vec Ideal S1024x1024 .f32 := V m c main_v16

theorem flat_eq (c : Dev nD) : flat m c = shapeCast S1024x1024 (normed (argX m c) (argG m c)) shapeCasts_S128x8x1024_S1024x1024 := by
  show StableHlo.after (hostOps0 ++ hostOps0_1) _ _ = _
  simp only [hostOps0, hostOps0_1, List.cons_append, List.nil_append]
  after_results
  rfl

theorem flat_apply (c : Dev nD) (b : Fin 128) (t : Fin 8) (k : Fin 1024) (R : Fin 1024) (hR : R.val = b.val * 8 + t.val) :
    flat m c (ix2 R k) = normed (argX m c) (argG m c) (ix3 b t k) := by
  rw [flat_eq]
  refine shapeCast_apply _ _ _ _ ?_
  rw [Shape.rowMajor_val_two, Shape.rowMajor_val_three]
  show (b.val * 8 + t.val) * 1024 + k.val = R.val * 1024 + k.val
  rw [hR]

/-- What the body computes is the product of the blocks it reads. -/
theorem pay_apply (x : Vec Ideal S512x1024 .f32) (w : Vec Ideal S1024x128 .bf16) (r : Fin 512) (k : Fin 128) :
    k0_pay1 x w (ix2 r k) = entry x w r k := by
  unfold entry
  pointwise [k0_pay1]

/-- The widened weight as the region finds it: rounding changes no real number. -/
def wide (c : Dev nD) : Vec Ideal S1024x4736 .bf16 := V m c main_v18

theorem wide_apply (c : Dev nD) (k : Fin 1024) (j : Fin 4688) (J : Fin 4736) (hJ : J.val = j.val) :
    wide m c (ix2 k J) = argW m c (ix2 k j) := by
  have hj := j.isLt
  have e : wide m c = pad S1024x4736 ![0, 0] ![0, 48] ![0, 0] (argW m c : FVec Ideal S1024x4688 .bf16) (sitofp .bf16 (constantI S_ 32 0#32) : FVec Ideal S_ .bf16)
      pads_S1024x4688_S1024x4736_000_0480 h_S_ := by
    show StableHlo.after (hostOps0 ++ hostOps0_1) _ _ = _
    simp only [hostOps0, hostOps0_1, List.cons_append, List.nil_append]
    after_results
    rfl
  rw [e]
  exact pad_apply_of_inside _ _ _ _ _ _ _ _ (ix2 k j : S1024x4688.Idx) (by
    intro a
    match a with
    | ⟨0, _⟩ => show k.val = 0 + k.val * (0 + 1); omega
    | ⟨1, _⟩ => show J.val = 0 + j.val * (0 + 1); omega)

/-- The windows' block numbers at a point. -/
theorem idx_x : ∀ t : Fin cfg0.N, win0_0.index t = ![t.val / 37, 0] :=
  (by decide +kernel : ∀ t : Fin grid0.N, win0_0.index t = ![t.val / 37, 0])
theorem idx_w : ∀ t : Fin cfg0.N, win0_1.index t = ![0, t.val % 37] :=
  (by decide +kernel : ∀ t : Fin grid0.N, win0_1.index t = ![0, t.val % 37])
theorem idx_out : ∀ t : Fin cfg0.N, win0_2.index t = ![t.val / 37, t.val % 37] :=
  (by decide +kernel : ∀ t : Fin grid0.N, win0_2.index t = ![t.val / 37, t.val % 37])

/-- A point's block of `x`, from the array. -/
theorem blk_x (c : Dev nD) (t : Fin cfg0.N) (r : Fin 512) (k : Fin 1024) (R : Fin 1024) (hR : R.val = t.val / 37 * 512 + r.val) :
    (iblk m c 0 t : Vec Ideal S512x1024 .f32) (ix2 r k) = flat m c (ix2 R k) := by
  have e0 : win0_0.index t (0 : Fin 2) = t.val / 37 := congrFun (idx_x t) 0
  have e1 : win0_0.index t (1 : Fin 2) = 0 := congrFun (idx_x t) 1
  have he : (((cfg0.win 0).blk t).view.emb (ix2 r k : S512x1024.Idx) : S1024x1024.Idx) = ix2 R k := by
    funext a; apply Fin.ext
    match a with
    | ⟨0, _⟩ => show win0_0.index t (0 : Fin 2) * 512 + 1 * r.val = R.val; omega
    | ⟨1, _⟩ => show win0_0.index t (1 : Fin 2) * 1024 + 1 * k.val = k.val; omega
  exact congrArg (V m c main_v16 : Vec Ideal S1024x1024 .f32) he

/-- A point's block of the widened weight, from the array. -/
theorem blk_w (c : Dev nD) (t : Fin cfg0.N) (k : Fin 1024) (j : Fin 128) (J : Fin 4736) (hJ : J.val = t.val % 37 * 128 + j.val) :
    (iblk m c 1 t : Vec Ideal S1024x128 .bf16) (ix2 k j) = wide m c (ix2 k J) := by
  have e0 : win0_1.index t (0 : Fin 2) = 0 := congrFun (idx_w t) 0
  have e1 : win0_1.index t (1 : Fin 2) = t.val % 37 := congrFun (idx_w t) 1
  have he : (((cfg0.win 1).blk t).view.emb (ix2 k j : S1024x128.Idx) : S1024x4736.Idx) = ix2 k J := by
    funext a; apply Fin.ext
    match a with
    | ⟨0, _⟩ => show win0_1.index t (0 : Fin 2) * 1024 + 1 * k.val = k.val; omega
    | ⟨1, _⟩ => show win0_1.index t (1 : Fin 2) * 128 + 1 * j.val = J.val; omega
  exact congrArg (V m c main_v18 : Vec Ideal S1024x4736 .bf16) he

/-- What a point writes back is its block of the product with the widened weight. -/
theorem flushed_eq (c : Dev nD) (t : Fin cfg0.N) :
    (dats m 0 c).flushed 2 t = ((cfg0.win 2).blk t).view.read (Elt Ideal) (prod (flat m c) (wide m c)) := by
  show (cfg0.win 2).cut (grid0.coords t) ((dats m 0 c).after 2 t) = _
  rw [after0_2]
  unfold out0_2
  rw [View.canon_unit_zero (by decide), View.ld_unit_zero (by decide), View.ld_unit_zero (by decide)]
  have ht : t.val < 74 := lt_of_lt_of_eq t.isLt N_0
  have e0 : win0_2.index t (0 : Fin 2) = t.val / 37 := congrFun (idx_out t) 0
  have e1 : win0_2.index t (1 : Fin 2) = t.val % 37 := congrFun (idx_out t) 1
  funext y
  obtain ⟨r, j, rfl⟩ : ∃ (r : Fin 512) (j : Fin 128), y = (ix2 r j : S512x128.Idx) := ⟨y 0, y 1, eq_ix2 (y : S512x128.Idx)⟩
  have hr := r.isLt
  have hj := j.isLt
  have he : (((cfg0.win 2).blk t).view.emb (ix2 r j : S512x128.Idx) : S1024x4736.Idx)
      = ix2 ⟨t.val / 37 * 512 + r.val, by omega⟩ ⟨t.val % 37 * 128 + j.val, by omega⟩ := by
    funext a; apply Fin.ext
    match a with
    | ⟨0, _⟩ => show win0_2.index t (0 : Fin 2) * 512 + 1 * r.val = t.val / 37 * 512 + r.val; omega
    | ⟨1, _⟩ => show win0_2.index t (1 : Fin 2) * 128 + 1 * j.val = t.val % 37 * 128 + j.val; omega
  refine Eq.trans ?_ (congrArg (prod (flat m c) (wide m c)) he).symm
  show k0_pay1 (iblk m c 0 t) (iblk m c 1 t) (ix2 r j) = _
  rw [pay_apply]
  exact entry_congr (fun k => blk_x m c t r k _ rfl) (fun k => blk_w m c t k j _ rfl)

/-- The array of results is the product with the widened weight. -/
theorem final_eq (c : Dev nD) : (dats m 0 c).arrAt 2 cfg0.N = prod (flat m c) (wide m c) :=
  (dats m 0 c).arrAt_eq_of_cover 2 _ (fun t _ => flushed_eq m c t) (fun i => by
    have h0 : (i 0).val < 1024 := (i 0).isLt
    have h1 : (i 1).val < 4736 := (i 1).isLt
    let t : Fin cfg0.N := ⟨37 * ((i 0).val / 512) + (i 1).val / 128, lt_of_lt_of_eq (by omega) N_0.symm⟩
    have hv : t.val = 37 * ((i 0).val / 512) + (i 1).val / 128 := rfl
    refine ⟨t, flush0_2 _, ?_⟩
    show i ∈ ((View.whole main_v19).slice (win0_2.rect t)).set
    rw [View.set_slice_whole, Rect.mem_set_unit]
    show ∀ a : Fin 2, win0_2.index t a * S512x128.size a ≤ (i a).val ∧ (i a).val < win0_2.index t a * S512x128.size a + S512x128.size a
    rw [idx_out]
    intro a
    match a with
    | ⟨0, _⟩ => show t.val / 37 * 512 ≤ (i 0).val ∧ (i 0).val < t.val / 37 * 512 + 512; omega
    | ⟨1, _⟩ => show t.val % 37 * 128 ≤ (i 1).val ∧ (i 1).val < t.val % 37 * 128 + 128; omega)

/-- The columns kept of the product with the widened weight are the product with the weight. -/
theorem kept_eq (c : Dev nD) :
    (extractStridedSlice S1024x4688 ![0, 0] (prod (flat m c) (wide m c) : Vec Ideal S1024x4736 .f32) slices_S1024x4736_S1024x4688_0_0 : Vec Ideal S1024x4688 .f32)
      = prod (flat m c) (argW m c) := by
  funext q
  obtain ⟨r, j, rfl⟩ : ∃ (r : Fin 1024) (j : Fin 4688), q = (ix2 r j : S1024x4688.Idx) := ⟨q 0, q 1, eq_ix2 q⟩
  have hj := j.isLt
  rw [extractStridedSlice_apply _ _ _ _ (ix2 r ⟨j.val, by omega⟩ : S1024x4736.Idx) (by
    intro a
    match a with
    | ⟨0, _⟩ => show r.val = 0 + r.val; omega
    | ⟨1, _⟩ => show j.val = 0 + j.val; omega)]
  exact entry_congr (fun _ => rfl) (fun k => wide_apply m c k j _ rfl)

/-- The product after the call, in the reference's layout, is the reference's product. -/
theorem projected_eq (c : Dev nD) :
    (shapeCast S128x8x4688 (extractStridedSlice S1024x4688 ![0, 0] (prod (flat m c) (wide m c) : Vec Ideal S1024x4736 .f32) slices_S1024x4736_S1024x4688_0_0 : Vec Ideal S1024x4688 .f32)
      shapeCasts_S1024x4688_S128x8x4688 : Vec Ideal S128x8x4688 .f32) = projected (argX m c) (argG m c) (argW m c) := by
  rw [kept_eq]
  funext q
  obtain ⟨b, t, j, rfl⟩ : ∃ (b : Fin 128) (t : Fin 8) (j : Fin 4688), q = (ix3 b t j : S128x8x4688.Idx) := ⟨q 0, q 1, q 2, eq_ix3 q⟩
  have hb := b.isLt
  have ht := t.isLt
  refine (shapeCast_apply _ _ _ (ix2 ⟨b.val * 8 + t.val, by omega⟩ j : S1024x4688.Idx) (by
    rw [Shape.rowMajor_val_two, Shape.rowMajor_val_three]; rfl)).trans ?_
  show ∑ k : Fin 1024, flat m c (ix2 ⟨b.val * 8 + t.val, _⟩ k) * argW m c (ix2 k j) = _
  simp only [fun k => flat_apply m c b t k ⟨b.val * 8 + t.val, by omega⟩ rfl]
  unfold projected
  generalize normed (argX m c) (argG m c) = x
  generalize argW m c = w
  symm
  pointwise

/-! ## The operations after the call, as functions of the product, the bias and the positions -/

section Functions

/-- Eight heads of 64 from the product, from column `o` on. -/
def heads (o : ℕ) (h : Shape.Slices S128x8x4688 ![0, 0, o] S128x8x512) (p : FVec Ideal S128x8x4688 .f32) : FVec Ideal S128x8x8x64 .f32 :=
  shapeCast S128x8x8x64 (extractStridedSlice S128x8x512 ![0, 0, o] p h : FVec Ideal S128x8x512 .f32) shapeCasts_S128x8x512_S128x8x8x64

/-- The forget gates with their bias, negated. -/
def negated (p : FVec Ideal S128x8x4688 .f32) (b : FVec Ideal S8 .f32) : FVec Ideal S128x8x8 .f32 :=
  Host.negf (addf (extractStridedSlice S128x8x8 ![0, 0, 1536] p slices_S128x8x4688_S128x8x8_0_0_1536)
    (broadcastInDim S128x8x8 ![0, 1, 2] bcast_S1x1x8_S128x8x8_0_1_2 (broadcastInDim S1x1x8 ![2] bcast_S8_S1x1x8_2 b)))

def zeros : FVec Ideal S128x8x8 .f32 := broadcastInDim S128x8x8 ![] bcast_S_S128x8x8 (constant S_ .f32 0x00000000#32)

/-- The logarithms of the forget gates. -/
def logs (p : FVec Ideal S128x8x4688 .f32) (b : FVec Ideal S8 .f32) : FVec Ideal S128x8x8 .f32 :=
  Host.negf (select (cmpf .une (subf (negated p b) zeros) (subf (negated p b) zeros)) (addf (negated p b) zeros)
    (addf (maximumf (negated p b) zeros) (Host.log1p (Host.exp (Host.negf (Host.absf (subf (negated p b) zeros)))))))

/-- The angles by which the positions turn. -/
def angles (p : IVec S8 32) : FVec Ideal S8x8 .f32 :=
  mulf (broadcastInDim S8x8 ![0, 1] bcast_S8x1_S8x8_0_1 (broadcastInDim S8x1 ![0] bcast_S8_S8x1_0 (sitofp .f32 p)))
    (broadcastInDim S8x8 ![0, 1] bcast_S1x8_S8x8_0_1 (broadcastInDim S1x8 ![1] bcast_S8_S1x8_1
      (Host.powf (broadcastInDim S8 ![] bcast_S_S8 (constant S_ .f32 0x48F42400#32))
        (Host.divf (mulf (broadcastInDim S8 ![] bcast_S_S8 (constant S_ .f32 0xC0000000#32)) (sitofp .f32 (iotaInDim S8 32 0)))
          (broadcastInDim S8 ![] bcast_S_S8 (constant S_ .f32 0x41800000#32))))))

/-- A number for each position and each of the eight pairs, for every row of every head. -/
def spread8 (a : FVec Ideal S8x8 .f32) : FVec Ideal S128x8x8x8 .f32 :=
  broadcastInDim S128x8x8x8 ![0, 1, 2, 3] bcast_S1x8x1x8_S128x8x8x8_0_1_2_3
    (broadcastInDim S1x8x1x8 ![1, 2, 3] bcast_S8x1x8_S1x8x1x8_1_2_3 (broadcastInDim S8x1x8 ![0, 2] bcast_S8x8_S8x1x8_0_2 a))

/-- A number for each position and each of the eight pairs, for every row of one head. -/
def spread1 (a : FVec Ideal S8x8 .f32) : FVec Ideal S128x8x1x8 .f32 :=
  broadcastInDim S128x8x1x8 ![0, 1, 2, 3] bcast_S1x8x1x8_S128x8x1x8_0_1_2_3
    (broadcastInDim S1x8x1x8 ![1, 2, 3] bcast_S8x1x8_S1x8x1x8_1_2_3 (broadcastInDim S8x1x8 ![0, 2] bcast_S8x8_S8x1x8_0_2 a))

/-- The turn of the heads by the angles: of each row of 64 the first eight entries with the second eight, the rest as they are. -/
def turned8 (u : FVec Ideal S128x8x8x64 .f32) (p : IVec S8 32) : FVec Ideal S128x8x8x64 .f32 :=
  concatenate S128x8x8x64 3
    [⟨S128x8x8x8, (subf (mulf (extractStridedSlice S128x8x8x8 ![0, 0, 0, 0] u slices_S128x8x8x64_S128x8x8x8_0_0_0_0) (spread8 (Host.cos (angles p))))
        (mulf (extractStridedSlice S128x8x8x8 ![0, 0, 0, 8] u slices_S128x8x8x64_S128x8x8x8_0_0_0_8) (spread8 (Host.sin (angles p)))) : FVec Ideal S128x8x8x8 .f32)⟩,
      ⟨S128x8x8x8, (addf (mulf (extractStridedSlice S128x8x8x8 ![0, 0, 0, 8] u slices_S128x8x8x64_S128x8x8x8_0_0_0_8) (spread8 (Host.cos (angles p))))
        (mulf (extractStridedSlice S128x8x8x8 ![0, 0, 0, 0] u slices_S128x8x8x64_S128x8x8x8_0_0_0_0) (spread8 (Host.sin (angles p)))) : FVec Ideal S128x8x8x8 .f32)⟩,
      ⟨S128x8x8x48, (extractStridedSlice S128x8x8x48 ![0, 0, 0, 16] u slices_S128x8x8x64_S128x8x8x48_0_0_0_16 : FVec Ideal S128x8x8x48 .f32)⟩]
    concatenates_S128x8x8x8_S128x8x8x8_S128x8x8x48_S128x8x8x64_d3

/-- The turn of one head by the angles: of each row of 64 the first eight entries with the second eight, the rest as they are. -/
def turned1 (u : FVec Ideal S128x8x1x64 .f32) (p : IVec S8 32) : FVec Ideal S128x8x1x64 .f32 :=
  concatenate S128x8x1x64 3
    [⟨S128x8x1x8, (subf (mulf (extractStridedSlice S128x8x1x8 ![0, 0, 0, 0] u slices_S128x8x1x64_S128x8x1x8_0_0_0_0) (spread1 (Host.cos (angles p))))
        (mulf (extractStridedSlice S128x8x1x8 ![0, 0, 0, 8] u slices_S128x8x1x64_S128x8x1x8_0_0_0_8) (spread1 (Host.sin (angles p)))) : FVec Ideal S128x8x1x8 .f32)⟩,
      ⟨S128x8x1x8, (addf (mulf (extractStridedSlice S128x8x1x8 ![0, 0, 0, 8] u slices_S128x8x1x64_S128x8x1x8_0_0_0_8) (spread1 (Host.cos (angles p))))
        (mulf (extractStridedSlice S128x8x1x8 ![0, 0, 0, 0] u slices_S128x8x1x64_S128x8x1x8_0_0_0_0) (spread1 (Host.sin (angles p)))) : FVec Ideal S128x8x1x8 .f32)⟩,
      ⟨S128x8x1x48, (extractStridedSlice S128x8x1x48 ![0, 0, 0, 16] u slices_S128x8x1x64_S128x8x1x48_0_0_0_16 : FVec Ideal S128x8x1x48 .f32)⟩]
    concatenates_S128x8x1x8_S128x8x1x8_S128x8x1x48_S128x8x1x64_d3

/-- The sparse attention's keys. -/
def keys (p : FVec Ideal S128x8x4688 .f32) (q : IVec S8 32) : FVec Ideal S128x8x8x64 .f32 :=
  turned8 (heads 2568 slices_S128x8x4688_S128x8x512_0_0_2568 p) q

/-- The indexer's keys. -/
def idxKeys (p : FVec Ideal S128x8x4688 .f32) (q : IVec S8 32) : FVec Ideal S128x8x64 .f32 :=
  shapeCast S128x8x64 (turned1 (broadcastInDim S128x8x1x64 ![0, 1, 3] bcast_S128x8x64_S128x8x1x64_0_1_3
    (extractStridedSlice S128x8x64 ![0, 0, 4616] p slices_S128x8x4688_S128x8x64_0_0_4616)) q) shapeCasts_S128x8x1x64_S128x8x64

end Functions

/-! ## What the kernel's operations leave -/

section Tail

variable (W : Valuation τ sig (Elt Ideal))

/-- The product that the call leaves, less its last columns, in the layout of the hidden state. -/
def kept : FVec Ideal S128x8x4688 .f32 :=
  shapeCast S128x8x4688 (extractStridedSlice S1024x4688 ![0, 0] (W (Proc.devRef .tc main_v19) : FVec Ideal S1024x4736 .f32)
    slices_S1024x4736_S1024x4688_0_0 : FVec Ideal S1024x4688 .f32) shapeCasts_S1024x4688_S128x8x4688

/-- The forgetting attention's keys. -/
theorem row0 : StableHlo.after (List.flatten [hostOps1, hostOps1_1, hostOps1_2]) W (Proc.devRef .tc main_v111)
    = heads 512 slices_S128x8x4688_S128x8x512_0_0_512 (kept W) := by
  show StableHlo.after (hostOps1 ++ (hostOps1_1 ++ hostOps1_2)) _ _ = _
  simp only [hostOps1, hostOps1_1, hostOps1_2, List.cons_append, List.nil_append, TRef.binary, TRef.nullary, TRef.ternary, TRef.unary, TRef.toBuf, TRef.ofBuf, cast_eq]
  after_results_simp
  rfl

/-- Its values. -/
theorem row1 : StableHlo.after (List.flatten [hostOps1, hostOps1_1, hostOps1_2]) W (Proc.devRef .tc main_v112)
    = heads 1024 slices_S128x8x4688_S128x8x512_0_0_1024 (kept W) := by
  show StableHlo.after (hostOps1 ++ (hostOps1_1 ++ hostOps1_2)) _ _ = _
  simp only [hostOps1, hostOps1_1, hostOps1_2, List.cons_append, List.nil_append, TRef.binary, TRef.nullary, TRef.ternary, TRef.unary, TRef.toBuf, TRef.ofBuf, cast_eq]
  after_results_simp
  rfl

/-- The logarithms of the forget gates. -/
theorem row2 : StableHlo.after (List.flatten [hostOps1, hostOps1_1, hostOps1_2]) W (Proc.devRef .tc main_v37)
    = logs (kept W) (W (Proc.devRef .tc main_arg3)) := by
  show StableHlo.after (hostOps1 ++ (hostOps1_1 ++ hostOps1_2)) _ _ = _
  simp only [hostOps1, hostOps1_1, hostOps1_2, List.cons_append, List.nil_append, TRef.binary, TRef.nullary, TRef.ternary, TRef.unary, TRef.toBuf, TRef.ofBuf, cast_eq]
  after_results_simp
  rfl

/-- The sparse attention's keys, turned by their positions. -/
theorem row3 : StableHlo.after (List.flatten [hostOps1, hostOps1_1, hostOps1_2]) W (Proc.devRef .tc main_v73)
    = keys (kept W) (W (Proc.devRef .tc main_v15)) := by
  show StableHlo.after (hostOps1 ++ (hostOps1_1 ++ hostOps1_2)) _ _ = _
  simp only [hostOps1, hostOps1_1, hostOps1_2, List.cons_append, List.nil_append, TRef.binary, TRef.nullary, TRef.ternary, TRef.unary, TRef.toBuf, TRef.ofBuf, cast_eq]
  after_results_simp
  dsimp only [Matrix.cons_val]
  rfl

/-- Its values. -/
theorem row4 : StableHlo.after (List.flatten [hostOps1, hostOps1_1, hostOps1_2]) W (Proc.devRef .tc main_v113)
    = heads 3080 slices_S128x8x4688_S128x8x512_0_0_3080 (kept W) := by
  show StableHlo.after (hostOps1 ++ (hostOps1_1 ++ hostOps1_2)) _ _ = _
  simp only [hostOps1, hostOps1_1, hostOps1_2, List.cons_append, List.nil_append, TRef.binary, TRef.nullary, TRef.ternary, TRef.unary, TRef.toBuf, TRef.ofBuf, cast_eq]
  after_results_simp
  rfl

/-- The indexer's keys, turned by their positions. -/
theorem row5 : StableHlo.after (List.flatten [hostOps1, hostOps1_1, hostOps1_2]) W (Proc.devRef .tc main_v110)
    = idxKeys (kept W) (W (Proc.devRef .tc main_v15)) := by
  show StableHlo.after (hostOps1 ++ (hostOps1_1 ++ hostOps1_2)) _ _ = _
  simp only [hostOps1, hostOps1_1, hostOps1_2, List.cons_append, List.nil_append, TRef.binary, TRef.nullary, TRef.ternary, TRef.unary, TRef.toBuf, TRef.ofBuf, cast_eq]
  after_results_simp
  dsimp only [Matrix.cons_val]
  rfl

end Tail

/-! ## What the reference's leave -/

section Reference

variable (m' : (ℓ : Loc Cert.Reference7Ideal.nD Cert.Reference7Ideal.τ Cert.Reference7Ideal.sig) → Buf (Elt Ideal) ℓ) (c : Dev nD)

def refX : FVec Ideal S128x8x1024 .f32 := m' ((c.tc : Thread Cert.Reference7Ideal.nD Cert.Reference7Ideal.τ).loc Cert.Reference7Ideal.main_arg0)
def refG : FVec Ideal S1024 .f32 := m' ((c.tc : Thread Cert.Reference7Ideal.nD Cert.Reference7Ideal.τ).loc Cert.Reference7Ideal.main_arg1)
def refW : FVec Ideal S1024x4688 .f32 := m' ((c.tc : Thread Cert.Reference7Ideal.nD Cert.Reference7Ideal.τ).loc Cert.Reference7Ideal.main_arg2)
def refB : FVec Ideal S8 .f32 := m' ((c.tc : Thread Cert.Reference7Ideal.nD Cert.Reference7Ideal.τ).loc Cert.Reference7Ideal.main_arg3)

/-- The reference's product. -/
def refP : FVec Ideal S128x8x4688 .f32 := projected (refX m' c) (refG m' c) (refW m' c)

/-- The positions. -/
def positions : IVec S8 32 := (addi (broadcastInDim S8 ![] bcast_S_S8 (constantI S_ 32 2048#32)) (iotaInDim S8 32 0) : IVec S8 32)

theorem ref_logs : Cert.Reference7Ideal.Value.res_main_v32 m' c = logs (refP m' c) (refB m' c) := by
  unfold Cert.Reference7Ideal.Value.res_main_v32
  rfl

theorem ref_keys : Cert.Reference7Ideal.Value.res_main_v68 m' c = keys (refP m' c) positions := by
  unfold Cert.Reference7Ideal.Value.res_main_v68
  rfl

theorem ref_idxKeys : Cert.Reference7Ideal.Value.res_main_v105 m' c = idxKeys (refP m' c) positions := by
  unfold Cert.Reference7Ideal.Value.res_main_v105
  rfl

end Reference

/-! ## The two runs -/

section Runs

variable (m : (ℓ : Loc nD τ sig) → Buf (Elt Ideal) ℓ) (c : Dev nD)

/-- The buffers after the call. -/
def after1 : Valuation τ sig (Elt Ideal) :=
  Pipeline.withArrays spec0 c (V0 m c) fun w => (dats m 0 c).arrAt w cfg0.N

theorem kept_after1 : kept (after1 m c) = projected (argX m c) (argG m c) (argW m c) := by
  unfold kept after1
  have e : (Pipeline.withArrays spec0 c (V0 m c) (fun w => (dats m 0 c).arrAt w cfg0.N) (Proc.devRef .tc main_v19) : FVec Ideal S1024x4736 .f32)
      = prod (flat m c) (wide m c) :=
    (Pipeline.withArrays_arr spec0 launch0.win.arr_inj c _ _ 2).trans (final_eq m c)
  rw [e]
  exact projected_eq m c

theorem bias_after1 : after1 m c (Proc.devRef .tc main_arg3) = m ((c.tc : Thread nD τ).loc main_arg3) :=
  (Pipeline.withArrays_of_ne spec0 c (V0 m c) _ main_arg3 (by exact (by decide : ∀ w, Pipeline.arrRef spec0 w ≠ main_arg3))).trans (V_main_arg3 m c)

theorem pos_after1 : (after1 m c (Proc.devRef .tc main_v15) : IVec S8 32) = positions := by
  refine (Pipeline.withArrays_of_ne spec0 c (V0 m c) _ main_v15 (by exact (by decide : ∀ w, Pipeline.arrRef spec0 w ≠ main_v15))).trans ?_
  show StableHlo.after (hostOps0 ++ hostOps0_1) _ _ = _
  simp only [hostOps0, hostOps0_1, List.cons_append, List.nil_append, TRef.binary, TRef.nullary, TRef.ternary, TRef.unary, TRef.toBuf, TRef.ofBuf, cast_eq]
  after_results_simp
  rfl

def argB : FVec Ideal S8 .f32 := m ((c.tc : Thread nD τ).loc main_arg3)

def proj : FVec Ideal S128x8x4688 .f32 := projected (argX m c) (argG m c) (argW m c)

/-- What the kernel leaves in a buffer that an operation after the call writes. -/
theorem left_eq (b : Ref sig .tc) :
    Pipeline.afterTail₀ cfgs (dats m) 0 (V0 m) [hostOps1, hostOps1_1, hostOps1_2] c b
      = StableHlo.after (List.flatten [hostOps1, hostOps1_1, hostOps1_2]) (after1 m c) (Proc.devRef .tc b) := rfl

theorem left0 : Pipeline.afterTail₀ cfgs (dats m) 0 (V0 m) [hostOps1, hostOps1_1, hostOps1_2] c main_v111 = heads 512 slices_S128x8x4688_S128x8x512_0_0_512 (proj m c) := by
  rw [left_eq, row0, kept_after1]
  rfl

theorem left1 : Pipeline.afterTail₀ cfgs (dats m) 0 (V0 m) [hostOps1, hostOps1_1, hostOps1_2] c main_v112 = heads 1024 slices_S128x8x4688_S128x8x512_0_0_1024 (proj m c) := by
  rw [left_eq, row1, kept_after1]
  rfl

theorem left2 : Pipeline.afterTail₀ cfgs (dats m) 0 (V0 m) [hostOps1, hostOps1_1, hostOps1_2] c main_v37 = logs (proj m c) (argB m c) := by
  rw [left_eq, row2, kept_after1, bias_after1]
  rfl

theorem left3 : Pipeline.afterTail₀ cfgs (dats m) 0 (V0 m) [hostOps1, hostOps1_1, hostOps1_2] c main_v73 = keys (proj m c) positions := by
  rw [left_eq, row3, kept_after1, pos_after1]
  rfl

theorem left4 : Pipeline.afterTail₀ cfgs (dats m) 0 (V0 m) [hostOps1, hostOps1_1, hostOps1_2] c main_v113 = heads 3080 slices_S128x8x4688_S128x8x512_0_0_3080 (proj m c) := by
  rw [left_eq, row4, kept_after1]
  rfl

theorem left5 : Pipeline.afterTail₀ cfgs (dats m) 0 (V0 m) [hostOps1, hostOps1_1, hostOps1_2] c main_v110 = idxKeys (proj m c) positions := by
  rw [left_eq, row5, kept_after1, pos_after1]
  rfl

end Runs

/-- The kernel's run and the reference's leave the same rows. -/
theorem algebraic : Cert.algebraic_Kernel7Ideal_Reference7Ideal (hKernel7Ideal := facts) (hReference7Ideal := Cert.Reference7Ideal.Gen.facts) := by
  intro m g m' g' _ hargs
  refine ⟨fun c => heads 512 slices_S128x8x4688_S128x8x512_0_0_512 (proj m c),
    fun c => heads 1024 slices_S128x8x4688_S128x8x512_0_0_1024 (proj m c),
    fun c => logs (proj m c) (argB m c),
    fun c => keys (proj m c) positions,
    fun c => heads 3080 slices_S128x8x4688_S128x8x512_0_0_3080 (proj m c),
    fun c => idxKeys (proj m c) positions, ?_, ?_⟩
  · exact (θ_run defs _ _).mono (fun r h c => ⟨((h.1 c).2 main_v111 (Pipeline.mem_restRefs_of main_v111 (by decide) (by decide))).trans (left0 m c),
      ((h.1 c).2 main_v112 (Pipeline.mem_restRefs_of main_v112 (by decide) (by decide))).trans (left1 m c),
      ((h.1 c).2 main_v37 (Pipeline.mem_restRefs_of main_v37 (by decide) (by decide))).trans (left2 m c),
      ((h.1 c).2 main_v73 (Pipeline.mem_restRefs_of main_v73 (by decide) (by decide))).trans (left3 m c),
      ((h.1 c).2 main_v113 (Pipeline.mem_restRefs_of main_v113 (by decide) (by decide))).trans (left4 m c),
      ((h.1 c).2 main_v110 (Pipeline.mem_restRefs_of main_v110 (by decide) (by decide))).trans (left5 m c),
      h.2.1 c⟩) (θ_run_and (run_main m g) (frame m g))
  · refine (θ_run Cert.Reference7Ideal.defs _ _).mono (fun r h c => ?_) (Cert.Reference7Ideal.Value.run (F := Ideal) m' g')
    have hp : refP m' c = proj m c := by
      show projected (refX m' c) (refG m' c) (refW m' c) = projected (argX m c) (argG m c) (argW m c)
      rw [show refX m' c = argX m c from (hargs c).1, show refG m' c = argG m c from (hargs c).2.1,
        show refW m' c = argW m c from (hargs c).2.2.1]
    have hb : refB m' c = argB m c := (hargs c).2.2.2
    obtain ⟨h0, h1, h2, h3, h4, h5, kept⟩ := h c
    refine ⟨h0.trans ?_, h1.trans ?_, h2.trans ?_, h3.trans ?_, h4.trans ?_, h5.trans ?_, kept⟩
    · exact congrArg (heads 512 slices_S128x8x4688_S128x8x512_0_0_512) hp
    · exact congrArg (heads 1024 slices_S128x8x4688_S128x8x512_0_0_1024) hp
    · rw [ref_logs, hp, hb]
    · rw [ref_keys, hp]
    · exact congrArg (heads 3080 slices_S128x8x4688_S128x8x512_0_0_3080) hp
    · rw [ref_idxKeys, hp]

theorem reference : Cert.quiescent_Reference7Ideal (hReference7Ideal := Cert.Reference7Ideal.Gen.facts) :=
  fun m g _ => (θ_run Cert.Reference7Ideal.defs _ _).mono
    (fun r h => ⟨fun c => (h c).2.2.2.2.2.2, sem_eq_zero_of_no_sems (by decide) r.2⟩) (Cert.Reference7Ideal.Value.run (F := Ideal) m g)

end Cert.Kernel7Ideal.Even

end
-- ==== Proof.Wkv8Spec.lean ====
/-
  The tokens of one head where a row has eight of them.
-/
module

public import proofs.«01_k».proof.Proof.WkvSpec

@[expose] public section

noncomputable section

namespace Cert.Wkv

/-- The tokens one head's rows give, by number. -/
def argTok8 (r w k v kk a : Fin 8 → Fin 64 → EReal) (t : ℕ) : Tok :=
  let n : Fin 8 := ⟨t % 8, Nat.mod_lt _ (by decide)⟩
  ⟨r n, w n, k n, v n, fun j => - kk n j, fun j => kk n j * a n j⟩

theorem argTok8_of_lt (r w k v kk a : Fin 8 → Fin 64 → EReal) (t : Fin 8) :
    argTok8 r w k v kk a t.val = ⟨r t, w t, k t, v t, fun j => - kk t j, fun j => kk t j * a t j⟩ := by
  have e : (⟨t.val % 8, Nat.mod_lt _ (by decide)⟩ : Fin 8) = t := Fin.ext (Nat.mod_eq_of_lt t.isLt)
  unfold argTok8
  rw [e]

end Cert.Wkv

end
-- ==== Proof.Wkv8Pay.lean ====
/-
  What one head of one trip of the token loop computes, as one function of the values it loads, and that function at
  an index.
-/
module

public import proofs.«01_k».proof.Proof.Wkv8Spec
public import proofs.«01_k».proof.Proof.Gen.Kernel8Ideal.Skeleton
public import Idealize.ShloMosaic.Lib.Pointwise

@[expose] public section

set_option maxRecDepth 16384

noncomputable section

namespace Cert.Kernel8Ideal.Wkv

open Idealize.ShloMosaic Idealize.ShloMosaic.TcCoe
open Cert.Kernel8Ideal Cert.Kernel8Ideal.Gen Cert.Wkv

variable {F : FTy → Type} [FloatOps F]

/-- The state a head's trip stores, from the state it loads and the token's rows. -/
abbrev slabOut (s : Vec F S1x64x64 .f32) (nk ka w k v : Vec F S1x1x1x64 .f32) : FVec F S1x64x64 .f32 :=
  k0_pay12 (k0_pay8 s nk ka w) (k0_pay9 k0_pay2 v) (k0_pay10 k)

/-- The output row a head's trip stores, from the same values and the row `r`. -/
abbrev rowOut (s : Vec F S1x64x64 .f32) (nk ka w k v r : Vec F S1x1x1x64 .f32) : FVec F S1x1x1x64 .f32 :=
  k0_pay13 k0_pay2 (k0_pay7 r) (k0_pay8 s nk ka w) (k0_pay9 k0_pay2 v) (k0_pay10 k)

/-- The token the rows loaded for one head name. -/
abbrev tokOf (r w k v nk ka : Vec Ideal S1x1x1x64 .f32) : Tok :=
  ⟨fun j => r (ix4 0 0 0 j), fun j => w (ix4 0 0 0 j), fun j => k (ix4 0 0 0 j), fun j => v (ix4 0 0 0 j),
    fun j => nk (ix4 0 0 0 j), fun j => ka (ix4 0 0 0 j)⟩

/-- The identity matrix of the kernel at an index. -/
theorem eye_apply (i j : Fin 64) : k0_pay2 (F := Ideal) (ix2 i j) = if i = j then (1 : EReal) else 0 := by
  pointwise [k0_pay2]
  rcases eq_or_ne i j with rfl | h
  · simp [IntOp.cmpi, FloatOps.sitofp]
  · have h' : ¬ BitVec.ofNat 32 i.val = BitVec.ofNat 32 j.val := fun e => h (Fin.ext (by
      have e' := congrArg BitVec.toNat e
      simp only [BitVec.toNat_ofNat] at e'
      omega))
    have hb : (BitVec.ofNat 32 i.val == BitVec.ofNat 32 j.val) = false := beq_eq_false_iff_ne.mpr h'
    simp [IntOp.cmpi, FloatOps.sitofp, h, hb]

theorem slabOut_apply (s : Vec Ideal S1x64x64 .f32) (nk ka w k v r : Vec Ideal S1x1x1x64 .f32) (i j : Fin 64) :
    slabOut s nk ka w k v (ix3 0 i j) = next (fun i j => s (ix3 0 i j)) (tokOf r w k v nk ka) i j := by
  pointwise [k0_pay12, k0_pay11, k0_pay8, k0_pay9, k0_pay10]
  simp only [eye_apply, sum_eye]
  rfl

theorem rowOut_apply (s : Vec Ideal S1x64x64 .f32) (nk ka w k v r : Vec Ideal S1x1x1x64 .f32) (i : Fin 64) :
    rowOut s nk ka w k v r (ix4 0 0 0 i)
      = ∑ j, next (fun i j => s (ix3 0 i j)) (tokOf r w k v nk ka) i j * (tokOf r w k v nk ka).r j := by
  pointwise [k0_pay13, k0_pay7, k0_pay12, k0_pay11, k0_pay8, k0_pay9, k0_pay10]
  simp only [eye_apply, sum_eye, eq_comm (b := i)]
  rfl

end Cert.Kernel8Ideal.Wkv
-- ==== Proof.Wkv8Trip.lean ====
/-
  The token loop of the recurrence's kernel: what one trip stores, the state and the output rows after any number of
  trips as functions of the blocks and of the state the loop starts from, and the loop's invariant.
-/
module

public import proofs.«01_k».proof.Proof.Wkv8Pay
public import proofs.«01_k».proof.Proof.Gen.Kernel8Ideal.Loops
public import Idealize.ShloMosaic.Lib.Pipeline.ValueKit.Tiles

@[expose] public section

set_option maxRecDepth 16384

noncomputable section

namespace Cert.Kernel8Ideal.Wkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel8Ideal.Gen

variable {F : FTy → Type} [FloatOps F]

local notation "𝕄G" => MT nD τ sig Unit (Elt F) ℕ (UR sig nD τ) ℕ

/-! ## One trip as a function -/

/-- The six blocks of tokens a grid point reads. -/
structure Blk (F : FTy → Type) [FloatOps F] where
  r : Vec F S1x8x8x64 .f32
  w : Vec F S1x8x8x64 .f32
  k : Vec F S1x8x8x64 .f32
  v : Vec F S1x8x8x64 .f32
  nk : Vec F S1x8x8x64 .f32
  ka : Vec F S1x8x8x64 .f32

/-- The loop makes 8 trips, one per token of a block. -/
theorem trips_eq : k0_t1_loop.trips = 8 := by decide

/-- Head `h`'s row of a block at token `t`. -/
def tokRow (x : Vec F S1x8x8x64 .f32) (h : Fin 8) (t : Fin 8) : Vec F S1x1x1x64 .f32 := fun y => x (ix4 0 h t (y 3))

/-- Head `h`'s slab of the state. -/
def slab (S : Vec F S8x64x64 .f32) (h : Fin 8) : Vec F S1x64x64 .f32 := fun y => S (ix3 h (y 1) (y 2))

/-- The state after token `t`. -/
def stepS (B : Blk F) (S : Vec F S8x64x64 .f32) (t : Fin 8) : Vec F S8x64x64 .f32 := fun y =>
  slabOut (slab S (y 0)) (tokRow B.nk (y 0) t) (tokRow B.ka (y 0) t) (tokRow B.w (y 0) t) (tokRow B.k (y 0) t)
    (tokRow B.v (y 0) t) (ix3 0 (y 1) (y 2))

/-- The output at an index, from the state before its token. -/
def rowS (B : Blk F) (S : Vec F S8x64x64 .f32) (y : S1x8x8x64.Idx) : Elt F .f32 :=
  rowOut (slab S (y 1)) (tokRow B.nk (y 1) (y 2)) (tokRow B.ka (y 1) (y 2)) (tokRow B.w (y 1) (y 2))
    (tokRow B.k (y 1) (y 2)) (tokRow B.v (y 1) (y 2)) (tokRow B.r (y 1) (y 2)) (ix4 0 0 0 (y 3))

/-- The state after the first `n` tokens of the block. -/
def stateS (B : Blk F) (S : Vec F S8x64x64 .f32) : ℕ → Vec F S8x64x64 .f32
  | 0 => S
  | n + 1 => if h : n < 8 then stepS B (stateS B S n) ⟨n, h⟩ else stateS B S n

theorem stateS_succ (B : Blk F) (S : Vec F S8x64x64 .f32) (n : ℕ) (h : n < 8) :
    stateS B S (n + 1) = stepS B (stateS B S n) ⟨n, h⟩ := dif_pos h

/-- The block of outputs. -/
def outS (B : Blk F) (S : Vec F S8x64x64 .f32) : Vec F S1x8x8x64 .f32 := fun y => rowS B (stateS B S (y 2).val) y

/-! ## The pieces a trip stores -/

/-- A piece of the state: the slab at the offsets `o`, from the rows at the offsets `o'`. -/
def stPiece (B : Blk F) (S : Vec F S8x64x64 .f32) (o : Fin 3 → ℕ) (ho : ∀ a, o a + S1x64x64.size a ≤ S8x64x64.size a)
    (o' : Fin 4 → ℕ) (ho' : ∀ a, o' a + S1x1x1x64.size a ≤ S1x8x8x64.size a) : View.Piece (Elt F) S8x64x64 .f32 :=
  ⟨Rect.unit (s := S8x64x64) o S1x64x64.size ho,
    slabOut (View.ld S (Rect.unit (s := S8x64x64) o S1x64x64.size ho))
      (View.ld B.nk (Rect.unit (s := S1x8x8x64) o' S1x1x1x64.size ho'))
      (View.ld B.ka (Rect.unit (s := S1x8x8x64) o' S1x1x1x64.size ho'))
      (View.ld B.w (Rect.unit (s := S1x8x8x64) o' S1x1x1x64.size ho'))
      (View.ld B.k (Rect.unit (s := S1x8x8x64) o' S1x1x1x64.size ho'))
      (View.ld B.v (Rect.unit (s := S1x8x8x64) o' S1x1x1x64.size ho'))⟩

/-- A piece of the output: the row at the offsets `o'`, from the state's slab at the offsets `o`. -/
def rowPiece (B : Blk F) (S : Vec F S8x64x64 .f32) (o : Fin 3 → ℕ) (ho : ∀ a, o a + S1x64x64.size a ≤ S8x64x64.size a)
    (o' : Fin 4 → ℕ) (ho' : ∀ a, o' a + S1x1x1x64.size a ≤ S1x8x8x64.size a) :
    View.Piece (Elt F) S1x8x8x64 .f32 :=
  ⟨Rect.unit (s := S1x8x8x64) o' S1x1x1x64.size ho',
    rowOut (View.ld S (Rect.unit (s := S8x64x64) o S1x64x64.size ho))
      (View.ld B.nk (Rect.unit (s := S1x8x8x64) o' S1x1x1x64.size ho'))
      (View.ld B.ka (Rect.unit (s := S1x8x8x64) o' S1x1x1x64.size ho'))
      (View.ld B.w (Rect.unit (s := S1x8x8x64) o' S1x1x1x64.size ho'))
      (View.ld B.k (Rect.unit (s := S1x8x8x64) o' S1x1x1x64.size ho'))
      (View.ld B.v (Rect.unit (s := S1x8x8x64) o' S1x1x1x64.size ho'))
      (View.ld B.r (Rect.unit (s := S1x8x8x64) o' S1x1x1x64.size ho'))⟩

/-- The state's pieces of one trip, the last head first. -/
def stPieces (B : Blk F) (S : Vec F S8x64x64 .f32) (k : Fin k0_t1_loop.trips) : List (View.Piece (Elt F) S8x64x64 .f32) :=
  [ stPiece B S ![7, 0, 0] inb_S8x64x64_S1x64x64_7_0_0 (k0_off8 k) (k0_off8_inb k),
    stPiece B S ![6, 0, 0] inb_S8x64x64_S1x64x64_6_0_0 (k0_off7 k) (k0_off7_inb k),
    stPiece B S ![5, 0, 0] inb_S8x64x64_S1x64x64_5_0_0 (k0_off6 k) (k0_off6_inb k),
    stPiece B S ![4, 0, 0] inb_S8x64x64_S1x64x64_4_0_0 (k0_off5 k) (k0_off5_inb k),
    stPiece B S ![3, 0, 0] inb_S8x64x64_S1x64x64_3_0_0 (k0_off4 k) (k0_off4_inb k),
    stPiece B S ![2, 0, 0] inb_S8x64x64_S1x64x64_2_0_0 (k0_off3 k) (k0_off3_inb k),
    stPiece B S ![1, 0, 0] inb_S8x64x64_S1x64x64_1_0_0 (k0_off2 k) (k0_off2_inb k),
    stPiece B S ![0, 0, 0] inb_S8x64x64_S1x64x64_0_0_0 (k0_off1 k) (k0_off1_inb k) ]

/-- The output's pieces of one trip, the last head first. -/
def rowPieces (B : Blk F) (S : Vec F S8x64x64 .f32) (k : Fin k0_t1_loop.trips) : List (View.Piece (Elt F) S1x8x8x64 .f32) :=
  [ rowPiece B S ![7, 0, 0] inb_S8x64x64_S1x64x64_7_0_0 (k0_off8 k) (k0_off8_inb k),
    rowPiece B S ![6, 0, 0] inb_S8x64x64_S1x64x64_6_0_0 (k0_off7 k) (k0_off7_inb k),
    rowPiece B S ![5, 0, 0] inb_S8x64x64_S1x64x64_5_0_0 (k0_off6 k) (k0_off6_inb k),
    rowPiece B S ![4, 0, 0] inb_S8x64x64_S1x64x64_4_0_0 (k0_off5 k) (k0_off5_inb k),
    rowPiece B S ![3, 0, 0] inb_S8x64x64_S1x64x64_3_0_0 (k0_off4 k) (k0_off4_inb k),
    rowPiece B S ![2, 0, 0] inb_S8x64x64_S1x64x64_2_0_0 (k0_off3 k) (k0_off3_inb k),
    rowPiece B S ![1, 0, 0] inb_S8x64x64_S1x64x64_1_0_0 (k0_off2 k) (k0_off2_inb k),
    rowPiece B S ![0, 0, 0] inb_S8x64x64_S1x64x64_0_0_0 (k0_off1 k) (k0_off1_inb k) ]

/-- The output's pieces of the first `n` trips. -/
def rowsL (B : Blk F) (S : Vec F S8x64x64 .f32) : ℕ → List (View.Piece (Elt F) S1x8x8x64 .f32)
  | 0 => []
  | n + 1 => if h : n < k0_t1_loop.trips then rowPieces B (stateS B S n) ⟨n, h⟩ ++ rowsL B S n else rowsL B S n

theorem rowsL_succ (B : Blk F) (S : Vec F S8x64x64 .f32) (k : Fin k0_t1_loop.trips) :
    rowsL B S (k.val + 1) = rowPieces B (stateS B S k.val) k ++ rowsL B S k.val := dif_pos k.isLt

theorem ld_slab (S : Vec F S8x64x64 .f32) (h : Fin 8) (ho) :
    View.ld S (Rect.unit (s := S8x64x64) ![h.val, 0, 0] S1x64x64.size ho) = slab S h := by
  funext y
  refine View.ld_unit_apply_of S _ _ _ y (ix3 h (y 1) (y 2)) fun a => ?_
  have h0 : (y 0).val = 0 := Nat.lt_one_iff.mp (y 0).isLt
  fin_cases a <;> simp [h0] <;> omega

theorem ld_row (x : Vec F S1x8x8x64 .f32) (h : Fin 8) (t : Fin 8) (ho) :
    View.ld x (Rect.unit (s := S1x8x8x64) ![0, h.val, t.val, 0] S1x1x1x64.size ho) = tokRow x h t := by
  funext y
  refine View.ld_unit_apply_of x _ _ _ y (ix4 0 h t (y 3)) fun a => ?_
  have h0 : (y 0).val = 0 := Nat.lt_one_iff.mp (y 0).isLt
  have h1 : (y 1).val = 0 := Nat.lt_one_iff.mp (y 1).isLt
  have h2 : (y 2).val = 0 := Nat.lt_one_iff.mp (y 2).isLt
  fin_cases a <;> simp [h0, h1, h2] <;> omega

theorem stPiece_apply (B : Blk F) (S : Vec F S8x64x64 .f32) (h : Fin 8) (t : Fin 8) {o : Fin 3 → ℕ} {ho} {o' : Fin 4 → ℕ} {ho'}
    (e : o = ![h.val, 0, 0]) (e' : o' = ![0, h.val, t.val, 0]) (z : (stPiece B S o ho o' ho').1.shape.Idx) :
    (stPiece B S o ho o' ho').2 z = stepS B S t ((stPiece B S o ho o' ho').1.emb z) := by
  subst e e'
  have h0 : (z 0).val = 0 := Nat.lt_one_iff.mp (z 0).isLt
  have hy : (stPiece B S ![h.val, 0, 0] ho ![0, h.val, t.val, 0] ho').1.emb z = ix3 h (z 1) (z 2) := by
    funext a; refine Fin.ext ((Rect.idx_unit_val (s := S8x64x64) ![h.val, 0, 0] S1x64x64.size ho z a).trans ?_)
    fin_cases a <;> simp [h0]
  have hz : z = ix3 0 (z 1) (z 2) := by
    funext a; fin_cases a <;> first | rfl | exact Fin.ext h0
  rw [hy]
  show slabOut _ _ _ _ _ _ z = slabOut _ _ _ _ _ _ _
  rw [ld_slab, ld_row, ld_row, ld_row, ld_row, ld_row, hz]
  rfl

theorem rowPiece_apply (B : Blk F) (S : Vec F S8x64x64 .f32) (h : Fin 8) (t : Fin 8) {o : Fin 3 → ℕ} {ho} {o' : Fin 4 → ℕ} {ho'}
    (e : o = ![h.val, 0, 0]) (e' : o' = ![0, h.val, t.val, 0]) (z : (rowPiece B S o ho o' ho').1.shape.Idx) :
    (rowPiece B S o ho o' ho').1.emb z = ix4 0 h t (z 3)
      ∧ (rowPiece B S o ho o' ho').2 z = rowS B S ((rowPiece B S o ho o' ho').1.emb z) := by
  subst e e'
  have h0 : (z 0).val = 0 := Nat.lt_one_iff.mp (z 0).isLt
  have h1 : (z 1).val = 0 := Nat.lt_one_iff.mp (z 1).isLt
  have h2 : (z 2).val = 0 := Nat.lt_one_iff.mp (z 2).isLt
  have hy : (rowPiece B S ![h.val, 0, 0] ho ![0, h.val, t.val, 0] ho').1.emb z = ix4 0 h t (z 3) := by
    funext a; refine Fin.ext ((Rect.idx_unit_val (s := S1x8x8x64) ![0, h.val, t.val, 0] S1x1x1x64.size ho' z a).trans ?_)
    fin_cases a <;> simp [h0, h1, h2]
  have hz : z = ix4 0 0 0 (z 3) := by
    funext a; fin_cases a <;> first | rfl | exact Fin.ext h0 | exact Fin.ext h1 | exact Fin.ext h2
  refine ⟨hy, ?_⟩
  rw [hy]
  show rowOut _ _ _ _ _ _ _ z = rowOut _ _ _ _ _ _ _ _
  rw [ld_slab, ld_row, ld_row, ld_row, ld_row, ld_row, ld_row, hz]
  rfl

end Cert.Kernel8Ideal.Wkv

end
-- ==== Proof.Wkv8Loop.lean ====
/-
  The token loop's invariant: before trip `k` the scratch state reads the state after `k` tokens, and the output block
  holds the rows of the tokens before `k` written over what it held. The rows do not depend on what the block held.
-/
module

public import proofs.«01_k».proof.Proof.Wkv8Trip

@[expose] public section

set_option maxRecDepth 16384

noncomputable section

namespace Cert.Kernel8Ideal.Wkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel8Ideal.Gen

variable {F : FTy → Type} [FloatOps F]

local notation "𝕄G" => MT nD τ sig Unit (Elt F) ℕ (UR sig nD τ) ℕ

/-! ## What a trip's pieces are -/

theorem mem_stPieces (B : Blk F) (S : Vec F S8x64x64 .f32) (k : Fin k0_t1_loop.trips) (p) (hp : p ∈ stPieces B S k) :
    ∃ (h : Fin 8) (o : _) (ho : _) (o' : _) (ho' : _), p = stPiece B S o ho o' ho' ∧ o = ![h.val, 0, 0] ∧ o' = ![0, h.val, k.val, 0] := by
  simp only [stPieces, List.mem_cons, List.not_mem_nil, or_false] at hp
  rcases hp with rfl | rfl | rfl | rfl | rfl | rfl | rfl | rfl
  · exact ⟨7, _, _, _, _, rfl, rfl, k0_off8_eq k⟩
  · exact ⟨6, _, _, _, _, rfl, rfl, k0_off7_eq k⟩
  · exact ⟨5, _, _, _, _, rfl, rfl, k0_off6_eq k⟩
  · exact ⟨4, _, _, _, _, rfl, rfl, k0_off5_eq k⟩
  · exact ⟨3, _, _, _, _, rfl, rfl, k0_off4_eq k⟩
  · exact ⟨2, _, _, _, _, rfl, rfl, k0_off3_eq k⟩
  · exact ⟨1, _, _, _, _, rfl, rfl, k0_off2_eq k⟩
  · exact ⟨0, _, _, _, _, rfl, rfl, k0_off1_eq k⟩

theorem mem_rowPieces (B : Blk F) (S : Vec F S8x64x64 .f32) (k : Fin k0_t1_loop.trips) (p) (hp : p ∈ rowPieces B S k) :
    ∃ (h : Fin 8) (o : _) (ho : _) (o' : _) (ho' : _), p = rowPiece B S o ho o' ho' ∧ o = ![h.val, 0, 0] ∧ o' = ![0, h.val, k.val, 0] := by
  simp only [rowPieces, List.mem_cons, List.not_mem_nil, or_false] at hp
  rcases hp with rfl | rfl | rfl | rfl | rfl | rfl | rfl | rfl
  · exact ⟨7, _, _, _, _, rfl, rfl, k0_off8_eq k⟩
  · exact ⟨6, _, _, _, _, rfl, rfl, k0_off7_eq k⟩
  · exact ⟨5, _, _, _, _, rfl, rfl, k0_off6_eq k⟩
  · exact ⟨4, _, _, _, _, rfl, rfl, k0_off5_eq k⟩
  · exact ⟨3, _, _, _, _, rfl, rfl, k0_off4_eq k⟩
  · exact ⟨2, _, _, _, _, rfl, rfl, k0_off3_eq k⟩
  · exact ⟨1, _, _, _, _, rfl, rfl, k0_off2_eq k⟩
  · exact ⟨0, _, _, _, _, rfl, rfl, k0_off1_eq k⟩

theorem stPieces_at (B : Blk F) (S : Vec F S8x64x64 .f32) (k : Fin k0_t1_loop.trips) (h : Fin 8) :
    ∃ (o : _) (ho : _) (o' : _) (ho' : _), stPiece B S o ho o' ho' ∈ stPieces B S k ∧ o = ![h.val, 0, 0] := by
  fin_cases h
  · exact ⟨_, inb_S8x64x64_S1x64x64_0_0_0, _, k0_off1_inb k, by simp [stPieces], rfl⟩
  · exact ⟨_, inb_S8x64x64_S1x64x64_1_0_0, _, k0_off2_inb k, by simp [stPieces], rfl⟩
  · exact ⟨_, inb_S8x64x64_S1x64x64_2_0_0, _, k0_off3_inb k, by simp [stPieces], rfl⟩
  · exact ⟨_, inb_S8x64x64_S1x64x64_3_0_0, _, k0_off4_inb k, by simp [stPieces], rfl⟩
  · exact ⟨_, inb_S8x64x64_S1x64x64_4_0_0, _, k0_off5_inb k, by simp [stPieces], rfl⟩
  · exact ⟨_, inb_S8x64x64_S1x64x64_5_0_0, _, k0_off6_inb k, by simp [stPieces], rfl⟩
  · exact ⟨_, inb_S8x64x64_S1x64x64_6_0_0, _, k0_off7_inb k, by simp [stPieces], rfl⟩
  · exact ⟨_, inb_S8x64x64_S1x64x64_7_0_0, _, k0_off8_inb k, by simp [stPieces], rfl⟩

theorem rowPieces_at (B : Blk F) (S : Vec F S8x64x64 .f32) (k : Fin k0_t1_loop.trips) (h : Fin 8) :
    ∃ (o : _) (ho : _) (o' : _) (ho' : _), rowPiece B S o ho o' ho' ∈ rowPieces B S k ∧ o' = ![0, h.val, k.val, 0] := by
  fin_cases h
  · exact ⟨_, inb_S8x64x64_S1x64x64_0_0_0, _, k0_off1_inb k, by simp [rowPieces], k0_off1_eq k⟩
  · exact ⟨_, inb_S8x64x64_S1x64x64_1_0_0, _, k0_off2_inb k, by simp [rowPieces], k0_off2_eq k⟩
  · exact ⟨_, inb_S8x64x64_S1x64x64_2_0_0, _, k0_off3_inb k, by simp [rowPieces], k0_off3_eq k⟩
  · exact ⟨_, inb_S8x64x64_S1x64x64_3_0_0, _, k0_off4_inb k, by simp [rowPieces], k0_off4_eq k⟩
  · exact ⟨_, inb_S8x64x64_S1x64x64_4_0_0, _, k0_off5_inb k, by simp [rowPieces], k0_off5_eq k⟩
  · exact ⟨_, inb_S8x64x64_S1x64x64_5_0_0, _, k0_off6_inb k, by simp [rowPieces], k0_off6_eq k⟩
  · exact ⟨_, inb_S8x64x64_S1x64x64_6_0_0, _, k0_off7_inb k, by simp [rowPieces], k0_off7_eq k⟩
  · exact ⟨_, inb_S8x64x64_S1x64x64_7_0_0, _, k0_off8_inb k, by simp [rowPieces], k0_off8_eq k⟩

/-- After a trip's stores the scratch reads the next state. -/
theorem read_stPieces (v : View sig .tc .vmem S8x64x64 .f32) (f : BufTy.Contents (Elt F) v.ty) (B : Blk F) (S : Vec F S8x64x64 .f32)
    (k : Fin k0_t1_loop.trips) (hk : k.val < 8) :
    v.read (Elt F) (v.writes (Elt F) f (stPieces B S k)) = stepS B S ⟨k.val, hk⟩ := by
  funext y
  refine View.read_writes_apply_of_pieces (Val := Elt F) (v := v) (f := f) (stepS B S ⟨k.val, hk⟩) _ ?_ y ?_
  · intro p hp z
    obtain ⟨h, o, ho, o', ho', rfl, e, e'⟩ := mem_stPieces B S k p hp
    exact stPiece_apply B S h ⟨k.val, hk⟩ e e' z
  · obtain ⟨o, ho, o', ho', hm, rfl⟩ := stPieces_at B S k (y 0)
    refine ⟨_, hm, ?_⟩
    show y ∈ (Rect.unit (s := S8x64x64) ![(y 0).val, 0, 0] S1x64x64.size ho).set
    refine Rect.mem_set_unit.mpr fun a => ?_
    fin_cases a
    · exact ⟨le_refl _, Nat.lt_succ_self _⟩
    · exact ⟨Nat.zero_le _, by simpa using (y 1).isLt⟩
    · exact ⟨Nat.zero_le _, by simpa using (y 2).isLt⟩

/-- After all trips' stores the output block reads the block of outputs. -/
theorem read_rowsL (v : View sig .tc .vmem S1x8x8x64 .f32) (f : BufTy.Contents (Elt F) v.ty) (B : Blk F) (S : Vec F S8x64x64 .f32) :
    v.read (Elt F) (v.writes (Elt F) f (rowsL B S k0_t1_loop.trips)) = outS B S := by
  have hG : ∀ n ≤ k0_t1_loop.trips, ∀ p ∈ rowsL B S n, ∀ z, p.2 z = outS B S (p.1.emb z) := by
    intro n
    induction n with
    | zero => intro _ p hp; exact absurd hp List.not_mem_nil
    | succ n ih =>
      intro hn p hp z
      rw [rowsL_succ B S ⟨n, hn⟩, List.mem_append] at hp
      rcases hp with hp | hp
      · obtain ⟨h, o, ho, o', ho', rfl, e, e'⟩ := mem_rowPieces B _ _ p hp
        have hn' : n < 8 := by rw [trips_eq] at hn; exact hn
        obtain ⟨h1, h2⟩ := rowPiece_apply B (stateS B S n) h ⟨n, hn'⟩ (ho := ho) (ho' := ho') e e' z
        rw [h2]
        show rowS B (stateS B S n) _ = rowS B (stateS B S (((rowPiece B (stateS B S n) o ho o' ho').1.emb z) 2).val) _
        rw [h1]
        rfl
      · exact ih (by omega) p hp z
  have hc : ∀ n ≤ k0_t1_loop.trips, ∀ y : S1x8x8x64.Idx, (y 2).val < n → ∃ p ∈ rowsL B S n, y ∈ p.1.set := by
    intro n
    induction n with
    | zero => intro _ y hy; exact absurd hy (Nat.not_lt_zero _)
    | succ n ih =>
      intro hn y hy
      rw [rowsL_succ B S ⟨n, hn⟩]
      rcases Nat.lt_or_ge (y 2).val n with hl | hl
      · obtain ⟨p, hp, hy⟩ := ih (by omega) y hl
        exact ⟨p, List.mem_append_right _ hp, hy⟩
      · obtain ⟨o, ho, o', ho', hm, rfl⟩ := rowPieces_at B (stateS B S n) ⟨n, hn⟩ (y 1)
        have e : (y 2).val = n := by omega
        refine ⟨_, List.mem_append_left _ hm, ?_⟩
        show y ∈ (Rect.unit (s := S1x8x8x64) ![0, (y 1).val, n, 0] S1x1x1x64.size ho').set
        refine Rect.mem_set_unit.mpr fun a => ?_
        fin_cases a
        · exact ⟨Nat.zero_le _, by simpa using (y 0).isLt⟩
        · exact ⟨le_refl _, Nat.lt_succ_self _⟩
        · exact ⟨e.ge, Nat.lt_succ_of_le e.le⟩
        · exact ⟨Nat.zero_le _, by simpa using (y 3).isLt⟩
  funext y
  exact View.read_writes_apply_of_pieces (Val := Elt F) (v := v) (f := f) (outS B S) _ (hG _ le_rfl) y
    (hc _ le_rfl y (by rw [trips_eq]; exact (y 2).isLt))

/-! ## The invariant -/

variable (𝒱 : Variants) (c : Dev nD) (bd : Option 𝒱.V) (i : grid0.Coords)
  (arg3 : Memref sig .tc .vmem S1x8x8x64 .f32) (harg3 : arg3.IsWhole)
  (arg4 : Memref sig .tc .vmem S1x8x8x64 .f32) (harg4 : arg4.IsWhole)
  (arg5 : Memref sig .tc .vmem S1x8x8x64 .f32) (harg5 : arg5.IsWhole)
  (arg6 : Memref sig .tc .vmem S1x8x8x64 .f32) (harg6 : arg6.IsWhole)
  (arg7 : Memref sig .tc .vmem S1x8x8x64 .f32) (harg7 : arg7.IsWhole)
  (arg8 : Memref sig .tc .vmem S1x8x8x64 .f32) (harg8 : arg8.IsWhole)
  (arg9 : Memref sig .tc .vmem S1x8x64x64 .f32) (harg9 : arg9.IsWhole)
  (arg10 : Memref sig .tc .vmem S1x8x8x64 .f32) (harg10 : arg10.IsWhole)
  (arg11 : Memref sig .tc .vmem S1x8x64x64 .f32) (harg11 : arg11.IsWhole)
  (arg12 : Memref sig .tc .vmem S8x64x64 .f32) (harg12 : arg12.IsWhole)
  (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)

/-- The blocks the six buffers hold. -/
abbrev blkOf : Blk F :=
  ⟨arg3.view.read (Elt F) X3, arg4.view.read (Elt F) X4, arg5.view.read (Elt F) X5, arg6.view.read (Elt F) X6,
    arg7.view.read (Elt F) X7, arg8.view.read (Elt F) X8⟩

/-- What a trip touches: the six blocks, the output block and the state. -/
abbrev Res (f10 : BufTy.Contents (Elt F) arg10.view.ty) (f12 : BufTy.Contents (Elt F) arg12.view.ty) : sProp 𝕄G :=
  iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} X7) ∗ (arg8.view.loc (c : Thread nD τ) ↦[arg8.view.set]{fullShare} X8)
    ∗ (arg10.view.loc (c : Thread nD τ) ↦[arg10.view.set]{fullShare} f10) ∗ (arg12.view.loc (c : Thread nD τ) ↦[arg12.view.set]{fullShare} f12))

/-- One trip, the pieces it stores found by the run. -/
@[irreducible] def tripRun (k : Fin k0_t1_loop.trips) (f10 : BufTy.Contents (Elt F) arg10.view.ty) (f12 : BufTy.Contents (Elt F) arg12.view.ty) :
    Σ' (L10 : List (View.Piece (Elt F) S1x8x8x64 .f32)), { L12 : List (View.Piece (Elt F) S8x64x64 .f32) // ∀ (E : Set ℕ),
      Res (F := F) c arg3 arg4 arg5 arg6 arg7 arg8 arg10 arg12 X3 X4 X5 X6 X7 X8 f10 f12
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 k PUnit.unit)
          (fun _ => Res (F := F) c arg3 arg4 arg5 arg6 arg7 arg8 arg10 arg12 X3 X4 X5 X6 X7 X8
            (arg10.view.writes (Elt F) f10 L10) (arg12.view.writes (Elt F) f12 L12)) } := by
  have hk : k.val < 8 := Nat.lt_of_lt_of_le k.isLt k0_t1_abs.2.1
  refine ⟨?_, ?_, fun E => ?run⟩
  case run =>
    unfold k0_t1_body
    iintro ⟨HR_arg3, HR_arg4, HR_arg5, HR_arg6, HR_arg7, HR_arg8, HW_arg10, HW_arg12⟩
    sl_exec
    sl_step
    sl_close

/-- The pieces the run finds are `rowPieces` and `stPieces`. -/
theorem tripRun_pieces (k : Fin k0_t1_loop.trips) (f10 : BufTy.Contents (Elt F) arg10.view.ty) (f12 : BufTy.Contents (Elt F) arg12.view.ty) :
    (tripRun (F := F) 𝒱 c bd i arg3 harg3 arg4 harg4 arg5 harg5 arg6 harg6 arg7 harg7 arg8 harg8 arg9 harg9 arg10 harg10 arg11 harg11 arg12 harg12 X3 X4 X5 X6 X7 X8 k f10 f12).1
        = rowPieces (blkOf arg3 arg4 arg5 arg6 arg7 arg8 X3 X4 X5 X6 X7 X8) (arg12.view.read (Elt F) f12) k
      ∧ (tripRun (F := F) 𝒱 c bd i arg3 harg3 arg4 harg4 arg5 harg5 arg6 harg6 arg7 harg7 arg8 harg8 arg9 harg9 arg10 harg10 arg11 harg11 arg12 harg12 X3 X4 X5 X6 X7 X8 k f10 f12).2.1
        = stPieces (blkOf arg3 arg4 arg5 arg6 arg7 arg8 X3 X4 X5 X6 X7 X8) (arg12.view.read (Elt F) f12) k := by
  unfold tripRun
  exact ⟨rfl, rfl⟩

/-- The loop's invariant before trip `k`, from an output block holding `G10` and a state `S`. -/
abbrev inv (G10 : BufTy.Contents (Elt F) arg10.view.ty) (S : Vec F S8x64x64 .f32) (k : ℕ) (_u : PUnit) : sProp 𝕄G :=
  iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} X7) ∗ (arg8.view.loc (c : Thread nD τ) ↦[arg8.view.set]{fullShare} X8)
    ∗ (∃ f, (arg10.view.loc (c : Thread nD τ) ↦[arg10.view.set]{fullShare} f)
        ∗ ⌜f = arg10.view.writes (Elt F) G10 (rowsL (blkOf arg3 arg4 arg5 arg6 arg7 arg8 X3 X4 X5 X6 X7 X8) S k)⌝)
    ∗ (∃ f, (arg12.view.loc (c : Thread nD τ) ↦[arg12.view.set]{fullShare} f)
        ∗ ⌜arg12.view.read (Elt F) f = stateS (blkOf arg3 arg4 arg5 arg6 arg7 arg8 X3 X4 X5 X6 X7 X8) S k⌝))

set_option warn.classDefReducibility false in
/-- The loop by its invariant. -/
@[sl_loop] def loopInv (E : Set ℕ) (G10 : BufTy.Contents (Elt F) arg10.view.ty) (S : Vec F S8x64x64 .f32) :
    Gen.LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 where
  inv := inv (F := F) c arg3 arg4 arg5 arg6 arg7 arg8 arg10 arg12 X3 X4 X5 X6 X7 X8 G10 S
  step k acc := by
    iintro ⟨H3, H4, H5, H6, H7, H8, ⟨%f10, H10, %h10⟩, ⟨%f12, H12, %h12⟩⟩
    iapply (wp_wand_r Idealize.ShloMosaic.frame (wpE (defs₀ (F := F)) 𝒱 (c : Thread nD τ) bd) E)
    isplitl [H3 H4 H5 H6 H7 H8 H10 H12]
    · iapply ((tripRun (F := F) 𝒱 c bd i arg3 harg3 arg4 harg4 arg5 harg5 arg6 harg6 arg7 harg7 arg8 harg8 arg9 harg9 arg10 harg10 arg11 harg11 arg12 harg12 X3 X4 X5 X6 X7 X8 k f10 f12).2.2 E)
      isplitl [H3]; · iexact H3
      isplitl [H4]; · iexact H4
      isplitl [H5]; · iexact H5
      isplitl [H6]; · iexact H6
      isplitl [H7]; · iexact H7
      isplitl [H8]; · iexact H8
      isplitl [H10]; · iexact H10
      iexact H12
    · iintro %_ ⟨H3, H4, H5, H6, H7, H8, H10, H12⟩
      isplitl [H3]; · iexact H3
      isplitl [H4]; · iexact H4
      isplitl [H5]; · iexact H5
      isplitl [H6]; · iexact H6
      isplitl [H7]; · iexact H7
      isplitl [H8]; · iexact H8
      isplitl [H10]
      · iexists _; isplitl [H10]; · iexact H10
        ipureintro
        rw [(tripRun_pieces (F := F) 𝒱 c bd i arg3 harg3 arg4 harg4 arg5 harg5 arg6 harg6 arg7 harg7 arg8 harg8 arg9 harg9 arg10 harg10 arg11 harg11 arg12 harg12 X3 X4 X5 X6 X7 X8 k f10 f12).1, h10, h12, rowsL_succ, ← View.writes_append]
      iexists _; isplitl [H12]; · iexact H12
      ipureintro
      have hk : k.val < 8 := Nat.lt_of_lt_of_le k.isLt k0_t1_abs.2.1
      rw [(tripRun_pieces (F := F) 𝒱 c bd i arg3 harg3 arg4 harg4 arg5 harg5 arg6 harg6 arg7 harg7 arg8 harg8 arg9 harg9 arg10 harg10 arg11 harg11 arg12 harg12 X3 X4 X5 X6 X7 X8 k f10 f12).2, read_stPieces _ _ _ _ k hk, h12, stateS_succ _ _ _ hk]

end Cert.Kernel8Ideal.Wkv

end
-- ==== Proof.Wkv8Run.lean ====
/-
  The kernel's body at a grid point, where one block holds a row's eight tokens: it loads the initial state, leaves the
  block of outputs, and stores the state after the tokens.
-/
module

public import proofs.«01_k».proof.Proof.Wkv8Loop
public import proofs.«01_k».proof.Proof.Gen.Kernel8Ideal.Frame.Runs
public import Idealize.ShloMosaic.Lib.VecWindow

@[expose] public section

set_option maxRecDepth 16384

noncomputable section

namespace Cert.Kernel8Ideal.Wkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel8Ideal.Gen

variable {F : FTy → Type} [FloatOps F]

local notation "𝕄" => MT nD τ sig Unit (Elt F) ℕ (UR sig nD τ) ℕ

variable (c : Dev nD) (i : grid0.Coords)
  (arg3 : Memref sig .tc .vmem S1x8x8x64 .f32) (harg3 : arg3.IsWhole)
  (arg4 : Memref sig .tc .vmem S1x8x8x64 .f32) (harg4 : arg4.IsWhole)
  (arg5 : Memref sig .tc .vmem S1x8x8x64 .f32) (harg5 : arg5.IsWhole)
  (arg6 : Memref sig .tc .vmem S1x8x8x64 .f32) (harg6 : arg6.IsWhole)
  (arg7 : Memref sig .tc .vmem S1x8x8x64 .f32) (harg7 : arg7.IsWhole)
  (arg8 : Memref sig .tc .vmem S1x8x8x64 .f32) (harg8 : arg8.IsWhole)
  (arg9 : Memref sig .tc .vmem S1x8x64x64 .f32) (harg9 : arg9.IsWhole)
  (arg10 : Memref sig .tc .vmem S1x8x8x64 .f32) (harg10 : arg10.IsWhole)
  (arg11 : Memref sig .tc .vmem S1x8x64x64 .f32) (harg11 : arg11.IsWhole)
  (arg12 : Memref sig .tc .vmem S8x64x64 .f32) (harg12 : arg12.IsWhole)
  (x0 x1 x2 x3 x4 x5 : Vec F S1x8x8x64 .f32) (x6 : Vec F S1x8x64x64 .f32)

/-- A state stored whole from the initial state's whole block, and read back. -/
theorem read_init {sp sp' : Space} (v : View sig .tc sp S8x64x64 .f32) (v' : View sig .tc sp' S1x8x64x64 .f32) (f : v.ty.Contents (Elt F))
    (f' : v'.ty.Contents (Elt F)) (inb inb' L) :
    v.read (Elt F) (v.writes (Elt F) f (⟨Rect.unit ![0, 0, 0] S8x64x64.size inb, k0_pay1 (v'.readAt (Elt F) (Rect.unit ![0, 0, 0, 0] S1x8x64x64.size inb').toLoadRect f')⟩ :: L))
      = k0_pay1 (v'.read (Elt F) f') := by
  rw [View.read_writes_full, View.readAt_full]

/-- A state read whole, stored whole in the block of the final state, and read back. -/
theorem read_final {sp sp' : Space} (v : View sig .tc sp S1x8x64x64 .f32) (v' : View sig .tc sp' S8x64x64 .f32) (f : v.ty.Contents (Elt F))
    (f' : v'.ty.Contents (Elt F)) (inb inb' L) :
    v.read (Elt F) (v.writes (Elt F) f (⟨Rect.unit ![0, 0, 0, 0] S1x8x64x64.size inb, k0_pay6 (v'.readAt (Elt F) (Rect.unit ![0, 0, 0] S8x64x64.size inb').toLoadRect f')⟩ :: L))
      = k0_pay6 (v'.read (Elt F) f') := by
  rw [View.read_writes_full, View.readAt_full]

/-- Every point. -/
theorem run (hc0 : cond0_0 i) (hc1 : cond0_1 i) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (outS ⟨x0, x1, x2, x3, x4, x5⟩ (k0_pay1 x6)) ∗ owns (c : Thread nD τ) arg11 fullShare (k0_pay6 (stateS ⟨x0, x1, x2, x3, x4, x5⟩ (k0_pay1 x6) 8)) ∗ owns (c : Thread nD τ) arg12 fullShare (stateS ⟨x0, x1, x2, x3, x4, x5⟩ (k0_pay1 x6) 8)) -∗ K ⟨⟩))
      ⊢ wp frame (wpE (defs₀ (F := F)) Variants.none c none) E (cc0_wkv7_scan i arg3 harg3 arg4 harg4 arg5 harg5 arg6 harg6 arg7 harg7 arg8 harg8 arg9 harg9 arg10 harg10 arg11 harg11 arg12 harg12) K := by
  simp only [cc0_wkv7_scan_eq_skeleton]; unfold cc0_wkv7_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
  subst hf0 hf1 hf2 hf3 hf4 hf5 hf6
  sl_exec (disch := first | sl_exact hc0 | sl_exact hc1)
  sl_step
  iapply Hk
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr [H7]; rotate_left; · iexact H7
    ipureintro; exact (read_rowsL _ _ _ _).trans (congrArg (outS _) (read_init _ _ _ _ _ _ _))
  isplitl [H8]
  · iexists _; isplitr [H8]; rotate_left; · iexact H8
    ipureintro; exact (read_final _ _ _ _ _ _ _).trans (congrArg k0_pay6 (hL9.trans (congrArg (fun S => stateS _ S 8) (read_init _ _ _ _ _ _ _))))
  iexists _; isplitr [HS0]; rotate_left; · iexact HS0
  ipureintro; exact hL9.trans (congrArg (fun S => stateS _ S 8) (read_init _ _ _ _ _ _ _))

end Cert.Kernel8Ideal.Wkv

end
-- ==== Proof.Wkv8Frame.lean ====
/-
  The launch: what every grid point leaves (its block of outputs and its heads' final states), the run of the whole
  pipeline, and the frame: the argument arrays end as they began and every semaphore ends at zero. All of it at any
  reading of the floats.
-/
module

public import proofs.«01_k».proof.Proof.Wkv8Run
public import Idealize.ShloMosaic.Lib.Claim

@[expose] public section

set_option maxRecDepth 16384

noncomputable section

namespace Cert.Kernel8Ideal.Wkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six blocks of tokens the body sees at point `t`. -/
def blkAt (c : Dev nD) (t : Fin cfg0.N) : Blk F :=
  ⟨iblk m c 0 t, iblk m c 1 t, iblk m c 2 t, iblk m c 3 t, iblk m c 4 t, iblk m c 5 t⟩

/-- The state the body loads at point `t`. -/
def initAt (c : Dev nD) (t : Fin cfg0.N) : Vec F S8x64x64 .f32 := k0_pay1 (iblk m c 6 t)

/-- The state after the tokens of point `t`. -/
def lastS (c : Dev nD) (t : Fin cfg0.N) : Vec F S8x64x64 .f32 := stateS (blkAt m c t) (initAt m c t) 8

/-- What the pipeline finds and what every point leaves: inputs their blocks, window 7 the block of outputs, window 8 the
    final states. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outS (blkAt m c t) (initAt m c t)
    | ⟨8, _⟩ => k0_pay6 (lastS m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outS (blkAt m c t) (initAt m c t) := by dsimp only [dats]
theorem after0_8 (c : Dev nD) (t : Fin cfg0.N) : (dats m 0 c).after 8 t = k0_pay6 (lastS m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body starts from at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What the body leaves at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = (Pipeline.ΦA spec0 c : sProp 𝕄) from rfl, show (dats m 0 c).Φ t.castSucc = (Pipeline.ΦA spec0 c : sProp 𝕄) from rfl, PhiA0_eq]
  have e0 : (dats m 0 c).leavesExact 0 t = owns (c : Thread nD τ) (ms0_0 t) fullShare (iblk m c 0 t) := by
    unfold Dat.leavesExact; rw [liveAt0_0 t, after0_0]
  have e1 : (dats m 0 c).leavesExact 1 t = owns (c : Thread nD τ) (ms0_1 t) fullShare (iblk m c 1 t) := by
    unfold Dat.leavesExact; rw [liveAt0_1 t, after0_1]
  have e2 : (dats m 0 c).leavesExact 2 t = owns (c : Thread nD τ) (ms0_2 t) fullShare (iblk m c 2 t) := by
    unfold Dat.leavesExact; rw [liveAt0_2 t, after0_2]
  have e3 : (dats m 0 c).leavesExact 3 t = owns (c : Thread nD τ) (ms0_3 t) fullShare (iblk m c 3 t) := by
    unfold Dat.leavesExact; rw [liveAt0_3 t, after0_3]
  have e4 : (dats m 0 c).leavesExact 4 t = owns (c : Thread nD τ) (ms0_4 t) fullShare (iblk m c 4 t) := by
    unfold Dat.leavesExact; rw [liveAt0_4 t, after0_4]
  have e5 : (dats m 0 c).leavesExact 5 t = owns (c : Thread nD τ) (ms0_5 t) fullShare (iblk m c 5 t) := by
    unfold Dat.leavesExact; rw [liveAt0_5 t, after0_5]
  have e6 : (dats m 0 c).leavesExact 6 t = owns (c : Thread nD τ) (ms0_6 t) fullShare (iblk m c 6 t) := by
    unfold Dat.leavesExact; rw [liveAt0_6 t, after0_6]
  have e7 : (dats m 0 c).leavesExact 7 t = owns (c : Thread nD τ) (ms0_7 t) fullShare (outS (blkAt m c t) (initAt m c t)) := by
    unfold Dat.leavesExact; rw [liveAt0_7 t, after0_7]
  have c0 := hcond0_0 t
  have c1 := hcond0_1 t
  have e8 : (dats m 0 c).leavesExact 8 t = owns (c : Thread nD τ) (ms0_8 t) fullShare (k0_pay6 (lastS m c t)) := by
    unfold Dat.leavesExact; rw [liveAt0_8_A t c0 c1, after0_8]
  rw [e0, e1, e2, e3, e4, e5, e6, e7, e8]
  unfold lastS blkAt initAt
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply run c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) c0 c1 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS]; · iexact HS
  iintro ⟨H0, H1, H2, H3, H4, H5, H6, H7, H8, HS⟩
  isplitl [HS Hg]
  · isplitl [HS]; · iexists _; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body as the launch calls it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = (Pipeline.ΦA spec0 c : sProp 𝕄) from rfl]
  try exact Idealize.SL.BI.Entails.refl _

theorem hout (c : Dev nD) : (dats m 0 c).Φ (Fin.last cfg0.N) ⊢ Pipeline.ΦA spec0 c := by
  rw [show (dats m 0 c).Φ (Fin.last cfg0.N) = (Pipeline.ΦA spec0 c : sProp 𝕄) from rfl]
  try exact Idealize.SL.BI.Entails.refl _

set_option backward.isDefEq.respectTransparency.types false in
/-- The launch of the whole pipeline; every semaphore ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel8Ideal.Wkv

end
-- ==== Proof.Wkv8Arrays.lean ====
/-
  The arrays the recurrence's kernel ends with, as functions of its arguments: the final state, and the row of outputs of
  every token, are those of the recurrence of each head over all the tokens.
-/
module

public import proofs.«01_k».proof.Proof.Wkv8Frame
public import Idealize.ShloMosaic.Lib.Pipeline.Value
public import Idealize.ShloMosaic.Lib.StableHlo.RunRead

@[expose] public section

set_option maxRecDepth 16384

noncomputable section

namespace Cert.Kernel8Ideal.Wkv

open Cert.Kernel8Ideal Cert.Kernel8Ideal.Gen Cert.Wkv Idealize.ShloMosaic Idealize.ShloMosaic.TcCoe Idealize.SL.Sem
open Idealize.ShloMosaic.Pipeline (Dat)

section Arrays

variable {F : FTy → Type} [FloatOps F]
variable (m : (ℓ : Loc nD τ sig) → Buf (Elt F) ℓ) (ρ : Dev nD → PrngReg)

/-! ## The arrays after the run, block by block -/

/-- The point that writes an index of the outputs back, and the index's place in its block. -/
def pt7 (i : S128x16x8x64.Idx) : Fin cfg0.N :=
  ⟨2 * (i 0).val + (i 1).val / 8, by
    have h0 : (i 0).val < 128 := (i 0).isLt
    have h1 : (i 1).val < 16 := (i 1).isLt
    have h2 : (i 2).val < 8 := (i 2).isLt
    exact lt_of_lt_of_eq (by omega) N_0.symm⟩

def loc7 (i : S128x16x8x64.Idx) : S1x8x8x64.Idx :=
  ix4 0 ⟨(i 1).val % 8, Nat.mod_lt _ (by decide)⟩ (i 2) (i 3)

/-- The point that writes an index of the final state back, and the index's place in its block. -/
def pt8 (i : S128x16x64x64.Idx) : Fin cfg0.N :=
  ⟨2 * (i 0).val + (i 1).val / 8, by
    have h0 : (i 0).val < 128 := (i 0).isLt
    have h1 : (i 1).val < 16 := (i 1).isLt
    exact lt_of_lt_of_eq (by omega) N_0.symm⟩

def loc8 (i : S128x16x64x64.Idx) : S1x8x64x64.Idx :=
  ix4 0 ⟨(i 1).val % 8, Nat.mod_lt _ (by decide)⟩ (i 2) (i 3)

/-- The outputs' array. -/
def G7 (c : Dev nD) : Buf (Elt F) ((c : Thread nD τ).loc main_v8_0) := fun i =>
  outS (blkAt m c (pt7 i)) (initAt m c (pt7 i)) (loc7 i)

/-- The final states' array. -/
def G8 (c : Dev nD) : Buf (Elt F) ((c : Thread nD τ).loc main_v8_1) := fun i =>
  k0_pay6 (lastS m c (pt8 i)) (loc8 i)

/-- The windows' block numbers at a point. -/
theorem idx_tok : ∀ t : Fin cfg0.N, win0_7.index t = ![t.val / 2, t.val % 2, 0, 0] :=
  (by decide +kernel : ∀ t : Fin grid0.N, win0_7.index t = ![t.val / 2, t.val % 2, 0, 0])

theorem idx_st : ∀ t : Fin cfg0.N, win0_8.index t = ![t.val / 2, t.val % 2, 0, 0] :=
  (by decide +kernel : ∀ t : Fin grid0.N, win0_8.index t = ![t.val / 2, t.val % 2, 0, 0])

theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7]
  have ht : t.val < 256 := lt_of_lt_of_eq t.isLt N_0
  funext y
  have hy0 : (y 0).val < 1 := (y 0).isLt
  have hy1 : (y 1).val < 8 := (y 1).isLt
  have hy2 : (y 2).val < 8 := (y 2).isLt
  have hy3 : (y 3).val < 64 := (y 3).isLt
  have hb0 : (((cfg0.win 7).blk t).view.emb y 0).val = win0_7.index t (0 : Fin 4) * 1 + 1 * (y 0).val := rfl
  have hb1 : (((cfg0.win 7).blk t).view.emb y 1).val = win0_7.index t (1 : Fin 4) * 8 + 1 * (y 1).val := rfl
  have hb2 : (((cfg0.win 7).blk t).view.emb y 2).val = win0_7.index t (2 : Fin 4) * 8 + 1 * (y 2).val := rfl
  have hb3 : (((cfg0.win 7).blk t).view.emb y 3).val = win0_7.index t (3 : Fin 4) * 64 + 1 * (y 3).val := rfl
  have e0 : win0_7.index t (0 : Fin 4) = t.val / 2 := congrFun (idx_tok t) 0
  have e1 : win0_7.index t (1 : Fin 4) = t.val % 2 := congrFun (idx_tok t) 1
  have e2 : win0_7.index t (2 : Fin 4) = 0 := congrFun (idx_tok t) 2
  have e3 : win0_7.index t (3 : Fin 4) = 0 := congrFun (idx_tok t) 3
  have hp : pt7 (((cfg0.win 7).blk t).view.emb y) = t := Fin.ext (by
    show 2 * (((cfg0.win 7).blk t).view.emb y 0).val + (((cfg0.win 7).blk t).view.emb y 1).val / 8 = t.val
    rw [hb0, hb1, e0, e1]; omega)
  have hl : loc7 (((cfg0.win 7).blk t).view.emb y) = (cfg0.win 7).xinj (grid0.coords t) y := by
    funext a; apply Fin.ext
    match a with
    | ⟨0, _⟩ => show 0 = (y 0).val; omega
    | ⟨1, _⟩ => show (((cfg0.win 7).blk t).view.emb y 1).val % 8 = (y 1).val; rw [hb1]; omega
    | ⟨2, _⟩ => show (((cfg0.win 7).blk t).view.emb y 2).val = (y 2).val; rw [hb2, e2]; omega
    | ⟨3, _⟩ => show (((cfg0.win 7).blk t).view.emb y 3).val = (y 3).val; rw [hb3, e3]; omega
  show outS (blkAt m c t) (initAt m c t) ((cfg0.win 7).xinj (grid0.coords t) y) = G7 m c (((cfg0.win 7).blk t).view.emb y)
  unfold G7
  rw [hl, hp]

theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8]
  have ht : t.val < 256 := lt_of_lt_of_eq t.isLt N_0
  funext y
  have hy0 : (y 0).val < 1 := (y 0).isLt
  have hy1 : (y 1).val < 8 := (y 1).isLt
  have hy2 : (y 2).val < 64 := (y 2).isLt
  have hy3 : (y 3).val < 64 := (y 3).isLt
  have hb0 : (((cfg0.win 8).blk t).view.emb y 0).val = win0_8.index t (0 : Fin 4) * 1 + 1 * (y 0).val := rfl
  have hb1 : (((cfg0.win 8).blk t).view.emb y 1).val = win0_8.index t (1 : Fin 4) * 8 + 1 * (y 1).val := rfl
  have hb2 : (((cfg0.win 8).blk t).view.emb y 2).val = win0_8.index t (2 : Fin 4) * 64 + 1 * (y 2).val := rfl
  have hb3 : (((cfg0.win 8).blk t).view.emb y 3).val = win0_8.index t (3 : Fin 4) * 64 + 1 * (y 3).val := rfl
  have e0 : win0_8.index t (0 : Fin 4) = t.val / 2 := congrFun (idx_st t) 0
  have e1 : win0_8.index t (1 : Fin 4) = t.val % 2 := congrFun (idx_st t) 1
  have e2 : win0_8.index t (2 : Fin 4) = 0 := congrFun (idx_st t) 2
  have e3 : win0_8.index t (3 : Fin 4) = 0 := congrFun (idx_st t) 3
  have hp : pt8 (((cfg0.win 8).blk t).view.emb y) = t := Fin.ext (by
    show 2 * (((cfg0.win 8).blk t).view.emb y 0).val + (((cfg0.win 8).blk t).view.emb y 1).val / 8 = t.val
    rw [hb0, hb1, e0, e1]; omega)
  have hl : loc8 (((cfg0.win 8).blk t).view.emb y) = (cfg0.win 8).xinj (grid0.coords t) y := by
    funext a; apply Fin.ext
    match a with
    | ⟨0, _⟩ => show 0 = (y 0).val; omega
    | ⟨1, _⟩ => show (((cfg0.win 8).blk t).view.emb y 1).val % 8 = (y 1).val; rw [hb1]; omega
    | ⟨2, _⟩ => show (((cfg0.win 8).blk t).view.emb y 2).val = (y 2).val; rw [hb2, e2]; omega
    | ⟨3, _⟩ => show (((cfg0.win 8).blk t).view.emb y 3).val = (y 3).val; rw [hb3, e3]; omega
  show k0_pay6 (lastS m c t) ((cfg0.win 8).xinj (grid0.coords t) y) = G8 m c (((cfg0.win 8).blk t).view.emb y)
  unfold G8
  rw [hl, hp]

theorem mem_blk7 (t : Fin cfg0.N) (i : S128x16x8x64.Idx) :
    i ∈ ((cfg0.win 7).blk t).view.set ↔ ∀ a : Fin 4, win0_7.index t a * S1x8x8x64.size a ≤ (i a).val ∧ (i a).val < win0_7.index t a * S1x8x8x64.size a + S1x8x8x64.size a := by
  show i ∈ ((View.whole main_v8_0).slice (win0_7.rect t)).set ↔ _
  rw [View.set_slice_whole, Rect.mem_set_unit]
  exact Iff.rfl

theorem mem_blk8 (t : Fin cfg0.N) (i : S128x16x64x64.Idx) :
    i ∈ ((cfg0.win 8).blk t).view.set ↔ ∀ a : Fin 4, win0_8.index t a * S1x8x64x64.size a ≤ (i a).val ∧ (i a).val < win0_8.index t a * S1x8x64x64.size a + S1x8x64x64.size a := by
  show i ∈ ((View.whole main_v8_1).slice (win0_8.rect t)).set ↔ _
  rw [View.set_slice_whole, Rect.mem_set_unit]
  exact Iff.rfl

/-- Every index of the outputs is written back by its point. -/
theorem final7 (c : Dev nD) : (dats m 0 c).arrAt 7 cfg0.N = G7 m c :=
  (dats m 0 c).arrAt_eq_of_cover 7 _ (fun t hf => flushed7_eq m c t hf) (fun i => by
    have h0 : (i 0).val < 128 := (i 0).isLt
    have h1 : (i 1).val < 16 := (i 1).isLt
    have h2 : (i 2).val < 8 := (i 2).isLt
    have h3 : (i 3).val < 64 := (i 3).isLt
    refine ⟨pt7 i, flush0_7 _, (mem_blk7 _ i).mpr ?_⟩
    have hv : (pt7 i).val = 2 * (i 0).val + (i 1).val / 8 := rfl
    rw [idx_tok]
    intro a
    match a with
    | ⟨0, _⟩ => show (pt7 i).val / 2 * 1 ≤ (i 0).val ∧ (i 0).val < (pt7 i).val / 2 * 1 + 1; omega
    | ⟨1, _⟩ => show (pt7 i).val % 2 * 8 ≤ (i 1).val ∧ (i 1).val < (pt7 i).val % 2 * 8 + 8; omega
    | ⟨2, _⟩ => show 0 * 8 ≤ (i 2).val ∧ (i 2).val < 0 * 8 + 8; omega
    | ⟨3, _⟩ => show 0 * 64 ≤ (i 3).val ∧ (i 3).val < 0 * 64 + 64; omega)

/-- Every index of the final state is written back by its point. -/
theorem final8 (c : Dev nD) : (dats m 0 c).arrAt 8 cfg0.N = G8 m c :=
  (dats m 0 c).arrAt_eq_of_cover 8 _ (fun t hf => flushed8_eq m c t hf) (fun i => by
    have h0 : (i 0).val < 128 := (i 0).isLt
    have h1 : (i 1).val < 16 := (i 1).isLt
    have h2 : (i 2).val < 64 := (i 2).isLt
    have h3 : (i 3).val < 64 := (i 3).isLt
    have hv : (pt8 i).val = 2 * (i 0).val + (i 1).val / 8 := rfl
    refine ⟨pt8 i, flush0_8 _, (mem_blk8 _ i).mpr ?_⟩
    rw [idx_st]
    intro a
    match a with
    | ⟨0, _⟩ => show (pt8 i).val / 2 * 1 ≤ (i 0).val ∧ (i 0).val < (pt8 i).val / 2 * 1 + 1; omega
    | ⟨1, _⟩ => show (pt8 i).val % 2 * 8 ≤ (i 1).val ∧ (i 1).val < (pt8 i).val % 2 * 8 + 8; omega
    | ⟨2, _⟩ => show 0 * 64 ≤ (i 2).val ∧ (i 2).val < 0 * 64 + 64; omega
    | ⟨3, _⟩ => show 0 * 64 ≤ (i 3).val ∧ (i 3).val < 0 * 64 + 64; omega)

/-- The run, with the arrays it ends with. -/
theorem run_arrays : θ_run defs (onTc (τ := τ) (main (F := F))) ⟨m, fun _ => 0, ρ⟩ fun r => ∀ c : Dev nD,
      r.2.mem ((c : Thread nD τ).loc main_v8_1) = G8 m c ∧ r.2.mem ((c : Thread nD τ).loc main_v8_0) = G7 m c :=
  (θ_run defs _ _).mono (fun r h c => ⟨((h c).1 8).trans (final8 m c), ((h c).1 7).trans (final7 m c)⟩) (run_main m ρ)

/-! ## The blocks the body sees, from the arrays -/

/-- An index of a block of tokens in its array. -/
theorem emb_tok (t : Fin cfg0.N) (h : Fin 8) (u : Fin 8) (j : Fin 64) (b : Fin 128) (H : Fin 16) (T : Fin 8)
    (hb : b.val = t.val / 2) (hH : H.val = t.val % 2 * 8 + h.val) (hT : T.val = u.val) :
    (((cfg0.win 7).blk t).view.emb (ix4 0 h u j : S1x8x8x64.Idx) : S128x16x8x64.Idx) = ix4 b H T j := by
  have e0 : win0_7.index t (0 : Fin 4) = t.val / 2 := congrFun (idx_tok t) 0
  have e1 : win0_7.index t (1 : Fin 4) = t.val % 2 := congrFun (idx_tok t) 1
  have e2 : win0_7.index t (2 : Fin 4) = 0 := congrFun (idx_tok t) 2
  have e3 : win0_7.index t (3 : Fin 4) = 0 := congrFun (idx_tok t) 3
  funext a; apply Fin.ext
  match a with
  | ⟨0, _⟩ => show win0_7.index t (0 : Fin 4) * 1 + 1 * 0 = b.val; omega
  | ⟨1, _⟩ => show win0_7.index t (1 : Fin 4) * 8 + 1 * h.val = H.val; omega
  | ⟨2, _⟩ => show win0_7.index t (2 : Fin 4) * 8 + 1 * u.val = T.val; omega
  | ⟨3, _⟩ => show win0_7.index t (3 : Fin 4) * 64 + 1 * j.val = j.val; omega

theorem iblk0_apply (c : Dev nD) (t : Fin cfg0.N) (h : Fin 8) (u : Fin 8) (j : Fin 64) (b : Fin 128) (H : Fin 16) (T : Fin 8)
    (hb : b.val = t.val / 2) (hH : H.val = t.val % 2 * 8 + h.val) (hT : T.val = u.val) :
    (iblk m c 0 t : Vec F S1x8x8x64 .f32) (ix4 0 h u j) = (V m c main_v0 : Vec F S128x16x8x64 .f32) (ix4 b H T j) :=
  congrArg (V m c main_v0 : Vec F S128x16x8x64 .f32) (emb_tok t h u j b H T hb hH hT)

theorem iblk1_apply (c : Dev nD) (t : Fin cfg0.N) (h : Fin 8) (u : Fin 8) (j : Fin 64) (b : Fin 128) (H : Fin 16) (T : Fin 8)
    (hb : b.val = t.val / 2) (hH : H.val = t.val % 2 * 8 + h.val) (hT : T.val = u.val) :
    (iblk m c 1 t : Vec F S1x8x8x64 .f32) (ix4 0 h u j) = (V m c main_v1 : Vec F S128x16x8x64 .f32) (ix4 b H T j) :=
  congrArg (V m c main_v1 : Vec F S128x16x8x64 .f32) (emb_tok t h u j b H T hb hH hT)

theorem iblk2_apply (c : Dev nD) (t : Fin cfg0.N) (h : Fin 8) (u : Fin 8) (j : Fin 64) (b : Fin 128) (H : Fin 16) (T : Fin 8)
    (hb : b.val = t.val / 2) (hH : H.val = t.val % 2 * 8 + h.val) (hT : T.val = u.val) :
    (iblk m c 2 t : Vec F S1x8x8x64 .f32) (ix4 0 h u j) = (V m c main_v2 : Vec F S128x16x8x64 .f32) (ix4 b H T j) :=
  congrArg (V m c main_v2 : Vec F S128x16x8x64 .f32) (emb_tok t h u j b H T hb hH hT)

theorem iblk3_apply (c : Dev nD) (t : Fin cfg0.N) (h : Fin 8) (u : Fin 8) (j : Fin 64) (b : Fin 128) (H : Fin 16) (T : Fin 8)
    (hb : b.val = t.val / 2) (hH : H.val = t.val % 2 * 8 + h.val) (hT : T.val = u.val) :
    (iblk m c 3 t : Vec F S1x8x8x64 .f32) (ix4 0 h u j) = (V m c main_v3 : Vec F S128x16x8x64 .f32) (ix4 b H T j) :=
  congrArg (V m c main_v3 : Vec F S128x16x8x64 .f32) (emb_tok t h u j b H T hb hH hT)

theorem iblk4_apply (c : Dev nD) (t : Fin cfg0.N) (h : Fin 8) (u : Fin 8) (j : Fin 64) (b : Fin 128) (H : Fin 16) (T : Fin 8)
    (hb : b.val = t.val / 2) (hH : H.val = t.val % 2 * 8 + h.val) (hT : T.val = u.val) :
    (iblk m c 4 t : Vec F S1x8x8x64 .f32) (ix4 0 h u j) = (V m c main_v5 : Vec F S128x16x8x64 .f32) (ix4 b H T j) :=
  congrArg (V m c main_v5 : Vec F S128x16x8x64 .f32) (emb_tok t h u j b H T hb hH hT)

theorem iblk5_apply (c : Dev nD) (t : Fin cfg0.N) (h : Fin 8) (u : Fin 8) (j : Fin 64) (b : Fin 128) (H : Fin 16) (T : Fin 8)
    (hb : b.val = t.val / 2) (hH : H.val = t.val % 2 * 8 + h.val) (hT : T.val = u.val) :
    (iblk m c 5 t : Vec F S1x8x8x64 .f32) (ix4 0 h u j) = (V m c main_v7 : Vec F S128x16x8x64 .f32) (ix4 b H T j) :=
  congrArg (V m c main_v7 : Vec F S128x16x8x64 .f32) (emb_tok t h u j b H T hb hH hT)

end Arrays

end Cert.Kernel8Ideal.Wkv

end
-- ==== Proof.Wkv8Value.lean ====
/-
  The recurrence's kernel over the extended reals: its two arrays at an index are the state and the row of outputs of one
  head's recurrence over all the tokens of the arguments.
-/
module

public import proofs.«01_k».proof.Proof.Wkv8Arrays

@[expose] public section

set_option maxRecDepth 16384

noncomputable section

namespace Cert.Kernel8Ideal.Wkv

open Cert.Kernel8Ideal Cert.Kernel8Ideal.Gen Cert.Wkv Idealize.ShloMosaic Idealize.ShloMosaic.TcCoe Idealize.SL.Sem
open Idealize.ShloMosaic.Pipeline (Dat)
open Idealize.ShloMosaic.StableHlo

/-! ## One block -/

/-- Head `h`'s tokens of a block, by number. -/
def blkTok (B : Blk Ideal) (h : Fin 8) (u : ℕ) : Tok :=
  let n : Fin 8 := ⟨u % 8, Nat.mod_lt _ (by decide)⟩
  ⟨fun j => B.r (ix4 0 h n j), fun j => B.w (ix4 0 h n j), fun j => B.k (ix4 0 h n j), fun j => B.v (ix4 0 h n j),
    fun j => B.nk (ix4 0 h n j), fun j => B.ka (ix4 0 h n j)⟩

theorem blkTok_of_lt (B : Blk Ideal) (h : Fin 8) (u : Fin 8) :
    blkTok B h u.val = ⟨fun j => B.r (ix4 0 h u j), fun j => B.w (ix4 0 h u j), fun j => B.k (ix4 0 h u j),
      fun j => B.v (ix4 0 h u j), fun j => B.nk (ix4 0 h u j), fun j => B.ka (ix4 0 h u j)⟩ := by
  have e : (⟨u.val % 8, Nat.mod_lt _ (by decide)⟩ : Fin 8) = u := Fin.ext (Nat.mod_eq_of_lt u.isLt)
  unfold blkTok
  rw [e]

/-- The state after `n` tokens of a block is, head by head, the recurrence's. -/
theorem stateS_apply (B : Blk Ideal) (S : Vec Ideal S8x64x64 .f32) (h : Fin 8) : ∀ (n : ℕ), n ≤ 8 → ∀ i j : Fin 64,
    stateS B S n (ix3 h i j) = state (fun i j => S (ix3 h i j)) (blkTok B h) n i j
  | 0, _, _, _ => rfl
  | n + 1, hn, i, j => by
    have hl : n < 8 := hn
    rw [stateS_succ B S n hl]
    have e : stepS B (stateS B S n) ⟨n, hl⟩ (ix3 h i j)
        = next (fun i j => stateS B S n (ix3 h i j)) (blkTok B h n) i j := by
      rw [blkTok_of_lt B h ⟨n, hl⟩]
      exact slabOut_apply (slab (stateS B S n) h) (tokRow B.nk h ⟨n, hl⟩) (tokRow B.ka h ⟨n, hl⟩) (tokRow B.w h ⟨n, hl⟩)
        (tokRow B.k h ⟨n, hl⟩) (tokRow B.v h ⟨n, hl⟩) (tokRow B.r h ⟨n, hl⟩) i j
    rw [e]
    show next _ _ i j = next (state _ _ n) _ i j
    congr 1
    funext i' j'
    exact stateS_apply B S h n (Nat.le_of_lt hl) i' j'

/-- The block of outputs is, head by head, the recurrence's rows. -/
theorem outS_apply (B : Blk Ideal) (S : Vec Ideal S8x64x64 .f32) (h : Fin 8) (u : Fin 8) (i : Fin 64) :
    outS B S (ix4 0 h u i) = row (fun i j => S (ix3 h i j)) (blkTok B h) u.val i := by
  have e : outS B S (ix4 0 h u i) = ∑ j, next (fun i j => stateS B S u.val (ix3 h i j)) (blkTok B h u.val) i j * (blkTok B h u.val).r j := by
    rw [blkTok_of_lt B h u]
    exact rowOut_apply (slab (stateS B S u.val) h) (tokRow B.nk h u) (tokRow B.ka h u) (tokRow B.w h u)
      (tokRow B.k h u) (tokRow B.v h u) (tokRow B.r h u) i
  rw [e]
  have hs : (fun i j => stateS B S u.val (ix3 h i j)) = state (fun i j => S (ix3 h i j)) (blkTok B h) u.val := by
    funext i' j'
    exact stateS_apply B S h u.val (Nat.le_of_lt u.isLt) i' j'
  rw [hs]
  rfl

/-! ## The arguments -/

variable (m : (ℓ : Loc nD τ sig) → Buf (Elt Ideal) ℓ)

/-- The arguments' arrays. -/
abbrev argS (c : Dev nD) : Vec Ideal S128x16x64x64 .f32 := m ((c : Thread nD τ).loc main_arg0)
abbrev argR (c : Dev nD) : Vec Ideal S128x8x16x64 .f32 := m ((c : Thread nD τ).loc main_arg1)
abbrev argW (c : Dev nD) : Vec Ideal S128x8x16x64 .f32 := m ((c : Thread nD τ).loc main_arg2)
abbrev argK (c : Dev nD) : Vec Ideal S128x8x16x64 .f32 := m ((c : Thread nD τ).loc main_arg3)
abbrev argV (c : Dev nD) : Vec Ideal S128x8x16x64 .f32 := m ((c : Thread nD τ).loc main_arg4)
abbrev argKK (c : Dev nD) : Vec Ideal S128x8x16x64 .f32 := m ((c : Thread nD τ).loc main_arg5)
abbrev argA (c : Dev nD) : Vec Ideal S128x8x16x64 .f32 := m ((c : Thread nD τ).loc main_arg6)

/-- A transposed array at an index. -/
theorem heads_apply (x : Vec Ideal S128x8x16x64 .f32) (b : Fin 128) (H : Fin 16) (T : Fin 8) (j : Fin 64) :
    transpose S128x16x8x64 [0, 2, 1, 3] x transposes_S128x8x16x64_S128x16x8x64_0_2_1_3 (ix4 b H T j) = x (ix4 b T H j) := by
  pointwise []

/-- Row `b`'s head `H`: its tokens and its first state. -/
def tokens (c : Dev nD) (b : Fin 128) (H : Fin 16) : ℕ → Tok := argTok8
  (fun T j => argR m c (ix4 b T H j)) (fun T j => argW m c (ix4 b T H j)) (fun T j => argK m c (ix4 b T H j))
  (fun T j => argV m c (ix4 b T H j)) (fun T j => argKK m c (ix4 b T H j)) (fun T j => argA m c (ix4 b T H j))

def start (c : Dev nD) (b : Fin 128) (H : Fin 16) : St := fun i j => argS m c (ix4 b H i j)

theorem V0_apply (c : Dev nD) (b : Fin 128) (H : Fin 16) (T : Fin 8) (j : Fin 64) :
    (V m c main_v0 : Vec Ideal S128x16x8x64 .f32) (ix4 b H T j) = argR m c (ix4 b T H j) := by
  have e : V m c main_v0 = transpose S128x16x8x64 [0, 2, 1, 3] (argR m c) transposes_S128x8x16x64_S128x16x8x64_0_2_1_3 := by
    unfold V hostOps0
    after_results
  rw [e, heads_apply]

theorem V1_apply (c : Dev nD) (b : Fin 128) (H : Fin 16) (T : Fin 8) (j : Fin 64) :
    (V m c main_v1 : Vec Ideal S128x16x8x64 .f32) (ix4 b H T j) = argW m c (ix4 b T H j) := by
  have e : V m c main_v1 = transpose S128x16x8x64 [0, 2, 1, 3] (argW m c) transposes_S128x8x16x64_S128x16x8x64_0_2_1_3 := by
    unfold V hostOps0
    after_results
  rw [e, heads_apply]

theorem V2_apply (c : Dev nD) (b : Fin 128) (H : Fin 16) (T : Fin 8) (j : Fin 64) :
    (V m c main_v2 : Vec Ideal S128x16x8x64 .f32) (ix4 b H T j) = argK m c (ix4 b T H j) := by
  have e : V m c main_v2 = transpose S128x16x8x64 [0, 2, 1, 3] (argK m c) transposes_S128x8x16x64_S128x16x8x64_0_2_1_3 := by
    unfold V hostOps0
    after_results
  rw [e, heads_apply]

theorem V3_apply (c : Dev nD) (b : Fin 128) (H : Fin 16) (T : Fin 8) (j : Fin 64) :
    (V m c main_v3 : Vec Ideal S128x16x8x64 .f32) (ix4 b H T j) = argV m c (ix4 b T H j) := by
  have e : V m c main_v3 = transpose S128x16x8x64 [0, 2, 1, 3] (argV m c) transposes_S128x8x16x64_S128x16x8x64_0_2_1_3 := by
    unfold V hostOps0
    after_results
  rw [e, heads_apply]

theorem V5_apply (c : Dev nD) (b : Fin 128) (H : Fin 16) (T : Fin 8) (j : Fin 64) :
    (V m c main_v5 : Vec Ideal S128x16x8x64 .f32) (ix4 b H T j) = - argKK m c (ix4 b T H j) := by
  have e : V m c main_v5 = transpose S128x16x8x64 [0, 2, 1, 3] (Host.negf (F := Ideal) (s := S128x8x16x64) (φ := .f32) (argKK m c)) transposes_S128x8x16x64_S128x16x8x64_0_2_1_3 := by
    unfold V hostOps0
    after_results
  rw [e, heads_apply]
  rfl
theorem V7_apply (c : Dev nD) (b : Fin 128) (H : Fin 16) (T : Fin 8) (j : Fin 64) :
    (V m c main_v7 : Vec Ideal S128x16x8x64 .f32) (ix4 b H T j) = argKK m c (ix4 b T H j) * argA m c (ix4 b T H j) := by
  have e : V m c main_v7 = transpose S128x16x8x64 [0, 2, 1, 3] (mulf (F := Ideal) (s := S128x8x16x64) (φ := .f32) (argKK m c) (argA m c)) transposes_S128x8x16x64_S128x16x8x64_0_2_1_3 := by
    unfold V hostOps0
    after_results
  rw [e, heads_apply]
  rfl

/-! ## The blocks, from the arguments -/

/-- The state a point starts from, at an index. -/
theorem initAt_apply (c : Dev nD) (t : Fin cfg0.N) (h : Fin 8) (i j : Fin 64) (b : Fin 128) (H : Fin 16)
    (hb : b.val = t.val / 2) (hH : H.val = t.val % 2 * 8 + h.val) :
    initAt m c t (ix3 h i j) = start m c b H i j := by
  have e0 : win0_8.index t (0 : Fin 4) = t.val / 2 := congrFun (idx_st t) 0
  have e1 : win0_8.index t (1 : Fin 4) = t.val % 2 := congrFun (idx_st t) 1
  have e2 : win0_8.index t (2 : Fin 4) = 0 := congrFun (idx_st t) 2
  have e3 : win0_8.index t (3 : Fin 4) = 0 := congrFun (idx_st t) 3
  have he : (((cfg0.win 8).blk t).view.emb (ix4 0 h i j : S1x8x64x64.Idx) : S128x16x64x64.Idx) = ix4 b H i j := by
    funext a; apply Fin.ext
    match a with
    | ⟨0, _⟩ => show win0_8.index t (0 : Fin 4) * 1 + 1 * 0 = b.val; omega
    | ⟨1, _⟩ => show win0_8.index t (1 : Fin 4) * 8 + 1 * h.val = H.val; omega
    | ⟨2, _⟩ => show win0_8.index t (2 : Fin 4) * 64 + 1 * i.val = i.val; omega
    | ⟨3, _⟩ => show win0_8.index t (3 : Fin 4) * 64 + 1 * j.val = j.val; omega
  have e : initAt m c t (ix3 h i j) = (iblk m c 6 t : Vec Ideal S1x8x64x64 .f32) (ix4 0 h i j) := by
    unfold initAt
    pointwise [k0_pay1]
  rw [e]
  have e' : (iblk m c 6 t : Vec Ideal S1x8x64x64 .f32) (ix4 0 h i j) = (V m c main_arg0 : Vec Ideal S128x16x64x64 .f32) (ix4 b H i j) :=
    congrArg (V m c main_arg0 : Vec Ideal S128x16x64x64 .f32) he
  rw [e', V_main_arg0]
  rfl

/-- A block's tokens are the tokens of its heads. -/
theorem blkTok_eq (c : Dev nD) (t : Fin cfg0.N) (h : Fin 8) (b : Fin 128) (H : Fin 16)
    (hb : b.val = t.val / 2) (hH : H.val = t.val % 2 * 8 + h.val) (u : ℕ) (hu : u < 8) :
    blkTok (blkAt m c t) h u = tokens m c b H u := by
  rw [show u = (⟨u, hu⟩ : Fin 8).val from rfl, blkTok_of_lt]
  unfold tokens
  rw [argTok8_of_lt]
  congr 1 <;> funext j
  · exact (iblk0_apply m c t h ⟨u, hu⟩ j b H _ hb hH rfl).trans (V0_apply m c b H _ j)
  · exact (iblk1_apply m c t h ⟨u, hu⟩ j b H _ hb hH rfl).trans (V1_apply m c b H _ j)
  · exact (iblk2_apply m c t h ⟨u, hu⟩ j b H _ hb hH rfl).trans (V2_apply m c b H _ j)
  · exact (iblk3_apply m c t h ⟨u, hu⟩ j b H _ hb hH rfl).trans (V3_apply m c b H _ j)
  · exact (iblk4_apply m c t h ⟨u, hu⟩ j b H _ hb hH rfl).trans (V5_apply m c b H _ j)
  · exact (iblk5_apply m c t h ⟨u, hu⟩ j b H _ hb hH rfl).trans (V7_apply m c b H _ j)

/-! ## The arrays, at an index -/

/-- The array of outputs is, head by head, the recurrence's rows. -/
theorem G7_apply (c : Dev nD) (b : Fin 128) (H : Fin 16) (T : Fin 8) (i : Fin 64) :
    (G7 m c : Vec Ideal S128x16x8x64 .f32) (ix4 b H T i) = row (start m c b H) (tokens m c b H) T.val i := by
  have hb := b.isLt
  have hH := H.isLt
  have hT := T.isLt
  let q : S128x16x8x64.Idx := ix4 b H T i
  have hv : (pt7 q).val = 2 * b.val + H.val / 8 := rfl
  have e1 : b.val = (pt7 q).val / 2 := by omega
  have e2 : H.val = (pt7 q).val % 2 * 8 + (⟨H.val % 8, Nat.mod_lt _ (by decide)⟩ : Fin 8).val := by
    show H.val = (pt7 q).val % 2 * 8 + H.val % 8; omega
  show outS (blkAt m c (pt7 q)) (initAt m c (pt7 q)) (ix4 0 ⟨H.val % 8, Nat.mod_lt _ (by decide)⟩ T i) = _
  rw [outS_apply]
  rw [show (fun i j => initAt m c (pt7 q) (ix3 (⟨H.val % 8, Nat.mod_lt _ (by decide)⟩ : Fin 8) i j)) = start m c b H from by
    funext i j
    exact initAt_apply m c (pt7 q) _ i j b H e1 e2]
  rw [row_congr _ T.val fun u hu => blkTok_eq m c (pt7 q) _ b H e1 e2 u (by omega)]

/-- The array of final states is, head by head, the recurrence's state after all the tokens. -/
theorem G8_apply (c : Dev nD) (b : Fin 128) (H : Fin 16) (i j : Fin 64) :
    (G8 m c : Vec Ideal S128x16x64x64 .f32) (ix4 b H i j) = state (start m c b H) (tokens m c b H) 8 i j := by
  have hb := b.isLt
  have hH := H.isLt
  let q : S128x16x64x64.Idx := ix4 b H i j
  have hv : (pt8 q).val = 2 * b.val + H.val / 8 := rfl
  have e1 : b.val = (pt8 q).val / 2 := by omega
  have e2 : H.val = (pt8 q).val % 2 * 8 + (⟨H.val % 8, Nat.mod_lt _ (by decide)⟩ : Fin 8).val := by
    show H.val = (pt8 q).val % 2 * 8 + H.val % 8; omega
  show k0_pay6 (lastS m c (pt8 q)) (ix4 0 ⟨H.val % 8, Nat.mod_lt _ (by decide)⟩ i j) = _
  have e : ∀ S : Vec Ideal S8x64x64 .f32, ∀ h : Fin 8, k0_pay6 S (ix4 0 h i j) = S (ix3 h i j) := by
    intro S h
    pointwise [k0_pay6]
  rw [e]
  unfold lastS
  rw [stateS_apply _ _ _ 8 (le_refl _),
    show (fun i j => initAt m c (pt8 q) (ix3 (⟨H.val % 8, Nat.mod_lt _ (by decide)⟩ : Fin 8) i j)) = start m c b H from by
      funext i j
      exact initAt_apply m c (pt8 q) _ i j b H e1 e2,
    state_congr _ 8 fun u hu => blkTok_eq m c (pt8 q) _ b H e1 e2 u hu]

end Cert.Kernel8Ideal.Wkv

end
-- ==== Proof.Wkv8Ref.lean ====
/-
  The recurrence's reference over the extended reals: the two arrays its loop over the tokens ends with are, head by head,
  the state and the rows of outputs of the recurrence.
-/
module

public import proofs.«01_k».proof.Proof.Wkv8Spec
public import proofs.«01_k».proof.Proof.Gen.Reference8Ideal.Run
public import Idealize.ShloMosaic.Lib.Pointwise
public import Idealize.ShloMosaic.Lib.DynamicIndex
public import Idealize.ShloMosaic.Lib.WordCmp

@[expose] public section

set_option maxRecDepth 16384

noncomputable section

namespace Cert.Reference8Ideal.Wkv

open Cert.Reference8Ideal Cert.Reference8Ideal.Gen Cert.Reference8Ideal.Value Cert.Wkv Idealize.ShloMosaic Idealize.ShloMosaic.TcCoe Idealize.SL.Sem
open Idealize.ShloMosaic.StableHlo Idealize.ShloMosaic.WordCmp

/-! ## One trip -/

/-- Where a trip reads and writes: at the counter, on the axis of tokens. -/
abbrev at0 (ctr : IVec S_ 32) : Fin 4 → Int := fun k =>
  ((![ctr, constantI S_ 32 0#32, constantI S_ 32 0#32, constantI S_ 32 0#32] : Fin 4 → (⟨S_, .i32⟩ : BufTy).Contents (Elt Ideal)) k
    (Shape.Idx.first h_S_)).toInt

theorem at0_eq (n : ℕ) (hn : n < 8) : ∀ a : Fin 4, at0 (fun _ => BitVec.ofNat 32 n) a = ((![n, 0, 0, 0] : Fin 4 → ℕ) a : Int) := by
  intro a
  match a with
  | ⟨0, _⟩ => exact Idealize.ShloMosaic.toInt_ofNat_of_lt (by omega)
  | ⟨1, _⟩ => rfl
  | ⟨2, _⟩ => rfl
  | ⟨3, _⟩ => rfl

/-- One token's rows of an array. -/
def tokAt (x : Vec Ideal S8x128x16x64 .f32) (ctr : IVec S_ 32) : Vec Ideal S128x16x64 .f32 :=
  shapeCast S128x16x64 (Host.dynamicSlice S1x128x16x64 x (at0 ctr) sliceFits_S8x128x16x64_S1x128x16x64) shapeCasts_S1x128x16x64_S128x16x64

theorem fits (n : Fin 8) : S8x128x16x64.Slices (![n.val, 0, 0, 0] : Fin 4 → ℕ) S1x128x16x64 :=
  ⟨rfl, fun a => by
    have := n.isLt
    match a with
    | ⟨0, _⟩ => show n.val + 1 ≤ 8; omega
    | ⟨1, _⟩ => show 0 + 128 ≤ 128; omega
    | ⟨2, _⟩ => show 0 + 16 ≤ 16; omega
    | ⟨3, _⟩ => show 0 + 64 ≤ 64; omega⟩

theorem tokAt_apply (x : Vec Ideal S8x128x16x64 .f32) (n : Fin 8) (b : Fin 128) (H : Fin 16) (j : Fin 64) :
    tokAt x (fun _ => BitVec.ofNat 32 n.val) (ix3 b H j) = x (ix4 n b H j) := by
  unfold tokAt
  rw [dynamicSlice_eq_extract S1x128x16x64 x _ _ _ (fits n) (at0_eq n.val n.isLt)]
  pointwise []

/-- The states after a token, from the states before it and the token's rows. -/
def stepR (s : FVec Ideal S128x16x64x64 .f32) (w k v kk a : FVec Ideal S128x16x64 .f32) : FVec Ideal S128x16x64x64 .f32 :=
  addf (addf (mulf s (broadcastInDim S128x16x64x64 ![0, 1, 2, 3] bcast_S128x16x1x64_S128x16x64x64_0_1_2_3 (broadcastInDim S128x16x1x64 ![0, 1, 3] bcast_S128x16x64_S128x16x1x64_0_1_3 w)))
    (mulf (broadcastInDim S128x16x64x64 ![0, 1, 2, 3] bcast_S128x16x64x1_S128x16x64x64_0_1_2_3 (broadcastInDim S128x16x64x1 ![0, 1, 2] bcast_S128x16x64_S128x16x64x1_0_1_2 (Host.dotGeneral dot_S128x16x64x64_S128x16x64_S128x16x64_3_2_2_n_01_01 none s (Host.negf kk))))
      (broadcastInDim S128x16x64x64 ![0, 1, 2, 3] bcast_S128x16x1x64_S128x16x64x64_0_1_2_3 (broadcastInDim S128x16x1x64 ![0, 1, 3] bcast_S128x16x64_S128x16x1x64_0_1_3 (mulf kk a)))))
    (mulf (broadcastInDim S128x16x64x64 ![0, 1, 2, 3] bcast_S128x16x64x1_S128x16x64x64_0_1_2_3 (broadcastInDim S128x16x64x1 ![0, 1, 2] bcast_S128x16x64_S128x16x64x1_0_1_2 v))
      (broadcastInDim S128x16x64x64 ![0, 1, 2, 3] bcast_S128x16x1x64_S128x16x64x64_0_1_2_3 (broadcastInDim S128x16x1x64 ![0, 1, 3] bcast_S128x16x64_S128x16x1x64_0_1_3 k)))

theorem stepR_apply (s : FVec Ideal S128x16x64x64 .f32) (r w k v kk a : FVec Ideal S128x16x64 .f32) (b : Fin 128) (H : Fin 16) (i j : Fin 64) :
    stepR s w k v kk a (ix4 b H i j) = next (fun i j => s (ix4 b H i j))
      ⟨fun j => r (ix3 b H j), fun j => w (ix3 b H j), fun j => k (ix3 b H j), fun j => v (ix3 b H j),
        fun j => - kk (ix3 b H j), fun j => kk (ix3 b H j) * a (ix3 b H j)⟩ i j := by
  pointwise [stepR]
  rfl

/-- A token's rows of outputs, from the states after it. -/
def outR (s : FVec Ideal S128x16x64x64 .f32) (r : FVec Ideal S128x16x64 .f32) : FVec Ideal S1x128x16x64 .f32 :=
  broadcastInDim S1x128x16x64 ![1, 2, 3] bcast_S128x16x64_S1x128x16x64_1_2_3 (Host.dotGeneral dot_S128x16x64x64_S128x16x64_S128x16x64_3_2_2_n_01_01 none s r)

theorem outR_apply (s : FVec Ideal S128x16x64x64 .f32) (r : FVec Ideal S128x16x64 .f32) (b : Fin 128) (H : Fin 16) (i : Fin 64) :
    outR s r (ix4 0 b H i) = ∑ j, s (ix4 b H i j) * r (ix3 b H j) := by
  pointwise [outR]

/-- An array with one token's rows replaced, at an index. -/
theorem put_apply (x : Vec Ideal S8x128x16x64 .f32) (y : Vec Ideal S1x128x16x64 .f32) (n T : Fin 8) (b : Fin 128) (H : Fin 16) (i : Fin 64) :
    Host.dynamicUpdateSlice x y (at0 fun _ => BitVec.ofNat 32 n.val) updateFits_S8x128x16x64_S1x128x16x64 (ix4 T b H i)
      = if T = n then y (ix4 0 b H i) else x (ix4 T b H i) := by
  rw [dynamicUpdateSlice_eq_update x y _ _ _ (fits n) (at0_eq n.val n.isLt)]
  pointwise []
  by_cases h : T = n
  · subst h
    rw [dif_pos ⟨le_refl _, Nat.lt_succ_self _⟩, if_pos rfl]
    congr 2
    exact Fin.ext (Nat.sub_self T.val)
  · rw [dif_neg (fun e => h (Fin.ext (by omega))), if_neg h]

/-! ## All the trips -/

variable (m : (ℓ : Loc nD τ sig) → Buf (Elt Ideal) ℓ)

/-- The arguments' arrays. -/
abbrev argS (c : Dev nD) : Vec Ideal S128x16x64x64 .f32 := m ((c : Thread nD τ).loc main_arg0)
abbrev argR (c : Dev nD) : Vec Ideal S128x8x16x64 .f32 := m ((c : Thread nD τ).loc main_arg1)
abbrev argW (c : Dev nD) : Vec Ideal S128x8x16x64 .f32 := m ((c : Thread nD τ).loc main_arg2)
abbrev argK (c : Dev nD) : Vec Ideal S128x8x16x64 .f32 := m ((c : Thread nD τ).loc main_arg3)
abbrev argV (c : Dev nD) : Vec Ideal S128x8x16x64 .f32 := m ((c : Thread nD τ).loc main_arg4)
abbrev argKK (c : Dev nD) : Vec Ideal S128x8x16x64 .f32 := m ((c : Thread nD τ).loc main_arg5)
abbrev argA (c : Dev nD) : Vec Ideal S128x8x16x64 .f32 := m ((c : Thread nD τ).loc main_arg6)

/-- Row `b`'s head `H`: its tokens and its first state. -/
def tokens (c : Dev nD) (b : Fin 128) (H : Fin 16) : ℕ → Tok := argTok8
  (fun T j => argR m c (ix4 b T H j)) (fun T j => argW m c (ix4 b T H j)) (fun T j => argK m c (ix4 b T H j))
  (fun T j => argV m c (ix4 b T H j)) (fun T j => argKK m c (ix4 b T H j)) (fun T j => argA m c (ix4 b T H j))

def start (c : Dev nD) (b : Fin 128) (H : Fin 16) : St := fun i j => argS m c (ix4 b H i j)

/-- What the buffers hold before trip `n`. -/
abbrev cur (c : Dev nD) (n : ℕ) : Valuation τ sig (Elt Ideal) := STEP^[n] (entryContents preI m c)

theorem cur_succ (c : Dev nD) (n : ℕ) : cur m c (n + 1) = STEP (cur m c n) := Function.iterate_succ_apply' _ _ _

theorem ctr_cur (c : Dev nD) : ∀ n, cur m c n (Proc.devRef .tc main_v7_6) = fun _ => BitVec.ofNat 32 n
  | 0 => ctr_entry m c
  | n + 1 => by
    rw [cur_succ, STEP_main_v7_6]
    unfold step_main_v7_6
    rw [ctr_cur c n]
    funext x
    show BitVec.ofNat 32 n + 1#32 = BitVec.ofNat 32 (n + 1)
    exact (BitVec.ofNat_add n 1).symm

/-- A transposed array at an index. -/
theorem time_apply (x : Vec Ideal S128x8x16x64 .f32) (T : Fin 8) (b : Fin 128) (H : Fin 16) (j : Fin 64) :
    transpose S8x128x16x64 [1, 0, 2, 3] x transposes_S128x8x16x64_S8x128x16x64_1_0_2_3 (ix4 T b H j) = x (ix4 b T H j) := by
  pointwise []

theorem tokAt_time (x : Vec Ideal S128x8x16x64 .f32) (T : Fin 8) (b : Fin 128) (H : Fin 16) (j : Fin 64) :
    tokAt (transpose S8x128x16x64 [1, 0, 2, 3] x transposes_S128x8x16x64_S8x128x16x64_1_0_2_3) (fun _ => BitVec.ofNat 32 T.val) (ix3 b H j)
      = x (ix4 b T H j) :=
  (tokAt_apply _ T b H j).trans (time_apply x T b H j)

theorem keep0 (c : Dev nD) : ∀ n, cur m c n (Proc.devRef .tc main_v7_0)
    = transpose S8x128x16x64 [1, 0, 2, 3] (argR m c) transposes_S128x8x16x64_S8x128x16x64_1_0_2_3
  | 0 => by
    show entryContents preI m c _ = _
    simp only [entryContents, afterL_cons, afterL_nil]
    after_reads_simp
    rfl
  | n + 1 => by rw [cur_succ, STEP_main_v7_0, keep0 c n]

theorem keep1 (c : Dev nD) : ∀ n, cur m c n (Proc.devRef .tc main_v7_1)
    = transpose S8x128x16x64 [1, 0, 2, 3] (argW m c) transposes_S128x8x16x64_S8x128x16x64_1_0_2_3
  | 0 => by
    show entryContents preI m c _ = _
    simp only [entryContents, afterL_cons, afterL_nil]
    after_reads_simp
    rfl
  | n + 1 => by rw [cur_succ, STEP_main_v7_1, keep1 c n]

theorem keep2 (c : Dev nD) : ∀ n, cur m c n (Proc.devRef .tc main_v7_2)
    = transpose S8x128x16x64 [1, 0, 2, 3] (argK m c) transposes_S128x8x16x64_S8x128x16x64_1_0_2_3
  | 0 => by
    show entryContents preI m c _ = _
    simp only [entryContents, afterL_cons, afterL_nil]
    after_reads_simp
    rfl
  | n + 1 => by rw [cur_succ, STEP_main_v7_2, keep2 c n]

theorem keep3 (c : Dev nD) : ∀ n, cur m c n (Proc.devRef .tc main_v7_3)
    = transpose S8x128x16x64 [1, 0, 2, 3] (argV m c) transposes_S128x8x16x64_S8x128x16x64_1_0_2_3
  | 0 => by
    show entryContents preI m c _ = _
    simp only [entryContents, afterL_cons, afterL_nil]
    after_reads_simp
    rfl
  | n + 1 => by rw [cur_succ, STEP_main_v7_3, keep3 c n]

theorem keep4 (c : Dev nD) : ∀ n, cur m c n (Proc.devRef .tc main_v7_4)
    = transpose S8x128x16x64 [1, 0, 2, 3] (argKK m c) transposes_S128x8x16x64_S8x128x16x64_1_0_2_3
  | 0 => by
    show entryContents preI m c _ = _
    simp only [entryContents, afterL_cons, afterL_nil]
    after_reads_simp
    rfl
  | n + 1 => by rw [cur_succ, STEP_main_v7_4, keep4 c n]

theorem keep5 (c : Dev nD) : ∀ n, cur m c n (Proc.devRef .tc main_v7_5)
    = transpose S8x128x16x64 [1, 0, 2, 3] (argA m c) transposes_S128x8x16x64_S8x128x16x64_1_0_2_3
  | 0 => by
    show entryContents preI m c _ = _
    simp only [entryContents, afterL_cons, afterL_nil]
    after_reads_simp
    rfl
  | n + 1 => by rw [cur_succ, STEP_main_v7_5, keep5 c n]

/-- Before the first trip the states are the argument's. -/
theorem entry7 (c : Dev nD) : cur m c 0 (Proc.devRef .tc main_v7_7) = argS m c := by
  show entryContents preI m c _ = _
  simp only [entryContents, afterL_cons, afterL_nil]
  after_reads_simp
  rfl

/-- One trip's states. -/
theorem step7 (V0 : Valuation τ sig (Elt Ideal)) : res_main_while0b_v32 V0
    = stepR (V0 (Proc.devRef .tc main_v7_7)) (tokAt (V0 (Proc.devRef .tc main_v7_1)) (V0 (Proc.devRef .tc main_v7_6)))
        (tokAt (V0 (Proc.devRef .tc main_v7_2)) (V0 (Proc.devRef .tc main_v7_6))) (tokAt (V0 (Proc.devRef .tc main_v7_3)) (V0 (Proc.devRef .tc main_v7_6)))
        (tokAt (V0 (Proc.devRef .tc main_v7_4)) (V0 (Proc.devRef .tc main_v7_6))) (tokAt (V0 (Proc.devRef .tc main_v7_5)) (V0 (Proc.devRef .tc main_v7_6))) := rfl

/-- The states after trip `n`, at an index. -/
theorem trip7 (c : Dev nD) (n : Fin 8) (b : Fin 128) (H : Fin 16) (i j : Fin 64) :
    (res_main_while0b_v32 (cur m c n.val) : Vec Ideal S128x16x64x64 .f32) (ix4 b H i j)
      = next (fun i j => (cur m c n.val (Proc.devRef .tc main_v7_7) : Vec Ideal S128x16x64x64 .f32) (ix4 b H i j)) (tokens m c b H n.val) i j := by
  rw [step7, ctr_cur, keep1, keep2, keep3, keep4, keep5]
  refine (stepR_apply _ (tokAt (transpose S8x128x16x64 [1, 0, 2, 3] (argR m c) transposes_S128x8x16x64_S8x128x16x64_1_0_2_3)
    fun _ => BitVec.ofNat 32 n.val) _ _ _ _ _ b H i j).trans ?_
  unfold tokens
  rw [argTok8_of_lt]
  congr 2 <;> funext j
  · exact tokAt_time _ n b H j
  · exact tokAt_time _ n b H j
  · exact tokAt_time _ n b H j
  · exact tokAt_time _ n b H j
  · exact congrArg (fun x : EReal => - x) (tokAt_time _ n b H j)
  · exact congrArg₂ (fun x y : EReal => x * y) (tokAt_time _ n b H j) (tokAt_time _ n b H j)

/-- The states before trip `n` are the recurrence's after `n` tokens. -/
theorem state_cur (c : Dev nD) (b : Fin 128) (H : Fin 16) : ∀ n, n ≤ 8 → ∀ i j,
    (cur m c n (Proc.devRef .tc main_v7_7) : Vec Ideal S128x16x64x64 .f32) (ix4 b H i j) = state (start m c b H) (tokens m c b H) n i j
  | 0, _, i, j => by rw [entry7]; rfl
  | n + 1, hn, i, j => by
    rw [cur_succ, STEP_main_v7_7]
    refine (trip7 m c ⟨n, hn⟩ b H i j).trans ?_
    show next _ _ i j = next (state _ _ n) _ i j
    congr 1
    funext i' j'
    exact state_cur c b H n (Nat.le_of_lt hn) i' j'

/-- One trip's outputs. -/
theorem step8 (V0 : Valuation τ sig (Elt Ideal)) : step_main_v7_8 V0
    = Host.dynamicUpdateSlice (V0 (Proc.devRef .tc main_v7_8) : Vec Ideal S8x128x16x64 .f32)
        (outR (res_main_while0b_v32 V0) (tokAt (V0 (Proc.devRef .tc main_v7_0)) (V0 (Proc.devRef .tc main_v7_6))))
        (at0 (V0 (Proc.devRef .tc main_v7_6))) updateFits_S8x128x16x64_S1x128x16x64 := by
  unfold step_main_v7_8 outR tokAt
  rfl

/-- The rows written before trip `n` are the recurrence's. -/
theorem row_cur (c : Dev nD) (b : Fin 128) (H : Fin 16) : ∀ n, n ≤ 8 → ∀ T : Fin 8, T.val < n → ∀ i,
    (cur m c n (Proc.devRef .tc main_v7_8) : Vec Ideal S8x128x16x64 .f32) (ix4 T b H i) = row (start m c b H) (tokens m c b H) T.val i
  | 0, _, T, hT, i => absurd hT (Nat.not_lt_zero _)
  | n + 1, hn, T, hT, i => by
    rw [cur_succ, STEP_main_v7_8, step8, ctr_cur]
    refine (put_apply _ _ ⟨n, hn⟩ T b H i).trans ?_
    by_cases h : T = ⟨n, hn⟩
    · rw [if_pos h, outR_apply]
      subst h
      unfold row
      refine Finset.sum_congr rfl fun j _ => ?_
      have hs : (res_main_while0b_v32 (cur m c n) : Vec Ideal S128x16x64x64 .f32) (ix4 b H i j)
          = state (start m c b H) (tokens m c b H) (n + 1) i j := by
        have e := state_cur m c b H (n + 1) hn i j
        rw [cur_succ, STEP_main_v7_7] at e
        exact e
      have hr : tokAt (cur m c n (Proc.devRef .tc main_v7_0)) (fun _ => BitVec.ofNat 32 n) (ix3 b H j) = (tokens m c b H n).r j := by
        rw [keep0]
        refine (tokAt_time _ ⟨n, hn⟩ b H j).trans ?_
        exact (congrArg (fun x => Tok.r x j) (argTok8_of_lt (fun T j => argR m c (ix4 b T H j)) (fun T j => argW m c (ix4 b T H j))
          (fun T j => argK m c (ix4 b T H j)) (fun T j => argV m c (ix4 b T H j)) (fun T j => argKK m c (ix4 b T H j))
          (fun T j => argA m c (ix4 b T H j)) ⟨n, hn⟩)).symm
      exact congrArg₂ (fun x y : EReal => x * y) hs hr
    · rw [if_neg h]
      exact row_cur c b H n (Nat.le_of_lt hn) T (lt_of_le_of_ne (Nat.le_of_lt_succ hT) fun e => h (Fin.ext e)) i

/-- The first result at an index: the state after all the tokens. -/
theorem out7 (c : Dev nD) (b : Fin 128) (H : Fin 16) (i j : Fin 64) :
    (cur m c 8 (Proc.devRef .tc main_v7_7) : Vec Ideal S128x16x64x64 .f32) (ix4 b H i j) = state (start m c b H) (tokens m c b H) 8 i j :=
  state_cur m c b H 8 (le_refl _) i j

/-- The second result at an index: the rows of outputs. -/
theorem out8 (c : Dev nD) (b : Fin 128) (H : Fin 16) (T : Fin 8) (i : Fin 64) :
    (out_main_v8 (cur m c 8) : Vec Ideal S128x16x8x64 .f32) (ix4 b H T i) = row (start m c b H) (tokens m c b H) T.val i := by
  have e : (out_main_v8 (cur m c 8) : Vec Ideal S128x16x8x64 .f32) (ix4 b H T i)
      = (cur m c 8 (Proc.devRef .tc main_v7_8) : Vec Ideal S8x128x16x64 .f32) (ix4 T b H i) := by
    pointwise [out_main_v8]
  rw [e]
  exact row_cur m c b H 8 (le_refl _) T T.isLt i

end Cert.Reference8Ideal.Wkv

end
-- ==== Proof.Wkv8Claims.lean ====
/-
  The claims about the recurrence: the kernel's frame as printed and idealized, the reference's frame, and that the two
  idealized programs return the same arrays.
-/
module

public import proofs.«01_k».proof.Defs
public import proofs.«01_k».proof.Proof.Gen.Kernel8
public import proofs.«01_k».proof.Proof.Wkv8Value
public import proofs.«01_k».proof.Proof.Wkv8Ref
public import Idealize.ShloMosaic.Lib.Quiescent

@[expose] public section

set_option maxRecDepth 16384

noncomputable section

namespace Cert.Wkv8Claims

open Idealize.ShloMosaic Idealize.ShloMosaic.TcCoe Idealize.SL.Sem Cert.Wkv
open Cert.Kernel8Ideal.Gen Cert.Reference8Ideal.Gen Cert.Kernel8.Gen

/-- The kernel as printed is the idealized kernel's text, read at the machine's floats. -/
theorem main_same : Cert.Kernel8.main (F := Bits) = Cert.Kernel8Ideal.main (F := Bits) := rfl

theorem defs_same₀ : Cert.Kernel8.defs₀ (F := Bits) = Cert.Kernel8Ideal.defs₀ (F := Bits) := by
  unfold Cert.Kernel8.defs₀ Cert.Kernel8Ideal.defs₀
  refine congrArg Defs.onTc ?_
  funext l x
  obtain ⟨n, hn⟩ := l
  cases n with
  | zero => rfl
  | succ n => exact absurd hn (Nat.not_lt.2 (Nat.le_add_left _ _))

theorem defs_same : Cert.Kernel8.defs (F := Bits) = Cert.Kernel8Ideal.defs (F := Bits) :=
  congrArg (Pipeline.defs Cert.Kernel8Ideal.pcfgs) defs_same₀

theorem kernel : Cert.quiescent_Kernel8 (hKernel8 := Cert.Kernel8.Gen.facts) := by
  intro m g _
  have h := Cert.Kernel8Ideal.Wkv.frame (F := Bits) m g
  rw [← main_same, ← defs_same] at h
  exact h

theorem kernelIdeal : Cert.quiescent_Kernel8Ideal (hKernel8Ideal := Cert.Kernel8Ideal.Gen.facts) :=
  fun m g _ => Cert.Kernel8Ideal.Wkv.frame (F := Ideal) m g

theorem referenceIdeal : Cert.quiescent_Reference8Ideal (hReference8Ideal := Cert.Reference8Ideal.Gen.facts) :=
  fun m g _ => (θ_run Cert.Reference8Ideal.defs _ _).mono
    (fun r h => ⟨fun c => (h c).2.2, sem_eq_zero_of_no_sems (by decide) r.2⟩) (Cert.Reference8Ideal.Value.run (F := Ideal) m g)

section Values

variable (m : (ℓ : Loc Cert.Kernel8Ideal.nD Cert.Kernel8Ideal.τ Cert.Kernel8Ideal.sig) → Buf (Elt Ideal) ℓ)
variable (m' : (ℓ : Loc Cert.Reference8Ideal.nD Cert.Reference8Ideal.τ Cert.Reference8Ideal.sig) → Buf (Elt Ideal) ℓ)

/-- The reference's memory starts with the kernel's arguments. -/
abbrev SameArgs (c : Dev Cert.Kernel8Ideal.nD) : Prop :=
  m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
  ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
  ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
  ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
  ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
  ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
  ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)

theorem start_eq (c : Dev Cert.Kernel8Ideal.nD) (h : SameArgs m m' c) (b : Fin 128) (H : Fin 16) :
    Cert.Reference8Ideal.Wkv.start m' c b H = Cert.Kernel8Ideal.Wkv.start m c b H :=
  congrArg (fun x : Vec Ideal Cert.Kernel8Ideal.S128x16x64x64 .f32 => fun i j => x (ix4 b H i j)) h.1

theorem tokens_eq (c : Dev Cert.Kernel8Ideal.nD) (h : SameArgs m m' c) (b : Fin 128) (H : Fin 16) :
    Cert.Reference8Ideal.Wkv.tokens m' c b H = Cert.Kernel8Ideal.Wkv.tokens m c b H := by
  have e (x y : Vec Ideal Cert.Kernel8Ideal.S128x8x16x64 .f32) (hxy : x = y) :
      (fun (T : Fin 8) (j : Fin 64) => x (ix4 b T H j)) = fun T j => y (ix4 b T H j) := by rw [hxy]
  unfold Cert.Reference8Ideal.Wkv.tokens Cert.Kernel8Ideal.Wkv.tokens
  obtain ⟨_, h1, h2, h3, h4, h5, h6⟩ := h
  congr 1
  · exact e _ _ h1
  · exact e _ _ h2
  · exact e _ _ h3
  · exact e _ _ h4
  · exact e _ _ h5
  · exact e _ _ h6

/-- The final states agree. -/
theorem states_eq (c : Dev Cert.Kernel8Ideal.nD) (h : SameArgs m m' c) :
    (Cert.Reference8Ideal.Wkv.cur m' c 8 (Proc.devRef .tc Cert.Reference8Ideal.main_v7_7) : Vec Ideal Cert.Kernel8Ideal.S128x16x64x64 .f32)
      = Cert.Kernel8Ideal.Wkv.G8 m c := by
  funext q
  obtain ⟨b, H, i, j, rfl⟩ : ∃ (b : Fin 128) (H : Fin 16) (i j : Fin 64), q = ix4 b H i j := ⟨q 0, q 1, q 2, q 3, eq_ix4 q⟩
  rw [Cert.Kernel8Ideal.Wkv.G8_apply, ← start_eq m m' c h, ← tokens_eq m m' c h]
  exact Cert.Reference8Ideal.Wkv.out7 m' c b H i j

/-- The rows of outputs agree. -/
theorem rows_eq (c : Dev Cert.Kernel8Ideal.nD) (h : SameArgs m m' c) :
    (Cert.Reference8Ideal.Value.out_main_v8 (Cert.Reference8Ideal.Wkv.cur m' c 8) : Vec Ideal Cert.Kernel8Ideal.S128x16x8x64 .f32)
      = Cert.Kernel8Ideal.Wkv.G7 m c := by
  funext q
  obtain ⟨b, H, T, i, rfl⟩ : ∃ (b : Fin 128) (H : Fin 16) (T : Fin 8) (i : Fin 64), q = ix4 b H T i := ⟨q 0, q 1, q 2, q 3, eq_ix4 q⟩
  rw [Cert.Kernel8Ideal.Wkv.G7_apply, ← start_eq m m' c h, ← tokens_eq m m' c h]
  exact Cert.Reference8Ideal.Wkv.out8 m' c b H T i

end Values

theorem algebraic : Cert.algebraic_Kernel8Ideal_Reference8Ideal (hKernel8Ideal := Cert.Kernel8Ideal.Gen.facts)
    (hReference8Ideal := Cert.Reference8Ideal.Gen.facts) := by
  intro m g m' g' _ hargs
  refine ⟨fun c => Cert.Kernel8Ideal.Wkv.G8 m c, fun c => Cert.Kernel8Ideal.Wkv.G7 m c, ?_, ?_⟩
  · exact (θ_run Cert.Kernel8Ideal.defs _ _).mono (fun r h c => ⟨(h.1 c).1, (h.1 c).2, h.2.1 c⟩)
      (θ_run_and (Cert.Kernel8Ideal.Wkv.run_arrays m g) (Cert.Kernel8Ideal.Wkv.frame m g))
  · exact (θ_run Cert.Reference8Ideal.defs _ _).mono
      (fun r h c => ⟨(h c).1.trans (states_eq m m' c (hargs c)), (h c).2.1.trans (rows_eq m m' c (hargs c)), (h c).2.2⟩)
      (Cert.Reference8Ideal.Value.run (F := Ideal) m' g')

end Cert.Wkv8Claims

end
-- ==== Proof.Odd9.lean ====
/-
  An odd layer of the prompt from its hidden state to one of its projections: the call multiplies the mixture of every token's
  normalised row with the row before it, the rows in one column of rows, by the weight. The last token's normalised row is
  kept for the next call.
-/
module

public import proofs.«01_k».proof.Defs
public import proofs.«01_k».proof.Proof.Gen.Kernel9Ideal.Frame
public import proofs.«01_k».proof.Proof.Gen.Reference9Ideal.Run
public import proofs.«01_k».proof.Proof.MmSpec
public import Idealize.ShloMosaic.Lib.StableHlo.RunRead
public import Idealize.ShloMosaic.Lib.Quiescent
public import Idealize.ShloMosaic.Lib.KernelVsHost
public import Idealize.ShloMosaic.Lib.Pointwise

@[expose] public section

set_option maxRecDepth 16384

noncomputable section

namespace Cert.Kernel9Ideal.Odd

open Cert.Kernel9Ideal Cert.Kernel9Ideal.Gen Cert.Mm Idealize.ShloMosaic Idealize.ShloMosaic.TcCoe Idealize.SL.Sem
open Idealize.ShloMosaic.StableHlo

/-- The normalised hidden state. -/
def normed (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf
    (broadcastInDim S2x8192x1 ![0, 1] bcast_S2x8192_S2x8192x1_0_1 (Host.reduceAdd (mulf x x) (constant S_ .f32 0x00000000#32) reducesTo_S2x8192x1024_S2x8192_d2 h_S_))
    (broadcastInDim S2x8192x1 ![] bcast_S_S2x8192x1 (constant S_ .f32 0x44800000#32)))
    (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- Every token's row replaced by the row before it, the first one's by `p`. -/
def before (n : FVec Ideal S2x8192x1024 .f32) (p : FVec Ideal S2x1024 .f32) : FVec Ideal S2x8192x1024 .f32 :=
  concatenate S2x8192x1024 1 [⟨S2x1x1024, (broadcastInDim S2x1x1024 ![0, 2] bcast_S2x1024_S2x1x1024_0_2 p : FVec Ideal S2x1x1024 .f32)⟩,
    ⟨S2x8191x1024, (extractStridedSlice S2x8191x1024 ![0, 0, 0] n slices_S2x8192x1024_S2x8191x1024_0_0_0 : FVec Ideal S2x8191x1024 .f32)⟩]
    concatenates_S2x1x1024_S2x8191x1024_S2x8192x1024_d1

/-- The mixture of every row with the row before it, by the weights `mu`. -/
def mixed (n : FVec Ideal S2x8192x1024 .f32) (p : FVec Ideal S2x1024 .f32) (mu : FVec Ideal S1024 .f32) : FVec Ideal S2x8192x1024 .f32 :=
  addf n (mulf (subf (before n p) n) (broadcastInDim S2x8192x1024 ![0, 1, 2] bcast_S1x1x1024_S2x8192x1024_0_1_2 (broadcastInDim S1x1x1024 ![2] bcast_S1024_S1x1x1024_2 mu)))

/-- The last token's row. -/
def lastRow (n : FVec Ideal S2x8192x1024 .f32) : FVec Ideal S2x1024 .f32 :=
  shapeCast S2x1024 (extractStridedSlice S2x1x1024 ![0, 8191, 0] n slices_S2x8192x1024_S2x1x1024_0_8191_0 : FVec Ideal S2x1x1024 .f32) shapeCasts_S2x1x1024_S2x1024

/-- The product with the weight, as the reference takes it. -/
def projected (x : FVec Ideal S2x8192x1024 .f32) (w : FVec Ideal S1024x1024 .f32) : FVec Ideal S2x8192x1024 .f32 :=
  Host.dotGeneral (F := Ideal) (φ₁ := .f32) (φ₂ := .f32) Cert.Reference9Ideal.dot_S2x8192x1024_S1024x1024_S2x8192x1024_2_0_01_1_n_n none x w

variable (m : (ℓ : Loc nD τ sig) → Buf (Elt Ideal) ℓ) (ρ : Dev nD → PrngReg)

def argX (c : Dev nD) : FVec Ideal S2x8192x1024 .f32 := m ((c : Thread nD τ).loc main_arg0)
def argP (c : Dev nD) : FVec Ideal S2x1024 .f32 := m ((c : Thread nD τ).loc main_arg1)
def argG (c : Dev nD) : FVec Ideal S1024 .f32 := m ((c : Thread nD τ).loc main_arg2)
def argMu (c : Dev nD) : FVec Ideal S1024 .f32 := m ((c : Thread nD τ).loc main_arg3)
def argW (c : Dev nD) : FVec Ideal S1024x1024 .f32 := m ((c : Thread nD τ).loc main_arg4)

/-- The normalised hidden state and its mixture, from the arguments. -/
def hidden (c : Dev nD) : FVec Ideal S2x8192x1024 .f32 := normed (argX m c) (argG m c)
def mixture (c : Dev nD) : FVec Ideal S2x8192x1024 .f32 := mixed (hidden m c) (argP m c) (argMu m c)

/-- The mixture with its rows in one column of rows, as the region finds it. -/
def flat (c : Dev nD) : Vec Ideal S16384x1024 .f32 := V m c main_v21

theorem flat_eq (c : Dev nD) : flat m c = shapeCast S16384x1024 (mixture m c) shapeCasts_S2x8192x1024_S16384x1024 := by
  show StableHlo.after hostOps0 _ _ = _
  simp only [hostOps0, TRef.binary, TRef.nullary, TRef.ternary, TRef.unary, TRef.toBuf, TRef.ofBuf, cast_eq]
  after_results_simp
  rfl

theorem hidden_eq (c : Dev nD) : (V m c main_v12 : FVec Ideal S2x8192x1024 .f32) = hidden m c := by
  show StableHlo.after hostOps0 _ _ = _
  simp only [hostOps0, TRef.binary, TRef.nullary, TRef.ternary, TRef.unary, TRef.toBuf, TRef.ofBuf, cast_eq]
  after_results_simp
  rfl

theorem flat_apply (c : Dev nD) (b : Fin 2) (t : Fin 8192) (k : Fin 1024) (R : Fin 16384) (hR : R.val = b.val * 8192 + t.val) :
    flat m c (ix2 R k) = mixture m c (ix3 b t k) := by
  rw [flat_eq]
  refine shapeCast_apply _ _ _ _ ?_
  rw [Shape.rowMajor_val_two, Shape.rowMajor_val_three]
  show (b.val * 8192 + t.val) * 1024 + k.val = R.val * 1024 + k.val
  rw [hR]

/-- What the body computes is the product of the blocks it reads. -/
theorem pay_apply (x : Vec Ideal S512x1024 .f32) (w : Vec Ideal S1024x1024 .bf16) (r : Fin 512) (k : Fin 1024) :
    k0_pay1 x w (ix2 r k) = entry x w r k := by
  unfold entry
  pointwise [k0_pay1]

/-- The weight as the region finds it: rounding changes no real number. -/
theorem V_weight (c : Dev nD) : (V m c main_v22 : Vec Ideal S1024x1024 .bf16) = argW m c := by
  show StableHlo.after hostOps0 _ _ = _
  simp only [hostOps0, TRef.binary, TRef.nullary, TRef.ternary, TRef.unary, TRef.toBuf, TRef.ofBuf, cast_eq]
  after_results_simp
  rfl

/-- The windows' block numbers at a point. -/
theorem idx_x : ∀ t : Fin cfg0.N, win0_0.index t = ![t.val, 0] :=
  (by decide +kernel : ∀ t : Fin grid0.N, win0_0.index t = ![t.val, 0])
theorem idx_w : ∀ t : Fin cfg0.N, win0_1.index t = ![0, 0] :=
  (by decide +kernel : ∀ t : Fin grid0.N, win0_1.index t = ![0, 0])
theorem idx_out : ∀ t : Fin cfg0.N, win0_2.index t = ![t.val, 0] :=
  (by decide +kernel : ∀ t : Fin grid0.N, win0_2.index t = ![t.val, 0])

/-- A point's block of the mixture, from the array. -/
theorem blk_x (c : Dev nD) (t : Fin cfg0.N) (r : Fin 512) (k : Fin 1024) (R : Fin 16384) (hR : R.val = t.val * 512 + r.val) :
    (iblk m c 0 t : Vec Ideal S512x1024 .f32) (ix2 r k) = flat m c (ix2 R k) := by
  have e0 : win0_0.index t (0 : Fin 2) = t.val := congrFun (idx_x t) 0
  have e1 : win0_0.index t (1 : Fin 2) = 0 := congrFun (idx_x t) 1
  have he : (((cfg0.win 0).blk t).view.emb (ix2 r k : S512x1024.Idx) : S16384x1024.Idx) = ix2 R k := by
    funext a; apply Fin.ext
    match a with
    | ⟨0, _⟩ => show win0_0.index t (0 : Fin 2) * 512 + 1 * r.val = R.val; omega
    | ⟨1, _⟩ => show win0_0.index t (1 : Fin 2) * 1024 + 1 * k.val = k.val; omega
  exact congrArg (V m c main_v21 : Vec Ideal S16384x1024 .f32) he

/-- A point's block of the weight is all of it. -/
theorem blk_w (c : Dev nD) (t : Fin cfg0.N) (k : Fin 1024) (j : Fin 1024) :
    (iblk m c 1 t : Vec Ideal S1024x1024 .bf16) (ix2 k j) = argW m c (ix2 k j) := by
  have e0 : win0_1.index t (0 : Fin 2) = 0 := congrFun (idx_w t) 0
  have e1 : win0_1.index t (1 : Fin 2) = 0 := congrFun (idx_w t) 1
  have he : (((cfg0.win 1).blk t).view.emb (ix2 k j : S1024x1024.Idx) : S1024x1024.Idx) = ix2 k j := by
    funext a; apply Fin.ext
    match a with
    | ⟨0, _⟩ => show win0_1.index t (0 : Fin 2) * 1024 + 1 * k.val = k.val; omega
    | ⟨1, _⟩ => show win0_1.index t (1 : Fin 2) * 1024 + 1 * j.val = j.val; omega
  exact (congrArg (V m c main_v22 : Vec Ideal S1024x1024 .bf16) he).trans (congrFun (V_weight m c) _)

/-- What a point writes back is its block of the product. -/
theorem flushed_eq (c : Dev nD) (t : Fin cfg0.N) :
    (dats m 0 c).flushed 2 t = ((cfg0.win 2).blk t).view.read (Elt Ideal) (prod (flat m c) (argW m c)) := by
  show (cfg0.win 2).cut (grid0.coords t) ((dats m 0 c).after 2 t) = _
  rw [after0_2]
  unfold out0_2
  rw [View.canon_unit_zero (by decide), View.ld_unit_zero (by decide), View.ld_unit_zero (by decide)]
  have ht : t.val < 32 := lt_of_lt_of_eq t.isLt N_0
  have e0 : win0_2.index t (0 : Fin 2) = t.val := congrFun (idx_out t) 0
  have e1 : win0_2.index t (1 : Fin 2) = 0 := congrFun (idx_out t) 1
  funext y
  obtain ⟨r, j, rfl⟩ : ∃ (r : Fin 512) (j : Fin 1024), y = (ix2 r j : S512x1024.Idx) := ⟨y 0, y 1, eq_ix2 (y : S512x1024.Idx)⟩
  have hr := r.isLt
  have he : (((cfg0.win 2).blk t).view.emb (ix2 r j : S512x1024.Idx) : S16384x1024.Idx) = ix2 ⟨t.val * 512 + r.val, by omega⟩ j := by
    funext a; apply Fin.ext
    match a with
    | ⟨0, _⟩ => show win0_2.index t (0 : Fin 2) * 512 + 1 * r.val = t.val * 512 + r.val; omega
    | ⟨1, _⟩ => show win0_2.index t (1 : Fin 2) * 1024 + 1 * j.val = j.val; omega
  refine Eq.trans ?_ (congrArg (prod (flat m c) (argW m c)) he).symm
  show k0_pay1 (iblk m c 0 t) (iblk m c 1 t) (ix2 r j) = _
  rw [pay_apply]
  exact entry_congr (fun k => blk_x m c t r k _ rfl) (fun k => blk_w m c t k j)

/-- The array of results is the product. -/
theorem final_eq (c : Dev nD) : (dats m 0 c).arrAt 2 cfg0.N = prod (flat m c) (argW m c) :=
  (dats m 0 c).arrAt_eq_of_cover 2 _ (fun t _ => flushed_eq m c t) (fun i => by
    have h0 : (i 0).val < 16384 := (i 0).isLt
    have h1 : (i 1).val < 1024 := (i 1).isLt
    let t : Fin cfg0.N := ⟨(i 0).val / 512, lt_of_lt_of_eq (by omega) N_0.symm⟩
    have hv : t.val = (i 0).val / 512 := rfl
    refine ⟨t, flush0_2 _, ?_⟩
    show i ∈ ((View.whole main_v23).slice (win0_2.rect t)).set
    rw [View.set_slice_whole, Rect.mem_set_unit]
    show ∀ a : Fin 2, win0_2.index t a * S512x1024.size a ≤ (i a).val ∧ (i a).val < win0_2.index t a * S512x1024.size a + S512x1024.size a
    rw [idx_out]
    intro a
    match a with
    | ⟨0, _⟩ => show t.val * 512 ≤ (i 0).val ∧ (i 0).val < t.val * 512 + 512; omega
    | ⟨1, _⟩ => show 0 * 1024 ≤ (i 1).val ∧ (i 1).val < 0 * 1024 + 1024; omega)

/-- The product after the call, in the reference's layout, is the reference's product. -/
theorem projected_eq (c : Dev nD) :
    (shapeCast S2x8192x1024 (prod (flat m c) (argW m c) : Vec Ideal S16384x1024 .f32) shapeCasts_S16384x1024_S2x8192x1024 : Vec Ideal S2x8192x1024 .f32)
      = projected (mixture m c) (argW m c) := by
  funext q
  obtain ⟨b, t, j, rfl⟩ : ∃ (b : Fin 2) (t : Fin 8192) (j : Fin 1024), q = (ix3 b t j : S2x8192x1024.Idx) := ⟨q 0, q 1, q 2, eq_ix3 q⟩
  have hb := b.isLt
  have ht := t.isLt
  refine (shapeCast_apply _ _ _ (ix2 ⟨b.val * 8192 + t.val, by omega⟩ j : S16384x1024.Idx) (by
    rw [Shape.rowMajor_val_two, Shape.rowMajor_val_three]; rfl)).trans ?_
  show ∑ k : Fin 1024, flat m c (ix2 ⟨b.val * 8192 + t.val, _⟩ k) * argW m c (ix2 k j) = _
  simp only [fun k => flat_apply m c b t k ⟨b.val * 8192 + t.val, by omega⟩ rfl]
  unfold projected
  generalize mixture m c = x
  generalize argW m c = w
  symm
  pointwise

/-! ## What the operations after the call leave -/

section Tail

variable (W : Valuation τ sig (Elt Ideal))

theorem tail0 : StableHlo.after (List.flatten [hostOps1]) W (Proc.devRef .tc main_v24)
    = (shapeCast S2x8192x1024 (W (Proc.devRef .tc main_v23) : FVec Ideal S16384x1024 .f32) shapeCasts_S16384x1024_S2x8192x1024 : FVec Ideal S2x8192x1024 .f32) := by
  show StableHlo.after hostOps1 _ _ = _
  simp only [hostOps1, TRef.binary, TRef.nullary, TRef.ternary, TRef.unary, TRef.toBuf, TRef.ofBuf, cast_eq]
  after_results_simp
  rfl

theorem tail1 : StableHlo.after (List.flatten [hostOps1]) W (Proc.devRef .tc main_v26)
    = lastRow (W (Proc.devRef .tc main_v12)) := by
  show StableHlo.after hostOps1 _ _ = _
  simp only [hostOps1, TRef.binary, TRef.nullary, TRef.ternary, TRef.unary, TRef.toBuf, TRef.ofBuf, cast_eq]
  after_results_simp
  rfl

end Tail

/-! ## The two runs -/

/-- The buffers after the call. -/
def after1 (c : Dev nD) : Valuation τ sig (Elt Ideal) :=
  Pipeline.withArrays spec0 c (V0 m c) fun w => (dats m 0 c).arrAt w cfg0.N

theorem product_after1 (c : Dev nD) : (after1 m c (Proc.devRef .tc main_v23) : FVec Ideal S16384x1024 .f32) = prod (flat m c) (argW m c) :=
  (Pipeline.withArrays_arr spec0 launch0.win.arr_inj c _ _ 2).trans (final_eq m c)

theorem hidden_after1 (c : Dev nD) : (after1 m c (Proc.devRef .tc main_v12) : FVec Ideal S2x8192x1024 .f32) = hidden m c :=
  (Pipeline.withArrays_of_ne spec0 c (V0 m c) _ main_v12 (by exact (by decide : ∀ w, Pipeline.arrRef spec0 w ≠ main_v12))).trans (hidden_eq m c)

/-- What the kernel leaves in a buffer that an operation after the call writes. -/
theorem left_eq (c : Dev nD) (b : Ref sig .tc) :
    Pipeline.afterTail₀ cfgs (dats m) 0 (V0 m) [hostOps1] c b
      = StableHlo.after (List.flatten [hostOps1]) (after1 m c) (Proc.devRef .tc b) := rfl

theorem left0 (c : Dev nD) : Pipeline.afterTail₀ cfgs (dats m) 0 (V0 m) [hostOps1] c main_v24 = projected (mixture m c) (argW m c) := by
  rw [left_eq, tail0, product_after1]
  exact projected_eq m c

theorem left1 (c : Dev nD) : Pipeline.afterTail₀ cfgs (dats m) 0 (V0 m) [hostOps1] c main_v26 = lastRow (hidden m c) := by
  rw [left_eq, tail1, hidden_after1]

/-- The kernel's run and the reference's leave the same projection and the same row. -/
theorem algebraic : Cert.algebraic_Kernel9Ideal_Reference9Ideal (hKernel9Ideal := facts) (hReference9Ideal := Cert.Reference9Ideal.Gen.facts) := by
  intro m g m' g' _ hargs
  refine ⟨fun c => projected (mixture m c) (argW m c), fun c => lastRow (hidden m c), ?_, ?_⟩
  · exact (θ_run defs _ _).mono (fun r h c => ⟨((h.1 c).2 main_v24 (Pipeline.mem_restRefs_of main_v24 (by decide) (by decide))).trans (left0 m c),
      ((h.1 c).2 main_v26 (Pipeline.mem_restRefs_of main_v26 (by decide) (by decide))).trans (left1 m c),
      h.2.1 c⟩) (θ_run_and (run_main m g) (frame m g))
  · refine (θ_run Cert.Reference9Ideal.defs _ _).mono (fun r h c => ?_) (Cert.Reference9Ideal.Value.run (F := Ideal) m' g')
    obtain ⟨h0, h1, kept⟩ := h c
    obtain ⟨a0, a1, a2, a3, a4⟩ := hargs c
    refine ⟨h0.trans ?_, h1.trans ?_, kept⟩
    · rw [a0, a1, a2, a3, a4]
      rfl
    · rw [a0, a2]
      rfl

theorem reference : Cert.quiescent_Reference9Ideal (hReference9Ideal := Cert.Reference9Ideal.Gen.facts) :=
  fun m g _ => (θ_run Cert.Reference9Ideal.defs _ _).mono
    (fun r h => ⟨fun c => (h c).2.2, sem_eq_zero_of_no_sems (by decide) r.2⟩) (Cert.Reference9Ideal.Value.run (F := Ideal) m g)

end Cert.Kernel9Ideal.Odd

end
-- ==== Proof.Odd10.lean ====
/-
  An odd layer of the sample group from its hidden state to one of its projections: the call multiplies the mixture of every token's
  normalised row with the row before it, the rows in one column of rows, by the weight. The last token's normalised row is
  kept for the next call.
-/
module

public import proofs.«01_k».proof.Defs
public import proofs.«01_k».proof.Proof.Gen.Kernel10Ideal.Frame
public import proofs.«01_k».proof.Proof.Gen.Reference10Ideal.Run
public import proofs.«01_k».proof.Proof.MmSpec
public import Idealize.ShloMosaic.Lib.StableHlo.RunRead
public import Idealize.ShloMosaic.Lib.Quiescent
public import Idealize.ShloMosaic.Lib.KernelVsHost
public import Idealize.ShloMosaic.Lib.Pointwise

@[expose] public section

set_option maxRecDepth 16384

noncomputable section

namespace Cert.Kernel10Ideal.Odd

open Cert.Kernel10Ideal Cert.Kernel10Ideal.Gen Cert.Mm Idealize.ShloMosaic Idealize.ShloMosaic.TcCoe Idealize.SL.Sem
open Idealize.ShloMosaic.StableHlo

/-- The normalised hidden state. -/
def normed (x : FVec Ideal S128x8x1024 .f32) (g : FVec Ideal S1024 .f32) : FVec Ideal S128x8x1024 .f32 :=
  mulf (mulf x (broadcastInDim S128x8x1024 ![0, 1, 2] bcast_S128x8x1_S128x8x1024_0_1_2 (Host.rsqrt (addf (Host.divf
    (broadcastInDim S128x8x1 ![0, 1] bcast_S128x8_S128x8x1_0_1 (Host.reduceAdd (mulf x x) (constant S_ .f32 0x00000000#32) reducesTo_S128x8x1024_S128x8_d2 h_S_))
    (broadcastInDim S128x8x1 ![] bcast_S_S128x8x1 (constant S_ .f32 0x44800000#32)))
    (broadcastInDim S128x8x1 ![] bcast_S_S128x8x1 (constant S_ .f32 0x358637BD#32))))))
    (broadcastInDim S128x8x1024 ![0, 1, 2] bcast_S1x1x1024_S128x8x1024_0_1_2 (broadcastInDim S1x1x1024 ![2] bcast_S1024_S1x1x1024_2 g))

/-- Every token's row replaced by the row before it, the first one's by `p`. -/
def before (n : FVec Ideal S128x8x1024 .f32) (p : FVec Ideal S128x1024 .f32) : FVec Ideal S128x8x1024 .f32 :=
  concatenate S128x8x1024 1 [⟨S128x1x1024, (broadcastInDim S128x1x1024 ![0, 2] bcast_S128x1024_S128x1x1024_0_2 p : FVec Ideal S128x1x1024 .f32)⟩,
    ⟨S128x7x1024, (extractStridedSlice S128x7x1024 ![0, 0, 0] n slices_S128x8x1024_S128x7x1024_0_0_0 : FVec Ideal S128x7x1024 .f32)⟩]
    concatenates_S128x1x1024_S128x7x1024_S128x8x1024_d1

/-- The mixture of every row with the row before it, by the weights `mu`. -/
def mixed (n : FVec Ideal S128x8x1024 .f32) (p : FVec Ideal S128x1024 .f32) (mu : FVec Ideal S1024 .f32) : FVec Ideal S128x8x1024 .f32 :=
  addf n (mulf (subf (before n p) n) (broadcastInDim S128x8x1024 ![0, 1, 2] bcast_S1x1x1024_S128x8x1024_0_1_2 (broadcastInDim S1x1x1024 ![2] bcast_S1024_S1x1x1024_2 mu)))

/-- The last token's row. -/
def lastRow (n : FVec Ideal S128x8x1024 .f32) : FVec Ideal S128x1024 .f32 :=
  shapeCast S128x1024 (extractStridedSlice S128x1x1024 ![0, 7, 0] n slices_S128x8x1024_S128x1x1024_0_7_0 : FVec Ideal S128x1x1024 .f32) shapeCasts_S128x1x1024_S128x1024

/-- The product with the weight, as the reference takes it. -/
def projected (x : FVec Ideal S128x8x1024 .f32) (w : FVec Ideal S1024x1024 .f32) : FVec Ideal S128x8x1024 .f32 :=
  Host.dotGeneral (F := Ideal) (φ₁ := .f32) (φ₂ := .f32) Cert.Reference10Ideal.dot_S128x8x1024_S1024x1024_S128x8x1024_2_0_01_1_n_n none x w

variable (m : (ℓ : Loc nD τ sig) → Buf (Elt Ideal) ℓ) (ρ : Dev nD → PrngReg)

def argX (c : Dev nD) : FVec Ideal S128x8x1024 .f32 := m ((c : Thread nD τ).loc main_arg0)
def argP (c : Dev nD) : FVec Ideal S128x1024 .f32 := m ((c : Thread nD τ).loc main_arg1)
def argG (c : Dev nD) : FVec Ideal S1024 .f32 := m ((c : Thread nD τ).loc main_arg2)
def argMu (c : Dev nD) : FVec Ideal S1024 .f32 := m ((c : Thread nD τ).loc main_arg3)
def argW (c : Dev nD) : FVec Ideal S1024x1024 .f32 := m ((c : Thread nD τ).loc main_arg4)

/-- The normalised hidden state and its mixture, from the arguments. -/
def hidden (c : Dev nD) : FVec Ideal S128x8x1024 .f32 := normed (argX m c) (argG m c)
def mixture (c : Dev nD) : FVec Ideal S128x8x1024 .f32 := mixed (hidden m c) (argP m c) (argMu m c)

/-- The mixture with its rows in one column of rows, as the region finds it. -/
def flat (c : Dev nD) : Vec Ideal S1024x1024 .f32 := V m c main_v21

theorem flat_eq (c : Dev nD) : flat m c = shapeCast S1024x1024 (mixture m c) shapeCasts_S128x8x1024_S1024x1024 := by
  show StableHlo.after hostOps0 _ _ = _
  simp only [hostOps0, TRef.binary, TRef.nullary, TRef.ternary, TRef.unary, TRef.toBuf, TRef.ofBuf, cast_eq]
  after_results_simp
  rfl

theorem hidden_eq (c : Dev nD) : (V m c main_v12 : FVec Ideal S128x8x1024 .f32) = hidden m c := by
  show StableHlo.after hostOps0 _ _ = _
  simp only [hostOps0, TRef.binary, TRef.nullary, TRef.ternary, TRef.unary, TRef.toBuf, TRef.ofBuf, cast_eq]
  after_results_simp
  rfl

theorem flat_apply (c : Dev nD) (b : Fin 128) (t : Fin 8) (k : Fin 1024) (R : Fin 1024) (hR : R.val = b.val * 8 + t.val) :
    flat m c (ix2 R k) = mixture m c (ix3 b t k) := by
  rw [flat_eq]
  refine shapeCast_apply _ _ _ _ ?_
  rw [Shape.rowMajor_val_two, Shape.rowMajor_val_three]
  show (b.val * 8 + t.val) * 1024 + k.val = R.val * 1024 + k.val
  rw [hR]

/-- What the body computes is the product of the blocks it reads. -/
theorem pay_apply (x : Vec Ideal S512x1024 .f32) (w : Vec Ideal S1024x1024 .bf16) (r : Fin 512) (k : Fin 1024) :
    k0_pay1 x w (ix2 r k) = entry x w r k := by
  unfold entry
  pointwise [k0_pay1]

/-- The weight as the region finds it: rounding changes no real number. -/
theorem V_weight (c : Dev nD) : (V m c main_v22 : Vec Ideal S1024x1024 .bf16) = argW m c := by
  show StableHlo.after hostOps0 _ _ = _
  simp only [hostOps0, TRef.binary, TRef.nullary, TRef.ternary, TRef.unary, TRef.toBuf, TRef.ofBuf, cast_eq]
  after_results_simp
  rfl

/-- The windows' block numbers at a point. -/
theorem idx_x : ∀ t : Fin cfg0.N, win0_0.index t = ![t.val, 0] :=
  (by decide +kernel : ∀ t : Fin grid0.N, win0_0.index t = ![t.val, 0])
theorem idx_w : ∀ t : Fin cfg0.N, win0_1.index t = ![0, 0] :=
  (by decide +kernel : ∀ t : Fin grid0.N, win0_1.index t = ![0, 0])
theorem idx_out : ∀ t : Fin cfg0.N, win0_2.index t = ![t.val, 0] :=
  (by decide +kernel : ∀ t : Fin grid0.N, win0_2.index t = ![t.val, 0])

/-- A point's block of the mixture, from the array. -/
theorem blk_x (c : Dev nD) (t : Fin cfg0.N) (r : Fin 512) (k : Fin 1024) (R : Fin 1024) (hR : R.val = t.val * 512 + r.val) :
    (iblk m c 0 t : Vec Ideal S512x1024 .f32) (ix2 r k) = flat m c (ix2 R k) := by
  have e0 : win0_0.index t (0 : Fin 2) = t.val := congrFun (idx_x t) 0
  have e1 : win0_0.index t (1 : Fin 2) = 0 := congrFun (idx_x t) 1
  have he : (((cfg0.win 0).blk t).view.emb (ix2 r k : S512x1024.Idx) : S1024x1024.Idx) = ix2 R k := by
    funext a; apply Fin.ext
    match a with
    | ⟨0, _⟩ => show win0_0.index t (0 : Fin 2) * 512 + 1 * r.val = R.val; omega
    | ⟨1, _⟩ => show win0_0.index t (1 : Fin 2) * 1024 + 1 * k.val = k.val; omega
  exact congrArg (V m c main_v21 : Vec Ideal S1024x1024 .f32) he

/-- A point's block of the weight is all of it. -/
theorem blk_w (c : Dev nD) (t : Fin cfg0.N) (k : Fin 1024) (j : Fin 1024) :
    (iblk m c 1 t : Vec Ideal S1024x1024 .bf16) (ix2 k j) = argW m c (ix2 k j) := by
  have e0 : win0_1.index t (0 : Fin 2) = 0 := congrFun (idx_w t) 0
  have e1 : win0_1.index t (1 : Fin 2) = 0 := congrFun (idx_w t) 1
  have he : (((cfg0.win 1).blk t).view.emb (ix2 k j : S1024x1024.Idx) : S1024x1024.Idx) = ix2 k j := by
    funext a; apply Fin.ext
    match a with
    | ⟨0, _⟩ => show win0_1.index t (0 : Fin 2) * 1024 + 1 * k.val = k.val; omega
    | ⟨1, _⟩ => show win0_1.index t (1 : Fin 2) * 1024 + 1 * j.val = j.val; omega
  exact (congrArg (V m c main_v22 : Vec Ideal S1024x1024 .bf16) he).trans (congrFun (V_weight m c) _)

/-- What a point writes back is its block of the product. -/
theorem flushed_eq (c : Dev nD) (t : Fin cfg0.N) :
    (dats m 0 c).flushed 2 t = ((cfg0.win 2).blk t).view.read (Elt Ideal) (prod (flat m c) (argW m c)) := by
  show (cfg0.win 2).cut (grid0.coords t) ((dats m 0 c).after 2 t) = _
  rw [after0_2]
  unfold out0_2
  rw [View.canon_unit_zero (by decide), View.ld_unit_zero (by decide), View.ld_unit_zero (by decide)]
  have ht : t.val < 2 := lt_of_lt_of_eq t.isLt N_0
  have e0 : win0_2.index t (0 : Fin 2) = t.val := congrFun (idx_out t) 0
  have e1 : win0_2.index t (1 : Fin 2) = 0 := congrFun (idx_out t) 1
  funext y
  obtain ⟨r, j, rfl⟩ : ∃ (r : Fin 512) (j : Fin 1024), y = (ix2 r j : S512x1024.Idx) := ⟨y 0, y 1, eq_ix2 (y : S512x1024.Idx)⟩
  have hr := r.isLt
  have he : (((cfg0.win 2).blk t).view.emb (ix2 r j : S512x1024.Idx) : S1024x1024.Idx) = ix2 ⟨t.val * 512 + r.val, by omega⟩ j := by
    funext a; apply Fin.ext
    match a with
    | ⟨0, _⟩ => show win0_2.index t (0 : Fin 2) * 512 + 1 * r.val = t.val * 512 + r.val; omega
    | ⟨1, _⟩ => show win0_2.index t (1 : Fin 2) * 1024 + 1 * j.val = j.val; omega
  refine Eq.trans ?_ (congrArg (prod (flat m c) (argW m c)) he).symm
  show k0_pay1 (iblk m c 0 t) (iblk m c 1 t) (ix2 r j) = _
  rw [pay_apply]
  exact entry_congr (fun k => blk_x m c t r k _ rfl) (fun k => blk_w m c t k j)

/-- The array of results is the product. -/
theorem final_eq (c : Dev nD) : (dats m 0 c).arrAt 2 cfg0.N = prod (flat m c) (argW m c) :=
  (dats m 0 c).arrAt_eq_of_cover 2 _ (fun t _ => flushed_eq m c t) (fun i => by
    have h0 : (i 0).val < 1024 := (i 0).isLt
    have h1 : (i 1).val < 1024 := (i 1).isLt
    let t : Fin cfg0.N := ⟨(i 0).val / 512, lt_of_lt_of_eq (by omega) N_0.symm⟩
    have hv : t.val = (i 0).val / 512 := rfl
    refine ⟨t, flush0_2 _, ?_⟩
    show i ∈ ((View.whole main_v23).slice (win0_2.rect t)).set
    rw [View.set_slice_whole, Rect.mem_set_unit]
    show ∀ a : Fin 2, win0_2.index t a * S512x1024.size a ≤ (i a).val ∧ (i a).val < win0_2.index t a * S512x1024.size a + S512x1024.size a
    rw [idx_out]
    intro a
    match a with
    | ⟨0, _⟩ => show t.val * 512 ≤ (i 0).val ∧ (i 0).val < t.val * 512 + 512; omega
    | ⟨1, _⟩ => show 0 * 1024 ≤ (i 1).val ∧ (i 1).val < 0 * 1024 + 1024; omega)

/-- The product after the call, in the reference's layout, is the reference's product. -/
theorem projected_eq (c : Dev nD) :
    (shapeCast S128x8x1024 (prod (flat m c) (argW m c) : Vec Ideal S1024x1024 .f32) shapeCasts_S1024x1024_S128x8x1024 : Vec Ideal S128x8x1024 .f32)
      = projected (mixture m c) (argW m c) := by
  funext q
  obtain ⟨b, t, j, rfl⟩ : ∃ (b : Fin 128) (t : Fin 8) (j : Fin 1024), q = (ix3 b t j : S128x8x1024.Idx) := ⟨q 0, q 1, q 2, eq_ix3 q⟩
  have hb := b.isLt
  have ht := t.isLt
  refine (shapeCast_apply _ _ _ (ix2 ⟨b.val * 8 + t.val, by omega⟩ j : S1024x1024.Idx) (by
    rw [Shape.rowMajor_val_two, Shape.rowMajor_val_three]; rfl)).trans ?_
  show ∑ k : Fin 1024, flat m c (ix2 ⟨b.val * 8 + t.val, _⟩ k) * argW m c (ix2 k j) = _
  simp only [fun k => flat_apply m c b t k ⟨b.val * 8 + t.val, by omega⟩ rfl]
  unfold projected
  generalize mixture m c = x
  generalize argW m c = w
  symm
  pointwise

/-! ## What the operations after the call leave -/

section Tail

variable (W : Valuation τ sig (Elt Ideal))

theorem tail0 : StableHlo.after (List.flatten [hostOps1]) W (Proc.devRef .tc main_v24)
    = (shapeCast S128x8x1024 (W (Proc.devRef .tc main_v23) : FVec Ideal S1024x1024 .f32) shapeCasts_S1024x1024_S128x8x1024 : FVec Ideal S128x8x1024 .f32) := by
  show StableHlo.after hostOps1 _ _ = _
  simp only [hostOps1, TRef.binary, TRef.nullary, TRef.ternary, TRef.unary, TRef.toBuf, TRef.ofBuf, cast_eq]
  after_results_simp
  rfl

theorem tail1 : StableHlo.after (List.flatten [hostOps1]) W (Proc.devRef .tc main_v26)
    = lastRow (W (Proc.devRef .tc main_v12)) := by
  show StableHlo.after hostOps1 _ _ = _
  simp only [hostOps1, TRef.binary, TRef.nullary, TRef.ternary, TRef.unary, TRef.toBuf, TRef.ofBuf, cast_eq]
  after_results_simp
  rfl

end Tail

/-! ## The two runs -/

/-- The buffers after the call. -/
def after1 (c : Dev nD) : Valuation τ sig (Elt Ideal) :=
  Pipeline.withArrays spec0 c (V0 m c) fun w => (dats m 0 c).arrAt w cfg0.N

theorem product_after1 (c : Dev nD) : (after1 m c (Proc.devRef .tc main_v23) : FVec Ideal S1024x1024 .f32) = prod (flat m c) (argW m c) :=
  (Pipeline.withArrays_arr spec0 launch0.win.arr_inj c _ _ 2).trans (final_eq m c)

theorem hidden_after1 (c : Dev nD) : (after1 m c (Proc.devRef .tc main_v12) : FVec Ideal S128x8x1024 .f32) = hidden m c :=
  (Pipeline.withArrays_of_ne spec0 c (V0 m c) _ main_v12 (by exact (by decide : ∀ w, Pipeline.arrRef spec0 w ≠ main_v12))).trans (hidden_eq m c)

/-- What the kernel leaves in a buffer that an operation after the call writes. -/
theorem left_eq (c : Dev nD) (b : Ref sig .tc) :
    Pipeline.afterTail₀ cfgs (dats m) 0 (V0 m) [hostOps1] c b
      = StableHlo.after (List.flatten [hostOps1]) (after1 m c) (Proc.devRef .tc b) := rfl

theorem left0 (c : Dev nD) : Pipeline.afterTail₀ cfgs (dats m) 0 (V0 m) [hostOps1] c main_v24 = projected (mixture m c) (argW m c) := by
  rw [left_eq, tail0, product_after1]
  exact projected_eq m c

theorem left1 (c : Dev nD) : Pipeline.afterTail₀ cfgs (dats m) 0 (V0 m) [hostOps1] c main_v26 = lastRow (hidden m c) := by
  rw [left_eq, tail1, hidden_after1]

/-- The kernel's run and the reference's leave the same projection and the same row. -/
theorem algebraic : Cert.algebraic_Kernel10Ideal_Reference10Ideal (hKernel10Ideal := facts) (hReference10Ideal := Cert.Reference10Ideal.Gen.facts) := by
  intro m g m' g' _ hargs
  refine ⟨fun c => projected (mixture m c) (argW m c), fun c => lastRow (hidden m c), ?_, ?_⟩
  · exact (θ_run defs _ _).mono (fun r h c => ⟨((h.1 c).2 main_v24 (Pipeline.mem_restRefs_of main_v24 (by decide) (by decide))).trans (left0 m c),
      ((h.1 c).2 main_v26 (Pipeline.mem_restRefs_of main_v26 (by decide) (by decide))).trans (left1 m c),
      h.2.1 c⟩) (θ_run_and (run_main m g) (frame m g))
  · refine (θ_run Cert.Reference10Ideal.defs _ _).mono (fun r h c => ?_) (Cert.Reference10Ideal.Value.run (F := Ideal) m' g')
    obtain ⟨h0, h1, kept⟩ := h c
    obtain ⟨a0, a1, a2, a3, a4⟩ := hargs c
    refine ⟨h0.trans ?_, h1.trans ?_, kept⟩
    · rw [a0, a1, a2, a3, a4]
      rfl
    · rw [a0, a2]
      rfl

theorem reference : Cert.quiescent_Reference10Ideal (hReference10Ideal := Cert.Reference10Ideal.Gen.facts) :=
  fun m g _ => (θ_run Cert.Reference10Ideal.defs _ _).mono
    (fun r h => ⟨fun c => (h c).2.2, sem_eq_zero_of_no_sems (by decide) r.2⟩) (Cert.Reference10Ideal.Value.run (F := Ideal) m g)

end Cert.Kernel10Ideal.Odd

end
-- ==== Proof.Mm11.lean ====
/-
  The projection of the sample group's tokens by a square weight: the array the call ends with is the product of its arguments,
  and so is the reference's.
-/
module

public import proofs.«01_k».proof.Defs
public import proofs.«01_k».proof.Proof.Gen.Kernel11Ideal.Value
public import proofs.«01_k».proof.Proof.Gen.Reference11Ideal.Run
public import proofs.«01_k».proof.Proof.MmSpec
public import Idealize.ShloMosaic.Lib.StableHlo.RunRead
public import Idealize.ShloMosaic.Lib.Quiescent
public import Idealize.ShloMosaic.Lib.Pointwise

@[expose] public section

set_option maxRecDepth 16384

noncomputable section

namespace Cert.Kernel11Ideal.Mm

open Cert.Kernel11Ideal Cert.Kernel11Ideal.Gen Cert.Mm Idealize.ShloMosaic Idealize.ShloMosaic.TcCoe Idealize.SL.Sem
open Idealize.ShloMosaic.StableHlo

variable (m : (ℓ : Loc nD τ sig) → Buf (Elt Ideal) ℓ) (ρ : Dev nD → PrngReg)

/-- The call's two arguments. -/
def argX (c : Dev nD) : Vec Ideal S1024x1024 .f32 := m ((c : Thread nD τ).loc main_arg0)
def argW (c : Dev nD) : Vec Ideal S1024x1024 .f32 := m ((c : Thread nD τ).loc main_arg1)

/-- What the body computes is the product of the blocks it reads. -/
theorem pay_apply (x : Vec Ideal S512x1024 .f32) (w : Vec Ideal S1024x1024 .bf16) (r : Fin 512) (k : Fin 1024) :
    k0_pay1 x w (ix2 r k) = entry x w r k := by
  unfold entry
  pointwise [k0_pay1]

/-- The weight as the region finds it: rounding changes no real number. -/
theorem V_weight (c : Dev nD) : (V m c main_v0 : Vec Ideal S1024x1024 .bf16) = argW m c := by
  show StableHlo.after hostOps0 _ _ = _
  after_results
  rfl

/-- The windows' block numbers at a point. -/
theorem idx_x : ∀ t : Fin cfg0.N, win0_0.index t = ![t.val, 0] :=
  (by decide +kernel : ∀ t : Fin grid0.N, win0_0.index t = ![t.val, 0])
theorem idx_w : ∀ t : Fin cfg0.N, win0_1.index t = ![0, 0] :=
  (by decide +kernel : ∀ t : Fin grid0.N, win0_1.index t = ![0, 0])
theorem idx_out : ∀ t : Fin cfg0.N, win0_2.index t = ![t.val, 0] :=
  (by decide +kernel : ∀ t : Fin grid0.N, win0_2.index t = ![t.val, 0])

/-- A point's block of `x`, from the array. -/
theorem blk_x (c : Dev nD) (t : Fin cfg0.N) (r : Fin 512) (k : Fin 1024) (R : Fin 1024) (hR : R.val = t.val * 512 + r.val) :
    (iblk m c 0 t : Vec Ideal S512x1024 .f32) (ix2 r k) = argX m c (ix2 R k) := by
  have e0 : win0_0.index t (0 : Fin 2) = t.val := congrFun (idx_x t) 0
  have e1 : win0_0.index t (1 : Fin 2) = 0 := congrFun (idx_x t) 1
  have he : (((cfg0.win 0).blk t).view.emb (ix2 r k : S512x1024.Idx) : S1024x1024.Idx) = ix2 R k := by
    funext a; apply Fin.ext
    match a with
    | ⟨0, _⟩ => show win0_0.index t (0 : Fin 2) * 512 + 1 * r.val = R.val; omega
    | ⟨1, _⟩ => show win0_0.index t (1 : Fin 2) * 1024 + 1 * k.val = k.val; omega
  exact (congrArg (V m c main_arg0 : Vec Ideal S1024x1024 .f32) he).trans (congrFun (V_main_arg0 m c) _)

/-- A point's block of `w` is all of it. -/
theorem blk_w (c : Dev nD) (t : Fin cfg0.N) (k : Fin 1024) (j : Fin 1024) :
    (iblk m c 1 t : Vec Ideal S1024x1024 .bf16) (ix2 k j) = argW m c (ix2 k j) := by
  have e0 : win0_1.index t (0 : Fin 2) = 0 := congrFun (idx_w t) 0
  have e1 : win0_1.index t (1 : Fin 2) = 0 := congrFun (idx_w t) 1
  have he : (((cfg0.win 1).blk t).view.emb (ix2 k j : S1024x1024.Idx) : S1024x1024.Idx) = ix2 k j := by
    funext a; apply Fin.ext
    match a with
    | ⟨0, _⟩ => show win0_1.index t (0 : Fin 2) * 1024 + 1 * k.val = k.val; omega
    | ⟨1, _⟩ => show win0_1.index t (1 : Fin 2) * 1024 + 1 * j.val = j.val; omega
  exact (congrArg (V m c main_v0 : Vec Ideal S1024x1024 .bf16) he).trans (congrFun (V_weight m c) _)

/-- What a point writes back is its block of the product. -/
theorem flushed_eq (c : Dev nD) (t : Fin cfg0.N) :
    (dats m 0 c).flushed 2 t = ((cfg0.win 2).blk t).view.read (Elt Ideal) (prod (argX m c) (argW m c)) := by
  rw [Value.flushed2]
  unfold out0_2
  rw [View.canon_unit_zero (by decide), View.ld_unit_zero (by decide), View.ld_unit_zero (by decide)]
  have ht : t.val < 2 := lt_of_lt_of_eq t.isLt N_0
  have e0 : win0_2.index t (0 : Fin 2) = t.val := congrFun (idx_out t) 0
  have e1 : win0_2.index t (1 : Fin 2) = 0 := congrFun (idx_out t) 1
  funext y
  obtain ⟨r, j, rfl⟩ : ∃ (r : Fin 512) (j : Fin 1024), y = (ix2 r j : S512x1024.Idx) := ⟨y 0, y 1, eq_ix2 (y : S512x1024.Idx)⟩
  have hr := r.isLt
  have he : (((cfg0.win 2).blk t).view.emb (ix2 r j : S512x1024.Idx) : S1024x1024.Idx) = ix2 ⟨t.val * 512 + r.val, by omega⟩ j := by
    funext a; apply Fin.ext
    match a with
    | ⟨0, _⟩ => show win0_2.index t (0 : Fin 2) * 512 + 1 * r.val = t.val * 512 + r.val; omega
    | ⟨1, _⟩ => show win0_2.index t (1 : Fin 2) * 1024 + 1 * j.val = j.val; omega
  refine Eq.trans ?_ (congrArg (prod (argX m c) (argW m c)) he).symm
  show k0_pay1 (iblk m c 0 t) (iblk m c 1 t) (ix2 r j) = _
  rw [pay_apply]
  exact entry_congr (fun k => blk_x m c t r k _ rfl) (fun k => blk_w m c t k j)

/-- The array of results is the product. -/
theorem final_eq (c : Dev nD) : (dats m 0 c).arrAt 2 cfg0.N = prod (argX m c) (argW m c) :=
  (dats m 0 c).arrAt_eq_of_cover 2 _ (fun t _ => flushed_eq m c t) (fun i => by
    have h0 : (i 0).val < 1024 := (i 0).isLt
    have h1 : (i 1).val < 1024 := (i 1).isLt
    let t : Fin cfg0.N := ⟨(i 0).val / 512, lt_of_lt_of_eq (by omega) N_0.symm⟩
    have hv : t.val = (i 0).val / 512 := rfl
    refine ⟨t, flush0_2 _, ?_⟩
    show i ∈ ((View.whole main_v1).slice (win0_2.rect t)).set
    rw [View.set_slice_whole, Rect.mem_set_unit]
    show ∀ a : Fin 2, win0_2.index t a * S512x1024.size a ≤ (i a).val ∧ (i a).val < win0_2.index t a * S512x1024.size a + S512x1024.size a
    rw [idx_out]
    intro a
    match a with
    | ⟨0, _⟩ => show t.val * 512 ≤ (i 0).val ∧ (i 0).val < t.val * 512 + 512; omega
    | ⟨1, _⟩ => show 0 * 1024 ≤ (i 1).val ∧ (i 1).val < 0 * 1024 + 1024; omega)

/-- The reference's product. -/
theorem ref_eq (x : Vec Ideal S1024x1024 .f32) (w : Vec Ideal S1024x1024 .f32) :
    (Host.dotGeneral (F := Ideal) (φ₁ := .f32) (φ₂ := .f32) Cert.Reference11Ideal.dot_S1024x1024_S1024x1024_S1024x1024_1_0_0_1_n_n none x w : Vec Ideal S1024x1024 .f32)
      = prod x w := by
  funext q
  obtain ⟨r, j, rfl⟩ : ∃ (r : Fin 1024) (j : Fin 1024), q = (ix2 r j : S1024x1024.Idx) := ⟨q 0, q 1, eq_ix2 q⟩
  show _ = entry x w r j
  unfold entry
  pointwise

theorem algebraic : Cert.algebraic_Kernel11Ideal_Reference11Ideal (hKernel11Ideal := facts) (hReference11Ideal := Cert.Reference11Ideal.Gen.facts) := by
  intro m g m' g' _ hargs
  refine ⟨fun c => prod (argX m c) (argW m c), ?_, ?_⟩
  · exact (θ_run defs _ _).mono (fun r h c => ⟨(h c).1.trans (final_eq m c), (h c).2⟩) (Value.run_blocks m g)
  · refine (θ_run Cert.Reference11Ideal.defs _ _).mono (fun r h c => ⟨(h c).1.trans ?_, (h c).2⟩)
      (Cert.Reference11Ideal.Value.run (F := Ideal) m' g')
    rw [(hargs c).1, (hargs c).2]
    exact ref_eq (argX m c) (argW m c)

theorem reference : Cert.quiescent_Reference11Ideal (hReference11Ideal := Cert.Reference11Ideal.Gen.facts) :=
  fun m g _ => (θ_run Cert.Reference11Ideal.defs _ _).mono
    (fun r h => ⟨fun c => (h c).2, sem_eq_zero_of_no_sems (by decide) r.2⟩) (Cert.Reference11Ideal.Value.run (F := Ideal) m g)

end Cert.Kernel11Ideal.Mm

end
-- ==== Proof.Mm12.lean ====
/-
  The input projection of an attention layer at the sample group's shapes: the call's blocks cover a weight widened by
  columns of zeros, and the columns of its result that belong to the weight itself are the product of the call's arguments;
  so is the reference's result.
-/
module

public import proofs.«01_k».proof.Defs
public import proofs.«01_k».proof.Proof.Gen.Kernel12Ideal.Frame
public import proofs.«01_k».proof.Proof.Gen.Reference12Ideal.Run
public import proofs.«01_k».proof.Proof.MmSpec
public import Idealize.ShloMosaic.Lib.StableHlo.RunRead
public import Idealize.ShloMosaic.Lib.Quiescent
public import Idealize.ShloMosaic.Lib.KernelVsHost
public import Idealize.ShloMosaic.Lib.Pointwise

@[expose] public section

set_option maxRecDepth 16384

noncomputable section

namespace Cert.Kernel12Ideal.Mm

open Cert.Kernel12Ideal Cert.Kernel12Ideal.Gen Cert.Mm Idealize.ShloMosaic Idealize.ShloMosaic.TcCoe Idealize.SL.Sem
open Idealize.ShloMosaic.StableHlo

variable (m : (ℓ : Loc nD τ sig) → Buf (Elt Ideal) ℓ) (ρ : Dev nD → PrngReg)

/-- The call's two arguments. -/
def argX (c : Dev nD) : Vec Ideal S1024x1024 .f32 := m ((c : Thread nD τ).loc main_arg0)
def argW (c : Dev nD) : Vec Ideal S1024x4688 .f32 := m ((c : Thread nD τ).loc main_arg1)

/-- What the body computes is the product of the blocks it reads. -/
theorem pay_apply (x : Vec Ideal S512x1024 .f32) (w : Vec Ideal S1024x128 .bf16) (r : Fin 512) (k : Fin 128) :
    k0_pay1 x w (ix2 r k) = entry x w r k := by
  unfold entry
  pointwise [k0_pay1]

/-- The widened weight as the region finds it: rounding changes no real number. -/
def wide (c : Dev nD) : Vec Ideal S1024x4736 .bf16 := V m c main_v1

theorem wide_apply (c : Dev nD) (k : Fin 1024) (j : Fin 4688) (J : Fin 4736) (hJ : J.val = j.val) :
    wide m c (ix2 k J) = argW m c (ix2 k j) := by
  have hj := j.isLt
  have e : wide m c = pad S1024x4736 ![0, 0] ![0, 48] ![0, 0] (argW m c : FVec Ideal S1024x4688 .bf16) (sitofp .bf16 (constantI S_ 32 0#32) : FVec Ideal S_ .bf16)
      pads_S1024x4688_S1024x4736_000_0480 h_S_ := by
    show StableHlo.after (hostOps0 ++ hostOps0_1) _ _ = _
    simp only [hostOps0, hostOps0_1, List.cons_append, List.nil_append]
    after_results
    rfl
  rw [e]
  exact pad_apply_of_inside _ _ _ _ _ _ _ _ (ix2 k j : S1024x4688.Idx) (by
    intro a
    match a with
    | ⟨0, _⟩ => show k.val = 0 + k.val * (0 + 1); omega
    | ⟨1, _⟩ => show J.val = 0 + j.val * (0 + 1); omega)

/-- The windows' block numbers at a point. -/
theorem idx_x : ∀ t : Fin cfg0.N, win0_0.index t = ![t.val / 37, 0] :=
  (by decide +kernel : ∀ t : Fin grid0.N, win0_0.index t = ![t.val / 37, 0])
theorem idx_w : ∀ t : Fin cfg0.N, win0_1.index t = ![0, t.val % 37] :=
  (by decide +kernel : ∀ t : Fin grid0.N, win0_1.index t = ![0, t.val % 37])
theorem idx_out : ∀ t : Fin cfg0.N, win0_2.index t = ![t.val / 37, t.val % 37] :=
  (by decide +kernel : ∀ t : Fin grid0.N, win0_2.index t = ![t.val / 37, t.val % 37])

/-- A point's block of `x`, from the array. -/
theorem blk_x (c : Dev nD) (t : Fin cfg0.N) (r : Fin 512) (k : Fin 1024) (R : Fin 1024) (hR : R.val = t.val / 37 * 512 + r.val) :
    (iblk m c 0 t : Vec Ideal S512x1024 .f32) (ix2 r k) = argX m c (ix2 R k) := by
  have e0 : win0_0.index t (0 : Fin 2) = t.val / 37 := congrFun (idx_x t) 0
  have e1 : win0_0.index t (1 : Fin 2) = 0 := congrFun (idx_x t) 1
  have he : (((cfg0.win 0).blk t).view.emb (ix2 r k : S512x1024.Idx) : S1024x1024.Idx) = ix2 R k := by
    funext a; apply Fin.ext
    match a with
    | ⟨0, _⟩ => show win0_0.index t (0 : Fin 2) * 512 + 1 * r.val = R.val; omega
    | ⟨1, _⟩ => show win0_0.index t (1 : Fin 2) * 1024 + 1 * k.val = k.val; omega
  exact (congrArg (V m c main_arg0 : Vec Ideal S1024x1024 .f32) he).trans (congrFun (V_main_arg0 m c) _)

/-- A point's block of the widened weight, from the array. -/
theorem blk_w (c : Dev nD) (t : Fin cfg0.N) (k : Fin 1024) (j : Fin 128) (J : Fin 4736) (hJ : J.val = t.val % 37 * 128 + j.val) :
    (iblk m c 1 t : Vec Ideal S1024x128 .bf16) (ix2 k j) = wide m c (ix2 k J) := by
  have e0 : win0_1.index t (0 : Fin 2) = 0 := congrFun (idx_w t) 0
  have e1 : win0_1.index t (1 : Fin 2) = t.val % 37 := congrFun (idx_w t) 1
  have he : (((cfg0.win 1).blk t).view.emb (ix2 k j : S1024x128.Idx) : S1024x4736.Idx) = ix2 k J := by
    funext a; apply Fin.ext
    match a with
    | ⟨0, _⟩ => show win0_1.index t (0 : Fin 2) * 1024 + 1 * k.val = k.val; omega
    | ⟨1, _⟩ => show win0_1.index t (1 : Fin 2) * 128 + 1 * j.val = J.val; omega
  exact congrArg (V m c main_v1 : Vec Ideal S1024x4736 .bf16) he

/-- What a point writes back is its block of the product with the widened weight. -/
theorem flushed_eq (c : Dev nD) (t : Fin cfg0.N) :
    (dats m 0 c).flushed 2 t = ((cfg0.win 2).blk t).view.read (Elt Ideal) (prod (argX m c) (wide m c)) := by
  show (cfg0.win 2).cut (grid0.coords t) ((dats m 0 c).after 2 t) = _
  rw [after0_2]
  unfold out0_2
  rw [View.canon_unit_zero (by decide), View.ld_unit_zero (by decide), View.ld_unit_zero (by decide)]
  have ht : t.val < 74 := lt_of_lt_of_eq t.isLt N_0
  have e0 : win0_2.index t (0 : Fin 2) = t.val / 37 := congrFun (idx_out t) 0
  have e1 : win0_2.index t (1 : Fin 2) = t.val % 37 := congrFun (idx_out t) 1
  funext y
  obtain ⟨r, j, rfl⟩ : ∃ (r : Fin 512) (j : Fin 128), y = (ix2 r j : S512x128.Idx) := ⟨y 0, y 1, eq_ix2 (y : S512x128.Idx)⟩
  have hr := r.isLt
  have hj := j.isLt
  have he : (((cfg0.win 2).blk t).view.emb (ix2 r j : S512x128.Idx) : S1024x4736.Idx)
      = ix2 ⟨t.val / 37 * 512 + r.val, by omega⟩ ⟨t.val % 37 * 128 + j.val, by omega⟩ := by
    funext a; apply Fin.ext
    match a with
    | ⟨0, _⟩ => show win0_2.index t (0 : Fin 2) * 512 + 1 * r.val = t.val / 37 * 512 + r.val; omega
    | ⟨1, _⟩ => show win0_2.index t (1 : Fin 2) * 128 + 1 * j.val = t.val % 37 * 128 + j.val; omega
  refine Eq.trans ?_ (congrArg (prod (argX m c) (wide m c)) he).symm
  show k0_pay1 (iblk m c 0 t) (iblk m c 1 t) (ix2 r j) = _
  rw [pay_apply]
  exact entry_congr (fun k => blk_x m c t r k _ rfl) (fun k => blk_w m c t k j _ rfl)

/-- The array of results is the product with the widened weight. -/
theorem final_eq (c : Dev nD) : (dats m 0 c).arrAt 2 cfg0.N = prod (argX m c) (wide m c) :=
  (dats m 0 c).arrAt_eq_of_cover 2 _ (fun t _ => flushed_eq m c t) (fun i => by
    have h0 : (i 0).val < 1024 := (i 0).isLt
    have h1 : (i 1).val < 4736 := (i 1).isLt
    let t : Fin cfg0.N := ⟨37 * ((i 0).val / 512) + (i 1).val / 128, lt_of_lt_of_eq (by omega) N_0.symm⟩
    have hv : t.val = 37 * ((i 0).val / 512) + (i 1).val / 128 := rfl
    refine ⟨t, flush0_2 _, ?_⟩
    show i ∈ ((View.whole main_v2).slice (win0_2.rect t)).set
    rw [View.set_slice_whole, Rect.mem_set_unit]
    show ∀ a : Fin 2, win0_2.index t a * S512x128.size a ≤ (i a).val ∧ (i a).val < win0_2.index t a * S512x128.size a + S512x128.size a
    rw [idx_out]
    intro a
    match a with
    | ⟨0, _⟩ => show t.val / 37 * 512 ≤ (i 0).val ∧ (i 0).val < t.val / 37 * 512 + 512; omega
    | ⟨1, _⟩ => show t.val % 37 * 128 ≤ (i 1).val ∧ (i 1).val < t.val % 37 * 128 + 128; omega)

/-- The columns kept of the product with the widened weight are the product with the weight. -/
theorem kept_eq (c : Dev nD) :
    (extractStridedSlice S1024x4688 ![0, 0] (prod (argX m c) (wide m c) : Vec Ideal S1024x4736 .f32) slices_S1024x4736_S1024x4688_0_0 : Vec Ideal S1024x4688 .f32)
      = prod (argX m c) (argW m c) := by
  funext q
  obtain ⟨r, j, rfl⟩ : ∃ (r : Fin 1024) (j : Fin 4688), q = (ix2 r j : S1024x4688.Idx) := ⟨q 0, q 1, eq_ix2 q⟩
  have hj := j.isLt
  rw [extractStridedSlice_apply _ _ _ _ (ix2 r ⟨j.val, by omega⟩ : S1024x4736.Idx) (by
    intro a
    match a with
    | ⟨0, _⟩ => show r.val = 0 + r.val; omega
    | ⟨1, _⟩ => show j.val = 0 + j.val; omega)]
  exact entry_congr (fun _ => rfl) (fun k => wide_apply m c k j _ rfl)

/-- The run, with the array it returns. -/
theorem run_result : θ_run defs (onTc (τ := τ) (main (F := Ideal))) ⟨m, fun _ => 0, ρ⟩ fun r => ∀ c : Dev nD,
      r.2.mem ((c : Thread nD τ).loc main_v3) = prod (argX m c) (argW m c) :=
  (θ_run defs _ _).mono (fun r h c => by
    refine ((h c).2 main_v3 (Pipeline.mem_restRefs_of main_v3 (by decide) (by decide))).trans ?_
    refine Eq.trans ?_ (kept_eq m c)
    unfold Pipeline.afterTail₀
    show StableHlo.after hostOps1 _ _ = _
    after_results
    refine congrArg (fun X : Vec Ideal S1024x4736 .f32 => (extractStridedSlice S1024x4688 ![0, 0] X slices_S1024x4736_S1024x4688_0_0 : Vec Ideal S1024x4688 .f32)) ?_
    exact (Pipeline.withArrays_arr spec0 launch0.win.arr_inj c _ _ 2).trans (final_eq m c)) (run_main m ρ)

/-- The reference's product. -/
theorem ref_eq (x : Vec Ideal S1024x1024 .f32) (w : Vec Ideal S1024x4688 .f32) :
    (Host.dotGeneral (F := Ideal) (φ₁ := .f32) (φ₂ := .f32) Cert.Reference12Ideal.dot_S1024x1024_S1024x4688_S1024x4688_1_0_0_1_n_n none x w : Vec Ideal S1024x4688 .f32)
      = prod x w := by
  funext q
  obtain ⟨r, j, rfl⟩ : ∃ (r : Fin 1024) (j : Fin 4688), q = (ix2 r j : S1024x4688.Idx) := ⟨q 0, q 1, eq_ix2 q⟩
  show _ = entry x w r j
  unfold entry
  pointwise

theorem algebraic : Cert.algebraic_Kernel12Ideal_Reference12Ideal (hKernel12Ideal := facts) (hReference12Ideal := Cert.Reference12Ideal.Gen.facts) := by
  intro m g m' g' _ hargs
  refine ⟨fun c => prod (argX m c) (argW m c), ?_, ?_⟩
  · exact (θ_run defs _ _).mono (fun r h c => ⟨h.1 c, h.2.1 c⟩) (θ_run_and (run_result m g) (frame m g))
  · refine (θ_run Cert.Reference12Ideal.defs _ _).mono (fun r h c => ⟨(h c).1.trans ?_, (h c).2⟩)
      (Cert.Reference12Ideal.Value.run (F := Ideal) m' g')
    rw [(hargs c).1, (hargs c).2]
    exact ref_eq (argX m c) (argW m c)

theorem reference : Cert.quiescent_Reference12Ideal (hReference12Ideal := Cert.Reference12Ideal.Gen.facts) :=
  fun m g _ => (θ_run Cert.Reference12Ideal.defs _ _).mono
    (fun r h => ⟨fun c => (h c).2, sem_eq_zero_of_no_sems (by decide) r.2⟩) (Cert.Reference12Ideal.Value.run (F := Ideal) m g)

end Cert.Kernel12Ideal.Mm

end
-- ==== Proof.Mm13.lean ====
/-
  The projection of the sample group's per-layer embeddings: the array the call ends with is the product of its arguments, and
  so is the reference's.
-/
module

public import proofs.«01_k».proof.Defs
public import proofs.«01_k».proof.Proof.Gen.Kernel13Ideal.Value
public import proofs.«01_k».proof.Proof.Gen.Reference13Ideal.Run
public import proofs.«01_k».proof.Proof.MmSpec
public import Idealize.ShloMosaic.Lib.StableHlo.RunRead
public import Idealize.ShloMosaic.Lib.Quiescent
public import Idealize.ShloMosaic.Lib.Pointwise

@[expose] public section

set_option maxRecDepth 16384

noncomputable section

namespace Cert.Kernel13Ideal.Mm

open Cert.Kernel13Ideal Cert.Kernel13Ideal.Gen Cert.Mm Idealize.ShloMosaic Idealize.ShloMosaic.TcCoe Idealize.SL.Sem
open Idealize.ShloMosaic.StableHlo

variable (m : (ℓ : Loc nD τ sig) → Buf (Elt Ideal) ℓ) (ρ : Dev nD → PrngReg)

/-- The call's two arguments. -/
def argX (c : Dev nD) : Vec Ideal S1024x256 .f32 := m ((c : Thread nD τ).loc main_arg0)
def argW (c : Dev nD) : Vec Ideal S256x1024 .f32 := m ((c : Thread nD τ).loc main_arg1)

/-- What the body computes is the product of the blocks it reads. -/
theorem pay_apply (x : Vec Ideal S512x256 .f32) (w : Vec Ideal S256x1024 .bf16) (r : Fin 512) (k : Fin 1024) :
    k0_pay1 x w (ix2 r k) = entry x w r k := by
  unfold entry
  pointwise [k0_pay1]

/-- The weight as the region finds it: rounding changes no real number. -/
theorem V_weight (c : Dev nD) : (V m c main_v0 : Vec Ideal S256x1024 .bf16) = argW m c := by
  show StableHlo.after hostOps0 _ _ = _
  after_results
  rfl

/-- The windows' block numbers at a point. -/
theorem idx_x : ∀ t : Fin cfg0.N, win0_0.index t = ![t.val, 0] :=
  (by decide +kernel : ∀ t : Fin grid0.N, win0_0.index t = ![t.val, 0])
theorem idx_w : ∀ t : Fin cfg0.N, win0_1.index t = ![0, 0] :=
  (by decide +kernel : ∀ t : Fin grid0.N, win0_1.index t = ![0, 0])
theorem idx_out : ∀ t : Fin cfg0.N, win0_2.index t = ![t.val, 0] :=
  (by decide +kernel : ∀ t : Fin grid0.N, win0_2.index t = ![t.val, 0])

/-- A point's block of `x`, from the array. -/
theorem blk_x (c : Dev nD) (t : Fin cfg0.N) (r : Fin 512) (k : Fin 256) (R : Fin 1024) (hR : R.val = t.val * 512 + r.val) :
    (iblk m c 0 t : Vec Ideal S512x256 .f32) (ix2 r k) = argX m c (ix2 R k) := by
  have e0 : win0_0.index t (0 : Fin 2) = t.val := congrFun (idx_x t) 0
  have e1 : win0_0.index t (1 : Fin 2) = 0 := congrFun (idx_x t) 1
  have he : (((cfg0.win 0).blk t).view.emb (ix2 r k : S512x256.Idx) : S1024x256.Idx) = ix2 R k := by
    funext a; apply Fin.ext
    match a with
    | ⟨0, _⟩ => show win0_0.index t (0 : Fin 2) * 512 + 1 * r.val = R.val; omega
    | ⟨1, _⟩ => show win0_0.index t (1 : Fin 2) * 256 + 1 * k.val = k.val; omega
  exact (congrArg (V m c main_arg0 : Vec Ideal S1024x256 .f32) he).trans (congrFun (V_main_arg0 m c) _)

/-- A point's block of `w` is all of it. -/
theorem blk_w (c : Dev nD) (t : Fin cfg0.N) (k : Fin 256) (j : Fin 1024) :
    (iblk m c 1 t : Vec Ideal S256x1024 .bf16) (ix2 k j) = argW m c (ix2 k j) := by
  have e0 : win0_1.index t (0 : Fin 2) = 0 := congrFun (idx_w t) 0
  have e1 : win0_1.index t (1 : Fin 2) = 0 := congrFun (idx_w t) 1
  have he : (((cfg0.win 1).blk t).view.emb (ix2 k j : S256x1024.Idx) : S256x1024.Idx) = ix2 k j := by
    funext a; apply Fin.ext
    match a with
    | ⟨0, _⟩ => show win0_1.index t (0 : Fin 2) * 256 + 1 * k.val = k.val; omega
    | ⟨1, _⟩ => show win0_1.index t (1 : Fin 2) * 1024 + 1 * j.val = j.val; omega
  exact (congrArg (V m c main_v0 : Vec Ideal S256x1024 .bf16) he).trans (congrFun (V_weight m c) _)

/-- What a point writes back is its block of the product. -/
theorem flushed_eq (c : Dev nD) (t : Fin cfg0.N) :
    (dats m 0 c).flushed 2 t = ((cfg0.win 2).blk t).view.read (Elt Ideal) (prod (argX m c) (argW m c)) := by
  rw [Value.flushed2]
  unfold out0_2
  rw [View.canon_unit_zero (by decide), View.ld_unit_zero (by decide), View.ld_unit_zero (by decide)]
  have ht : t.val < 2 := lt_of_lt_of_eq t.isLt N_0
  have e0 : win0_2.index t (0 : Fin 2) = t.val := congrFun (idx_out t) 0
  have e1 : win0_2.index t (1 : Fin 2) = 0 := congrFun (idx_out t) 1
  funext y
  obtain ⟨r, j, rfl⟩ : ∃ (r : Fin 512) (j : Fin 1024), y = (ix2 r j : S512x1024.Idx) := ⟨y 0, y 1, eq_ix2 (y : S512x1024.Idx)⟩
  have hr := r.isLt
  have he : (((cfg0.win 2).blk t).view.emb (ix2 r j : S512x1024.Idx) : S1024x1024.Idx) = ix2 ⟨t.val * 512 + r.val, by omega⟩ j := by
    funext a; apply Fin.ext
    match a with
    | ⟨0, _⟩ => show win0_2.index t (0 : Fin 2) * 512 + 1 * r.val = t.val * 512 + r.val; omega
    | ⟨1, _⟩ => show win0_2.index t (1 : Fin 2) * 1024 + 1 * j.val = j.val; omega
  refine Eq.trans ?_ (congrArg (prod (argX m c) (argW m c)) he).symm
  show k0_pay1 (iblk m c 0 t) (iblk m c 1 t) (ix2 r j) = _
  rw [pay_apply]
  exact entry_congr (fun k => blk_x m c t r k _ rfl) (fun k => blk_w m c t k j)

/-- The array of results is the product. -/
theorem final_eq (c : Dev nD) : (dats m 0 c).arrAt 2 cfg0.N = prod (argX m c) (argW m c) :=
  (dats m 0 c).arrAt_eq_of_cover 2 _ (fun t _ => flushed_eq m c t) (fun i => by
    have h0 : (i 0).val < 1024 := (i 0).isLt
    have h1 : (i 1).val < 1024 := (i 1).isLt
    let t : Fin cfg0.N := ⟨(i 0).val / 512, lt_of_lt_of_eq (by omega) N_0.symm⟩
    have hv : t.val = (i 0).val / 512 := rfl
    refine ⟨t, flush0_2 _, ?_⟩
    show i ∈ ((View.whole main_v1).slice (win0_2.rect t)).set
    rw [View.set_slice_whole, Rect.mem_set_unit]
    show ∀ a : Fin 2, win0_2.index t a * S512x1024.size a ≤ (i a).val ∧ (i a).val < win0_2.index t a * S512x1024.size a + S512x1024.size a
    rw [idx_out]
    intro a
    match a with
    | ⟨0, _⟩ => show t.val * 512 ≤ (i 0).val ∧ (i 0).val < t.val * 512 + 512; omega
    | ⟨1, _⟩ => show 0 * 1024 ≤ (i 1).val ∧ (i 1).val < 0 * 1024 + 1024; omega)

/-- The reference's product. -/
theorem ref_eq (x : Vec Ideal S1024x256 .f32) (w : Vec Ideal S256x1024 .f32) :
    (Host.dotGeneral (F := Ideal) (φ₁ := .f32) (φ₂ := .f32) Cert.Reference13Ideal.dot_S1024x256_S256x1024_S1024x1024_1_0_0_1_n_n none x w : Vec Ideal S1024x1024 .f32)
      = prod x w := by
  funext q
  obtain ⟨r, j, rfl⟩ : ∃ (r : Fin 1024) (j : Fin 1024), q = (ix2 r j : S1024x1024.Idx) := ⟨q 0, q 1, eq_ix2 q⟩
  show _ = entry x w r j
  unfold entry
  pointwise

theorem algebraic : Cert.algebraic_Kernel13Ideal_Reference13Ideal (hKernel13Ideal := facts) (hReference13Ideal := Cert.Reference13Ideal.Gen.facts) := by
  intro m g m' g' _ hargs
  refine ⟨fun c => prod (argX m c) (argW m c), ?_, ?_⟩
  · exact (θ_run defs _ _).mono (fun r h c => ⟨(h c).1.trans (final_eq m c), (h c).2⟩) (Value.run_blocks m g)
  · refine (θ_run Cert.Reference13Ideal.defs _ _).mono (fun r h c => ⟨(h c).1.trans ?_, (h c).2⟩)
      (Cert.Reference13Ideal.Value.run (F := Ideal) m' g')
    rw [(hargs c).1, (hargs c).2]
    exact ref_eq (argX m c) (argW m c)

theorem reference : Cert.quiescent_Reference13Ideal (hReference13Ideal := Cert.Reference13Ideal.Gen.facts) :=
  fun m g _ => (θ_run Cert.Reference13Ideal.defs _ _).mono
    (fun r h => ⟨fun c => (h c).2, sem_eq_zero_of_no_sems (by decide) r.2⟩) (Cert.Reference13Ideal.Value.run (F := Ideal) m g)

end Cert.Kernel13Ideal.Mm

end
-- ==== Proof.Mm14.lean ====
/-
  The first of the two projections that go through 64 columns, of the prompts' tokens: the call's block of the weight is widened by
  columns of zeros to 128, and the columns of its result that belong to the weight itself are the product of the call's
  arguments; so is the reference's result.
-/
module

public import proofs.«01_k».proof.Defs
public import proofs.«01_k».proof.Proof.Gen.Kernel14Ideal.Frame
public import proofs.«01_k».proof.Proof.Gen.Reference14Ideal.Run
public import proofs.«01_k».proof.Proof.MmSpec
public import Idealize.ShloMosaic.Lib.StableHlo.RunRead
public import Idealize.ShloMosaic.Lib.Quiescent
public import Idealize.ShloMosaic.Lib.KernelVsHost
public import Idealize.ShloMosaic.Lib.Pointwise

@[expose] public section

set_option maxRecDepth 16384

noncomputable section

namespace Cert.Kernel14Ideal.Mm

open Cert.Kernel14Ideal Cert.Kernel14Ideal.Gen Cert.Mm Idealize.ShloMosaic Idealize.ShloMosaic.TcCoe Idealize.SL.Sem
open Idealize.ShloMosaic.StableHlo

variable (m : (ℓ : Loc nD τ sig) → Buf (Elt Ideal) ℓ) (ρ : Dev nD → PrngReg)

/-- The call's two arguments. -/
def argX (c : Dev nD) : Vec Ideal S16384x1024 .f32 := m ((c : Thread nD τ).loc main_arg0)
def argW (c : Dev nD) : Vec Ideal S1024x64 .f32 := m ((c : Thread nD τ).loc main_arg1)

/-- What the body computes is the product of the blocks it reads. -/
theorem pay_apply (x : Vec Ideal S512x1024 .f32) (w : Vec Ideal S1024x128 .bf16) (r : Fin 512) (k : Fin 128) :
    k0_pay1 x w (ix2 r k) = entry x w r k := by
  unfold entry
  pointwise [k0_pay1]

/-- The widened weight as the region finds it: rounding changes no real number. -/
def wide (c : Dev nD) : Vec Ideal S1024x128 .bf16 := V m c main_v1

theorem wide_apply (c : Dev nD) (k : Fin 1024) (j : Fin 64) (J : Fin 128) (hJ : J.val = j.val) :
    wide m c (ix2 k J) = argW m c (ix2 k j) := by
  have hj := j.isLt
  have e : wide m c = pad S1024x128 ![0, 0] ![0, 64] ![0, 0] (argW m c : FVec Ideal S1024x64 .bf16) (sitofp .bf16 (constantI S_ 32 0#32) : FVec Ideal S_ .bf16)
      pads_S1024x64_S1024x128_000_0640 h_S_ := by
    show StableHlo.after (hostOps0 ++ hostOps0_1) _ _ = _
    simp only [hostOps0, hostOps0_1, List.cons_append, List.nil_append]
    after_results
    rfl
  rw [e]
  exact pad_apply_of_inside _ _ _ _ _ _ _ _ (ix2 k j : S1024x64.Idx) (by
    intro a
    match a with
    | ⟨0, _⟩ => show k.val = 0 + k.val * (0 + 1); omega
    | ⟨1, _⟩ => show J.val = 0 + j.val * (0 + 1); omega)

/-- The windows' block numbers at a point. -/
theorem idx_x : ∀ t : Fin cfg0.N, win0_0.index t = ![t.val, 0] :=
  (by decide +kernel : ∀ t : Fin grid0.N, win0_0.index t = ![t.val, 0])
theorem idx_w : ∀ t : Fin cfg0.N, win0_1.index t = ![0, 0] :=
  (by decide +kernel : ∀ t : Fin grid0.N, win0_1.index t = ![0, 0])
theorem idx_out : ∀ t : Fin cfg0.N, win0_2.index t = ![t.val, 0] :=
  (by decide +kernel : ∀ t : Fin grid0.N, win0_2.index t = ![t.val, 0])

/-- A point's block of `x`, from the array. -/
theorem blk_x (c : Dev nD) (t : Fin cfg0.N) (r : Fin 512) (k : Fin 1024) (R : Fin 16384) (hR : R.val = t.val * 512 + r.val) :
    (iblk m c 0 t : Vec Ideal S512x1024 .f32) (ix2 r k) = argX m c (ix2 R k) := by
  have e0 : win0_0.index t (0 : Fin 2) = t.val := congrFun (idx_x t) 0
  have e1 : win0_0.index t (1 : Fin 2) = 0 := congrFun (idx_x t) 1
  have he : (((cfg0.win 0).blk t).view.emb (ix2 r k : S512x1024.Idx) : S16384x1024.Idx) = ix2 R k := by
    funext a; apply Fin.ext
    match a with
    | ⟨0, _⟩ => show win0_0.index t (0 : Fin 2) * 512 + 1 * r.val = R.val; omega
    | ⟨1, _⟩ => show win0_0.index t (1 : Fin 2) * 1024 + 1 * k.val = k.val; omega
  exact (congrArg (V m c main_arg0 : Vec Ideal S16384x1024 .f32) he).trans (congrFun (V_main_arg0 m c) _)

/-- A point's block of the widened weight, from the array. -/
theorem blk_w (c : Dev nD) (t : Fin cfg0.N) (k : Fin 1024) (j : Fin 128) (J : Fin 128) (hJ : J.val = 0 * 128 + j.val) :
    (iblk m c 1 t : Vec Ideal S1024x128 .bf16) (ix2 k j) = wide m c (ix2 k J) := by
  have e0 : win0_1.index t (0 : Fin 2) = 0 := congrFun (idx_w t) 0
  have e1 : win0_1.index t (1 : Fin 2) = 0 := congrFun (idx_w t) 1
  have he : (((cfg0.win 1).blk t).view.emb (ix2 k j : S1024x128.Idx) : S1024x128.Idx) = ix2 k J := by
    funext a; apply Fin.ext
    match a with
    | ⟨0, _⟩ => show win0_1.index t (0 : Fin 2) * 1024 + 1 * k.val = k.val; omega
    | ⟨1, _⟩ => show win0_1.index t (1 : Fin 2) * 128 + 1 * j.val = J.val; omega
  exact congrArg (V m c main_v1 : Vec Ideal S1024x128 .bf16) he

/-- What a point writes back is its block of the product with the widened weight. -/
theorem flushed_eq (c : Dev nD) (t : Fin cfg0.N) :
    (dats m 0 c).flushed 2 t = ((cfg0.win 2).blk t).view.read (Elt Ideal) (prod (argX m c) (wide m c)) := by
  show (cfg0.win 2).cut (grid0.coords t) ((dats m 0 c).after 2 t) = _
  rw [after0_2]
  unfold out0_2
  rw [View.canon_unit_zero (by decide), View.ld_unit_zero (by decide), View.ld_unit_zero (by decide)]
  have ht : t.val < 32 := lt_of_lt_of_eq t.isLt N_0
  have e0 : win0_2.index t (0 : Fin 2) = t.val := congrFun (idx_out t) 0
  have e1 : win0_2.index t (1 : Fin 2) = 0 := congrFun (idx_out t) 1
  funext y
  obtain ⟨r, j, rfl⟩ : ∃ (r : Fin 512) (j : Fin 128), y = (ix2 r j : S512x128.Idx) := ⟨y 0, y 1, eq_ix2 (y : S512x128.Idx)⟩
  have hr := r.isLt
  have hj := j.isLt
  have he : (((cfg0.win 2).blk t).view.emb (ix2 r j : S512x128.Idx) : S16384x128.Idx)
      = ix2 ⟨t.val * 512 + r.val, by omega⟩ ⟨0 * 128 + j.val, by omega⟩ := by
    funext a; apply Fin.ext
    match a with
    | ⟨0, _⟩ => show win0_2.index t (0 : Fin 2) * 512 + 1 * r.val = t.val * 512 + r.val; omega
    | ⟨1, _⟩ => show win0_2.index t (1 : Fin 2) * 128 + 1 * j.val = 0 * 128 + j.val; omega
  refine Eq.trans ?_ (congrArg (prod (argX m c) (wide m c)) he).symm
  show k0_pay1 (iblk m c 0 t) (iblk m c 1 t) (ix2 r j) = _
  rw [pay_apply]
  exact entry_congr (fun k => blk_x m c t r k _ rfl) (fun k => blk_w m c t k j _ rfl)

/-- The array of results is the product with the widened weight. -/
theorem final_eq (c : Dev nD) : (dats m 0 c).arrAt 2 cfg0.N = prod (argX m c) (wide m c) :=
  (dats m 0 c).arrAt_eq_of_cover 2 _ (fun t _ => flushed_eq m c t) (fun i => by
    have h0 : (i 0).val < 16384 := (i 0).isLt
    have h1 : (i 1).val < 128 := (i 1).isLt
    let t : Fin cfg0.N := ⟨(i 0).val / 512, lt_of_lt_of_eq (by omega) N_0.symm⟩
    have hv : t.val = (i 0).val / 512 := rfl
    refine ⟨t, flush0_2 _, ?_⟩
    show i ∈ ((View.whole main_v2).slice (win0_2.rect t)).set
    rw [View.set_slice_whole, Rect.mem_set_unit]
    show ∀ a : Fin 2, win0_2.index t a * S512x128.size a ≤ (i a).val ∧ (i a).val < win0_2.index t a * S512x128.size a + S512x128.size a
    rw [idx_out]
    intro a
    match a with
    | ⟨0, _⟩ => show t.val * 512 ≤ (i 0).val ∧ (i 0).val < t.val * 512 + 512; omega
    | ⟨1, _⟩ => show 0 * 128 ≤ (i 1).val ∧ (i 1).val < 0 * 128 + 128; omega)

/-- The columns kept of the product with the widened weight are the product with the weight. -/
theorem kept_eq (c : Dev nD) :
    (extractStridedSlice S16384x64 ![0, 0] (prod (argX m c) (wide m c) : Vec Ideal S16384x128 .f32) slices_S16384x128_S16384x64_0_0 : Vec Ideal S16384x64 .f32)
      = prod (argX m c) (argW m c) := by
  funext q
  obtain ⟨r, j, rfl⟩ : ∃ (r : Fin 16384) (j : Fin 64), q = (ix2 r j : S16384x64.Idx) := ⟨q 0, q 1, eq_ix2 q⟩
  have hj := j.isLt
  rw [extractStridedSlice_apply _ _ _ _ (ix2 r ⟨j.val, by omega⟩ : S16384x128.Idx) (by
    intro a
    match a with
    | ⟨0, _⟩ => show r.val = 0 + r.val; omega
    | ⟨1, _⟩ => show j.val = 0 + j.val; omega)]
  exact entry_congr (fun _ => rfl) (fun k => wide_apply m c k j _ rfl)

/-- The run, with the array it returns. -/
theorem run_result : θ_run defs (onTc (τ := τ) (main (F := Ideal))) ⟨m, fun _ => 0, ρ⟩ fun r => ∀ c : Dev nD,
      r.2.mem ((c : Thread nD τ).loc main_v3) = prod (argX m c) (argW m c) :=
  (θ_run defs _ _).mono (fun r h c => by
    refine ((h c).2 main_v3 (Pipeline.mem_restRefs_of main_v3 (by decide) (by decide))).trans ?_
    refine Eq.trans ?_ (kept_eq m c)
    unfold Pipeline.afterTail₀
    show StableHlo.after hostOps1 _ _ = _
    after_results
    refine congrArg (fun X : Vec Ideal S16384x128 .f32 => (extractStridedSlice S16384x64 ![0, 0] X slices_S16384x128_S16384x64_0_0 : Vec Ideal S16384x64 .f32)) ?_
    exact (Pipeline.withArrays_arr spec0 launch0.win.arr_inj c _ _ 2).trans (final_eq m c)) (run_main m ρ)

/-- The reference's product. -/
theorem ref_eq (x : Vec Ideal S16384x1024 .f32) (w : Vec Ideal S1024x64 .f32) :
    (Host.dotGeneral (F := Ideal) (φ₁ := .f32) (φ₂ := .f32) Cert.Reference14Ideal.dot_S16384x1024_S1024x64_S16384x64_1_0_0_1_n_n none x w : Vec Ideal S16384x64 .f32)
      = prod x w := by
  funext q
  obtain ⟨r, j, rfl⟩ : ∃ (r : Fin 16384) (j : Fin 64), q = (ix2 r j : S16384x64.Idx) := ⟨q 0, q 1, eq_ix2 q⟩
  show _ = entry x w r j
  unfold entry
  pointwise

theorem algebraic : Cert.algebraic_Kernel14Ideal_Reference14Ideal (hKernel14Ideal := facts) (hReference14Ideal := Cert.Reference14Ideal.Gen.facts) := by
  intro m g m' g' _ hargs
  refine ⟨fun c => prod (argX m c) (argW m c), ?_, ?_⟩
  · exact (θ_run defs _ _).mono (fun r h c => ⟨h.1 c, h.2.1 c⟩) (θ_run_and (run_result m g) (frame m g))
  · refine (θ_run Cert.Reference14Ideal.defs _ _).mono (fun r h c => ⟨(h c).1.trans ?_, (h c).2⟩)
      (Cert.Reference14Ideal.Value.run (F := Ideal) m' g')
    rw [(hargs c).1, (hargs c).2]
    exact ref_eq (argX m c) (argW m c)

theorem reference : Cert.quiescent_Reference14Ideal (hReference14Ideal := Cert.Reference14Ideal.Gen.facts) :=
  fun m g _ => (θ_run Cert.Reference14Ideal.defs _ _).mono
    (fun r h => ⟨fun c => (h c).2, sem_eq_zero_of_no_sems (by decide) r.2⟩) (Cert.Reference14Ideal.Value.run (F := Ideal) m g)

end Cert.Kernel14Ideal.Mm

end
-- ==== Proof.Mm15.lean ====
/-
  The second of the two projections that go through 64 columns, of the prompts' tokens: the array the call ends with is the
  product of its arguments, and so is the reference's.
-/
module

public import proofs.«01_k».proof.Defs
public import proofs.«01_k».proof.Proof.Gen.Kernel15Ideal.Value
public import proofs.«01_k».proof.Proof.Gen.Reference15Ideal.Run
public import proofs.«01_k».proof.Proof.MmSpec
public import Idealize.ShloMosaic.Lib.StableHlo.RunRead
public import Idealize.ShloMosaic.Lib.Quiescent
public import Idealize.ShloMosaic.Lib.Pointwise

@[expose] public section

set_option maxRecDepth 16384

noncomputable section

namespace Cert.Kernel15Ideal.Mm

open Cert.Kernel15Ideal Cert.Kernel15Ideal.Gen Cert.Mm Idealize.ShloMosaic Idealize.ShloMosaic.TcCoe Idealize.SL.Sem
open Idealize.ShloMosaic.StableHlo

variable (m : (ℓ : Loc nD τ sig) → Buf (Elt Ideal) ℓ) (ρ : Dev nD → PrngReg)

/-- The call's two arguments. -/
def argX (c : Dev nD) : Vec Ideal S16384x64 .f32 := m ((c : Thread nD τ).loc main_arg0)
def argW (c : Dev nD) : Vec Ideal S64x1024 .f32 := m ((c : Thread nD τ).loc main_arg1)

/-- What the body computes is the product of the blocks it reads. -/
theorem pay_apply (x : Vec Ideal S512x64 .f32) (w : Vec Ideal S64x1024 .bf16) (r : Fin 512) (k : Fin 1024) :
    k0_pay1 x w (ix2 r k) = entry x w r k := by
  unfold entry
  pointwise [k0_pay1]

/-- The weight as the region finds it: rounding changes no real number. -/
theorem V_weight (c : Dev nD) : (V m c main_v0 : Vec Ideal S64x1024 .bf16) = argW m c := by
  show StableHlo.after hostOps0 _ _ = _
  after_results
  rfl

/-- The windows' block numbers at a point. -/
theorem idx_x : ∀ t : Fin cfg0.N, win0_0.index t = ![t.val, 0] :=
  (by decide +kernel : ∀ t : Fin grid0.N, win0_0.index t = ![t.val, 0])
theorem idx_w : ∀ t : Fin cfg0.N, win0_1.index t = ![0, 0] :=
  (by decide +kernel : ∀ t : Fin grid0.N, win0_1.index t = ![0, 0])
theorem idx_out : ∀ t : Fin cfg0.N, win0_2.index t = ![t.val, 0] :=
  (by decide +kernel : ∀ t : Fin grid0.N, win0_2.index t = ![t.val, 0])

/-- A point's block of `x`, from the array. -/
theorem blk_x (c : Dev nD) (t : Fin cfg0.N) (r : Fin 512) (k : Fin 64) (R : Fin 16384) (hR : R.val = t.val * 512 + r.val) :
    (iblk m c 0 t : Vec Ideal S512x64 .f32) (ix2 r k) = argX m c (ix2 R k) := by
  have e0 : win0_0.index t (0 : Fin 2) = t.val := congrFun (idx_x t) 0
  have e1 : win0_0.index t (1 : Fin 2) = 0 := congrFun (idx_x t) 1
  have he : (((cfg0.win 0).blk t).view.emb (ix2 r k : S512x64.Idx) : S16384x64.Idx) = ix2 R k := by
    funext a; apply Fin.ext
    match a with
    | ⟨0, _⟩ => show win0_0.index t (0 : Fin 2) * 512 + 1 * r.val = R.val; omega
    | ⟨1, _⟩ => show win0_0.index t (1 : Fin 2) * 64 + 1 * k.val = k.val; omega
  exact (congrArg (V m c main_arg0 : Vec Ideal S16384x64 .f32) he).trans (congrFun (V_main_arg0 m c) _)

/-- A point's block of `w` is all of it. -/
theorem blk_w (c : Dev nD) (t : Fin cfg0.N) (k : Fin 64) (j : Fin 1024) :
    (iblk m c 1 t : Vec Ideal S64x1024 .bf16) (ix2 k j) = argW m c (ix2 k j) := by
  have e0 : win0_1.index t (0 : Fin 2) = 0 := congrFun (idx_w t) 0
  have e1 : win0_1.index t (1 : Fin 2) = 0 := congrFun (idx_w t) 1
  have he : (((cfg0.win 1).blk t).view.emb (ix2 k j : S64x1024.Idx) : S64x1024.Idx) = ix2 k j := by
    funext a; apply Fin.ext
    match a with
    | ⟨0, _⟩ => show win0_1.index t (0 : Fin 2) * 64 + 1 * k.val = k.val; omega
    | ⟨1, _⟩ => show win0_1.index t (1 : Fin 2) * 1024 + 1 * j.val = j.val; omega
  exact (congrArg (V m c main_v0 : Vec Ideal S64x1024 .bf16) he).trans (congrFun (V_weight m c) _)

/-- What a point writes back is its block of the product. -/
theorem flushed_eq (c : Dev nD) (t : Fin cfg0.N) :
    (dats m 0 c).flushed 2 t = ((cfg0.win 2).blk t).view.read (Elt Ideal) (prod (argX m c) (argW m c)) := by
  rw [Value.flushed2]
  unfold out0_2
  rw [View.canon_unit_zero (by decide), View.ld_unit_zero (by decide), View.ld_unit_zero (by decide)]
  have ht : t.val < 32 := lt_of_lt_of_eq t.isLt N_0
  have e0 : win0_2.index t (0 : Fin 2) = t.val := congrFun (idx_out t) 0
  have e1 : win0_2.index t (1 : Fin 2) = 0 := congrFun (idx_out t) 1
  funext y
  obtain ⟨r, j, rfl⟩ : ∃ (r : Fin 512) (j : Fin 1024), y = (ix2 r j : S512x1024.Idx) := ⟨y 0, y 1, eq_ix2 (y : S512x1024.Idx)⟩
  have hr := r.isLt
  have he : (((cfg0.win 2).blk t).view.emb (ix2 r j : S512x1024.Idx) : S16384x1024.Idx) = ix2 ⟨t.val * 512 + r.val, by omega⟩ j := by
    funext a; apply Fin.ext
    match a with
    | ⟨0, _⟩ => show win0_2.index t (0 : Fin 2) * 512 + 1 * r.val = t.val * 512 + r.val; omega
    | ⟨1, _⟩ => show win0_2.index t (1 : Fin 2) * 1024 + 1 * j.val = j.val; omega
  refine Eq.trans ?_ (congrArg (prod (argX m c) (argW m c)) he).symm
  show k0_pay1 (iblk m c 0 t) (iblk m c 1 t) (ix2 r j) = _
  rw [pay_apply]
  exact entry_congr (fun k => blk_x m c t r k _ rfl) (fun k => blk_w m c t k j)

/-- The array of results is the product. -/
theorem final_eq (c : Dev nD) : (dats m 0 c).arrAt 2 cfg0.N = prod (argX m c) (argW m c) :=
  (dats m 0 c).arrAt_eq_of_cover 2 _ (fun t _ => flushed_eq m c t) (fun i => by
    have h0 : (i 0).val < 16384 := (i 0).isLt
    have h1 : (i 1).val < 1024 := (i 1).isLt
    let t : Fin cfg0.N := ⟨(i 0).val / 512, lt_of_lt_of_eq (by omega) N_0.symm⟩
    have hv : t.val = (i 0).val / 512 := rfl
    refine ⟨t, flush0_2 _, ?_⟩
    show i ∈ ((View.whole main_v1).slice (win0_2.rect t)).set
    rw [View.set_slice_whole, Rect.mem_set_unit]
    show ∀ a : Fin 2, win0_2.index t a * S512x1024.size a ≤ (i a).val ∧ (i a).val < win0_2.index t a * S512x1024.size a + S512x1024.size a
    rw [idx_out]
    intro a
    match a with
    | ⟨0, _⟩ => show t.val * 512 ≤ (i 0).val ∧ (i 0).val < t.val * 512 + 512; omega
    | ⟨1, _⟩ => show 0 * 1024 ≤ (i 1).val ∧ (i 1).val < 0 * 1024 + 1024; omega)

/-- The reference's product. -/
theorem ref_eq (x : Vec Ideal S16384x64 .f32) (w : Vec Ideal S64x1024 .f32) :
    (Host.dotGeneral (F := Ideal) (φ₁ := .f32) (φ₂ := .f32) Cert.Reference15Ideal.dot_S16384x64_S64x1024_S16384x1024_1_0_0_1_n_n none x w : Vec Ideal S16384x1024 .f32)
      = prod x w := by
  funext q
  obtain ⟨r, j, rfl⟩ : ∃ (r : Fin 16384) (j : Fin 1024), q = (ix2 r j : S16384x1024.Idx) := ⟨q 0, q 1, eq_ix2 q⟩
  show _ = entry x w r j
  unfold entry
  pointwise

theorem algebraic : Cert.algebraic_Kernel15Ideal_Reference15Ideal (hKernel15Ideal := facts) (hReference15Ideal := Cert.Reference15Ideal.Gen.facts) := by
  intro m g m' g' _ hargs
  refine ⟨fun c => prod (argX m c) (argW m c), ?_, ?_⟩
  · exact (θ_run defs _ _).mono (fun r h c => ⟨(h c).1.trans (final_eq m c), (h c).2⟩) (Value.run_blocks m g)
  · refine (θ_run Cert.Reference15Ideal.defs _ _).mono (fun r h c => ⟨(h c).1.trans ?_, (h c).2⟩)
      (Cert.Reference15Ideal.Value.run (F := Ideal) m' g')
    rw [(hargs c).1, (hargs c).2]
    exact ref_eq (argX m c) (argW m c)

theorem reference : Cert.quiescent_Reference15Ideal (hReference15Ideal := Cert.Reference15Ideal.Gen.facts) :=
  fun m g _ => (θ_run Cert.Reference15Ideal.defs _ _).mono
    (fun r h => ⟨fun c => (h c).2, sem_eq_zero_of_no_sems (by decide) r.2⟩) (Cert.Reference15Ideal.Value.run (F := Ideal) m g)

end Cert.Kernel15Ideal.Mm

end
-- ==== Proof.Mm16.lean ====
/-
  The first of the two projections that go through 32 columns, of the prompts' tokens: the call's block of the weight is widened by
  columns of zeros to 128, and the columns of its result that belong to the weight itself are the product of the call's
  arguments; so is the reference's result.
-/
module

public import proofs.«01_k».proof.Defs
public import proofs.«01_k».proof.Proof.Gen.Kernel16Ideal.Frame
public import proofs.«01_k».proof.Proof.Gen.Reference16Ideal.Run
public import proofs.«01_k».proof.Proof.MmSpec
public import Idealize.ShloMosaic.Lib.StableHlo.RunRead
public import Idealize.ShloMosaic.Lib.Quiescent
public import Idealize.ShloMosaic.Lib.KernelVsHost
public import Idealize.ShloMosaic.Lib.Pointwise

@[expose] public section

set_option maxRecDepth 16384

noncomputable section

namespace Cert.Kernel16Ideal.Mm

open Cert.Kernel16Ideal Cert.Kernel16Ideal.Gen Cert.Mm Idealize.ShloMosaic Idealize.ShloMosaic.TcCoe Idealize.SL.Sem
open Idealize.ShloMosaic.StableHlo

variable (m : (ℓ : Loc nD τ sig) → Buf (Elt Ideal) ℓ) (ρ : Dev nD → PrngReg)

/-- The call's two arguments. -/
def argX (c : Dev nD) : Vec Ideal S16384x1024 .f32 := m ((c : Thread nD τ).loc main_arg0)
def argW (c : Dev nD) : Vec Ideal S1024x32 .f32 := m ((c : Thread nD τ).loc main_arg1)

/-- What the body computes is the product of the blocks it reads. -/
theorem pay_apply (x : Vec Ideal S512x1024 .f32) (w : Vec Ideal S1024x128 .bf16) (r : Fin 512) (k : Fin 128) :
    k0_pay1 x w (ix2 r k) = entry x w r k := by
  unfold entry
  pointwise [k0_pay1]

/-- The widened weight as the region finds it: rounding changes no real number. -/
def wide (c : Dev nD) : Vec Ideal S1024x128 .bf16 := V m c main_v1

theorem wide_apply (c : Dev nD) (k : Fin 1024) (j : Fin 32) (J : Fin 128) (hJ : J.val = j.val) :
    wide m c (ix2 k J) = argW m c (ix2 k j) := by
  have hj := j.isLt
  have e : wide m c = pad S1024x128 ![0, 0] ![0, 96] ![0, 0] (argW m c : FVec Ideal S1024x32 .bf16) (sitofp .bf16 (constantI S_ 32 0#32) : FVec Ideal S_ .bf16)
      pads_S1024x32_S1024x128_000_0960 h_S_ := by
    show StableHlo.after (hostOps0 ++ hostOps0_1) _ _ = _
    simp only [hostOps0, hostOps0_1, List.cons_append, List.nil_append]
    after_results
    rfl
  rw [e]
  exact pad_apply_of_inside _ _ _ _ _ _ _ _ (ix2 k j : S1024x32.Idx) (by
    intro a
    match a with
    | ⟨0, _⟩ => show k.val = 0 + k.val * (0 + 1); omega
    | ⟨1, _⟩ => show J.val = 0 + j.val * (0 + 1); omega)

/-- The windows' block numbers at a point. -/
theorem idx_x : ∀ t : Fin cfg0.N, win0_0.index t = ![t.val, 0] :=
  (by decide +kernel : ∀ t : Fin grid0.N, win0_0.index t = ![t.val, 0])
theorem idx_w : ∀ t : Fin cfg0.N, win0_1.index t = ![0, 0] :=
  (by decide +kernel : ∀ t : Fin grid0.N, win0_1.index t = ![0, 0])
theorem idx_out : ∀ t : Fin cfg0.N, win0_2.index t = ![t.val, 0] :=
  (by decide +kernel : ∀ t : Fin grid0.N, win0_2.index t = ![t.val, 0])

/-- A point's block of `x`, from the array. -/
theorem blk_x (c : Dev nD) (t : Fin cfg0.N) (r : Fin 512) (k : Fin 1024) (R : Fin 16384) (hR : R.val = t.val * 512 + r.val) :
    (iblk m c 0 t : Vec Ideal S512x1024 .f32) (ix2 r k) = argX m c (ix2 R k) := by
  have e0 : win0_0.index t (0 : Fin 2) = t.val := congrFun (idx_x t) 0
  have e1 : win0_0.index t (1 : Fin 2) = 0 := congrFun (idx_x t) 1
  have he : (((cfg0.win 0).blk t).view.emb (ix2 r k : S512x1024.Idx) : S16384x1024.Idx) = ix2 R k := by
    funext a; apply Fin.ext
    match a with
    | ⟨0, _⟩ => show win0_0.index t (0 : Fin 2) * 512 + 1 * r.val = R.val; omega
    | ⟨1, _⟩ => show win0_0.index t (1 : Fin 2) * 1024 + 1 * k.val = k.val; omega
  exact (congrArg (V m c main_arg0 : Vec Ideal S16384x1024 .f32) he).trans (congrFun (V_main_arg0 m c) _)

/-- A point's block of the widened weight, from the array. -/
theorem blk_w (c : Dev nD) (t : Fin cfg0.N) (k : Fin 1024) (j : Fin 128) (J : Fin 128) (hJ : J.val = 0 * 128 + j.val) :
    (iblk m c 1 t : Vec Ideal S1024x128 .bf16) (ix2 k j) = wide m c (ix2 k J) := by
  have e0 : win0_1.index t (0 : Fin 2) = 0 := congrFun (idx_w t) 0
  have e1 : win0_1.index t (1 : Fin 2) = 0 := congrFun (idx_w t) 1
  have he : (((cfg0.win 1).blk t).view.emb (ix2 k j : S1024x128.Idx) : S1024x128.Idx) = ix2 k J := by
    funext a; apply Fin.ext
    match a with
    | ⟨0, _⟩ => show win0_1.index t (0 : Fin 2) * 1024 + 1 * k.val = k.val; omega
    | ⟨1, _⟩ => show win0_1.index t (1 : Fin 2) * 128 + 1 * j.val = J.val; omega
  exact congrArg (V m c main_v1 : Vec Ideal S1024x128 .bf16) he

/-- What a point writes back is its block of the product with the widened weight. -/
theorem flushed_eq (c : Dev nD) (t : Fin cfg0.N) :
    (dats m 0 c).flushed 2 t = ((cfg0.win 2).blk t).view.read (Elt Ideal) (prod (argX m c) (wide m c)) := by
  show (cfg0.win 2).cut (grid0.coords t) ((dats m 0 c).after 2 t) = _
  rw [after0_2]
  unfold out0_2
  rw [View.canon_unit_zero (by decide), View.ld_unit_zero (by decide), View.ld_unit_zero (by decide)]
  have ht : t.val < 32 := lt_of_lt_of_eq t.isLt N_0
  have e0 : win0_2.index t (0 : Fin 2) = t.val := congrFun (idx_out t) 0
  have e1 : win0_2.index t (1 : Fin 2) = 0 := congrFun (idx_out t) 1
  funext y
  obtain ⟨r, j, rfl⟩ : ∃ (r : Fin 512) (j : Fin 128), y = (ix2 r j : S512x128.Idx) := ⟨y 0, y 1, eq_ix2 (y : S512x128.Idx)⟩
  have hr := r.isLt
  have hj := j.isLt
  have he : (((cfg0.win 2).blk t).view.emb (ix2 r j : S512x128.Idx) : S16384x128.Idx)
      = ix2 ⟨t.val * 512 + r.val, by omega⟩ ⟨0 * 128 + j.val, by omega⟩ := by
    funext a; apply Fin.ext
    match a with
    | ⟨0, _⟩ => show win0_2.index t (0 : Fin 2) * 512 + 1 * r.val = t.val * 512 + r.val; omega
    | ⟨1, _⟩ => show win0_2.index t (1 : Fin 2) * 128 + 1 * j.val = 0 * 128 + j.val; omega
  refine Eq.trans ?_ (congrArg (prod (argX m c) (wide m c)) he).symm
  show k0_pay1 (iblk m c 0 t) (iblk m c 1 t) (ix2 r j) = _
  rw [pay_apply]
  exact entry_congr (fun k => blk_x m c t r k _ rfl) (fun k => blk_w m c t k j _ rfl)

/-- The array of results is the product with the widened weight. -/
theorem final_eq (c : Dev nD) : (dats m 0 c).arrAt 2 cfg0.N = prod (argX m c) (wide m c) :=
  (dats m 0 c).arrAt_eq_of_cover 2 _ (fun t _ => flushed_eq m c t) (fun i => by
    have h0 : (i 0).val < 16384 := (i 0).isLt
    have h1 : (i 1).val < 128 := (i 1).isLt
    let t : Fin cfg0.N := ⟨(i 0).val / 512, lt_of_lt_of_eq (by omega) N_0.symm⟩
    have hv : t.val = (i 0).val / 512 := rfl
    refine ⟨t, flush0_2 _, ?_⟩
    show i ∈ ((View.whole main_v2).slice (win0_2.rect t)).set
    rw [View.set_slice_whole, Rect.mem_set_unit]
    show ∀ a : Fin 2, win0_2.index t a * S512x128.size a ≤ (i a).val ∧ (i a).val < win0_2.index t a * S512x128.size a + S512x128.size a
    rw [idx_out]
    intro a
    match a with
    | ⟨0, _⟩ => show t.val * 512 ≤ (i 0).val ∧ (i 0).val < t.val * 512 + 512; omega
    | ⟨1, _⟩ => show 0 * 128 ≤ (i 1).val ∧ (i 1).val < 0 * 128 + 128; omega)

/-- The columns kept of the product with the widened weight are the product with the weight. -/
theorem kept_eq (c : Dev nD) :
    (extractStridedSlice S16384x32 ![0, 0] (prod (argX m c) (wide m c) : Vec Ideal S16384x128 .f32) slices_S16384x128_S16384x32_0_0 : Vec Ideal S16384x32 .f32)
      = prod (argX m c) (argW m c) := by
  funext q
  obtain ⟨r, j, rfl⟩ : ∃ (r : Fin 16384) (j : Fin 32), q = (ix2 r j : S16384x32.Idx) := ⟨q 0, q 1, eq_ix2 q⟩
  have hj := j.isLt
  rw [extractStridedSlice_apply _ _ _ _ (ix2 r ⟨j.val, by omega⟩ : S16384x128.Idx) (by
    intro a
    match a with
    | ⟨0, _⟩ => show r.val = 0 + r.val; omega
    | ⟨1, _⟩ => show j.val = 0 + j.val; omega)]
  exact entry_congr (fun _ => rfl) (fun k => wide_apply m c k j _ rfl)

/-- The run, with the array it returns. -/
theorem run_result : θ_run defs (onTc (τ := τ) (main (F := Ideal))) ⟨m, fun _ => 0, ρ⟩ fun r => ∀ c : Dev nD,
      r.2.mem ((c : Thread nD τ).loc main_v3) = prod (argX m c) (argW m c) :=
  (θ_run defs _ _).mono (fun r h c => by
    refine ((h c).2 main_v3 (Pipeline.mem_restRefs_of main_v3 (by decide) (by decide))).trans ?_
    refine Eq.trans ?_ (kept_eq m c)
    unfold Pipeline.afterTail₀
    show StableHlo.after hostOps1 _ _ = _
    after_results
    refine congrArg (fun X : Vec Ideal S16384x128 .f32 => (extractStridedSlice S16384x32 ![0, 0] X slices_S16384x128_S16384x32_0_0 : Vec Ideal S16384x32 .f32)) ?_
    exact (Pipeline.withArrays_arr spec0 launch0.win.arr_inj c _ _ 2).trans (final_eq m c)) (run_main m ρ)

/-- The reference's product. -/
theorem ref_eq (x : Vec Ideal S16384x1024 .f32) (w : Vec Ideal S1024x32 .f32) :
    (Host.dotGeneral (F := Ideal) (φ₁ := .f32) (φ₂ := .f32) Cert.Reference16Ideal.dot_S16384x1024_S1024x32_S16384x32_1_0_0_1_n_n none x w : Vec Ideal S16384x32 .f32)
      = prod x w := by
  funext q
  obtain ⟨r, j, rfl⟩ : ∃ (r : Fin 16384) (j : Fin 32), q = (ix2 r j : S16384x32.Idx) := ⟨q 0, q 1, eq_ix2 q⟩
  show _ = entry x w r j
  unfold entry
  pointwise

theorem algebraic : Cert.algebraic_Kernel16Ideal_Reference16Ideal (hKernel16Ideal := facts) (hReference16Ideal := Cert.Reference16Ideal.Gen.facts) := by
  intro m g m' g' _ hargs
  refine ⟨fun c => prod (argX m c) (argW m c), ?_, ?_⟩
  · exact (θ_run defs _ _).mono (fun r h c => ⟨h.1 c, h.2.1 c⟩) (θ_run_and (run_result m g) (frame m g))
  · refine (θ_run Cert.Reference16Ideal.defs _ _).mono (fun r h c => ⟨(h c).1.trans ?_, (h c).2⟩)
      (Cert.Reference16Ideal.Value.run (F := Ideal) m' g')
    rw [(hargs c).1, (hargs c).2]
    exact ref_eq (argX m c) (argW m c)

theorem reference : Cert.quiescent_Reference16Ideal (hReference16Ideal := Cert.Reference16Ideal.Gen.facts) :=
  fun m g _ => (θ_run Cert.Reference16Ideal.defs _ _).mono
    (fun r h => ⟨fun c => (h c).2, sem_eq_zero_of_no_sems (by decide) r.2⟩) (Cert.Reference16Ideal.Value.run (F := Ideal) m g)

end Cert.Kernel16Ideal.Mm

end
-- ==== Proof.Mm17.lean ====
/-
  The second of the two projections that go through 32 columns, of the prompts' tokens: the array the call ends with is the
  product of its arguments, and so is the reference's.
-/
module

public import proofs.«01_k».proof.Defs
public import proofs.«01_k».proof.Proof.Gen.Kernel17Ideal.Value
public import proofs.«01_k».proof.Proof.Gen.Reference17Ideal.Run
public import proofs.«01_k».proof.Proof.MmSpec
public import Idealize.ShloMosaic.Lib.StableHlo.RunRead
public import Idealize.ShloMosaic.Lib.Quiescent
public import Idealize.ShloMosaic.Lib.Pointwise

@[expose] public section

set_option maxRecDepth 16384

noncomputable section

namespace Cert.Kernel17Ideal.Mm

open Cert.Kernel17Ideal Cert.Kernel17Ideal.Gen Cert.Mm Idealize.ShloMosaic Idealize.ShloMosaic.TcCoe Idealize.SL.Sem
open Idealize.ShloMosaic.StableHlo

variable (m : (ℓ : Loc nD τ sig) → Buf (Elt Ideal) ℓ) (ρ : Dev nD → PrngReg)

/-- The call's two arguments. -/
def argX (c : Dev nD) : Vec Ideal S16384x32 .f32 := m ((c : Thread nD τ).loc main_arg0)
def argW (c : Dev nD) : Vec Ideal S32x1024 .f32 := m ((c : Thread nD τ).loc main_arg1)

/-- What the body computes is the product of the blocks it reads. -/
theorem pay_apply (x : Vec Ideal S512x32 .f32) (w : Vec Ideal S32x1024 .bf16) (r : Fin 512) (k : Fin 1024) :
    k0_pay1 x w (ix2 r k) = entry x w r k := by
  unfold entry
  pointwise [k0_pay1]

/-- The weight as the region finds it: rounding changes no real number. -/
theorem V_weight (c : Dev nD) : (V m c main_v0 : Vec Ideal S32x1024 .bf16) = argW m c := by
  show StableHlo.after hostOps0 _ _ = _
  after_results
  rfl

/-- The windows' block numbers at a point. -/
theorem idx_x : ∀ t : Fin cfg0.N, win0_0.index t = ![t.val, 0] :=
  (by decide +kernel : ∀ t : Fin grid0.N, win0_0.index t = ![t.val, 0])
theorem idx_w : ∀ t : Fin cfg0.N, win0_1.index t = ![0, 0] :=
  (by decide +kernel : ∀ t : Fin grid0.N, win0_1.index t = ![0, 0])
theorem idx_out : ∀ t : Fin cfg0.N, win0_2.index t = ![t.val, 0] :=
  (by decide +kernel : ∀ t : Fin grid0.N, win0_2.index t = ![t.val, 0])

/-- A point's block of `x`, from the array. -/
theorem blk_x (c : Dev nD) (t : Fin cfg0.N) (r : Fin 512) (k : Fin 32) (R : Fin 16384) (hR : R.val = t.val * 512 + r.val) :
    (iblk m c 0 t : Vec Ideal S512x32 .f32) (ix2 r k) = argX m c (ix2 R k) := by
  have e0 : win0_0.index t (0 : Fin 2) = t.val := congrFun (idx_x t) 0
  have e1 : win0_0.index t (1 : Fin 2) = 0 := congrFun (idx_x t) 1
  have he : (((cfg0.win 0).blk t).view.emb (ix2 r k : S512x32.Idx) : S16384x32.Idx) = ix2 R k := by
    funext a; apply Fin.ext
    match a with
    | ⟨0, _⟩ => show win0_0.index t (0 : Fin 2) * 512 + 1 * r.val = R.val; omega
    | ⟨1, _⟩ => show win0_0.index t (1 : Fin 2) * 32 + 1 * k.val = k.val; omega
  exact (congrArg (V m c main_arg0 : Vec Ideal S16384x32 .f32) he).trans (congrFun (V_main_arg0 m c) _)

/-- A point's block of `w` is all of it. -/
theorem blk_w (c : Dev nD) (t : Fin cfg0.N) (k : Fin 32) (j : Fin 1024) :
    (iblk m c 1 t : Vec Ideal S32x1024 .bf16) (ix2 k j) = argW m c (ix2 k j) := by
  have e0 : win0_1.index t (0 : Fin 2) = 0 := congrFun (idx_w t) 0
  have e1 : win0_1.index t (1 : Fin 2) = 0 := congrFun (idx_w t) 1
  have he : (((cfg0.win 1).blk t).view.emb (ix2 k j : S32x1024.Idx) : S32x1024.Idx) = ix2 k j := by
    funext a; apply Fin.ext
    match a with
    | ⟨0, _⟩ => show win0_1.index t (0 : Fin 2) * 32 + 1 * k.val = k.val; omega
    | ⟨1, _⟩ => show win0_1.index t (1 : Fin 2) * 1024 + 1 * j.val = j.val; omega
  exact (congrArg (V m c main_v0 : Vec Ideal S32x1024 .bf16) he).trans (congrFun (V_weight m c) _)

/-- What a point writes back is its block of the product. -/
theorem flushed_eq (c : Dev nD) (t : Fin cfg0.N) :
    (dats m 0 c).flushed 2 t = ((cfg0.win 2).blk t).view.read (Elt Ideal) (prod (argX m c) (argW m c)) := by
  rw [Value.flushed2]
  unfold out0_2
  rw [View.canon_unit_zero (by decide), View.ld_unit_zero (by decide), View.ld_unit_zero (by decide)]
  have ht : t.val < 32 := lt_of_lt_of_eq t.isLt N_0
  have e0 : win0_2.index t (0 : Fin 2) = t.val := congrFun (idx_out t) 0
  have e1 : win0_2.index t (1 : Fin 2) = 0 := congrFun (idx_out t) 1
  funext y
  obtain ⟨r, j, rfl⟩ : ∃ (r : Fin 512) (j : Fin 1024), y = (ix2 r j : S512x1024.Idx) := ⟨y 0, y 1, eq_ix2 (y : S512x1024.Idx)⟩
  have hr := r.isLt
  have he : (((cfg0.win 2).blk t).view.emb (ix2 r j : S512x1024.Idx) : S16384x1024.Idx) = ix2 ⟨t.val * 512 + r.val, by omega⟩ j := by
    funext a; apply Fin.ext
    match a with
    | ⟨0, _⟩ => show win0_2.index t (0 : Fin 2) * 512 + 1 * r.val = t.val * 512 + r.val; omega
    | ⟨1, _⟩ => show win0_2.index t (1 : Fin 2) * 1024 + 1 * j.val = j.val; omega
  refine Eq.trans ?_ (congrArg (prod (argX m c) (argW m c)) he).symm
  show k0_pay1 (iblk m c 0 t) (iblk m c 1 t) (ix2 r j) = _
  rw [pay_apply]
  exact entry_congr (fun k => blk_x m c t r k _ rfl) (fun k => blk_w m c t k j)

/-- The array of results is the product. -/
theorem final_eq (c : Dev nD) : (dats m 0 c).arrAt 2 cfg0.N = prod (argX m c) (argW m c) :=
  (dats m 0 c).arrAt_eq_of_cover 2 _ (fun t _ => flushed_eq m c t) (fun i => by
    have h0 : (i 0).val < 16384 := (i 0).isLt
    have h1 : (i 1).val < 1024 := (i 1).isLt
    let t : Fin cfg0.N := ⟨(i 0).val / 512, lt_of_lt_of_eq (by omega) N_0.symm⟩
    have hv : t.val = (i 0).val / 512 := rfl
    refine ⟨t, flush0_2 _, ?_⟩
    show i ∈ ((View.whole main_v1).slice (win0_2.rect t)).set
    rw [View.set_slice_whole, Rect.mem_set_unit]
    show ∀ a : Fin 2, win0_2.index t a * S512x1024.size a ≤ (i a).val ∧ (i a).val < win0_2.index t a * S512x1024.size a + S512x1024.size a
    rw [idx_out]
    intro a
    match a with
    | ⟨0, _⟩ => show t.val * 512 ≤ (i 0).val ∧ (i 0).val < t.val * 512 + 512; omega
    | ⟨1, _⟩ => show 0 * 1024 ≤ (i 1).val ∧ (i 1).val < 0 * 1024 + 1024; omega)

/-- The reference's product. -/
theorem ref_eq (x : Vec Ideal S16384x32 .f32) (w : Vec Ideal S32x1024 .f32) :
    (Host.dotGeneral (F := Ideal) (φ₁ := .f32) (φ₂ := .f32) Cert.Reference17Ideal.dot_S16384x32_S32x1024_S16384x1024_1_0_0_1_n_n none x w : Vec Ideal S16384x1024 .f32)
      = prod x w := by
  funext q
  obtain ⟨r, j, rfl⟩ : ∃ (r : Fin 16384) (j : Fin 1024), q = (ix2 r j : S16384x1024.Idx) := ⟨q 0, q 1, eq_ix2 q⟩
  show _ = entry x w r j
  unfold entry
  pointwise

theorem algebraic : Cert.algebraic_Kernel17Ideal_Reference17Ideal (hKernel17Ideal := facts) (hReference17Ideal := Cert.Reference17Ideal.Gen.facts) := by
  intro m g m' g' _ hargs
  refine ⟨fun c => prod (argX m c) (argW m c), ?_, ?_⟩
  · exact (θ_run defs _ _).mono (fun r h c => ⟨(h c).1.trans (final_eq m c), (h c).2⟩) (Value.run_blocks m g)
  · refine (θ_run Cert.Reference17Ideal.defs _ _).mono (fun r h c => ⟨(h c).1.trans ?_, (h c).2⟩)
      (Cert.Reference17Ideal.Value.run (F := Ideal) m' g')
    rw [(hargs c).1, (hargs c).2]
    exact ref_eq (argX m c) (argW m c)

theorem reference : Cert.quiescent_Reference17Ideal (hReference17Ideal := Cert.Reference17Ideal.Gen.facts) :=
  fun m g _ => (θ_run Cert.Reference17Ideal.defs _ _).mono
    (fun r h => ⟨fun c => (h c).2, sem_eq_zero_of_no_sems (by decide) r.2⟩) (Cert.Reference17Ideal.Value.run (F := Ideal) m g)

end Cert.Kernel17Ideal.Mm

end
-- ==== Proof.Mm18.lean ====
/-
  The first of the two projections that go through 64 columns, of the sample group's tokens: the call's block of the weight is widened by
  columns of zeros to 128, and the columns of its result that belong to the weight itself are the product of the call's
  arguments; so is the reference's result.
-/
module

public import proofs.«01_k».proof.Defs
public import proofs.«01_k».proof.Proof.Gen.Kernel18Ideal.Frame
public import proofs.«01_k».proof.Proof.Gen.Reference18Ideal.Run
public import proofs.«01_k».proof.Proof.MmSpec
public import Idealize.ShloMosaic.Lib.StableHlo.RunRead
public import Idealize.ShloMosaic.Lib.Quiescent
public import Idealize.ShloMosaic.Lib.KernelVsHost
public import Idealize.ShloMosaic.Lib.Pointwise

@[expose] public section

set_option maxRecDepth 16384

noncomputable section

namespace Cert.Kernel18Ideal.Mm

open Cert.Kernel18Ideal Cert.Kernel18Ideal.Gen Cert.Mm Idealize.ShloMosaic Idealize.ShloMosaic.TcCoe Idealize.SL.Sem
open Idealize.ShloMosaic.StableHlo

variable (m : (ℓ : Loc nD τ sig) → Buf (Elt Ideal) ℓ) (ρ : Dev nD → PrngReg)

/-- The call's two arguments. -/
def argX (c : Dev nD) : Vec Ideal S1024x1024 .f32 := m ((c : Thread nD τ).loc main_arg0)
def argW (c : Dev nD) : Vec Ideal S1024x64 .f32 := m ((c : Thread nD τ).loc main_arg1)

/-- What the body computes is the product of the blocks it reads. -/
theorem pay_apply (x : Vec Ideal S512x1024 .f32) (w : Vec Ideal S1024x128 .bf16) (r : Fin 512) (k : Fin 128) :
    k0_pay1 x w (ix2 r k) = entry x w r k := by
  unfold entry
  pointwise [k0_pay1]

/-- The widened weight as the region finds it: rounding changes no real number. -/
def wide (c : Dev nD) : Vec Ideal S1024x128 .bf16 := V m c main_v1

theorem wide_apply (c : Dev nD) (k : Fin 1024) (j : Fin 64) (J : Fin 128) (hJ : J.val = j.val) :
    wide m c (ix2 k J) = argW m c (ix2 k j) := by
  have hj := j.isLt
  have e : wide m c = pad S1024x128 ![0, 0] ![0, 64] ![0, 0] (argW m c : FVec Ideal S1024x64 .bf16) (sitofp .bf16 (constantI S_ 32 0#32) : FVec Ideal S_ .bf16)
      pads_S1024x64_S1024x128_000_0640 h_S_ := by
    show StableHlo.after (hostOps0 ++ hostOps0_1) _ _ = _
    simp only [hostOps0, hostOps0_1, List.cons_append, List.nil_append]
    after_results
    rfl
  rw [e]
  exact pad_apply_of_inside _ _ _ _ _ _ _ _ (ix2 k j : S1024x64.Idx) (by
    intro a
    match a with
    | ⟨0, _⟩ => show k.val = 0 + k.val * (0 + 1); omega
    | ⟨1, _⟩ => show J.val = 0 + j.val * (0 + 1); omega)

/-- The windows' block numbers at a point. -/
theorem idx_x : ∀ t : Fin cfg0.N, win0_0.index t = ![t.val, 0] :=
  (by decide +kernel : ∀ t : Fin grid0.N, win0_0.index t = ![t.val, 0])
theorem idx_w : ∀ t : Fin cfg0.N, win0_1.index t = ![0, 0] :=
  (by decide +kernel : ∀ t : Fin grid0.N, win0_1.index t = ![0, 0])
theorem idx_out : ∀ t : Fin cfg0.N, win0_2.index t = ![t.val, 0] :=
  (by decide +kernel : ∀ t : Fin grid0.N, win0_2.index t = ![t.val, 0])

/-- A point's block of `x`, from the array. -/
theorem blk_x (c : Dev nD) (t : Fin cfg0.N) (r : Fin 512) (k : Fin 1024) (R : Fin 1024) (hR : R.val = t.val * 512 + r.val) :
    (iblk m c 0 t : Vec Ideal S512x1024 .f32) (ix2 r k) = argX m c (ix2 R k) := by
  have e0 : win0_0.index t (0 : Fin 2) = t.val := congrFun (idx_x t) 0
  have e1 : win0_0.index t (1 : Fin 2) = 0 := congrFun (idx_x t) 1
  have he : (((cfg0.win 0).blk t).view.emb (ix2 r k : S512x1024.Idx) : S1024x1024.Idx) = ix2 R k := by
    funext a; apply Fin.ext
    match a with
    | ⟨0, _⟩ => show win0_0.index t (0 : Fin 2) * 512 + 1 * r.val = R.val; omega
    | ⟨1, _⟩ => show win0_0.index t (1 : Fin 2) * 1024 + 1 * k.val = k.val; omega
  exact (congrArg (V m c main_arg0 : Vec Ideal S1024x1024 .f32) he).trans (congrFun (V_main_arg0 m c) _)

/-- A point's block of the widened weight, from the array. -/
theorem blk_w (c : Dev nD) (t : Fin cfg0.N) (k : Fin 1024) (j : Fin 128) (J : Fin 128) (hJ : J.val = 0 * 128 + j.val) :
    (iblk m c 1 t : Vec Ideal S1024x128 .bf16) (ix2 k j) = wide m c (ix2 k J) := by
  have e0 : win0_1.index t (0 : Fin 2) = 0 := congrFun (idx_w t) 0
  have e1 : win0_1.index t (1 : Fin 2) = 0 := congrFun (idx_w t) 1
  have he : (((cfg0.win 1).blk t).view.emb (ix2 k j : S1024x128.Idx) : S1024x128.Idx) = ix2 k J := by
    funext a; apply Fin.ext
    match a with
    | ⟨0, _⟩ => show win0_1.index t (0 : Fin 2) * 1024 + 1 * k.val = k.val; omega
    | ⟨1, _⟩ => show win0_1.index t (1 : Fin 2) * 128 + 1 * j.val = J.val; omega
  exact congrArg (V m c main_v1 : Vec Ideal S1024x128 .bf16) he

/-- What a point writes back is its block of the product with the widened weight. -/
theorem flushed_eq (c : Dev nD) (t : Fin cfg0.N) :
    (dats m 0 c).flushed 2 t = ((cfg0.win 2).blk t).view.read (Elt Ideal) (prod (argX m c) (wide m c)) := by
  show (cfg0.win 2).cut (grid0.coords t) ((dats m 0 c).after 2 t) = _
  rw [after0_2]
  unfold out0_2
  rw [View.canon_unit_zero (by decide), View.ld_unit_zero (by decide), View.ld_unit_zero (by decide)]
  have ht : t.val < 2 := lt_of_lt_of_eq t.isLt N_0
  have e0 : win0_2.index t (0 : Fin 2) = t.val := congrFun (idx_out t) 0
  have e1 : win0_2.index t (1 : Fin 2) = 0 := congrFun (idx_out t) 1
  funext y
  obtain ⟨r, j, rfl⟩ : ∃ (r : Fin 512) (j : Fin 128), y = (ix2 r j : S512x128.Idx) := ⟨y 0, y 1, eq_ix2 (y : S512x128.Idx)⟩
  have hr := r.isLt
  have hj := j.isLt
  have he : (((cfg0.win 2).blk t).view.emb (ix2 r j : S512x128.Idx) : S1024x128.Idx)
      = ix2 ⟨t.val * 512 + r.val, by omega⟩ ⟨0 * 128 + j.val, by omega⟩ := by
    funext a; apply Fin.ext
    match a with
    | ⟨0, _⟩ => show win0_2.index t (0 : Fin 2) * 512 + 1 * r.val = t.val * 512 + r.val; omega
    | ⟨1, _⟩ => show win0_2.index t (1 : Fin 2) * 128 + 1 * j.val = 0 * 128 + j.val; omega
  refine Eq.trans ?_ (congrArg (prod (argX m c) (wide m c)) he).symm
  show k0_pay1 (iblk m c 0 t) (iblk m c 1 t) (ix2 r j) = _
  rw [pay_apply]
  exact entry_congr (fun k => blk_x m c t r k _ rfl) (fun k => blk_w m c t k j _ rfl)

/-- The array of results is the product with the widened weight. -/
theorem final_eq (c : Dev nD) : (dats m 0 c).arrAt 2 cfg0.N = prod (argX m c) (wide m c) :=
  (dats m 0 c).arrAt_eq_of_cover 2 _ (fun t _ => flushed_eq m c t) (fun i => by
    have h0 : (i 0).val < 1024 := (i 0).isLt
    have h1 : (i 1).val < 128 := (i 1).isLt
    let t : Fin cfg0.N := ⟨(i 0).val / 512, lt_of_lt_of_eq (by omega) N_0.symm⟩
    have hv : t.val = (i 0).val / 512 := rfl
    refine ⟨t, flush0_2 _, ?_⟩
    show i ∈ ((View.whole main_v2).slice (win0_2.rect t)).set
    rw [View.set_slice_whole, Rect.mem_set_unit]
    show ∀ a : Fin 2, win0_2.index t a * S512x128.size a ≤ (i a).val ∧ (i a).val < win0_2.index t a * S512x128.size a + S512x128.size a
    rw [idx_out]
    intro a
    match a with
    | ⟨0, _⟩ => show t.val * 512 ≤ (i 0).val ∧ (i 0).val < t.val * 512 + 512; omega
    | ⟨1, _⟩ => show 0 * 128 ≤ (i 1).val ∧ (i 1).val < 0 * 128 + 128; omega)

/-- The columns kept of the product with the widened weight are the product with the weight. -/
theorem kept_eq (c : Dev nD) :
    (extractStridedSlice S1024x64 ![0, 0] (prod (argX m c) (wide m c) : Vec Ideal S1024x128 .f32) slices_S1024x128_S1024x64_0_0 : Vec Ideal S1024x64 .f32)
      = prod (argX m c) (argW m c) := by
  funext q
  obtain ⟨r, j, rfl⟩ : ∃ (r : Fin 1024) (j : Fin 64), q = (ix2 r j : S1024x64.Idx) := ⟨q 0, q 1, eq_ix2 q⟩
  have hj := j.isLt
  rw [extractStridedSlice_apply _ _ _ _ (ix2 r ⟨j.val, by omega⟩ : S1024x128.Idx) (by
    intro a
    match a with
    | ⟨0, _⟩ => show r.val = 0 + r.val; omega
    | ⟨1, _⟩ => show j.val = 0 + j.val; omega)]
  exact entry_congr (fun _ => rfl) (fun k => wide_apply m c k j _ rfl)

/-- The run, with the array it returns. -/
theorem run_result : θ_run defs (onTc (τ := τ) (main (F := Ideal))) ⟨m, fun _ => 0, ρ⟩ fun r => ∀ c : Dev nD,
      r.2.mem ((c : Thread nD τ).loc main_v3) = prod (argX m c) (argW m c) :=
  (θ_run defs _ _).mono (fun r h c => by
    refine ((h c).2 main_v3 (Pipeline.mem_restRefs_of main_v3 (by decide) (by decide))).trans ?_
    refine Eq.trans ?_ (kept_eq m c)
    unfold Pipeline.afterTail₀
    show StableHlo.after hostOps1 _ _ = _
    after_results
    refine congrArg (fun X : Vec Ideal S1024x128 .f32 => (extractStridedSlice S1024x64 ![0, 0] X slices_S1024x128_S1024x64_0_0 : Vec Ideal S1024x64 .f32)) ?_
    exact (Pipeline.withArrays_arr spec0 launch0.win.arr_inj c _ _ 2).trans (final_eq m c)) (run_main m ρ)

/-- The reference's product. -/
theorem ref_eq (x : Vec Ideal S1024x1024 .f32) (w : Vec Ideal S1024x64 .f32) :
    (Host.dotGeneral (F := Ideal) (φ₁ := .f32) (φ₂ := .f32) Cert.Reference18Ideal.dot_S1024x1024_S1024x64_S1024x64_1_0_0_1_n_n none x w : Vec Ideal S1024x64 .f32)
      = prod x w := by
  funext q
  obtain ⟨r, j, rfl⟩ : ∃ (r : Fin 1024) (j : Fin 64), q = (ix2 r j : S1024x64.Idx) := ⟨q 0, q 1, eq_ix2 q⟩
  show _ = entry x w r j
  unfold entry
  pointwise

theorem algebraic : Cert.algebraic_Kernel18Ideal_Reference18Ideal (hKernel18Ideal := facts) (hReference18Ideal := Cert.Reference18Ideal.Gen.facts) := by
  intro m g m' g' _ hargs
  refine ⟨fun c => prod (argX m c) (argW m c), ?_, ?_⟩
  · exact (θ_run defs _ _).mono (fun r h c => ⟨h.1 c, h.2.1 c⟩) (θ_run_and (run_result m g) (frame m g))
  · refine (θ_run Cert.Reference18Ideal.defs _ _).mono (fun r h c => ⟨(h c).1.trans ?_, (h c).2⟩)
      (Cert.Reference18Ideal.Value.run (F := Ideal) m' g')
    rw [(hargs c).1, (hargs c).2]
    exact ref_eq (argX m c) (argW m c)

theorem reference : Cert.quiescent_Reference18Ideal (hReference18Ideal := Cert.Reference18Ideal.Gen.facts) :=
  fun m g _ => (θ_run Cert.Reference18Ideal.defs _ _).mono
    (fun r h => ⟨fun c => (h c).2, sem_eq_zero_of_no_sems (by decide) r.2⟩) (Cert.Reference18Ideal.Value.run (F := Ideal) m g)

end Cert.Kernel18Ideal.Mm

end
-- ==== Proof.Mm19.lean ====
/-
  The second of the two projections that go through 64 columns, of the sample group's tokens: the array the call ends with is the
  product of its arguments, and so is the reference's.
-/
module

public import proofs.«01_k».proof.Defs
public import proofs.«01_k».proof.Proof.Gen.Kernel19Ideal.Value
public import proofs.«01_k».proof.Proof.Gen.Reference19Ideal.Run
public import proofs.«01_k».proof.Proof.MmSpec
public import Idealize.ShloMosaic.Lib.StableHlo.RunRead
public import Idealize.ShloMosaic.Lib.Quiescent
public import Idealize.ShloMosaic.Lib.Pointwise

@[expose] public section

set_option maxRecDepth 16384

noncomputable section

namespace Cert.Kernel19Ideal.Mm

open Cert.Kernel19Ideal Cert.Kernel19Ideal.Gen Cert.Mm Idealize.ShloMosaic Idealize.ShloMosaic.TcCoe Idealize.SL.Sem
open Idealize.ShloMosaic.StableHlo

variable (m : (ℓ : Loc nD τ sig) → Buf (Elt Ideal) ℓ) (ρ : Dev nD → PrngReg)

/-- The call's two arguments. -/
def argX (c : Dev nD) : Vec Ideal S1024x64 .f32 := m ((c : Thread nD τ).loc main_arg0)
def argW (c : Dev nD) : Vec Ideal S64x1024 .f32 := m ((c : Thread nD τ).loc main_arg1)

/-- What the body computes is the product of the blocks it reads. -/
theorem pay_apply (x : Vec Ideal S512x64 .f32) (w : Vec Ideal S64x1024 .bf16) (r : Fin 512) (k : Fin 1024) :
    k0_pay1 x w (ix2 r k) = entry x w r k := by
  unfold entry
  pointwise [k0_pay1]

/-- The weight as the region finds it: rounding changes no real number. -/
theorem V_weight (c : Dev nD) : (V m c main_v0 : Vec Ideal S64x1024 .bf16) = argW m c := by
  show StableHlo.after hostOps0 _ _ = _
  after_results
  rfl

/-- The windows' block numbers at a point. -/
theorem idx_x : ∀ t : Fin cfg0.N, win0_0.index t = ![t.val, 0] :=
  (by decide +kernel : ∀ t : Fin grid0.N, win0_0.index t = ![t.val, 0])
theorem idx_w : ∀ t : Fin cfg0.N, win0_1.index t = ![0, 0] :=
  (by decide +kernel : ∀ t : Fin grid0.N, win0_1.index t = ![0, 0])
theorem idx_out : ∀ t : Fin cfg0.N, win0_2.index t = ![t.val, 0] :=
  (by decide +kernel : ∀ t : Fin grid0.N, win0_2.index t = ![t.val, 0])

/-- A point's block of `x`, from the array. -/
theorem blk_x (c : Dev nD) (t : Fin cfg0.N) (r : Fin 512) (k : Fin 64) (R : Fin 1024) (hR : R.val = t.val * 512 + r.val) :
    (iblk m c 0 t : Vec Ideal S512x64 .f32) (ix2 r k) = argX m c (ix2 R k) := by
  have e0 : win0_0.index t (0 : Fin 2) = t.val := congrFun (idx_x t) 0
  have e1 : win0_0.index t (1 : Fin 2) = 0 := congrFun (idx_x t) 1
  have he : (((cfg0.win 0).blk t).view.emb (ix2 r k : S512x64.Idx) : S1024x64.Idx) = ix2 R k := by
    funext a; apply Fin.ext
    match a with
    | ⟨0, _⟩ => show win0_0.index t (0 : Fin 2) * 512 + 1 * r.val = R.val; omega
    | ⟨1, _⟩ => show win0_0.index t (1 : Fin 2) * 64 + 1 * k.val = k.val; omega
  exact (congrArg (V m c main_arg0 : Vec Ideal S1024x64 .f32) he).trans (congrFun (V_main_arg0 m c) _)

/-- A point's block of `w` is all of it. -/
theorem blk_w (c : Dev nD) (t : Fin cfg0.N) (k : Fin 64) (j : Fin 1024) :
    (iblk m c 1 t : Vec Ideal S64x1024 .bf16) (ix2 k j) = argW m c (ix2 k j) := by
  have e0 : win0_1.index t (0 : Fin 2) = 0 := congrFun (idx_w t) 0
  have e1 : win0_1.index t (1 : Fin 2) = 0 := congrFun (idx_w t) 1
  have he : (((cfg0.win 1).blk t).view.emb (ix2 k j : S64x1024.Idx) : S64x1024.Idx) = ix2 k j := by
    funext a; apply Fin.ext
    match a with
    | ⟨0, _⟩ => show win0_1.index t (0 : Fin 2) * 64 + 1 * k.val = k.val; omega
    | ⟨1, _⟩ => show win0_1.index t (1 : Fin 2) * 1024 + 1 * j.val = j.val; omega
  exact (congrArg (V m c main_v0 : Vec Ideal S64x1024 .bf16) he).trans (congrFun (V_weight m c) _)

/-- What a point writes back is its block of the product. -/
theorem flushed_eq (c : Dev nD) (t : Fin cfg0.N) :
    (dats m 0 c).flushed 2 t = ((cfg0.win 2).blk t).view.read (Elt Ideal) (prod (argX m c) (argW m c)) := by
  rw [Value.flushed2]
  unfold out0_2
  rw [View.canon_unit_zero (by decide), View.ld_unit_zero (by decide), View.ld_unit_zero (by decide)]
  have ht : t.val < 2 := lt_of_lt_of_eq t.isLt N_0
  have e0 : win0_2.index t (0 : Fin 2) = t.val := congrFun (idx_out t) 0
  have e1 : win0_2.index t (1 : Fin 2) = 0 := congrFun (idx_out t) 1
  funext y
  obtain ⟨r, j, rfl⟩ : ∃ (r : Fin 512) (j : Fin 1024), y = (ix2 r j : S512x1024.Idx) := ⟨y 0, y 1, eq_ix2 (y : S512x1024.Idx)⟩
  have hr := r.isLt
  have he : (((cfg0.win 2).blk t).view.emb (ix2 r j : S512x1024.Idx) : S1024x1024.Idx) = ix2 ⟨t.val * 512 + r.val, by omega⟩ j := by
    funext a; apply Fin.ext
    match a with
    | ⟨0, _⟩ => show win0_2.index t (0 : Fin 2) * 512 + 1 * r.val = t.val * 512 + r.val; omega
    | ⟨1, _⟩ => show win0_2.index t (1 : Fin 2) * 1024 + 1 * j.val = j.val; omega
  refine Eq.trans ?_ (congrArg (prod (argX m c) (argW m c)) he).symm
  show k0_pay1 (iblk m c 0 t) (iblk m c 1 t) (ix2 r j) = _
  rw [pay_apply]
  exact entry_congr (fun k => blk_x m c t r k _ rfl) (fun k => blk_w m c t k j)

/-- The array of results is the product. -/
theorem final_eq (c : Dev nD) : (dats m 0 c).arrAt 2 cfg0.N = prod (argX m c) (argW m c) :=
  (dats m 0 c).arrAt_eq_of_cover 2 _ (fun t _ => flushed_eq m c t) (fun i => by
    have h0 : (i 0).val < 1024 := (i 0).isLt
    have h1 : (i 1).val < 1024 := (i 1).isLt
    let t : Fin cfg0.N := ⟨(i 0).val / 512, lt_of_lt_of_eq (by omega) N_0.symm⟩
    have hv : t.val = (i 0).val / 512 := rfl
    refine ⟨t, flush0_2 _, ?_⟩
    show i ∈ ((View.whole main_v1).slice (win0_2.rect t)).set
    rw [View.set_slice_whole, Rect.mem_set_unit]
    show ∀ a : Fin 2, win0_2.index t a * S512x1024.size a ≤ (i a).val ∧ (i a).val < win0_2.index t a * S512x1024.size a + S512x1024.size a
    rw [idx_out]
    intro a
    match a with
    | ⟨0, _⟩ => show t.val * 512 ≤ (i 0).val ∧ (i 0).val < t.val * 512 + 512; omega
    | ⟨1, _⟩ => show 0 * 1024 ≤ (i 1).val ∧ (i 1).val < 0 * 1024 + 1024; omega)

/-- The reference's product. -/
theorem ref_eq (x : Vec Ideal S1024x64 .f32) (w : Vec Ideal S64x1024 .f32) :
    (Host.dotGeneral (F := Ideal) (φ₁ := .f32) (φ₂ := .f32) Cert.Reference19Ideal.dot_S1024x64_S64x1024_S1024x1024_1_0_0_1_n_n none x w : Vec Ideal S1024x1024 .f32)
      = prod x w := by
  funext q
  obtain ⟨r, j, rfl⟩ : ∃ (r : Fin 1024) (j : Fin 1024), q = (ix2 r j : S1024x1024.Idx) := ⟨q 0, q 1, eq_ix2 q⟩
  show _ = entry x w r j
  unfold entry
  pointwise

theorem algebraic : Cert.algebraic_Kernel19Ideal_Reference19Ideal (hKernel19Ideal := facts) (hReference19Ideal := Cert.Reference19Ideal.Gen.facts) := by
  intro m g m' g' _ hargs
  refine ⟨fun c => prod (argX m c) (argW m c), ?_, ?_⟩
  · exact (θ_run defs _ _).mono (fun r h c => ⟨(h c).1.trans (final_eq m c), (h c).2⟩) (Value.run_blocks m g)
  · refine (θ_run Cert.Reference19Ideal.defs _ _).mono (fun r h c => ⟨(h c).1.trans ?_, (h c).2⟩)
      (Cert.Reference19Ideal.Value.run (F := Ideal) m' g')
    rw [(hargs c).1, (hargs c).2]
    exact ref_eq (argX m c) (argW m c)

theorem reference : Cert.quiescent_Reference19Ideal (hReference19Ideal := Cert.Reference19Ideal.Gen.facts) :=
  fun m g _ => (θ_run Cert.Reference19Ideal.defs _ _).mono
    (fun r h => ⟨fun c => (h c).2, sem_eq_zero_of_no_sems (by decide) r.2⟩) (Cert.Reference19Ideal.Value.run (F := Ideal) m g)

end Cert.Kernel19Ideal.Mm

end
-- ==== Proof.Mm20.lean ====
/-
  The first of the two projections that go through 32 columns, of the sample group's tokens: the call's block of the weight is widened by
  columns of zeros to 128, and the columns of its result that belong to the weight itself are the product of the call's
  arguments; so is the reference's result.
-/
module

public import proofs.«01_k».proof.Defs
public import proofs.«01_k».proof.Proof.Gen.Kernel20Ideal.Frame
public import proofs.«01_k».proof.Proof.Gen.Reference20Ideal.Run
public import proofs.«01_k».proof.Proof.MmSpec
public import Idealize.ShloMosaic.Lib.StableHlo.RunRead
public import Idealize.ShloMosaic.Lib.Quiescent
public import Idealize.ShloMosaic.Lib.KernelVsHost
public import Idealize.ShloMosaic.Lib.Pointwise

@[expose] public section

set_option maxRecDepth 16384

noncomputable section

namespace Cert.Kernel20Ideal.Mm

open Cert.Kernel20Ideal Cert.Kernel20Ideal.Gen Cert.Mm Idealize.ShloMosaic Idealize.ShloMosaic.TcCoe Idealize.SL.Sem
open Idealize.ShloMosaic.StableHlo

variable (m : (ℓ : Loc nD τ sig) → Buf (Elt Ideal) ℓ) (ρ : Dev nD → PrngReg)

/-- The call's two arguments. -/
def argX (c : Dev nD) : Vec Ideal S1024x1024 .f32 := m ((c : Thread nD τ).loc main_arg0)
def argW (c : Dev nD) : Vec Ideal S1024x32 .f32 := m ((c : Thread nD τ).loc main_arg1)

/-- What the body computes is the product of the blocks it reads. -/
theorem pay_apply (x : Vec Ideal S512x1024 .f32) (w : Vec Ideal S1024x128 .bf16) (r : Fin 512) (k : Fin 128) :
    k0_pay1 x w (ix2 r k) = entry x w r k := by
  unfold entry
  pointwise [k0_pay1]

/-- The widened weight as the region finds it: rounding changes no real number. -/
def wide (c : Dev nD) : Vec Ideal S1024x128 .bf16 := V m c main_v1

theorem wide_apply (c : Dev nD) (k : Fin 1024) (j : Fin 32) (J : Fin 128) (hJ : J.val = j.val) :
    wide m c (ix2 k J) = argW m c (ix2 k j) := by
  have hj := j.isLt
  have e : wide m c = pad S1024x128 ![0, 0] ![0, 96] ![0, 0] (argW m c : FVec Ideal S1024x32 .bf16) (sitofp .bf16 (constantI S_ 32 0#32) : FVec Ideal S_ .bf16)
      pads_S1024x32_S1024x128_000_0960 h_S_ := by
    show StableHlo.after (hostOps0 ++ hostOps0_1) _ _ = _
    simp only [hostOps0, hostOps0_1, List.cons_append, List.nil_append]
    after_results
    rfl
  rw [e]
  exact pad_apply_of_inside _ _ _ _ _ _ _ _ (ix2 k j : S1024x32.Idx) (by
    intro a
    match a with
    | ⟨0, _⟩ => show k.val = 0 + k.val * (0 + 1); omega
    | ⟨1, _⟩ => show J.val = 0 + j.val * (0 + 1); omega)

/-- The windows' block numbers at a point. -/
theorem idx_x : ∀ t : Fin cfg0.N, win0_0.index t = ![t.val, 0] :=
  (by decide +kernel : ∀ t : Fin grid0.N, win0_0.index t = ![t.val, 0])
theorem idx_w : ∀ t : Fin cfg0.N, win0_1.index t = ![0, 0] :=
  (by decide +kernel : ∀ t : Fin grid0.N, win0_1.index t = ![0, 0])
theorem idx_out : ∀ t : Fin cfg0.N, win0_2.index t = ![t.val, 0] :=
  (by decide +kernel : ∀ t : Fin grid0.N, win0_2.index t = ![t.val, 0])

/-- A point's block of `x`, from the array. -/
theorem blk_x (c : Dev nD) (t : Fin cfg0.N) (r : Fin 512) (k : Fin 1024) (R : Fin 1024) (hR : R.val = t.val * 512 + r.val) :
    (iblk m c 0 t : Vec Ideal S512x1024 .f32) (ix2 r k) = argX m c (ix2 R k) := by
  have e0 : win0_0.index t (0 : Fin 2) = t.val := congrFun (idx_x t) 0
  have e1 : win0_0.index t (1 : Fin 2) = 0 := congrFun (idx_x t) 1
  have he : (((cfg0.win 0).blk t).view.emb (ix2 r k : S512x1024.Idx) : S1024x1024.Idx) = ix2 R k := by
    funext a; apply Fin.ext
    match a with
    | ⟨0, _⟩ => show win0_0.index t (0 : Fin 2) * 512 + 1 * r.val = R.val; omega
    | ⟨1, _⟩ => show win0_0.index t (1 : Fin 2) * 1024 + 1 * k.val = k.val; omega
  exact (congrArg (V m c main_arg0 : Vec Ideal S1024x1024 .f32) he).trans (congrFun (V_main_arg0 m c) _)

/-- A point's block of the widened weight, from the array. -/
theorem blk_w (c : Dev nD) (t : Fin cfg0.N) (k : Fin 1024) (j : Fin 128) (J : Fin 128) (hJ : J.val = 0 * 128 + j.val) :
    (iblk m c 1 t : Vec Ideal S1024x128 .bf16) (ix2 k j) = wide m c (ix2 k J) := by
  have e0 : win0_1.index t (0 : Fin 2) = 0 := congrFun (idx_w t) 0
  have e1 : win0_1.index t (1 : Fin 2) = 0 := congrFun (idx_w t) 1
  have he : (((cfg0.win 1).blk t).view.emb (ix2 k j : S1024x128.Idx) : S1024x128.Idx) = ix2 k J := by
    funext a; apply Fin.ext
    match a with
    | ⟨0, _⟩ => show win0_1.index t (0 : Fin 2) * 1024 + 1 * k.val = k.val; omega
    | ⟨1, _⟩ => show win0_1.index t (1 : Fin 2) * 128 + 1 * j.val = J.val; omega
  exact congrArg (V m c main_v1 : Vec Ideal S1024x128 .bf16) he

/-- What a point writes back is its block of the product with the widened weight. -/
theorem flushed_eq (c : Dev nD) (t : Fin cfg0.N) :
    (dats m 0 c).flushed 2 t = ((cfg0.win 2).blk t).view.read (Elt Ideal) (prod (argX m c) (wide m c)) := by
  show (cfg0.win 2).cut (grid0.coords t) ((dats m 0 c).after 2 t) = _
  rw [after0_2]
  unfold out0_2
  rw [View.canon_unit_zero (by decide), View.ld_unit_zero (by decide), View.ld_unit_zero (by decide)]
  have ht : t.val < 2 := lt_of_lt_of_eq t.isLt N_0
  have e0 : win0_2.index t (0 : Fin 2) = t.val := congrFun (idx_out t) 0
  have e1 : win0_2.index t (1 : Fin 2) = 0 := congrFun (idx_out t) 1
  funext y
  obtain ⟨r, j, rfl⟩ : ∃ (r : Fin 512) (j : Fin 128), y = (ix2 r j : S512x128.Idx) := ⟨y 0, y 1, eq_ix2 (y : S512x128.Idx)⟩
  have hr := r.isLt
  have hj := j.isLt
  have he : (((cfg0.win 2).blk t).view.emb (ix2 r j : S512x128.Idx) : S1024x128.Idx)
      = ix2 ⟨t.val * 512 + r.val, by omega⟩ ⟨0 * 128 + j.val, by omega⟩ := by
    funext a; apply Fin.ext
    match a with
    | ⟨0, _⟩ => show win0_2.index t (0 : Fin 2) * 512 + 1 * r.val = t.val * 512 + r.val; omega
    | ⟨1, _⟩ => show win0_2.index t (1 : Fin 2) * 128 + 1 * j.val = 0 * 128 + j.val; omega
  refine Eq.trans ?_ (congrArg (prod (argX m c) (wide m c)) he).symm
  show k0_pay1 (iblk m c 0 t) (iblk m c 1 t) (ix2 r j) = _
  rw [pay_apply]
  exact entry_congr (fun k => blk_x m c t r k _ rfl) (fun k => blk_w m c t k j _ rfl)

/-- The array of results is the product with the widened weight. -/
theorem final_eq (c : Dev nD) : (dats m 0 c).arrAt 2 cfg0.N = prod (argX m c) (wide m c) :=
  (dats m 0 c).arrAt_eq_of_cover 2 _ (fun t _ => flushed_eq m c t) (fun i => by
    have h0 : (i 0).val < 1024 := (i 0).isLt
    have h1 : (i 1).val < 128 := (i 1).isLt
    let t : Fin cfg0.N := ⟨(i 0).val / 512, lt_of_lt_of_eq (by omega) N_0.symm⟩
    have hv : t.val = (i 0).val / 512 := rfl
    refine ⟨t, flush0_2 _, ?_⟩
    show i ∈ ((View.whole main_v2).slice (win0_2.rect t)).set
    rw [View.set_slice_whole, Rect.mem_set_unit]
    show ∀ a : Fin 2, win0_2.index t a * S512x128.size a ≤ (i a).val ∧ (i a).val < win0_2.index t a * S512x128.size a + S512x128.size a
    rw [idx_out]
    intro a
    match a with
    | ⟨0, _⟩ => show t.val * 512 ≤ (i 0).val ∧ (i 0).val < t.val * 512 + 512; omega
    | ⟨1, _⟩ => show 0 * 128 ≤ (i 1).val ∧ (i 1).val < 0 * 128 + 128; omega)

/-- The columns kept of the product with the widened weight are the product with the weight. -/
theorem kept_eq (c : Dev nD) :
    (extractStridedSlice S1024x32 ![0, 0] (prod (argX m c) (wide m c) : Vec Ideal S1024x128 .f32) slices_S1024x128_S1024x32_0_0 : Vec Ideal S1024x32 .f32)
      = prod (argX m c) (argW m c) := by
  funext q
  obtain ⟨r, j, rfl⟩ : ∃ (r : Fin 1024) (j : Fin 32), q = (ix2 r j : S1024x32.Idx) := ⟨q 0, q 1, eq_ix2 q⟩
  have hj := j.isLt
  rw [extractStridedSlice_apply _ _ _ _ (ix2 r ⟨j.val, by omega⟩ : S1024x128.Idx) (by
    intro a
    match a with
    | ⟨0, _⟩ => show r.val = 0 + r.val; omega
    | ⟨1, _⟩ => show j.val = 0 + j.val; omega)]
  exact entry_congr (fun _ => rfl) (fun k => wide_apply m c k j _ rfl)

/-- The run, with the array it returns. -/
theorem run_result : θ_run defs (onTc (τ := τ) (main (F := Ideal))) ⟨m, fun _ => 0, ρ⟩ fun r => ∀ c : Dev nD,
      r.2.mem ((c : Thread nD τ).loc main_v3) = prod (argX m c) (argW m c) :=
  (θ_run defs _ _).mono (fun r h c => by
    refine ((h c).2 main_v3 (Pipeline.mem_restRefs_of main_v3 (by decide) (by decide))).trans ?_
    refine Eq.trans ?_ (kept_eq m c)
    unfold Pipeline.afterTail₀
    show StableHlo.after hostOps1 _ _ = _
    after_results
    refine congrArg (fun X : Vec Ideal S1024x128 .f32 => (extractStridedSlice S1024x32 ![0, 0] X slices_S1024x128_S1024x32_0_0 : Vec Ideal S1024x32 .f32)) ?_
    exact (Pipeline.withArrays_arr spec0 launch0.win.arr_inj c _ _ 2).trans (final_eq m c)) (run_main m ρ)

/-- The reference's product. -/
theorem ref_eq (x : Vec Ideal S1024x1024 .f32) (w : Vec Ideal S1024x32 .f32) :
    (Host.dotGeneral (F := Ideal) (φ₁ := .f32) (φ₂ := .f32) Cert.Reference20Ideal.dot_S1024x1024_S1024x32_S1024x32_1_0_0_1_n_n none x w : Vec Ideal S1024x32 .f32)
      = prod x w := by
  funext q
  obtain ⟨r, j, rfl⟩ : ∃ (r : Fin 1024) (j : Fin 32), q = (ix2 r j : S1024x32.Idx) := ⟨q 0, q 1, eq_ix2 q⟩
  show _ = entry x w r j
  unfold entry
  pointwise

theorem algebraic : Cert.algebraic_Kernel20Ideal_Reference20Ideal (hKernel20Ideal := facts) (hReference20Ideal := Cert.Reference20Ideal.Gen.facts) := by
  intro m g m' g' _ hargs
  refine ⟨fun c => prod (argX m c) (argW m c), ?_, ?_⟩
  · exact (θ_run defs _ _).mono (fun r h c => ⟨h.1 c, h.2.1 c⟩) (θ_run_and (run_result m g) (frame m g))
  · refine (θ_run Cert.Reference20Ideal.defs _ _).mono (fun r h c => ⟨(h c).1.trans ?_, (h c).2⟩)
      (Cert.Reference20Ideal.Value.run (F := Ideal) m' g')
    rw [(hargs c).1, (hargs c).2]
    exact ref_eq (argX m c) (argW m c)

theorem reference : Cert.quiescent_Reference20Ideal (hReference20Ideal := Cert.Reference20Ideal.Gen.facts) :=
  fun m g _ => (θ_run Cert.Reference20Ideal.defs _ _).mono
    (fun r h => ⟨fun c => (h c).2, sem_eq_zero_of_no_sems (by decide) r.2⟩) (Cert.Reference20Ideal.Value.run (F := Ideal) m g)

end Cert.Kernel20Ideal.Mm

end
-- ==== Proof.Mm21.lean ====
/-
  The second of the two projections that go through 32 columns, of the sample group's tokens: the array the call ends with is the
  product of its arguments, and so is the reference's.
-/
module

public import proofs.«01_k».proof.Defs
public import proofs.«01_k».proof.Proof.Gen.Kernel21Ideal.Value
public import proofs.«01_k».proof.Proof.Gen.Reference21Ideal.Run
public import proofs.«01_k».proof.Proof.MmSpec
public import Idealize.ShloMosaic.Lib.StableHlo.RunRead
public import Idealize.ShloMosaic.Lib.Quiescent
public import Idealize.ShloMosaic.Lib.Pointwise

@[expose] public section

set_option maxRecDepth 16384

noncomputable section

namespace Cert.Kernel21Ideal.Mm

open Cert.Kernel21Ideal Cert.Kernel21Ideal.Gen Cert.Mm Idealize.ShloMosaic Idealize.ShloMosaic.TcCoe Idealize.SL.Sem
open Idealize.ShloMosaic.StableHlo

variable (m : (ℓ : Loc nD τ sig) → Buf (Elt Ideal) ℓ) (ρ : Dev nD → PrngReg)

/-- The call's two arguments. -/
def argX (c : Dev nD) : Vec Ideal S1024x32 .f32 := m ((c : Thread nD τ).loc main_arg0)
def argW (c : Dev nD) : Vec Ideal S32x1024 .f32 := m ((c : Thread nD τ).loc main_arg1)

/-- What the body computes is the product of the blocks it reads. -/
theorem pay_apply (x : Vec Ideal S512x32 .f32) (w : Vec Ideal S32x1024 .bf16) (r : Fin 512) (k : Fin 1024) :
    k0_pay1 x w (ix2 r k) = entry x w r k := by
  unfold entry
  pointwise [k0_pay1]

/-- The weight as the region finds it: rounding changes no real number. -/
theorem V_weight (c : Dev nD) : (V m c main_v0 : Vec Ideal S32x1024 .bf16) = argW m c := by
  show StableHlo.after hostOps0 _ _ = _
  after_results
  rfl

/-- The windows' block numbers at a point. -/
theorem idx_x : ∀ t : Fin cfg0.N, win0_0.index t = ![t.val, 0] :=
  (by decide +kernel : ∀ t : Fin grid0.N, win0_0.index t = ![t.val, 0])
theorem idx_w : ∀ t : Fin cfg0.N, win0_1.index t = ![0, 0] :=
  (by decide +kernel : ∀ t : Fin grid0.N, win0_1.index t = ![0, 0])
theorem idx_out : ∀ t : Fin cfg0.N, win0_2.index t = ![t.val, 0] :=
  (by decide +kernel : ∀ t : Fin grid0.N, win0_2.index t = ![t.val, 0])

/-- A point's block of `x`, from the array. -/
theorem blk_x (c : Dev nD) (t : Fin cfg0.N) (r : Fin 512) (k : Fin 32) (R : Fin 1024) (hR : R.val = t.val * 512 + r.val) :
    (iblk m c 0 t : Vec Ideal S512x32 .f32) (ix2 r k) = argX m c (ix2 R k) := by
  have e0 : win0_0.index t (0 : Fin 2) = t.val := congrFun (idx_x t) 0
  have e1 : win0_0.index t (1 : Fin 2) = 0 := congrFun (idx_x t) 1
  have he : (((cfg0.win 0).blk t).view.emb (ix2 r k : S512x32.Idx) : S1024x32.Idx) = ix2 R k := by
    funext a; apply Fin.ext
    match a with
    | ⟨0, _⟩ => show win0_0.index t (0 : Fin 2) * 512 + 1 * r.val = R.val; omega
    | ⟨1, _⟩ => show win0_0.index t (1 : Fin 2) * 32 + 1 * k.val = k.val; omega
  exact (congrArg (V m c main_arg0 : Vec Ideal S1024x32 .f32) he).trans (congrFun (V_main_arg0 m c) _)

/-- A point's block of `w` is all of it. -/
theorem blk_w (c : Dev nD) (t : Fin cfg0.N) (k : Fin 32) (j : Fin 1024) :
    (iblk m c 1 t : Vec Ideal S32x1024 .bf16) (ix2 k j) = argW m c (ix2 k j) := by
  have e0 : win0_1.index t (0 : Fin 2) = 0 := congrFun (idx_w t) 0
  have e1 : win0_1.index t (1 : Fin 2) = 0 := congrFun (idx_w t) 1
  have he : (((cfg0.win 1).blk t).view.emb (ix2 k j : S32x1024.Idx) : S32x1024.Idx) = ix2 k j := by
    funext a; apply Fin.ext
    match a with
    | ⟨0, _⟩ => show win0_1.index t (0 : Fin 2) * 32 + 1 * k.val = k.val; omega
    | ⟨1, _⟩ => show win0_1.index t (1 : Fin 2) * 1024 + 1 * j.val = j.val; omega
  exact (congrArg (V m c main_v0 : Vec Ideal S32x1024 .bf16) he).trans (congrFun (V_weight m c) _)

/-- What a point writes back is its block of the product. -/
theorem flushed_eq (c : Dev nD) (t : Fin cfg0.N) :
    (dats m 0 c).flushed 2 t = ((cfg0.win 2).blk t).view.read (Elt Ideal) (prod (argX m c) (argW m c)) := by
  rw [Value.flushed2]
  unfold out0_2
  rw [View.canon_unit_zero (by decide), View.ld_unit_zero (by decide), View.ld_unit_zero (by decide)]
  have ht : t.val < 2 := lt_of_lt_of_eq t.isLt N_0
  have e0 : win0_2.index t (0 : Fin 2) = t.val := congrFun (idx_out t) 0
  have e1 : win0_2.index t (1 : Fin 2) = 0 := congrFun (idx_out t) 1
  funext y
  obtain ⟨r, j, rfl⟩ : ∃ (r : Fin 512) (j : Fin 1024), y = (ix2 r j : S512x1024.Idx) := ⟨y 0, y 1, eq_ix2 (y : S512x1024.Idx)⟩
  have hr := r.isLt
  have he : (((cfg0.win 2).blk t).view.emb (ix2 r j : S512x1024.Idx) : S1024x1024.Idx) = ix2 ⟨t.val * 512 + r.val, by omega⟩ j := by
    funext a; apply Fin.ext
    match a with
    | ⟨0, _⟩ => show win0_2.index t (0 : Fin 2) * 512 + 1 * r.val = t.val * 512 + r.val; omega
    | ⟨1, _⟩ => show win0_2.index t (1 : Fin 2) * 1024 + 1 * j.val = j.val; omega
  refine Eq.trans ?_ (congrArg (prod (argX m c) (argW m c)) he).symm
  show k0_pay1 (iblk m c 0 t) (iblk m c 1 t) (ix2 r j) = _
  rw [pay_apply]
  exact entry_congr (fun k => blk_x m c t r k _ rfl) (fun k => blk_w m c t k j)

/-- The array of results is the product. -/
theorem final_eq (c : Dev nD) : (dats m 0 c).arrAt 2 cfg0.N = prod (argX m c) (argW m c) :=
  (dats m 0 c).arrAt_eq_of_cover 2 _ (fun t _ => flushed_eq m c t) (fun i => by
    have h0 : (i 0).val < 1024 := (i 0).isLt
    have h1 : (i 1).val < 1024 := (i 1).isLt
    let t : Fin cfg0.N := ⟨(i 0).val / 512, lt_of_lt_of_eq (by omega) N_0.symm⟩
    have hv : t.val = (i 0).val / 512 := rfl
    refine ⟨t, flush0_2 _, ?_⟩
    show i ∈ ((View.whole main_v1).slice (win0_2.rect t)).set
    rw [View.set_slice_whole, Rect.mem_set_unit]
    show ∀ a : Fin 2, win0_2.index t a * S512x1024.size a ≤ (i a).val ∧ (i a).val < win0_2.index t a * S512x1024.size a + S512x1024.size a
    rw [idx_out]
    intro a
    match a with
    | ⟨0, _⟩ => show t.val * 512 ≤ (i 0).val ∧ (i 0).val < t.val * 512 + 512; omega
    | ⟨1, _⟩ => show 0 * 1024 ≤ (i 1).val ∧ (i 1).val < 0 * 1024 + 1024; omega)

/-- The reference's product. -/
theorem ref_eq (x : Vec Ideal S1024x32 .f32) (w : Vec Ideal S32x1024 .f32) :
    (Host.dotGeneral (F := Ideal) (φ₁ := .f32) (φ₂ := .f32) Cert.Reference21Ideal.dot_S1024x32_S32x1024_S1024x1024_1_0_0_1_n_n none x w : Vec Ideal S1024x1024 .f32)
      = prod x w := by
  funext q
  obtain ⟨r, j, rfl⟩ : ∃ (r : Fin 1024) (j : Fin 1024), q = (ix2 r j : S1024x1024.Idx) := ⟨q 0, q 1, eq_ix2 q⟩
  show _ = entry x w r j
  unfold entry
  pointwise

theorem algebraic : Cert.algebraic_Kernel21Ideal_Reference21Ideal (hKernel21Ideal := facts) (hReference21Ideal := Cert.Reference21Ideal.Gen.facts) := by
  intro m g m' g' _ hargs
  refine ⟨fun c => prod (argX m c) (argW m c), ?_, ?_⟩
  · exact (θ_run defs _ _).mono (fun r h c => ⟨(h c).1.trans (final_eq m c), (h c).2⟩) (Value.run_blocks m g)
  · refine (θ_run Cert.Reference21Ideal.defs _ _).mono (fun r h c => ⟨(h c).1.trans ?_, (h c).2⟩)
      (Cert.Reference21Ideal.Value.run (F := Ideal) m' g')
    rw [(hargs c).1, (hargs c).2]
    exact ref_eq (argX m c) (argW m c)

theorem reference : Cert.quiescent_Reference21Ideal (hReference21Ideal := Cert.Reference21Ideal.Gen.facts) :=
  fun m g _ => (θ_run Cert.Reference21Ideal.defs _ _).mono
    (fun r h => ⟨fun c => (h c).2, sem_eq_zero_of_no_sems (by decide) r.2⟩) (Cert.Reference21Ideal.Value.run (F := Ideal) m g)

end Cert.Kernel21Ideal.Mm

end
-- ==== Proof.lean ====
/-
  The proof of `Cert.Claim`: the claims about the recurrence, about the projections of the prompt and of the sample group,
  about the attention, about the rows that an even layer caches and about an odd layer's projection, put together.
-/
module

public import proofs.«01_k».proof.Defs
public import proofs.«01_k».proof.Proof.WkvClaims
public import proofs.«01_k».proof.Proof.Gen.Kernel2.Frame
public import proofs.«01_k».proof.Proof.Mm2
public import proofs.«01_k».proof.Proof.Gen.Kernel3.Frame
public import proofs.«01_k».proof.Proof.Mm3
public import proofs.«01_k».proof.Proof.Gen.Kernel4.Frame
public import proofs.«01_k».proof.Proof.Mm4
public import proofs.«01_k».proof.Proof.FoxClaims
public import proofs.«01_k».proof.Proof.Gen.Kernel6.Frame
public import proofs.«01_k».proof.Proof.Even6
public import proofs.«01_k».proof.Proof.Gen.Kernel7.Frame
public import proofs.«01_k».proof.Proof.Even7
public import proofs.«01_k».proof.Proof.Wkv8Claims
public import proofs.«01_k».proof.Proof.Gen.Kernel9.Frame
public import proofs.«01_k».proof.Proof.Odd9
public import proofs.«01_k».proof.Proof.Gen.Kernel10.Frame
public import proofs.«01_k».proof.Proof.Odd10
public import proofs.«01_k».proof.Proof.Gen.Kernel11.Frame
public import proofs.«01_k».proof.Proof.Mm11
public import proofs.«01_k».proof.Proof.Gen.Kernel12.Frame
public import proofs.«01_k».proof.Proof.Mm12
public import proofs.«01_k».proof.Proof.Gen.Kernel13.Frame
public import proofs.«01_k».proof.Proof.Mm13
public import proofs.«01_k».proof.Proof.Gen.Kernel14.Frame
public import proofs.«01_k».proof.Proof.Mm14
public import proofs.«01_k».proof.Proof.Gen.Kernel15.Frame
public import proofs.«01_k».proof.Proof.Mm15
public import proofs.«01_k».proof.Proof.Gen.Kernel16.Frame
public import proofs.«01_k».proof.Proof.Mm16
public import proofs.«01_k».proof.Proof.Gen.Kernel17.Frame
public import proofs.«01_k».proof.Proof.Mm17
public import proofs.«01_k».proof.Proof.Gen.Kernel18.Frame
public import proofs.«01_k».proof.Proof.Mm18
public import proofs.«01_k».proof.Proof.Gen.Kernel19.Frame
public import proofs.«01_k».proof.Proof.Mm19
public import proofs.«01_k».proof.Proof.Gen.Kernel20.Frame
public import proofs.«01_k».proof.Proof.Mm20
public import proofs.«01_k».proof.Proof.Gen.Kernel21.Frame
public import proofs.«01_k».proof.Proof.Mm21

@[expose] public section

noncomputable section

namespace Cert.Proof

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts, Cert.Fox.tablesFacts, Cert.Fox.finiteFacts,
  Cert.WkvClaims.kernel, Cert.WkvClaims.kernelIdeal, Cert.WkvClaims.referenceIdeal,
  fun m g _ => Cert.Kernel2.Gen.frame m g, fun m g _ => Cert.Kernel2Ideal.Gen.frame m g, Cert.Kernel2Ideal.Mm.reference,
  fun m g _ => Cert.Kernel3.Gen.frame m g, fun m g _ => Cert.Kernel3Ideal.Gen.frame m g, Cert.Kernel3Ideal.Mm.reference,
  fun m g _ => Cert.Kernel4.Gen.frame m g, fun m g _ => Cert.Kernel4Ideal.Gen.frame m g, Cert.Kernel4Ideal.Mm.reference,
  Cert.FoxClaims.kernel, Cert.FoxClaims.kernelIdeal, Cert.FoxClaims.kernelIdealFinite,
  Cert.FoxClaims.reference, Cert.FoxClaims.referenceFinite,
  fun m g _ => Cert.Kernel6.Gen.frame m g, fun m g _ => Cert.Kernel6Ideal.Gen.frame m g, Cert.Kernel6Ideal.Even.reference,
  fun m g _ => Cert.Kernel7.Gen.frame m g, fun m g _ => Cert.Kernel7Ideal.Gen.frame m g, Cert.Kernel7Ideal.Even.reference,
  Cert.Wkv8Claims.kernel, Cert.Wkv8Claims.kernelIdeal, Cert.Wkv8Claims.referenceIdeal,
  fun m g _ => Cert.Kernel9.Gen.frame m g, fun m g _ => Cert.Kernel9Ideal.Gen.frame m g, Cert.Kernel9Ideal.Odd.reference,
  fun m g _ => Cert.Kernel10.Gen.frame m g, fun m g _ => Cert.Kernel10Ideal.Gen.frame m g, Cert.Kernel10Ideal.Odd.reference,
  fun m g _ => Cert.Kernel11.Gen.frame m g, fun m g _ => Cert.Kernel11Ideal.Gen.frame m g, Cert.Kernel11Ideal.Mm.reference,
  fun m g _ => Cert.Kernel12.Gen.frame m g, fun m g _ => Cert.Kernel12Ideal.Gen.frame m g, Cert.Kernel12Ideal.Mm.reference,
  fun m g _ => Cert.Kernel13.Gen.frame m g, fun m g _ => Cert.Kernel13Ideal.Gen.frame m g, Cert.Kernel13Ideal.Mm.reference,
  fun m g _ => Cert.Kernel14.Gen.frame m g, fun m g _ => Cert.Kernel14Ideal.Gen.frame m g, Cert.Kernel14Ideal.Mm.reference,
  fun m g _ => Cert.Kernel15.Gen.frame m g, fun m g _ => Cert.Kernel15Ideal.Gen.frame m g, Cert.Kernel15Ideal.Mm.reference,
  fun m g _ => Cert.Kernel16.Gen.frame m g, fun m g _ => Cert.Kernel16Ideal.Gen.frame m g, Cert.Kernel16Ideal.Mm.reference,
  fun m g _ => Cert.Kernel17.Gen.frame m g, fun m g _ => Cert.Kernel17Ideal.Gen.frame m g, Cert.Kernel17Ideal.Mm.reference,
  fun m g _ => Cert.Kernel18.Gen.frame m g, fun m g _ => Cert.Kernel18Ideal.Gen.frame m g, Cert.Kernel18Ideal.Mm.reference,
  fun m g _ => Cert.Kernel19.Gen.frame m g, fun m g _ => Cert.Kernel19Ideal.Gen.frame m g, Cert.Kernel19Ideal.Mm.reference,
  fun m g _ => Cert.Kernel20.Gen.frame m g, fun m g _ => Cert.Kernel20Ideal.Gen.frame m g, Cert.Kernel20Ideal.Mm.reference,
  fun m g _ => Cert.Kernel21.Gen.frame m g, fun m g _ => Cert.Kernel21Ideal.Gen.frame m g, Cert.Kernel21Ideal.Mm.reference,
  trivial, Cert.WkvClaims.algebraic, trivial, Cert.Kernel2Ideal.Mm.algebraic,
  trivial, Cert.Kernel3Ideal.Mm.algebraic, trivial, Cert.Kernel4Ideal.Mm.algebraic,
  Cert.FoxClaims.named, Cert.FoxClaims.algebraic,
  trivial, Cert.Kernel6Ideal.Even.algebraic, trivial, Cert.Kernel7Ideal.Even.algebraic,
  trivial, Cert.Wkv8Claims.algebraic, trivial, Cert.Kernel9Ideal.Odd.algebraic, trivial, Cert.Kernel10Ideal.Odd.algebraic,
  trivial, Cert.Kernel11Ideal.Mm.algebraic, trivial, Cert.Kernel12Ideal.Mm.algebraic, trivial, Cert.Kernel13Ideal.Mm.algebraic,
  trivial, Cert.Kernel14Ideal.Mm.algebraic, trivial, Cert.Kernel15Ideal.Mm.algebraic,
  trivial, Cert.Kernel16Ideal.Mm.algebraic, trivial, Cert.Kernel17Ideal.Mm.algebraic,
  trivial, Cert.Kernel18Ideal.Mm.algebraic, trivial, Cert.Kernel19Ideal.Mm.algebraic,
  trivial, Cert.Kernel20Ideal.Mm.algebraic, trivial, Cert.Kernel21Ideal.Mm.algebraic⟩

end Cert.Proof

end
